-- ==== Defs.lean ====
def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mix1 (m : (ℓ : Loc Cert.Mix1.nD Cert.Mix1.τ Cert.Mix1.sig) → Buf (Elt Bits) ℓ) : Prop :=
  True

def Pre_Mix1Ideal (m : (ℓ : Loc Cert.Mix1Ideal.nD Cert.Mix1Ideal.τ Cert.Mix1Ideal.sig) → Buf (Elt Ideal) ℓ) : Prop :=
  True

def Pre_Mix1Ideal_mix1_finite [hPre_mix1_finite : Cert.Pre_mix1_finite.Facts] (m : (ℓ : Loc Cert.Mix1Ideal.nD Cert.Mix1Ideal.τ Cert.Mix1Ideal.sig) → Buf (Elt Ideal) ℓ) : Prop :=
  ∀ c : Dev Cert.Mix1Ideal.nD,
    (Cert.Pre_mix1_finite.fn (F := Ideal) (m ((c.tc : Thread Cert.Mix1Ideal.nD Cert.Mix1Ideal.τ).loc Cert.Mix1Ideal.main_arg0)) (m ((c.tc : Thread Cert.Mix1Ideal.nD Cert.Mix1Ideal.τ).loc Cert.Mix1Ideal.main_arg1)) (m ((c.tc : Thread Cert.Mix1Ideal.nD Cert.Mix1Ideal.τ).loc Cert.Mix1Ideal.main_arg2)) (m ((c.tc : Thread Cert.Mix1Ideal.nD Cert.Mix1Ideal.τ).loc Cert.Mix1Ideal.main_arg3)) (m ((c.tc : Thread Cert.Mix1Ideal.nD Cert.Mix1Ideal.τ).loc Cert.Mix1Ideal.main_arg4)) (m ((c.tc : Thread Cert.Mix1Ideal.nD Cert.Mix1Ideal.τ).loc Cert.Mix1Ideal.main_arg5)) (m ((c.tc : Thread Cert.Mix1Ideal.nD Cert.Mix1Ideal.τ).loc Cert.Mix1Ideal.main_arg6)) (m ((c.tc : Thread Cert.Mix1Ideal.nD Cert.Mix1Ideal.τ).loc Cert.Mix1Ideal.main_arg7))) = (fun _ => 1#1)

def Pre_Mix1RefIdeal (m : (ℓ : Loc Cert.Mix1RefIdeal.nD Cert.Mix1RefIdeal.τ Cert.Mix1RefIdeal.sig) → Buf (Elt Ideal) ℓ) : Prop :=
  True

def Pre_Mix1RefIdeal_mix1_finite [hPre_mix1_finite : Cert.Pre_mix1_finite.Facts] (m : (ℓ : Loc Cert.Mix1RefIdeal.nD Cert.Mix1RefIdeal.τ Cert.Mix1RefIdeal.sig) → Buf (Elt Ideal) ℓ) : Prop :=
  ∀ c : Dev Cert.Mix1RefIdeal.nD,
    (Cert.Pre_mix1_finite.fn (F := Ideal) (m ((c.tc : Thread Cert.Mix1RefIdeal.nD Cert.Mix1RefIdeal.τ).loc Cert.Mix1RefIdeal.main_arg0)) (m ((c.tc : Thread Cert.Mix1RefIdeal.nD Cert.Mix1RefIdeal.τ).loc Cert.Mix1RefIdeal.main_arg1)) (m ((c.tc : Thread Cert.Mix1RefIdeal.nD Cert.Mix1RefIdeal.τ).loc Cert.Mix1RefIdeal.main_arg2)) (m ((c.tc : Thread Cert.Mix1RefIdeal.nD Cert.Mix1RefIdeal.τ).loc Cert.Mix1RefIdeal.main_arg3)) (m ((c.tc : Thread Cert.Mix1RefIdeal.nD Cert.Mix1RefIdeal.τ).loc Cert.Mix1RefIdeal.main_arg4)) (m ((c.tc : Thread Cert.Mix1RefIdeal.nD Cert.Mix1RefIdeal.τ).loc Cert.Mix1RefIdeal.main_arg5)) (m ((c.tc : Thread Cert.Mix1RefIdeal.nD Cert.Mix1RefIdeal.τ).loc Cert.Mix1RefIdeal.main_arg6)) (m ((c.tc : Thread Cert.Mix1RefIdeal.nD Cert.Mix1RefIdeal.τ).loc Cert.Mix1RefIdeal.main_arg7))) = (fun _ => 1#1)

def Pre_Mix2 (m : (ℓ : Loc Cert.Mix2.nD Cert.Mix2.τ Cert.Mix2.sig) → Buf (Elt Bits) ℓ) : Prop :=
  True

def Pre_Mix2Ideal (m : (ℓ : Loc Cert.Mix2Ideal.nD Cert.Mix2Ideal.τ Cert.Mix2Ideal.sig) → Buf (Elt Ideal) ℓ) : Prop :=
  True

def Pre_Mix2RefIdeal (m : (ℓ : Loc Cert.Mix2RefIdeal.nD Cert.Mix2RefIdeal.τ Cert.Mix2RefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Mix1 [hMix1 : Cert.Mix1.Facts] : Prop :=
  ∀ (m : (ℓ : Loc Cert.Mix1.nD Cert.Mix1.τ Cert.Mix1.sig) → Buf (Elt Bits) ℓ) (g : Dev Cert.Mix1.nD → PrngReg), Pre_Mix1 m →
    θ_run (Cert.Mix1.defs (F := Bits)) (onTc (τ := Cert.Mix1.τ) (Cert.Mix1.main (F := Bits))) ⟨m, fun _ => 0, g⟩ (fun r => (∀ c : Dev Cert.Mix1.nD,
      r.2.mem ((c.tc : Thread Cert.Mix1.nD Cert.Mix1.τ).loc Cert.Mix1.main_arg0) = m ((c.tc : Thread Cert.Mix1.nD Cert.Mix1.τ).loc Cert.Mix1.main_arg0)
      ∧ r.2.mem ((c.tc : Thread Cert.Mix1.nD Cert.Mix1.τ).loc Cert.Mix1.main_arg1) = m ((c.tc : Thread Cert.Mix1.nD Cert.Mix1.τ).loc Cert.Mix1.main_arg1)
      ∧ r.2.mem ((c.tc : Thread Cert.Mix1.nD Cert.Mix1.τ).loc Cert.Mix1.main_arg2) = m ((c.tc : Thread Cert.Mix1.nD Cert.Mix1.τ).loc Cert.Mix1.main_arg2)
      ∧ r.2.mem ((c.tc : Thread Cert.Mix1.nD Cert.Mix1.τ).loc Cert.Mix1.main_arg3) = m ((c.tc : Thread Cert.Mix1.nD Cert.Mix1.τ).loc Cert.Mix1.main_arg3)
      ∧ r.2.mem ((c.tc : Thread Cert.Mix1.nD Cert.Mix1.τ).loc Cert.Mix1.main_arg4) = m ((c.tc : Thread Cert.Mix1.nD Cert.Mix1.τ).loc Cert.Mix1.main_arg4)
      ∧ r.2.mem ((c.tc : Thread Cert.Mix1.nD Cert.Mix1.τ).loc Cert.Mix1.main_arg5) = m ((c.tc : Thread Cert.Mix1.nD Cert.Mix1.τ).loc Cert.Mix1.main_arg5)
      ∧ r.2.mem ((c.tc : Thread Cert.Mix1.nD Cert.Mix1.τ).loc Cert.Mix1.main_arg6) = m ((c.tc : Thread Cert.Mix1.nD Cert.Mix1.τ).loc Cert.Mix1.main_arg6)
      ∧ r.2.mem ((c.tc : Thread Cert.Mix1.nD Cert.Mix1.τ).loc Cert.Mix1.main_arg7) = m ((c.tc : Thread Cert.Mix1.nD Cert.Mix1.τ).loc Cert.Mix1.main_arg7))
      ∧ r.2.sem = fun _ => 0)

def quiescent_Mix1Ideal [hMix1Ideal : Cert.Mix1Ideal.Facts] : Prop :=
  ∀ (m : (ℓ : Loc Cert.Mix1Ideal.nD Cert.Mix1Ideal.τ Cert.Mix1Ideal.sig) → Buf (Elt Ideal) ℓ) (g : Dev Cert.Mix1Ideal.nD → PrngReg), Pre_Mix1Ideal m →
    θ_run (Cert.Mix1Ideal.defs (F := Ideal)) (onTc (τ := Cert.Mix1Ideal.τ) (Cert.Mix1Ideal.main (F := Ideal))) ⟨m, fun _ => 0, g⟩ (fun r => (∀ c : Dev Cert.Mix1Ideal.nD,
      r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
      ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
      ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
      ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
      ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
      ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
      ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
      ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ r.2.sem = fun _ => 0)

def quiescent_Mix1Ideal_pre_mix1_finite [hMix1Ideal : Cert.Mix1Ideal.Facts] [hPre_mix1_finite : Cert.Pre_mix1_finite.Facts] : Prop :=
  ∀ (m : (ℓ : Loc Cert.Mix1Ideal.nD Cert.Mix1Ideal.τ Cert.Mix1Ideal.sig) → Buf (Elt Ideal) ℓ) (g : Dev Cert.Mix1Ideal.nD → PrngReg), Pre_Mix1Ideal_mix1_finite m →
    θ_run (Cert.Mix1Ideal.defs (F := Ideal)) (onTc (τ := Cert.Mix1Ideal.τ) (Cert.Mix1Ideal.main (F := Ideal))) ⟨m, fun _ => 0, g⟩ (fun r => (∀ c : Dev Cert.Mix1Ideal.nD,
      r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
      ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
      ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
      ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
      ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
      ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
      ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
      ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ r.2.sem = fun _ => 0)

def quiescent_Mix1RefIdeal [hMix1RefIdeal : Cert.Mix1RefIdeal.Facts] : Prop :=
  ∀ (m : (ℓ : Loc Cert.Mix1RefIdeal.nD Cert.Mix1RefIdeal.τ Cert.Mix1RefIdeal.sig) → Buf (Elt Ideal) ℓ) (g : Dev Cert.Mix1RefIdeal.nD → PrngReg), Pre_Mix1RefIdeal m →
    θ_run (Cert.Mix1RefIdeal.defs (F := Ideal)) (onTc (τ := Cert.Mix1RefIdeal.τ) (Cert.Mix1RefIdeal.main (F := Ideal))) ⟨m, fun _ => 0, g⟩ (fun r => (∀ c : Dev Cert.Mix1RefIdeal.nD,
      r.2.mem ((c.tc : Thread Cert.Mix1RefIdeal.nD Cert.Mix1RefIdeal.τ).loc Cert.Mix1RefIdeal.main_arg0) = m ((c.tc : Thread Cert.Mix1RefIdeal.nD Cert.Mix1RefIdeal.τ).loc Cert.Mix1RefIdeal.main_arg0)
      ∧ r.2.mem ((c.tc : Thread Cert.Mix1RefIdeal.nD Cert.Mix1RefIdeal.τ).loc Cert.Mix1RefIdeal.main_arg1) = m ((c.tc : Thread Cert.Mix1RefIdeal.nD Cert.Mix1RefIdeal.τ).loc Cert.Mix1RefIdeal.main_arg1)
      ∧ r.2.mem ((c.tc : Thread Cert.Mix1RefIdeal.nD Cert.Mix1RefIdeal.τ).loc Cert.Mix1RefIdeal.main_arg2) = m ((c.tc : Thread Cert.Mix1RefIdeal.nD Cert.Mix1RefIdeal.τ).loc Cert.Mix1RefIdeal.main_arg2)
      ∧ r.2.mem ((c.tc : Thread Cert.Mix1RefIdeal.nD Cert.Mix1RefIdeal.τ).loc Cert.Mix1RefIdeal.main_arg3) = m ((c.tc : Thread Cert.Mix1RefIdeal.nD Cert.Mix1RefIdeal.τ).loc Cert.Mix1RefIdeal.main_arg3)
      ∧ r.2.mem ((c.tc : Thread Cert.Mix1RefIdeal.nD Cert.Mix1RefIdeal.τ).loc Cert.Mix1RefIdeal.main_arg4) = m ((c.tc : Thread Cert.Mix1RefIdeal.nD Cert.Mix1RefIdeal.τ).loc Cert.Mix1RefIdeal.main_arg4)
      ∧ r.2.mem ((c.tc : Thread Cert.Mix1RefIdeal.nD Cert.Mix1RefIdeal.τ).loc Cert.Mix1RefIdeal.main_arg5) = m ((c.tc : Thread Cert.Mix1RefIdeal.nD Cert.Mix1RefIdeal.τ).loc Cert.Mix1RefIdeal.main_arg5)
      ∧ r.2.mem ((c.tc : Thread Cert.Mix1RefIdeal.nD Cert.Mix1RefIdeal.τ).loc Cert.Mix1RefIdeal.main_arg6) = m ((c.tc : Thread Cert.Mix1RefIdeal.nD Cert.Mix1RefIdeal.τ).loc Cert.Mix1RefIdeal.main_arg6)
      ∧ r.2.mem ((c.tc : Thread Cert.Mix1RefIdeal.nD Cert.Mix1RefIdeal.τ).loc Cert.Mix1RefIdeal.main_arg7) = m ((c.tc : Thread Cert.Mix1RefIdeal.nD Cert.Mix1RefIdeal.τ).loc Cert.Mix1RefIdeal.main_arg7))
      ∧ r.2.sem = fun _ => 0)

def quiescent_Mix1RefIdeal_pre_mix1_finite [hMix1RefIdeal : Cert.Mix1RefIdeal.Facts] [hPre_mix1_finite : Cert.Pre_mix1_finite.Facts] : Prop :=
  ∀ (m : (ℓ : Loc Cert.Mix1RefIdeal.nD Cert.Mix1RefIdeal.τ Cert.Mix1RefIdeal.sig) → Buf (Elt Ideal) ℓ) (g : Dev Cert.Mix1RefIdeal.nD → PrngReg), Pre_Mix1RefIdeal_mix1_finite m →
    θ_run (Cert.Mix1RefIdeal.defs (F := Ideal)) (onTc (τ := Cert.Mix1RefIdeal.τ) (Cert.Mix1RefIdeal.main (F := Ideal))) ⟨m, fun _ => 0, g⟩ (fun r => (∀ c : Dev Cert.Mix1RefIdeal.nD,
      r.2.mem ((c.tc : Thread Cert.Mix1RefIdeal.nD Cert.Mix1RefIdeal.τ).loc Cert.Mix1RefIdeal.main_arg0) = m ((c.tc : Thread Cert.Mix1RefIdeal.nD Cert.Mix1RefIdeal.τ).loc Cert.Mix1RefIdeal.main_arg0)
      ∧ r.2.mem ((c.tc : Thread Cert.Mix1RefIdeal.nD Cert.Mix1RefIdeal.τ).loc Cert.Mix1RefIdeal.main_arg1) = m ((c.tc : Thread Cert.Mix1RefIdeal.nD Cert.Mix1RefIdeal.τ).loc Cert.Mix1RefIdeal.main_arg1)
      ∧ r.2.mem ((c.tc : Thread Cert.Mix1RefIdeal.nD Cert.Mix1RefIdeal.τ).loc Cert.Mix1RefIdeal.main_arg2) = m ((c.tc : Thread Cert.Mix1RefIdeal.nD Cert.Mix1RefIdeal.τ).loc Cert.Mix1RefIdeal.main_arg2)
      ∧ r.2.mem ((c.tc : Thread Cert.Mix1RefIdeal.nD Cert.Mix1RefIdeal.τ).loc Cert.Mix1RefIdeal.main_arg3) = m ((c.tc : Thread Cert.Mix1RefIdeal.nD Cert.Mix1RefIdeal.τ).loc Cert.Mix1RefIdeal.main_arg3)
      ∧ r.2.mem ((c.tc : Thread Cert.Mix1RefIdeal.nD Cert.Mix1RefIdeal.τ).loc Cert.Mix1RefIdeal.main_arg4) = m ((c.tc : Thread Cert.Mix1RefIdeal.nD Cert.Mix1RefIdeal.τ).loc Cert.Mix1RefIdeal.main_arg4)
      ∧ r.2.mem ((c.tc : Thread Cert.Mix1RefIdeal.nD Cert.Mix1RefIdeal.τ).loc Cert.Mix1RefIdeal.main_arg5) = m ((c.tc : Thread Cert.Mix1RefIdeal.nD Cert.Mix1RefIdeal.τ).loc Cert.Mix1RefIdeal.main_arg5)
      ∧ r.2.mem ((c.tc : Thread Cert.Mix1RefIdeal.nD Cert.Mix1RefIdeal.τ).loc Cert.Mix1RefIdeal.main_arg6) = m ((c.tc : Thread Cert.Mix1RefIdeal.nD Cert.Mix1RefIdeal.τ).loc Cert.Mix1RefIdeal.main_arg6)
      ∧ r.2.mem ((c.tc : Thread Cert.Mix1RefIdeal.nD Cert.Mix1RefIdeal.τ).loc Cert.Mix1RefIdeal.main_arg7) = m ((c.tc : Thread Cert.Mix1RefIdeal.nD Cert.Mix1RefIdeal.τ).loc Cert.Mix1RefIdeal.main_arg7))
      ∧ r.2.sem = fun _ => 0)

def quiescent_Mix2 [hMix2 : Cert.Mix2.Facts] : Prop :=
  ∀ (m : (ℓ : Loc Cert.Mix2.nD Cert.Mix2.τ Cert.Mix2.sig) → Buf (Elt Bits) ℓ) (g : Dev Cert.Mix2.nD → PrngReg), Pre_Mix2 m →
    θ_run (Cert.Mix2.defs (F := Bits)) (onTc (τ := Cert.Mix2.τ) (Cert.Mix2.main (F := Bits))) ⟨m, fun _ => 0, g⟩ (fun r => (∀ c : Dev Cert.Mix2.nD,
      r.2.mem ((c.tc : Thread Cert.Mix2.nD Cert.Mix2.τ).loc Cert.Mix2.main_arg0) = m ((c.tc : Thread Cert.Mix2.nD Cert.Mix2.τ).loc Cert.Mix2.main_arg0)
      ∧ r.2.mem ((c.tc : Thread Cert.Mix2.nD Cert.Mix2.τ).loc Cert.Mix2.main_arg1) = m ((c.tc : Thread Cert.Mix2.nD Cert.Mix2.τ).loc Cert.Mix2.main_arg1)
      ∧ r.2.mem ((c.tc : Thread Cert.Mix2.nD Cert.Mix2.τ).loc Cert.Mix2.main_arg2) = m ((c.tc : Thread Cert.Mix2.nD Cert.Mix2.τ).loc Cert.Mix2.main_arg2)
      ∧ r.2.mem ((c.tc : Thread Cert.Mix2.nD Cert.Mix2.τ).loc Cert.Mix2.main_arg3) = m ((c.tc : Thread Cert.Mix2.nD Cert.Mix2.τ).loc Cert.Mix2.main_arg3)
      ∧ r.2.mem ((c.tc : Thread Cert.Mix2.nD Cert.Mix2.τ).loc Cert.Mix2.main_arg4) = m ((c.tc : Thread Cert.Mix2.nD Cert.Mix2.τ).loc Cert.Mix2.main_arg4)
      ∧ r.2.mem ((c.tc : Thread Cert.Mix2.nD Cert.Mix2.τ).loc Cert.Mix2.main_arg5) = m ((c.tc : Thread Cert.Mix2.nD Cert.Mix2.τ).loc Cert.Mix2.main_arg5)
      ∧ r.2.mem ((c.tc : Thread Cert.Mix2.nD Cert.Mix2.τ).loc Cert.Mix2.main_arg6) = m ((c.tc : Thread Cert.Mix2.nD Cert.Mix2.τ).loc Cert.Mix2.main_arg6)
      ∧ r.2.mem ((c.tc : Thread Cert.Mix2.nD Cert.Mix2.τ).loc Cert.Mix2.main_arg7) = m ((c.tc : Thread Cert.Mix2.nD Cert.Mix2.τ).loc Cert.Mix2.main_arg7)
      ∧ r.2.mem ((c.tc : Thread Cert.Mix2.nD Cert.Mix2.τ).loc Cert.Mix2.main_arg8) = m ((c.tc : Thread Cert.Mix2.nD Cert.Mix2.τ).loc Cert.Mix2.main_arg8)
      ∧ r.2.mem ((c.tc : Thread Cert.Mix2.nD Cert.Mix2.τ).loc Cert.Mix2.main_arg9) = m ((c.tc : Thread Cert.Mix2.nD Cert.Mix2.τ).loc Cert.Mix2.main_arg9)
      ∧ r.2.mem ((c.tc : Thread Cert.Mix2.nD Cert.Mix2.τ).loc Cert.Mix2.main_arg10) = m ((c.tc : Thread Cert.Mix2.nD Cert.Mix2.τ).loc Cert.Mix2.main_arg10)
      ∧ r.2.mem ((c.tc : Thread Cert.Mix2.nD Cert.Mix2.τ).loc Cert.Mix2.main_arg11) = m ((c.tc : Thread Cert.Mix2.nD Cert.Mix2.τ).loc Cert.Mix2.main_arg11)
      ∧ r.2.mem ((c.tc : Thread Cert.Mix2.nD Cert.Mix2.τ).loc Cert.Mix2.main_arg12) = m ((c.tc : Thread Cert.Mix2.nD Cert.Mix2.τ).loc Cert.Mix2.main_arg12)
      ∧ r.2.mem ((c.tc : Thread Cert.Mix2.nD Cert.Mix2.τ).loc Cert.Mix2.main_arg13) = m ((c.tc : Thread Cert.Mix2.nD Cert.Mix2.τ).loc Cert.Mix2.main_arg13)
      ∧ r.2.mem ((c.tc : Thread Cert.Mix2.nD Cert.Mix2.τ).loc Cert.Mix2.main_arg14) = m ((c.tc : Thread Cert.Mix2.nD Cert.Mix2.τ).loc Cert.Mix2.main_arg14)
      ∧ r.2.mem ((c.tc : Thread Cert.Mix2.nD Cert.Mix2.τ).loc Cert.Mix2.main_arg15) = m ((c.tc : Thread Cert.Mix2.nD Cert.Mix2.τ).loc Cert.Mix2.main_arg15)
      ∧ r.2.mem ((c.tc : Thread Cert.Mix2.nD Cert.Mix2.τ).loc Cert.Mix2.main_arg16) = m ((c.tc : Thread Cert.Mix2.nD Cert.Mix2.τ).loc Cert.Mix2.main_arg16)
      ∧ r.2.mem ((c.tc : Thread Cert.Mix2.nD Cert.Mix2.τ).loc Cert.Mix2.main_arg17) = m ((c.tc : Thread Cert.Mix2.nD Cert.Mix2.τ).loc Cert.Mix2.main_arg17)
      ∧ r.2.mem ((c.tc : Thread Cert.Mix2.nD Cert.Mix2.τ).loc Cert.Mix2.main_arg18) = m ((c.tc : Thread Cert.Mix2.nD Cert.Mix2.τ).loc Cert.Mix2.main_arg18)
      ∧ r.2.mem ((c.tc : Thread Cert.Mix2.nD Cert.Mix2.τ).loc Cert.Mix2.main_arg19) = m ((c.tc : Thread Cert.Mix2.nD Cert.Mix2.τ).loc Cert.Mix2.main_arg19))
      ∧ r.2.sem = fun _ => 0)

def quiescent_Mix2Ideal [hMix2Ideal : Cert.Mix2Ideal.Facts] : Prop :=
  ∀ (m : (ℓ : Loc Cert.Mix2Ideal.nD Cert.Mix2Ideal.τ Cert.Mix2Ideal.sig) → Buf (Elt Ideal) ℓ) (g : Dev Cert.Mix2Ideal.nD → PrngReg), Pre_Mix2Ideal m →
    θ_run (Cert.Mix2Ideal.defs (F := Ideal)) (onTc (τ := Cert.Mix2Ideal.τ) (Cert.Mix2Ideal.main (F := Ideal))) ⟨m, fun _ => 0, g⟩ (fun r => (∀ c : Dev Cert.Mix2Ideal.nD,
      r.2.mem ((c.tc : Thread Cert.Mix2Ideal.nD Cert.Mix2Ideal.τ).loc Cert.Mix2Ideal.main_arg0) = m ((c.tc : Thread Cert.Mix2Ideal.nD Cert.Mix2Ideal.τ).loc Cert.Mix2Ideal.main_arg0)
      ∧ r.2.mem ((c.tc : Thread Cert.Mix2Ideal.nD Cert.Mix2Ideal.τ).loc Cert.Mix2Ideal.main_arg1) = m ((c.tc : Thread Cert.Mix2Ideal.nD Cert.Mix2Ideal.τ).loc Cert.Mix2Ideal.main_arg1)
      ∧ r.2.mem ((c.tc : Thread Cert.Mix2Ideal.nD Cert.Mix2Ideal.τ).loc Cert.Mix2Ideal.main_arg2) = m ((c.tc : Thread Cert.Mix2Ideal.nD Cert.Mix2Ideal.τ).loc Cert.Mix2Ideal.main_arg2)
      ∧ r.2.mem ((c.tc : Thread Cert.Mix2Ideal.nD Cert.Mix2Ideal.τ).loc Cert.Mix2Ideal.main_arg3) = m ((c.tc : Thread Cert.Mix2Ideal.nD Cert.Mix2Ideal.τ).loc Cert.Mix2Ideal.main_arg3)
      ∧ r.2.mem ((c.tc : Thread Cert.Mix2Ideal.nD Cert.Mix2Ideal.τ).loc Cert.Mix2Ideal.main_arg4) = m ((c.tc : Thread Cert.Mix2Ideal.nD Cert.Mix2Ideal.τ).loc Cert.Mix2Ideal.main_arg4)
      ∧ r.2.mem ((c.tc : Thread Cert.Mix2Ideal.nD Cert.Mix2Ideal.τ).loc Cert.Mix2Ideal.main_arg5) = m ((c.tc : Thread Cert.Mix2Ideal.nD Cert.Mix2Ideal.τ).loc Cert.Mix2Ideal.main_arg5)
      ∧ r.2.mem ((c.tc : Thread Cert.Mix2Ideal.nD Cert.Mix2Ideal.τ).loc Cert.Mix2Ideal.main_arg6) = m ((c.tc : Thread Cert.Mix2Ideal.nD Cert.Mix2Ideal.τ).loc Cert.Mix2Ideal.main_arg6)
      ∧ r.2.mem ((c.tc : Thread Cert.Mix2Ideal.nD Cert.Mix2Ideal.τ).loc Cert.Mix2Ideal.main_arg7) = m ((c.tc : Thread Cert.Mix2Ideal.nD Cert.Mix2Ideal.τ).loc Cert.Mix2Ideal.main_arg7)
      ∧ r.2.mem ((c.tc : Thread Cert.Mix2Ideal.nD Cert.Mix2Ideal.τ).loc Cert.Mix2Ideal.main_arg8) = m ((c.tc : Thread Cert.Mix2Ideal.nD Cert.Mix2Ideal.τ).loc Cert.Mix2Ideal.main_arg8)
      ∧ r.2.mem ((c.tc : Thread Cert.Mix2Ideal.nD Cert.Mix2Ideal.τ).loc Cert.Mix2Ideal.main_arg9) = m ((c.tc : Thread Cert.Mix2Ideal.nD Cert.Mix2Ideal.τ).loc Cert.Mix2Ideal.main_arg9)
      ∧ r.2.mem ((c.tc : Thread Cert.Mix2Ideal.nD Cert.Mix2Ideal.τ).loc Cert.Mix2Ideal.main_arg10) = m ((c.tc : Thread Cert.Mix2Ideal.nD Cert.Mix2Ideal.τ).loc Cert.Mix2Ideal.main_arg10)
      ∧ r.2.mem ((c.tc : Thread Cert.Mix2Ideal.nD Cert.Mix2Ideal.τ).loc Cert.Mix2Ideal.main_arg11) = m ((c.tc : Thread Cert.Mix2Ideal.nD Cert.Mix2Ideal.τ).loc Cert.Mix2Ideal.main_arg11)
      ∧ r.2.mem ((c.tc : Thread Cert.Mix2Ideal.nD Cert.Mix2Ideal.τ).loc Cert.Mix2Ideal.main_arg12) = m ((c.tc : Thread Cert.Mix2Ideal.nD Cert.Mix2Ideal.τ).loc Cert.Mix2Ideal.main_arg12)
      ∧ r.2.mem ((c.tc : Thread Cert.Mix2Ideal.nD Cert.Mix2Ideal.τ).loc Cert.Mix2Ideal.main_arg13) = m ((c.tc : Thread Cert.Mix2Ideal.nD Cert.Mix2Ideal.τ).loc Cert.Mix2Ideal.main_arg13)
      ∧ r.2.mem ((c.tc : Thread Cert.Mix2Ideal.nD Cert.Mix2Ideal.τ).loc Cert.Mix2Ideal.main_arg14) = m ((c.tc : Thread Cert.Mix2Ideal.nD Cert.Mix2Ideal.τ).loc Cert.Mix2Ideal.main_arg14)
      ∧ r.2.mem ((c.tc : Thread Cert.Mix2Ideal.nD Cert.Mix2Ideal.τ).loc Cert.Mix2Ideal.main_arg15) = m ((c.tc : Thread Cert.Mix2Ideal.nD Cert.Mix2Ideal.τ).loc Cert.Mix2Ideal.main_arg15)
      ∧ r.2.mem ((c.tc : Thread Cert.Mix2Ideal.nD Cert.Mix2Ideal.τ).loc Cert.Mix2Ideal.main_arg16) = m ((c.tc : Thread Cert.Mix2Ideal.nD Cert.Mix2Ideal.τ).loc Cert.Mix2Ideal.main_arg16)
      ∧ r.2.mem ((c.tc : Thread Cert.Mix2Ideal.nD Cert.Mix2Ideal.τ).loc Cert.Mix2Ideal.main_arg17) = m ((c.tc : Thread Cert.Mix2Ideal.nD Cert.Mix2Ideal.τ).loc Cert.Mix2Ideal.main_arg17)
      ∧ r.2.mem ((c.tc : Thread Cert.Mix2Ideal.nD Cert.Mix2Ideal.τ).loc Cert.Mix2Ideal.main_arg18) = m ((c.tc : Thread Cert.Mix2Ideal.nD Cert.Mix2Ideal.τ).loc Cert.Mix2Ideal.main_arg18)
      ∧ r.2.mem ((c.tc : Thread Cert.Mix2Ideal.nD Cert.Mix2Ideal.τ).loc Cert.Mix2Ideal.main_arg19) = m ((c.tc : Thread Cert.Mix2Ideal.nD Cert.Mix2Ideal.τ).loc Cert.Mix2Ideal.main_arg19))
      ∧ r.2.sem = fun _ => 0)

def quiescent_Mix2RefIdeal [hMix2RefIdeal : Cert.Mix2RefIdeal.Facts] : Prop :=
  ∀ (m : (ℓ : Loc Cert.Mix2RefIdeal.nD Cert.Mix2RefIdeal.τ Cert.Mix2RefIdeal.sig) → Buf (Elt Ideal) ℓ) (g : Dev Cert.Mix2RefIdeal.nD → PrngReg), Pre_Mix2RefIdeal m →
    θ_run (Cert.Mix2RefIdeal.defs (F := Ideal)) (onTc (τ := Cert.Mix2RefIdeal.τ) (Cert.Mix2RefIdeal.main (F := Ideal))) ⟨m, fun _ => 0, g⟩ (fun r => (∀ c : Dev Cert.Mix2RefIdeal.nD,
      r.2.mem ((c.tc : Thread Cert.Mix2RefIdeal.nD Cert.Mix2RefIdeal.τ).loc Cert.Mix2RefIdeal.main_arg0) = m ((c.tc : Thread Cert.Mix2RefIdeal.nD Cert.Mix2RefIdeal.τ).loc Cert.Mix2RefIdeal.main_arg0)
      ∧ r.2.mem ((c.tc : Thread Cert.Mix2RefIdeal.nD Cert.Mix2RefIdeal.τ).loc Cert.Mix2RefIdeal.main_arg1) = m ((c.tc : Thread Cert.Mix2RefIdeal.nD Cert.Mix2RefIdeal.τ).loc Cert.Mix2RefIdeal.main_arg1)
      ∧ r.2.mem ((c.tc : Thread Cert.Mix2RefIdeal.nD Cert.Mix2RefIdeal.τ).loc Cert.Mix2RefIdeal.main_arg2) = m ((c.tc : Thread Cert.Mix2RefIdeal.nD Cert.Mix2RefIdeal.τ).loc Cert.Mix2RefIdeal.main_arg2)
      ∧ r.2.mem ((c.tc : Thread Cert.Mix2RefIdeal.nD Cert.Mix2RefIdeal.τ).loc Cert.Mix2RefIdeal.main_arg3) = m ((c.tc : Thread Cert.Mix2RefIdeal.nD Cert.Mix2RefIdeal.τ).loc Cert.Mix2RefIdeal.main_arg3)
      ∧ r.2.mem ((c.tc : Thread Cert.Mix2RefIdeal.nD Cert.Mix2RefIdeal.τ).loc Cert.Mix2RefIdeal.main_arg4) = m ((c.tc : Thread Cert.Mix2RefIdeal.nD Cert.Mix2RefIdeal.τ).loc Cert.Mix2RefIdeal.main_arg4)
      ∧ r.2.mem ((c.tc : Thread Cert.Mix2RefIdeal.nD Cert.Mix2RefIdeal.τ).loc Cert.Mix2RefIdeal.main_arg5) = m ((c.tc : Thread Cert.Mix2RefIdeal.nD Cert.Mix2RefIdeal.τ).loc Cert.Mix2RefIdeal.main_arg5)
      ∧ r.2.mem ((c.tc : Thread Cert.Mix2RefIdeal.nD Cert.Mix2RefIdeal.τ).loc Cert.Mix2RefIdeal.main_arg6) = m ((c.tc : Thread Cert.Mix2RefIdeal.nD Cert.Mix2RefIdeal.τ).loc Cert.Mix2RefIdeal.main_arg6)
      ∧ r.2.mem ((c.tc : Thread Cert.Mix2RefIdeal.nD Cert.Mix2RefIdeal.τ).loc Cert.Mix2RefIdeal.main_arg7) = m ((c.tc : Thread Cert.Mix2RefIdeal.nD Cert.Mix2RefIdeal.τ).loc Cert.Mix2RefIdeal.main_arg7)
      ∧ r.2.mem ((c.tc : Thread Cert.Mix2RefIdeal.nD Cert.Mix2RefIdeal.τ).loc Cert.Mix2RefIdeal.main_arg8) = m ((c.tc : Thread Cert.Mix2RefIdeal.nD Cert.Mix2RefIdeal.τ).loc Cert.Mix2RefIdeal.main_arg8)
      ∧ r.2.mem ((c.tc : Thread Cert.Mix2RefIdeal.nD Cert.Mix2RefIdeal.τ).loc Cert.Mix2RefIdeal.main_arg9) = m ((c.tc : Thread Cert.Mix2RefIdeal.nD Cert.Mix2RefIdeal.τ).loc Cert.Mix2RefIdeal.main_arg9)
      ∧ r.2.mem ((c.tc : Thread Cert.Mix2RefIdeal.nD Cert.Mix2RefIdeal.τ).loc Cert.Mix2RefIdeal.main_arg10) = m ((c.tc : Thread Cert.Mix2RefIdeal.nD Cert.Mix2RefIdeal.τ).loc Cert.Mix2RefIdeal.main_arg10)
      ∧ r.2.mem ((c.tc : Thread Cert.Mix2RefIdeal.nD Cert.Mix2RefIdeal.τ).loc Cert.Mix2RefIdeal.main_arg11) = m ((c.tc : Thread Cert.Mix2RefIdeal.nD Cert.Mix2RefIdeal.τ).loc Cert.Mix2RefIdeal.main_arg11)
      ∧ r.2.mem ((c.tc : Thread Cert.Mix2RefIdeal.nD Cert.Mix2RefIdeal.τ).loc Cert.Mix2RefIdeal.main_arg12) = m ((c.tc : Thread Cert.Mix2RefIdeal.nD Cert.Mix2RefIdeal.τ).loc Cert.Mix2RefIdeal.main_arg12)
      ∧ r.2.mem ((c.tc : Thread Cert.Mix2RefIdeal.nD Cert.Mix2RefIdeal.τ).loc Cert.Mix2RefIdeal.main_arg13) = m ((c.tc : Thread Cert.Mix2RefIdeal.nD Cert.Mix2RefIdeal.τ).loc Cert.Mix2RefIdeal.main_arg13)
      ∧ r.2.mem ((c.tc : Thread Cert.Mix2RefIdeal.nD Cert.Mix2RefIdeal.τ).loc Cert.Mix2RefIdeal.main_arg14) = m ((c.tc : Thread Cert.Mix2RefIdeal.nD Cert.Mix2RefIdeal.τ).loc Cert.Mix2RefIdeal.main_arg14)
      ∧ r.2.mem ((c.tc : Thread Cert.Mix2RefIdeal.nD Cert.Mix2RefIdeal.τ).loc Cert.Mix2RefIdeal.main_arg15) = m ((c.tc : Thread Cert.Mix2RefIdeal.nD Cert.Mix2RefIdeal.τ).loc Cert.Mix2RefIdeal.main_arg15)
      ∧ r.2.mem ((c.tc : Thread Cert.Mix2RefIdeal.nD Cert.Mix2RefIdeal.τ).loc Cert.Mix2RefIdeal.main_arg16) = m ((c.tc : Thread Cert.Mix2RefIdeal.nD Cert.Mix2RefIdeal.τ).loc Cert.Mix2RefIdeal.main_arg16)
      ∧ r.2.mem ((c.tc : Thread Cert.Mix2RefIdeal.nD Cert.Mix2RefIdeal.τ).loc Cert.Mix2RefIdeal.main_arg17) = m ((c.tc : Thread Cert.Mix2RefIdeal.nD Cert.Mix2RefIdeal.τ).loc Cert.Mix2RefIdeal.main_arg17)
      ∧ r.2.mem ((c.tc : Thread Cert.Mix2RefIdeal.nD Cert.Mix2RefIdeal.τ).loc Cert.Mix2RefIdeal.main_arg18) = m ((c.tc : Thread Cert.Mix2RefIdeal.nD Cert.Mix2RefIdeal.τ).loc Cert.Mix2RefIdeal.main_arg18)
      ∧ r.2.mem ((c.tc : Thread Cert.Mix2RefIdeal.nD Cert.Mix2RefIdeal.τ).loc Cert.Mix2RefIdeal.main_arg19) = m ((c.tc : Thread Cert.Mix2RefIdeal.nD Cert.Mix2RefIdeal.τ).loc Cert.Mix2RefIdeal.main_arg19))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v3_0)) (v1 : (c : Dev Cert.PostNormIdeal.nD) → Buf (Elt Ideal) ((c.tc : Thread Cert.PostNormIdeal.nD Cert.PostNormIdeal.τ).loc Cert.PostNormIdeal.main_v3_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v3_0) = v0 c
          ∧ r.2.mem ((c.tc : Thread Cert.PostNormIdeal.nD Cert.PostNormIdeal.τ).loc Cert.PostNormIdeal.main_v3_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v38) = v0 c
          ∧ r.2.mem ((c.tc : Thread Cert.PostNormRefIdeal.nD Cert.PostNormRefIdeal.τ).loc Cert.PostNormRefIdeal.main_v39) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Mix1_Mix1Ideal : Prop :=
  True

def algebraic_Mix1Ideal_Mix1RefIdeal_pre_mix1_finite [hMix1Ideal : Cert.Mix1Ideal.Facts] [hMix1RefIdeal : Cert.Mix1RefIdeal.Facts] [hPre_mix1_finite : Cert.Pre_mix1_finite.Facts] : Prop :=
  ∀ (m : (ℓ : Loc Cert.Mix1Ideal.nD Cert.Mix1Ideal.τ Cert.Mix1Ideal.sig) → Buf (Elt Ideal) ℓ) (g : Dev Cert.Mix1Ideal.nD → PrngReg)
    (m' : (ℓ : Loc Cert.Mix1RefIdeal.nD Cert.Mix1RefIdeal.τ Cert.Mix1RefIdeal.sig) → Buf (Elt Ideal) ℓ) (g' : Dev Cert.Mix1RefIdeal.nD → PrngReg), Pre_Mix1Ideal_mix1_finite m →
    (∀ c : Dev Cert.Mix1Ideal.nD,
      m' ((c.tc : Thread Cert.Mix1RefIdeal.nD Cert.Mix1RefIdeal.τ).loc Cert.Mix1RefIdeal.main_arg0) = m ((c.tc : Thread Cert.Mix1Ideal.nD Cert.Mix1Ideal.τ).loc Cert.Mix1Ideal.main_arg0)
      ∧ m' ((c.tc : Thread Cert.Mix1RefIdeal.nD Cert.Mix1RefIdeal.τ).loc Cert.Mix1RefIdeal.main_arg1) = m ((c.tc : Thread Cert.Mix1Ideal.nD Cert.Mix1Ideal.τ).loc Cert.Mix1Ideal.main_arg1)
      ∧ m' ((c.tc : Thread Cert.Mix1RefIdeal.nD Cert.Mix1RefIdeal.τ).loc Cert.Mix1RefIdeal.main_arg2) = m ((c.tc : Thread Cert.Mix1Ideal.nD Cert.Mix1Ideal.τ).loc Cert.Mix1Ideal.main_arg2)
      ∧ m' ((c.tc : Thread Cert.Mix1RefIdeal.nD Cert.Mix1RefIdeal.τ).loc Cert.Mix1RefIdeal.main_arg3) = m ((c.tc : Thread Cert.Mix1Ideal.nD Cert.Mix1Ideal.τ).loc Cert.Mix1Ideal.main_arg3)
      ∧ m' ((c.tc : Thread Cert.Mix1RefIdeal.nD Cert.Mix1RefIdeal.τ).loc Cert.Mix1RefIdeal.main_arg4) = m ((c.tc : Thread Cert.Mix1Ideal.nD Cert.Mix1Ideal.τ).loc Cert.Mix1Ideal.main_arg4)
      ∧ m' ((c.tc : Thread Cert.Mix1RefIdeal.nD Cert.Mix1RefIdeal.τ).loc Cert.Mix1RefIdeal.main_arg5) = m ((c.tc : Thread Cert.Mix1Ideal.nD Cert.Mix1Ideal.τ).loc Cert.Mix1Ideal.main_arg5)
      ∧ m' ((c.tc : Thread Cert.Mix1RefIdeal.nD Cert.Mix1RefIdeal.τ).loc Cert.Mix1RefIdeal.main_arg6) = m ((c.tc : Thread Cert.Mix1Ideal.nD Cert.Mix1Ideal.τ).loc Cert.Mix1Ideal.main_arg6)
      ∧ m' ((c.tc : Thread Cert.Mix1RefIdeal.nD Cert.Mix1RefIdeal.τ).loc Cert.Mix1RefIdeal.main_arg7) = m ((c.tc : Thread Cert.Mix1Ideal.nD Cert.Mix1Ideal.τ).loc Cert.Mix1Ideal.main_arg7)) →
    ∃ (v0 : (c : Dev Cert.Mix1Ideal.nD) → Buf (Elt Ideal) ((c.tc : Thread Cert.Mix1Ideal.nD Cert.Mix1Ideal.τ).loc Cert.Mix1Ideal.main_v72_0)) (v1 : (c : Dev Cert.Mix1Ideal.nD) → Buf (Elt Ideal) ((c.tc : Thread Cert.Mix1Ideal.nD Cert.Mix1Ideal.τ).loc Cert.Mix1Ideal.main_v72_1)) (v2 : (c : Dev Cert.Mix1Ideal.nD) → Buf (Elt Ideal) ((c.tc : Thread Cert.Mix1Ideal.nD Cert.Mix1Ideal.τ).loc Cert.Mix1Ideal.main_v72_2)) (v3 : (c : Dev Cert.Mix1Ideal.nD) → Buf (Elt Ideal) ((c.tc : Thread Cert.Mix1Ideal.nD Cert.Mix1Ideal.τ).loc Cert.Mix1Ideal.main_v72_3)) (v4 : (c : Dev Cert.Mix1Ideal.nD) → Buf (Elt Ideal) ((c.tc : Thread Cert.Mix1Ideal.nD Cert.Mix1Ideal.τ).loc Cert.Mix1Ideal.main_v72_4)) (v5 : (c : Dev Cert.Mix1Ideal.nD) → Buf (Elt Ideal) ((c.tc : Thread Cert.Mix1Ideal.nD Cert.Mix1Ideal.τ).loc Cert.Mix1Ideal.main_v72_5)) (v6 : (c : Dev Cert.Mix1Ideal.nD) → Buf (Elt Ideal) ((c.tc : Thread Cert.Mix1Ideal.nD Cert.Mix1Ideal.τ).loc Cert.Mix1Ideal.main_v72_6)) (v7 : (c : Dev Cert.Mix1Ideal.nD) → Buf (Elt Ideal) ((c.tc : Thread Cert.Mix1Ideal.nD Cert.Mix1Ideal.τ).loc Cert.Mix1Ideal.main_v72_7)),
      θ_run (Cert.Mix1Ideal.defs (F := Ideal)) (onTc (τ := Cert.Mix1Ideal.τ) (Cert.Mix1Ideal.main (F := Ideal))) ⟨m, fun _ => 0, g⟩ (fun r => ∀ c : Dev Cert.Mix1Ideal.nD,
          r.2.mem ((c.tc : Thread Cert.Mix1Ideal.nD Cert.Mix1Ideal.τ).loc Cert.Mix1Ideal.main_v72_0) = v0 c
          ∧ r.2.mem ((c.tc : Thread Cert.Mix1Ideal.nD Cert.Mix1Ideal.τ).loc Cert.Mix1Ideal.main_v72_1) = v1 c
          ∧ r.2.mem ((c.tc : Thread Cert.Mix1Ideal.nD Cert.Mix1Ideal.τ).loc Cert.Mix1Ideal.main_v72_2) = v2 c
          ∧ r.2.mem ((c.tc : Thread Cert.Mix1Ideal.nD Cert.Mix1Ideal.τ).loc Cert.Mix1Ideal.main_v72_3) = v3 c
          ∧ r.2.mem ((c.tc : Thread Cert.Mix1Ideal.nD Cert.Mix1Ideal.τ).loc Cert.Mix1Ideal.main_v72_4) = v4 c
          ∧ r.2.mem ((c.tc : Thread Cert.Mix1Ideal.nD Cert.Mix1Ideal.τ).loc Cert.Mix1Ideal.main_v72_5) = v5 c
          ∧ r.2.mem ((c.tc : Thread Cert.Mix1Ideal.nD Cert.Mix1Ideal.τ).loc Cert.Mix1Ideal.main_v72_6) = v6 c
          ∧ r.2.mem ((c.tc : Thread Cert.Mix1Ideal.nD Cert.Mix1Ideal.τ).loc Cert.Mix1Ideal.main_v72_7) = v7 c
          ∧ r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
          ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
          ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
          ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
          ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
          ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
          ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
          ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7))
      ∧ θ_run (Cert.Mix1RefIdeal.defs (F := Ideal)) (onTc (τ := Cert.Mix1RefIdeal.τ) (Cert.Mix1RefIdeal.main (F := Ideal))) ⟨m', fun _ => 0, g'⟩ (fun r => ∀ c : Dev Cert.Mix1RefIdeal.nD,
          r.2.mem ((c.tc : Thread Cert.Mix1RefIdeal.nD Cert.Mix1RefIdeal.τ).loc Cert.Mix1RefIdeal.main_v147) = v0 c
          ∧ r.2.mem ((c.tc : Thread Cert.Mix1RefIdeal.nD Cert.Mix1RefIdeal.τ).loc Cert.Mix1RefIdeal.main_v149) = v1 c
          ∧ r.2.mem ((c.tc : Thread Cert.Mix1RefIdeal.nD Cert.Mix1RefIdeal.τ).loc Cert.Mix1RefIdeal.main_v151) = v2 c
          ∧ r.2.mem ((c.tc : Thread Cert.Mix1RefIdeal.nD Cert.Mix1RefIdeal.τ).loc Cert.Mix1RefIdeal.main_v154) = v3 c
          ∧ r.2.mem ((c.tc : Thread Cert.Mix1RefIdeal.nD Cert.Mix1RefIdeal.τ).loc Cert.Mix1RefIdeal.main_v155) = v4 c
          ∧ r.2.mem ((c.tc : Thread Cert.Mix1RefIdeal.nD Cert.Mix1RefIdeal.τ).loc Cert.Mix1RefIdeal.main_v157) = v5 c
          ∧ r.2.mem ((c.tc : Thread Cert.Mix1RefIdeal.nD Cert.Mix1RefIdeal.τ).loc Cert.Mix1RefIdeal.main_v158) = v6 c
          ∧ r.2.mem ((c.tc : Thread Cert.Mix1RefIdeal.nD Cert.Mix1RefIdeal.τ).loc Cert.Mix1RefIdeal.main_v94) = v7 c
          ∧ r.2.mem ((c.tc : Thread Cert.Mix1RefIdeal.nD Cert.Mix1RefIdeal.τ).loc Cert.Mix1RefIdeal.main_arg0) = m' ((c.tc : Thread Cert.Mix1RefIdeal.nD Cert.Mix1RefIdeal.τ).loc Cert.Mix1RefIdeal.main_arg0)
          ∧ r.2.mem ((c.tc : Thread Cert.Mix1RefIdeal.nD Cert.Mix1RefIdeal.τ).loc Cert.Mix1RefIdeal.main_arg1) = m' ((c.tc : Thread Cert.Mix1RefIdeal.nD Cert.Mix1RefIdeal.τ).loc Cert.Mix1RefIdeal.main_arg1)
          ∧ r.2.mem ((c.tc : Thread Cert.Mix1RefIdeal.nD Cert.Mix1RefIdeal.τ).loc Cert.Mix1RefIdeal.main_arg2) = m' ((c.tc : Thread Cert.Mix1RefIdeal.nD Cert.Mix1RefIdeal.τ).loc Cert.Mix1RefIdeal.main_arg2)
          ∧ r.2.mem ((c.tc : Thread Cert.Mix1RefIdeal.nD Cert.Mix1RefIdeal.τ).loc Cert.Mix1RefIdeal.main_arg3) = m' ((c.tc : Thread Cert.Mix1RefIdeal.nD Cert.Mix1RefIdeal.τ).loc Cert.Mix1RefIdeal.main_arg3)
          ∧ r.2.mem ((c.tc : Thread Cert.Mix1RefIdeal.nD Cert.Mix1RefIdeal.τ).loc Cert.Mix1RefIdeal.main_arg4) = m' ((c.tc : Thread Cert.Mix1RefIdeal.nD Cert.Mix1RefIdeal.τ).loc Cert.Mix1RefIdeal.main_arg4)
          ∧ r.2.mem ((c.tc : Thread Cert.Mix1RefIdeal.nD Cert.Mix1RefIdeal.τ).loc Cert.Mix1RefIdeal.main_arg5) = m' ((c.tc : Thread Cert.Mix1RefIdeal.nD Cert.Mix1RefIdeal.τ).loc Cert.Mix1RefIdeal.main_arg5)
          ∧ r.2.mem ((c.tc : Thread Cert.Mix1RefIdeal.nD Cert.Mix1RefIdeal.τ).loc Cert.Mix1RefIdeal.main_arg6) = m' ((c.tc : Thread Cert.Mix1RefIdeal.nD Cert.Mix1RefIdeal.τ).loc Cert.Mix1RefIdeal.main_arg6)
          ∧ r.2.mem ((c.tc : Thread Cert.Mix1RefIdeal.nD Cert.Mix1RefIdeal.τ).loc Cert.Mix1RefIdeal.main_arg7) = m' ((c.tc : Thread Cert.Mix1RefIdeal.nD Cert.Mix1RefIdeal.τ).loc Cert.Mix1RefIdeal.main_arg7))

def preserves_Mix2_Mix2Ideal : Prop :=
  True

def algebraic_Mix2Ideal_Mix2RefIdeal_on_mix2_selected [hMix2Ideal : Cert.Mix2Ideal.Facts] [hMix2RefIdeal : Cert.Mix2RefIdeal.Facts] [hOn_mix2_selected : Cert.On_mix2_selected.Facts] : Prop :=
  ∀ (m : (ℓ : Loc Cert.Mix2Ideal.nD Cert.Mix2Ideal.τ Cert.Mix2Ideal.sig) → Buf (Elt Ideal) ℓ) (g : Dev Cert.Mix2Ideal.nD → PrngReg)
    (m' : (ℓ : Loc Cert.Mix2RefIdeal.nD Cert.Mix2RefIdeal.τ Cert.Mix2RefIdeal.sig) → Buf (Elt Ideal) ℓ) (g' : Dev Cert.Mix2RefIdeal.nD → PrngReg), Pre_Mix2Ideal m →
    (∀ c : Dev Cert.Mix2Ideal.nD,
      m' ((c.tc : Thread Cert.Mix2RefIdeal.nD Cert.Mix2RefIdeal.τ).loc Cert.Mix2RefIdeal.main_arg0) = m ((c.tc : Thread Cert.Mix2Ideal.nD Cert.Mix2Ideal.τ).loc Cert.Mix2Ideal.main_arg0)
      ∧ m' ((c.tc : Thread Cert.Mix2RefIdeal.nD Cert.Mix2RefIdeal.τ).loc Cert.Mix2RefIdeal.main_arg1) = m ((c.tc : Thread Cert.Mix2Ideal.nD Cert.Mix2Ideal.τ).loc Cert.Mix2Ideal.main_arg1)
      ∧ m' ((c.tc : Thread Cert.Mix2RefIdeal.nD Cert.Mix2RefIdeal.τ).loc Cert.Mix2RefIdeal.main_arg2) = m ((c.tc : Thread Cert.Mix2Ideal.nD Cert.Mix2Ideal.τ).loc Cert.Mix2Ideal.main_arg2)
      ∧ m' ((c.tc : Thread Cert.Mix2RefIdeal.nD Cert.Mix2RefIdeal.τ).loc Cert.Mix2RefIdeal.main_arg3) = m ((c.tc : Thread Cert.Mix2Ideal.nD Cert.Mix2Ideal.τ).loc Cert.Mix2Ideal.main_arg3)
      ∧ m' ((c.tc : Thread Cert.Mix2RefIdeal.nD Cert.Mix2RefIdeal.τ).loc Cert.Mix2RefIdeal.main_arg4) = m ((c.tc : Thread Cert.Mix2Ideal.nD Cert.Mix2Ideal.τ).loc Cert.Mix2Ideal.main_arg4)
      ∧ m' ((c.tc : Thread Cert.Mix2RefIdeal.nD Cert.Mix2RefIdeal.τ).loc Cert.Mix2RefIdeal.main_arg5) = m ((c.tc : Thread Cert.Mix2Ideal.nD Cert.Mix2Ideal.τ).loc Cert.Mix2Ideal.main_arg5)
      ∧ m' ((c.tc : Thread Cert.Mix2RefIdeal.nD Cert.Mix2RefIdeal.τ).loc Cert.Mix2RefIdeal.main_arg6) = m ((c.tc : Thread Cert.Mix2Ideal.nD Cert.Mix2Ideal.τ).loc Cert.Mix2Ideal.main_arg6)
      ∧ m' ((c.tc : Thread Cert.Mix2RefIdeal.nD Cert.Mix2RefIdeal.τ).loc Cert.Mix2RefIdeal.main_arg7) = m ((c.tc : Thread Cert.Mix2Ideal.nD Cert.Mix2Ideal.τ).loc Cert.Mix2Ideal.main_arg7)
      ∧ m' ((c.tc : Thread Cert.Mix2RefIdeal.nD Cert.Mix2RefIdeal.τ).loc Cert.Mix2RefIdeal.main_arg8) = m ((c.tc : Thread Cert.Mix2Ideal.nD Cert.Mix2Ideal.τ).loc Cert.Mix2Ideal.main_arg8)
      ∧ m' ((c.tc : Thread Cert.Mix2RefIdeal.nD Cert.Mix2RefIdeal.τ).loc Cert.Mix2RefIdeal.main_arg9) = m ((c.tc : Thread Cert.Mix2Ideal.nD Cert.Mix2Ideal.τ).loc Cert.Mix2Ideal.main_arg9)
      ∧ m' ((c.tc : Thread Cert.Mix2RefIdeal.nD Cert.Mix2RefIdeal.τ).loc Cert.Mix2RefIdeal.main_arg10) = m ((c.tc : Thread Cert.Mix2Ideal.nD Cert.Mix2Ideal.τ).loc Cert.Mix2Ideal.main_arg10)
      ∧ m' ((c.tc : Thread Cert.Mix2RefIdeal.nD Cert.Mix2RefIdeal.τ).loc Cert.Mix2RefIdeal.main_arg11) = m ((c.tc : Thread Cert.Mix2Ideal.nD Cert.Mix2Ideal.τ).loc Cert.Mix2Ideal.main_arg11)
      ∧ m' ((c.tc : Thread Cert.Mix2RefIdeal.nD Cert.Mix2RefIdeal.τ).loc Cert.Mix2RefIdeal.main_arg12) = m ((c.tc : Thread Cert.Mix2Ideal.nD Cert.Mix2Ideal.τ).loc Cert.Mix2Ideal.main_arg12)
      ∧ m' ((c.tc : Thread Cert.Mix2RefIdeal.nD Cert.Mix2RefIdeal.τ).loc Cert.Mix2RefIdeal.main_arg13) = m ((c.tc : Thread Cert.Mix2Ideal.nD Cert.Mix2Ideal.τ).loc Cert.Mix2Ideal.main_arg13)
      ∧ m' ((c.tc : Thread Cert.Mix2RefIdeal.nD Cert.Mix2RefIdeal.τ).loc Cert.Mix2RefIdeal.main_arg14) = m ((c.tc : Thread Cert.Mix2Ideal.nD Cert.Mix2Ideal.τ).loc Cert.Mix2Ideal.main_arg14)
      ∧ m' ((c.tc : Thread Cert.Mix2RefIdeal.nD Cert.Mix2RefIdeal.τ).loc Cert.Mix2RefIdeal.main_arg15) = m ((c.tc : Thread Cert.Mix2Ideal.nD Cert.Mix2Ideal.τ).loc Cert.Mix2Ideal.main_arg15)
      ∧ m' ((c.tc : Thread Cert.Mix2RefIdeal.nD Cert.Mix2RefIdeal.τ).loc Cert.Mix2RefIdeal.main_arg16) = m ((c.tc : Thread Cert.Mix2Ideal.nD Cert.Mix2Ideal.τ).loc Cert.Mix2Ideal.main_arg16)
      ∧ m' ((c.tc : Thread Cert.Mix2RefIdeal.nD Cert.Mix2RefIdeal.τ).loc Cert.Mix2RefIdeal.main_arg17) = m ((c.tc : Thread Cert.Mix2Ideal.nD Cert.Mix2Ideal.τ).loc Cert.Mix2Ideal.main_arg17)
      ∧ m' ((c.tc : Thread Cert.Mix2RefIdeal.nD Cert.Mix2RefIdeal.τ).loc Cert.Mix2RefIdeal.main_arg18) = m ((c.tc : Thread Cert.Mix2Ideal.nD Cert.Mix2Ideal.τ).loc Cert.Mix2Ideal.main_arg18)
      ∧ m' ((c.tc : Thread Cert.Mix2RefIdeal.nD Cert.Mix2RefIdeal.τ).loc Cert.Mix2RefIdeal.main_arg19) = m ((c.tc : Thread Cert.Mix2Ideal.nD Cert.Mix2Ideal.τ).loc Cert.Mix2Ideal.main_arg19)) →
    ∃ (v0 : (c : Dev Cert.Mix2Ideal.nD) → Buf (Elt Ideal) ((c.tc : Thread Cert.Mix2Ideal.nD Cert.Mix2Ideal.τ).loc Cert.Mix2Ideal.main_v56_0)) (v1 : (c : Dev Cert.Mix2Ideal.nD) → Buf (Elt Ideal) ((c.tc : Thread Cert.Mix2Ideal.nD Cert.Mix2Ideal.τ).loc Cert.Mix2Ideal.main_v56_1)) (v2 : (c : Dev Cert.Mix2Ideal.nD) → Buf (Elt Ideal) ((c.tc : Thread Cert.Mix2Ideal.nD Cert.Mix2Ideal.τ).loc Cert.Mix2Ideal.main_v56_2)) (v3 : (c : Dev Cert.Mix2Ideal.nD) → Buf (Elt Ideal) ((c.tc : Thread Cert.Mix2Ideal.nD Cert.Mix2Ideal.τ).loc Cert.Mix2Ideal.main_v56_3)) (v4 : (c : Dev Cert.Mix2Ideal.nD) → Buf (Elt Ideal) ((c.tc : Thread Cert.Mix2Ideal.nD Cert.Mix2Ideal.τ).loc Cert.Mix2Ideal.main_v56_4)),
      θ_run (Cert.Mix2Ideal.defs (F := Ideal)) (onTc (τ := Cert.Mix2Ideal.τ) (Cert.Mix2Ideal.main (F := Ideal))) ⟨m, fun _ => 0, g⟩ (fun r => ∀ c : Dev Cert.Mix2Ideal.nD,
          (∀ i : (⟨2, ![8192, 3200]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).1 i = 1#1 → r.2.mem ((c.tc : Thread Cert.Mix2Ideal.nD Cert.Mix2Ideal.τ).loc Cert.Mix2Ideal.main_v56_0) i = v0 c i)
          ∧ (∀ i : (⟨2, ![8192, 1024]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.1 i = 1#1 → r.2.mem ((c.tc : Thread Cert.Mix2Ideal.nD Cert.Mix2Ideal.τ).loc Cert.Mix2Ideal.main_v56_1) i = v1 c i)
          ∧ (∀ i : (⟨2, ![1, 1024]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.1 i = 1#1 → r.2.mem ((c.tc : Thread Cert.Mix2Ideal.nD Cert.Mix2Ideal.τ).loc Cert.Mix2Ideal.main_v56_2) i = v2 c i)
          ∧ (∀ i : (⟨2, ![128, 512]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.2.1 i = 1#1 → r.2.mem ((c.tc : Thread Cert.Mix2Ideal.nD Cert.Mix2Ideal.τ).loc Cert.Mix2Ideal.main_v56_3) i = v3 c i)
          ∧ (∀ i : (⟨2, ![8, 512]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.2.2 i = 1#1 → r.2.mem ((c.tc : Thread Cert.Mix2Ideal.nD Cert.Mix2Ideal.τ).loc Cert.Mix2Ideal.main_v56_4) i = v4 c i)
          ∧ r.2.mem ((c.tc : Thread Cert.Mix2Ideal.nD Cert.Mix2Ideal.τ).loc Cert.Mix2Ideal.main_arg0) = m ((c.tc : Thread Cert.Mix2Ideal.nD Cert.Mix2Ideal.τ).loc Cert.Mix2Ideal.main_arg0)
          ∧ r.2.mem ((c.tc : Thread Cert.Mix2Ideal.nD Cert.Mix2Ideal.τ).loc Cert.Mix2Ideal.main_arg1) = m ((c.tc : Thread Cert.Mix2Ideal.nD Cert.Mix2Ideal.τ).loc Cert.Mix2Ideal.main_arg1)
          ∧ r.2.mem ((c.tc : Thread Cert.Mix2Ideal.nD Cert.Mix2Ideal.τ).loc Cert.Mix2Ideal.main_arg2) = m ((c.tc : Thread Cert.Mix2Ideal.nD Cert.Mix2Ideal.τ).loc Cert.Mix2Ideal.main_arg2)
          ∧ r.2.mem ((c.tc : Thread Cert.Mix2Ideal.nD Cert.Mix2Ideal.τ).loc Cert.Mix2Ideal.main_arg3) = m ((c.tc : Thread Cert.Mix2Ideal.nD Cert.Mix2Ideal.τ).loc Cert.Mix2Ideal.main_arg3)
          ∧ r.2.mem ((c.tc : Thread Cert.Mix2Ideal.nD Cert.Mix2Ideal.τ).loc Cert.Mix2Ideal.main_arg4) = m ((c.tc : Thread Cert.Mix2Ideal.nD Cert.Mix2Ideal.τ).loc Cert.Mix2Ideal.main_arg4)
          ∧ r.2.mem ((c.tc : Thread Cert.Mix2Ideal.nD Cert.Mix2Ideal.τ).loc Cert.Mix2Ideal.main_arg5) = m ((c.tc : Thread Cert.Mix2Ideal.nD Cert.Mix2Ideal.τ).loc Cert.Mix2Ideal.main_arg5)
          ∧ r.2.mem ((c.tc : Thread Cert.Mix2Ideal.nD Cert.Mix2Ideal.τ).loc Cert.Mix2Ideal.main_arg6) = m ((c.tc : Thread Cert.Mix2Ideal.nD Cert.Mix2Ideal.τ).loc Cert.Mix2Ideal.main_arg6)
          ∧ r.2.mem ((c.tc : Thread Cert.Mix2Ideal.nD Cert.Mix2Ideal.τ).loc Cert.Mix2Ideal.main_arg7) = m ((c.tc : Thread Cert.Mix2Ideal.nD Cert.Mix2Ideal.τ).loc Cert.Mix2Ideal.main_arg7)
          ∧ r.2.mem ((c.tc : Thread Cert.Mix2Ideal.nD Cert.Mix2Ideal.τ).loc Cert.Mix2Ideal.main_arg8) = m ((c.tc : Thread Cert.Mix2Ideal.nD Cert.Mix2Ideal.τ).loc Cert.Mix2Ideal.main_arg8)
          ∧ r.2.mem ((c.tc : Thread Cert.Mix2Ideal.nD Cert.Mix2Ideal.τ).loc Cert.Mix2Ideal.main_arg9) = m ((c.tc : Thread Cert.Mix2Ideal.nD Cert.Mix2Ideal.τ).loc Cert.Mix2Ideal.main_arg9)
          ∧ r.2.mem ((c.tc : Thread Cert.Mix2Ideal.nD Cert.Mix2Ideal.τ).loc Cert.Mix2Ideal.main_arg10) = m ((c.tc : Thread Cert.Mix2Ideal.nD Cert.Mix2Ideal.τ).loc Cert.Mix2Ideal.main_arg10)
          ∧ r.2.mem ((c.tc : Thread Cert.Mix2Ideal.nD Cert.Mix2Ideal.τ).loc Cert.Mix2Ideal.main_arg11) = m ((c.tc : Thread Cert.Mix2Ideal.nD Cert.Mix2Ideal.τ).loc Cert.Mix2Ideal.main_arg11)
          ∧ r.2.mem ((c.tc : Thread Cert.Mix2Ideal.nD Cert.Mix2Ideal.τ).loc Cert.Mix2Ideal.main_arg12) = m ((c.tc : Thread Cert.Mix2Ideal.nD Cert.Mix2Ideal.τ).loc Cert.Mix2Ideal.main_arg12)
          ∧ r.2.mem ((c.tc : Thread Cert.Mix2Ideal.nD Cert.Mix2Ideal.τ).loc Cert.Mix2Ideal.main_arg13) = m ((c.tc : Thread Cert.Mix2Ideal.nD Cert.Mix2Ideal.τ).loc Cert.Mix2Ideal.main_arg13)
          ∧ r.2.mem ((c.tc : Thread Cert.Mix2Ideal.nD Cert.Mix2Ideal.τ).loc Cert.Mix2Ideal.main_arg14) = m ((c.tc : Thread Cert.Mix2Ideal.nD Cert.Mix2Ideal.τ).loc Cert.Mix2Ideal.main_arg14)
          ∧ r.2.mem ((c.tc : Thread Cert.Mix2Ideal.nD Cert.Mix2Ideal.τ).loc Cert.Mix2Ideal.main_arg15) = m ((c.tc : Thread Cert.Mix2Ideal.nD Cert.Mix2Ideal.τ).loc Cert.Mix2Ideal.main_arg15)
          ∧ r.2.mem ((c.tc : Thread Cert.Mix2Ideal.nD Cert.Mix2Ideal.τ).loc Cert.Mix2Ideal.main_arg16) = m ((c.tc : Thread Cert.Mix2Ideal.nD Cert.Mix2Ideal.τ).loc Cert.Mix2Ideal.main_arg16)
          ∧ r.2.mem ((c.tc : Thread Cert.Mix2Ideal.nD Cert.Mix2Ideal.τ).loc Cert.Mix2Ideal.main_arg17) = m ((c.tc : Thread Cert.Mix2Ideal.nD Cert.Mix2Ideal.τ).loc Cert.Mix2Ideal.main_arg17)
          ∧ r.2.mem ((c.tc : Thread Cert.Mix2Ideal.nD Cert.Mix2Ideal.τ).loc Cert.Mix2Ideal.main_arg18) = m ((c.tc : Thread Cert.Mix2Ideal.nD Cert.Mix2Ideal.τ).loc Cert.Mix2Ideal.main_arg18)
          ∧ r.2.mem ((c.tc : Thread Cert.Mix2Ideal.nD Cert.Mix2Ideal.τ).loc Cert.Mix2Ideal.main_arg19) = m ((c.tc : Thread Cert.Mix2Ideal.nD Cert.Mix2Ideal.τ).loc Cert.Mix2Ideal.main_arg19))
      ∧ θ_run (Cert.Mix2RefIdeal.defs (F := Ideal)) (onTc (τ := Cert.Mix2RefIdeal.τ) (Cert.Mix2RefIdeal.main (F := Ideal))) ⟨m', fun _ => 0, g'⟩ (fun r => ∀ c : Dev Cert.Mix2RefIdeal.nD,
          (∀ i : (⟨2, ![8192, 3200]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).1 i = 1#1 → r.2.mem ((c.tc : Thread Cert.Mix2RefIdeal.nD Cert.Mix2RefIdeal.τ).loc Cert.Mix2RefIdeal.main_v154) i = v0 c i)
          ∧ (∀ i : (⟨2, ![8192, 1024]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.1 i = 1#1 → r.2.mem ((c.tc : Thread Cert.Mix2RefIdeal.nD Cert.Mix2RefIdeal.τ).loc Cert.Mix2RefIdeal.main_v156) i = v1 c i)
          ∧ (∀ i : (⟨2, ![1, 1024]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.1 i = 1#1 → r.2.mem ((c.tc : Thread Cert.Mix2RefIdeal.nD Cert.Mix2RefIdeal.τ).loc Cert.Mix2RefIdeal.main_v157) i = v2 c i)
          ∧ (∀ i : (⟨2, ![128, 512]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.2.1 i = 1#1 → r.2.mem ((c.tc : Thread Cert.Mix2RefIdeal.nD Cert.Mix2RefIdeal.τ).loc Cert.Mix2RefIdeal.main_v158) i = v3 c i)
          ∧ (∀ i : (⟨2, ![8, 512]⟩ : Shape).Idx, (Cert.On_mix2_selected.fn (F := Ideal) (m ((c.tc : Thread Cert.Mix2Ideal.nD Cert.Mix2Ideal.τ).loc Cert.Mix2Ideal.main_arg0)) (m ((c.tc : Thread Cert.Mix2Ideal.nD Cert.Mix2Ideal.τ).loc Cert.Mix2Ideal.main_arg1)) (m ((c.tc : Thread Cert.Mix2Ideal.nD Cert.Mix2Ideal.τ).loc Cert.Mix2Ideal.main_arg2)) (m ((c.tc : Thread Cert.Mix2Ideal.nD Cert.Mix2Ideal.τ).loc Cert.Mix2Ideal.main_arg3)) (m ((c.tc : Thread Cert.Mix2Ideal.nD Cert.Mix2Ideal.τ).loc Cert.Mix2Ideal.main_arg4)) (m ((c.tc : Thread Cert.Mix2Ideal.nD Cert.Mix2Ideal.τ).loc Cert.Mix2Ideal.main_arg5)) (m ((c.tc : Thread Cert.Mix2Ideal.nD Cert.Mix2Ideal.τ).loc Cert.Mix2Ideal.main_arg6)) (m ((c.tc : Thread Cert.Mix2Ideal.nD Cert.Mix2Ideal.τ).loc Cert.Mix2Ideal.main_arg7)) (m ((c.tc : Thread Cert.Mix2Ideal.nD Cert.Mix2Ideal.τ).loc Cert.Mix2Ideal.main_arg8)) (m ((c.tc : Thread Cert.Mix2Ideal.nD Cert.Mix2Ideal.τ).loc Cert.Mix2Ideal.main_arg9)) (m ((c.tc : Thread Cert.Mix2Ideal.nD Cert.Mix2Ideal.τ).loc Cert.Mix2Ideal.main_arg10)) (m ((c.tc : Thread Cert.Mix2Ideal.nD Cert.Mix2Ideal.τ).loc Cert.Mix2Ideal.main_arg11)) (m ((c.tc : Thread Cert.Mix2Ideal.nD Cert.Mix2Ideal.τ).loc Cert.Mix2Ideal.main_arg12)) (m ((c.tc : Thread Cert.Mix2Ideal.nD Cert.Mix2Ideal.τ).loc Cert.Mix2Ideal.main_arg13)) (m ((c.tc : Thread Cert.Mix2Ideal.nD Cert.Mix2Ideal.τ).loc Cert.Mix2Ideal.main_arg14)) (m ((c.tc : Thread Cert.Mix2Ideal.nD Cert.Mix2Ideal.τ).loc Cert.Mix2Ideal.main_arg15)) (m ((c.tc : Thread Cert.Mix2Ideal.nD Cert.Mix2Ideal.τ).loc Cert.Mix2Ideal.main_arg16)) (m ((c.tc : Thread Cert.Mix2Ideal.nD Cert.Mix2Ideal.τ).loc Cert.Mix2Ideal.main_arg17)) (m ((c.tc : Thread Cert.Mix2Ideal.nD Cert.Mix2Ideal.τ).loc Cert.Mix2Ideal.main_arg18)) (m ((c.tc : Thread Cert.Mix2Ideal.nD Cert.Mix2Ideal.τ).loc Cert.Mix2Ideal.main_arg19))).2.2.2.2 i = 1#1 → r.2.mem ((c.tc : Thread Cert.Mix2RefIdeal.nD Cert.Mix2RefIdeal.τ).loc Cert.Mix2RefIdeal.main_v159) i = v4 c i)
          ∧ r.2.mem ((c.tc : Thread Cert.Mix2RefIdeal.nD Cert.Mix2RefIdeal.τ).loc Cert.Mix2RefIdeal.main_arg0) = m' ((c.tc : Thread Cert.Mix2RefIdeal.nD Cert.Mix2RefIdeal.τ).loc Cert.Mix2RefIdeal.main_arg0)
          ∧ r.2.mem ((c.tc : Thread Cert.Mix2RefIdeal.nD Cert.Mix2RefIdeal.τ).loc Cert.Mix2RefIdeal.main_arg1) = m' ((c.tc : Thread Cert.Mix2RefIdeal.nD Cert.Mix2RefIdeal.τ).loc Cert.Mix2RefIdeal.main_arg1)
          ∧ r.2.mem ((c.tc : Thread Cert.Mix2RefIdeal.nD Cert.Mix2RefIdeal.τ).loc Cert.Mix2RefIdeal.main_arg2) = m' ((c.tc : Thread Cert.Mix2RefIdeal.nD Cert.Mix2RefIdeal.τ).loc Cert.Mix2RefIdeal.main_arg2)
          ∧ r.2.mem ((c.tc : Thread Cert.Mix2RefIdeal.nD Cert.Mix2RefIdeal.τ).loc Cert.Mix2RefIdeal.main_arg3) = m' ((c.tc : Thread Cert.Mix2RefIdeal.nD Cert.Mix2RefIdeal.τ).loc Cert.Mix2RefIdeal.main_arg3)
          ∧ r.2.mem ((c.tc : Thread Cert.Mix2RefIdeal.nD Cert.Mix2RefIdeal.τ).loc Cert.Mix2RefIdeal.main_arg4) = m' ((c.tc : Thread Cert.Mix2RefIdeal.nD Cert.Mix2RefIdeal.τ).loc Cert.Mix2RefIdeal.main_arg4)
          ∧ r.2.mem ((c.tc : Thread Cert.Mix2RefIdeal.nD Cert.Mix2RefIdeal.τ).loc Cert.Mix2RefIdeal.main_arg5) = m' ((c.tc : Thread Cert.Mix2RefIdeal.nD Cert.Mix2RefIdeal.τ).loc Cert.Mix2RefIdeal.main_arg5)
          ∧ r.2.mem ((c.tc : Thread Cert.Mix2RefIdeal.nD Cert.Mix2RefIdeal.τ).loc Cert.Mix2RefIdeal.main_arg6) = m' ((c.tc : Thread Cert.Mix2RefIdeal.nD Cert.Mix2RefIdeal.τ).loc Cert.Mix2RefIdeal.main_arg6)
          ∧ r.2.mem ((c.tc : Thread Cert.Mix2RefIdeal.nD Cert.Mix2RefIdeal.τ).loc Cert.Mix2RefIdeal.main_arg7) = m' ((c.tc : Thread Cert.Mix2RefIdeal.nD Cert.Mix2RefIdeal.τ).loc Cert.Mix2RefIdeal.main_arg7)
          ∧ r.2.mem ((c.tc : Thread Cert.Mix2RefIdeal.nD Cert.Mix2RefIdeal.τ).loc Cert.Mix2RefIdeal.main_arg8) = m' ((c.tc : Thread Cert.Mix2RefIdeal.nD Cert.Mix2RefIdeal.τ).loc Cert.Mix2RefIdeal.main_arg8)
          ∧ r.2.mem ((c.tc : Thread Cert.Mix2RefIdeal.nD Cert.Mix2RefIdeal.τ).loc Cert.Mix2RefIdeal.main_arg9) = m' ((c.tc : Thread Cert.Mix2RefIdeal.nD Cert.Mix2RefIdeal.τ).loc Cert.Mix2RefIdeal.main_arg9)
          ∧ r.2.mem ((c.tc : Thread Cert.Mix2RefIdeal.nD Cert.Mix2RefIdeal.τ).loc Cert.Mix2RefIdeal.main_arg10) = m' ((c.tc : Thread Cert.Mix2RefIdeal.nD Cert.Mix2RefIdeal.τ).loc Cert.Mix2RefIdeal.main_arg10)
          ∧ r.2.mem ((c.tc : Thread Cert.Mix2RefIdeal.nD Cert.Mix2RefIdeal.τ).loc Cert.Mix2RefIdeal.main_arg11) = m' ((c.tc : Thread Cert.Mix2RefIdeal.nD Cert.Mix2RefIdeal.τ).loc Cert.Mix2RefIdeal.main_arg11)
          ∧ r.2.mem ((c.tc : Thread Cert.Mix2RefIdeal.nD Cert.Mix2RefIdeal.τ).loc Cert.Mix2RefIdeal.main_arg12) = m' ((c.tc : Thread Cert.Mix2RefIdeal.nD Cert.Mix2RefIdeal.τ).loc Cert.Mix2RefIdeal.main_arg12)
          ∧ r.2.mem ((c.tc : Thread Cert.Mix2RefIdeal.nD Cert.Mix2RefIdeal.τ).loc Cert.Mix2RefIdeal.main_arg13) = m' ((c.tc : Thread Cert.Mix2RefIdeal.nD Cert.Mix2RefIdeal.τ).loc Cert.Mix2RefIdeal.main_arg13)
          ∧ r.2.mem ((c.tc : Thread Cert.Mix2RefIdeal.nD Cert.Mix2RefIdeal.τ).loc Cert.Mix2RefIdeal.main_arg14) = m' ((c.tc : Thread Cert.Mix2RefIdeal.nD Cert.Mix2RefIdeal.τ).loc Cert.Mix2RefIdeal.main_arg14)
          ∧ r.2.mem ((c.tc : Thread Cert.Mix2RefIdeal.nD Cert.Mix2RefIdeal.τ).loc Cert.Mix2RefIdeal.main_arg15) = m' ((c.tc : Thread Cert.Mix2RefIdeal.nD Cert.Mix2RefIdeal.τ).loc Cert.Mix2RefIdeal.main_arg15)
          ∧ r.2.mem ((c.tc : Thread Cert.Mix2RefIdeal.nD Cert.Mix2RefIdeal.τ).loc Cert.Mix2RefIdeal.main_arg16) = m' ((c.tc : Thread Cert.Mix2RefIdeal.nD Cert.Mix2RefIdeal.τ).loc Cert.Mix2RefIdeal.main_arg16)
          ∧ r.2.mem ((c.tc : Thread Cert.Mix2RefIdeal.nD Cert.Mix2RefIdeal.τ).loc Cert.Mix2RefIdeal.main_arg17) = m' ((c.tc : Thread Cert.Mix2RefIdeal.nD Cert.Mix2RefIdeal.τ).loc Cert.Mix2RefIdeal.main_arg17)
          ∧ r.2.mem ((c.tc : Thread Cert.Mix2RefIdeal.nD Cert.Mix2RefIdeal.τ).loc Cert.Mix2RefIdeal.main_arg18) = m' ((c.tc : Thread Cert.Mix2RefIdeal.nD Cert.Mix2RefIdeal.τ).loc Cert.Mix2RefIdeal.main_arg18)
          ∧ r.2.mem ((c.tc : Thread Cert.Mix2RefIdeal.nD Cert.Mix2RefIdeal.τ).loc Cert.Mix2RefIdeal.main_arg19) = m' ((c.tc : Thread Cert.Mix2RefIdeal.nD Cert.Mix2RefIdeal.τ).loc Cert.Mix2RefIdeal.main_arg19))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v63_0)) (v1 : (c : Dev Cert.FfnIdeal.nD) → Buf (Elt Ideal) ((c.tc : Thread Cert.FfnIdeal.nD Cert.FfnIdeal.τ).loc Cert.FfnIdeal.main_v63_1)) (v2 : (c : Dev Cert.FfnIdeal.nD) → Buf (Elt Ideal) ((c.tc : Thread Cert.FfnIdeal.nD Cert.FfnIdeal.τ).loc Cert.FfnIdeal.main_v63_2)) (v3 : (c : Dev Cert.FfnIdeal.nD) → Buf (Elt Ideal) ((c.tc : Thread Cert.FfnIdeal.nD Cert.FfnIdeal.τ).loc Cert.FfnIdeal.main_v63_3)) (v4 : (c : Dev Cert.FfnIdeal.nD) → Buf (Elt Ideal) ((c.tc : Thread Cert.FfnIdeal.nD Cert.FfnIdeal.τ).loc Cert.FfnIdeal.main_v63_4)) (v5 : (c : Dev Cert.FfnIdeal.nD) → Buf (Elt Ideal) ((c.tc : Thread Cert.FfnIdeal.nD Cert.FfnIdeal.τ).loc Cert.FfnIdeal.main_v63_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v63_0) = v0 c
          ∧ r.2.mem ((c.tc : Thread Cert.FfnIdeal.nD Cert.FfnIdeal.τ).loc Cert.FfnIdeal.main_v63_1) = v1 c
          ∧ r.2.mem ((c.tc : Thread Cert.FfnIdeal.nD Cert.FfnIdeal.τ).loc Cert.FfnIdeal.main_v63_2) = v2 c
          ∧ r.2.mem ((c.tc : Thread Cert.FfnIdeal.nD Cert.FfnIdeal.τ).loc Cert.FfnIdeal.main_v63_3) = v3 c
          ∧ r.2.mem ((c.tc : Thread Cert.FfnIdeal.nD Cert.FfnIdeal.τ).loc Cert.FfnIdeal.main_v63_4) = v4 c
          ∧ r.2.mem ((c.tc : Thread Cert.FfnIdeal.nD Cert.FfnIdeal.τ).loc Cert.FfnIdeal.main_v63_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v110) = v0 c
          ∧ r.2.mem ((c.tc : Thread Cert.FfnRefIdeal.nD Cert.FfnRefIdeal.τ).loc Cert.FfnRefIdeal.main_v113) = v1 c
          ∧ r.2.mem ((c.tc : Thread Cert.FfnRefIdeal.nD Cert.FfnRefIdeal.τ).loc Cert.FfnRefIdeal.main_v115) = v2 c
          ∧ r.2.mem ((c.tc : Thread Cert.FfnRefIdeal.nD Cert.FfnRefIdeal.τ).loc Cert.FfnRefIdeal.main_v116) = v3 c
          ∧ r.2.mem ((c.tc : Thread Cert.FfnRefIdeal.nD Cert.FfnRefIdeal.τ).loc Cert.FfnRefIdeal.main_v117) = v4 c
          ∧ r.2.mem ((c.tc : Thread Cert.FfnRefIdeal.nD Cert.FfnRefIdeal.τ).loc Cert.FfnRefIdeal.main_v118) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v16_0)) (v1 : (c : Dev Cert.MixOutIdeal.nD) → Buf (Elt Ideal) ((c.tc : Thread Cert.MixOutIdeal.nD Cert.MixOutIdeal.τ).loc Cert.MixOutIdeal.main_v16_1)) (v2 : (c : Dev Cert.MixOutIdeal.nD) → Buf (Elt Ideal) ((c.tc : Thread Cert.MixOutIdeal.nD Cert.MixOutIdeal.τ).loc Cert.MixOutIdeal.main_v16_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v16_0) = v0 c
          ∧ r.2.mem ((c.tc : Thread Cert.MixOutIdeal.nD Cert.MixOutIdeal.τ).loc Cert.MixOutIdeal.main_v16_1) = v1 c
          ∧ r.2.mem ((c.tc : Thread Cert.MixOutIdeal.nD Cert.MixOutIdeal.τ).loc Cert.MixOutIdeal.main_v16_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v54) = v0 c
          ∧ r.2.mem ((c.tc : Thread Cert.MixOutRefIdeal.nD Cert.MixOutRefIdeal.τ).loc Cert.MixOutRefIdeal.main_v55) = v1 c
          ∧ r.2.mem ((c.tc : Thread Cert.MixOutRefIdeal.nD Cert.MixOutRefIdeal.τ).loc Cert.MixOutRefIdeal.main_v70) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v17_0)) (v1 : (c : Dev Cert.FfnFwdIdeal.nD) → Buf (Elt Ideal) ((c.tc : Thread Cert.FfnFwdIdeal.nD Cert.FfnFwdIdeal.τ).loc Cert.FfnFwdIdeal.main_v17_1)) (v2 : (c : Dev Cert.FfnFwdIdeal.nD) → Buf (Elt Ideal) ((c.tc : Thread Cert.FfnFwdIdeal.nD Cert.FfnFwdIdeal.τ).loc Cert.FfnFwdIdeal.main_v17_2)) (v3 : (c : Dev Cert.FfnFwdIdeal.nD) → Buf (Elt Ideal) ((c.tc : Thread Cert.FfnFwdIdeal.nD Cert.FfnFwdIdeal.τ).loc Cert.FfnFwdIdeal.main_v17_3)) (v4 : (c : Dev Cert.FfnFwdIdeal.nD) → Buf (Elt Ideal) ((c.tc : Thread Cert.FfnFwdIdeal.nD Cert.FfnFwdIdeal.τ).loc Cert.FfnFwdIdeal.main_v17_4)) (v5 : (c : Dev Cert.FfnFwdIdeal.nD) → Buf (Elt Ideal) ((c.tc : Thread Cert.FfnFwdIdeal.nD Cert.FfnFwdIdeal.τ).loc Cert.FfnFwdIdeal.main_v17_5)) (v6 : (c : Dev Cert.FfnFwdIdeal.nD) → Buf (Elt Ideal) ((c.tc : Thread Cert.FfnFwdIdeal.nD Cert.FfnFwdIdeal.τ).loc Cert.FfnFwdIdeal.main_v17_6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v17_0) = v0 c
          ∧ r.2.mem ((c.tc : Thread Cert.FfnFwdIdeal.nD Cert.FfnFwdIdeal.τ).loc Cert.FfnFwdIdeal.main_v17_1) = v1 c
          ∧ r.2.mem ((c.tc : Thread Cert.FfnFwdIdeal.nD Cert.FfnFwdIdeal.τ).loc Cert.FfnFwdIdeal.main_v17_2) = v2 c
          ∧ r.2.mem ((c.tc : Thread Cert.FfnFwdIdeal.nD Cert.FfnFwdIdeal.τ).loc Cert.FfnFwdIdeal.main_v17_3) = v3 c
          ∧ r.2.mem ((c.tc : Thread Cert.FfnFwdIdeal.nD Cert.FfnFwdIdeal.τ).loc Cert.FfnFwdIdeal.main_v17_4) = v4 c
          ∧ r.2.mem ((c.tc : Thread Cert.FfnFwdIdeal.nD Cert.FfnFwdIdeal.τ).loc Cert.FfnFwdIdeal.main_v17_5) = v5 c
          ∧ r.2.mem ((c.tc : Thread Cert.FfnFwdIdeal.nD Cert.FfnFwdIdeal.τ).loc Cert.FfnFwdIdeal.main_v17_6) = v6 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v42) = v0 c
          ∧ r.2.mem ((c.tc : Thread Cert.FfnFwdRefIdeal.nD Cert.FfnFwdRefIdeal.τ).loc Cert.FfnFwdRefIdeal.main_v44) = v1 c
          ∧ r.2.mem ((c.tc : Thread Cert.FfnFwdRefIdeal.nD Cert.FfnFwdRefIdeal.τ).loc Cert.FfnFwdRefIdeal.main_v46) = v2 c
          ∧ r.2.mem ((c.tc : Thread Cert.FfnFwdRefIdeal.nD Cert.FfnFwdRefIdeal.τ).loc Cert.FfnFwdRefIdeal.main_v48) = v3 c
          ∧ r.2.mem ((c.tc : Thread Cert.FfnFwdRefIdeal.nD Cert.FfnFwdRefIdeal.τ).loc Cert.FfnFwdRefIdeal.main_v50) = v4 c
          ∧ r.2.mem ((c.tc : Thread Cert.FfnFwdRefIdeal.nD Cert.FfnFwdRefIdeal.τ).loc Cert.FfnFwdRefIdeal.main_v51) = v5 c
          ∧ r.2.mem ((c.tc : Thread Cert.FfnFwdRefIdeal.nD Cert.FfnFwdRefIdeal.τ).loc Cert.FfnFwdRefIdeal.main_v66) = v6 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def Claim : Prop :=
  ∃ (hPostNorm : Cert.PostNorm.Facts) (hPostNormIdeal : Cert.PostNormIdeal.Facts) (hPostNormRefIdeal : Cert.PostNormRefIdeal.Facts) (hLoss : Cert.Loss.Facts) (hLossIdeal : Cert.LossIdeal.Facts) (hLossRefIdeal : Cert.LossRefIdeal.Facts) (hMix1 : Cert.Mix1.Facts) (hMix1Ideal : Cert.Mix1Ideal.Facts) (hMix1RefIdeal : Cert.Mix1RefIdeal.Facts) (hMix2 : Cert.Mix2.Facts) (hMix2Ideal : Cert.Mix2Ideal.Facts) (hMix2RefIdeal : Cert.Mix2RefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMixOut : Cert.MixOut.Facts) (hMixOutIdeal : Cert.MixOutIdeal.Facts) (hMixOutRefIdeal : Cert.MixOutRefIdeal.Facts) (hFfnFwd : Cert.FfnFwd.Facts) (hFfnFwdIdeal : Cert.FfnFwdIdeal.Facts) (hFfnFwdRefIdeal : Cert.FfnFwdRefIdeal.Facts) (hAdam : Cert.Adam.Facts) (hAdamIdeal : Cert.AdamIdeal.Facts) (hAdamRefIdeal : Cert.AdamRefIdeal.Facts) (hSum : Cert.Sum.Facts) (hSumIdeal : Cert.SumIdeal.Facts) (hSumRefIdeal : Cert.SumRefIdeal.Facts) (hPre_mix1_finite : Cert.Pre_mix1_finite.Facts) (hPre_ffn_finite : Cert.Pre_ffn_finite.Facts) (hOn_mix2_selected : Cert.On_mix2_selected.Facts),
    quiescent_PostNorm (hPostNorm := hPostNorm)
    ∧ quiescent_PostNormIdeal (hPostNormIdeal := hPostNormIdeal)
    ∧ quiescent_PostNormRefIdeal (hPostNormRefIdeal := hPostNormRefIdeal)
    ∧ quiescent_Loss (hLoss := hLoss)
    ∧ quiescent_LossIdeal (hLossIdeal := hLossIdeal)
    ∧ quiescent_LossRefIdeal (hLossRefIdeal := hLossRefIdeal)
    ∧ quiescent_Mix1 (hMix1 := hMix1)
    ∧ quiescent_Mix1Ideal (hMix1Ideal := hMix1Ideal)
    ∧ quiescent_Mix1Ideal_pre_mix1_finite (hMix1Ideal := hMix1Ideal) (hPre_mix1_finite := hPre_mix1_finite)
    ∧ quiescent_Mix1RefIdeal (hMix1RefIdeal := hMix1RefIdeal)
    ∧ quiescent_Mix1RefIdeal_pre_mix1_finite (hMix1RefIdeal := hMix1RefIdeal) (hPre_mix1_finite := hPre_mix1_finite)
    ∧ quiescent_Mix2 (hMix2 := hMix2)
    ∧ quiescent_Mix2Ideal (hMix2Ideal := hMix2Ideal)
    ∧ quiescent_Mix2RefIdeal (hMix2RefIdeal := hMix2RefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Proj (hProj := hProj)
    ∧ quiescent_ProjIdeal (hProjIdeal := hProjIdeal)
    ∧ quiescent_ProjRefIdeal (hProjRefIdeal := hProjRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sum (hSum := hSum)
    ∧ quiescent_SumIdeal (hSumIdeal := hSumIdeal)
    ∧ quiescent_SumRefIdeal (hSumRefIdeal := hSumRefIdeal)
    ∧ preserves_PostNorm_PostNormIdeal
    ∧ algebraic_PostNormIdeal_PostNormRefIdeal (hPostNormIdeal := hPostNormIdeal) (hPostNormRefIdeal := hPostNormRefIdeal)
    ∧ preserves_Loss_LossIdeal
    ∧ algebraic_LossIdeal_LossRefIdeal (hLossIdeal := hLossIdeal) (hLossRefIdeal := hLossRefIdeal)
    ∧ preserves_Mix1_Mix1Ideal
    ∧ algebraic_Mix1Ideal_Mix1RefIdeal_pre_mix1_finite (hMix1Ideal := hMix1Ideal) (hMix1RefIdeal := hMix1RefIdeal) (hPre_mix1_finite := hPre_mix1_finite)
    ∧ preserves_Mix2_Mix2Ideal
    ∧ algebraic_Mix2Ideal_Mix2RefIdeal_on_mix2_selected (hMix2Ideal := hMix2Ideal) (hMix2RefIdeal := hMix2RefIdeal) (hOn_mix2_selected := hOn_mix2_selected)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Proj_ProjIdeal
    ∧ algebraic_ProjIdeal_ProjRefIdeal (hProjIdeal := hProjIdeal) (hProjRefIdeal := hProjRefIdeal)
    ∧ preserves_MixOut_MixOutIdeal
    ∧ algebraic_MixOutIdeal_MixOutRefIdeal (hMixOutIdeal := hMixOutIdeal) (hMixOutRefIdeal := hMixOutRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Adam_AdamIdeal
    ∧ algebraic_AdamIdeal_AdamRefIdeal (hAdamIdeal := hAdamIdeal) (hAdamRefIdeal := hAdamRefIdeal)
    ∧ preserves_Sum_SumIdeal
    ∧ algebraic_SumIdeal_SumRefIdeal (hSumIdeal := hSumIdeal) (hSumRefIdeal := hSumRefIdeal)
-- ==== On_mix2_selected.lean ====
abbrev S1x8192x1024 : Shape := ⟨3, ![1, 8192, 1024]⟩
abbrev S1024 : Shape := ⟨1, ![1024]⟩
abbrev S1024x3104 : Shape := ⟨2, ![1024, 3104]⟩
abbrev S3x512 : Shape := ⟨2, ![3, 512]⟩
abbrev S16x256 : Shape := ⟨2, ![16, 256]⟩
abbrev S256 : Shape := ⟨1, ![256]⟩
abbrev S1x8192x512 : Shape := ⟨3, ![1, 8192, 512]⟩
abbrev S1x8192x256 : Shape := ⟨3, ![1, 8192, 256]⟩
abbrev S128x512 : Shape := ⟨2, ![128, 512]⟩
abbrev S_ : Shape := ⟨0, ![]⟩
abbrev S8192x3200 : Shape := ⟨2, ![8192, 3200]⟩
abbrev S8192x1024 : Shape := ⟨2, ![8192, 1024]⟩
abbrev S1x1024 : Shape := ⟨2, ![1, 1024]⟩
abbrev S8x512 : Shape := ⟨2, ![8, 512]⟩

class Facts : Prop where
  bcast_S_S8192x3200 : S_.BroadcastsInDim S8192x3200 (![] : Fin 0 → Fin S8192x3200.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S128x512 : S_.BroadcastsInDim S128x512 (![] : Fin 0 → Fin S128x512.rank)
  bcast_S_S8x512 : S_.BroadcastsInDim S8x512 (![] : Fin 0 → Fin S8x512.rank)

variable [Facts]

def fn {F : FTy → Type} [FloatOps F] (main_arg0 : FVec F S1x8192x1024 .f32) (main_arg1 : FVec F S1024 .f32) (main_arg2 : FVec F S1024x3104 .f32) (main_arg3 : FVec F S3x512 .f32) (main_arg4 : FVec F S16x256 .f32) (main_arg5 : FVec F S256 .f32) (main_arg6 : FVec F S16x256 .f32) (main_arg7 : FVec F S256 .f32) (main_arg8 : FVec F S1x8192x512 .f32) (main_arg9 : FVec F S1x8192x512 .f32) (main_arg10 : FVec F S1x8192x512 .f32) (main_arg11 : FVec F S1x8192x256 .f32) (main_arg12 : FVec F S1x8192x256 .f32) (main_arg13 : FVec F S1x8192x512 .f32) (main_arg14 : FVec F S1x8192x256 .f32) (main_arg15 : FVec F S1x8192x256 .f32) (main_arg16 : FVec F S1x8192x256 .f32) (main_arg17 : FVec F S1x8192x512 .f32) (main_arg18 : FVec F S1x8192x256 .f32) (main_arg19 : FVec F S1x8192x1024 .f32) : IVec S8192x3200 1 × IVec S8192x1024 1 × IVec S1x1024 1 × IVec S128x512 1 × IVec S8x512 1 :=
  let main_v0 : IVec S128x512 32 := iotaInDim S128x512 32 0
  let main_v1 : IVec S128x512 32 := iotaInDim S128x512 32 1
  let main_c : IVec S_ 1 := constantI S_ 1 1#1
  let main_v2 : IVec S8192x3200 1 := broadcastInDim S8192x3200 ![] bcast_S_S8192x3200 main_c
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S1x1024 1 := broadcastInDim S1x1024 ![] bcast_S_S1x1024 main_c_1
  let main_c_2 : IVec S_ 32 := constantI S_ 32 16#32
  let main_v5 : IVec S128x512 32 := broadcastInDim S128x512 ![] bcast_S_S128x512 main_c_2
  let main_v6 : IVec S128x512 1 := cmpi .slt main_v0 main_v5
  let main_c_3 : IVec S_ 32 := constantI S_ 32 256#32
  let main_v7 : IVec S128x512 32 := broadcastInDim S128x512 ![] bcast_S_S128x512 main_c_3
  let main_v8 : IVec S128x512 1 := cmpi .slt main_v1 main_v7
  let main_v9 : IVec S128x512 1 := cmpi .eq main_v6 main_v8
  let main_c_4 : IVec S_ 32 := constantI S_ 32 32#32
  let main_v10 : IVec S128x512 32 := broadcastInDim S128x512 ![] bcast_S_S128x512 main_c_4
  let main_v11 : IVec S128x512 1 := cmpi .sge main_v0 main_v10
  let main_v12 : IVec S128x512 1 := ori main_v9 main_v11
  let main_c_5 : IVec S_ 1 := constantI S_ 1 1#1
  let main_v13 : IVec S8x512 1 := broadcastInDim S8x512 ![] bcast_S_S8x512 main_c_5
  (main_v2, main_v3, main_v4, main_v12, main_v13)
-- ==== Pre_ffn_finite.lean ====
abbrev S1x8192x1024 : Shape := ⟨3, ![1, 8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_arg5 : FVec F S1x8192x1024 .f32) (main_v8 : IVec S_ 1) (main_v12 : IVec S_ 1) (main_v15 : IVec S2816x1024 1) (main_c_5 : IVec S_ 1) : IVec S_ 1 :=
  let main_v16 : IVec S_ 1 := (fun x v => Host.reduce IntOp.andi x v reducesTo_S2816x1024_S_d0_1 h_S_) main_v15 main_c_5
  let main_v17 : IVec S_ 1 := andi main_v12 main_v16
  let main_v18 : FVec F S1x8192x1024 .f32 := Host.absf main_arg5
  let main_cst_6 : FVec F S_ .f32 := constant S_ .f32 0x7F800000#32
  let main_v19 : FVec F S1x8192x1024 .f32 := broadcastInDim S1x8192x1024 ![] bcast_S_S1x8192x1024 main_cst_6
  let main_v20 : IVec S1x8192x1024 1 := cmpf .olt main_v18 main_v19
  let main_c_7 : IVec S_ 1 := constantI S_ 1 1#1
  let main_v21 : IVec S_ 1 := (fun x v => Host.reduce IntOp.andi x v reducesTo_S1x8192x1024_S_d0_1_2 h_S_) main_v20 main_c_7
  let main_v22 : IVec S_ 1 := andi main_v17 main_v21
  let main_v23 : IVec S_ 1 := andi main_v8 main_v22
  main_v23

def fn {F : FTy → Type} [FloatOps F] (main_arg0 : FVec F S1x8192x1024 .f32) (main_arg1 : FVec F S1024 .f32) (main_arg2 : FVec F S1024x5632 .f32) (main_arg3 : FVec F S3x5632 .f32) (main_arg4 : FVec F S2816x1024 .f32) (main_arg5 : FVec F S1x8192x1024 .f32) (main_arg6 : FVec F S1x8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : FVec F S2816x1024 .f32 := Host.absf main_arg4
  let main_cst_4 : FVec F S_ .f32 := constant S_ .f32 0x7F800000#32
  let main_v14 : FVec F S2816x1024 .f32 := broadcastInDim S2816x1024 ![] bcast_S_S2816x1024 main_cst_4
  let main_v15 : IVec S2816x1024 1 := cmpf .olt main_v13 main_v14
  let main_c_5 : IVec S_ 1 := constantI S_ 1 1#1
  fn_part1 (F := F) main_arg5 main_v8 main_v12 main_v15 main_c_5
-- ==== Pre_mix1_finite.lean ====
abbrev S1x8192x3104 : Shape := ⟨3, ![1, 8192, 3104]⟩
abbrev S1x4x8192x128 : Shape := ⟨4, ![1, 4, 8192, 128]⟩
abbrev S3x512 : Shape := ⟨2, ![3, 512]⟩
abbrev S128 : Shape := ⟨1, ![128]⟩
abbrev S1024x1024 : Shape := ⟨2, ![1024, 1024]⟩
abbrev S1024 : Shape := ⟨1, ![1024]⟩
abbrev S1x8192x1024 : Shape := ⟨3, ![1, 8192, 1024]⟩
abbrev S_ : Shape := ⟨0, ![]⟩

class Facts : Prop where
  bcast_S_S1x8192x3104 : S_.BroadcastsInDim S1x8192x3104 (![] : Fin 0 → Fin S1x8192x3104.rank)
  reducesTo_S1x8192x3104_S_d0_1_2 : S1x8192x3104.ReducesTo [0, 1, 2] S_
  h_S_ : 0 < S_.numel
  bcast_S_S1x4x8192x128 : S_.BroadcastsInDim S1x4x8192x128 (![] : Fin 0 → Fin S1x4x8192x128.rank)
  reducesTo_S1x4x8192x128_S_d0_1_2_3 : S1x4x8192x128.ReducesTo [0, 1, 2, 3] S_
  bcast_S_S3x512 : S_.BroadcastsInDim S3x512 (![] : Fin 0 → Fin S3x512.rank)
  reducesTo_S3x512_S_d0_1 : S3x512.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part2 {F : FTy → Type} [FloatOps F] (main_v18 : IVec S_ 1) (main_v32 : IVec S_ 1) (main_v33 : FVec F S1x8192x1024 .f32) : IVec S_ 1 :=
  let main_cst_12 : FVec F S_ .f32 := constant S_ .f32 0x7F800000#32
  let main_v34 : FVec F S1x8192x1024 .f32 := broadcastInDim S1x8192x1024 ![] bcast_S_S1x8192x1024 main_cst_12
  let main_v35 : IVec S1x8192x1024 1 := cmpf .olt main_v33 main_v34
  let main_c_13 : IVec S_ 1 := constantI S_ 1 1#1
  let main_v36 : IVec S_ 1 := (fun x v => Host.reduce IntOp.andi x v reducesTo_S1x8192x1024_S_d0_1_2 h_S_) main_v35 main_c_13
  let main_v37 : IVec S_ 1 := andi main_v32 main_v36
  let main_v38 : IVec S_ 1 := andi main_v18 main_v37
  main_v38

def fn_part1 {F : FTy → Type} [FloatOps F] (main_arg4 : FVec F S128 .f32) (main_arg5 : FVec F S1024x1024 .f32) (main_arg6 : FVec F S1024 .f32) (main_arg7 : FVec F S1x8192x1024 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : FVec F S1024x1024 .f32 := Host.absf main_arg5
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_v23 main_v24
  let main_c_9 : IVec S_ 1 := constantI S_ 1 1#1
  let main_v26 : IVec S_ 1 := (fun x v => Host.reduce IntOp.andi x v reducesTo_S1024x1024_S_d0_1 h_S_) main_v25 main_c_9
  let main_v27 : IVec S_ 1 := andi main_v22 main_v26
  let main_v28 : FVec F S1024 .f32 := Host.absf main_arg6
  let main_cst_10 : FVec F S_ .f32 := constant S_ .f32 0x7F800000#32
  let main_v29 : FVec F S1024 .f32 := broadcastInDim S1024 ![] bcast_S_S1024 main_cst_10
  let main_v30 : IVec S1024 1 := cmpf .olt main_v28 main_v29
  let main_c_11 : IVec S_ 1 := constantI S_ 1 1#1
  let main_v31 : IVec S_ 1 := (fun x v => Host.reduce IntOp.andi x v reducesTo_S1024_S_d0 h_S_) main_v30 main_c_11
  let main_v32 : IVec S_ 1 := andi main_v27 main_v31
  let main_v33 : FVec F S1x8192x1024 .f32 := Host.absf main_arg7
  fn_part2 (F := F) main_v18 main_v32 main_v33

def fn {F : FTy → Type} [FloatOps F] (main_arg0 : FVec F S1x8192x3104 .f32) (main_arg1 : FVec F S1x4x8192x128 .f32) (main_arg2 : FVec F S1x4x8192x128 .f32) (main_arg3 : FVec F S3x512 .f32) (main_arg4 : FVec F S128 .f32) (main_arg5 : FVec F S1024x1024 .f32) (main_arg6 : FVec F S1024 .f32) (main_arg7 : FVec F S1x8192x1024 .f32) : IVec S_ 1 :=
  let main_v0 : FVec F S1x8192x3104 .f32 := Host.absf main_arg0
  let main_cst : FVec F S_ .f32 := constant S_ .f32 0x7F800000#32
  let main_v1 : FVec F S1x8192x3104 .f32 := broadcastInDim S1x8192x3104 ![] bcast_S_S1x8192x3104 main_cst
  let main_v2 : IVec S1x8192x3104 1 := cmpf .olt main_v0 main_v1
  let main_c : IVec S_ 1 := constantI S_ 1 1#1
  let main_v3 : IVec S_ 1 := (fun x v => Host.reduce IntOp.andi x v reducesTo_S1x8192x3104_S_d0_1_2 h_S_) main_v2 main_c
  let main_v4 : FVec F S1x4x8192x128 .f32 := Host.absf main_arg1
  let main_cst_0 : FVec F S_ .f32 := constant S_ .f32 0x7F800000#32
  let main_v5 : FVec F S1x4x8192x128 .f32 := broadcastInDim S1x4x8192x128 ![] bcast_S_S1x4x8192x128 main_cst_0
  let main_v6 : IVec S1x4x8192x128 1 := cmpf .olt main_v4 main_v5
  let main_c_1 : IVec S_ 1 := constantI S_ 1 1#1
  let main_v7 : IVec S_ 1 := (fun x v => Host.reduce IntOp.andi x v reducesTo_S1x4x8192x128_S_d0_1_2_3 h_S_) main_v6 main_c_1
  let main_v8 : IVec S_ 1 := andi main_v3 main_v7
  let main_v9 : FVec F S1x4x8192x128 .f32 := Host.absf main_arg2
  let main_cst_2 : FVec F S_ .f32 := constant S_ .f32 0x7F800000#32
  let main_v10 : FVec F S1x4x8192x128 .f32 := broadcastInDim S1x4x8192x128 ![] bcast_S_S1x4x8192x128 main_cst_2
  let main_v11 : IVec S1x4x8192x128 1 := cmpf .olt main_v9 main_v10
  let main_c_3 : IVec S_ 1 := constantI S_ 1 1#1
  let main_v12 : IVec S_ 1 := (fun x v => Host.reduce IntOp.andi x v reducesTo_S1x4x8192x128_S_d0_1_2_3 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_v13 main_v16
-- ==== PostNorm.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostNormRefIdeal.lean ====
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S_, .f32⟩
  | .hbm, ⟨25, _⟩ => ⟨S1x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1024, .f32⟩
  | .hbm, ⟨31, _⟩ => ⟨S1x8192x1024, .f32⟩
  | .hbm, ⟨32, _⟩ => ⟨S_, .f32⟩
  | .hbm, ⟨33, _⟩ => ⟨S1x8192, .f32⟩
  | .hbm, ⟨34, _⟩ => ⟨S1x8192x1, .f32⟩
  | .hbm, ⟨35, _⟩ => ⟨S1x8192x1024, .f32⟩
  | .hbm, ⟨36, _⟩ => ⟨S1x8192x1024, .f32⟩
  | .hbm, ⟨37, _⟩ => ⟨S1x8192x1, .f32⟩
  | .hbm, ⟨38, _⟩ => ⟨S_, .f32⟩
  | .hbm, ⟨39, _⟩ => ⟨S1x8192x1, .f32⟩
  | .hbm, ⟨40, _⟩ => ⟨S1x8192x1, .f32⟩
  | .hbm, ⟨41, _⟩ => ⟨S_, .f32⟩
  | .hbm, ⟨42, _⟩ => ⟨S8192, .f32⟩
  | .hbm, ⟨43, _⟩ => ⟨S1x8192, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S8192x1024, .f32⟩
  | .hbm, ⟨50, _⟩ => ⟨S8192x1024, .bf16⟩
  | .hbm, ⟨51, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Loss.lean ====
abbrev S1x8192x1024 : Shape := ⟨3, ![1, 8192, 1024]⟩
abbrev S8192x1024 : Shape := ⟨2, ![8192, 1024]⟩
abbrev S8x128 : Shape := ⟨2, ![8, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x8192x1024 : Shape := ⟨3, ![1, 8192, 1024]⟩
abbrev S_ : Shape := ⟨0, ![]⟩
abbrev S1x8192 : Shape := ⟨2, ![1, 8192]⟩
abbrev S8192x1024 : Shape := ⟨2, ![8192, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192x1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x8192, .f32⟩
  | .hbm, ⟨20, _⟩ => ⟨S_, .f32⟩
  | .hbm, ⟨21, _⟩ => ⟨S1x8192, .f32⟩
  | .hbm, ⟨22, _⟩ => ⟨S1x8192, .f32⟩
  | .hbm, ⟨23, _⟩ => ⟨S1x8192x1024, .f32⟩
  | .hbm, ⟨24, _⟩ => ⟨S1x8192x1024, .f32⟩
  | .hbm, ⟨25, _⟩ => ⟨S8192x1024, .f32⟩
  | .hbm, ⟨26, _⟩ => ⟨S8x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Mix1.lean ====
abbrev S1x8192x3104 : Shape := ⟨3, ![1, 8192, 3104]⟩
abbrev S1x4x8192x128 : Shape := ⟨4, ![1, 4, 8192, 128]⟩
abbrev S3x512 : Shape := ⟨2, ![3, 512]⟩
abbrev S128 : Shape := ⟨1, ![128]⟩
abbrev S1024x1024 : Shape := ⟨2, ![1024, 1024]⟩
abbrev S1024 : Shape := ⟨1, ![1024]⟩
abbrev S1x8192x1024 : Shape := ⟨3, ![1, 8192, 1024]⟩
abbrev S1x8192x512 : Shape := ⟨3, ![1, 8192, 512]⟩
abbrev S1x8192x256 : Shape := ⟨3, ![1, 8192, 256]⟩
abbrev S1x8192x16 : Shape := ⟨3, ![1, 8192, 16]⟩
abbrev S_ : Shape := ⟨0, ![]⟩
abbrev S1x1x512 : Shape := ⟨3, ![1, 1, 512]⟩
abbrev S1x8194x512 : Shape := ⟨3, ![1, 8194, 512]⟩
abbrev S1x512 : Shape := ⟨2, ![1, 512]⟩
abbrev S512 : Shape := ⟨1, ![512]⟩
abbrev S1x4x8192 : Shape := ⟨3, ![1, 4, 8192]⟩
abbrev S1x4x8192x1 : Shape := ⟨4, ![1, 4, 8192, 1]⟩
abbrev S1x1x1x128 : Shape := ⟨4, ![1, 1, 1, 128]⟩
abbrev S1x8192x4x128 : Shape := ⟨4, ![1, 8192, 4, 128]⟩
abbrev S8192x3104 : Shape := ⟨2, ![8192, 3104]⟩
abbrev S8192x3200 : Shape := ⟨2, ![8192, 3200]⟩
abbrev S8192x1024 : Shape := ⟨2, ![8192, 1024]⟩
abbrev S1x1024 : Shape := ⟨2, ![1, 1024]⟩
abbrev S8192x512 : Shape := ⟨2, ![8192, 512]⟩
abbrev S1x128 : Shape := ⟨2, ![1, 128]⟩
abbrev S4x128 : Shape := ⟨2, ![4, 128]⟩
abbrev S8x512 : Shape := ⟨2, ![8, 512]⟩
abbrev S8x128 : Shape := ⟨2, ![8, 128]⟩
abbrev S512x1024 : Shape := ⟨2, ![512, 1024]⟩
abbrev S512x512 : Shape := ⟨2, ![512, 512]⟩
abbrev S16x512 : Shape := ⟨2, ![16, 512]⟩
abbrev S512x1 : Shape := ⟨2, ![512, 1]⟩
abbrev S528x512 : Shape := ⟨2, ![528, 512]⟩
abbrev S512x128 : Shape := ⟨2, ![512, 128]⟩

abbrev nBuf : Space → Nat
  | .hbm => 102
  | .vmem => 42
  | .smem => 0
  | _ => 0

abbrev bufTy : (tb : Table) → Fin (tcTables nBuf tb) → BufTy
  | .hbm, ⟨0, _⟩ => ⟨S1x8192x3104, .f32⟩
  | .hbm, ⟨1, _⟩ => ⟨S1x4x8192x128, .f32⟩
  | .hbm, ⟨2, _⟩ => ⟨S1x4x8192x128, .f32⟩
  | .hbm, ⟨3, _⟩ => ⟨S3x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1x8192x1024, .f32⟩
  | .hbm, ⟨8, _⟩ => ⟨S1x8192x512, .f32⟩
  | .hbm, ⟨9, _⟩ => ⟨S1x8192x512, .f32⟩
  | .hbm, ⟨10, _⟩ => ⟨S1x8192x512, .f32⟩
  | .hbm, ⟨11, _⟩ => ⟨S1x8192x256, .f32⟩
  | .hbm, ⟨12, _⟩ => ⟨S1x8192x256, .f32⟩
  | .hbm, ⟨13, _⟩ => ⟨S1x8192x512, .f32⟩
  | .hbm, ⟨14, _⟩ => ⟨S1x8192x512, .f32⟩
  | .hbm, ⟨15, _⟩ => ⟨S1x8192x16, .f32⟩
  | .hbm, ⟨16, _⟩ => ⟨S1x8192x16, .f32⟩
  | .hbm, ⟨17, _⟩ => ⟨S1x8192x512, .f32⟩
  | .hbm, ⟨18, _⟩ => ⟨S_, .f32⟩
  | .hbm, ⟨19, _⟩ => ⟨S1x1x512, .f32⟩
  | .hbm, ⟨20, _⟩ => ⟨S1x8194x512, .f32⟩
  | .hbm, ⟨21, _⟩ => ⟨S1x512, .f32⟩
  | .hbm, ⟨22, _⟩ => ⟨S512, .f32⟩
  | .hbm, ⟨23, _⟩ => ⟨S1x8192x512, .f32⟩
  | .hbm, ⟨24, _⟩ => ⟨S1x1x512, .f32⟩
  | .hbm, ⟨25, _⟩ => ⟨S1x8192x512, .f32⟩
  | .hbm, ⟨26, _⟩ => ⟨S1x8192x512, .f32⟩
  | .hbm, ⟨27, _⟩ => ⟨S1x512, .f32⟩
  | .hbm, ⟨28, _⟩ => ⟨S512, .f32⟩
  | .hbm, ⟨29, _⟩ => ⟨S1x8192x512, .f32⟩
  | .hbm, ⟨30, _⟩ => ⟨S1x1x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S1x512, .f32⟩
  | .hbm, ⟨35, _⟩ => ⟨S512, .f32⟩
  | .hbm, ⟨36, _⟩ => ⟨S1x8192x512, .f32⟩
  | .hbm, ⟨37, _⟩ => ⟨S1x1x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S1x4x8192x128, .f32⟩
  | .hbm, ⟨42, _⟩ => ⟨S1x8192x512, .f32⟩
  | .hbm, ⟨43, _⟩ => ⟨S1x8192x512, .f32⟩
  | .hbm, ⟨44, _⟩ => ⟨S1x8192x512, .f32⟩
  | .hbm, ⟨45, _⟩ => ⟨S_, .f32⟩
  | .hbm, ⟨46, _⟩ => ⟨S1x8192x512, .f32⟩
  | .hbm, ⟨47, _⟩ => ⟨S1x8192x512, .f32⟩
  | .hbm, ⟨48, _⟩ => ⟨S_, .f32⟩
  | .hbm, ⟨49, _⟩ => ⟨S1x8192x512, .f32⟩
  | .hbm, ⟨50, _⟩ => ⟨S1x8192x512, .f32⟩
  | .hbm, ⟨51, _⟩ => ⟨S1x8192x512, .f32⟩
  | .hbm, ⟨52, _⟩ => ⟨S1x4x8192x128, .f32⟩
  | .hbm, ⟨53, _⟩ => ⟨S_, .f32⟩
  | .hbm, ⟨54, _⟩ => ⟨S1x4x8192, .f32⟩
  | .hbm, ⟨55, _⟩ => ⟨S1x4x8192x1, .f32⟩
  | .hbm, ⟨56, _⟩ => ⟨S_, .f32⟩
  | .hbm, ⟨57, _⟩ => ⟨S1x4x8192x1, .f32⟩
  | .hbm, ⟨58, _⟩ => ⟨S1x4x8192x1, .f32⟩
  | .hbm, ⟨59, _⟩ => ⟨S_, .f32⟩
  | .hbm, ⟨60, _⟩ => ⟨S1x4x8192x1, .f32⟩
  | .hbm, ⟨61, _⟩ => ⟨S1x4x8192x1, .f32⟩
  | .hbm, ⟨62, _⟩ => ⟨S1x4x8192x1, .f32⟩
  | .hbm, ⟨63, _⟩ => ⟨S1x4x8192x128, .f32⟩
  | .hbm, ⟨64, _⟩ => ⟨S1x4x8192x128, .f32⟩
  | .hbm, ⟨65, _⟩ => ⟨S1x1x1x128, .f32⟩
  | .hbm, ⟨66, _⟩ => ⟨S1x4x8192x128, .f32⟩
  | .hbm, ⟨67, _⟩ => ⟨S1x4x8192x128, .f32⟩
  | .hbm, ⟨68, _⟩ => ⟨S1x8192x4x128, .f32⟩
  | .hbm, ⟨69, _⟩ => ⟨S1x8192x512, .f32⟩
  | .hbm, ⟨70, _⟩ => ⟨S1x8192x512, .f32⟩
  | .hbm, ⟨71, _⟩ => ⟨S1x8192x1024, .f32⟩
  | .hbm, ⟨72, _⟩ => ⟨S1x8192x1024, .f32⟩
  | .hbm, ⟨73, _⟩ => ⟨S8192x3104, .f32⟩
  | .hbm, ⟨74, _⟩ => ⟨S_, .i32⟩
  | .hbm, ⟨75, _⟩ => ⟨S_, .f32⟩
  | .hbm, ⟨76, _⟩ => ⟨S8192x3200, .f32⟩
  | .hbm, ⟨77, _⟩ => ⟨S8192x3200, .bf16⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .bf16⟩
  | .hbm, ⟨83, _⟩ => ⟨S1024x1024, .bf16⟩
  | .hbm, ⟨84, _⟩ => ⟨S1x8192x4x128, .f32⟩
  | .hbm, ⟨85, _⟩ => ⟨S8192x512, .f32⟩
  | .hbm, ⟨86, _⟩ => ⟨S8192x512, .bf16⟩
  | .hbm, ⟨87, _⟩ => ⟨S1x8192x4x128, .f32⟩
  | .hbm, ⟨88, _⟩ => ⟨S8192x512, .f32⟩
  | .hbm, ⟨89, _⟩ => ⟨S8192x512, .bf16⟩
  | .hbm, ⟨90, _⟩ => ⟨S1x128, .f32⟩
  | .hbm, ⟨91, _⟩ => ⟨S4x128, .f32⟩
  | .hbm, ⟨92, _⟩ => ⟨S512, .f32⟩
  | .hbm, ⟨93, _⟩ => ⟨S1x512, .f32⟩
  | .hbm, ⟨94, _⟩ => ⟨S8192x512, .bf16⟩
  | .hbm, ⟨95, _⟩ => ⟨S8192x512, .bf16⟩
  | .hbm, ⟨96, _⟩ => ⟨S8192x512, .bf16⟩
  | .hbm, ⟨97, _⟩ => ⟨S8192x512, .bf16⟩
  | .hbm, ⟨98, _⟩ => ⟨S8x512, .f32⟩
  | .hbm, ⟨99, _⟩ => ⟨S8x128, .f32⟩
  | .hbm, ⟨100, _⟩ => ⟨S1x1024, .f32⟩
  | .hbm, ⟨101, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S16x512, .bf16⟩
  | .local _ .vmem, ⟨17, _⟩ => ⟨S16x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S16x512, .bf16⟩
  | .local _ .vmem, ⟨23, _⟩ => ⟨S16x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S3x512, .f32⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S8x512, .f32⟩
  | .local _ .vmem, ⟨39, _⟩ => ⟨S8x128, .f32⟩
  | .local _ .vmem, ⟨40, _⟩ => ⟨S1x1024, .f32⟩
  | .local _ .vmem, ⟨41, _⟩ => ⟨S1024x1024, .f32⟩
  | _, _ => ⟨S1x8192x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩
abbrev main_cst_1 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c : Ref sig .tc := ⟨.hbm, 74, rfl⟩
abbrev main_call1_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72_0 : Ref sig .tc := ⟨.hbm, 94, rfl⟩
abbrev main_v72_1 : Ref sig .tc := ⟨.hbm, 95, rfl⟩
abbrev main_v72_2 : Ref sig .tc := ⟨.hbm, 96, rfl⟩
abbrev main_v72_3 : Ref sig .tc := ⟨.hbm, 97, rfl⟩
abbrev main_v72_4 : Ref sig .tc := ⟨.hbm, 98, rfl⟩
abbrev main_v72_5 : Ref sig .tc := ⟨.hbm, 99, rfl⟩
abbrev main_v72_6 : Ref sig .tc := ⟨.hbm, 100, rfl⟩
abbrev main_v72_7 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Mix1RefIdeal.lean ====
abbrev S1x8192x3104 : Shape := ⟨3, ![1, 8192, 3104]⟩
abbrev S1x4x8192x128 : Shape := ⟨4, ![1, 4, 8192, 128]⟩
abbrev S3x512 : Shape := ⟨2, ![3, 512]⟩
abbrev S128 : Shape := ⟨1, ![128]⟩
abbrev S1024x1024 : Shape := ⟨2, ![1024, 1024]⟩
abbrev S1024 : Shape := ⟨1, ![1024]⟩
abbrev S1x8192x1024 : Shape := ⟨3, ![1, 8192, 1024]⟩
abbrev S1x8192x512 : Shape := ⟨3, ![1, 8192, 512]⟩
abbrev S1x8192x256 : Shape := ⟨3, ![1, 8192, 256]⟩
abbrev S1x8192x16 : Shape := ⟨3, ![1, 8192, 16]⟩
abbrev S_ : Shape := ⟨0, ![]⟩
abbrev S1x1x512 : Shape := ⟨3, ![1, 1, 512]⟩
abbrev S1x8194x512 : Shape := ⟨3, ![1, 8194, 512]⟩
abbrev S1x512 : Shape := ⟨2, ![1, 512]⟩
abbrev S512 : Shape := ⟨1, ![512]⟩
abbrev S1x4x8192 : Shape := ⟨3, ![1, 4, 8192]⟩
abbrev S1x4x8192x1 : Shape := ⟨4, ![1, 4, 8192, 1]⟩
abbrev S1x1x1x128 : Shape := ⟨4, ![1, 1, 1, 128]⟩
abbrev S1x8192x4x128 : Shape := ⟨4, ![1, 8192, 4, 128]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x128 : Shape := ⟨2, ![1, 128]⟩
abbrev S4x8192 : Shape := ⟨2, ![4, 8192]⟩
abbrev S8192x512 : Shape := ⟨2, ![8192, 512]⟩
abbrev S8x512 : Shape := ⟨2, ![8, 512]⟩
abbrev S8x128 : Shape := ⟨2, ![8, 128]⟩

abbrev nBuf : Space → Nat
  | .hbm => 214
  | .vmem => 0
  | .smem => 0
  | _ => 0

abbrev hbmTy0_0 (i : Nat) : BufTy := match i % 128 with
  | 0 => ⟨S1x8192x3104, .f32⟩
  | 1 => ⟨S1x4x8192x128, .f32⟩
  | 2 => ⟨S1x4x8192x128, .f32⟩
  | 3 => ⟨S3x512, .f32⟩
  | 4 => ⟨S128, .f32⟩
  | 5 => ⟨S1024x1024, .f32⟩
  | 6 => ⟨S1024, .f32⟩
  | 7 => ⟨S1x8192x1024, .f32⟩
  | 8 => ⟨S1x8192x512, .f32⟩
  | 9 => ⟨S1x8192x512, .f32⟩
  | 10 => ⟨S1x8192x512, .f32⟩
  | 11 => ⟨S1x8192x256, .f32⟩
  | 12 => ⟨S1x8192x256, .f32⟩
  | 13 => ⟨S1x8192x512, .f32⟩
  | 14 => ⟨S1x8192x512, .f32⟩
  | 15 => ⟨S1x8192x16, .f32⟩
  | 16 => ⟨S1x8192x16, .f32⟩
  | 17 => ⟨S1x8192x512, .f32⟩
  | 18 => ⟨S_, .f32⟩
  | 19 => ⟨S1x1x512, .f32⟩
  | 20 => ⟨S1x8194x512, .f32⟩
  | 21 => ⟨S1x512, .f32⟩
  | 22 => ⟨S512, .f32⟩
  | 23 => ⟨S1x8192x512, .f32⟩
  | 24 => ⟨S1x1x512, .f32⟩
  | 25 => ⟨S1x8192x512, .f32⟩
  | 26 => ⟨S1x8192x512, .f32⟩
  | 27 => ⟨S1x512, .f32⟩
  | 28 => ⟨S512, .f32⟩
  | 29 => ⟨S1x8192x512, .f32⟩
  | 30 => ⟨S1x1x512, .f32⟩
  | 31 => ⟨S1x8192x512, .f32⟩
  | 32 => ⟨S1x8192x512, .f32⟩
  | 33 => ⟨S1x8192x512, .f32⟩
  | 34 => ⟨S1x512, .f32⟩
  | 35 => ⟨S512, .f32⟩
  | 36 => ⟨S1x8192x512, .f32⟩
  | 37 => ⟨S1x1x512, .f32⟩
  | 38 => ⟨S1x8192x512, .f32⟩
  | 39 => ⟨S1x8192x512, .f32⟩
  | 40 => ⟨S1x8192x512, .f32⟩
  | 41 => ⟨S1x4x8192x128, .f32⟩
  | 42 => ⟨S1x8192x512, .f32⟩
  | 43 => ⟨S1x8192x512, .f32⟩
  | 44 => ⟨S1x8192x512, .f32⟩
  | 45 => ⟨S_, .f32⟩
  | 46 => ⟨S1x8192x512, .f32⟩
  | 47 => ⟨S1x8192x512, .f32⟩
  | 48 => ⟨S_, .f32⟩
  | 49 => ⟨S1x8192x512, .f32⟩
  | 50 => ⟨S1x8192x512, .f32⟩
  | 51 => ⟨S_, .f32⟩
  | 52 => ⟨S1x8192x512, .f32⟩
  | 53 => ⟨S1x8192x512, .f32⟩
  | 54 => ⟨S1x8192x512, .f32⟩
  | 55 => ⟨S1x8192x512, .f32⟩
  | 56 => ⟨S1x4x8192x128, .f32⟩
  | 57 => ⟨S_, .f32⟩
  | 58 => ⟨S1x4x8192, .f32⟩
  | 59 => ⟨S1x4x8192x1, .f32⟩
  | 60 => ⟨S_, .f32⟩
  | 61 => ⟨S1x4x8192x1, .f32⟩
  | 62 => ⟨S1x4x8192x1, .f32⟩
  | 63 => ⟨S_, .f32⟩
  | 64 => ⟨S1x4x8192x1, .f32⟩
  | 65 => ⟨S1x4x8192x1, .f32⟩
  | 66 => ⟨S1x4x8192x1, .f32⟩
  | 67 => ⟨S1x4x8192x1, .f32⟩
  | 68 => ⟨S_, .f32⟩
  | 69 => ⟨S1x4x8192x1, .f32⟩
  | 70 => ⟨S1x4x8192x1, .f32⟩
  | 71 => ⟨S1x4x8192x128, .f32⟩
  | 72 => ⟨S1x4x8192x128, .f32⟩
  | 73 => ⟨S1x1x1x128, .f32⟩
  | 74 => ⟨S1x4x8192x128, .f32⟩
  | 75 => ⟨S1x4x8192x128, .f32⟩
  | 76 => ⟨S1x8192x4x128, .f32⟩
  | 77 => ⟨S1x8192x512, .f32⟩
  | 78 => ⟨S1x8192x512, .f32⟩
  | 79 => ⟨S1x8192x1024, .f32⟩
  | 80 => ⟨S1x8192x1024, .f32⟩
  | 81 => ⟨S1x8192x1024, .f32⟩
  | 82 => ⟨S_, .f32⟩
  | 83 => ⟨S1x8192, .f32⟩
  | 84 => ⟨S1x8192x1, .f32⟩
  | 85 => ⟨S_, .f32⟩
  | 86 => ⟨S1x8192x1, .f32⟩
  | 87 => ⟨S1x8192x1, .f32⟩
  | 88 => ⟨S_, .f32⟩
  | 89 => ⟨S1x8192x1, .f32⟩
  | 90 => ⟨S1x8192x1, .f32⟩
  | 91 => ⟨S1x8192x1, .f32⟩
  | 92 => ⟨S1x8192x1, .f32⟩
  | 93 => ⟨S_, .f32⟩
  | 94 => ⟨S1x8192x1, .f32⟩
  | 95 => ⟨S1x8192x1, .f32⟩
  | 96 => ⟨S1x8192x1024, .f32⟩
  | 97 => ⟨S1x8192x1024, .f32⟩
  | 98 => ⟨S1x1x1024, .f32⟩
  | 99 => ⟨S1x8192x1024, .f32⟩
  | 100 => ⟨S1x8192x1024, .f32⟩
  | 101 => ⟨S1x8192x1024, .f32⟩
  | 102 => ⟨S_, .f32⟩
  | 103 => ⟨S1x1024, .f32⟩
  | 104 => ⟨S1x1x1024, .f32⟩
  | 105 => ⟨S1x8192x1024, .f32⟩
  | 106 => ⟨S1x8192x1024, .f32⟩
  | 107 => ⟨S_, .f32⟩
  | 108 => ⟨S1024, .f32⟩
  | 109 => ⟨S1x8192x1024, .f32⟩
  | 110 => ⟨S_, .f32⟩
  | 111 => ⟨S1x8192, .f32⟩
  | 112 => ⟨S1x8192x1, .f32⟩
  | 113 => ⟨S1x8192x1024, .f32⟩
  | 114 => ⟨S1x8192x1024, .f32⟩
  | 115 => ⟨S1x8192x1, .f32⟩
  | 116 => ⟨S_, .f32⟩
  | 117 => ⟨S1x8192x1, .f32⟩
  | 118 => ⟨S1x8192x1, .f32⟩
  | 119 => ⟨S_, .f32⟩
  | 120 => ⟨S8192, .f32⟩
  | 121 => ⟨S1x8192, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x8192x1024, .f32⟩
  | 127 => ⟨S1024x1024, .f32⟩
  | _ => ⟨S1x8192x3104, .f32⟩

abbrev hbmTy0_1 (i : Nat) : BufTy := match i % 128 with
  | 0 => ⟨S1024x1024, .f32⟩
  | 1 => ⟨S1x8192x1024, .f32⟩
  | 2 => ⟨S1x8192x512, .f32⟩
  | 3 => ⟨S1x8192x512, .f32⟩
  | 4 => ⟨S1x8192x512, .f32⟩
  | 5 => ⟨S1x8192x512, .f32⟩
  | 6 => ⟨S1x8192x4x128, .f32⟩
  | 7 => ⟨S1x4x8192x128, .f32⟩
  | 8 => ⟨S1x4x8192x128, .f32⟩
  | 9 => ⟨S_, .f32⟩
  | 10 => ⟨S1x128, .f32⟩
  | 11 => ⟨S1x1x1x128, .f32⟩
  | 12 => ⟨S1x4x8192x128, .f32⟩
  | 13 => ⟨S1x4x8192x128, .f32⟩
  | 14 => ⟨S_, .f32⟩
  | 15 => ⟨S128, .f32⟩
  | 16 => ⟨S1x4x8192x128, .f32⟩
  | 17 => ⟨S_, .f32⟩
  | 18 => ⟨S1x4x8192, .f32⟩
  | 19 => ⟨S1x4x8192x1, .f32⟩
  | 20 => ⟨S1x4x8192x128, .f32⟩
  | 21 => ⟨S1x4x8192x128, .f32⟩
  | 22 => ⟨S1x4x8192x1, .f32⟩
  | 23 => ⟨S_, .f32⟩
  | 24 => ⟨S1x4x8192x1, .f32⟩
  | 25 => ⟨S1x4x8192x1, .f32⟩
  | 26 => ⟨S_, .f32⟩
  | 27 => ⟨S4x8192, .f32⟩
  | 28 => ⟨S1x4x8192, .f32⟩
  | 29 => ⟨S1x4x8192x128, .f32⟩
  | 30 => ⟨S1x4x8192x128, .f32⟩
  | 31 => ⟨S1x4x8192x128, .f32⟩
  | 32 => ⟨S1x4x8192x128, .f32⟩
  | 33 => ⟨S1x4x8192x128, .f32⟩
  | 34 => ⟨S1x8192x512, .f32⟩
  | 35 => ⟨S1x8192x512, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S_, .f32⟩
  | 42 => ⟨S1x512, .f32⟩
  | 43 => ⟨S1x1x512, .f32⟩
  | 44 => ⟨S_, .f32⟩
  | 45 => ⟨S512, .f32⟩
  | 46 => ⟨S1x512, .f32⟩
  | 47 => ⟨S_, .f32⟩
  | 48 => ⟨S3x512, .f32⟩
  | 49 => ⟨S1x8192x512, .f32⟩
  | 50 => ⟨S_, .f32⟩
  | 51 => ⟨S1x512, .f32⟩
  | 52 => ⟨S1x1x512, .f32⟩
  | 53 => ⟨S_, .f32⟩
  | 54 => ⟨S512, .f32⟩
  | 55 => ⟨S1x512, .f32⟩
  | 56 => ⟨S_, .f32⟩
  | 57 => ⟨S3x512, .f32⟩
  | 58 => ⟨S3x512, .f32⟩
  | 59 => ⟨S1x8192x512, .f32⟩
  | 60 => ⟨S_, .f32⟩
  | 61 => ⟨S1x512, .f32⟩
  | 62 => ⟨S1x1x512, .f32⟩
  | 63 => ⟨S_, .f32⟩
  | 64 => ⟨S512, .f32⟩
  | 65 => ⟨S1x512, .f32⟩
  | 66 => ⟨S_, .f32⟩
  | 67 => ⟨S3x512, .f32⟩
  | 68 => ⟨S3x512, .f32⟩
  | 69 => ⟨S8192x512, .f32⟩
  | 70 => ⟨S8192x512, .bf16⟩
  | 71 => ⟨S8192x512, .f32⟩
  | 72 => ⟨S8192x512, .bf16⟩
  | 73 => ⟨S8192x512, .f32⟩
  | 74 => ⟨S8192x512, .bf16⟩
  | 75 => ⟨S1x8192x4x128, .f32⟩
  | 76 => ⟨S8192x512, .f32⟩
  | 77 => ⟨S8192x512, .bf16⟩
  | 78 => ⟨S_, .i32⟩
  | 79 => ⟨S_, .f32⟩
  | 80 => ⟨S8x512, .f32⟩
  | 81 => ⟨S1x128, .f32⟩
  | 82 => ⟨S_, .i32⟩
  | 83 => ⟨S_, .f32⟩
  | 84 => ⟨S8x128, .f32⟩
  | 85 => ⟨S1x1024, .f32⟩
  | _ => ⟨S1x8192x3104, .f32⟩

abbrev hbmTy (i : Nat) : BufTy := match i / 128 with
  | 0 => hbmTy0_0 i
  | 1 => hbmTy0_1 i
  | _ => ⟨S1x8192x3104, .f32⟩

abbrev bufTy : (tb : Table) → Fin (tcTables nBuf tb) → BufTy
  | .hbm, ⟨i, _⟩ => hbmTy i
  | _, _ => ⟨S1x8192x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v34_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v34_1 : Ref sig .tc := ⟨.hbm, 54, rfl⟩
abbrev main_v34_0 : Ref sig .tc := ⟨.hbm, 55, rfl⟩
abbrev main_v35 : Ref sig .tc := ⟨.hbm, 56, rfl⟩
abbrev main_cst_0 : Ref sig .tc := ⟨.hbm, 57, rfl⟩
abbrev main_v36 : Ref sig .tc := ⟨.hbm, 58, rfl⟩
abbrev main_v37 : Ref sig .tc := ⟨.hbm, 59, rfl⟩
abbrev main_cst_1 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_4 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_7 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_8 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_9 : Ref sig .tc := ⟨.hbm, 107, rfl⟩
abbrev main_v77 : Ref sig .tc := ⟨.hbm, 108, rfl⟩
abbrev main_v78 : Ref sig .tc := ⟨.hbm, 109, rfl⟩
abbrev main_cst_10 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_cst_12 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_13 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_14 : Ref sig .tc := ⟨.hbm, 142, rfl⟩
abbrev main_v107 : Ref sig .tc := ⟨.hbm, 143, rfl⟩
abbrev main_v108 : Ref sig .tc := ⟨.hbm, 144, rfl⟩
abbrev main_cst_15 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_16 : Ref sig .tc := ⟨.hbm, 151, rfl⟩
abbrev main_v114 : Ref sig .tc := ⟨.hbm, 152, rfl⟩
abbrev main_v115 : Ref sig .tc := ⟨.hbm, 153, rfl⟩
abbrev main_cst_17 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_18 : Ref sig .tc := ⟨.hbm, 169, rfl⟩
abbrev main_v127 : Ref sig .tc := ⟨.hbm, 170, rfl⟩
abbrev main_v128 : Ref sig .tc := ⟨.hbm, 171, rfl⟩
abbrev main_cst_19 : Ref sig .tc := ⟨.hbm, 172, rfl⟩
abbrev main_v129 : Ref sig .tc := ⟨.hbm, 173, rfl⟩
abbrev main_v130 : Ref sig .tc := ⟨.hbm, 174, rfl⟩
abbrev main_cst_20 : Ref sig .tc := ⟨.hbm, 175, rfl⟩
abbrev main_v131 : Ref sig .tc := ⟨.hbm, 176, rfl⟩
abbrev main_v132 : Ref sig .tc := ⟨.hbm, 177, rfl⟩
abbrev main_cst_21 : Ref sig .tc := ⟨.hbm, 178, rfl⟩
abbrev main_v133 : Ref sig .tc := ⟨.hbm, 179, rfl⟩
abbrev main_v134 : Ref sig .tc := ⟨.hbm, 180, rfl⟩
abbrev main_cst_22 : Ref sig .tc := ⟨.hbm, 181, rfl⟩
abbrev main_v135 : Ref sig .tc := ⟨.hbm, 182, rfl⟩
abbrev main_v136 : Ref sig .tc := ⟨.hbm, 183, rfl⟩
abbrev main_cst_23 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_24 : Ref sig .tc := ⟨.hbm, 188, rfl⟩
abbrev main_v140 : Ref sig .tc := ⟨.hbm, 189, rfl⟩
abbrev main_v141 : Ref sig .tc := ⟨.hbm, 190, rfl⟩
abbrev main_cst_25 : Ref sig .tc := ⟨.hbm, 191, rfl⟩
abbrev main_v142 : Ref sig .tc := ⟨.hbm, 192, rfl⟩
abbrev main_v143 : Ref sig .tc := ⟨.hbm, 193, rfl⟩
abbrev main_cst_26 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c : Ref sig .tc := ⟨.hbm, 206, rfl⟩
abbrev main_call2_v0 : Ref sig .tc := ⟨.hbm, 207, rfl⟩
abbrev main_v155 : Ref sig .tc := ⟨.hbm, 208, rfl⟩
abbrev main_v156 : Ref sig .tc := ⟨.hbm, 209, rfl⟩
abbrev main_c_27 : Ref sig .tc := ⟨.hbm, 210, rfl⟩
abbrev main_call3_v0 : Ref sig .tc := ⟨.hbm, 211, rfl⟩
abbrev main_v157 : Ref sig .tc := ⟨.hbm, 212, rfl⟩
abbrev main_v158 : Ref sig .tc := ⟨.hbm, 213, rfl⟩

abbrev nD : Nat := 1
abbrev τ : Topo := Topo.v7x

variable {F : FTy → Type} [FloatOps F]
-- ==== Mix2.lean ====
abbrev S1x8192x1024 : Shape := ⟨3, ![1, 8192, 1024]⟩
abbrev S1024 : Shape := ⟨1, ![1024]⟩
abbrev S1024x3104 : Shape := ⟨2, ![1024, 3104]⟩
abbrev S3x512 : Shape := ⟨2, ![3, 512]⟩
abbrev S16x256 : Shape := ⟨2, ![16, 256]⟩
abbrev S256 : Shape := ⟨1, ![256]⟩
abbrev S1x8192x512 : Shape := ⟨3, ![1, 8192, 512]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3104 : Shape := ⟨3, ![1, 8192, 3104]⟩
abbrev S8192x3104 : Shape := ⟨2, ![8192, 3104]⟩
abbrev S8192x3200 : Shape := ⟨2, ![8192, 3200]⟩
abbrev S1024x3200 : Shape := ⟨2, ![1024, 3200]⟩
abbrev S128x512 : Shape := ⟨2, ![128, 512]⟩
abbrev S1 : Shape := ⟨1, ![1]⟩
abbrev S2 : Shape := ⟨1, ![2]⟩
abbrev S512 : Shape := ⟨1, ![512]⟩
abbrev S1x512 : Shape := ⟨2, ![1, 512]⟩
abbrev S8192x256 : Shape := ⟨2, ![8192, 256]⟩
abbrev S8192x512 : Shape := ⟨2, ![8192, 512]⟩
abbrev S8192x1024 : Shape := ⟨2, ![8192, 1024]⟩
abbrev S1x1024 : Shape := ⟨2, ![1, 1024]⟩
abbrev S8x512 : Shape := ⟨2, ![8, 512]⟩
abbrev S512x512 : Shape := ⟨2, ![512, 512]⟩
abbrev S16x512 : Shape := ⟨2, ![16, 512]⟩
abbrev S512x256 : Shape := ⟨2, ![512, 256]⟩
abbrev S512x128 : Shape := ⟨2, ![512, 128]⟩
abbrev S512x1024 : Shape := ⟨2, ![512, 1024]⟩
abbrev S512x3200 : Shape := ⟨2, ![512, 3200]⟩
abbrev S528x512 : Shape := ⟨2, ![528, 512]⟩
abbrev S512x1 : Shape := ⟨2, ![512, 1]⟩

abbrev nBuf : Space → Nat
  | .hbm => 93
  | .vmem => 48
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3104, .f32⟩
  | .hbm, ⟨3, _⟩ => ⟨S3x512, .f32⟩
  | .hbm, ⟨4, _⟩ => ⟨S16x256, .f32⟩
  | .hbm, ⟨5, _⟩ => ⟨S256, .f32⟩
  | .hbm, ⟨6, _⟩ => ⟨S16x256, .f32⟩
  | .hbm, ⟨7, _⟩ => ⟨S256, .f32⟩
  | .hbm, ⟨8, _⟩ => ⟨S1x8192x512, .f32⟩
  | .hbm, ⟨9, _⟩ => ⟨S1x8192x512, .f32⟩
  | .hbm, ⟨10, _⟩ => ⟨S1x8192x512, .f32⟩
  | .hbm, ⟨11, _⟩ => ⟨S1x8192x256, .f32⟩
  | .hbm, ⟨12, _⟩ => ⟨S1x8192x256, .f32⟩
  | .hbm, ⟨13, _⟩ => ⟨S1x8192x512, .f32⟩
  | .hbm, ⟨14, _⟩ => ⟨S1x8192x256, .f32⟩
  | .hbm, ⟨15, _⟩ => ⟨S1x8192x256, .f32⟩
  | .hbm, ⟨16, _⟩ => ⟨S1x8192x256, .f32⟩
  | .hbm, ⟨17, _⟩ => ⟨S1x8192x512, .f32⟩
  | .hbm, ⟨18, _⟩ => ⟨S1x8192x256, .f32⟩
  | .hbm, ⟨19, _⟩ => ⟨S1x8192x1024, .f32⟩
  | .hbm, ⟨20, _⟩ => ⟨S1x8192x1024, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S_, .f32⟩
  | .hbm, ⟨25, _⟩ => ⟨S1x8192x1, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x8192x3104, .f32⟩
  | .hbm, ⟨37, _⟩ => ⟨S8192x3104, .f32⟩
  | .hbm, ⟨38, _⟩ => ⟨S_, .i32⟩
  | .hbm, ⟨39, _⟩ => ⟨S_, .f32⟩
  | .hbm, ⟨40, _⟩ => ⟨S8192x3200, .f32⟩
  | .hbm, ⟨41, _⟩ => ⟨S8192x3200, .bf16⟩
  | .hbm, ⟨42, _⟩ => ⟨S1024x3104, .bf16⟩
  | .hbm, ⟨43, _⟩ => ⟨S_, .i32⟩
  | .hbm, ⟨44, _⟩ => ⟨S_, .bf16⟩
  | .hbm, ⟨45, _⟩ => ⟨S1024x3200, .bf16⟩
  | .hbm, ⟨46, _⟩ => ⟨S_, .f32⟩
  | .hbm, ⟨47, _⟩ => ⟨S128x512, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S128x512, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S128x512, .f32⟩
  | .hbm, ⟨60, _⟩ => ⟨S128x512, .bf16⟩
  | .hbm, ⟨61, _⟩ => ⟨S512, .f32⟩
  | .hbm, ⟨62, _⟩ => ⟨S1x512, .f32⟩
  | .hbm, ⟨63, _⟩ => ⟨S8192x256, .f32⟩
  | .hbm, ⟨64, _⟩ => ⟨S8192x256, .bf16⟩
  | .hbm, ⟨65, _⟩ => ⟨S8192x256, .f32⟩
  | .hbm, ⟨66, _⟩ => ⟨S8192x256, .bf16⟩
  | .hbm, ⟨67, _⟩ => ⟨S8192x512, .f32⟩
  | .hbm, ⟨68, _⟩ => ⟨S8192x512, .bf16⟩
  | .hbm, ⟨69, _⟩ => ⟨S8192x256, .f32⟩
  | .hbm, ⟨70, _⟩ => ⟨S8192x256, .bf16⟩
  | .hbm, ⟨71, _⟩ => ⟨S8192x256, .f32⟩
  | .hbm, ⟨72, _⟩ => ⟨S8192x256, .bf16⟩
  | .hbm, ⟨73, _⟩ => ⟨S8192x256, .f32⟩
  | .hbm, ⟨74, _⟩ => ⟨S8192x256, .bf16⟩
  | .hbm, ⟨75, _⟩ => ⟨S8192x512, .f32⟩
  | .hbm, ⟨76, _⟩ => ⟨S8192x512, .bf16⟩
  | .hbm, ⟨77, _⟩ => ⟨S8192x256, .f32⟩
  | .hbm, ⟨78, _⟩ => ⟨S8192x256, .bf16⟩
  | .hbm, ⟨79, _⟩ => ⟨S8192x512, .f32⟩
  | .hbm, ⟨80, _⟩ => ⟨S8192x512, .bf16⟩
  | .hbm, ⟨81, _⟩ => ⟨S8192x512, .f32⟩
  | .hbm, ⟨82, _⟩ => ⟨S8192x512, .bf16⟩
  | .hbm, ⟨83, _⟩ => ⟨S8192x512, .f32⟩
  | .hbm, ⟨84, _⟩ => ⟨S8192x512, .bf16⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S8192x3200, .bf16⟩
  | .hbm, ⟨89, _⟩ => ⟨S8192x1024, .f32⟩
  | .hbm, ⟨90, _⟩ => ⟨S1x1024, .f32⟩
  | .hbm, ⟨91, _⟩ => ⟨S128x512, .f32⟩
  | .hbm, ⟨92, _⟩ => ⟨S8x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S3x512, .f32⟩
  | .local _ .vmem, ⟨33, _⟩ => ⟨S128x512, .bf16⟩
  | .local _ .vmem, ⟨34, _⟩ => ⟨S1x512, .f32⟩
  | .local _ .vmem, ⟨35, _⟩ => ⟨S1024x3200, .bf16⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | .local _ .vmem, ⟨41, _⟩ => ⟨S512x3200, .bf16⟩
  | .local _ .vmem, ⟨42, _⟩ => ⟨S512x3200, .bf16⟩
  | .local _ .vmem, ⟨43, _⟩ => ⟨S512x1024, .f32⟩
  | .local _ .vmem, ⟨44, _⟩ => ⟨S512x1024, .f32⟩
  | .local _ .vmem, ⟨45, _⟩ => ⟨S1x1024, .f32⟩
  | .local _ .vmem, ⟨46, _⟩ => ⟨S128x512, .f32⟩
  | .local _ .vmem, ⟨47, _⟩ => ⟨S8x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_call0_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_call1_v0 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56_0 : Ref sig .tc := ⟨.hbm, 88, rfl⟩
abbrev main_v56_1 : Ref sig .tc := ⟨.hbm, 89, rfl⟩
abbrev main_v56_2 : Ref sig .tc := ⟨.hbm, 90, rfl⟩
abbrev main_v56_3 : Ref sig .tc := ⟨.hbm, 91, rfl⟩
abbrev main_v56_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg26_0 : Ref sig .tc := ⟨.vmem, 46, rfl⟩
abbrev cc0_stg27_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem26_0 : DmaSem sig := 46
abbrev cc0_sem27_0 : DmaSem sig := 47

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_15 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x3200 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x3200 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S8x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Mix2RefIdeal.lean ====
abbrev S1x8192x1024 : Shape := ⟨3, ![1, 8192, 1024]⟩
abbrev S1024 : Shape := ⟨1, ![1024]⟩
abbrev S1024x3104 : Shape := ⟨2, ![1024, 3104]⟩
abbrev S3x512 : Shape := ⟨2, ![3, 512]⟩
abbrev S16x256 : Shape := ⟨2, ![16, 256]⟩
abbrev S256 : Shape := ⟨1, ![256]⟩
abbrev S1x8192x512 : Shape := ⟨3, ![1, 8192, 512]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3104 : Shape := ⟨3, ![1, 8192, 3104]⟩
abbrev S1x8192x16 : Shape := ⟨3, ![1, 8192, 16]⟩
abbrev S1x1x512 : Shape := ⟨3, ![1, 1, 512]⟩
abbrev S1x8194x512 : Shape := ⟨3, ![1, 8194, 512]⟩
abbrev S1x512 : Shape := ⟨2, ![1, 512]⟩
abbrev S512 : Shape := ⟨1, ![512]⟩
abbrev S1x1x256 : Shape := ⟨3, ![1, 1, 256]⟩
abbrev S1x256 : Shape := ⟨2, ![1, 256]⟩
abbrev S256x16 : Shape := ⟨2, ![256, 16]⟩
abbrev S1x1024 : Shape := ⟨2, ![1, 1024]⟩
abbrev S8192 : Shape := ⟨1, ![8192]⟩
abbrev S16x512 : Shape := ⟨2, ![16, 512]⟩
abbrev S32x512 : Shape := ⟨2, ![32, 512]⟩
abbrev S8192x3104 : Shape := ⟨2, ![8192, 3104]⟩
abbrev S8192x3200 : Shape := ⟨2, ![8192, 3200]⟩
abbrev S8192x1024 : Shape := ⟨2, ![8192, 1024]⟩
abbrev S128x512 : Shape := ⟨2, ![128, 512]⟩
abbrev S8x512 : Shape := ⟨2, ![8, 512]⟩

abbrev nBuf : Space → Nat
  | .hbm => 320
  | .vmem => 0
  | .smem => 0
  | _ => 0

abbrev hbmTy0_0 (i : Nat) : BufTy := match i % 128 with
  | 0 => ⟨S1x8192x1024, .f32⟩
  | 1 => ⟨S1024, .f32⟩
  | 2 => ⟨S1024x3104, .f32⟩
  | 3 => ⟨S3x512, .f32⟩
  | 4 => ⟨S16x256, .f32⟩
  | 5 => ⟨S256, .f32⟩
  | 6 => ⟨S16x256, .f32⟩
  | 7 => ⟨S256, .f32⟩
  | 8 => ⟨S1x8192x512, .f32⟩
  | 9 => ⟨S1x8192x512, .f32⟩
  | 10 => ⟨S1x8192x512, .f32⟩
  | 11 => ⟨S1x8192x256, .f32⟩
  | 12 => ⟨S1x8192x256, .f32⟩
  | 13 => ⟨S1x8192x512, .f32⟩
  | 14 => ⟨S1x8192x256, .f32⟩
  | 15 => ⟨S1x8192x256, .f32⟩
  | 16 => ⟨S1x8192x256, .f32⟩
  | 17 => ⟨S1x8192x512, .f32⟩
  | 18 => ⟨S1x8192x256, .f32⟩
  | 19 => ⟨S1x8192x1024, .f32⟩
  | 20 => ⟨S1x8192x1024, .f32⟩
  | 21 => ⟨S_, .f32⟩
  | 22 => ⟨S1x8192, .f32⟩
  | 23 => ⟨S1x8192x1, .f32⟩
  | 24 => ⟨S_, .f32⟩
  | 25 => ⟨S1x8192x1, .f32⟩
  | 26 => ⟨S1x8192x1, .f32⟩
  | 27 => ⟨S_, .f32⟩
  | 28 => ⟨S1x8192x1, .f32⟩
  | 29 => ⟨S1x8192x1, .f32⟩
  | 30 => ⟨S1x8192x1, .f32⟩
  | 31 => ⟨S1x8192x1, .f32⟩
  | 32 => ⟨S_, .f32⟩
  | 33 => ⟨S1x8192x1, .f32⟩
  | 34 => ⟨S1x8192x1, .f32⟩
  | 35 => ⟨S1x8192x1024, .f32⟩
  | 36 => ⟨S1x8192x1024, .f32⟩
  | 37 => ⟨S1x1x1024, .f32⟩
  | 38 => ⟨S1x8192x1024, .f32⟩
  | 39 => ⟨S1x8192x1024, .f32⟩
  | 40 => ⟨S1x8192x3104, .f32⟩
  | 41 => ⟨S1x8192x256, .f32⟩
  | 42 => ⟨S1x8192x256, .f32⟩
  | 43 => ⟨S1x8192x512, .f32⟩
  | 44 => ⟨S1x8192x512, .f32⟩
  | 45 => ⟨S1x8192x512, .f32⟩
  | 46 => ⟨S1x8192x512, .f32⟩
  | 47 => ⟨S1x8192x256, .f32⟩
  | 48 => ⟨S1x8192x256, .f32⟩
  | 49 => ⟨S1x8192x512, .f32⟩
  | 50 => ⟨S1x8192x512, .f32⟩
  | 51 => ⟨S1x8192x16, .f32⟩
  | 52 => ⟨S1x8192x16, .f32⟩
  | 53 => ⟨S1x8192x512, .f32⟩
  | 54 => ⟨S_, .f32⟩
  | 55 => ⟨S1x1x512, .f32⟩
  | 56 => ⟨S1x8194x512, .f32⟩
  | 57 => ⟨S_, .f32⟩
  | 58 => ⟨S1x1x512, .f32⟩
  | 59 => ⟨S_, .f32⟩
  | 60 => ⟨S1x1x512, .f32⟩
  | 61 => ⟨S1x512, .f32⟩
  | 62 => ⟨S512, .f32⟩
  | 63 => ⟨S1x8192x512, .f32⟩
  | 64 => ⟨S1x1x512, .f32⟩
  | 65 => ⟨S1x8192x512, .f32⟩
  | 66 => ⟨S1x8192x512, .f32⟩
  | 67 => ⟨S1x512, .f32⟩
  | 68 => ⟨S512, .f32⟩
  | 69 => ⟨S1x8192x512, .f32⟩
  | 70 => ⟨S1x1x512, .f32⟩
  | 71 => ⟨S1x8192x512, .f32⟩
  | 72 => ⟨S1x8192x512, .f32⟩
  | 73 => ⟨S1x8192x512, .f32⟩
  | 74 => ⟨S1x512, .f32⟩
  | 75 => ⟨S512, .f32⟩
  | 76 => ⟨S1x8192x512, .f32⟩
  | 77 => ⟨S1x1x512, .f32⟩
  | 78 => ⟨S1x8192x512, .f32⟩
  | 79 => ⟨S1x8192x512, .f32⟩
  | 80 => ⟨S1x8192x512, .f32⟩
  | 81 => ⟨S1x8192x256, .f32⟩
  | 82 => ⟨S1x1x256, .f32⟩
  | 83 => ⟨S1x8192x256, .f32⟩
  | 84 => ⟨S1x8192x256, .f32⟩
  | 85 => ⟨S1x8192x256, .f32⟩
  | 86 => ⟨S_, .f32⟩
  | 87 => ⟨S1x8192x256, .f32⟩
  | 88 => ⟨S1x8192x256, .f32⟩
  | 89 => ⟨S1x8192x256, .f32⟩
  | 90 => ⟨S1x8192x256, .f32⟩
  | 91 => ⟨S1x8192x256, .i1⟩
  | 92 => ⟨S1x8192x256, .f32⟩
  | 93 => ⟨S1x8192x256, .f32⟩
  | 94 => ⟨S1x8192x256, .f32⟩
  | 95 => ⟨S1x8192x256, .f32⟩
  | 96 => ⟨S1x8192x256, .f32⟩
  | 97 => ⟨S1x8192x256, .f32⟩
  | 98 => ⟨S1x8192x256, .f32⟩
  | 99 => ⟨S1x8192x256, .f32⟩
  | 100 => ⟨S_, .f32⟩
  | 101 => ⟨S1x8192x256, .f32⟩
  | 102 => ⟨S1x8192x256, .i1⟩
  | 103 => ⟨S_, .f32⟩
  | 104 => ⟨S1x8192x256, .f32⟩
  | 105 => ⟨S1x8192x256, .f32⟩
  | 106 => ⟨S_, .f32⟩
  | 107 => ⟨S1x8192x256, .f32⟩
  | 108 => ⟨S1x8192x256, .i1⟩
  | 109 => ⟨S_, .f32⟩
  | 110 => ⟨S1x8192x256, .f32⟩
  | 111 => ⟨S1x8192x256, .f32⟩
  | 112 => ⟨S1x8192x256, .f32⟩
  | 113 => ⟨S1x8192x256, .f32⟩
  | 114 => ⟨S_, .f32⟩
  | 115 => ⟨S_, .f32⟩
  | 116 => ⟨S_, .i1⟩
  | 117 => ⟨S_, .f32⟩
  | 118 => ⟨S_, .f32⟩
  | 119 => ⟨S_, .f32⟩
  | 120 => ⟨S_, .f32⟩
  | 121 => ⟨S1x8192x256, .f32⟩
  | 122 => ⟨S1x8192x256, .i1⟩
  | 123 => ⟨S_, .f32⟩
  | 124 => ⟨S1x8192x256, .f32⟩
  | 125 => ⟨S1x8192x256, .f32⟩
  | 126 => ⟨S1x8192x256, .f32⟩
  | 127 => ⟨S1x8192x256, .f32⟩
  | _ => ⟨S1x8192x1024, .f32⟩

abbrev hbmTy0_1 (i : Nat) : BufTy := match i % 128 with
  | 0 => ⟨S1x8192x256, .f32⟩
  | 1 => ⟨S_, .f32⟩
  | 2 => ⟨S1x8192x256, .f32⟩
  | 3 => ⟨S1x8192x256, .f32⟩
  | 4 => ⟨S1x8192x256, .f32⟩
  | 5 => ⟨S_, .f32⟩
  | 6 => ⟨S1x8192x256, .f32⟩
  | 7 => ⟨S1x8192x256, .f32⟩
  | 8 => ⟨S1x8192x256, .f32⟩
  | 9 => ⟨S1x1x256, .f32⟩
  | 10 => ⟨S1x8192x256, .f32⟩
  | 11 => ⟨S1x8192x256, .f32⟩
  | 12 => ⟨S1x8192x256, .f32⟩
  | 13 => ⟨S_, .f32⟩
  | 14 => ⟨S1x8192x256, .f32⟩
  | 15 => ⟨S1x8192x256, .f32⟩
  | 16 => ⟨S1x8192x256, .f32⟩
  | 17 => ⟨S1x8192x256, .f32⟩
  | 18 => ⟨S1x8192x256, .i1⟩
  | 19 => ⟨S1x8192x256, .f32⟩
  | 20 => ⟨S1x8192x256, .f32⟩
  | 21 => ⟨S1x8192x256, .f32⟩
  | 22 => ⟨S1x8192x256, .f32⟩
  | 23 => ⟨S1x8192x256, .f32⟩
  | 24 => ⟨S1x8192x256, .f32⟩
  | 25 => ⟨S1x8192x256, .f32⟩
  | 26 => ⟨S1x8192x256, .f32⟩
  | 27 => ⟨S_, .f32⟩
  | 28 => ⟨S1x8192x256, .f32⟩
  | 29 => ⟨S1x8192x256, .i1⟩
  | 30 => ⟨S_, .f32⟩
  | 31 => ⟨S1x8192x256, .f32⟩
  | 32 => ⟨S1x8192x256, .f32⟩
  | 33 => ⟨S_, .f32⟩
  | 34 => ⟨S1x8192x256, .f32⟩
  | 35 => ⟨S1x8192x256, .i1⟩
  | 36 => ⟨S_, .f32⟩
  | 37 => ⟨S1x8192x256, .f32⟩
  | 38 => ⟨S1x8192x256, .f32⟩
  | 39 => ⟨S1x8192x256, .f32⟩
  | 40 => ⟨S1x8192x256, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S1x8192x256, .f32⟩
  | 49 => ⟨S1x8192x256, .i1⟩
  | 50 => ⟨S_, .f32⟩
  | 51 => ⟨S1x8192x256, .f32⟩
  | 52 => ⟨S1x8192x256, .f32⟩
  | 53 => ⟨S1x8192x256, .f32⟩
  | 54 => ⟨S1x8192x256, .f32⟩
  | 55 => ⟨S1x8192x256, .f32⟩
  | 56 => ⟨S_, .f32⟩
  | 57 => ⟨S1x8192x256, .f32⟩
  | 58 => ⟨S1x8192x256, .f32⟩
  | 59 => ⟨S1x8192x256, .f32⟩
  | 60 => ⟨S_, .f32⟩
  | 61 => ⟨S1x8192x256, .f32⟩
  | 62 => ⟨S1x8192x256, .f32⟩
  | 63 => ⟨S_, .f32⟩
  | 64 => ⟨S1x8192x256, .f32⟩
  | 65 => ⟨S1x8192x256, .f32⟩
  | 66 => ⟨S1x8192x256, .f32⟩
  | 67 => ⟨S1x8192x256, .f32⟩
  | 68 => ⟨S1x8192x256, .f32⟩
  | 69 => ⟨S_, .f32⟩
  | 70 => ⟨S1x256, .f32⟩
  | 71 => ⟨S1x1x256, .f32⟩
  | 72 => ⟨S_, .f32⟩
  | 73 => ⟨S256, .f32⟩
  | 74 => ⟨S256x16, .f32⟩
  | 75 => ⟨S16x256, .f32⟩
  | 76 => ⟨S1x8192x16, .f32⟩
  | 77 => ⟨S_, .f32⟩
  | 78 => ⟨S1x8192x256, .f32⟩
  | 79 => ⟨S1x8192x256, .f32⟩
  | 80 => ⟨S1x8192x256, .f32⟩
  | 81 => ⟨S1x8192x256, .f32⟩
  | 82 => ⟨S1x8192x256, .f32⟩
  | 83 => ⟨S_, .f32⟩
  | 84 => ⟨S1x256, .f32⟩
  | 85 => ⟨S1x1x256, .f32⟩
  | 86 => ⟨S_, .f32⟩
  | 87 => ⟨S256, .f32⟩
  | 88 => ⟨S256x16, .f32⟩
  | 89 => ⟨S16x256, .f32⟩
  | 90 => ⟨S1x8192x16, .f32⟩
  | 91 => ⟨S1x8192x512, .f32⟩
  | 92 => ⟨S1x8192x512, .f32⟩
  | 93 => ⟨S1x8192x512, .f32⟩
  | 94 => ⟨S1x8192x512, .f32⟩
  | 95 => ⟨S1x8192x512, .f32⟩
  | 96 => ⟨S_, .f32⟩
  | 97 => ⟨S1x512, .f32⟩
  | 98 => ⟨S1x1x512, .f32⟩
  | 99 => ⟨S_, .f32⟩
  | 100 => ⟨S512, .f32⟩
  | 101 => ⟨S_, .f32⟩
  | 102 => ⟨S1x8194x512, .f32⟩
  | 103 => ⟨S1x512, .f32⟩
  | 104 => ⟨S_, .f32⟩
  | 105 => ⟨S3x512, .f32⟩
  | 106 => ⟨S1x8192x512, .f32⟩
  | 107 => ⟨S1x8192x512, .f32⟩
  | 108 => ⟨S1x8192x512, .f32⟩
  | 109 => ⟨S_, .f32⟩
  | 110 => ⟨S1x512, .f32⟩
  | 111 => ⟨S1x1x512, .f32⟩
  | 112 => ⟨S_, .f32⟩
  | 113 => ⟨S512, .f32⟩
  | 114 => ⟨S_, .f32⟩
  | 115 => ⟨S1x8194x512, .f32⟩
  | 116 => ⟨S1x8194x512, .f32⟩
  | 117 => ⟨S1x512, .f32⟩
  | 118 => ⟨S_, .f32⟩
  | 119 => ⟨S3x512, .f32⟩
  | 120 => ⟨S3x512, .f32⟩
  | 121 => ⟨S1x8192x512, .f32⟩
  | 122 => ⟨S1x8192x512, .f32⟩
  | 123 => ⟨S1x8192x512, .f32⟩
  | 124 => ⟨S_, .f32⟩
  | 125 => ⟨S1x512, .f32⟩
  | 126 => ⟨S1x1x512, .f32⟩
  | 127 => ⟨S_, .f32⟩
  | _ => ⟨S1x8192x1024, .f32⟩

abbrev hbmTy0_2 (i : Nat) : BufTy := match i % 128 with
  | 0 => ⟨S512, .f32⟩
  | 1 => ⟨S_, .f32⟩
  | 2 => ⟨S1x8194x512, .f32⟩
  | 3 => ⟨S1x8194x512, .f32⟩
  | 4 => ⟨S1x512, .f32⟩
  | 5 => ⟨S_, .f32⟩
  | 6 => ⟨S3x512, .f32⟩
  | 7 => ⟨S3x512, .f32⟩
  | 8 => ⟨S1x1x512, .f32⟩
  | 9 => ⟨S1x8192x512, .f32⟩
  | 10 => ⟨S1x1x512, .f32⟩
  | 11 => ⟨S1x8192x512, .f32⟩
  | 12 => ⟨S1x8192x512, .f32⟩
  | 13 => ⟨S1x8192x3104, .f32⟩
  | 14 => ⟨S1x8192x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S1x8192x1024, .f32⟩
  | 21 => ⟨S_, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S1x8192x1024, .f32⟩
  | 28 => ⟨S1x8192x1024, .f32⟩
  | 29 => ⟨S1x8192x1, .f32⟩
  | 30 => ⟨S_, .f32⟩
  | 31 => ⟨S1x8192x1, .f32⟩
  | 32 => ⟨S1x8192x1, .f32⟩
  | 33 => ⟨S_, .f32⟩
  | 34 => ⟨S8192, .f32⟩
  | 35 => ⟨S1x8192, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S_, .i32⟩
  | 42 => ⟨S_, .f32⟩
  | 43 => ⟨S16x512, .f32⟩
  | 44 => ⟨S_, .i32⟩
  | 45 => ⟨S_, .f32⟩
  | 46 => ⟨S16x512, .f32⟩
  | 47 => ⟨S32x512, .f32⟩
  | 48 => ⟨S512, .f32⟩
  | 49 => ⟨S1x512, .f32⟩
  | 50 => ⟨S8192x3104, .f32⟩
  | 51 => ⟨S_, .i32⟩
  | 52 => ⟨S_, .f32⟩
  | 53 => ⟨S8192x3200, .f32⟩
  | 54 => ⟨S8192x3200, .bf16⟩
  | 55 => ⟨S1x8192x1024, .f32⟩
  | 56 => ⟨S8192x1024, .f32⟩
  | 57 => ⟨S1x1024, .f32⟩
  | 58 => ⟨S_, .i32⟩
  | 59 => ⟨S_, .f32⟩
  | 60 => ⟨S128x512, .f32⟩
  | 61 => ⟨S_, .i32⟩
  | 62 => ⟨S_, .f32⟩
  | 63 => ⟨S8x512, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_v0 : Ref sig .tc := ⟨.hbm, 85, rfl⟩
abbrev main_call0_call0_cst : Ref sig .tc := ⟨.hbm, 86, rfl⟩
abbrev main_call0_call0_v0 : Ref sig .tc := ⟨.hbm, 87, rfl⟩
abbrev main_call0_call0_v1 : Ref sig .tc := ⟨.hbm, 88, rfl⟩
abbrev main_call0_call0_v2 : Ref sig .tc := ⟨.hbm, 89, rfl⟩
abbrev main_call0_call0_v3 : Ref sig .tc := ⟨.hbm, 90, rfl⟩
abbrev main_call0_call0_v4 : Ref sig .tc := ⟨.hbm, 91, rfl⟩
abbrev main_call0_call0_v5 : Ref sig .tc := ⟨.hbm, 92, rfl⟩
abbrev main_call0_call0_v6 : Ref sig .tc := ⟨.hbm, 93, rfl⟩
abbrev main_call0_call0_v7 : Ref sig .tc := ⟨.hbm, 94, rfl⟩
abbrev main_call0_call0_v8 : Ref sig .tc := ⟨.hbm, 95, rfl⟩
abbrev main_call0_call0_v9 : Ref sig .tc := ⟨.hbm, 96, rfl⟩
abbrev main_call0_call0_v10 : Ref sig .tc := ⟨.hbm, 97, rfl⟩
abbrev main_call0_call0_v11 : Ref sig .tc := ⟨.hbm, 98, rfl⟩
abbrev main_call0_v1_0 : Ref sig .tc := ⟨.hbm, 99, rfl⟩
abbrev main_call0_call0_cst_0 : Ref sig .tc := ⟨.hbm, 100, rfl⟩
abbrev main_call0_call0_v13 : Ref sig .tc := ⟨.hbm, 101, rfl⟩
abbrev main_call0_call0_v14 : Ref sig .tc := ⟨.hbm, 102, rfl⟩
abbrev main_call0_call0_cst_1 : Ref sig .tc := ⟨.hbm, 103, rfl⟩
abbrev main_call0_call0_v15 : Ref sig .tc := ⟨.hbm, 104, rfl⟩
abbrev main_call0_call0_v16 : Ref sig .tc := ⟨.hbm, 105, rfl⟩
abbrev main_call0_call0_cst_2 : Ref sig .tc := ⟨.hbm, 106, rfl⟩
abbrev main_call0_call0_v17 : Ref sig .tc := ⟨.hbm, 107, rfl⟩
abbrev main_call0_call0_v18 : Ref sig .tc := ⟨.hbm, 108, rfl⟩
abbrev main_call0_call0_cst_3 : Ref sig .tc := ⟨.hbm, 109, rfl⟩
abbrev main_call0_call0_v19 : Ref sig .tc := ⟨.hbm, 110, rfl⟩
abbrev main_call0_call0_v20 : Ref sig .tc := ⟨.hbm, 111, rfl⟩
abbrev main_call0_call0_v21 : Ref sig .tc := ⟨.hbm, 112, rfl⟩
abbrev main_v58_1 : Ref sig .tc := ⟨.hbm, 113, rfl⟩
abbrev main_call0_call0_cst_4 : Ref sig .tc := ⟨.hbm, 114, rfl⟩
abbrev main_call0_call0_cst_5 : Ref sig .tc := ⟨.hbm, 115, rfl⟩
abbrev main_call0_call0_v23 : Ref sig .tc := ⟨.hbm, 116, rfl⟩
abbrev main_call0_call0_cst_6 : Ref sig .tc := ⟨.hbm, 117, rfl⟩
abbrev main_call0_call0_cst_7 : Ref sig .tc := ⟨.hbm, 118, rfl⟩
abbrev main_call0_call0_v24 : Ref sig .tc := ⟨.hbm, 119, rfl⟩
abbrev main_call0_call0_cst_8 : Ref sig .tc := ⟨.hbm, 120, rfl⟩
abbrev main_call0_call0_v25 : Ref sig .tc := ⟨.hbm, 121, rfl⟩
abbrev main_call0_call0_v26 : Ref sig .tc := ⟨.hbm, 122, rfl⟩
abbrev main_call0_call0_cst_9 : Ref sig .tc := ⟨.hbm, 123, rfl⟩
abbrev main_call0_call0_v27 : Ref sig .tc := ⟨.hbm, 124, rfl⟩
abbrev main_call0_call0_v28 : Ref sig .tc := ⟨.hbm, 125, rfl⟩
abbrev main_call0_call0_v29 : Ref sig .tc := ⟨.hbm, 126, rfl⟩
abbrev main_call0_call0_v30 : Ref sig .tc := ⟨.hbm, 127, rfl⟩
abbrev main_call0_call0_v31 : Ref sig .tc := ⟨.hbm, 128, rfl⟩
abbrev main_call0_call0_cst_10 : Ref sig .tc := ⟨.hbm, 129, rfl⟩
abbrev main_call0_call0_v32 : Ref sig .tc := ⟨.hbm, 130, rfl⟩
abbrev main_v58_2 : Ref sig .tc := ⟨.hbm, 131, rfl⟩
abbrev main_v58_0 : Ref sig .tc := ⟨.hbm, 132, rfl⟩
abbrev main_cst_6 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_call1_v0 : Ref sig .tc := ⟨.hbm, 140, rfl⟩
abbrev main_call1_call0_cst : Ref sig .tc := ⟨.hbm, 141, rfl⟩
abbrev main_call1_call0_v0 : Ref sig .tc := ⟨.hbm, 142, rfl⟩
abbrev main_call1_call0_v1 : Ref sig .tc := ⟨.hbm, 143, rfl⟩
abbrev main_call1_call0_v2 : Ref sig .tc := ⟨.hbm, 144, rfl⟩
abbrev main_call1_call0_v3 : Ref sig .tc := ⟨.hbm, 145, rfl⟩
abbrev main_call1_call0_v4 : Ref sig .tc := ⟨.hbm, 146, rfl⟩
abbrev main_call1_call0_v5 : Ref sig .tc := ⟨.hbm, 147, rfl⟩
abbrev main_call1_call0_v6 : Ref sig .tc := ⟨.hbm, 148, rfl⟩
abbrev main_call1_call0_v7 : Ref sig .tc := ⟨.hbm, 149, rfl⟩
abbrev main_call1_call0_v8 : Ref sig .tc := ⟨.hbm, 150, rfl⟩
abbrev main_call1_call0_v9 : Ref sig .tc := ⟨.hbm, 151, rfl⟩
abbrev main_call1_call0_v10 : Ref sig .tc := ⟨.hbm, 152, rfl⟩
abbrev main_call1_call0_v11 : Ref sig .tc := ⟨.hbm, 153, rfl⟩
abbrev main_call1_v1_0 : Ref sig .tc := ⟨.hbm, 154, rfl⟩
abbrev main_call1_call0_cst_0 : Ref sig .tc := ⟨.hbm, 155, rfl⟩
abbrev main_call1_call0_v13 : Ref sig .tc := ⟨.hbm, 156, rfl⟩
abbrev main_call1_call0_v14 : Ref sig .tc := ⟨.hbm, 157, rfl⟩
abbrev main_call1_call0_cst_1 : Ref sig .tc := ⟨.hbm, 158, rfl⟩
abbrev main_call1_call0_v15 : Ref sig .tc := ⟨.hbm, 159, rfl⟩
abbrev main_call1_call0_v16 : Ref sig .tc := ⟨.hbm, 160, rfl⟩
abbrev main_call1_call0_cst_2 : Ref sig .tc := ⟨.hbm, 161, rfl⟩
abbrev main_call1_call0_v17 : Ref sig .tc := ⟨.hbm, 162, rfl⟩
abbrev main_call1_call0_v18 : Ref sig .tc := ⟨.hbm, 163, rfl⟩
abbrev main_call1_call0_cst_3 : Ref sig .tc := ⟨.hbm, 164, rfl⟩
abbrev main_call1_call0_v19 : Ref sig .tc := ⟨.hbm, 165, rfl⟩
abbrev main_call1_call0_v20 : Ref sig .tc := ⟨.hbm, 166, rfl⟩
abbrev main_call1_call0_v21 : Ref sig .tc := ⟨.hbm, 167, rfl⟩
abbrev main_v65_1 : Ref sig .tc := ⟨.hbm, 168, rfl⟩
abbrev main_call1_call0_cst_4 : Ref sig .tc := ⟨.hbm, 169, rfl⟩
abbrev main_call1_call0_cst_5 : Ref sig .tc := ⟨.hbm, 170, rfl⟩
abbrev main_call1_call0_v23 : Ref sig .tc := ⟨.hbm, 171, rfl⟩
abbrev main_call1_call0_cst_6 : Ref sig .tc := ⟨.hbm, 172, rfl⟩
abbrev main_call1_call0_cst_7 : Ref sig .tc := ⟨.hbm, 173, rfl⟩
abbrev main_call1_call0_v24 : Ref sig .tc := ⟨.hbm, 174, rfl⟩
abbrev main_call1_call0_cst_8 : Ref sig .tc := ⟨.hbm, 175, rfl⟩
abbrev main_call1_call0_v25 : Ref sig .tc := ⟨.hbm, 176, rfl⟩
abbrev main_call1_call0_v26 : Ref sig .tc := ⟨.hbm, 177, rfl⟩
abbrev main_call1_call0_cst_9 : Ref sig .tc := ⟨.hbm, 178, rfl⟩
abbrev main_call1_call0_v27 : Ref sig .tc := ⟨.hbm, 179, rfl⟩
abbrev main_call1_call0_v28 : Ref sig .tc := ⟨.hbm, 180, rfl⟩
abbrev main_call1_call0_v29 : Ref sig .tc := ⟨.hbm, 181, rfl⟩
abbrev main_call1_call0_v30 : Ref sig .tc := ⟨.hbm, 182, rfl⟩
abbrev main_call1_call0_v31 : Ref sig .tc := ⟨.hbm, 183, rfl⟩
abbrev main_call1_call0_cst_10 : Ref sig .tc := ⟨.hbm, 184, rfl⟩
abbrev main_call1_call0_v32 : Ref sig .tc := ⟨.hbm, 185, rfl⟩
abbrev main_v65_2 : Ref sig .tc := ⟨.hbm, 186, rfl⟩
abbrev main_v65_0 : Ref sig .tc := ⟨.hbm, 187, rfl⟩
abbrev main_cst_7 : Ref sig .tc := ⟨.hbm, 188, rfl⟩
abbrev main_v66 : Ref sig .tc := ⟨.hbm, 189, rfl⟩
abbrev main_v67 : Ref sig .tc := ⟨.hbm, 190, rfl⟩
abbrev main_cst_8 : Ref sig .tc := ⟨.hbm, 191, rfl⟩
abbrev main_v68 : Ref sig .tc := ⟨.hbm, 192, rfl⟩
abbrev main_v69 : Ref sig .tc := ⟨.hbm, 193, rfl⟩
abbrev main_call2_v0 : Ref sig .tc := ⟨.hbm, 194, rfl⟩
abbrev main_call2_v1 : Ref sig .tc := ⟨.hbm, 195, rfl⟩
abbrev main_v70 : Ref sig .tc := ⟨.hbm, 196, rfl⟩
abbrev main_cst_9 : Ref sig .tc := ⟨.hbm, 197, rfl⟩
abbrev main_v71 : Ref sig .tc := ⟨.hbm, 198, rfl⟩
abbrev main_v72 : Ref sig .tc := ⟨.hbm, 199, rfl⟩
abbrev main_cst_10 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_cst_11 : Ref sig .tc := ⟨.hbm, 205, rfl⟩
abbrev main_v77 : Ref sig .tc := ⟨.hbm, 206, rfl⟩
abbrev main_v78 : Ref sig .tc := ⟨.hbm, 207, rfl⟩
abbrev main_call3_v0 : Ref sig .tc := ⟨.hbm, 208, rfl⟩
abbrev main_call3_v1 : Ref sig .tc := ⟨.hbm, 209, rfl⟩
abbrev main_v79 : Ref sig .tc := ⟨.hbm, 210, rfl⟩
abbrev main_cst_12 : Ref sig .tc := ⟨.hbm, 211, rfl⟩
abbrev main_v80 : Ref sig .tc := ⟨.hbm, 212, rfl⟩
abbrev main_v81 : Ref sig .tc := ⟨.hbm, 213, rfl⟩
abbrev main_cst_13 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_cst_14 : Ref sig .tc := ⟨.hbm, 224, rfl⟩
abbrev main_v91 : Ref sig .tc := ⟨.hbm, 225, rfl⟩
abbrev main_v92 : Ref sig .tc := ⟨.hbm, 226, rfl⟩
abbrev main_cst_15 : Ref sig .tc := ⟨.hbm, 227, rfl⟩
abbrev main_v93 : Ref sig .tc := ⟨.hbm, 228, rfl⟩
abbrev main_cst_16 : Ref sig .tc := ⟨.hbm, 229, rfl⟩
abbrev main_v94 : Ref sig .tc := ⟨.hbm, 230, rfl⟩
abbrev main_v95 : Ref sig .tc := ⟨.hbm, 231, rfl⟩
abbrev main_cst_17 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_cst_18 : Ref sig .tc := ⟨.hbm, 237, rfl⟩
abbrev main_v100 : Ref sig .tc := ⟨.hbm, 238, rfl⟩
abbrev main_v101 : Ref sig .tc := ⟨.hbm, 239, rfl⟩
abbrev main_cst_19 : Ref sig .tc := ⟨.hbm, 240, rfl⟩
abbrev main_v102 : Ref sig .tc := ⟨.hbm, 241, rfl⟩
abbrev main_cst_20 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_cst_21 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_cst_22 : Ref sig .tc := ⟨.hbm, 252, rfl⟩
abbrev main_v111 : Ref sig .tc := ⟨.hbm, 253, rfl⟩
abbrev main_v112 : Ref sig .tc := ⟨.hbm, 254, rfl⟩
abbrev main_cst_23 : Ref sig .tc := ⟨.hbm, 255, rfl⟩
abbrev main_v113 : Ref sig .tc := ⟨.hbm, 256, rfl⟩
abbrev main_cst_24 : Ref sig .tc := ⟨.hbm, 257, rfl⟩
abbrev main_v114 : Ref sig .tc := ⟨.hbm, 258, rfl⟩
abbrev main_v115 : Ref sig .tc := ⟨.hbm, 259, rfl⟩
abbrev main_v116 : Ref sig .tc := ⟨.hbm, 260, rfl⟩
abbrev main_cst_25 : Ref sig .tc := ⟨.hbm, 261, rfl⟩
abbrev main_v117 : Ref sig .tc := ⟨.hbm, 262, rfl⟩
abbrev main_v118 : Ref sig .tc := ⟨.hbm, 263, rfl⟩
abbrev main_v119 : Ref sig .tc := ⟨.hbm, 264, rfl⟩
abbrev main_v120 : Ref sig .tc := ⟨.hbm, 265, rfl⟩
abbrev main_v121 : Ref sig .tc := ⟨.hbm, 266, rfl⟩
abbrev main_v122 : Ref sig .tc := ⟨.hbm, 267, rfl⟩
abbrev main_v123 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_cst_26 : Ref sig .tc := ⟨.hbm, 272, rfl⟩
abbrev main_v127 : Ref sig .tc := ⟨.hbm, 273, rfl⟩
abbrev main_v128 : Ref sig .tc := ⟨.hbm, 274, rfl⟩
abbrev main_v129 : Ref sig .tc := ⟨.hbm, 275, rfl⟩
abbrev main_v130 : Ref sig .tc := ⟨.hbm, 276, rfl⟩
abbrev main_cst_27 : Ref sig .tc := ⟨.hbm, 277, rfl⟩
abbrev main_v131 : Ref sig .tc := ⟨.hbm, 278, rfl⟩
abbrev main_v132 : Ref sig .tc := ⟨.hbm, 279, rfl⟩
abbrev main_cst_28 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_cst_29 : Ref sig .tc := ⟨.hbm, 286, rfl⟩
abbrev main_v138 : Ref sig .tc := ⟨.hbm, 287, rfl⟩
abbrev main_v139 : Ref sig .tc := ⟨.hbm, 288, rfl⟩
abbrev main_cst_30 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_c : Ref sig .tc := ⟨.hbm, 297, rfl⟩
abbrev main_call4_v0 : Ref sig .tc := ⟨.hbm, 298, rfl⟩
abbrev main_v147 : Ref sig .tc := ⟨.hbm, 299, rfl⟩
abbrev main_c_31 : Ref sig .tc := ⟨.hbm, 300, rfl⟩
abbrev main_call5_v0 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_c_32 : Ref sig .tc := ⟨.hbm, 307, rfl⟩
abbrev main_call6_v0 : Ref sig .tc := ⟨.hbm, 308, rfl⟩
abbrev main_v153 : Ref sig .tc := ⟨.hbm, 309, rfl⟩
abbrev main_v154 : Ref sig .tc := ⟨.hbm, 310, rfl⟩
abbrev main_v155 : Ref sig .tc := ⟨.hbm, 311, rfl⟩
abbrev main_v156 : Ref sig .tc := ⟨.hbm, 312, rfl⟩
abbrev main_v157 : Ref sig .tc := ⟨.hbm, 313, rfl⟩
abbrev main_c_33 : Ref sig .tc := ⟨.hbm, 314, rfl⟩
abbrev main_call7_v0 : Ref sig .tc := ⟨.hbm, 315, rfl⟩
abbrev main_v158 : Ref sig .tc := ⟨.hbm, 316, rfl⟩
abbrev main_c_34 : Ref sig .tc := ⟨.hbm, 317, rfl⟩
abbrev main_call8_v0 : Ref sig .tc := ⟨.hbm, 318, rfl⟩
abbrev main_v159 : Ref sig .tc := ⟨.hbm, 319, rfl⟩

abbrev nD : Nat := 1
abbrev τ : Topo := Topo.v7x

variable {F : FTy → Type} [FloatOps F]
-- ==== Ffn.lean ====
abbrev S1x8192x1024 : Shape := ⟨3, ![1, 8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x1x5632 : Shape := ⟨3, ![1, 1, 5632]⟩
abbrev S1x8194x5632 : Shape := ⟨3, ![1, 8194, 5632]⟩
abbrev S1x5632 : Shape := ⟨2, ![1, 5632]⟩
abbrev S5632 : Shape := ⟨1, ![5632]⟩
abbrev S1x8192x2816 : Shape := ⟨3, ![1, 8192, 2816]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S8192x1024 : Shape := ⟨2, ![8192, 1024]⟩
abbrev S8192x2816 : Shape := ⟨2, ![8192, 2816]⟩
abbrev S8192x5632 : Shape := ⟨2, ![8192, 5632]⟩
abbrev S1x1024 : Shape := ⟨2, ![1, 1024]⟩
abbrev S8x2816 : Shape := ⟨2, ![8, 2816]⟩
abbrev S256x1024 : Shape := ⟨2, ![256, 1024]⟩
abbrev S16x1024 : Shape := ⟨2, ![16, 1024]⟩
abbrev S256x2816 : Shape := ⟨2, ![256, 2816]⟩
abbrev S16x2816 : Shape := ⟨2, ![16, 2816]⟩
abbrev S256x5632 : Shape := ⟨2, ![256, 5632]⟩
abbrev S288x1024 : Shape := ⟨2, ![288, 1024]⟩
abbrev S1408x1024 : Shape := ⟨2, ![1408, 1024]⟩
abbrev S288x1408 : Shape := ⟨2, ![288, 1408]⟩
abbrev S16x512 : Shape := ⟨2, ![16, 512]⟩
abbrev S256x512 : Shape := ⟨2, ![256, 512]⟩
abbrev S288x512 : Shape := ⟨2, ![288, 512]⟩
abbrev S8x512 : Shape := ⟨2, ![8, 512]⟩
abbrev S272x512 : Shape := ⟨2, ![272, 512]⟩
abbrev S1x512 : Shape := ⟨2, ![1, 512]⟩
abbrev S512 : Shape := ⟨1, ![512]⟩
abbrev S1x1024x512 : Shape := ⟨3, ![1, 1024, 512]⟩
abbrev S1024x512 : Shape := ⟨2, ![1024, 512]⟩
abbrev S16x384 : Shape := ⟨2, ![16, 384]⟩
abbrev S256x384 : Shape := ⟨2, ![256, 384]⟩
abbrev S288x384 : Shape := ⟨2, ![288, 384]⟩
abbrev S8x384 : Shape := ⟨2, ![8, 384]⟩
abbrev S272x384 : Shape := ⟨2, ![272, 384]⟩
abbrev S1x384 : Shape := ⟨2, ![1, 384]⟩
abbrev S384 : Shape := ⟨1, ![384]⟩
abbrev S1x1024x384 : Shape := ⟨3, ![1, 1024, 384]⟩
abbrev S1024x384 : Shape := ⟨2, ![1024, 384]⟩
abbrev S256 : Shape := ⟨1, ![256]⟩
abbrev S256x1 : Shape := ⟨2, ![256, 1]⟩

abbrev nBuf : Space → Nat
  | .hbm => 80
  | .vmem => 37
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x5632, .f32⟩
  | .hbm, ⟨24, _⟩ => ⟨S_, .f32⟩
  | .hbm, ⟨25, _⟩ => ⟨S1x1x5632, .f32⟩
  | .hbm, ⟨26, _⟩ => ⟨S1x8194x5632, .f32⟩
  | .hbm, ⟨27, _⟩ => ⟨S1x5632, .f32⟩
  | .hbm, ⟨28, _⟩ => ⟨S5632, .f32⟩
  | .hbm, ⟨29, _⟩ => ⟨S1x8192x5632, .f32⟩
  | .hbm, ⟨30, _⟩ => ⟨S1x1x5632, .f32⟩
  | .hbm, ⟨31, _⟩ => ⟨S1x8192x5632, .f32⟩
  | .hbm, ⟨32, _⟩ => ⟨S1x8192x5632, .f32⟩
  | .hbm, ⟨33, _⟩ => ⟨S1x5632, .f32⟩
  | .hbm, ⟨34, _⟩ => ⟨S5632, .f32⟩
  | .hbm, ⟨35, _⟩ => ⟨S1x8192x5632, .f32⟩
  | .hbm, ⟨36, _⟩ => ⟨S1x1x5632, .f32⟩
  | .hbm, ⟨37, _⟩ => ⟨S1x8192x5632, .f32⟩
  | .hbm, ⟨38, _⟩ => ⟨S1x8192x5632, .f32⟩
  | .hbm, ⟨39, _⟩ => ⟨S1x8192x5632, .f32⟩
  | .hbm, ⟨40, _⟩ => ⟨S1x5632, .f32⟩
  | .hbm, ⟨41, _⟩ => ⟨S5632, .f32⟩
  | .hbm, ⟨42, _⟩ => ⟨S1x8192x5632, .f32⟩
  | .hbm, ⟨43, _⟩ => ⟨S1x1x5632, .f32⟩
  | .hbm, ⟨44, _⟩ => ⟨S1x8192x5632, .f32⟩
  | .hbm, ⟨45, _⟩ => ⟨S1x8192x5632, .f32⟩
  | .hbm, ⟨46, _⟩ => ⟨S1x8192x5632, .f32⟩
  | .hbm, ⟨47, _⟩ => ⟨S1x8192x2816, .f32⟩
  | .hbm, ⟨48, _⟩ => ⟨S1x8192x2816, .f32⟩
  | .hbm, ⟨49, _⟩ => ⟨S1024x1408, .f32⟩
  | .hbm, ⟨50, _⟩ => ⟨S1024x1408, .bf16⟩
  | .hbm, ⟨51, _⟩ => ⟨S1024x1408, .f32⟩
  | .hbm, ⟨52, _⟩ => ⟨S1024x1408, .bf16⟩
  | .hbm, ⟨53, _⟩ => ⟨S1024x1408, .f32⟩
  | .hbm, ⟨54, _⟩ => ⟨S1024x1408, .bf16⟩
  | .hbm, ⟨55, _⟩ => ⟨S1024x1408, .f32⟩
  | .hbm, ⟨56, _⟩ => ⟨S1024x1408, .bf16⟩
  | .hbm, ⟨57, _⟩ => ⟨S1x1024x1408, .bf16⟩
  | .hbm, ⟨58, _⟩ => ⟨S1x1024x1408, .bf16⟩
  | .hbm, ⟨59, _⟩ => ⟨S1x1024x1408, .bf16⟩
  | .hbm, ⟨60, _⟩ => ⟨S1x1024x1408, .bf16⟩
  | .hbm, ⟨61, _⟩ => ⟨S4x1024x1408, .bf16⟩
  | .hbm, ⟨62, _⟩ => ⟨S8192x1024, .f32⟩
  | .hbm, ⟨63, _⟩ => ⟨S8192x1024, .bf16⟩
  | .hbm, ⟨64, _⟩ => ⟨S8192x2816, .f32⟩
  | .hbm, ⟨65, _⟩ => ⟨S8192x2816, .bf16⟩
  | .hbm, ⟨66, _⟩ => ⟨S8192x2816, .f32⟩
  | .hbm, ⟨67, _⟩ => ⟨S8192x2816, .bf16⟩
  | .hbm, ⟨68, _⟩ => ⟨S8192x5632, .f32⟩
  | .hbm, ⟨69, _⟩ => ⟨S8192x5632, .bf16⟩
  | .hbm, ⟨70, _⟩ => ⟨S2816x1024, .bf16⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x2816, .bf16⟩
  | .hbm, ⟨75, _⟩ => ⟨S8192x2816, .bf16⟩
  | .hbm, ⟨76, _⟩ => ⟨S8192x1024, .f32⟩
  | .hbm, ⟨77, _⟩ => ⟨S1x1024, .f32⟩
  | .hbm, ⟨78, _⟩ => ⟨S8x2816, .f32⟩
  | .hbm, ⟨79, _⟩ => ⟨S8x2816, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S16x2816, .bf16⟩
  | .local _ .vmem, ⟨11, _⟩ => ⟨S16x2816, .bf16⟩
  | .local _ .vmem, ⟨12, _⟩ => ⟨S256x2816, .bf16⟩
  | .local _ .vmem, ⟨13, _⟩ => ⟨S256x2816, .bf16⟩
  | .local _ .vmem, ⟨14, _⟩ => ⟨S16x2816, .bf16⟩
  | .local _ .vmem, ⟨15, _⟩ => ⟨S16x2816, .bf16⟩
  | .local _ .vmem, ⟨16, _⟩ => ⟨S16x2816, .bf16⟩
  | .local _ .vmem, ⟨17, _⟩ => ⟨S16x2816, .bf16⟩
  | .local _ .vmem, ⟨18, _⟩ => ⟨S256x5632, .bf16⟩
  | .local _ .vmem, ⟨19, _⟩ => ⟨S256x5632, .bf16⟩
  | .local _ .vmem, ⟨20, _⟩ => ⟨S3x5632, .f32⟩
  | .local _ .vmem, ⟨21, _⟩ => ⟨S2816x1024, .bf16⟩
  | .local _ .vmem, ⟨22, _⟩ => ⟨S4x1024x1408, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | .local _ .vmem, ⟨35, _⟩ => ⟨S8x2816, .f32⟩
  | .local _ .vmem, ⟨36, _⟩ => ⟨S8x2816, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63_0 : Ref sig .tc := ⟨.hbm, 74, rfl⟩
abbrev main_v63_1 : Ref sig .tc := ⟨.hbm, 75, rfl⟩
abbrev main_v63_2 : Ref sig .tc := ⟨.hbm, 76, rfl⟩
abbrev main_v63_3 : Ref sig .tc := ⟨.hbm, 77, rfl⟩
abbrev main_v63_4 : Ref sig .tc := ⟨.hbm, 78, rfl⟩
abbrev main_v63_5 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024x1408 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== FfnRefIdeal.lean ====
abbrev S1x8192x1024 : Shape := ⟨3, ![1, 8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x1x5632 : Shape := ⟨3, ![1, 1, 5632]⟩
abbrev S1x8194x5632 : Shape := ⟨3, ![1, 8194, 5632]⟩
abbrev S1x5632 : Shape := ⟨2, ![1, 5632]⟩
abbrev S5632 : Shape := ⟨1, ![5632]⟩
abbrev S1x8192x2816 : Shape := ⟨3, ![1, 8192, 2816]⟩
abbrev S1x1024 : Shape := ⟨2, ![1, 1024]⟩
abbrev S8192 : Shape := ⟨1, ![8192]⟩
abbrev S8x5632 : Shape := ⟨2, ![8, 5632]⟩
abbrev S8192x2816 : Shape := ⟨2, ![8192, 2816]⟩
abbrev S8192x1024 : Shape := ⟨2, ![8192, 1024]⟩
abbrev S8x2816 : Shape := ⟨2, ![8, 2816]⟩

abbrev nBuf : Space → Nat
  | .hbm => 167
  | .vmem => 0
  | .smem => 0
  | _ => 0

abbrev hbmTy0_0 (i : Nat) : BufTy := match i % 128 with
  | 0 => ⟨S1x8192x1024, .f32⟩
  | 1 => ⟨S1024, .f32⟩
  | 2 => ⟨S1024x5632, .f32⟩
  | 3 => ⟨S3x5632, .f32⟩
  | 4 => ⟨S2816x1024, .f32⟩
  | 5 => ⟨S1x8192x1024, .f32⟩
  | 6 => ⟨S1x8192x1024, .f32⟩
  | 7 => ⟨S1x8192x1024, .f32⟩
  | 8 => ⟨S_, .f32⟩
  | 9 => ⟨S1x8192, .f32⟩
  | 10 => ⟨S1x8192x1, .f32⟩
  | 11 => ⟨S_, .f32⟩
  | 12 => ⟨S1x8192x1, .f32⟩
  | 13 => ⟨S1x8192x1, .f32⟩
  | 14 => ⟨S_, .f32⟩
  | 15 => ⟨S1x8192x1, .f32⟩
  | 16 => ⟨S1x8192x1, .f32⟩
  | 17 => ⟨S1x8192x1, .f32⟩
  | 18 => ⟨S1x8192x1, .f32⟩
  | 19 => ⟨S_, .f32⟩
  | 20 => ⟨S1x8192x1, .f32⟩
  | 21 => ⟨S1x8192x1, .f32⟩
  | 22 => ⟨S1x8192x1024, .f32⟩
  | 23 => ⟨S1x8192x1024, .f32⟩
  | 24 => ⟨S1x1x1024, .f32⟩
  | 25 => ⟨S1x8192x1024, .f32⟩
  | 26 => ⟨S1x8192x1024, .f32⟩
  | 27 => ⟨S1x8192x5632, .f32⟩
  | 28 => ⟨S_, .f32⟩
  | 29 => ⟨S1x1x5632, .f32⟩
  | 30 => ⟨S1x8194x5632, .f32⟩
  | 31 => ⟨S_, .f32⟩
  | 32 => ⟨S1x1x5632, .f32⟩
  | 33 => ⟨S_, .f32⟩
  | 34 => ⟨S1x1x5632, .f32⟩
  | 35 => ⟨S1x5632, .f32⟩
  | 36 => ⟨S5632, .f32⟩
  | 37 => ⟨S1x8192x5632, .f32⟩
  | 38 => ⟨S1x1x5632, .f32⟩
  | 39 => ⟨S1x8192x5632, .f32⟩
  | 40 => ⟨S1x8192x5632, .f32⟩
  | 41 => ⟨S1x5632, .f32⟩
  | 42 => ⟨S5632, .f32⟩
  | 43 => ⟨S1x8192x5632, .f32⟩
  | 44 => ⟨S1x1x5632, .f32⟩
  | 45 => ⟨S1x8192x5632, .f32⟩
  | 46 => ⟨S1x8192x5632, .f32⟩
  | 47 => ⟨S1x8192x5632, .f32⟩
  | 48 => ⟨S1x5632, .f32⟩
  | 49 => ⟨S5632, .f32⟩
  | 50 => ⟨S1x8192x5632, .f32⟩
  | 51 => ⟨S1x1x5632, .f32⟩
  | 52 => ⟨S1x8192x5632, .f32⟩
  | 53 => ⟨S1x8192x5632, .f32⟩
  | 54 => ⟨S1x8192x5632, .f32⟩
  | 55 => ⟨S1x8192x2816, .f32⟩
  | 56 => ⟨S1x8192x2816, .f32⟩
  | 57 => ⟨S1x8192x2816, .f32⟩
  | 58 => ⟨S1x8192x2816, .f32⟩
  | 59 => ⟨S_, .f32⟩
  | 60 => ⟨S1x8192x2816, .f32⟩
  | 61 => ⟨S1x8192x2816, .f32⟩
  | 62 => ⟨S_, .f32⟩
  | 63 => ⟨S1x8192x2816, .f32⟩
  | 64 => ⟨S1x8192x2816, .f32⟩
  | 65 => ⟨S_, .f32⟩
  | 66 => ⟨S1x8192x2816, .f32⟩
  | 67 => ⟨S1x8192x2816, .f32⟩
  | 68 => ⟨S1x8192x2816, .f32⟩
  | 69 => ⟨S1x8192x2816, .f32⟩
  | 70 => ⟨S1x8192x2816, .f32⟩
  | 71 => ⟨S1x8192x1024, .f32⟩
  | 72 => ⟨S1x8192x2816, .f32⟩
  | 73 => ⟨S1x8192x2816, .f32⟩
  | 74 => ⟨S1x8192x2816, .f32⟩
  | 75 => ⟨S1x8192x2816, .f32⟩
  | 76 => ⟨S1x8192x2816, .f32⟩
  | 77 => ⟨S1x8192x2816, .f32⟩
  | 78 => ⟨S1x8192x2816, .f32⟩
  | 79 => ⟨S1x8192x5632, .f32⟩
  | 80 => ⟨S1x8192x5632, .f32⟩
  | 81 => ⟨S1x8192x5632, .f32⟩
  | 82 => ⟨S1x8192x5632, .f32⟩
  | 83 => ⟨S_, .f32⟩
  | 84 => ⟨S1x5632, .f32⟩
  | 85 => ⟨S1x1x5632, .f32⟩
  | 86 => ⟨S_, .f32⟩
  | 87 => ⟨S5632, .f32⟩
  | 88 => ⟨S_, .f32⟩
  | 89 => ⟨S1x8194x5632, .f32⟩
  | 90 => ⟨S1x5632, .f32⟩
  | 91 => ⟨S_, .f32⟩
  | 92 => ⟨S3x5632, .f32⟩
  | 93 => ⟨S1x8192x5632, .f32⟩
  | 94 => ⟨S1x8192x5632, .f32⟩
  | 95 => ⟨S1x8192x5632, .f32⟩
  | 96 => ⟨S_, .f32⟩
  | 97 => ⟨S1x5632, .f32⟩
  | 98 => ⟨S1x1x5632, .f32⟩
  | 99 => ⟨S_, .f32⟩
  | 100 => ⟨S5632, .f32⟩
  | 101 => ⟨S_, .f32⟩
  | 102 => ⟨S1x8194x5632, .f32⟩
  | 103 => ⟨S1x8194x5632, .f32⟩
  | 104 => ⟨S1x5632, .f32⟩
  | 105 => ⟨S_, .f32⟩
  | 106 => ⟨S3x5632, .f32⟩
  | 107 => ⟨S3x5632, .f32⟩
  | 108 => ⟨S1x8192x5632, .f32⟩
  | 109 => ⟨S1x8192x5632, .f32⟩
  | 110 => ⟨S1x8192x5632, .f32⟩
  | 111 => ⟨S_, .f32⟩
  | 112 => ⟨S1x5632, .f32⟩
  | 113 => ⟨S1x1x5632, .f32⟩
  | 114 => ⟨S_, .f32⟩
  | 115 => ⟨S5632, .f32⟩
  | 116 => ⟨S_, .f32⟩
  | 117 => ⟨S1x8194x5632, .f32⟩
  | 118 => ⟨S1x8194x5632, .f32⟩
  | 119 => ⟨S1x5632, .f32⟩
  | 120 => ⟨S_, .f32⟩
  | 121 => ⟨S3x5632, .f32⟩
  | 122 => ⟨S3x5632, .f32⟩
  | 123 => ⟨S1x1x5632, .f32⟩
  | 124 => ⟨S1x8192x5632, .f32⟩
  | 125 => ⟨S1x1x5632, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S_, .f32⟩
  | 1 => ⟨S1x1024, .f32⟩
  | 2 => ⟨S1x1x1024, .f32⟩
  | 3 => ⟨S1x8192x1024, .f32⟩
  | 4 => ⟨S1x8192x1024, .f32⟩
  | 5 => ⟨S_, .f32⟩
  | 6 => ⟨S1024, .f32⟩
  | 7 => ⟨S1x8192x1024, .f32⟩
  | 8 => ⟨S_, .f32⟩
  | 9 => ⟨S1x8192, .f32⟩
  | 10 => ⟨S1x8192x1, .f32⟩
  | 11 => ⟨S1x8192x1024, .f32⟩
  | 12 => ⟨S1x8192x1024, .f32⟩
  | 13 => ⟨S1x8192x1, .f32⟩
  | 14 => ⟨S_, .f32⟩
  | 15 => ⟨S1x8192x1, .f32⟩
  | 16 => ⟨S1x8192x1, .f32⟩
  | 17 => ⟨S_, .f32⟩
  | 18 => ⟨S8192, .f32⟩
  | 19 => ⟨S1x8192, .f32⟩
  | 20 => ⟨S1x8192x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S_, .i32⟩
  | 26 => ⟨S_, .f32⟩
  | 27 => ⟨S8x5632, .f32⟩
  | 28 => ⟨S1x8192x2816, .f32⟩
  | 29 => ⟨S8192x2816, .f32⟩
  | 30 => ⟨S8192x2816, .bf16⟩
  | 31 => ⟨S1x8192x2816, .f32⟩
  | 32 => ⟨S8192x2816, .f32⟩
  | 33 => ⟨S8192x2816, .bf16⟩
  | 34 => ⟨S1x8192x1024, .f32⟩
  | 35 => ⟨S8192x1024, .f32⟩
  | 36 => ⟨S1x1024, .f32⟩
  | 37 => ⟨S8x2816, .f32⟩
  | 38 => ⟨S8x2816, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v43_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v43_1 : Ref sig .tc := ⟨.hbm, 68, rfl⟩
abbrev main_v43_0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_10 : Ref sig .tc := ⟨.hbm, 96, rfl⟩
abbrev main_v63 : Ref sig .tc := ⟨.hbm, 97, rfl⟩
abbrev main_v64 : Ref sig .tc := ⟨.hbm, 98, rfl⟩
abbrev main_cst_11 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c : Ref sig .tc := ⟨.hbm, 153, rfl⟩
abbrev main_call2_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩

abbrev nD : Nat := 1
abbrev τ : Topo := Topo.v7x

variable {F : FTy → Type} [FloatOps F]
-- ==== Proj.lean ====
abbrev S1x8192x1024 : Shape := ⟨3, ![1, 8192, 1024]⟩
abbrev S1024 : Shape := ⟨1, ![1024]⟩
abbrev S1024x3104 : Shape := ⟨2, ![1024, 3104]⟩
abbrev S8192x1024 : Shape := ⟨2, ![8192, 1024]⟩
abbrev S1x1024 : Shape := ⟨2, ![1, 1024]⟩
abbrev S_ : Shape := ⟨0, ![]⟩
abbrev S1024x3200 : Shape := ⟨2, ![1024, 3200]⟩
abbrev S8192x3200 : Shape := ⟨2, ![8192, 3200]⟩
abbrev S1024x1024 : Shape := ⟨2, ![1024, 1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3104, .f32⟩
  | .hbm, ⟨3, _⟩ => ⟨S8192x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S1024x3200, .f32⟩
  | .hbm, ⟨8, _⟩ => ⟨S1024x3200, .bf16⟩
  | .hbm, ⟨9, _⟩ => ⟨S8192x3200, .bf16⟩
  | .hbm, ⟨10, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1024x3200, .bf16⟩
  | .local _ .vmem, ⟨5, _⟩ => ⟨S1024x3200, .bf16⟩
  | .local _ .vmem, ⟨6, _⟩ => ⟨S1024x1024, .bf16⟩
  | .local _ .vmem, ⟨7, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjRefIdeal.lean ====
abbrev S1x8192x1024 : Shape := ⟨3, ![1, 8192, 1024]⟩
abbrev S1024 : Shape := ⟨1, ![1024]⟩
abbrev S1024x3104 : Shape := ⟨2, ![1024, 3104]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x3104 : Shape := ⟨3, ![1, 8192, 3104]⟩
abbrev S1x8192x3200 : Shape := ⟨3, ![1, 8192, 3200]⟩
abbrev S8192x3200 : Shape := ⟨2, ![8192, 3200]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x3104, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S1x8192x3104, .f32⟩
  | .hbm, ⟨20, _⟩ => ⟨S_, .i32⟩
  | .hbm, ⟨21, _⟩ => ⟨S_, .f32⟩
  | .hbm, ⟨22, _⟩ => ⟨S1x8192x3200, .f32⟩
  | .hbm, ⟨23, _⟩ => ⟨S8192x3200, .f32⟩
  | .hbm, ⟨24, _⟩ => ⟨S8192x3200, .bf16⟩
  | .hbm, ⟨25, _⟩ => ⟨S8192x1024, .f32⟩
  | .hbm, ⟨26, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixOut.lean ====
abbrev S1x8192x3104 : Shape := ⟨3, ![1, 8192, 3104]⟩
abbrev S1x4x8192x128 : Shape := ⟨4, ![1, 4, 8192, 128]⟩
abbrev S3x512 : Shape := ⟨2, ![3, 512]⟩
abbrev S128 : Shape := ⟨1, ![128]⟩
abbrev S1024x1024 : Shape := ⟨2, ![1024, 1024]⟩
abbrev S1024 : Shape := ⟨1, ![1024]⟩
abbrev S1x8192x1024 : Shape := ⟨3, ![1, 8192, 1024]⟩
abbrev S8192x3104 : Shape := ⟨2, ![8192, 3104]⟩
abbrev S_ : Shape := ⟨0, ![]⟩
abbrev S8192x3200 : Shape := ⟨2, ![8192, 3200]⟩
abbrev S1x8192x4x128 : Shape := ⟨4, ![1, 8192, 4, 128]⟩
abbrev S8192x512 : Shape := ⟨2, ![8192, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S8192x1024 : Shape := ⟨2, ![8192, 1024]⟩
abbrev S512x512 : Shape := ⟨2, ![512, 512]⟩
abbrev S16x512 : Shape := ⟨2, ![16, 512]⟩
abbrev S512x1024 : Shape := ⟨2, ![512, 1024]⟩
abbrev S8x512 : Shape := ⟨2, ![8, 512]⟩
abbrev S528x512 : Shape := ⟨2, ![528, 512]⟩
abbrev S512x128 : Shape := ⟨2, ![512, 128]⟩
abbrev S512x1 : Shape := ⟨2, ![512, 1]⟩

abbrev nBuf : Space → Nat
  | .hbm => 29
  | .vmem => 32
  | .smem => 0
  | _ => 0

abbrev bufTy : (tb : Table) → Fin (tcTables nBuf tb) → BufTy
  | .hbm, ⟨0, _⟩ => ⟨S1x8192x3104, .f32⟩
  | .hbm, ⟨1, _⟩ => ⟨S1x4x8192x128, .f32⟩
  | .hbm, ⟨2, _⟩ => ⟨S1x4x8192x128, .f32⟩
  | .hbm, ⟨3, _⟩ => ⟨S3x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1x8192x1024, .f32⟩
  | .hbm, ⟨8, _⟩ => ⟨S8192x3104, .f32⟩
  | .hbm, ⟨9, _⟩ => ⟨S_, .i32⟩
  | .hbm, ⟨10, _⟩ => ⟨S_, .f32⟩
  | .hbm, ⟨11, _⟩ => ⟨S8192x3200, .f32⟩
  | .hbm, ⟨12, _⟩ => ⟨S8192x3200, .bf16⟩
  | .hbm, ⟨13, _⟩ => ⟨S1x8192x4x128, .f32⟩
  | .hbm, ⟨14, _⟩ => ⟨S8192x512, .f32⟩
  | .hbm, ⟨15, _⟩ => ⟨S8192x512, .bf16⟩
  | .hbm, ⟨16, _⟩ => ⟨S1x8192x4x128, .f32⟩
  | .hbm, ⟨17, _⟩ => ⟨S8192x512, .f32⟩
  | .hbm, ⟨18, _⟩ => ⟨S8192x512, .bf16⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S1x512, .f32⟩
  | .hbm, ⟨23, _⟩ => ⟨S1024x1024, .bf16⟩
  | .hbm, ⟨24, _⟩ => ⟨S1x1024, .f32⟩
  | .hbm, ⟨25, _⟩ => ⟨S8192x1024, .f32⟩
  | .hbm, ⟨26, _⟩ => ⟨S8192x1024, .bf16⟩
  | .hbm, ⟨27, _⟩ => ⟨S8192x1024, .f32⟩
  | .hbm, ⟨28, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S3x512, .f32⟩
  | .local _ .vmem, ⟨21, _⟩ => ⟨S1x512, .f32⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S1x8192x3104, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixOutRefIdeal.lean ====
abbrev S1x8192x3104 : Shape := ⟨3, ![1, 8192, 3104]⟩
abbrev S1x4x8192x128 : Shape := ⟨4, ![1, 4, 8192, 128]⟩
abbrev S3x512 : Shape := ⟨2, ![3, 512]⟩
abbrev S128 : Shape := ⟨1, ![128]⟩
abbrev S1024x1024 : Shape := ⟨2, ![1024, 1024]⟩
abbrev S1024 : Shape := ⟨1, ![1024]⟩
abbrev S1x8192x1024 : Shape := ⟨3, ![1, 8192, 1024]⟩
abbrev S1x8192x512 : Shape := ⟨3, ![1, 8192, 512]⟩
abbrev S1x8192x256 : Shape := ⟨3, ![1, 8192, 256]⟩
abbrev S1x8192x16 : Shape := ⟨3, ![1, 8192, 16]⟩
abbrev S_ : Shape := ⟨0, ![]⟩
abbrev S1x1x512 : Shape := ⟨3, ![1, 1, 512]⟩
abbrev S1x8194x512 : Shape := ⟨3, ![1, 8194, 512]⟩
abbrev S1x512 : Shape := ⟨2, ![1, 512]⟩
abbrev S512 : Shape := ⟨1, ![512]⟩
abbrev S1x4x8192 : Shape := ⟨3, ![1, 4, 8192]⟩
abbrev S1x4x8192x1 : Shape := ⟨4, ![1, 4, 8192, 1]⟩
abbrev S1x1x1x128 : Shape := ⟨4, ![1, 1, 1, 128]⟩
abbrev S1x8192x4x128 : Shape := ⟨4, ![1, 8192, 4, 128]⟩
abbrev S8192x1024 : Shape := ⟨2, ![8192, 1024]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S1x8192x3104, .f32⟩
  | .hbm, ⟨1, _⟩ => ⟨S1x4x8192x128, .f32⟩
  | .hbm, ⟨2, _⟩ => ⟨S1x4x8192x128, .f32⟩
  | .hbm, ⟨3, _⟩ => ⟨S3x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1x8192x1024, .f32⟩
  | .hbm, ⟨8, _⟩ => ⟨S1x8192x512, .f32⟩
  | .hbm, ⟨9, _⟩ => ⟨S1x8192x512, .f32⟩
  | .hbm, ⟨10, _⟩ => ⟨S1x8192x512, .f32⟩
  | .hbm, ⟨11, _⟩ => ⟨S1x8192x256, .f32⟩
  | .hbm, ⟨12, _⟩ => ⟨S1x8192x256, .f32⟩
  | .hbm, ⟨13, _⟩ => ⟨S1x8192x512, .f32⟩
  | .hbm, ⟨14, _⟩ => ⟨S1x8192x512, .f32⟩
  | .hbm, ⟨15, _⟩ => ⟨S1x8192x16, .f32⟩
  | .hbm, ⟨16, _⟩ => ⟨S1x8192x16, .f32⟩
  | .hbm, ⟨17, _⟩ => ⟨S1x8192x512, .f32⟩
  | .hbm, ⟨18, _⟩ => ⟨S_, .f32⟩
  | .hbm, ⟨19, _⟩ => ⟨S1x1x512, .f32⟩
  | .hbm, ⟨20, _⟩ => ⟨S1x8194x512, .f32⟩
  | .hbm, ⟨21, _⟩ => ⟨S1x512, .f32⟩
  | .hbm, ⟨22, _⟩ => ⟨S512, .f32⟩
  | .hbm, ⟨23, _⟩ => ⟨S1x8192x512, .f32⟩
  | .hbm, ⟨24, _⟩ => ⟨S1x1x512, .f32⟩
  | .hbm, ⟨25, _⟩ => ⟨S1x8192x512, .f32⟩
  | .hbm, ⟨26, _⟩ => ⟨S1x8192x512, .f32⟩
  | .hbm, ⟨27, _⟩ => ⟨S1x512, .f32⟩
  | .hbm, ⟨28, _⟩ => ⟨S512, .f32⟩
  | .hbm, ⟨29, _⟩ => ⟨S1x8192x512, .f32⟩
  | .hbm, ⟨30, _⟩ => ⟨S1x1x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S1x512, .f32⟩
  | .hbm, ⟨35, _⟩ => ⟨S512, .f32⟩
  | .hbm, ⟨36, _⟩ => ⟨S1x8192x512, .f32⟩
  | .hbm, ⟨37, _⟩ => ⟨S1x1x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S1x4x8192x128, .f32⟩
  | .hbm, ⟨42, _⟩ => ⟨S1x8192x512, .f32⟩
  | .hbm, ⟨43, _⟩ => ⟨S1x8192x512, .f32⟩
  | .hbm, ⟨44, _⟩ => ⟨S1x8192x512, .f32⟩
  | .hbm, ⟨45, _⟩ => ⟨S_, .f32⟩
  | .hbm, ⟨46, _⟩ => ⟨S1x8192x512, .f32⟩
  | .hbm, ⟨47, _⟩ => ⟨S1x8192x512, .f32⟩
  | .hbm, ⟨48, _⟩ => ⟨S_, .f32⟩
  | .hbm, ⟨49, _⟩ => ⟨S1x8192x512, .f32⟩
  | .hbm, ⟨50, _⟩ => ⟨S1x8192x512, .f32⟩
  | .hbm, ⟨51, _⟩ => ⟨S1x8192x512, .f32⟩
  | .hbm, ⟨52, _⟩ => ⟨S1x4x8192x128, .f32⟩
  | .hbm, ⟨53, _⟩ => ⟨S_, .f32⟩
  | .hbm, ⟨54, _⟩ => ⟨S1x4x8192, .f32⟩
  | .hbm, ⟨55, _⟩ => ⟨S1x4x8192x1, .f32⟩
  | .hbm, ⟨56, _⟩ => ⟨S_, .f32⟩
  | .hbm, ⟨57, _⟩ => ⟨S1x4x8192x1, .f32⟩
  | .hbm, ⟨58, _⟩ => ⟨S1x4x8192x1, .f32⟩
  | .hbm, ⟨59, _⟩ => ⟨S_, .f32⟩
  | .hbm, ⟨60, _⟩ => ⟨S1x4x8192x1, .f32⟩
  | .hbm, ⟨61, _⟩ => ⟨S1x4x8192x1, .f32⟩
  | .hbm, ⟨62, _⟩ => ⟨S1x4x8192x1, .f32⟩
  | .hbm, ⟨63, _⟩ => ⟨S1x4x8192x128, .f32⟩
  | .hbm, ⟨64, _⟩ => ⟨S1x4x8192x128, .f32⟩
  | .hbm, ⟨65, _⟩ => ⟨S1x1x1x128, .f32⟩
  | .hbm, ⟨66, _⟩ => ⟨S1x4x8192x128, .f32⟩
  | .hbm, ⟨67, _⟩ => ⟨S1x4x8192x128, .f32⟩
  | .hbm, ⟨68, _⟩ => ⟨S1x8192x4x128, .f32⟩
  | .hbm, ⟨69, _⟩ => ⟨S1x8192x512, .f32⟩
  | .hbm, ⟨70, _⟩ => ⟨S1x8192x512, .f32⟩
  | .hbm, ⟨71, _⟩ => ⟨S1x8192x1024, .f32⟩
  | .hbm, ⟨72, _⟩ => ⟨S1x8192x1024, .f32⟩
  | .hbm, ⟨73, _⟩ => ⟨S8192x1024, .f32⟩
  | .hbm, ⟨74, _⟩ => ⟨S8192x1024, .bf16⟩
  | .hbm, ⟨75, _⟩ => ⟨S8192x1024, .f32⟩
  | .hbm, ⟨76, _⟩ => ⟨S1x8192x1024, .f32⟩
  | .hbm, ⟨77, _⟩ => ⟨S_, .f32⟩
  | .hbm, ⟨78, _⟩ => ⟨S1x8192, .f32⟩
  | .hbm, ⟨79, _⟩ => ⟨S1x8192x1, .f32⟩
  | .hbm, ⟨80, _⟩ => ⟨S_, .f32⟩
  | .hbm, ⟨81, _⟩ => ⟨S1x8192x1, .f32⟩
  | .hbm, ⟨82, _⟩ => ⟨S1x8192x1, .f32⟩
  | .hbm, ⟨83, _⟩ => ⟨S_, .f32⟩
  | .hbm, ⟨84, _⟩ => ⟨S1x8192x1, .f32⟩
  | .hbm, ⟨85, _⟩ => ⟨S1x8192x1, .f32⟩
  | .hbm, ⟨86, _⟩ => ⟨S1x8192x1, .f32⟩
  | .hbm, ⟨87, _⟩ => ⟨S1x8192x1024, .f32⟩
  | .hbm, ⟨88, _⟩ => ⟨S1x8192x1024, .f32⟩
  | .hbm, ⟨89, _⟩ => ⟨S1x1x1024, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S8192x1024, .f32⟩
  | _, _ => ⟨S1x8192x3104, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_cst_0 : Ref sig .tc := ⟨.hbm, 53, rfl⟩
abbrev main_v36 : Ref sig .tc := ⟨.hbm, 54, rfl⟩
abbrev main_v37 : Ref sig .tc := ⟨.hbm, 55, rfl⟩
abbrev main_cst_1 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_3 : Ref sig .tc := ⟨.hbm, 77, rfl⟩
abbrev main_v57 : Ref sig .tc := ⟨.hbm, 78, rfl⟩
abbrev main_v58 : Ref sig .tc := ⟨.hbm, 79, rfl⟩
abbrev main_cst_4 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== FfnFwd.lean ====
abbrev S1x8192x1024 : Shape := ⟨3, ![1, 8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x1408 : Shape := ⟨2, ![1024, 1408]⟩
abbrev S1x1024x1408 : Shape := ⟨3, ![1, 1024, 1408]⟩
abbrev S4x1024x1408 : Shape := ⟨3, ![4, 1024, 1408]⟩
abbrev S8192x1024 : Shape := ⟨2, ![8192, 1024]⟩
abbrev S1x1024 : Shape := ⟨2, ![1, 1024]⟩
abbrev S8192x5632 : Shape := ⟨2, ![8192, 5632]⟩
abbrev S8192x2816 : Shape := ⟨2, ![8192, 2816]⟩
abbrev S256x1024 : Shape := ⟨2, ![256, 1024]⟩
abbrev S8x1024 : Shape := ⟨2, ![8, 1024]⟩
abbrev S256x5632 : Shape := ⟨2, ![256, 5632]⟩
abbrev S256x2816 : Shape := ⟨2, ![256, 2816]⟩
abbrev S272x1024 : Shape := ⟨2, ![272, 1024]⟩
abbrev S272 : Shape := ⟨1, ![272]⟩
abbrev S272x1 : Shape := ⟨2, ![272, 1]⟩
abbrev S272x1408 : Shape := ⟨2, ![272, 1408]⟩
abbrev S8x1408 : Shape := ⟨2, ![8, 1408]⟩
abbrev S256x1408 : Shape := ⟨2, ![256, 1408]⟩
abbrev S3x1408 : Shape := ⟨2, ![3, 1408]⟩
abbrev S1x1408 : Shape := ⟨2, ![1, 1408]⟩
abbrev S1408x1024 : Shape := ⟨2, ![1408, 1024]⟩
abbrev S256 : Shape := ⟨1, ![256]⟩
abbrev S256x1 : Shape := ⟨2, ![256, 1]⟩

abbrev nBuf : Space → Nat
  | .hbm => 30
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S1024x1408, .f32⟩
  | .hbm, ⟨7, _⟩ => ⟨S1024x1408, .bf16⟩
  | .hbm, ⟨8, _⟩ => ⟨S1024x1408, .f32⟩
  | .hbm, ⟨9, _⟩ => ⟨S1024x1408, .bf16⟩
  | .hbm, ⟨10, _⟩ => ⟨S1024x1408, .f32⟩
  | .hbm, ⟨11, _⟩ => ⟨S1024x1408, .bf16⟩
  | .hbm, ⟨12, _⟩ => ⟨S1024x1408, .f32⟩
  | .hbm, ⟨13, _⟩ => ⟨S1024x1408, .bf16⟩
  | .hbm, ⟨14, _⟩ => ⟨S1x1024x1408, .bf16⟩
  | .hbm, ⟨15, _⟩ => ⟨S1x1024x1408, .bf16⟩
  | .hbm, ⟨16, _⟩ => ⟨S1x1024x1408, .bf16⟩
  | .hbm, ⟨17, _⟩ => ⟨S1x1024x1408, .bf16⟩
  | .hbm, ⟨18, _⟩ => ⟨S4x1024x1408, .bf16⟩
  | .hbm, ⟨19, _⟩ => ⟨S8192x1024, .f32⟩
  | .hbm, ⟨20, _⟩ => ⟨S1x1024, .f32⟩
  | .hbm, ⟨21, _⟩ => ⟨S2816x1024, .bf16⟩
  | .hbm, ⟨22, _⟩ => ⟨S1x1024, .f32⟩
  | .hbm, ⟨23, _⟩ => ⟨S8192x5632, .bf16⟩
  | .hbm, ⟨24, _⟩ => ⟨S8192x1024, .bf16⟩
  | .hbm, ⟨25, _⟩ => ⟨S8192x2816, .bf16⟩
  | .hbm, ⟨26, _⟩ => ⟨S8192x2816, .bf16⟩
  | .hbm, ⟨27, _⟩ => ⟨S8192x2816, .bf16⟩
  | .hbm, ⟨28, _⟩ => ⟨S8192x1024, .f32⟩
  | .hbm, ⟨29, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S4x1024x1408, .bf16⟩
  | .local _ .vmem, ⟨8, _⟩ => ⟨S3x5632, .f32⟩
  | .local _ .vmem, ⟨9, _⟩ => ⟨S2816x1024, .bf16⟩
  | .local _ .vmem, ⟨10, _⟩ => ⟨S1x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v17_6 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnFwdRefIdeal.lean ====
abbrev S1x8192x1024 : Shape := ⟨3, ![1, 8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x5632 : Shape := ⟨3, ![1, 8192, 5632]⟩
abbrev S1x1x5632 : Shape := ⟨3, ![1, 1, 5632]⟩
abbrev S1x8194x5632 : Shape := ⟨3, ![1, 8194, 5632]⟩
abbrev S1x5632 : Shape := ⟨2, ![1, 5632]⟩
abbrev S5632 : Shape := ⟨1, ![5632]⟩
abbrev S1x8192x2816 : Shape := ⟨3, ![1, 8192, 2816]⟩
abbrev S8192x5632 : Shape := ⟨2, ![8192, 5632]⟩
abbrev S8192x1024 : Shape := ⟨2, ![8192, 1024]⟩
abbrev S8192x2816 : Shape := ⟨2, ![8192, 2816]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1x8192x5632, .f32⟩
  | .hbm, ⟨23, _⟩ => ⟨S_, .f32⟩
  | .hbm, ⟨24, _⟩ => ⟨S1x1x5632, .f32⟩
  | .hbm, ⟨25, _⟩ => ⟨S1x8194x5632, .f32⟩
  | .hbm, ⟨26, _⟩ => ⟨S1x5632, .f32⟩
  | .hbm, ⟨27, _⟩ => ⟨S5632, .f32⟩
  | .hbm, ⟨28, _⟩ => ⟨S1x8192x5632, .f32⟩
  | .hbm, ⟨29, _⟩ => ⟨S1x1x5632, .f32⟩
  | .hbm, ⟨30, _⟩ => ⟨S1x8192x5632, .f32⟩
  | .hbm, ⟨31, _⟩ => ⟨S1x8192x5632, .f32⟩
  | .hbm, ⟨32, _⟩ => ⟨S1x5632, .f32⟩
  | .hbm, ⟨33, _⟩ => ⟨S5632, .f32⟩
  | .hbm, ⟨34, _⟩ => ⟨S1x8192x5632, .f32⟩
  | .hbm, ⟨35, _⟩ => ⟨S1x1x5632, .f32⟩
  | .hbm, ⟨36, _⟩ => ⟨S1x8192x5632, .f32⟩
  | .hbm, ⟨37, _⟩ => ⟨S1x8192x5632, .f32⟩
  | .hbm, ⟨38, _⟩ => ⟨S1x8192x5632, .f32⟩
  | .hbm, ⟨39, _⟩ => ⟨S1x5632, .f32⟩
  | .hbm, ⟨40, _⟩ => ⟨S5632, .f32⟩
  | .hbm, ⟨41, _⟩ => ⟨S1x8192x5632, .f32⟩
  | .hbm, ⟨42, _⟩ => ⟨S1x1x5632, .f32⟩
  | .hbm, ⟨43, _⟩ => ⟨S1x8192x5632, .f32⟩
  | .hbm, ⟨44, _⟩ => ⟨S1x8192x5632, .f32⟩
  | .hbm, ⟨45, _⟩ => ⟨S1x8192x5632, .f32⟩
  | .hbm, ⟨46, _⟩ => ⟨S1x8192x2816, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S_, .f32⟩
  | .hbm, ⟨51, _⟩ => ⟨S1x8192x2816, .f32⟩
  | .hbm, ⟨52, _⟩ => ⟨S1x8192x2816, .f32⟩
  | .hbm, ⟨53, _⟩ => ⟨S_, .f32⟩
  | .hbm, ⟨54, _⟩ => ⟨S1x8192x2816, .f32⟩
  | .hbm, ⟨55, _⟩ => ⟨S1x8192x2816, .f32⟩
  | .hbm, ⟨56, _⟩ => ⟨S1x8192x2816, .f32⟩
  | .hbm, ⟨57, _⟩ => ⟨S1x8192x2816, .f32⟩
  | .hbm, ⟨58, _⟩ => ⟨S1x8192x1024, .f32⟩
  | .hbm, ⟨59, _⟩ => ⟨S8192x5632, .f32⟩
  | .hbm, ⟨60, _⟩ => ⟨S8192x5632, .bf16⟩
  | .hbm, ⟨61, _⟩ => ⟨S8192x1024, .f32⟩
  | .hbm, ⟨62, _⟩ => ⟨S8192x1024, .bf16⟩
  | .hbm, ⟨63, _⟩ => ⟨S8192x2816, .f32⟩
  | .hbm, ⟨64, _⟩ => ⟨S8192x2816, .bf16⟩
  | .hbm, ⟨65, _⟩ => ⟨S8192x2816, .f32⟩
  | .hbm, ⟨66, _⟩ => ⟨S8192x2816, .bf16⟩
  | .hbm, ⟨67, _⟩ => ⟨S8192x2816, .f32⟩
  | .hbm, ⟨68, _⟩ => ⟨S8192x2816, .bf16⟩
  | .hbm, ⟨69, _⟩ => ⟨S8192x1024, .f32⟩
  | .hbm, ⟨70, _⟩ => ⟨S1x8192x1024, .f32⟩
  | .hbm, ⟨71, _⟩ => ⟨S_, .f32⟩
  | .hbm, ⟨72, _⟩ => ⟨S1x8192, .f32⟩
  | .hbm, ⟨73, _⟩ => ⟨S1x8192x1, .f32⟩
  | .hbm, ⟨74, _⟩ => ⟨S_, .f32⟩
  | .hbm, ⟨75, _⟩ => ⟨S1x8192x1, .f32⟩
  | .hbm, ⟨76, _⟩ => ⟨S1x8192x1, .f32⟩
  | .hbm, ⟨77, _⟩ => ⟨S_, .f32⟩
  | .hbm, ⟨78, _⟩ => ⟨S1x8192x1, .f32⟩
  | .hbm, ⟨79, _⟩ => ⟨S1x8192x1, .f32⟩
  | .hbm, ⟨80, _⟩ => ⟨S1x8192x1, .f32⟩
  | .hbm, ⟨81, _⟩ => ⟨S1x8192x1024, .f32⟩
  | .hbm, ⟨82, _⟩ => ⟨S1x8192x1024, .f32⟩
  | .hbm, ⟨83, _⟩ => ⟨S1x1x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_3 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Adam.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sum.lean ====
abbrev S7872x128 : Shape := ⟨2, ![7872, 128]⟩
abbrev S984x128 : Shape := ⟨2, ![984, 128]⟩

abbrev nBuf : Space → Nat
  | .hbm => 2
  | .vmem => 2
  | .smem => 0
  | _ => 0

abbrev bufTy : (tb : Table) → Fin (tcTables nBuf tb) → BufTy
  | .hbm, ⟨0, _⟩ => ⟨S7872x128, .f32⟩
  | .hbm, ⟨1, _⟩ => ⟨S984x128, .f32⟩
  | .local _ .vmem, ⟨0, _⟩ => ⟨S7872x128, .f32⟩
  | .local _ .vmem, ⟨1, _⟩ => ⟨S984x128, .f32⟩
  | _, _ => ⟨S7872x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7872x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S984x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S7872x128 : Shape := ⟨2, ![7872, 128]⟩
abbrev S8x984x128 : Shape := ⟨3, ![8, 984, 128]⟩
abbrev S_ : Shape := ⟨0, ![]⟩
abbrev S984x128 : Shape := ⟨2, ![984, 128]⟩

abbrev nBuf : Space → Nat
  | .hbm => 4
  | .vmem => 0
  | .smem => 0
  | _ => 0

abbrev bufTy : (tb : Table) → Fin (tcTables nBuf tb) → BufTy
  | .hbm, ⟨0, _⟩ => ⟨S7872x128, .f32⟩
  | .hbm, ⟨1, _⟩ => ⟨S8x984x128, .f32⟩
  | .hbm, ⟨2, _⟩ => ⟨S_, .f32⟩
  | .hbm, ⟨3, _⟩ => ⟨S984x128, .f32⟩
  | _, _ => ⟨S7872x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Shared.lean ====
/- What the certificates share: the printed constants as numbers, sums of the extended reals with a factor taken out, and
   finite extended reals as real numbers. -/
module

public import Idealize.ShloMosaic.Lib.Pipeline.ValueKit

@[expose] public section

set_option maxRecDepth 16384

namespace Cert.Shared

open Idealize.ShloMosaic

/-! ## The printed constants -/

theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_inv2048 : Ideal.ofBits .f32 0x3A000000#32 = ((1 / 2048 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
/-- The constant of the norms: a positive number. -/
theorem c_eps : ∃ e : ℝ, 0 < e ∧ Ideal.ofBits .f32 0x358637BD#32 = (e : EReal) := by
  refine ⟨_, ?_, by simp [Ideal.ofBits, Ideal.ieee, -EReal.coe_mul]; rfl⟩
  norm_num

/-- The widths a norm's mean divides by. -/
noncomputable abbrev w1024 : EReal := Ideal.ofBits .f32 0x44800000#32
noncomputable abbrev w128 : EReal := Ideal.ofBits .f32 0x43000000#32
theorem w1024_pos : ∃ q : ℝ, 0 < q ∧ w1024 = q := ⟨1024, by norm_num, c_1024⟩
theorem w128_pos : ∃ q : ℝ, 0 < q ∧ w128 = q := ⟨128, by norm_num, c_128⟩

/-- A choice by a comparison of two words. -/
theorem select_eq {α : Type} {n : ℕ} (a b : BitVec n) (x y : α) :
    Scalar.select (Scalar.cmpi .eq a b) x y = if a = b then x else y := by
  unfold Scalar.select Scalar.cmpi IntOp.cmpi
  by_cases h : a = b
  · simp [h]
  · rw [if_neg h, if_neg]
    simp [beq_eq_false_iff_ne.mpr h]

/-- The logistic function by the hyperbolic tangent of half the argument. -/
theorem half_tanh (x : EReal) : Ideal.ofBits .f32 0x3F000000#32 * Ideal.tanh (Ideal.ofBits .f32 0x3F000000#32 * x)
    + Ideal.ofBits .f32 0x3F000000#32 = Ideal.logistic x := by
  have hh : (0 : ℝ) < 1 / 2 := by norm_num
  rw [c_half]
  induction x with
  | bot =>
    rw [EReal.coe_mul_bot_of_pos hh, Ideal.tanh_bot, Ideal.logistic_bot]
    rw [show (-1 : EReal) = ((-1 : ℝ) : EReal) from rfl, ← EReal.coe_mul, ← EReal.coe_add]
    norm_num
  | top =>
    rw [EReal.coe_mul_top_of_pos hh, Ideal.tanh_top, Ideal.logistic_top]
    rw [show (1 : EReal) = ((1 : ℝ) : EReal) from rfl, ← EReal.coe_mul, ← EReal.coe_add]
    norm_num
  | coe x =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-(1 / 2 * x)) = (Real.exp (1 / 2 * x))⁻¹ := Real.exp_neg _
    have h2 : Real.exp (-x) = (Real.exp (1 / 2 * x))⁻¹ * (Real.exp (1 / 2 * x))⁻¹ := by
      rw [← Real.exp_neg, ← Real.exp_add]; ring_nf
    rw [h1, h2]
    have hp := Real.exp_pos (1 / 2 * x)
    generalize Real.exp (1 / 2 * x) = u at hp
    have : u * u + 1 ≠ 0 := by positivity
    field_simp
    ring

/-! ## Sums with a factor -/

/-- A nonnegative real factor moves into any sum. -/
theorem mul_sum_of_real {ι : Type*} (s : Finset ι) {c : EReal} (h0 : 0 ≤ c) (h1 : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 h1, ih]

theorem mul_self_nonneg' (a : EReal) : 0 ≤ a * a := by
  rcases le_total 0 a with h | h
  · exact EReal.mul_nonneg h h
  · exact EReal.mul_nonneg_iff.mpr (.inr ⟨h, h⟩)

/-- A factor moves into a sum of nonnegative terms. -/
theorem mul_sum_of_nonneg {ι : Type*} (s : Finset ι) (c : EReal) {f : ι → EReal} (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i),
      ih]

/-! ## A host sum over axes of size one -/

theorem hostSum_mid {n : ℕ} (h : (⟨3, ![1, n, 1]⟩ : Shape).ReducesTo [0, 2] ⟨1, ![n]⟩)
    (x : (⟨3, ![1, n, 1]⟩ : Shape).Idx → EReal) (init : EReal) (r : Fin n) :
    Ideal.hostReduceAdd h x init (ix1 r) = init + x (ix3 0 r 0) := by
  unfold Ideal.hostReduceAdd
  refine congrArg (init + ·) (Finset.sum_eq_single_of_mem _ (Finset.mem_filter.mpr ⟨Finset.mem_univ _, ?_⟩) fun i hi hne => ?_)
  · funext b; match b with | ⟨0, _⟩ => exact Fin.ext rfl
  · refine absurd (funext fun a => Fin.ext ?_) hne
    have h1 := congrArg Fin.val (congrFun (Finset.mem_filter.mp hi).2 0)
    match a with
    | ⟨0, _⟩ => have := (i 0).isLt; change (i 0).val < 1 at this; show (i 0).val = 0; omega
    | ⟨1, _⟩ => exact h1
    | ⟨2, _⟩ => have := (i 2).isLt; change (i 2).val < 1 at this; show (i 2).val = 0; omega

theorem hostSum_last {n : ℕ} (h : (⟨3, ![1, 1, n]⟩ : Shape).ReducesTo [0, 1] ⟨1, ![n]⟩)
    (x : (⟨3, ![1, 1, n]⟩ : Shape).Idx → EReal) (init : EReal) (r : Fin n) :
    Ideal.hostReduceAdd h x init (ix1 r) = init + x (ix3 0 0 r) := by
  unfold Ideal.hostReduceAdd
  refine congrArg (init + ·) (Finset.sum_eq_single_of_mem _ (Finset.mem_filter.mpr ⟨Finset.mem_univ _, ?_⟩) fun i hi hne => ?_)
  · funext b; match b with | ⟨0, _⟩ => exact Fin.ext rfl
  · refine absurd (funext fun a => Fin.ext ?_) hne
    have h1 := congrArg Fin.val (congrFun (Finset.mem_filter.mp hi).2 0)
    match a with
    | ⟨0, _⟩ => have := (i 0).isLt; change (i 0).val < 1 at this; show (i 0).val = 0; omega
    | ⟨1, _⟩ => have := (i 1).isLt; change (i 1).val < 1 at this; show (i 1).val = 0; omega
    | ⟨2, _⟩ => exact h1

theorem hostSum_ends {a b : ℕ} (h : (⟨4, ![1, a, b, 1]⟩ : Shape).ReducesTo [0, 3] ⟨2, ![a, b]⟩)
    (x : (⟨4, ![1, a, b, 1]⟩ : Shape).Idx → EReal) (init : EReal) (q : Fin a) (r : Fin b) :
    Ideal.hostReduceAdd h x init (ix2 q r) = init + x (ix4 0 q r 0) := by
  unfold Ideal.hostReduceAdd
  refine congrArg (init + ·) (Finset.sum_eq_single_of_mem _ (Finset.mem_filter.mpr ⟨Finset.mem_univ _, ?_⟩) fun i hi hne => ?_)
  · funext b; match b with | ⟨0, _⟩ => exact Fin.ext rfl | ⟨1, _⟩ => exact Fin.ext rfl
  · refine absurd (funext fun a => Fin.ext ?_) hne
    have h1 := congrArg Fin.val (congrFun (Finset.mem_filter.mp hi).2 0)
    have h2 := congrArg Fin.val (congrFun (Finset.mem_filter.mp hi).2 1)
    match a with
    | ⟨0, _⟩ => have := (i 0).isLt; change (i 0).val < 1 at this; show (i 0).val = 0; omega
    | ⟨1, _⟩ => exact h1
    | ⟨2, _⟩ => exact h2
    | ⟨3, _⟩ => have := (i 3).isLt; change (i 3).val < 1 at this; show (i 3).val = 0; omega

theorem hostSum_last4 {n : ℕ} (h : (⟨4, ![1, 1, 1, n]⟩ : Shape).ReducesTo [0, 1, 2] ⟨1, ![n]⟩)
    (x : (⟨4, ![1, 1, 1, n]⟩ : Shape).Idx → EReal) (init : EReal) (r : Fin n) :
    Ideal.hostReduceAdd h x init (ix1 r) = init + x (ix4 0 0 0 r) := by
  unfold Ideal.hostReduceAdd
  refine congrArg (init + ·) (Finset.sum_eq_single_of_mem _ (Finset.mem_filter.mpr ⟨Finset.mem_univ _, ?_⟩) fun i hi hne => ?_)
  · funext b; match b with | ⟨0, _⟩ => exact Fin.ext rfl
  · refine absurd (funext fun a => Fin.ext ?_) hne
    have h1 := congrArg Fin.val (congrFun (Finset.mem_filter.mp hi).2 0)
    match a with
    | ⟨0, _⟩ => have := (i 0).isLt; change (i 0).val < 1 at this; show (i 0).val = 0; omega
    | ⟨1, _⟩ => have := (i 1).isLt; change (i 1).val < 1 at this; show (i 1).val = 0; omega
    | ⟨2, _⟩ => have := (i 2).isLt; change (i 2).val < 1 at this; show (i 2).val = 0; omega
    | ⟨3, _⟩ => exact h1

/-- A host sum over two whole axes. -/
theorem hostSum_two {a b n : ℕ} (h : (⟨4, ![1, a, b, n]⟩ : Shape).ReducesTo [1, 2] ⟨2, ![1, n]⟩)
    (x : (⟨4, ![1, a, b, n]⟩ : Shape).Idx → EReal) (init : EReal) (l : Fin n) :
    Ideal.hostReduceAdd h x init (ix2 0 l) = init + ∑ q : Fin a, ∑ r : Fin b, x (ix4 0 q r l) := by
  unfold Ideal.hostReduceAdd
  refine congrArg (init + ·) ?_
  rw [← Fintype.sum_prod_type']
  refine (Finset.sum_nbij' (fun p : Fin a × Fin b => (ix4 0 p.1 p.2 l : (⟨4, ![1, a, b, n]⟩ : Shape).Idx)) (fun i => (i 1, i 2)) (fun p _ => Finset.mem_filter.mpr ⟨Finset.mem_univ _, ?_⟩)
    (fun _ _ => Finset.mem_univ _) (fun _ _ => rfl) (fun i hi => funext fun a => Fin.ext ?_) (fun _ _ => rfl)).symm
  · funext b; match b with | ⟨0, _⟩ => exact Fin.ext rfl | ⟨1, _⟩ => exact Fin.ext rfl
  · have h1 := congrArg Fin.val (congrFun (Finset.mem_filter.mp hi).2 1)
    match a with
    | ⟨0, _⟩ => have := (i 0).isLt; change (i 0).val < 1 at this; show 0 = (i 0).val; omega
    | ⟨1, _⟩ => rfl
    | ⟨2, _⟩ => rfl
    | ⟨3, _⟩ => exact h1.symm

/-! ## Real numbers among the extended reals -/

/-- A value that is a real number. -/
def Real' (x : EReal) : Prop := ∃ r : ℝ, x = r

theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sum {ι : Type*} {s : Finset ι} {f : ι → EReal} (h : ∀ i, Real' (f i)) : Real' (∑ i ∈ s, f i) := by
  classical
  induction s using Finset.induction_on with
  | empty => exact ⟨0, by simp⟩
  | insert a s ha ih => rw [Finset.sum_insert ha]; exact (h a).add ih
theorem Real'.logistic {x : EReal} (hx : Real' x) : Real' (Ideal.logistic x) := by
  obtain ⟨a, rfl⟩ := hx; rw [Ideal.logistic_coe]; exact ⟨_, rfl⟩
theorem Real'.zero : Real' (Ideal.ofBits .f32 0x0#32) := ⟨0, by simp [Ideal.ofBits, Ideal.ieee]⟩
theorem Real'.div {x D : EReal} (hx : Real' x) (hD : ∃ q : ℝ, 0 < q ∧ D = q) : Real' (Ideal.div x D) := by
  obtain ⟨q, hq, rfl⟩ := hD; rw [Ideal.div_coe hq.ne']; exact hx.mul ⟨_, rfl⟩
theorem Real'.rsqrt {x : EReal} (hx : Real' x) (h0 : 0 < x) : Real' (Ideal.rsqrt x) := by
  obtain ⟨a, rfl⟩ := hx
  have ha : 0 < a := by exact_mod_cast h0
  rw [Ideal.rsqrt_coe, if_neg ha.le.not_gt, if_neg ha.ne']; exact ⟨_, rfl⟩
theorem Real'.sub {x y : EReal} (hx : Real' x) (hy : Real' y) : Real' (x - y) := by
  obtain ⟨a, rfl⟩ := hx; obtain ⟨b, rfl⟩ := hy; exact ⟨a - b, (EReal.coe_sub a b).symm⟩

/-! ## The gradient of a norm over a row -/

section Norm

variable {n : ℕ} (D : EReal)

/-- The mean square of a row plus the norm's constant. -/
noncomputable def meanSq (y : Fin n → EReal) : EReal :=
  Ideal.div (∑ k, y k * y k) D + Ideal.ofBits .f32 0x358637BD#32

/-- The row's gradient as the kernel writes it. -/
noncomputable def normK (d y g : Fin n → EReal) (l : Fin n) : EReal :=
  Ideal.rsqrt (meanSq D y) * (d l * g l - y l * Ideal.rsqrt (meanSq D y)
    * Ideal.div (∑ k, d k * g k * (y k * Ideal.rsqrt (meanSq D y))) D)

/-- The derivative's second term, before its factor `y`: the mean square's own share. -/
noncomputable def normShare (d y g : Fin n → EReal) : EReal :=
  Ideal.div ((∑ k, y k * (d k * g k)) * (Ideal.ofBits .f32 0xBF000000#32 * Ideal.div (Ideal.rsqrt (meanSq D y)) (meanSq D y)))
    D

/-- The row's gradient as the derivative of the norm writes it. -/
noncomputable def normR (d y g : Fin n → EReal) (l : Fin n) : EReal :=
  d l * g l * Ideal.rsqrt (meanSq D y) + y l * normShare D d y g + normShare D d y g * y l

theorem meanSq_pos (hD : ∃ q : ℝ, 0 < q ∧ D = q) (y : Fin n → EReal) : 0 < meanSq D y := by
  obtain ⟨e, he, h⟩ := c_eps
  obtain ⟨q, hq, rfl⟩ := hD
  unfold meanSq
  rw [h, Ideal.div_coe hq.ne']
  exact lt_of_lt_of_le (EReal.coe_pos.mpr he) (le_add_of_nonneg_left (EReal.mul_nonneg
    (Finset.sum_nonneg fun _ _ => mul_self_nonneg' _) (EReal.coe_nonneg.mpr (by positivity))))

/-- The two agree on every row: where a mean square is infinite both are zero, elsewhere the inverse root is a
    nonnegative real number and distributes. -/
theorem normK_eq (hD : ∃ q : ℝ, 0 < q ∧ D = q) (d y g : Fin n → EReal) (l : Fin n) : normK D d y g l = normR D d y g l := by
  unfold normK normR normShare
  have hx := meanSq_pos D hD y
  generalize meanSq D y = x at hx ⊢
  obtain ⟨q, hq, rfl⟩ := hD
  rw [c_neg_half, Ideal.div_coe hq.ne', Ideal.div_coe hq.ne']
  induction x with
  | bot => simp at hx
  | top => simp [Ideal.div]
  | coe x =>
    have hx : 0 < x := by exact_mod_cast hx
    have hs : 0 < Real.sqrt x := Real.sqrt_pos.mpr hx
    rw [Ideal.rsqrt_coe, if_neg hx.le.not_gt, if_neg hx.ne', Ideal.div_coe hx.ne']
    have hr0 : (0 : EReal) ≤ ((Real.sqrt x)⁻¹ : ℝ) := EReal.coe_nonneg.mpr (inv_nonneg.mpr hs.le)
    have hsum : ∑ k, d k * g k * (y k * ((Real.sqrt x)⁻¹ : ℝ)) = ((Real.sqrt x)⁻¹ : ℝ) * ∑ k, y k * (d k * g k) := by
      rw [mul_sum_of_real _ hr0 (EReal.coe_ne_top _)]
      exact Finset.sum_congr rfl fun k _ => by ac_rfl
    rw [hsum, sub_eq_add_neg, EReal.left_distrib_of_nonneg_of_ne_top hr0 (EReal.coe_ne_top _), mul_comm _ (d l * g l),
      add_assoc]
    refine congrArg (d l * g l * _ + ·) ?_
    generalize ∑ k, y k * (d k * g k) = B
    generalize y l = z
    have two : ∀ a : EReal, a + a = a * ((2 : ℝ) : EReal) := fun a => by
      rw [show ((2 : ℝ) : EReal) = 1 + 1 from by rw [one_add_one_eq_two]; rfl, EReal.left_distrib_of_nonneg zero_le_one zero_le_one, mul_one]
    have hl : ∀ r q : EReal, r * -(z * r * (r * B * q)) = -(z * B * (r * r * r * q)) := fun r q => by
      rw [mul_neg]; exact congrArg _ (by ac_rfl)
    have hr : ∀ a b q : EReal, z * (B * (a * b) * q) = z * B * (a * b * q) := fun a b q => by ac_rfl
    rw [mul_comm _ z, two, hl, hr, mul_assoc (z * B)]
    simp only [← EReal.coe_mul]
    rw [← mul_neg, ← EReal.coe_neg]
    refine congrArg (fun q : ℝ => z * B * (q : EReal)) ?_
    have hss : (Real.sqrt x)⁻¹ * (Real.sqrt x)⁻¹ = 1 / x := by
      rw [← mul_inv, Real.mul_self_sqrt hx.le, one_div]
    rw [hss]; ring

theorem meanSq_real (hD : ∃ q : ℝ, 0 < q ∧ D = q) {y : Fin n → EReal} (h : ∀ k, Real' (y k)) : Real' (meanSq D y) := by
  obtain ⟨e, -, he⟩ := c_eps
  exact ((Real'.sum fun k => (h k).mul (h k)).div hD).add ⟨e, he⟩
theorem rs_real (hD : ∃ q : ℝ, 0 < q ∧ D = q) {y : Fin n → EReal} (h : ∀ k, Real' (y k)) : Real' (Ideal.rsqrt (meanSq D y)) :=
  (meanSq_real D hD h).rsqrt (meanSq_pos D hD y)
theorem normK_real (hD : ∃ q : ℝ, 0 < q ∧ D = q) {d y g : Fin n → EReal} (hd : ∀ k, Real' (d k)) (hy : ∀ k, Real' (y k))
    (hg : ∀ k, Real' (g k)) (l : Fin n) : Real' (normK D d y g l) :=
  (rs_real D hD hy).mul (((hd l).mul (hg l)).sub (((hy l).mul (rs_real D hD hy)).mul
    ((Real'.sum fun k => ((hd k).mul (hg k)).mul ((hy k).mul (rs_real D hD hy))).div hD)))

end Norm

end Cert.Shared

end
-- ==== Proof.PostNormValue.lean ====
/- The gradient of the norm after the feed-forward: the kernel's two arrays are the derivative's. -/
module

public import proofs.«01_k».proof.Proof.Gen.PostNormIdeal.Value
public import proofs.«01_k».proof.Proof.Gen.PostNormRefIdeal.Read
public import proofs.«01_k».proof.Proof.Shared

@[expose] public section

set_option maxRecDepth 16384

noncomputable section

namespace Cert.PostNormIdeal.Final

open Cert Cert.PostNormIdeal Cert.PostNormIdeal.Gen Idealize.ShloMosaic Idealize.ShloMosaic.TcCoe Idealize.SL.Sem
open Idealize.ShloMosaic.Pipeline (Dat)
open Cert.PostNormRefIdeal.Read

variable (m : (ℓ : Loc nD τ sig) → Buf (Elt Ideal) ℓ)

/-- Tile `t` of the rows, at every grid point. -/
theorem idx : ∀ t : Fin cfg0.N, win0_0.index t = ![t.val, 0] ∧ win0_1.index t = ![t.val, 0]
    ∧ win0_2.index t = ![0, 0] ∧ win0_3.index t = ![t.val, 0] ∧ win0_4.index t = ![0, 0] :=
  (by decide +kernel : ∀ t : Fin grid0.N, _)

/-- The kernel's gradient of one element, over the element's row. -/
theorem pay_dy (v3 v5 : FVec Ideal S1024x1024 .f32) (v7 : FVec Ideal S1x1024 .f32) (r l : Fin 1024) :
    k0_pay6 (F := Ideal) v3 v5 v7 (ix2 r l)
      = Shared.normK Shared.w1024 (fun k => v3 (ix2 r k)) (fun k => v5 (ix2 r k)) (fun k => v7 (ix2 0 k)) l := by
  pointwise [k0_pay6, k0_pay5, k0_pay4, k0_pay3, k0_pay2, Shared.normK, Shared.meanSq]

theorem ref_share (x0 x1 : FVec Ideal S1x8192x1024 .f32) (x2 : FVec Ideal S1024 .f32) (r : Fin 8192) :
    val_main_v30 (F := Ideal) x0 x1 x2 (ix1 r)
      = Shared.normShare Shared.w1024 (fun k => x0 (ix3 0 r k)) (fun k => x1 (ix3 0 r k)) (fun k => x2 (ix1 k)) := by
  pointwise [val_main_v30]
  rw [Shared.hostSum_mid]
  pointwise [val_main_v29, val_main_v28, val_main_v27, val_main_v24, val_main_v23, val_main_v22, val_main_v20,
    val_main_v19, val_main_v13, val_main_v10, val_main_v9, val_main_v8, val_main_v7, val_main_v6,
    val_main_v5, val_main_v4, val_main_v3, val_main_v2, val_main_v1, val_main_v0, val_main_cst, val_main_cst_0,
    val_main_cst_1, val_main_cst_2, val_main_cst_5, val_main_cst_6, val_main_cst_7, Shared.normShare, Shared.meanSq]

/-- The derivative's gradient of one element, over the element's row. -/
theorem ref_dy (x0 x1 : FVec Ideal S1x8192x1024 .f32) (x2 : FVec Ideal S1024 .f32) (r : Fin 8192) (l : Fin 1024) :
    val_main_v38 (F := Ideal) x0 x1 x2 (ix2 r l)
      = Shared.normR Shared.w1024 (fun k => x0 (ix3 0 r k)) (fun k => x1 (ix3 0 r k)) (fun k => x2 (ix1 k)) l := by
  pointwise [val_main_v38, val_main_v37, val_main_v36, val_main_v35, val_main_v34, val_main_v33, val_main_v32,
    val_main_v31, val_main_v26, val_main_v25, val_main_v20, val_main_v19, val_main_v13, val_main_v7, val_main_v6,
    val_main_v5, val_main_v4, val_main_v3, val_main_v2, val_main_v1, val_main_v0, val_main_cst, val_main_cst_0,
    val_main_cst_1, ref_share, Shared.normR, Shared.meanSq]

/-- The derivative's gradient of the scale: the sum over the rows of the normed value times the cotangent. -/
theorem ref_dg (x0 x1 : FVec Ideal S1x8192x1024 .f32) (l : Fin 1024) :
    val_main_v39 (F := Ideal) x0 x1 (ix2 0 l)
      = ∑ r : Fin 8192, x1 (ix3 0 r l) * Ideal.rsqrt (Shared.meanSq Shared.w1024 fun k => x1 (ix3 0 r k)) * x0 (ix3 0 r l) := by
  pointwise [val_main_v39, val_main_v21]
  rw [Shared.hostSum_last]
  pointwise [val_main_v18, val_main_v17, val_main_v16, val_main_v12, val_main_v11, val_main_v7, val_main_v6,
    val_main_v5, val_main_v4, val_main_v3, val_main_v2, val_main_v1, val_main_v0, val_main_cst, val_main_cst_0,
    val_main_cst_1, val_main_cst_3, val_main_cst_4, Shared.meanSq]

/-! ## The kernel's blocks -/

/-- The three input blocks at the arrays' rows. -/
theorem row0 (c : Dev nD) (t : Fin cfg0.N) (x y : Fin 1024) (hl : t.val * 1024 + x.val < 8192) :
    iblk m c 0 t (ix2 x y) = m ((c.tc : Thread nD τ).loc main_arg0) (ix3 0 ⟨t.val * 1024 + x.val, hl⟩ y) := by
  blk_ext! [iblk, V, idx t]
theorem row1 (c : Dev nD) (t : Fin cfg0.N) (x y : Fin 1024) (hl : t.val * 1024 + x.val < 8192) :
    iblk m c 1 t (ix2 x y) = m ((c.tc : Thread nD τ).loc main_arg1) (ix3 0 ⟨t.val * 1024 + x.val, hl⟩ y) := by
  blk_ext! [iblk, V, idx t]
theorem row2 (c : Dev nD) (t : Fin cfg0.N) (y : Fin 1024) :
    iblk m c 2 t (ix2 0 y) = m ((c.tc : Thread nD τ).loc main_arg2) (ix1 y) := by
  blk_ext! [iblk, V, idx t]

theorem row_lt (t : Fin cfg0.N) (r : Fin 1024) : t.val * 1024 + r.val < 8192 := by
  have := lt_of_lt_of_eq t.isLt (show cfg0.N = 8 from N_0); omega

theorem point_dy (c : Dev nD) (t : Fin cfg0.N) (y : S1024x1024.Idx) :
    k0_pay6 (F := Ideal) (iblk m c 0 t) (iblk m c 1 t) (iblk m c 2 t) y
      = val_main_v38 (F := Ideal) (m ((c.tc : Thread nD τ).loc main_arg0)) (m ((c.tc : Thread nD τ).loc main_arg1))
          (m ((c.tc : Thread nD τ).loc main_arg2)) (((cfg0.win 3).blk t).view.emb y) := by
  idx_vars y
  have he : ((cfg0.win 3).blk t).view.emb (ix2 y0 y1) = (ix2 ⟨t.val * 1024 + y0.val, row_lt t y0⟩ y1 : S8192x1024.Idx) := by
    blk_ext [idx t]
  rw [he]
  refine (pay_dy _ _ _ y0 y1).trans ((Shared.normK_eq _ Shared.w1024_pos _ _ _ _).trans (Eq.trans ?_ (ref_dy _ _ _ _ _).symm))
  rw [show (fun k => iblk m c 0 t (ix2 y0 k)) = _ from funext fun k => row0 m c t y0 k (row_lt t y0),
    show (fun k => iblk m c 1 t (ix2 y0 k)) = _ from funext fun k => row1 m c t y0 k (row_lt t y0),
    show (fun k => iblk m c 2 t (ix2 0 k)) = _ from funext fun k => row2 m c t k]

theorem final_dy (c : Dev nD) : (dats m 0 c).arrAt 3 cfg0.N
    = val_main_v38 (F := Ideal) (m ((c.tc : Thread nD τ).loc main_arg0)) (m ((c.tc : Thread nD τ).loc main_arg1))
        (m ((c.tc : Thread nD τ).loc main_arg2)) := by
  refine (dats m 0 c).arrAt_eq_of_covers 3 _ (by decide +kernel) fun t _ y => ?_
  blk_simp
  rw [after0_3]
  by_cases h : t.val % 8 = 0
  · rw [outsAt0_A m c t h]
    frame_out
    exact point_dy m c t y
  · rw [outsAt0_B m c t h]
    frame_out
    exact point_dy m c t y

/-- What one tile adds to the scale's gradient. -/
abbrev part (v3 v5 : FVec Ideal S1024x1024 .f32) (l : Fin 1024) : EReal :=
  ∑ r : Fin 1024, v3 (ix2 r l) * (v5 (ix2 r l) * Ideal.rsqrt (Shared.meanSq Shared.w1024 fun k => v5 (ix2 r k)))

theorem pay_dg (v3 v5 : FVec Ideal S1024x1024 .f32) (acc : FVec Ideal S1x1024 .f32) (j : S1x1024.Idx) :
    k0_pay7 (F := Ideal) v3 v5 acc j = acc j + part v3 v5 (j 1) := by
  unfold part
  pointwise [k0_pay7, k0_pay5, k0_pay4, k0_pay3, k0_pay2, Shared.meanSq]

theorem final_dg (c : Dev nD) : (dats m 0 c).arrAt 4 cfg0.N
    = val_main_v39 (F := Ideal) (m ((c.tc : Thread nD τ).loc main_arg0)) (m ((c.tc : Thread nD τ).loc main_arg1)) := by
  refine (dats m 0 c).arrAt_eq_of_after_last 4 t0_7 (by decide +kernel) _ fun j => ?_
  blk_simp
  rw [after0_4]
  rw [Pipeline.eq_sum_fin_of_reset_step_apply_last (fun n h => (outsAt0 m c n h).2) 8 (fun _ => 0)
      (fun t j => part (iblk m c 0 t) (iblk m c 1 t) (j 1))
      (fun t h j => by
        rw [outsAt0_A m c t h]; frame_out
        rw [pay_dg]
        pointwise [k0_pay1])
      (fun t h j => by
        rw [outsAt0_B m c t h]; frame_out
        rw [pay_dg])
      (le_of_eq N_0) t0_7 rfl j, zero_add]
  obtain ⟨l, rfl⟩ : ∃ l : Fin 1024, j = (ix2 0 l : S1x1024.Idx) :=
    ⟨j 1, (eq_ix2 (show S1x1024.Idx from j)).trans (congrArg (fun a : Fin 1 => (ix2 a (j 1) : S1x1024.Idx))
      (Subsingleton.elim (α := Fin 1) (j 0) 0))⟩
  refine Eq.trans ?_ (ref_dg _ _ l).symm
  refine Fin.sum_mul_add_congr fun t r hl => ?_
  rw [show (ix2 0 l : S1x1024.Idx) 1 = l from rfl, row0 m c t r l hl, row1 m c t r l hl,
    show (fun k => iblk m c 1 t (ix2 r k)) = _ from funext fun k => row1 m c t r k hl]
  exact EReal.mul_comm _ _

end Cert.PostNormIdeal.Final

end
-- ==== Proof.LossValue.lean ====
/- The loss call: its two result arrays are the reference's. The gradient of the loss is read block by block; the loss is
   the sum of eight tiles, re-indexed over the rows. -/
module

public import proofs.«01_k».proof.Proof.Gen.LossIdeal.Value
public import proofs.«01_k».proof.Proof.Gen.LossRefIdeal.Read
public import proofs.«01_k».proof.Proof.Shared

@[expose] public section

set_option maxRecDepth 16384

noncomputable section

namespace Cert.LossIdeal.Final

open Cert Cert.LossIdeal Cert.LossIdeal.Gen Idealize.ShloMosaic Idealize.ShloMosaic.TcCoe Idealize.SL.Sem
open Idealize.ShloMosaic.Pipeline (Dat)
open Cert.LossRefIdeal.Read

variable (m : (ℓ : Loc nD τ sig) → Buf (Elt Ideal) ℓ)

/-- Tile `t` of the rows, at every grid point. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

theorem scale (e : EReal) : e * Ideal.ofBits .f32 0x3A800000#32
    = Ideal.div (Ideal.ofBits .f32 0x3F000000#32) (Ideal.ofBits .f32 0x44800000#32) * (Ideal.ofBits .f32 0x40000000#32 * e) := by
  rw [Shared.c_inv1024, Shared.c_half, Shared.c_1024, Shared.c_two, Ideal.div_coe (by norm_num), ← mul_assoc,
    ← EReal.coe_mul, ← EReal.coe_mul, mul_comm]
  norm_num

/-- Half the sum of the rows' means, as the kernel scales it. -/
theorem half_mean {ι : Type} [Fintype ι] (f : ι → EReal) (hf : ∀ i, 0 ≤ f i) :
    Ideal.ofBits .f32 0x3F000000#32 * ∑ i, Ideal.div (f i) (Ideal.ofBits .f32 0x44800000#32)
      = ∑ i, Ideal.ofBits .f32 0x3A000000#32 * f i := by
  have h : ∀ i, Ideal.div (f i) (Ideal.ofBits .f32 0x44800000#32) = f i * ((1 / 1024 : ℝ) : EReal) := fun i => by
    rw [Shared.c_1024, Ideal.div_coe (by norm_num)]
  rw [Shared.mul_sum_of_nonneg _ _ fun i => by
    rw [h]; exact EReal.mul_nonneg (hf i) (by exact_mod_cast (by norm_num : (0 : ℝ) ≤ 1 / 1024))]
  refine Finset.sum_congr rfl fun i _ => ?_
  rw [h, Shared.c_half, Shared.c_inv2048, mul_comm (f i), ← mul_assoc, ← EReal.coe_mul]
  norm_num

/-- The error at row `x`, column `y` of tile `t`. -/
abbrev err (c : Dev nD) (t : Fin cfg0.N) (x y : Fin 1024) : EReal :=
  (show FVec Ideal S1024x1024 .f32 from iblk m c 0 t) (ix2 x y) - (show FVec Ideal S1024x1024 .f32 from iblk m c 1 t) (ix2 x y)

theorem err_eq (c : Dev nD) (t : Fin cfg0.N) (x y : Fin 1024) (hl : t.val * 1024 + x.val < 8192) :
    err m c t x y = (show FVec Ideal S1x8192x1024 .f32 from m ((c.tc : Thread nD τ).loc main_arg0)) (ix3 0 ⟨t.val * 1024 + x.val, hl⟩ y)
      - (show FVec Ideal S1x8192x1024 .f32 from m ((c.tc : Thread nD τ).loc main_arg1)) (ix3 0 ⟨t.val * 1024 + x.val, hl⟩ y) := by
  refine congrArg₂ (fun a b : EReal => a - b) ?_ ?_
  · show iblk m c 0 t (ix2 x y) = _
    blk_ext! [iblk, V, idx t]
  · show iblk m c 1 t (ix2 x y) = _
    blk_ext! [iblk, V, idx t]

/-- One element of the gradient. -/
theorem point_dy (c : Dev nD) (t : Fin cfg0.N) (y : S1024x1024.Idx) :
    k0_pay3 (F := Ideal) (iblk m c 0 t) (iblk m c 1 t) y
      = val_main_v15 (F := Ideal) (m ((c.tc : Thread nD τ).loc main_arg0)) (m ((c.tc : Thread nD τ).loc main_arg1))
          (((cfg0.win 2).blk t).view.emb y) := by
  pointwise [k0_pay3, k0_pay2, val_main_v15, val_main_v14, val_main_v13, val_main_v12, val_main_v11, val_main_v10,
    val_main_v9, val_main_v3, val_main_v2, val_main_v0, val_main_cst, val_main_cst_4, val_main_cst_5, val_main_cst_6]
  refine (scale _).trans ?_
  blk_point [iblk, V, idx t]

theorem final_dy (c : Dev nD) : (dats m 0 c).arrAt 2 cfg0.N
    = val_main_v15 (F := Ideal) (m ((c.tc : Thread nD τ).loc main_arg0)) (m ((c.tc : Thread nD τ).loc main_arg1)) := by
  refine (dats m 0 c).arrAt_eq_of_covers 2 _ (by decide +kernel) fun t _ y => ?_
  blk_simp
  rw [after0_2]
  by_cases h : t.val % 8 = 0
  · rw [outsAt0_A m c t h]
    frame_out
    exact point_dy m c t y
  · rw [outsAt0_B m c t h]
    frame_out
    exact point_dy m c t y

theorem final_loss (c : Dev nD) : (dats m 0 c).arrAt 3 cfg0.N
    = val_main_v16 (F := Ideal) (m ((c.tc : Thread nD τ).loc main_arg0)) (m ((c.tc : Thread nD τ).loc main_arg1)) := by
  refine (dats m 0 c).arrAt_eq_of_after_last 3 t0_7 (by decide +kernel) _ fun j => ?_
  blk_simp
  rw [after0_3]
  rw [Pipeline.eq_sum_fin_of_reset_step_apply_last (fun n h => (outsAt0 m c n h).2) 8 (fun _ => 0)
      (fun t _ => Ideal.ofBits .f32 0x3A000000#32 * ∑ x : Fin 1024, ∑ y : Fin 1024,
        err m c t x y * err m c t x y)
      (fun t h j => by
        rw [outsAt0_A m c t h]; frame_out
        pointwise [k0_pay4, k0_pay2, k0_pay1])
      (fun t h j => by
        rw [outsAt0_B m c t h]; frame_out
        pointwise [k0_pay4, k0_pay2])
      (le_of_eq N_0) t0_7 rfl j, zero_add]
  pointwise [val_main_v16, val_main_v8, val_main_v7, val_main_v6, val_main_v5, val_main_v4, val_main_v1, val_main_v0,
    val_main_cst_0, val_main_cst_1, val_main_cst_2, val_main_cst_3]
  rw [Fin.sum_univ_one, half_mean _ fun _ => Finset.sum_nonneg fun _ _ => Shared.mul_self_nonneg' _]
  refine (Finset.sum_congr rfl fun t _ => Shared.mul_sum_of_nonneg _ _ fun _ =>
    Finset.sum_nonneg fun _ _ => Shared.mul_self_nonneg' _).trans ?_
  refine Fin.sum_mul_add_congr fun t x hl => ?_
  refine congrArg (Ideal.ofBits .f32 0x3A000000#32 * ·) (Finset.sum_congr rfl fun y _ => ?_)
  rw [err_eq m c t x y hl]

end Cert.LossIdeal.Final

end
-- ==== Proof.Own.lean ====
/- What a body's run ends with, as ownership: a buffer kept, and a buffer whose stores cover its block. -/
module

public import Idealize.ShloMosaic.Lib.Pipeline.FrameBody
public import Idealize.ShloMosaic.Lib.Tactic

@[expose] public section

namespace Cert.Shared

open Idealize.ShloMosaic Idealize.SL Idealize.SL.RA
open Idealize.SL.BI (sProp)
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {sp : Space} {sh : Shape} {e : EltTy} {q : PosShare TreeShare}

/-- A whole memref's buffer at the contents that read `X` is owned at `X` (spelled out). -/
theorem owns_unread {m : Memref sig c.2.kind sp sh e} (h : m.IsWhole) {X : sh.Idx → Val e} :
    (m.view.loc c ↦[m.view.set]{q} h.unread X : sProp 𝕄)
      ⊢ iprop(∃ f, ⌜m.view.read Val f = X⌝ ∗ (m.view.loc c ↦[m.view.set]{q} f)) := by
  iintro H
  iexists _
  isplitr
  · ipureintro; exact h.read_unread X
  · iexact H

/-- A buffer whose pieces cover the block is owned at the pieces read back through any view, over any contents. -/
theorem owns_cover (m : Memref sig c.2.kind sp sh e) {sig' : RefSig} {κ' : Kind} {sp' : Space} (v : View sig' κ' sp' sh e)
    {f' : v.ty.Contents Val} (L : List (View.Piece Val sh e)) (h : ∀ y, ∃ p ∈ L, y ∈ p.1.set) :
    (iprop(∃ f, m.view.loc c ↦[m.view.set]{q} m.view.writes Val f L) : sProp 𝕄) ⊢ owns c m q (v.read Val (v.writes Val f' L)) := by
  unfold owns
  iintro ⟨%f, H⟩
  iexists _
  isplitr
  · ipureintro; exact View.read_writes_of_cover m.view f v f' L h
  · iexact H

end Cert.Shared
-- ==== Proof.Mix1Body.lean ====
module

public import proofs.«01_k».proof.Proof.Own
public import proofs.«01_k».proof.Proof.Gen.Mix1Ideal.Frame.Runs
public import Idealize.ShloMosaic.Lib.Claim

/-! # Mix1Ideal: the body's two runs, what the outputs hold point by point, and the launch

At point 0 the accumulated outputs are zeroed first (case A); at every later point they are added to, over
what the point before left (case B). Everything holds at any `F`. -/

@[expose] public section

set_option maxRecDepth 16384

noncomputable section

namespace Cert.Mix1Ideal.Run

open Cert Cert.Mix1Ideal Cert.Mix1Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S1x1024 .f32) (harg3 : arg3.IsWhole)
  (arg4 : Memref sig .tc .vmem S512x1024 .bf16) (harg4 : arg4.IsWhole)
  (arg5 : Memref sig .tc .vmem S1024x1024 .bf16) (harg5 : arg5.IsWhole)
  (arg6 : Memref sig .tc .vmem S512x512 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S16x512 .bf16) (harg10 : arg10.IsWhole)
  (arg11 : Memref sig .tc .vmem S16x512 .bf16) (harg11 : arg11.IsWhole)
  (arg12 : Memref sig .tc .vmem S16x512 .bf16) (harg12 : arg12.IsWhole)
  (arg13 : Memref sig .tc .vmem S16x512 .bf16) (harg13 : arg13.IsWhole)
  (arg14 : Memref sig .tc .vmem S512x512 .bf16) (harg14 : arg14.IsWhole)
  (arg15 : Memref sig .tc .vmem S512x512 .bf16) (harg15 : arg15.IsWhole)
  (arg16 : Memref sig .tc .vmem S3x512 .f32) (harg16 : arg16.IsWhole)
  (arg17 : Memref sig .tc .vmem S1x512 .f32) (harg17 : arg17.IsWhole)
  (arg18 : Memref sig .tc .vmem S512x512 .bf16) (harg18 : arg18.IsWhole)
  (arg19 : Memref sig .tc .vmem S512x512 .bf16) (harg19 : arg19.IsWhole)
  (arg20 : Memref sig .tc .vmem S512x512 .bf16) (harg20 : arg20.IsWhole)
  (arg21 : Memref sig .tc .vmem S512x512 .bf16) (harg21 : arg21.IsWhole)
  (arg22 : Memref sig .tc .vmem S8x512 .f32) (harg22 : arg22.IsWhole)
  (arg23 : Memref sig .tc .vmem S8x128 .f32) (harg23 : arg23.IsWhole)
  (arg24 : Memref sig .tc .vmem S1x1024 .f32) (harg24 : arg24.IsWhole)
  (arg25 : Memref sig .tc .vmem S1024x1024 .f32) (harg25 : arg25.IsWhole)
  (x0 : Vec F S512x1024 .f32)
  (x1 : Vec F S512x1024 .f32)
  (x2 : Vec F S1x1024 .f32)
  (x3 : Vec F S512x1024 .bf16)
  (x4 : Vec F S1024x1024 .bf16)
  (x5 : Vec F S512x512 .bf16)
  (x6 : Vec F S512x512 .bf16)
  (x7 : Vec F S512x512 .bf16)
  (x8 : Vec F S512x512 .bf16)
  (x9 : Vec F S16x512 .bf16)
  (x10 : Vec F S16x512 .bf16)
  (x11 : Vec F S16x512 .bf16)
  (x12 : Vec F S16x512 .bf16)
  (x13 : Vec F S512x512 .bf16)
  (x14 : Vec F S512x512 .bf16)
  (x15 : Vec F S3x512 .f32)
  (x16 : Vec F S1x512 .f32)

set_option maxHeartbeats 8000000 in
/-- Case A: the pieces every output ends with, with the run that leaves them. -/
def runA (hc0 : cond0_0 i) :
    Σ' (L17 : List (View.Piece (Elt F) S512x512 .bf16)), Σ' (L18 : List (View.Piece (Elt F) S512x512 .bf16)), Σ' (L19 : List (View.Piece (Elt F) S512x512 .bf16)), Σ' (L20 : List (View.Piece (Elt F) S512x512 .bf16)), Σ' (L21 : List (View.Piece (Elt F) S8x512 .f32)), Σ' (L22 : List (View.Piece (Elt F) S8x128 .f32)), Σ' (L23 : List (View.Piece (Elt F) S1x1024 .f32)),
    { L24 : List (View.Piece (Elt F) S1024x1024 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ f, arg23.view.loc (c : Thread nD τ) ↦[arg23.view.set]{fullShare} arg23.view.writes (Elt F) f L22)
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)) -∗ K ⟨⟩))
      ⊢ wp frame (wpE (defs₀ (F := F)) Variants.none c none) E (cc0_mix_bwd1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, fun E K => ?run⟩
  case run =>
    simp only [cc0_mix_bwd1_eq_skeleton]; unfold cc0_mix_bwd1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    obtain rfl := harg17.eq_unread hf16
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iapply Shared.owns_unread (c := (c : Thread nD τ)) harg17 $$ H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

set_option maxHeartbeats 8000000 in
/-- Case B: the pieces every output ends with, with the run that leaves them. -/
def runB (hc0 : ¬cond0_0 i) (xo21 : Vec F S8x512 .f32) (xo22 : Vec F S8x128 .f32) (xo23 : Vec F S1x1024 .f32) (xo24 : Vec F S1024x1024 .f32) :
    Σ' (L17 : List (View.Piece (Elt F) S512x512 .bf16)), Σ' (L18 : List (View.Piece (Elt F) S512x512 .bf16)), Σ' (L19 : List (View.Piece (Elt F) S512x512 .bf16)), Σ' (L20 : List (View.Piece (Elt F) S512x512 .bf16)), Σ' (L21 : List (View.Piece (Elt F) S8x512 .f32)), Σ' (L22 : List (View.Piece (Elt F) S8x128 .f32)), Σ' (L23 : List (View.Piece (Elt F) S1x1024 .f32)),
    { L24 : List (View.Piece (Elt F) S1024x1024 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ owns (c : Thread nD τ) arg22 fullShare xo21
        ∗ owns (c : Thread nD τ) arg23 fullShare xo22
        ∗ owns (c : Thread nD τ) arg24 fullShare xo23
        ∗ owns (c : Thread nD τ) arg25 fullShare xo24
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (∃ f, arg21.view.loc (c : Thread nD τ) ↦[arg21.view.set]{fullShare} arg21.view.writes (Elt F) f L20)
            ∗ (arg22.view.loc (c : Thread nD τ) ↦[arg22.view.set]{fullShare} arg22.view.writes (Elt F) (harg22.unread xo21) L21)
            ∗ (arg23.view.loc (c : Thread nD τ) ↦[arg23.view.set]{fullShare} arg23.view.writes (Elt F) (harg23.unread xo22) L22)
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)) -∗ K ⟨⟩))
      ⊢ wp frame (wpE (defs₀ (F := F)) Variants.none c none) E (cc0_mix_bwd1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, fun E K => ?run⟩
  case run =>
    simp only [cc0_mix_bwd1_eq_skeleton]; unfold cc0_mix_bwd1_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    obtain rfl := harg17.eq_unread hf16; obtain rfl := harg22.eq_unread hf21; obtain rfl := harg23.eq_unread hf22; obtain rfl := harg24.eq_unread hf23
    obtain rfl := harg25.eq_unread hf24
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iapply Shared.owns_unread (c := (c : Thread nD τ)) harg17 $$ H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexists _; iexact H23
    iexists _; iexact H24

end Body

end Cert.Mix1Ideal.Run

end
-- ==== Proof.Mix1Run.lean ====
module

public import proofs.«01_k».proof.Proof.Mix1Body

/-! # Mix1Ideal: what the outputs hold point by point, and the launch -/

@[expose] public section

set_option maxRecDepth 16384

noncomputable section

namespace Cert.Mix1Ideal.Run

open Cert Cert.Mix1Ideal Cert.Mix1Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' blocks, in window order. -/
abbrev Outs (F : FTy → Type) : Type := Vec F S512x512 .bf16 × Vec F S512x512 .bf16 × Vec F S512x512 .bf16 × Vec F S512x512 .bf16 × Vec F S8x512 .f32 × Vec F S8x128 .f32 × Vec F S1x1024 .f32 × Vec F S1024x1024 .f32

variable (c : Dev nD) (t : Fin cfg0.N)

/-- The run of case A at a point, over the point's blocks. -/
def ptA (h0 : t.val % 16 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    (iblk m c 0 t) (iblk m c 1 t) (iblk m c 2 t) (iblk m c 3 t) (iblk m c 4 t) (X0_5 m c t) (X0_6 m c t) (X0_7 m c t) (X0_8 m c t) (X0_9 m c t) (X0_10 m c t) (X0_11 m c t) (X0_12 m c t) (iblk m c 13 t) (iblk m c 14 t) (iblk m c 15 t) (iblk m c 16 t) ((hcond0_0 t).mpr h0)

/-- The run of case B at a point, over the point's blocks and what the point before left. -/
def ptB (h0 : ¬t.val % 16 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    (iblk m c 0 t) (iblk m c 1 t) (iblk m c 2 t) (iblk m c 3 t) (iblk m c 4 t) (X0_5 m c t) (X0_6 m c t) (X0_7 m c t) (X0_8 m c t) (X0_9 m c t) (X0_10 m c t) (X0_11 m c t) (X0_12 m c t) (iblk m c 13 t) (iblk m c 14 t) (iblk m c 15 t) (iblk m c 16 t) (fun h => h0 ((hcond0_0 t).mp h)) p.2.2.2.2.1 p.2.2.2.2.2.1 p.2.2.2.2.2.2.1 p.2.2.2.2.2.2.2

/-- What case A leaves. -/
def outsA (h0 : t.val % 16 = 0) : Outs F :=
  (VO0_17.read (Elt F) (VO0_17.writes (Elt F) VO0_17.junk (ptA m c t h0).1),
   VO0_18.read (Elt F) (VO0_18.writes (Elt F) VO0_18.junk (ptA m c t h0).2.1),
   VO0_19.read (Elt F) (VO0_19.writes (Elt F) VO0_19.junk (ptA m c t h0).2.2.1),
   VO0_20.read (Elt F) (VO0_20.writes (Elt F) VO0_20.junk (ptA m c t h0).2.2.2.1),
   VO0_21.read (Elt F) (VO0_21.writes (Elt F) VO0_21.junk (ptA m c t h0).2.2.2.2.1),
   VO0_22.read (Elt F) (VO0_22.writes (Elt F) VO0_22.junk (ptA m c t h0).2.2.2.2.2.1),
   VO0_23.read (Elt F) (VO0_23.writes (Elt F) VO0_23.junk (ptA m c t h0).2.2.2.2.2.2.1),
   VO0_24.read (Elt F) (VO0_24.writes (Elt F) VO0_24.junk (ptA m c t h0).2.2.2.2.2.2.2.1))

/-- What case B leaves: a block its stores do not cover keeps the rest. -/
def outsB (h0 : ¬t.val % 16 = 0) (p : Outs F) : Outs F :=
  (VO0_17.read (Elt F) (VO0_17.writes (Elt F) VO0_17.junk (ptB m c t h0 p).1),
   VO0_18.read (Elt F) (VO0_18.writes (Elt F) VO0_18.junk (ptB m c t h0 p).2.1),
   VO0_19.read (Elt F) (VO0_19.writes (Elt F) VO0_19.junk (ptB m c t h0 p).2.2.1),
   VO0_20.read (Elt F) (VO0_20.writes (Elt F) VO0_20.junk (ptB m c t h0 p).2.2.2.1),
   (ms0_21 t).view.read (Elt F) ((ms0_21 t).view.writes (Elt F) ((hs0_21 t).unread p.2.2.2.2.1) (ptB m c t h0 p).2.2.2.2.1),
   (ms0_22 t).view.read (Elt F) ((ms0_22 t).view.writes (Elt F) ((hs0_22 t).unread p.2.2.2.2.2.1) (ptB m c t h0 p).2.2.2.2.2.1),
   VO0_23.read (Elt F) (VO0_23.writes (Elt F) VO0_23.junk (ptB m c t h0 p).2.2.2.2.2.2.1),
   VO0_24.read (Elt F) (VO0_24.writes (Elt F) VO0_24.junk (ptB m c t h0 p).2.2.2.2.2.2.2.1))

/-- What the outputs hold after each point. -/
def outsAt (c : Dev nD) : (n : ℕ) → n < cfg0.N → Outs F
  | 0, hn => outsA m c ⟨0, hn⟩ (Nat.zero_mod _)
  | n + 1, hn => if h0 : (n + 1) % 16 = 0 then outsA m c ⟨n + 1, hn⟩ h0
      else outsB m c ⟨n + 1, hn⟩ h0 (outsAt c n (Nat.lt_of_succ_lt hn))

/-- What the outputs held before a point. -/
abbrev prev : Outs F := outsAt m c (t.val - 1) (Nat.lt_of_le_of_lt (Nat.sub_le _ _) t.isLt)

theorem outsAt_A (h0 : t.val % 16 = 0) : outsAt m c t.val t.isLt = outsA m c t h0 := by
  obtain ⟨_ | n, hn⟩ := t
  · exact rfl
  · exact (dif_pos h0).trans rfl

theorem outsAt_B (h0 : ¬t.val % 16 = 0) :
    outsAt m c t.val t.isLt = outsB m c t h0 (prev m c t) := by
  obtain ⟨_ | n, hn⟩ := t
  · exact absurd (Nat.zero_mod _) h0
  · exact (dif_neg h0).trans rfl

/-- The proof data: the arrays as the region finds them, each input's buffer at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => X0_7 m c t
    | ⟨8, _⟩ => X0_8 m c t
    | ⟨9, _⟩ => X0_9 m c t
    | ⟨10, _⟩ => X0_10 m c t
    | ⟨11, _⟩ => X0_11 m c t
    | ⟨12, _⟩ => X0_12 m c t
    | ⟨13, _⟩ => iblk m c 13 t
    | ⟨14, _⟩ => iblk m c 14 t
    | ⟨15, _⟩ => iblk m c 15 t
    | ⟨16, _⟩ => iblk m c 16 t
    | ⟨17, _⟩ => (outsAt m c t.val t.isLt).1
    | ⟨18, _⟩ => (outsAt m c t.val t.isLt).2.1
    | ⟨19, _⟩ => (outsAt m c t.val t.isLt).2.2.1
    | ⟨20, _⟩ => (outsAt m c t.val t.isLt).2.2.2.1
    | ⟨21, _⟩ => (outsAt m c t.val t.isLt).2.2.2.2.1
    | ⟨22, _⟩ => (outsAt m c t.val t.isLt).2.2.2.2.2.1
    | ⟨23, _⟩ => (outsAt m c t.val t.isLt).2.2.2.2.2.2.1
    | ⟨24, _⟩ => (outsAt m c t.val t.isLt).2.2.2.2.2.2.2
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = X0_5 m c t := by dsimp only [dats]
theorem after_6 : (dats m 0 c).after 6 t = X0_6 m c t := by dsimp only [dats]
theorem after_7 : (dats m 0 c).after 7 t = X0_7 m c t := by dsimp only [dats]
theorem after_8 : (dats m 0 c).after 8 t = X0_8 m c t := by dsimp only [dats]
theorem after_9 : (dats m 0 c).after 9 t = X0_9 m c t := by dsimp only [dats]
theorem after_10 : (dats m 0 c).after 10 t = X0_10 m c t := by dsimp only [dats]
theorem after_11 : (dats m 0 c).after 11 t = X0_11 m c t := by dsimp only [dats]
theorem after_12 : (dats m 0 c).after 12 t = X0_12 m c t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = iblk m c 16 t := by dsimp only [dats]
theorem after_17 : (dats m 0 c).after 17 t = (outsAt m c t.val t.isLt).1 := by dsimp only [dats]
theorem after_18 : (dats m 0 c).after 18 t = (outsAt m c t.val t.isLt).2.1 := by dsimp only [dats]
theorem after_19 : (dats m 0 c).after 19 t = (outsAt m c t.val t.isLt).2.2.1 := by dsimp only [dats]
theorem after_20 : (dats m 0 c).after 20 t = (outsAt m c t.val t.isLt).2.2.2.1 := by dsimp only [dats]
theorem after_21 : (dats m 0 c).after 21 t = (outsAt m c t.val t.isLt).2.2.2.2.1 := by dsimp only [dats]
theorem after_22 : (dats m 0 c).after 22 t = (outsAt m c t.val t.isLt).2.2.2.2.2.1 := by dsimp only [dats]
theorem after_23 : (dats m 0 c).after 23 t = (outsAt m c t.val t.isLt).2.2.2.2.2.2.1 := by dsimp only [dats]
theorem after_24 : (dats m 0 c).after 24 t = (outsAt m c t.val t.isLt).2.2.2.2.2.2.2 := by dsimp only [dats]

theorem before_0 (d) : (dats m 0 c).before 0 t d = iblk m c 0 t :=
  before0_0_of m (dats m 0 c) (A_eq m c 0) (fun t => after_0 m c t) t d
theorem before_1 (d) : (dats m 0 c).before 1 t d = iblk m c 1 t :=
  before0_1_of m (dats m 0 c) (A_eq m c 1) (fun t => after_1 m c t) t d
theorem before_2 (d) : (dats m 0 c).before 2 t d = iblk m c 2 t :=
  before0_2_of m (dats m 0 c) (A_eq m c 2) (fun t => after_2 m c t) t d
theorem before_3 (d) : (dats m 0 c).before 3 t d = iblk m c 3 t :=
  before0_3_of m (dats m 0 c) (A_eq m c 3) (fun t => after_3 m c t) t d
theorem before_4 (d) : (dats m 0 c).before 4 t d = iblk m c 4 t :=
  before0_4_of m (dats m 0 c) (A_eq m c 4) (fun t => after_4 m c t) t d
theorem before_5 (d) : (dats m 0 c).before 5 t d = X0_5 m c t :=
  before0_5_of m (dats m 0 c) (A_eq m c 5) (fun t => after_5 m c t) t d
theorem before_6 (d) : (dats m 0 c).before 6 t d = X0_6 m c t :=
  before0_6_of m (dats m 0 c) (A_eq m c 6) (fun t => after_6 m c t) t d
theorem before_7 (d) : (dats m 0 c).before 7 t d = X0_7 m c t :=
  before0_7_of m (dats m 0 c) (A_eq m c 7) (fun t => after_7 m c t) t d
theorem before_8 (d) : (dats m 0 c).before 8 t d = X0_8 m c t :=
  before0_8_of m (dats m 0 c) (A_eq m c 8) (fun t => after_8 m c t) t d
theorem before_9 (d) : (dats m 0 c).before 9 t d = X0_9 m c t :=
  before0_9_of m (dats m 0 c) (A_eq m c 9) (fun t => after_9 m c t) t d
theorem before_10 (d) : (dats m 0 c).before 10 t d = X0_10 m c t :=
  before0_10_of m (dats m 0 c) (A_eq m c 10) (fun t => after_10 m c t) t d
theorem before_11 (d) : (dats m 0 c).before 11 t d = X0_11 m c t :=
  before0_11_of m (dats m 0 c) (A_eq m c 11) (fun t => after_11 m c t) t d
theorem before_12 (d) : (dats m 0 c).before 12 t d = X0_12 m c t :=
  before0_12_of m (dats m 0 c) (A_eq m c 12) (fun t => after_12 m c t) t d
theorem before_13 (d) : (dats m 0 c).before 13 t d = iblk m c 13 t :=
  before0_13_of m (dats m 0 c) (A_eq m c 13) (fun t => after_13 m c t) t d
theorem before_14 (d) : (dats m 0 c).before 14 t d = iblk m c 14 t :=
  before0_14_of m (dats m 0 c) (A_eq m c 14) (fun t => after_14 m c t) t d
theorem before_15 (d) : (dats m 0 c).before 15 t d = iblk m c 15 t :=
  before0_15_of m (dats m 0 c) (A_eq m c 15) (fun t => after_15 m c t) t d
theorem before_16 (d) : (dats m 0 c).before 16 t d = iblk m c 16 t :=
  before0_16_of m (dats m 0 c) (A_eq m c 16) (fun t => after_16 m c t) t d

theorem before_21 (h0 : ¬t.val % 16 = 0) (d) :
    (dats m 0 c).before 21 t d = (prev m c t).2.2.2.2.1 := by
  have hN : t.val < 16 := lt_of_lt_of_eq t.isLt (show cfg0.N = 16 from N_0)
  rw [Dat.before_out_kept _ 21 rfl t (by omega) (Bool.eq_false_iff.mpr fun h => by
    have := (flush0_21 _).mp h; dsimp only at this; omega) (fun _ => rfl) (fun _ _ => rfl)]
  dsimp only [dats]

theorem before_22 (h0 : ¬t.val % 16 = 0) (d) :
    (dats m 0 c).before 22 t d = (prev m c t).2.2.2.2.2.1 := by
  have hN : t.val < 16 := lt_of_lt_of_eq t.isLt (show cfg0.N = 16 from N_0)
  rw [Dat.before_out_kept _ 22 rfl t (by omega) (Bool.eq_false_iff.mpr fun h => by
    have := (flush0_22 _).mp h; dsimp only at this; omega) (fun _ => rfl) (fun _ _ => rfl)]
  dsimp only [dats]

theorem before_23 (h0 : ¬t.val % 16 = 0) (d) :
    (dats m 0 c).before 23 t d = (prev m c t).2.2.2.2.2.2.1 := by
  have hN : t.val < 16 := lt_of_lt_of_eq t.isLt (show cfg0.N = 16 from N_0)
  rw [Dat.before_out_kept _ 23 rfl t (by omega) (Bool.eq_false_iff.mpr fun h => by
    have := (flush0_23 _).mp h; dsimp only at this; omega) (fun _ => rfl) (fun _ _ => rfl)]
  dsimp only [dats]

theorem before_24 (h0 : ¬t.val % 16 = 0) (d) :
    (dats m 0 c).before 24 t d = (prev m c t).2.2.2.2.2.2.2 := by
  have hN : t.val < 16 := lt_of_lt_of_eq t.isLt (show cfg0.N = 16 from N_0)
  rw [Dat.before_out_kept _ 24 rfl t (by omega) (Bool.eq_false_iff.mpr fun h => by
    have := (flush0_24 _).mp h; dsimp only at this; omega) (fun _ => rfl) (fun _ _ => rfl)]
  dsimp only [dats]

/-- What the body is called with at a point, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 8000000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24]
  by_cases h0 : t.val % 16 = 0
  · rw [outsAt_A m c t h0]
    dsimp only [outsA]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((ptA m c t h0).2.2.2.2.2.2.2.2 Set.univ _)
    iframe H0 H1 H2 H3 H4 H5 H6 H7 H8 H9 H10 H11 H12 H13 H14 H15 H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    iintro ⟨H0, H1, H2, H3, H4, H5, H6, H7, H8, H9, H10, H11, H12, H13, H14, H15, H16, H17, H18, H19, H20, H21, H22, H23, H24⟩
    iframe HΦ Ho H0 H1 H2 H3 H4 H5 H6 H7 H8 H9 H10 H11 H12 H13 H14 H15 H16
    isplitl [H17]; · iapply Shared.owns_cover (c := (c : Thread nD τ)) (ms0_17 t) VO0_17 (ptA m c t h0).1 (View.cover_of_tiledL (ptA m c t h0).1 S512x512.size (by sl_kernel_rfl)) $$ H17
    isplitl [H18]; · iapply Shared.owns_cover (c := (c : Thread nD τ)) (ms0_18 t) VO0_18 (ptA m c t h0).2.1 (View.cover_of_tiledL (ptA m c t h0).2.1 S512x512.size (by sl_kernel_rfl)) $$ H18
    isplitl [H19]; · iapply Shared.owns_cover (c := (c : Thread nD τ)) (ms0_19 t) VO0_19 (ptA m c t h0).2.2.1 (View.cover_of_tiledL (ptA m c t h0).2.2.1 S512x512.size (by sl_kernel_rfl)) $$ H19
    isplitl [H20]; · iapply Shared.owns_cover (c := (c : Thread nD τ)) (ms0_20 t) VO0_20 (ptA m c t h0).2.2.2.1 (View.cover_of_tiledL (ptA m c t h0).2.2.2.1 S512x512.size (by sl_kernel_rfl)) $$ H20
    isplitl [H21]; · iapply Shared.owns_cover (c := (c : Thread nD τ)) (ms0_21 t) VO0_21 (ptA m c t h0).2.2.2.2.1 (View.cover_of_tiledBy (ptA m c t h0).2.2.2.2.1 ![1, 512] (by sl_kernel_rfl)) $$ H21
    isplitl [H22]; · iapply Shared.owns_cover (c := (c : Thread nD τ)) (ms0_22 t) VO0_22 (ptA m c t h0).2.2.2.2.2.1 (View.cover_of_tiledBy (ptA m c t h0).2.2.2.2.2.1 ![1, 128] (by sl_kernel_rfl)) $$ H22
    isplitl [H23]; · iapply Shared.owns_cover (c := (c : Thread nD τ)) (ms0_23 t) VO0_23 (ptA m c t h0).2.2.2.2.2.2.1 (View.cover_of_tiledL (ptA m c t h0).2.2.2.2.2.2.1 S1x1024.size (by sl_kernel_rfl)) $$ H23
    iapply Shared.owns_cover (c := (c : Thread nD τ)) (ms0_24 t) VO0_24 (ptA m c t h0).2.2.2.2.2.2.2.1 (View.cover_of_tiledL (ptA m c t h0).2.2.2.2.2.2.2.1 S1024x1024.size (by sl_kernel_rfl)) $$ H24
  · rw [outsAt_B m c t h0]
    simp only [before_21 m c t h0, before_22 m c t h0, before_23 m c t h0, before_24 m c t h0]
    dsimp only [outsB]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply ((ptB m c t h0 (prev m c t)).2.2.2.2.2.2.2.2 Set.univ _)
    iframe H0 H1 H2 H3 H4 H5 H6 H7 H8 H9 H10 H11 H12 H13 H14 H15 H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    iintro ⟨H0, H1, H2, H3, H4, H5, H6, H7, H8, H9, H10, H11, H12, H13, H14, H15, H16, H17, H18, H19, H20, H21, H22, H23, H24⟩
    iframe HΦ Ho H0 H1 H2 H3 H4 H5 H6 H7 H8 H9 H10 H11 H12 H13 H14 H15 H16
    isplitl [H17]; · iapply Shared.owns_cover (c := (c : Thread nD τ)) (ms0_17 t) VO0_17 (ptB m c t h0 (prev m c t)).1 (View.cover_of_tiledL (ptB m c t h0 (prev m c t)).1 S512x512.size (by sl_kernel_rfl)) $$ H17
    isplitl [H18]; · iapply Shared.owns_cover (c := (c : Thread nD τ)) (ms0_18 t) VO0_18 (ptB m c t h0 (prev m c t)).2.1 (View.cover_of_tiledL (ptB m c t h0 (prev m c t)).2.1 S512x512.size (by sl_kernel_rfl)) $$ H18
    isplitl [H19]; · iapply Shared.owns_cover (c := (c : Thread nD τ)) (ms0_19 t) VO0_19 (ptB m c t h0 (prev m c t)).2.2.1 (View.cover_of_tiledL (ptB m c t h0 (prev m c t)).2.2.1 S512x512.size (by sl_kernel_rfl)) $$ H19
    isplitl [H20]; · iapply Shared.owns_cover (c := (c : Thread nD τ)) (ms0_20 t) VO0_20 (ptB m c t h0 (prev m c t)).2.2.2.1 (View.cover_of_tiledL (ptB m c t h0 (prev m c t)).2.2.2.1 S512x512.size (by sl_kernel_rfl)) $$ H20
    isplitl [H21]; · iapply owns_intro _ (ms0_21 t) fullShare _ $$ H21
    isplitl [H22]; · iapply owns_intro _ (ms0_22 t) fullShare _ $$ H22
    isplitl [H23]; · iapply Shared.owns_cover (c := (c : Thread nD τ)) (ms0_23 t) VO0_23 (ptB m c t h0 (prev m c t)).2.2.2.2.2.2.1 (View.cover_of_tiledL (ptB m c t h0 (prev m c t)).2.2.2.2.2.2.1 S1x1024.size (by sl_kernel_rfl)) $$ H23
    iapply Shared.owns_cover (c := (c : Thread nD τ)) (ms0_24 t) VO0_24 (ptB m c t h0 (prev m c t)).2.2.2.2.2.2.2.1 (View.cover_of_tiledL (ptB m c t h0 (prev m c t)).2.2.2.2.2.2.2.1 S1024x1024.size (by sl_kernel_rfl)) $$ H24

theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays at what the proof data computes, the rest as the region found it, every counter zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame claim at any `F`: the argument arrays end unchanged, every counter zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem frame : Quiet F := fun m ρ _ =>
  θ_run_and (frame_of m ρ (dats m) (A_eq m) ((θ_run defs _ _).mono (fun _ h => h.1) (run_main m ρ)))
    ((θ_run defs _ _).mono (fun _ h => h.2) (run_main m ρ))

end Cert.Mix1Ideal.Run

end
-- ==== Proof.Mix1Frame.lean ====
/- The frame of the program as printed, from the one run that holds at any `F`. -/
module

public import proofs.«01_k».proof.Proof.Mix1Run
public import proofs.«01_k».proof.Defs
public import proofs.«01_k».proof.Proof.Gen.Mix1

@[expose] public section

namespace Cert.Mix1

open Idealize.ShloMosaic Idealize.ShloMosaic.Tactic

theorem frame_bits : Cert.quiescent_Mix1 := by
  rw [show Cert.quiescent_Mix1 = Cert.Mix1Ideal.Run.Quiet Bits from by sl_kernel_rfl]
  exact Cert.Mix1Ideal.Run.frame

end Cert.Mix1
-- ==== Proof.Mix2Body.lean ====
module

public import proofs.«01_k».proof.Proof.Own
public import proofs.«01_k».proof.Proof.Gen.Mix2Ideal.Frame.Runs
public import Idealize.ShloMosaic.Lib.Claim

/-! # Mix2Ideal: the body's two runs, what the outputs hold point by point, and the launch

At point 0 the accumulated outputs are zeroed first (case A); at every later point they are added to, over
what the point before left (case B). Everything holds at any `F`. -/

@[expose] public section

set_option maxRecDepth 16384

noncomputable section

namespace Cert.Mix2Ideal.Run

open Cert Cert.Mix2Ideal Cert.Mix2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S16x512 .bf16) (harg3 : arg3.IsWhole)
  (arg4 : Memref sig .tc .vmem S16x512 .bf16) (harg4 : arg4.IsWhole)
  (arg5 : Memref sig .tc .vmem S512x512 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x512 .bf16) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S512x512 .bf16) (harg12 : arg12.IsWhole)
  (arg13 : Memref sig .tc .vmem S512x256 .bf16) (harg13 : arg13.IsWhole)
  (arg14 : Memref sig .tc .vmem S512x512 .bf16) (harg14 : arg14.IsWhole)
  (arg15 : Memref sig .tc .vmem S512x512 .bf16) (harg15 : arg15.IsWhole)
  (arg16 : Memref sig .tc .vmem S512x128 .bf16) (harg16 : arg16.IsWhole)
  (arg17 : Memref sig .tc .vmem S3x512 .f32) (harg17 : arg17.IsWhole)
  (arg18 : Memref sig .tc .vmem S128x512 .bf16) (harg18 : arg18.IsWhole)
  (arg19 : Memref sig .tc .vmem S1x512 .f32) (harg19 : arg19.IsWhole)
  (arg20 : Memref sig .tc .vmem S1024x3200 .bf16) (harg20 : arg20.IsWhole)
  (arg21 : Memref sig .tc .vmem S512x1024 .f32) (harg21 : arg21.IsWhole)
  (arg22 : Memref sig .tc .vmem S512x1024 .f32) (harg22 : arg22.IsWhole)
  (arg23 : Memref sig .tc .vmem S1x1024 .f32) (harg23 : arg23.IsWhole)
  (arg24 : Memref sig .tc .vmem S512x3200 .bf16) (harg24 : arg24.IsWhole)
  (arg25 : Memref sig .tc .vmem S512x1024 .f32) (harg25 : arg25.IsWhole)
  (arg26 : Memref sig .tc .vmem S1x1024 .f32) (harg26 : arg26.IsWhole)
  (arg27 : Memref sig .tc .vmem S128x512 .f32) (harg27 : arg27.IsWhole)
  (arg28 : Memref sig .tc .vmem S8x512 .f32) (harg28 : arg28.IsWhole)
  (x0 : Vec F S512x512 .bf16)
  (x1 : Vec F S512x512 .bf16)
  (x2 : Vec F S16x512 .bf16)
  (x3 : Vec F S16x512 .bf16)
  (x4 : Vec F S512x512 .bf16)
  (x5 : Vec F S512x256 .bf16)
  (x6 : Vec F S512x256 .bf16)
  (x7 : Vec F S512x512 .bf16)
  (x8 : Vec F S512x256 .bf16)
  (x9 : Vec F S512x256 .bf16)
  (x10 : Vec F S512x256 .bf16)
  (x11 : Vec F S512x512 .bf16)
  (x12 : Vec F S512x256 .bf16)
  (x13 : Vec F S512x512 .bf16)
  (x14 : Vec F S512x512 .bf16)
  (x15 : Vec F S512x128 .bf16)
  (x16 : Vec F S3x512 .f32)
  (x17 : Vec F S128x512 .bf16)
  (x18 : Vec F S1x512 .f32)
  (x19 : Vec F S1024x3200 .bf16)
  (x20 : Vec F S512x1024 .f32)
  (x21 : Vec F S512x1024 .f32)
  (x22 : Vec F S1x1024 .f32)

set_option maxHeartbeats 8000000 in
/-- Case A: the pieces every output ends with, with the run that leaves them. -/
def runA (hc0 : cond0_0 i) :
    Σ' (L23 : List (View.Piece (Elt F) S512x3200 .bf16)), Σ' (L24 : List (View.Piece (Elt F) S512x1024 .f32)), Σ' (L25 : List (View.Piece (Elt F) S1x1024 .f32)), Σ' (L26 : List (View.Piece (Elt F) S128x512 .f32)),
    { L27 : List (View.Piece (Elt F) S8x512 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)
            ∗ (∃ f, arg26.view.loc (c : Thread nD τ) ↦[arg26.view.set]{fullShare} arg26.view.writes (Elt F) f L25)
            ∗ (∃ f, arg27.view.loc (c : Thread nD τ) ↦[arg27.view.set]{fullShare} arg27.view.writes (Elt F) f L26)
            ∗ (∃ f, arg28.view.loc (c : Thread nD τ) ↦[arg28.view.set]{fullShare} arg28.view.writes (Elt F) f L27)) -∗ K ⟨⟩))
      ⊢ wp frame (wpE (defs₀ (F := F)) Variants.none c none) E (cc0_mix_bwd2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mix_bwd2_eq_skeleton]; unfold cc0_mix_bwd2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    obtain rfl := harg17.eq_unread hf16; obtain rfl := harg18.eq_unread hf17; obtain rfl := harg19.eq_unread hf18; obtain rfl := harg20.eq_unread hf19
    obtain rfl := harg21.eq_unread hf20; obtain rfl := harg22.eq_unread hf21; obtain rfl := harg23.eq_unread hf22
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iapply Shared.owns_unread (c := (c : Thread nD τ)) harg17 $$ H16
    isplitl [H17]; · iapply Shared.owns_unread (c := (c : Thread nD τ)) harg18 $$ H17
    isplitl [H18]; · iapply Shared.owns_unread (c := (c : Thread nD τ)) harg19 $$ H18
    isplitl [H19]; · iapply Shared.owns_unread (c := (c : Thread nD τ)) harg20 $$ H19
    isplitl [H20]; · iapply Shared.owns_unread (c := (c : Thread nD τ)) harg21 $$ H20
    isplitl [H21]; · iapply Shared.owns_unread (c := (c : Thread nD τ)) harg22 $$ H21
    isplitl [H22]; · iapply Shared.owns_unread (c := (c : Thread nD τ)) harg23 $$ H22
    isplitl [H23]; · iexists _; iexact H23
    isplitl [H24]; · iexists _; iexact H24
    isplitl [H25]; · iexists _; iexact H25
    isplitl [H26]; · iexists _; iexact H26
    iexists _; iexact H27

set_option maxHeartbeats 8000000 in
/-- Case B: the pieces every output ends with, with the run that leaves them. -/
def runB (hc0 : ¬cond0_0 i) (xo25 : Vec F S1x1024 .f32) (xo26 : Vec F S128x512 .f32) (xo27 : Vec F S8x512 .f32) :
    Σ' (L23 : List (View.Piece (Elt F) S512x3200 .bf16)), Σ' (L24 : List (View.Piece (Elt F) S512x1024 .f32)), Σ' (L25 : List (View.Piece (Elt F) S1x1024 .f32)), Σ' (L26 : List (View.Piece (Elt F) S128x512 .f32)),
    { L27 : List (View.Piece (Elt F) S8x512 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15 ∗ owns (c : Thread nD τ) arg17 fullShare x16 ∗ owns (c : Thread nD τ) arg18 fullShare x17
        ∗ owns (c : Thread nD τ) arg19 fullShare x18 ∗ owns (c : Thread nD τ) arg20 fullShare x19 ∗ owns (c : Thread nD τ) arg21 fullShare x20
        ∗ owns (c : Thread nD τ) arg22 fullShare x21 ∗ owns (c : Thread nD τ) arg23 fullShare x22
        ∗ (∃ d, owns (c : Thread nD τ) arg24 fullShare d)
        ∗ (∃ d, owns (c : Thread nD τ) arg25 fullShare d)
        ∗ owns (c : Thread nD τ) arg26 fullShare xo25
        ∗ owns (c : Thread nD τ) arg27 fullShare xo26
        ∗ owns (c : Thread nD τ) arg28 fullShare xo27
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15 ∗ owns (c : Thread nD τ) arg17 fullShare x16 ∗ owns (c : Thread nD τ) arg18 fullShare x17
            ∗ owns (c : Thread nD τ) arg19 fullShare x18 ∗ owns (c : Thread nD τ) arg20 fullShare x19 ∗ owns (c : Thread nD τ) arg21 fullShare x20
            ∗ owns (c : Thread nD τ) arg22 fullShare x21 ∗ owns (c : Thread nD τ) arg23 fullShare x22
            ∗ (∃ f, arg24.view.loc (c : Thread nD τ) ↦[arg24.view.set]{fullShare} arg24.view.writes (Elt F) f L23)
            ∗ (∃ f, arg25.view.loc (c : Thread nD τ) ↦[arg25.view.set]{fullShare} arg25.view.writes (Elt F) f L24)
            ∗ (∃ f, arg26.view.loc (c : Thread nD τ) ↦[arg26.view.set]{fullShare} arg26.view.writes (Elt F) f L25)
            ∗ (∃ f, arg27.view.loc (c : Thread nD τ) ↦[arg27.view.set]{fullShare} arg27.view.writes (Elt F) f L26)
            ∗ (arg28.view.loc (c : Thread nD τ) ↦[arg28.view.set]{fullShare} arg28.view.writes (Elt F) (harg28.unread xo27) L27)) -∗ K ⟨⟩))
      ⊢ wp frame (wpE (defs₀ (F := F)) Variants.none c none) E (cc0_mix_bwd2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, fun E K => ?run⟩
  case run =>
    simp only [cc0_mix_bwd2_eq_skeleton]; unfold cc0_mix_bwd2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%f25, %hf25, H25⟩, ⟨%f26, %hf26, H26⟩, ⟨%f27, %hf27, H27⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    obtain rfl := harg17.eq_unread hf16; obtain rfl := harg18.eq_unread hf17; obtain rfl := harg19.eq_unread hf18; obtain rfl := harg20.eq_unread hf19
    obtain rfl := harg21.eq_unread hf20; obtain rfl := harg22.eq_unread hf21; obtain rfl := harg23.eq_unread hf22; obtain rfl := harg26.eq_unread hf25
    obtain rfl := harg27.eq_unread hf26; obtain rfl := harg28.eq_unread hf27
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iapply Shared.owns_unread (c := (c : Thread nD τ)) harg17 $$ H16
    isplitl [H17]; · iapply Shared.owns_unread (c := (c : Thread nD τ)) harg18 $$ H17
    isplitl [H18]; · iapply Shared.owns_unread (c := (c : Thread nD τ)) harg19 $$ H18
    isplitl [H19]; · iapply Shared.owns_unread (c := (c : Thread nD τ)) harg20 $$ H19
    isplitl [H20]; · iapply Shared.owns_unread (c := (c : Thread nD τ)) harg21 $$ H20
    isplitl [H21]; · iapply Shared.owns_unread (c := (c : Thread nD τ)) harg22 $$ H21
    isplitl [H22]; · iapply Shared.owns_unread (c := (c : Thread nD τ)) harg23 $$ H22
    isplitl [H23]; · iexists _; iexact H23
    isplitl [H24]; · iexists _; iexact H24
    isplitl [H25]; · iexists _; iexact H25
    isplitl [H26]; · iexists _; iexact H26
    iexact H27

end Body

end Cert.Mix2Ideal.Run

end
-- ==== Proof.Mix2Run.lean ====
module

public import proofs.«01_k».proof.Proof.Mix2Body

/-! # Mix2Ideal: what the outputs hold point by point, and the launch -/

@[expose] public section

set_option maxRecDepth 16384

noncomputable section

namespace Cert.Mix2Ideal.Run

open Cert Cert.Mix2Ideal Cert.Mix2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' blocks, in window order. -/
abbrev Outs (F : FTy → Type) : Type := Vec F S512x3200 .bf16 × Vec F S512x1024 .f32 × Vec F S1x1024 .f32 × Vec F S128x512 .f32 × Vec F S8x512 .f32

variable (c : Dev nD) (t : Fin cfg0.N)

/-- The run of case A at a point, over the point's blocks. -/
def ptA (h0 : t.val % 16 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) ((hcond0_0 t).mpr h0)

/-- The run of case B at a point, over the point's blocks and what the point before left. -/
def ptB (h0 : ¬t.val % 16 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (X0_13 m c t) (X0_14 m c t) (iblk m c 15 t) (iblk m c 16 t) (iblk m c 17 t) (iblk m c 18 t) (iblk m c 19 t) (iblk m c 20 t) (iblk m c 21 t) (iblk m c 22 t) (fun h => h0 ((hcond0_0 t).mp h)) p.2.2.1 p.2.2.2.1 p.2.2.2.2

/-- What case A leaves. -/
def outsA (h0 : t.val % 16 = 0) : Outs F :=
  (VO0_23.read (Elt F) (VO0_23.writes (Elt F) VO0_23.junk (ptA m c t h0).1),
   VO0_24.read (Elt F) (VO0_24.writes (Elt F) VO0_24.junk (ptA m c t h0).2.1),
   VO0_25.read (Elt F) (VO0_25.writes (Elt F) VO0_25.junk (ptA m c t h0).2.2.1),
   VO0_26.read (Elt F) (VO0_26.writes (Elt F) VO0_26.junk (ptA m c t h0).2.2.2.1),
   VO0_27.read (Elt F) (VO0_27.writes (Elt F) VO0_27.junk (ptA m c t h0).2.2.2.2.1))

/-- What case B leaves: a block its stores do not cover keeps the rest. -/
def outsB (h0 : ¬t.val % 16 = 0) (p : Outs F) : Outs F :=
  (VO0_23.read (Elt F) (VO0_23.writes (Elt F) VO0_23.junk (ptB m c t h0 p).1),
   VO0_24.read (Elt F) (VO0_24.writes (Elt F) VO0_24.junk (ptB m c t h0 p).2.1),
   VO0_25.read (Elt F) (VO0_25.writes (Elt F) VO0_25.junk (ptB m c t h0 p).2.2.1),
   VO0_26.read (Elt F) (VO0_26.writes (Elt F) VO0_26.junk (ptB m c t h0 p).2.2.2.1),
   (ms0_27 t).view.read (Elt F) ((ms0_27 t).view.writes (Elt F) ((hs0_27 t).unread p.2.2.2.2) (ptB m c t h0 p).2.2.2.2.1))

/-- What the outputs hold after each point. -/
def outsAt (c : Dev nD) : (n : ℕ) → n < cfg0.N → Outs F
  | 0, hn => outsA m c ⟨0, hn⟩ (Nat.zero_mod _)
  | n + 1, hn => if h0 : (n + 1) % 16 = 0 then outsA m c ⟨n + 1, hn⟩ h0
      else outsB m c ⟨n + 1, hn⟩ h0 (outsAt c n (Nat.lt_of_succ_lt hn))

/-- What the outputs held before a point. -/
abbrev prev : Outs F := outsAt m c (t.val - 1) (Nat.lt_of_le_of_lt (Nat.sub_le _ _) t.isLt)

theorem outsAt_A (h0 : t.val % 16 = 0) : outsAt m c t.val t.isLt = outsA m c t h0 := by
  obtain ⟨_ | n, hn⟩ := t
  · exact rfl
  · exact (dif_pos h0).trans rfl

theorem outsAt_B (h0 : ¬t.val % 16 = 0) :
    outsAt m c t.val t.isLt = outsB m c t h0 (prev m c t) := by
  obtain ⟨_ | n, hn⟩ := t
  · exact absurd (Nat.zero_mod _) h0
  · exact (dif_neg h0).trans rfl

/-- The proof data: the arrays as the region finds them, each input's buffer at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => X0_13 m c t
    | ⟨14, _⟩ => X0_14 m c t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt m c t.val t.isLt).1
    | ⟨24, _⟩ => (outsAt m c t.val t.isLt).2.1
    | ⟨25, _⟩ => (outsAt m c t.val t.isLt).2.2.1
    | ⟨26, _⟩ => (outsAt m c t.val t.isLt).2.2.2.1
    | ⟨27, _⟩ => (outsAt m c t.val t.isLt).2.2.2.2
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = X0_13 m c t := by dsimp only [dats]
theorem after_14 : (dats m 0 c).after 14 t = X0_14 m c t := by dsimp only [dats]
theorem after_15 : (dats m 0 c).after 15 t = iblk m c 15 t := by dsimp only [dats]
theorem after_16 : (dats m 0 c).after 16 t = iblk m c 16 t := by dsimp only [dats]
theorem after_17 : (dats m 0 c).after 17 t = iblk m c 17 t := by dsimp only [dats]
theorem after_18 : (dats m 0 c).after 18 t = iblk m c 18 t := by dsimp only [dats]
theorem after_19 : (dats m 0 c).after 19 t = iblk m c 19 t := by dsimp only [dats]
theorem after_20 : (dats m 0 c).after 20 t = iblk m c 20 t := by dsimp only [dats]
theorem after_21 : (dats m 0 c).after 21 t = iblk m c 21 t := by dsimp only [dats]
theorem after_22 : (dats m 0 c).after 22 t = iblk m c 22 t := by dsimp only [dats]
theorem after_23 : (dats m 0 c).after 23 t = (outsAt m c t.val t.isLt).1 := by dsimp only [dats]
theorem after_24 : (dats m 0 c).after 24 t = (outsAt m c t.val t.isLt).2.1 := by dsimp only [dats]
theorem after_25 : (dats m 0 c).after 25 t = (outsAt m c t.val t.isLt).2.2.1 := by dsimp only [dats]
theorem after_26 : (dats m 0 c).after 26 t = (outsAt m c t.val t.isLt).2.2.2.1 := by dsimp only [dats]
theorem after_27 : (dats m 0 c).after 27 t = (outsAt m c t.val t.isLt).2.2.2.2 := by dsimp only [dats]

theorem before_0 (d) : (dats m 0 c).before 0 t d = iblk m c 0 t :=
  before0_0_of m (dats m 0 c) (A_eq m c 0) (fun t => after_0 m c t) t d
theorem before_1 (d) : (dats m 0 c).before 1 t d = iblk m c 1 t :=
  before0_1_of m (dats m 0 c) (A_eq m c 1) (fun t => after_1 m c t) t d
theorem before_2 (d) : (dats m 0 c).before 2 t d = iblk m c 2 t :=
  before0_2_of m (dats m 0 c) (A_eq m c 2) (fun t => after_2 m c t) t d
theorem before_3 (d) : (dats m 0 c).before 3 t d = iblk m c 3 t :=
  before0_3_of m (dats m 0 c) (A_eq m c 3) (fun t => after_3 m c t) t d
theorem before_4 (d) : (dats m 0 c).before 4 t d = iblk m c 4 t :=
  before0_4_of m (dats m 0 c) (A_eq m c 4) (fun t => after_4 m c t) t d
theorem before_5 (d) : (dats m 0 c).before 5 t d = iblk m c 5 t :=
  before0_5_of m (dats m 0 c) (A_eq m c 5) (fun t => after_5 m c t) t d
theorem before_6 (d) : (dats m 0 c).before 6 t d = iblk m c 6 t :=
  before0_6_of m (dats m 0 c) (A_eq m c 6) (fun t => after_6 m c t) t d
theorem before_7 (d) : (dats m 0 c).before 7 t d = iblk m c 7 t :=
  before0_7_of m (dats m 0 c) (A_eq m c 7) (fun t => after_7 m c t) t d
theorem before_8 (d) : (dats m 0 c).before 8 t d = iblk m c 8 t :=
  before0_8_of m (dats m 0 c) (A_eq m c 8) (fun t => after_8 m c t) t d
theorem before_9 (d) : (dats m 0 c).before 9 t d = iblk m c 9 t :=
  before0_9_of m (dats m 0 c) (A_eq m c 9) (fun t => after_9 m c t) t d
theorem before_10 (d) : (dats m 0 c).before 10 t d = iblk m c 10 t :=
  before0_10_of m (dats m 0 c) (A_eq m c 10) (fun t => after_10 m c t) t d
theorem before_11 (d) : (dats m 0 c).before 11 t d = iblk m c 11 t :=
  before0_11_of m (dats m 0 c) (A_eq m c 11) (fun t => after_11 m c t) t d
theorem before_12 (d) : (dats m 0 c).before 12 t d = iblk m c 12 t :=
  before0_12_of m (dats m 0 c) (A_eq m c 12) (fun t => after_12 m c t) t d
theorem before_13 (d) : (dats m 0 c).before 13 t d = X0_13 m c t :=
  before0_13_of m (dats m 0 c) (A_eq m c 13) (fun t => after_13 m c t) t d
theorem before_14 (d) : (dats m 0 c).before 14 t d = X0_14 m c t :=
  before0_14_of m (dats m 0 c) (A_eq m c 14) (fun t => after_14 m c t) t d
theorem before_15 (d) : (dats m 0 c).before 15 t d = iblk m c 15 t :=
  before0_15_of m (dats m 0 c) (A_eq m c 15) (fun t => after_15 m c t) t d
theorem before_16 (d) : (dats m 0 c).before 16 t d = iblk m c 16 t :=
  before0_16_of m (dats m 0 c) (A_eq m c 16) (fun t => after_16 m c t) t d
theorem before_17 (d) : (dats m 0 c).before 17 t d = iblk m c 17 t :=
  before0_17_of m (dats m 0 c) (A_eq m c 17) (fun t => after_17 m c t) t d
theorem before_18 (d) : (dats m 0 c).before 18 t d = iblk m c 18 t :=
  before0_18_of m (dats m 0 c) (A_eq m c 18) (fun t => after_18 m c t) t d
theorem before_19 (d) : (dats m 0 c).before 19 t d = iblk m c 19 t :=
  before0_19_of m (dats m 0 c) (A_eq m c 19) (fun t => after_19 m c t) t d
theorem before_20 (d) : (dats m 0 c).before 20 t d = iblk m c 20 t :=
  before0_20_of m (dats m 0 c) (A_eq m c 20) (fun t => after_20 m c t) t d
theorem before_21 (d) : (dats m 0 c).before 21 t d = iblk m c 21 t :=
  before0_21_of m (dats m 0 c) (A_eq m c 21) (fun t => after_21 m c t) t d
theorem before_22 (d) : (dats m 0 c).before 22 t d = iblk m c 22 t :=
  before0_22_of m (dats m 0 c) (A_eq m c 22) (fun t => after_22 m c t) t d

theorem before_25 (h0 : ¬t.val % 16 = 0) (d) :
    (dats m 0 c).before 25 t d = (prev m c t).2.2.1 := by
  have hN : t.val < 16 := lt_of_lt_of_eq t.isLt (show cfg0.N = 16 from N_0)
  rw [Dat.before_out_kept _ 25 rfl t (by omega) (Bool.eq_false_iff.mpr fun h => by
    have := (flush0_25 _).mp h; dsimp only at this; omega) (fun _ => rfl) (fun _ _ => rfl)]
  dsimp only [dats]

theorem before_26 (h0 : ¬t.val % 16 = 0) (d) :
    (dats m 0 c).before 26 t d = (prev m c t).2.2.2.1 := by
  have hN : t.val < 16 := lt_of_lt_of_eq t.isLt (show cfg0.N = 16 from N_0)
  rw [Dat.before_out_kept _ 26 rfl t (by omega) (Bool.eq_false_iff.mpr fun h => by
    have := (flush0_26 _).mp h; dsimp only at this; omega) (fun _ => rfl) (fun _ _ => rfl)]
  dsimp only [dats]

theorem before_27 (h0 : ¬t.val % 16 = 0) (d) :
    (dats m 0 c).before 27 t d = (prev m c t).2.2.2.2 := by
  have hN : t.val < 16 := lt_of_lt_of_eq t.isLt (show cfg0.N = 16 from N_0)
  rw [Dat.before_out_kept _ 27 rfl t (by omega) (Bool.eq_false_iff.mpr fun h => by
    have := (flush0_27 _).mp h; dsimp only at this; omega) (fun _ => rfl) (fun _ _ => rfl)]
  dsimp only [dats]

/-- What the body is called with at a point, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 8000000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27]
  by_cases h0 : t.val % 16 = 0
  · rw [outsAt_A m c t h0]
    dsimp only [outsA]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((ptA m c t h0).2.2.2.2.2 Set.univ _)
    iframe H0 H1 H2 H3 H4 H5 H6 H7 H8 H9 H10 H11 H12 H13 H14 H15 H16 H17 H18 H19 H20 H21 H22
    isplitl [H23]; · iexists _; iexact H23
    isplitl [H24]; · iexists _; iexact H24
    isplitl [H25]; · iexists _; iexact H25
    isplitl [H26]; · iexists _; iexact H26
    isplitl [H27]; · iexists _; iexact H27
    iintro ⟨H0, H1, H2, H3, H4, H5, H6, H7, H8, H9, H10, H11, H12, H13, H14, H15, H16, H17, H18, H19, H20, H21, H22, H23, H24, H25, H26, H27⟩
    iframe HΦ Ho H0 H1 H2 H3 H4 H5 H6 H7 H8 H9 H10 H11 H12 H13 H14 H15 H16 H17 H18 H19 H20 H21 H22
    isplitl [H23]; · iapply Shared.owns_cover (c := (c : Thread nD τ)) (ms0_23 t) VO0_23 (ptA m c t h0).1 (View.cover_of_tiledBy (ptA m c t h0).1 ![512, 128] (by sl_kernel_rfl)) $$ H23
    isplitl [H24]; · iapply Shared.owns_cover (c := (c : Thread nD τ)) (ms0_24 t) VO0_24 (ptA m c t h0).2.1 (View.cover_of_tiledL (ptA m c t h0).2.1 S512x1024.size (by sl_kernel_rfl)) $$ H24
    isplitl [H25]; · iapply Shared.owns_cover (c := (c : Thread nD τ)) (ms0_25 t) VO0_25 (ptA m c t h0).2.2.1 (View.cover_of_tiledL (ptA m c t h0).2.2.1 S1x1024.size (by sl_kernel_rfl)) $$ H25
    isplitl [H26]; · iapply Shared.owns_cover (c := (c : Thread nD τ)) (ms0_26 t) VO0_26 (ptA m c t h0).2.2.2.1 (View.cover_of_tiledL (ptA m c t h0).2.2.2.1 S128x512.size (by sl_kernel_rfl)) $$ H26
    iapply Shared.owns_cover (c := (c : Thread nD τ)) (ms0_27 t) VO0_27 (ptA m c t h0).2.2.2.2.1 (View.cover_of_tiledBy (ptA m c t h0).2.2.2.2.1 ![1, 512] (by sl_kernel_rfl)) $$ H27
  · rw [outsAt_B m c t h0]
    simp only [before_25 m c t h0, before_26 m c t h0, before_27 m c t h0]
    dsimp only [outsB]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply ((ptB m c t h0 (prev m c t)).2.2.2.2.2 Set.univ _)
    iframe H0 H1 H2 H3 H4 H5 H6 H7 H8 H9 H10 H11 H12 H13 H14 H15 H16 H17 H18 H19 H20 H21 H22
    isplitl [H23]; · iexists _; iexact H23
    isplitl [H24]; · iexists _; iexact H24
    isplitl [H25]; · iexact H25
    isplitl [H26]; · iexact H26
    isplitl [H27]; · iexact H27
    iintro ⟨H0, H1, H2, H3, H4, H5, H6, H7, H8, H9, H10, H11, H12, H13, H14, H15, H16, H17, H18, H19, H20, H21, H22, H23, H24, H25, H26, H27⟩
    iframe HΦ Ho H0 H1 H2 H3 H4 H5 H6 H7 H8 H9 H10 H11 H12 H13 H14 H15 H16 H17 H18 H19 H20 H21 H22
    isplitl [H23]; · iapply Shared.owns_cover (c := (c : Thread nD τ)) (ms0_23 t) VO0_23 (ptB m c t h0 (prev m c t)).1 (View.cover_of_tiledBy (ptB m c t h0 (prev m c t)).1 ![512, 128] (by sl_kernel_rfl)) $$ H23
    isplitl [H24]; · iapply Shared.owns_cover (c := (c : Thread nD τ)) (ms0_24 t) VO0_24 (ptB m c t h0 (prev m c t)).2.1 (View.cover_of_tiledL (ptB m c t h0 (prev m c t)).2.1 S512x1024.size (by sl_kernel_rfl)) $$ H24
    isplitl [H25]; · iapply Shared.owns_cover (c := (c : Thread nD τ)) (ms0_25 t) VO0_25 (ptB m c t h0 (prev m c t)).2.2.1 (View.cover_of_tiledL (ptB m c t h0 (prev m c t)).2.2.1 S1x1024.size (by sl_kernel_rfl)) $$ H25
    isplitl [H26]; · iapply Shared.owns_cover (c := (c : Thread nD τ)) (ms0_26 t) VO0_26 (ptB m c t h0 (prev m c t)).2.2.2.1 (View.cover_of_tiledL (ptB m c t h0 (prev m c t)).2.2.2.1 S128x512.size (by sl_kernel_rfl)) $$ H26
    iapply owns_intro _ (ms0_27 t) fullShare _ $$ H27

theorem defs₀_row (t : Fin cfg0.N) : defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays at what the proof data computes, the rest as the region found it, every counter zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame claim at any `F`: the argument arrays end unchanged, every counter zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0)

theorem frame : Quiet F := fun m ρ _ =>
  θ_run_and (frame_of m ρ (dats m) (A_eq m) ((θ_run defs _ _).mono (fun _ h => h.1) (run_main m ρ)))
    ((θ_run defs _ _).mono (fun _ h => h.2) (run_main m ρ))

end Cert.Mix2Ideal.Run

end
-- ==== Proof.Mix2Frame.lean ====
/- The frame of the program as printed, from the one run that holds at any `F`. -/
module

public import proofs.«01_k».proof.Proof.Mix2Run
public import proofs.«01_k».proof.Defs
public import proofs.«01_k».proof.Proof.Gen.Mix2

@[expose] public section

namespace Cert.Mix2

open Idealize.ShloMosaic Idealize.ShloMosaic.Tactic

theorem frame_bits : Cert.quiescent_Mix2 := by
  rw [show Cert.quiescent_Mix2 = Cert.Mix2Ideal.Run.Quiet Bits from by sl_kernel_rfl]
  exact Cert.Mix2Ideal.Run.frame

end Cert.Mix2
-- ==== Proof.FfnKit.lean ====
/- The body's branch condition over the grid, and each window's staging memref at a point. -/
module

public import proofs.«01_k».proof.Proof.Gen.FfnIdeal.Frame
public import proofs.«01_k».proof.Proof.Gen.FfnIdeal.Skeleton
public import Idealize.ShloMosaic.Lib.Tactic
public import Idealize.ShloMosaic.Lib.WordCmp

@[expose] public section

set_option maxRecDepth 16384

noncomputable section

namespace Cert.FfnIdeal.Gen

open Cert Cert.FfnIdeal Idealize.ShloMosaic Idealize.ShloMosaic.TcCoe Idealize.ShloMosaic.Tactic

/-- The zeroing's condition, from the grid's coordinate: -/
abbrev cond0_0 (i : grid0.Coords) : Prop := (Scalar.cmpi .ne (Scalar.extui (Scalar.cmpi .eq (BitVec.ofNat 32 (i 0).val) 0#32)) 0#32) = 1#1
/-- it holds at the first point only. -/
theorem hcond0_0 (t : Fin cfg0.N) : cond0_0 (grid0.coords t) ↔ t.val % 32 = 0 := by
  have ht : t.val < 32 := Nat.lt_of_lt_of_eq t.isLt N_0
  have e0 : (grid0.coords t 0).val = t.val / 1 % 32 := Pipeline.Grid.coords_val t 0 (by decide) rfl
  simp only [cond0_0, e0]
  word_cmp

/-- Each window's staging buffer at a point, and that it is a whole buffer; of an output, one view to state contents through. -/
abbrev VO0_16 : View sig .tc .vmem S256x2816 .bf16 := (Memref.whole cc0_stg16_0 : Memref sig .tc .vmem S256x2816 .bf16).view
abbrev VO0_17 : View sig .tc .vmem S256x2816 .bf16 := (Memref.whole cc0_stg17_0 : Memref sig .tc .vmem S256x2816 .bf16).view
abbrev VO0_18 : View sig .tc .vmem S256x1024 .f32 := (Memref.whole cc0_stg18_0 : Memref sig .tc .vmem S256x1024 .f32).view
abbrev VO0_19 : View sig .tc .vmem S1x1024 .f32 := (Memref.whole cc0_stg19_0 : Memref sig .tc .vmem S1x1024 .f32).view
abbrev VO0_20 : View sig .tc .vmem S8x2816 .f32 := (Memref.whole cc0_stg20_0 : Memref sig .tc .vmem S8x2816 .f32).view
abbrev VO0_21 : View sig .tc .vmem S8x2816 .f32 := (Memref.whole cc0_stg21_0 : Memref sig .tc .vmem S8x2816 .f32).view
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2816 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x2816 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5632 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x5632 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x1024x1408 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x2816 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x2816 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S8x2816 .f32 := win0_21.stage (cfg0.slots t 21)
abbrev hs0_21 (t : Fin cfg0.N) : (ms0_21 t).IsWhole := hstage0_21 ((cfg0.slots t 21).cast nbuf0_21)

end Cert.FfnIdeal.Gen

end
-- ==== Proof.FfnBody.lean ====
module

public import proofs.«01_k».proof.Proof.Own
public import proofs.«01_k».proof.Proof.FfnKit
public import Idealize.ShloMosaic.Lib.Claim

/-! # FfnIdeal: the body's two runs, what the outputs hold point by point, and the launch

At point 0 the accumulated outputs are zeroed first (case A); at every later point they are added to, over
what the point before left (case B). Everything holds at any `F`. -/

@[expose] public section

set_option maxRecDepth 16384

noncomputable section

namespace Cert.FfnIdeal.Run

open Cert Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Body

variable (c : Dev nD) (i : grid0.Coords)
  (arg1 : Memref sig .tc .vmem S256x1024 .bf16) (harg1 : arg1.IsWhole)
  (arg2 : Memref sig .tc .vmem S16x1024 .bf16) (harg2 : arg2.IsWhole)
  (arg3 : Memref sig .tc .vmem S16x1024 .bf16) (harg3 : arg3.IsWhole)
  (arg4 : Memref sig .tc .vmem S256x2816 .bf16) (harg4 : arg4.IsWhole)
  (arg5 : Memref sig .tc .vmem S16x2816 .bf16) (harg5 : arg5.IsWhole)
  (arg6 : Memref sig .tc .vmem S16x2816 .bf16) (harg6 : arg6.IsWhole)
  (arg7 : Memref sig .tc .vmem S256x2816 .bf16) (harg7 : arg7.IsWhole)
  (arg8 : Memref sig .tc .vmem S16x2816 .bf16) (harg8 : arg8.IsWhole)
  (arg9 : Memref sig .tc .vmem S16x2816 .bf16) (harg9 : arg9.IsWhole)
  (arg10 : Memref sig .tc .vmem S256x5632 .bf16) (harg10 : arg10.IsWhole)
  (arg11 : Memref sig .tc .vmem S3x5632 .f32) (harg11 : arg11.IsWhole)
  (arg12 : Memref sig .tc .vmem S2816x1024 .bf16) (harg12 : arg12.IsWhole)
  (arg13 : Memref sig .tc .vmem S4x1024x1408 .bf16) (harg13 : arg13.IsWhole)
  (arg14 : Memref sig .tc .vmem S256x1024 .f32) (harg14 : arg14.IsWhole)
  (arg15 : Memref sig .tc .vmem S256x1024 .f32) (harg15 : arg15.IsWhole)
  (arg16 : Memref sig .tc .vmem S1x1024 .f32) (harg16 : arg16.IsWhole)
  (arg17 : Memref sig .tc .vmem S256x2816 .bf16) (harg17 : arg17.IsWhole)
  (arg18 : Memref sig .tc .vmem S256x2816 .bf16) (harg18 : arg18.IsWhole)
  (arg19 : Memref sig .tc .vmem S256x1024 .f32) (harg19 : arg19.IsWhole)
  (arg20 : Memref sig .tc .vmem S1x1024 .f32) (harg20 : arg20.IsWhole)
  (arg21 : Memref sig .tc .vmem S8x2816 .f32) (harg21 : arg21.IsWhole)
  (arg22 : Memref sig .tc .vmem S8x2816 .f32) (harg22 : arg22.IsWhole)
  (x0 : Vec F S256x1024 .bf16)
  (x1 : Vec F S16x1024 .bf16)
  (x2 : Vec F S16x1024 .bf16)
  (x3 : Vec F S256x2816 .bf16)
  (x4 : Vec F S16x2816 .bf16)
  (x5 : Vec F S16x2816 .bf16)
  (x6 : Vec F S256x2816 .bf16)
  (x7 : Vec F S16x2816 .bf16)
  (x8 : Vec F S16x2816 .bf16)
  (x9 : Vec F S256x5632 .bf16)
  (x10 : Vec F S3x5632 .f32)
  (x11 : Vec F S2816x1024 .bf16)
  (x12 : Vec F S4x1024x1408 .bf16)
  (x13 : Vec F S256x1024 .f32)
  (x14 : Vec F S256x1024 .f32)
  (x15 : Vec F S1x1024 .f32)

set_option maxHeartbeats 80000000 in
/-- Case A: the pieces every output ends with, with the run that leaves them. -/
def runA (hc0 : cond0_0 i) :
    Σ' (L16 : List (View.Piece (Elt F) S256x2816 .bf16)), Σ' (L17 : List (View.Piece (Elt F) S256x2816 .bf16)), Σ' (L18 : List (View.Piece (Elt F) S256x1024 .f32)), Σ' (L19 : List (View.Piece (Elt F) S1x1024 .f32)), Σ' (L20 : List (View.Piece (Elt F) S8x2816 .f32)),
    { L21 : List (View.Piece (Elt F) S8x2816 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)) -∗ K ⟨⟩))
      ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

set_option maxHeartbeats 80000000 in
/-- Case B: the pieces every output ends with, with the run that leaves them. -/
def runB (hc0 : ¬cond0_0 i) (xo19 : Vec F S1x1024 .f32) (xo20 : Vec F S8x2816 .f32) (xo21 : Vec F S8x2816 .f32) :
    Σ' (L16 : List (View.Piece (Elt F) S256x2816 .bf16)), Σ' (L17 : List (View.Piece (Elt F) S256x2816 .bf16)), Σ' (L18 : List (View.Piece (Elt F) S256x1024 .f32)), Σ' (L19 : List (View.Piece (Elt F) S1x1024 .f32)), Σ' (L20 : List (View.Piece (Elt F) S8x2816 .f32)),
    { L21 : List (View.Piece (Elt F) S8x2816 .f32) // ∀ (E : Set ℕ) (K : PUnit → sProp 𝕄),
      iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12 ∗ owns (c : Thread nD τ) arg14 fullShare x13 ∗ owns (c : Thread nD τ) arg15 fullShare x14
        ∗ owns (c : Thread nD τ) arg16 fullShare x15
        ∗ (∃ d, owns (c : Thread nD τ) arg17 fullShare d)
        ∗ (∃ d, owns (c : Thread nD τ) arg18 fullShare d)
        ∗ (∃ d, owns (c : Thread nD τ) arg19 fullShare d)
        ∗ owns (c : Thread nD τ) arg20 fullShare xo19
        ∗ owns (c : Thread nD τ) arg21 fullShare xo20
        ∗ owns (c : Thread nD τ) arg22 fullShare xo21
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12 ∗ owns (c : Thread nD τ) arg14 fullShare x13 ∗ owns (c : Thread nD τ) arg15 fullShare x14
            ∗ owns (c : Thread nD τ) arg16 fullShare x15
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ f, arg19.view.loc (c : Thread nD τ) ↦[arg19.view.set]{fullShare} arg19.view.writes (Elt F) f L18)
            ∗ (∃ f, arg20.view.loc (c : Thread nD τ) ↦[arg20.view.set]{fullShare} arg20.view.writes (Elt F) f L19)
            ∗ (arg21.view.loc (c : Thread nD τ) ↦[arg21.view.set]{fullShare} arg21.view.writes (Elt F) (harg21.unread xo20) L20)
            ∗ (arg22.view.loc (c : Thread nD τ) ↦[arg22.view.set]{fullShare} arg22.view.writes (Elt F) (harg22.unread xo21) L21)) -∗ K ⟨⟩))
      ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hf8; obtain rfl := harg10.eq_unread hf9; obtain rfl := harg11.eq_unread hf10; obtain rfl := harg12.eq_unread hf11
    obtain rfl := harg13.eq_unread hf12; obtain rfl := harg14.eq_unread hf13; obtain rfl := harg15.eq_unread hf14; obtain rfl := harg16.eq_unread hf15
    obtain rfl := harg20.eq_unread hf19; obtain rfl := harg21.eq_unread hf20; obtain rfl := harg22.eq_unread hf21
    sl_exec (disch := first | sl_exact hc0)
    sl_step
    iapply Hk
    isplitl [H0]; · iapply Shared.owns_unread (c := (c : Thread nD τ)) harg1 $$ H0
    isplitl [H1]; · iapply Shared.owns_unread (c := (c : Thread nD τ)) harg2 $$ H1
    isplitl [H2]; · iapply Shared.owns_unread (c := (c : Thread nD τ)) harg3 $$ H2
    isplitl [H3]; · iapply Shared.owns_unread (c := (c : Thread nD τ)) harg4 $$ H3
    isplitl [H4]; · iapply Shared.owns_unread (c := (c : Thread nD τ)) harg5 $$ H4
    isplitl [H5]; · iapply Shared.owns_unread (c := (c : Thread nD τ)) harg6 $$ H5
    isplitl [H6]; · iapply Shared.owns_unread (c := (c : Thread nD τ)) harg7 $$ H6
    isplitl [H7]; · iapply Shared.owns_unread (c := (c : Thread nD τ)) harg8 $$ H7
    isplitl [H8]; · iapply Shared.owns_unread (c := (c : Thread nD τ)) harg9 $$ H8
    isplitl [H9]; · iapply Shared.owns_unread (c := (c : Thread nD τ)) harg10 $$ H9
    isplitl [H10]; · iapply Shared.owns_unread (c := (c : Thread nD τ)) harg11 $$ H10
    isplitl [H11]; · iapply Shared.owns_unread (c := (c : Thread nD τ)) harg12 $$ H11
    isplitl [H12]; · iapply Shared.owns_unread (c := (c : Thread nD τ)) harg13 $$ H12
    isplitl [H13]; · iapply Shared.owns_unread (c := (c : Thread nD τ)) harg14 $$ H13
    isplitl [H14]; · iapply Shared.owns_unread (c := (c : Thread nD τ)) harg15 $$ H14
    isplitl [H15]; · iapply Shared.owns_unread (c := (c : Thread nD τ)) harg16 $$ H15
    isplitl [H16]; · iexists _; iexact H16
    isplitl [H17]; · iexists _; iexact H17
    isplitl [H18]; · iexists _; iexact H18
    isplitl [H19]; · iexists _; iexact H19
    isplitl [H20]; · iexact H20
    iexact H21

end Body

end Cert.FfnIdeal.Run

end
-- ==== Proof.FfnRun.lean ====
module

public import proofs.«01_k».proof.Proof.FfnBody

/-! # FfnIdeal: what the outputs hold point by point, and the launch -/

@[expose] public section

set_option maxRecDepth 16384

noncomputable section

namespace Cert.FfnIdeal.Run

open Cert Cert.FfnIdeal Cert.FfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs' blocks, in window order. -/
abbrev Outs (F : FTy → Type) : Type := Vec F S256x2816 .bf16 × Vec F S256x2816 .bf16 × Vec F S256x1024 .f32 × Vec F S1x1024 .f32 × Vec F S8x2816 .f32 × Vec F S8x2816 .f32

variable (c : Dev nD) (t : Fin cfg0.N)

/-- The run of case A at a point, over the point's blocks. -/
def ptA (h0 : t.val % 32 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ((hcond0_0 t).mpr h0)

/-- The run of case B at a point, over the point's blocks and what the point before left. -/
def ptB (h0 : ¬t.val % 32 = 0) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun h => h0 ((hcond0_0 t).mp h)) p.2.2.2.1 p.2.2.2.2.1 p.2.2.2.2.2

/-- What case A leaves. -/
def outsA (h0 : t.val % 32 = 0) : Outs F :=
  (VO0_16.read (Elt F) (VO0_16.writes (Elt F) VO0_16.junk (ptA m c t h0).1),
   VO0_17.read (Elt F) (VO0_17.writes (Elt F) VO0_17.junk (ptA m c t h0).2.1),
   VO0_18.read (Elt F) (VO0_18.writes (Elt F) VO0_18.junk (ptA m c t h0).2.2.1),
   VO0_19.read (Elt F) (VO0_19.writes (Elt F) VO0_19.junk (ptA m c t h0).2.2.2.1),
   VO0_20.read (Elt F) (VO0_20.writes (Elt F) VO0_20.junk (ptA m c t h0).2.2.2.2.1),
   VO0_21.read (Elt F) (VO0_21.writes (Elt F) VO0_21.junk (ptA m c t h0).2.2.2.2.2.1))

/-- What case B leaves: a block its stores do not cover keeps the rest. -/
def outsB (h0 : ¬t.val % 32 = 0) (p : Outs F) : Outs F :=
  (VO0_16.read (Elt F) (VO0_16.writes (Elt F) VO0_16.junk (ptB m c t h0 p).1),
   VO0_17.read (Elt F) (VO0_17.writes (Elt F) VO0_17.junk (ptB m c t h0 p).2.1),
   VO0_18.read (Elt F) (VO0_18.writes (Elt F) VO0_18.junk (ptB m c t h0 p).2.2.1),
   VO0_19.read (Elt F) (VO0_19.writes (Elt F) VO0_19.junk (ptB m c t h0 p).2.2.2.1),
   (ms0_20 t).view.read (Elt F) ((ms0_20 t).view.writes (Elt F) ((hs0_20 t).unread p.2.2.2.2.1) (ptB m c t h0 p).2.2.2.2.1),
   (ms0_21 t).view.read (Elt F) ((ms0_21 t).view.writes (Elt F) ((hs0_21 t).unread p.2.2.2.2.2) (ptB m c t h0 p).2.2.2.2.2.1))

/-- What the outputs hold after each point. -/
def outsAt (c : Dev nD) : (n : ℕ) → n < cfg0.N → Outs F
  | 0, hn => outsA m c ⟨0, hn⟩ (Nat.zero_mod _)
  | n + 1, hn => if h0 : (n + 1) % 32 = 0 then outsA m c ⟨n + 1, hn⟩ h0
      else outsB m c ⟨n + 1, hn⟩ h0 (outsAt c n (Nat.lt_of_succ_lt hn))

/-- What the outputs held before a point. -/
abbrev prev : Outs F := outsAt m c (t.val - 1) (Nat.lt_of_le_of_lt (Nat.sub_le _ _) t.isLt)

theorem outsAt_A (h0 : t.val % 32 = 0) : outsAt m c t.val t.isLt = outsA m c t h0 := by
  obtain ⟨_ | n, hn⟩ := t
  · exact rfl
  · exact (dif_pos h0).trans rfl

theorem outsAt_B (h0 : ¬t.val % 32 = 0) :
    outsAt m c t.val t.isLt = outsB m c t h0 (prev m c t) := by
  obtain ⟨_ | n, hn⟩ := t
  · exact absurd (Nat.zero_mod _) h0
  · exact (dif_neg h0).trans rfl

/-- The proof data: the arrays as the region finds them, each input's buffer at its block, the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt m c t.val t.isLt).1
    | ⟨17, _⟩ => (outsAt m c t.val t.isLt).2.1
    | ⟨18, _⟩ => (outsAt m c t.val t.isLt).2.2.1
    | ⟨19, _⟩ => (outsAt m c t.val t.isLt).2.2.2.1
    | ⟨20, _⟩ => (outsAt m c t.val t.isLt).2.2.2.2.1
    | ⟨21, _⟩ => (outsAt m c t.val t.isLt).2.2.2.2.2
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = (outsAt m c t.val t.isLt).1 := by dsimp only [dats]
theorem after_17 : (dats m 0 c).after 17 t = (outsAt m c t.val t.isLt).2.1 := by dsimp only [dats]
theorem after_18 : (dats m 0 c).after 18 t = (outsAt m c t.val t.isLt).2.2.1 := by dsimp only [dats]
theorem after_19 : (dats m 0 c).after 19 t = (outsAt m c t.val t.isLt).2.2.2.1 := by dsimp only [dats]
theorem after_20 : (dats m 0 c).after 20 t = (outsAt m c t.val t.isLt).2.2.2.2.1 := by dsimp only [dats]
theorem after_21 : (dats m 0 c).after 21 t = (outsAt m c t.val t.isLt).2.2.2.2.2 := by dsimp only [dats]

theorem before_0 (d) : (dats m 0 c).before 0 t d = iblk m c 0 t :=
  before0_0_of m (dats m 0 c) (A_eq m c 0) (fun t => after_0 m c t) t d
theorem before_1 (d) : (dats m 0 c).before 1 t d = iblk m c 1 t :=
  before0_1_of m (dats m 0 c) (A_eq m c 1) (fun t => after_1 m c t) t d
theorem before_2 (d) : (dats m 0 c).before 2 t d = iblk m c 2 t :=
  before0_2_of m (dats m 0 c) (A_eq m c 2) (fun t => after_2 m c t) t d
theorem before_3 (d) : (dats m 0 c).before 3 t d = iblk m c 3 t :=
  before0_3_of m (dats m 0 c) (A_eq m c 3) (fun t => after_3 m c t) t d
theorem before_4 (d) : (dats m 0 c).before 4 t d = iblk m c 4 t :=
  before0_4_of m (dats m 0 c) (A_eq m c 4) (fun t => after_4 m c t) t d
theorem before_5 (d) : (dats m 0 c).before 5 t d = iblk m c 5 t :=
  before0_5_of m (dats m 0 c) (A_eq m c 5) (fun t => after_5 m c t) t d
theorem before_6 (d) : (dats m 0 c).before 6 t d = iblk m c 6 t :=
  before0_6_of m (dats m 0 c) (A_eq m c 6) (fun t => after_6 m c t) t d
theorem before_7 (d) : (dats m 0 c).before 7 t d = iblk m c 7 t :=
  before0_7_of m (dats m 0 c) (A_eq m c 7) (fun t => after_7 m c t) t d
theorem before_8 (d) : (dats m 0 c).before 8 t d = iblk m c 8 t :=
  before0_8_of m (dats m 0 c) (A_eq m c 8) (fun t => after_8 m c t) t d
theorem before_9 (d) : (dats m 0 c).before 9 t d = iblk m c 9 t :=
  before0_9_of m (dats m 0 c) (A_eq m c 9) (fun t => after_9 m c t) t d
theorem before_10 (d) : (dats m 0 c).before 10 t d = iblk m c 10 t :=
  before0_10_of m (dats m 0 c) (A_eq m c 10) (fun t => after_10 m c t) t d
theorem before_11 (d) : (dats m 0 c).before 11 t d = iblk m c 11 t :=
  before0_11_of m (dats m 0 c) (A_eq m c 11) (fun t => after_11 m c t) t d
theorem before_12 (d) : (dats m 0 c).before 12 t d = iblk m c 12 t :=
  before0_12_of m (dats m 0 c) (A_eq m c 12) (fun t => after_12 m c t) t d
theorem before_13 (d) : (dats m 0 c).before 13 t d = iblk m c 13 t :=
  before0_13_of m (dats m 0 c) (A_eq m c 13) (fun t => after_13 m c t) t d
theorem before_14 (d) : (dats m 0 c).before 14 t d = iblk m c 14 t :=
  before0_14_of m (dats m 0 c) (A_eq m c 14) (fun t => after_14 m c t) t d
theorem before_15 (d) : (dats m 0 c).before 15 t d = iblk m c 15 t :=
  before0_15_of m (dats m 0 c) (A_eq m c 15) (fun t => after_15 m c t) t d

theorem before_19 (h0 : ¬t.val % 32 = 0) (d) :
    (dats m 0 c).before 19 t d = (prev m c t).2.2.2.1 := by
  have hN : t.val < 32 := lt_of_lt_of_eq t.isLt (show cfg0.N = 32 from N_0)
  rw [Dat.before_out_kept _ 19 rfl t (by omega) (Bool.eq_false_iff.mpr fun h => by
    have := (flush0_19 _).mp h; dsimp only at this; omega) (fun _ => rfl) (fun _ _ => rfl)]
  dsimp only [dats]

theorem before_20 (h0 : ¬t.val % 32 = 0) (d) :
    (dats m 0 c).before 20 t d = (prev m c t).2.2.2.2.1 := by
  have hN : t.val < 32 := lt_of_lt_of_eq t.isLt (show cfg0.N = 32 from N_0)
  rw [Dat.before_out_kept _ 20 rfl t (by omega) (Bool.eq_false_iff.mpr fun h => by
    have := (flush0_20 _).mp h; dsimp only at this; omega) (fun _ => rfl) (fun _ _ => rfl)]
  dsimp only [dats]

theorem before_21 (h0 : ¬t.val % 32 = 0) (d) :
    (dats m 0 c).before 21 t d = (prev m c t).2.2.2.2.2 := by
  have hN : t.val < 32 := lt_of_lt_of_eq t.isLt (show cfg0.N = 32 from N_0)
  rw [Dat.before_out_kept _ 21 rfl t (by omega) (Bool.eq_false_iff.mpr fun h => by
    have := (flush0_21 _).mp h; dsimp only at this; omega) (fun _ => rfl) (fun _ _ => rfl)]
  dsimp only [dats]

/-- What the body is called with at a point, -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 80000000 in
/-- The body at any point. -/
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21]
  by_cases h0 : t.val % 32 = 0
  · rw [outsAt_A m c t h0]
    dsimp only [outsA]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((ptA m c t h0).2.2.2.2.2.2 Set.univ _)
    iframe H0 H1 H2 H3 H4 H5 H6 H7 H8 H9 H10 H11 H12 H13 H14 H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, H13, H14, H15, H16, H17, H18, H19, H20, H21⟩
    iframe HΦ Ho H0 H1 H2 H3 H4 H5 H6 H7 H8 H9 H10 H11 H12 H13 H14 H15
    isplitl [H16]; · iapply Shared.owns_cover (c := (c : Thread nD τ)) (ms0_16 t) VO0_16 (ptA m c t h0).1 (View.cover_of_tiledBy (ptA m c t h0).1 ![256, 128] (by sl_kernel_rfl)) $$ H16
    isplitl [H17]; · iapply Shared.owns_cover (c := (c : Thread nD τ)) (ms0_17 t) VO0_17 (ptA m c t h0).2.1 (View.cover_of_tiledBy (ptA m c t h0).2.1 ![256, 128] (by sl_kernel_rfl)) $$ H17
    isplitl [H18]; · iapply Shared.owns_cover (c := (c : Thread nD τ)) (ms0_18 t) VO0_18 (ptA m c t h0).2.2.1 (View.cover_of_tiledL (ptA m c t h0).2.2.1 S256x1024.size (by sl_kernel_rfl)) $$ H18
    isplitl [H19]; · iapply Shared.owns_cover (c := (c : Thread nD τ)) (ms0_19 t) VO0_19 (ptA m c t h0).2.2.2.1 (View.cover_of_tiledL (ptA m c t h0).2.2.2.1 S1x1024.size (by sl_kernel_rfl)) $$ H19
    isplitl [H20]; · iapply Shared.owns_cover (c := (c : Thread nD τ)) (ms0_20 t) VO0_20 (ptA m c t h0).2.2.2.2.1 (View.cover_of_tiledBy (ptA m c t h0).2.2.2.2.1 ![1, 128] (by sl_kernel_rfl)) $$ H20
    iapply Shared.owns_cover (c := (c : Thread nD τ)) (ms0_21 t) VO0_21 (ptA m c t h0).2.2.2.2.2.1 (View.cover_of_tiledBy (ptA m c t h0).2.2.2.2.2.1 ![1, 128] (by sl_kernel_rfl)) $$ H21
  · rw [outsAt_B m c t h0]
    simp only [before_19 m c t h0, before_20 m c t h0, before_21 m c t h0]
    dsimp only [outsB]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((ptB m c t h0 (prev m c t)).2.2.2.2.2.2 Set.univ _)
    iframe H0 H1 H2 H3 H4 H5 H6 H7 H8 H9 H10 H11 H12 H13 H14 H15
    isplitl [H16]; · iexists _; iexact H16
    isplitl [H17]; · iexists _; iexact H17
    isplitl [H18]; · iexists _; iexact H18
    isplitl [H19]; · iexact H19
    isplitl [H20]; · iexact H20
    isplitl [H21]; · iexact H21
    iintro ⟨H0, H1, H2, H3, H4, H5, H6, H7, H8, H9, H10, H11, H12, H13, H14, H15, H16, H17, H18, H19, H20, H21⟩
    iframe HΦ Ho H0 H1 H2 H3 H4 H5 H6 H7 H8 H9 H10 H11 H12 H13 H14 H15
    isplitl [H16]; · iapply Shared.owns_cover (c := (c : Thread nD τ)) (ms0_16 t) VO0_16 (ptB m c t h0 (prev m c t)).1 (View.cover_of_tiledBy (ptB m c t h0 (prev m c t)).1 ![256, 128] (by sl_kernel_rfl)) $$ H16
    isplitl [H17]; · iapply Shared.owns_cover (c := (c : Thread nD τ)) (ms0_17 t) VO0_17 (ptB m c t h0 (prev m c t)).2.1 (View.cover_of_tiledBy (ptB m c t h0 (prev m c t)).2.1 ![256, 128] (by sl_kernel_rfl)) $$ H17
    isplitl [H18]; · iapply Shared.owns_cover (c := (c : Thread nD τ)) (ms0_18 t) VO0_18 (ptB m c t h0 (prev m c t)).2.2.1 (View.cover_of_tiledL (ptB m c t h0 (prev m c t)).2.2.1 S256x1024.size (by sl_kernel_rfl)) $$ H18
    isplitl [H19]; · iapply Shared.owns_cover (c := (c : Thread nD τ)) (ms0_19 t) VO0_19 (ptB m c t h0 (prev m c t)).2.2.2.1 (View.cover_of_tiledL (ptB m c t h0 (prev m c t)).2.2.2.1 S1x1024.size (by sl_kernel_rfl)) $$ H19
    isplitl [H20]; · iapply owns_intro _ (ms0_20 t) fullShare _ $$ H20
    iapply owns_intro _ (ms0_21 t) fullShare _ $$ H21

theorem defs₀_row (t : Fin cfg0.N) : defs₀ (F := F) .tc cfg0.body (cfg0.bodyArgs t (cfg0.slots t)) = bodyAt0 t := by
  unfold defs₀; rw [Defs.onTc_tc]

set_option maxHeartbeats 80000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays at what the proof data computes, the rest as the region found it, every counter zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame claim at any `F`: the argument arrays end unchanged, every counter zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame : Quiet F := fun m ρ _ =>
  θ_run_and (frame_of m ρ (dats m) (A_eq m) ((θ_run defs _ _).mono (fun _ h => h.1) (run_main m ρ)))
    ((θ_run defs _ _).mono (fun _ h => h.2) (run_main m ρ))

end Cert.FfnIdeal.Run

end
-- ==== Proof.FfnFrame.lean ====
/- The frame of the program as printed, from the one run that holds at any `F`. -/
module

public import proofs.«01_k».proof.Proof.FfnRun
public import proofs.«01_k».proof.Defs
public import proofs.«01_k».proof.Proof.Gen.Ffn

@[expose] public section

namespace Cert.Ffn

open Idealize.ShloMosaic Idealize.ShloMosaic.Tactic

theorem frame_bits : Cert.quiescent_Ffn := by
  rw [show Cert.quiescent_Ffn = Cert.FfnIdeal.Run.Quiet Bits from by sl_kernel_rfl]
  exact Cert.FfnIdeal.Run.frame

end Cert.Ffn
-- ==== Proof.Mix1Host.lean ====
/- The gradient of the mixer's output side: the arrays the host prepares, and the kernel's blocks of them. -/
module

public import proofs.«01_k».proof.Proof.Mix1Run
public import proofs.«01_k».proof.Proof.Gen.Mix1RefIdeal.Read
public import proofs.«01_k».proof.Proof.Shared
public import Idealize.ShloMosaic.Lib.StableHlo.RunRead

@[expose] public section

set_option maxRecDepth 16384

noncomputable section

namespace Cert.Mix1Ideal.Final

open Cert Cert.Mix1Ideal Cert.Mix1Ideal.Gen Idealize.ShloMosaic Idealize.ShloMosaic.TcCoe Idealize.SL.Sem
open Idealize.ShloMosaic.Pipeline (Dat)
open Cert.Mix1RefIdeal.Read

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

/-- Concatenations of equal pieces. -/
theorem cat2 {S A B : Shape} {e : EltTy} {d} {a a' : A.Idx → Elt Ideal e} {b b' : B.Idx → Elt Ideal e}
    (h) (ha : a = a') (hb : b = b') : concatenate S d [⟨A, a⟩, ⟨B, b⟩] h = concatenate S d [⟨A, a'⟩, ⟨B, b'⟩] h := by
  subst ha hb; rfl
theorem cat3 {S A B C : Shape} {e : EltTy} {d} {a a' : A.Idx → Elt Ideal e} {b b' : B.Idx → Elt Ideal e} {k k' : C.Idx → Elt Ideal e}
    (h) (ha : a = a') (hb : b = b') (hk : k = k') :
    concatenate S d [⟨A, a⟩, ⟨B, b⟩, ⟨C, k⟩] h = concatenate S d [⟨A, a'⟩, ⟨B, b'⟩, ⟨C, k'⟩] h := by
  subst ha hb hk; rfl

/-- The convolution's padded rows, as the line of host operations writes them. -/
theorem V_pad (c : Dev nD) :
    concatenate S1x8194x512 1
      [⟨S1x1x512, StableHlo.upto [hostOps0, hostOps0_1, hostOps0_2, hostOps0_3, hostOps0_4].flatten (fun b => m (c, b)) 12
          (Proc.devRef .tc (![main_v10, main_v9, main_v10] 0))⟩,
        ⟨S1x8192x512, StableHlo.upto [hostOps0, hostOps0_1, hostOps0_2, hostOps0_3, hostOps0_4].flatten (fun b => m (c, b)) 12
          (Proc.devRef .tc (![main_v10, main_v9, main_v10] 1))⟩,
        ⟨S1x1x512, StableHlo.upto [hostOps0, hostOps0_1, hostOps0_2, hostOps0_3, hostOps0_4].flatten (fun b => m (c, b)) 12
          (Proc.devRef .tc (![main_v10, main_v9, main_v10] 2))⟩]
      concatenates_S1x1x512_S1x8192x512_S1x1x512_S1x8194x512_d1
    = val_main_v11 (F := Ideal) (a0 m c) := by
  refine cat3 (e := .f32) _ ?_ ?_ ?_
  · change StableHlo.upto _ _ _ (Proc.devRef .tc main_v10) = _
    after_reads_simp
    rfl
  · change StableHlo.upto _ _ _ (Proc.devRef .tc main_v9) = _
    after_reads_simp
    rfl
  · change StableHlo.upto _ _ _ (Proc.devRef .tc main_v10) = _
    after_reads_simp
    rfl

/-- The two halves the projection takes: what the convolution's gate and the head norm's gate leave. -/
theorem V_cat (c : Dev nD) :
    concatenate S1x8192x1024 2
      [⟨S1x8192x512, StableHlo.upto [hostOps0, hostOps0_1, hostOps0_2, hostOps0_3, hostOps0_4].flatten (fun b => m (c, b)) 63
          (Proc.devRef .tc (![main_v33, main_v50] 0))⟩,
        ⟨S1x8192x512, StableHlo.upto [hostOps0, hostOps0_1, hostOps0_2, hostOps0_3, hostOps0_4].flatten (fun b => m (c, b)) 63
          (Proc.devRef .tc (![main_v33, main_v50] 1))⟩]
      concatenates_S1x8192x512_S1x8192x512_S1x8192x1024_d2
    = val_main_v54 (F := Ideal) (a0 m c) (a1 m c) (a2 m c) (a3 m c) (a4 m c) := by
  refine cat2 (e := .f32) _ ?_ ?_
  · change StableHlo.upto _ _ _ (Proc.devRef .tc main_v33) = _
    after_reads_simp
    set_option backward.isDefEq.respectTransparency false in rw [V_pad]
    rfl
  · change StableHlo.upto _ _ _ (Proc.devRef .tc main_v50) = _
    after_reads_simp
    simp only [StableHlo.TRef.toBuf, StableHlo.TRef.ofBuf, cast_eq]
    rfl

theorem V_dx (c : Dev nD) (r : Fin 8192) (l : Fin 1024) : V m c main_v56 (ix2 r l) = a7 m c (ix3 0 r l) := by
  unfold_abbrev_sides
  after_reads_simp
  pointwise []
theorem V_g2 (c : Dev nD) (l : Fin 1024) : V m c main_v58 (ix2 0 l) = a6 m c (ix1 l) := by
  unfold_abbrev_sides
  after_reads_simp
  pointwise []
theorem V_w (c : Dev nD) (r l : Fin 1024) : V m c main_v61 (ix2 r l) = a5 m c (ix2 r l) := by
  unfold_abbrev_sides
  after_reads_simp
  pointwise []
theorem V_ycat (c : Dev nD) (r : Fin 8192) (l : Fin 1024) : V m c main_v60 (ix2 r l)
    = val_main_v54 (F := Ideal) (a0 m c) (a1 m c) (a2 m c) (a3 m c) (a4 m c) (ix3 0 r l) := by
  unfold_abbrev_sides
  after_reads_simp
  refine (congrFun (congrArg (fun z : FVec Ideal S1x8192x1024 .f32 => truncf (F := Ideal) .bf16
    (shapeCast S8192x1024 z shapeCasts_S1x8192x1024_S8192x1024) bitsLt_bf16_f32) (V_cat m c)) (ix2 r l)).trans ?_
  generalize val_main_v54 (F := Ideal) (a0 m c) (a1 m c) (a2 m c) (a3 m c) (a4 m c) = z
  pointwise []
theorem V_y (c : Dev nD) (r : Fin 8192) (l : Fin 1024) : V m c main_v57 (ix2 r l)
    = val_main_v55 (F := Ideal) (a0 m c) (a1 m c) (a2 m c) (a3 m c) (a4 m c) (a5 m c) (ix3 0 r l) := by
  unfold_abbrev_sides
  after_reads_simp
  refine (congrFun (congrArg (fun z : FVec Ideal S1x8192x1024 .f32 => shapeCast S8192x1024
    (Host.dotGeneral (F := Ideal) dot_S1x8192x1024_S1024x1024_S1x8192x1024_2_0_01_1_n_n none z (a5 m c)) shapeCasts_S1x8192x1024_S8192x1024)
    (V_cat m c)) (ix2 r l)).trans ?_
  unfold val_main_v55
  generalize val_main_v54 (F := Ideal) (a0 m c) (a1 m c) (a2 m c) (a3 m c) (a4 m c) = z
  pointwise []
theorem V_p (c : Dev nD) (r : Fin 8192) (l : Fin 3104) : V m c main_v55 (ix2 r ⟨l.val, by have := l.isLt; omega⟩) = a0 m c (ix3 0 r l) := by
  unfold_abbrev_sides
  after_reads_simp
  simp only [StableHlo.TRef.toBuf, StableHlo.TRef.ofBuf, cast_eq]
  pointwise []

theorem head_div (h : Fin 4) (l : Fin 128) (p) : (⟨(h.val * 128 + l.val) / 128, p⟩ : Fin 4) = h := Fin.ext (by simp only; omega)
theorem head_mod (h : Fin 4) (l : Fin 128) (p) : (⟨(h.val * 128 + l.val) % 128, p⟩ : Fin 128) = l := Fin.ext (by simp only; omega)

theorem V_of (c : Dev nD) (r : Fin 8192) (h : Fin 4) (l : Fin 128) :
    V m c main_v64 (ix2 r ⟨h.val * 128 + l.val, by omega⟩) = a1 m c (ix4 0 h r l) := by
  unfold_abbrev_sides
  after_reads_simp
  pointwise []
  simp only [head_div, head_mod]
theorem V_ob (c : Dev nD) (r : Fin 8192) (h : Fin 4) (l : Fin 128) :
    V m c main_v67 (ix2 r ⟨h.val * 128 + l.val, by omega⟩) = a2 m c (ix4 0 h r l) := by
  unfold_abbrev_sides
  after_reads_simp
  pointwise []
  simp only [head_div, head_mod]
theorem V_hn (c : Dev nD) (h : Fin 4) (l : Fin 128) :
    V m c main_v71 (ix2 0 ⟨h.val * 128 + l.val, by omega⟩) = a4 m c (ix1 l) := by
  unfold_abbrev_sides
  after_reads_simp
  pointwise []
  simp only [head_div, head_mod]

/-! ## The kernel's blocks -/

theorem idx : ∀ t : Fin cfg0.N, win0_0.index t = ![t.val, 0] ∧ win0_1.index t = ![t.val, 0]
    ∧ win0_2.index t = ![0, 0] ∧ win0_3.index t = ![t.val, 0] ∧ win0_4.index t = ![0, 0]
    ∧ win0_5.index t = ![t.val, 0] ∧ win0_6.index t = ![t.val, 1] ∧ win0_7.index t = ![t.val, 2]
    ∧ win0_8.index t = ![t.val, 5] ∧ win0_9.index t = ![t.val * 32 - 1, 1] ∧ win0_10.index t = ![t.val * 32 - 1, 2]
    ∧ win0_11.index t = ![min (t.val * 32 + 32) 511, 1] ∧ win0_12.index t = ![min (t.val * 32 + 32) 511, 2]
    ∧ win0_13.index t = ![t.val, 0] ∧ win0_14.index t = ![t.val, 0] ∧ win0_15.index t = ![0, 0]
    ∧ win0_16.index t = ![0, 0] ∧ win0_17.index t = ![t.val, 0] ∧ win0_18.index t = ![t.val, 0]
    ∧ win0_19.index t = ![t.val, 0] ∧ win0_20.index t = ![t.val, 0] ∧ win0_21.index t = ![0, 0]
    ∧ win0_22.index t = ![0, 0] ∧ win0_23.index t = ![0, 0] ∧ win0_24.index t = ![0, 0] :=
  (by decide +kernel : ∀ t : Fin grid0.N, _)

theorem N16 : cfg0.N = 16 := N_0
theorem row_lt (t : Fin cfg0.N) (r : Fin 512) : t.val * 512 + r.val < 8192 := by
  have := lt_of_lt_of_eq t.isLt N16; omega
/-- Row `r` of tile `t`. -/
abbrev rowOf (t : Fin cfg0.N) (r : Fin 512) : Fin 8192 := ⟨t.val * 512 + r.val, row_lt t r⟩

variable (c : Dev nD) (t : Fin cfg0.N)

theorem blk0 (x : Fin 512) (y : Fin 1024) :
    iblk m c 0 t (ix2 x y) = a7 m c (ix3 0 (rowOf t x) y) := by
  rw [← V_dx]; blk_ext! [iblk, idx t]
theorem blk1 (x : Fin 512) (y : Fin 1024) :
    iblk m c 1 t (ix2 x y) = val_main_v55 (F := Ideal) (a0 m c) (a1 m c) (a2 m c) (a3 m c) (a4 m c) (a5 m c) (ix3 0 (rowOf t x) y) := by
  rw [← V_y]; blk_ext! [iblk, idx t]
theorem blk2 (y : Fin 1024) : iblk m c 2 t (ix2 0 y) = a6 m c (ix1 y) := by
  rw [← V_g2]; blk_ext! [iblk, idx t]
theorem blk3 (x : Fin 512) (y : Fin 1024) :
    iblk m c 3 t (ix2 x y) = val_main_v54 (F := Ideal) (a0 m c) (a1 m c) (a2 m c) (a3 m c) (a4 m c) (ix3 0 (rowOf t x) y) := by
  rw [← V_ycat]; blk_ext! [iblk, idx t]
theorem blk4 (x y : Fin 1024) : iblk m c 4 t (ix2 x y) = a5 m c (ix2 x y) := by
  rw [← V_w]; blk_ext! [iblk, idx t]
theorem blk13 (x : Fin 512) (h : Fin 4) (l : Fin 128) :
    iblk m c 13 t (ix2 x ⟨h.val * 128 + l.val, by omega⟩) = a1 m c (ix4 0 h (rowOf t x) l) := by
  rw [← V_of]; blk_ext! [iblk, idx t]
theorem blk14 (x : Fin 512) (h : Fin 4) (l : Fin 128) :
    iblk m c 14 t (ix2 x ⟨h.val * 128 + l.val, by omega⟩) = a2 m c (ix4 0 h (rowOf t x) l) := by
  rw [← V_ob]; blk_ext! [iblk, idx t]
theorem blk15 (x : Fin 3) (y : Fin 512) : iblk m c 15 t (ix2 x y) = a3 m c (ix2 x y) := by
  rw [← show V m c main_arg3 = a3 m c from V_main_arg3 m c]; blk_ext! [iblk, idx t]
theorem blk16 (h : Fin 4) (l : Fin 128) :
    iblk m c 16 t (ix2 0 ⟨h.val * 128 + l.val, by omega⟩) = a4 m c (ix1 l) := by
  rw [← V_hn m c h l]; blk_ext! [iblk, idx t]

/-- The column blocks of the projected rows: the gate, the convolution's two factors, the head norm's gate. -/
theorem blk5 (x y : Fin 512) : X0_5 m c t (ix2 x y) = a0 m c (ix3 0 (rowOf t x) ⟨y.val, by omega⟩) := by
  unfold X0_5 Pipeline.Window.fill
  rw [dif_pos (moved0_5 t _), ← V_p]
  unfold iblk
  refine congrArg (V m c main_v55) ?_
  blk_ext [idx t]
theorem blk6 (x y : Fin 512) : X0_6 m c t (ix2 x y) = a0 m c (ix3 0 (rowOf t x) ⟨512 + y.val, by omega⟩) := by
  unfold X0_6 Pipeline.Window.fill
  rw [dif_pos (moved0_6 t _), ← V_p]
  unfold iblk
  refine congrArg (V m c main_v55) ?_
  blk_ext [idx t]
theorem blk7 (x y : Fin 512) : X0_7 m c t (ix2 x y) = a0 m c (ix3 0 (rowOf t x) ⟨1024 + y.val, by omega⟩) := by
  unfold X0_7 Pipeline.Window.fill
  rw [dif_pos (moved0_7 t _), ← V_p]
  unfold iblk
  refine congrArg (V m c main_v55) ?_
  blk_ext [idx t]
theorem blk8 (x y : Fin 512) : X0_8 m c t (ix2 x y) = a0 m c (ix3 0 (rowOf t x) ⟨2560 + y.val, by omega⟩) := by
  unfold X0_8 Pipeline.Window.fill
  rw [dif_pos (moved0_8 t _), ← V_p]
  unfold iblk
  refine congrArg (V m c main_v55) ?_
  blk_ext [idx t]

/-- The row before a tile, and the row after it. -/
theorem blk9 (ht : t.val ≠ 0) (y : Fin 512) :
    X0_9 m c t (ix2 15 y) = a0 m c (ix3 0 ⟨t.val * 512 - 1, by have := row_lt t 0; omega⟩ ⟨512 + y.val, by omega⟩) := by
  unfold X0_9 Pipeline.Window.fill
  rw [dif_pos (moved0_9 t _), ← V_p]
  unfold iblk
  refine congrArg (V m c main_v55) ?_
  blk_ext [idx t]
theorem blk10 (ht : t.val ≠ 0) (y : Fin 512) :
    X0_10 m c t (ix2 15 y) = a0 m c (ix3 0 ⟨t.val * 512 - 1, by have := row_lt t 0; omega⟩ ⟨1024 + y.val, by omega⟩) := by
  unfold X0_10 Pipeline.Window.fill
  rw [dif_pos (moved0_10 t _), ← V_p]
  unfold iblk
  refine congrArg (V m c main_v55) ?_
  blk_ext [idx t]
theorem blk11 (ht : t.val < 15) (y : Fin 512) :
    X0_11 m c t (ix2 0 y) = a0 m c (ix3 0 ⟨t.val * 512 + 512, by omega⟩ ⟨512 + y.val, by omega⟩) := by
  unfold X0_11 Pipeline.Window.fill
  rw [dif_pos (moved0_11 t _), ← V_p]
  unfold iblk
  refine congrArg (V m c main_v55) ?_
  blk_ext [idx t]
theorem blk12 (ht : t.val < 15) (y : Fin 512) :
    X0_12 m c t (ix2 0 y) = a0 m c (ix3 0 ⟨t.val * 512 + 512, by omega⟩ ⟨1024 + y.val, by omega⟩) := by
  unfold X0_12 Pipeline.Window.fill
  rw [dif_pos (moved0_12 t _), ← V_p]
  unfold iblk
  refine congrArg (V m c main_v55) ?_
  blk_ext [idx t]

end Cert.Mix1Ideal.Final

end
-- ==== Proof.Mix1Pay.lean ====
/- The gradient of the mixer's output side: the kernel's values at an index. -/
module

public import proofs.«01_k».proof.Proof.Mix1Host

@[expose] public section

set_option maxRecDepth 16384

noncomputable section

namespace Cert.Mix1Ideal.Final

open Cert Cert.Mix1Ideal Cert.Mix1Ideal.Gen Idealize.ShloMosaic Idealize.ShloMosaic.TcCoe Idealize.SL.Sem

/-- Column `l` of head `h`. -/
abbrev hcol (h : Fin 4) (l : Fin 128) : Fin 512 := ⟨h.val * 128 + l.val, by omega⟩

theorem pay_dy (v3 v5 : FVec Ideal S512x1024 .f32) (v7 : FVec Ideal S1x1024 .f32) (r : Fin 512) (l : Fin 1024) :
    k0_pay9 (F := Ideal) v3 v5 v7 (ix2 r l)
      = Shared.normK Shared.w1024 (fun k => v3 (ix2 r k)) (fun k => v5 (ix2 r k)) (fun k => v7 (ix2 0 k)) l := by
  pointwise [k0_pay9, k0_pay5, k0_pay6, k0_pay7, k0_pay8, Shared.normK, Shared.meanSq]

theorem pay_dg (v3 v5 : FVec Ideal S512x1024 .f32) (acc : FVec Ideal S1x1024 .f32) (l : Fin 1024) :
    k0_pay10 (F := Ideal) v3 v5 acc (ix2 0 l) = acc (ix2 0 l)
      + ∑ r : Fin 512, v3 (ix2 r l) * (v5 (ix2 r l) * Ideal.rsqrt (Shared.meanSq Shared.w1024 fun k => v5 (ix2 r k))) := by
  pointwise [k0_pay10, k0_pay5, k0_pay6, k0_pay7, k0_pay8, Shared.meanSq]

theorem pay_dw (v34 : FVec Ideal S512x1024 .bf16) (acc : FVec Ideal S1024x1024 .f32) (v41 : FVec Ideal S512x1024 .bf16)
    (i l : Fin 1024) : k0_pay11 (F := Ideal) v34 acc v41 (ix2 i l)
      = acc (ix2 i l) + ∑ r : Fin 512, v41 (ix2 r i) * v34 (ix2 r l) := by
  pointwise [k0_pay11]

theorem pay_left (v34 : FVec Ideal S512x1024 .bf16) (v46 : FVec Ideal S1024x1024 .bf16) (r l : Fin 512) :
    k0_pay13 (F := Ideal) v34 v46 (ix2 r l) = ∑ k : Fin 1024, v34 (ix2 r k) * v46 (ix2 ⟨l.val, by omega⟩ k) := by
  pointwise [k0_pay13, k0_pay12]
theorem pay_right (v34 : FVec Ideal S512x1024 .bf16) (v46 : FVec Ideal S1024x1024 .bf16) (r l : Fin 512) :
    k0_pay14 (F := Ideal) v34 v46 (ix2 r l) = ∑ k : Fin 1024, v34 (ix2 r k) * v46 (ix2 ⟨512 + l.val, by omega⟩ k) := by
  pointwise [k0_pay14, k0_pay12]

/-- The rows before the tile's, with the halo. -/
theorem pay_prev (b0 b15 : BitVec 32) (x9 x10 x11 x12 : FVec Ideal S16x512 .bf16) (x6 x7 : FVec Ideal S512x512 .bf16) (r l : Fin 512) :
    k0_pay20 (F := Ideal) (k0_pay15 b0 x9) (k0_pay16 b0 x11) (k0_pay17 b0 x10) (Scalar.cmpi .eq b0 b15) x12 x6 x7 (ix2 r l)
      = if h : r.val = 0 then (if b0 = 0#32 then 0 else x9 (ix2 15 l) * x10 (ix2 15 l))
        else x6 (ix2 ⟨r.val - 1, by omega⟩ l) * x7 (ix2 ⟨r.val - 1, by omega⟩ l) := by
  pointwise [k0_pay20, k0_pay19, k0_pay18, k0_pay15, k0_pay16, k0_pay17]
  by_cases hr : r.val = 0
  · rw [dif_pos (by omega), dif_pos hr, Shared.select_eq, Shared.select_eq]
    simp only [show 8 + (8 + r.val + 528 - 1) % 528 = 15 by omega]
    split <;> rfl
  · rw [dif_neg (by omega), dif_pos (by omega), dif_neg hr]
    simp only [show (8 + r.val + 528 - 1) % 528 - 8 = r.val - 1 by omega]
theorem pay_next (b0 : BitVec 32) (x9 x10 x11 x12 : FVec Ideal S16x512 .bf16) (x6 x7 : FVec Ideal S512x512 .bf16) (r l : Fin 512) :
    k0_pay21 (F := Ideal) (k0_pay15 b0 x9) (k0_pay16 b0 x11) (k0_pay17 b0 x10) (Scalar.cmpi .eq b0 15#32) x12 x6 x7 (ix2 r l)
      = if h : r.val = 511 then (if b0 = 15#32 then 0 else x11 (ix2 0 l) * x12 (ix2 0 l))
        else x6 (ix2 ⟨r.val + 1, by omega⟩ l) * x7 (ix2 ⟨r.val + 1, by omega⟩ l) := by
  pointwise [k0_pay21, k0_pay19, k0_pay18, k0_pay15, k0_pay16, k0_pay17]
  by_cases hr : r.val = 511
  · rw [dif_neg (by omega), dif_neg (by omega), dif_pos hr, Shared.select_eq, Shared.select_eq]
    simp only [show (8 + r.val + 528 - 527) % 528 - 8 - 512 = 0 by omega]
    split <;> rfl
  · rw [dif_neg (by omega), dif_pos (by omega), dif_neg hr]
    simp only [show (8 + r.val + 528 - 527) % 528 - 8 = r.val + 1 by omega]

/-- Columns of the last two heads, as the concatenations leave them. -/
theorem hcol_zero (l : Fin 128) : hcol 0 l = ⟨l.val, by omega⟩ := Fin.ext (by simp [hcol])
theorem hcol_one (l : Fin 128) : hcol 1 l = ⟨128 + l.val, by omega⟩ := Fin.ext (by simp [hcol])
theorem hcol_two (l : Fin 128) : hcol 2 l = ⟨256 + l.val, by omega⟩ := Fin.ext (by simp [hcol])
theorem hcol_three (l : Fin 128) : hcol 3 l = ⟨384 + l.val, by omega⟩ := Fin.ext (by simp [hcol])
theorem head_cases (h : Fin 4) : h = 0 ∨ h = 1 ∨ h = 2 ∨ h = 3 := by
  revert h; decide
theorem off1 (l : Fin 128) : 128 + l.val - 128 = l.val := by omega
theorem off2 (l : Fin 128) : 256 + l.val - 128 = 128 + l.val := by omega
theorem off3 (l : Fin 128) : 384 + l.val - 128 = 256 + l.val := by omega

theorem pay_o (x13 x14 : FVec Ideal S512x512 .bf16) (r l : Fin 512) :
    k0_pay28 (F := Ideal) x13 x14 (ix2 r l) = x13 (ix2 r l) + x14 (ix2 r l) := by
  pointwise [k0_pay28]

/-- The normed heads. -/
theorem pay_oh (x13 x14 : FVec Ideal S512x512 .bf16) (r : Fin 512) (h : Fin 4) (l : Fin 128) :
    k0_pay38 (F := Ideal) (k0_pay28 x13 x14) (k0_pay29 x13 x14) (k0_pay30 x13 x14) (FloatOps.ofBits .f32 897988541#32) (ix2 r (hcol h l))
      = k0_pay28 (F := Ideal) x13 x14 (ix2 r (hcol h l))
        * Ideal.rsqrt (Shared.meanSq Shared.w128 fun k => k0_pay28 (F := Ideal) x13 x14 (ix2 r (hcol h k))) := by
  generalize ho : k0_pay28 (F := Ideal) x13 x14 = o
  rcases head_cases h with rfl | rfl | rfl | rfl
  · pointwise [k0_pay38, k0_pay37, k0_pay36, k0_pay35, k0_pay34, k0_pay33, k0_pay32, k0_pay31, k0_pay30, k0_pay29, Shared.meanSq, ho]
    simp only [hcol_zero]
  · pointwise [k0_pay38, k0_pay37, k0_pay36, k0_pay35, k0_pay34, k0_pay33, k0_pay32, k0_pay31, k0_pay30, k0_pay29, Shared.meanSq, ho]
    simp only [hcol_one]
  · pointwise [k0_pay38, k0_pay37, k0_pay36, k0_pay35, k0_pay34, k0_pay33, k0_pay32, k0_pay31, k0_pay30, k0_pay29, Shared.meanSq, ho]
    rw [dif_neg (by omega), dif_neg (by omega), dif_pos (by omega)]
    simp only [off1, off2]
    simp only [hcol_two]
  · pointwise [k0_pay38, k0_pay37, k0_pay36, k0_pay35, k0_pay34, k0_pay33, k0_pay32, k0_pay31, k0_pay30, k0_pay29, Shared.meanSq, ho]
    rw [dif_neg (by omega), dif_neg (by omega), dif_neg (by omega)]
    simp only [off1, off2, off3]
    simp only [hcol_three]

/-- The gate's logistic function, and what reaches the normed heads. -/
theorem pay_sig (x8 : FVec Ideal S512x512 .bf16) (i : S512x512.Idx) :
    k0_pay41 (F := Ideal) (k0_pay40 x8) i = Ideal.logistic (x8 i) := by
  rw [← Shared.half_tanh]
  pointwise [k0_pay41, k0_pay40, k0_pay39]
theorem pay_don (v50 : FVec Ideal S512x512 .f32) (x8 : FVec Ideal S512x512 .bf16) (r l : Fin 512) :
    k0_pay43 (F := Ideal) v50 (k0_pay39 x8) (k0_pay40 x8) (ix2 r l)
      = v50 (ix2 r l) * (x8 (ix2 r l) * Ideal.logistic (x8 (ix2 r l))) := by
  rw [← pay_sig]
  pointwise [k0_pay43, k0_pay39]
theorem pay_dgo (v50 oh : FVec Ideal S512x512 .f32) (x8 : FVec Ideal S512x512 .bf16) (v197 : FVec Ideal S1x512 .f32) (r l : Fin 512) :
    k0_pay42 (F := Ideal) v50 oh (k0_pay39 x8) (k0_pay40 x8) v197 (ix2 r l)
      = v50 (ix2 r l) * (oh (ix2 r l) * v197 (ix2 0 l)) * (Ideal.logistic (x8 (ix2 r l))
        * (Ideal.ofBits .f32 0x3F800000#32 + x8 (ix2 r l) * (Ideal.ofBits .f32 0x3F800000#32 - Ideal.logistic (x8 (ix2 r l))))) := by
  rw [← pay_sig]
  pointwise [k0_pay42, k0_pay39]

/-- The heads' gradient of the norm, with the normed heads in the place of the values times the inverse root. -/
theorem pay_do (oh : FVec Ideal S512x512 .f32) (x13 x14 : FVec Ideal S512x512 .bf16) (v50 v188 v193 : FVec Ideal S512x512 .f32)
    (v226 : FVec Ideal S1x512 .f32) (r : Fin 512) (h : Fin 4) (l : Fin 128) :
    k0_pay49 (F := Ideal) (k0_pay31 (k0_pay30 x13 x14) (FloatOps.ofBits .f32 897988541#32)) (k0_pay33 (k0_pay28 x13 x14))
        (k0_pay35 (k0_pay28 x13 x14)) (k0_pay37 (k0_pay28 x13 x14)) oh (k0_pay45 v50 v188 v193 v226) (k0_pay46 v50 v188 v193 v226)
        (k0_pay47 oh) (k0_pay48 v50 oh v188 v193 v226) (ix2 r (hcol h l))
      = Ideal.rsqrt (Shared.meanSq Shared.w128 fun k => k0_pay28 (F := Ideal) x13 x14 (ix2 r (hcol h k)))
        * (k0_pay43 v50 v188 v193 (ix2 r (hcol h l)) * v226 (ix2 0 (hcol h l)) - oh (ix2 r (hcol h l))
          * Ideal.div (∑ k, k0_pay43 v50 v188 v193 (ix2 r (hcol h k)) * v226 (ix2 0 (hcol h k)) * oh (ix2 r (hcol h k))) Shared.w128) := by
  generalize ho : k0_pay28 (F := Ideal) x13 x14 = o
  generalize hd : k0_pay43 (F := Ideal) v50 v188 v193 = don
  rcases head_cases h with rfl | rfl | rfl | rfl
  · pointwise [k0_pay49, k0_pay48, k0_pay47, k0_pay46, k0_pay45, k0_pay37, k0_pay36, k0_pay35, k0_pay34, k0_pay33, k0_pay32, k0_pay31, k0_pay30, k0_pay29, Shared.meanSq, ho]
    simp only [hcol_zero, hd]
  · pointwise [k0_pay49, k0_pay48, k0_pay47, k0_pay46, k0_pay45, k0_pay37, k0_pay36, k0_pay35, k0_pay34, k0_pay33, k0_pay32, k0_pay31, k0_pay30, k0_pay29, Shared.meanSq, ho]
    simp only [hcol_one, hd]
  · pointwise [k0_pay49, k0_pay48, k0_pay47, k0_pay46, k0_pay45, k0_pay37, k0_pay36, k0_pay35, k0_pay34, k0_pay33, k0_pay32, k0_pay31, k0_pay30, k0_pay29, Shared.meanSq, ho]
    rw [dif_neg (by omega), dif_neg (by omega), dif_pos (by omega)]
    simp only [off1, off2]
    simp only [hcol_two, hd]
  · pointwise [k0_pay49, k0_pay48, k0_pay47, k0_pay46, k0_pay45, k0_pay37, k0_pay36, k0_pay35, k0_pay34, k0_pay33, k0_pay32, k0_pay31, k0_pay30, k0_pay29, Shared.meanSq, ho]
    rw [dif_neg (by omega), dif_neg (by omega), dif_neg (by omega)]
    simp only [off1, off2, off3]
    simp only [hcol_three, hd]

theorem pay_dhn (v50 oh v188 v193 : FVec Ideal S512x512 .f32) (acc : FVec Ideal S1x128 .f32) (l : Fin 128) :
    k0_pay44 (F := Ideal) v50 oh v188 v193 acc (ix2 0 l) = acc (ix2 0 l)
      + ∑ h : Fin 4, ∑ r : Fin 512, k0_pay43 (F := Ideal) v50 v188 v193 (ix2 r (hcol h l)) * oh (ix2 r (hcol h l)) := by
  generalize hd : k0_pay43 (F := Ideal) v50 v188 v193 = don
  rw [Fin.sum_univ_four]
  pointwise [k0_pay44, hd]
  simp only [hcol_zero, hcol_one, hcol_two, hcol_three]

/-- What the output projection's gradient adds to the taps. -/
theorem pay_tap0 (v90 v110 : FVec Ideal S512x512 .f32) (acc : FVec Ideal S1x512 .f32) (l : Fin 512) :
    k0_pay25 (F := Ideal) v90 v110 acc (ix2 0 l) = acc (ix2 0 l) + ∑ r : Fin 512, v110 (ix2 r l) * v90 (ix2 r l) := by
  pointwise [k0_pay25]
theorem pay_tap1 (v85 v110 : FVec Ideal S512x512 .f32) (acc : FVec Ideal S1x512 .f32) (l : Fin 512) :
    k0_pay26 (F := Ideal) v85 v110 acc (ix2 0 l) = acc (ix2 0 l) + ∑ r : Fin 512, v110 (ix2 r l) * v85 (ix2 r l) := by
  pointwise [k0_pay26]
theorem pay_tap2 (v92 v110 : FVec Ideal S512x512 .f32) (acc : FVec Ideal S1x512 .f32) (l : Fin 512) :
    k0_pay27 (F := Ideal) v92 v110 acc (ix2 0 l) = acc (ix2 0 l) + ∑ r : Fin 512, v110 (ix2 r l) * v92 (ix2 r l) := by
  pointwise [k0_pay27]
theorem pay_c (x6 x7 : FVec Ideal S512x512 .bf16) (r l : Fin 512) : k0_pay18 (F := Ideal) x6 x7 (ix2 r l) = x6 (ix2 r l) * x7 (ix2 r l) := by
  pointwise [k0_pay18]
theorem pay_dcc (v49 : FVec Ideal S512x512 .f32) (x5 : FVec Ideal S512x512 .bf16) (r l : Fin 512) :
    k0_pay23 (F := Ideal) v49 x5 (ix2 r l) = v49 (ix2 r l) * x5 (ix2 r l) := by
  pointwise [k0_pay23]

end Cert.Mix1Ideal.Final

end
-- ==== Proof.Mix1Ref.lean ====
/- The gradient of the mixer's output side: the derivative's stages at an index. -/
module

public import proofs.«01_k».proof.Proof.Gen.Mix1RefIdeal.Read
public import proofs.«01_k».proof.Proof.Shared

@[expose] public section

set_option maxRecDepth 16384

noncomputable section

namespace Cert.Mix1RefIdeal.At

open Cert Cert.Mix1RefIdeal Idealize.ShloMosaic
open Cert.Mix1RefIdeal.Read

variable (x0 : FVec Ideal S1x8192x3104 .f32) (x1 x2 : FVec Ideal S1x4x8192x128 .f32) (x3 : FVec Ideal S3x512 .f32)
  (x4 : FVec Ideal S128 .f32) (x5 : FVec Ideal S1024x1024 .f32) (x6 : FVec Ideal S1024 .f32) (x7 : FVec Ideal S1x8192x1024 .f32)

/-- Column `l` of head `h`. -/
abbrev hcol (h : Fin 4) (l : Fin 128) : Fin 512 := ⟨h.val * 128 + l.val, by omega⟩

theorem sitofp_zero : FloatOps.sitofp (F := Ideal) .f32 0#32 = (0 : EReal) := by
  show (((0#32 : BitVec 32).toInt : ℝ) : EReal) = 0
  simp

theorem head_div (h : Fin 4) (l : Fin 128) (p) : (⟨(h.val * 128 + l.val) / 128, p⟩ : Fin 4) = h := Fin.ext (by simp only; omega)
theorem head_mod (h : Fin 4) (l : Fin 128) (p) : (⟨(h.val * 128 + l.val) % 128, p⟩ : Fin 128) = l := Fin.ext (by simp only; omega)

/-! ## The convolution -/

theorem c_at (r : Fin 8192) (l : Fin 512) :
    val_main_v20 (F := Ideal) x0 (ix3 0 r l) = x0 (ix3 0 r ⟨512 + l.val, by omega⟩) * x0 (ix3 0 r ⟨1024 + l.val, by omega⟩) := by
  pointwise [val_main_v20, val_main_v11, val_main_v9, val_main_v2, val_main_v1]

theorem left_at (r : Fin 8192) (l : Fin 512) (h : r.val ≠ 0) :
    val_main_v14 (F := Ideal) x0 (ix3 0 r l) = x0 (ix3 0 ⟨r.val - 1, by omega⟩ ⟨512 + l.val, by omega⟩) * x0 (ix3 0 ⟨r.val - 1, by omega⟩ ⟨1024 + l.val, by omega⟩) := by
  pointwise [val_main_v14, val_main_v11, val_main_v9, val_main_v2, val_main_v1]
  rw [dif_neg (by omega), dif_pos (by omega)]
theorem left_zero (r : Fin 8192) (l : Fin 512) (h : r.val = 0) :
    val_main_v14 (F := Ideal) x0 (ix3 0 r l) = 0 := by
  pointwise [val_main_v14, val_main_v11, val_main_v10, val_main_cst]
  rw [dif_pos (by omega)]
theorem right_at (r : Fin 8192) (l : Fin 512) (h : r.val < 8191) :
    val_main_v27 (F := Ideal) x0 (ix3 0 r l) = x0 (ix3 0 ⟨r.val + 1, by omega⟩ ⟨512 + l.val, by omega⟩) * x0 (ix3 0 ⟨r.val + 1, by omega⟩ ⟨1024 + l.val, by omega⟩) := by
  pointwise [val_main_v27, val_main_v11, val_main_v9, val_main_v2, val_main_v1]
  rw [dif_neg (by omega), dif_pos (by omega)]
  simp only [show 2 + r.val - 1 = r.val + 1 by omega]
theorem right_zero (r : Fin 8192) (l : Fin 512) (h : r.val = 8191) :
    val_main_v27 (F := Ideal) x0 (ix3 0 r l) = 0 := by
  pointwise [val_main_v27, val_main_v11, val_main_v10, val_main_cst]
  rw [dif_neg (by omega), dif_neg (by omega)]

theorem conv_at (r : Fin 8192) (l : Fin 512) :
    val_main_v31 (F := Ideal) x0 x3 (ix3 0 r l)
      = x3 (ix2 0 l) * val_main_v14 (F := Ideal) x0 (ix3 0 r l) + x3 (ix2 1 l) * val_main_v20 (F := Ideal) x0 (ix3 0 r l)
        + x3 (ix2 2 l) * val_main_v27 (F := Ideal) x0 (ix3 0 r l) := by
  generalize h14 : val_main_v14 (F := Ideal) x0 = z14
  generalize h20 : val_main_v20 (F := Ideal) x0 = z20
  generalize h27 : val_main_v27 (F := Ideal) x0 = z27
  pointwise [val_main_v31, val_main_v30, val_main_v29, val_main_v28, val_main_v26, val_main_v25, val_main_v24, val_main_v23,
    val_main_v22, val_main_v21, val_main_v19, val_main_v18, val_main_v17, val_main_v16, val_main_v15, val_main_v13, val_main_v12, h14, h20, h27]

/-! ## The gate and the normed heads -/

theorem sig_at (r : Fin 8192) (l : Fin 512) :
    val_main_v34_2 (F := Ideal) x0 (ix3 0 r l) = Ideal.logistic (x0 (ix3 0 r ⟨2560 + l.val, by omega⟩)) := by
  pointwise [val_main_v34_2, val_main_call0_v4, val_main_call0_v3, val_main_call0_v2, val_main_call0_v1, val_main_call0_v0, val_main_call0_cst, val_main_call0_cst_0, val_main_v6, Ideal.logistic]

theorem silu_at (r : Fin 8192) (l : Fin 512) :
    val_main_v34_0 (F := Ideal) x0 (ix3 0 r l)
      = x0 (ix3 0 r ⟨2560 + l.val, by omega⟩) * Ideal.logistic (x0 (ix3 0 r ⟨2560 + l.val, by omega⟩)) := by
  rw [← sig_at]
  generalize hz : val_main_v34_2 (F := Ideal) x0 = z
  pointwise [val_main_v34_0, val_main_v6, hz]

theorem o_at (h : Fin 4) (r : Fin 8192) (l : Fin 128) :
    val_main_v32 (F := Ideal) x1 x2 (ix4 0 h r l) = x1 (ix4 0 h r l) + x2 (ix4 0 h r l) := by
  pointwise [val_main_v32]

/-- The sum of the two directions along a head's row. -/
abbrev oRow (h : Fin 4) (r : Fin 8192) (k : Fin 128) : EReal := x1 (ix4 0 h r k) + x2 (ix4 0 h r k)

theorem oh_at (h : Fin 4) (r : Fin 8192) (l : Fin 128) :
    val_main_v47 (F := Ideal) x1 x2 (ix4 0 h r l)
      = oRow x1 x2 h r l * Ideal.rsqrt (Shared.meanSq Shared.w128 (oRow x1 x2 h r)) := by
  pointwise [val_main_v47, val_main_v46, val_main_v42, val_main_v41, val_main_v40, val_main_v39, val_main_v38, val_main_v37,
    val_main_v36, val_main_v35, val_main_v32, val_main_cst_0, val_main_cst_1, val_main_cst_2, Shared.meanSq]

theorem normed_at (h : Fin 4) (r : Fin 8192) (l : Fin 128) :
    val_main_v52 (F := Ideal) x1 x2 x4 (ix3 0 r (hcol h l)) = val_main_v47 (F := Ideal) x1 x2 (ix4 0 h r l) * x4 (ix1 l) := by
  generalize h47 : val_main_v47 (F := Ideal) x1 x2 = z
  pointwise [val_main_v52, val_main_v51, val_main_v50, val_main_v49, val_main_v48, h47]
  simp only [head_div, head_mod]

/-! ## The outer norm and the projection -/

/-- The rows of the projected mixer. -/
abbrev yRow (r : Fin 8192) (k : Fin 1024) : EReal := val_main_v55 (F := Ideal) x0 x1 x2 x3 x4 x5 (ix3 0 r k)

theorem share_at (r : Fin 8192) :
    val_main_v86 (F := Ideal) x0 x1 x2 x3 x4 x5 x6 x7 (ix1 r)
      = Shared.normShare Shared.w1024 (fun k => x7 (ix3 0 r k)) (yRow x0 x1 x2 x3 x4 x5 r) (fun k => x6 (ix1 k)) := by
  unfold yRow
  pointwise [val_main_v86]
  rw [Shared.hostSum_mid]
  pointwise [val_main_v85, val_main_v84, val_main_v83, val_main_v80, val_main_v79, val_main_v78, val_main_v76, val_main_v75,
    val_main_v69, val_main_v66, val_main_v65, val_main_v64, val_main_v63, val_main_v62, val_main_v61, val_main_v60, val_main_v59,
    val_main_v58, val_main_v57, val_main_v56, val_main_cst_4, val_main_cst_5, val_main_cst_6, val_main_cst_7, val_main_cst_10,
    val_main_cst_11, val_main_cst_12, Shared.normShare, Shared.meanSq]

theorem dy_at (r : Fin 8192) (l : Fin 1024) :
    val_main_v92 (F := Ideal) x0 x1 x2 x3 x4 x5 x6 x7 (ix3 0 r l)
      = Shared.normR Shared.w1024 (fun k => x7 (ix3 0 r k)) (yRow x0 x1 x2 x3 x4 x5 r) (fun k => x6 (ix1 k)) l := by
  unfold yRow
  pointwise [val_main_v92, val_main_v91, val_main_v90, val_main_v89, val_main_v88, val_main_v87, share_at, val_main_v82, val_main_v81,
    val_main_v76, val_main_v75, val_main_v69, val_main_v63, val_main_v62, val_main_v61, val_main_v60, val_main_v59,
    val_main_v58, val_main_v57, val_main_v56, val_main_cst_4, val_main_cst_5, val_main_cst_6, Shared.normR, Shared.meanSq]

theorem dg_at (l : Fin 1024) :
    val_main_v158 (F := Ideal) x0 x1 x2 x3 x4 x5 x7 (ix2 0 l)
      = ∑ r : Fin 8192, yRow x0 x1 x2 x3 x4 x5 r l * Ideal.rsqrt (Shared.meanSq Shared.w1024 (yRow x0 x1 x2 x3 x4 x5 r)) * x7 (ix3 0 r l) := by
  unfold yRow
  pointwise [val_main_v158, val_main_v77]
  rw [Shared.hostSum_last]
  pointwise [val_main_v74, val_main_v73, val_main_v72, val_main_v68, val_main_v67, val_main_v63, val_main_v62, val_main_v61,
    val_main_v60, val_main_v59, val_main_v58, val_main_v57, val_main_v56, val_main_cst_4, val_main_cst_5, val_main_cst_6,
    val_main_cst_8, val_main_cst_9, Shared.meanSq]

theorem dw_at (i l : Fin 1024) :
    val_main_v94 (F := Ideal) x0 x1 x2 x3 x4 x5 x6 x7 (ix2 i l)
      = ∑ r : Fin 8192, val_main_v54 (F := Ideal) x0 x1 x2 x3 x4 (ix3 0 r i) * val_main_v92 (F := Ideal) x0 x1 x2 x3 x4 x5 x6 x7 (ix3 0 r l) := by
  generalize h54 : val_main_v54 (F := Ideal) x0 x1 x2 x3 x4 = z54
  generalize h92 : val_main_v92 (F := Ideal) x0 x1 x2 x3 x4 x5 x6 x7 = z92
  pointwise [val_main_v94, val_main_v93, h54, h92]
  rw [Fin.sum_univ_one]
  exact Finset.sum_congr rfl fun r _ => EReal.mul_comm _ _

theorem dcat_at (r : Fin 8192) (l : Fin 1024) :
    val_main_v95 (F := Ideal) x0 x1 x2 x3 x4 x5 x6 x7 (ix3 0 r l)
      = ∑ k : Fin 1024, val_main_v92 (F := Ideal) x0 x1 x2 x3 x4 x5 x6 x7 (ix3 0 r k) * x5 (ix2 l k) := by
  generalize h92 : val_main_v92 (F := Ideal) x0 x1 x2 x3 x4 x5 x6 x7 = z92
  pointwise [val_main_v95, h92]

/-! ## What the two halves of the projection's gradient give -/

theorem dconv_at (r : Fin 8192) (l : Fin 512) :
    val_main_v124 (F := Ideal) x0 x1 x2 x3 x4 x5 x6 x7 (ix3 0 r l) = x0 (ix3 0 r ⟨l.val, by omega⟩) * val_main_v95 (F := Ideal) x0 x1 x2 x3 x4 x5 x6 x7 (ix3 0 r ⟨l.val, by omega⟩) := by
  generalize h95 : val_main_v95 (F := Ideal) x0 x1 x2 x3 x4 x5 x6 x7 = z95
  pointwise [val_main_v124, val_main_v96, val_main_v0, h95]

theorem out_dgb (r : Fin 8192) (l : Fin 512) :
    val_main_v147 (F := Ideal) x0 x1 x2 x3 x4 x5 x6 x7 (ix2 r l) = val_main_v95 (F := Ideal) x0 x1 x2 x3 x4 x5 x6 x7 (ix3 0 r ⟨l.val, by omega⟩) * val_main_v31 (F := Ideal) x0 x3 (ix3 0 r l) := by
  generalize h95 : val_main_v95 (F := Ideal) x0 x1 x2 x3 x4 x5 x6 x7 = z95
  generalize h31 : val_main_v31 (F := Ideal) x0 x3 = z31
  pointwise [val_main_v147, val_main_v146, val_main_v125, val_main_v96, h95, h31]

theorem out_dcc (r : Fin 8192) (l : Fin 512) :
    val_main_v149 (F := Ideal) x0 x1 x2 x3 x4 x5 x6 x7 (ix2 r l) = val_main_v124 (F := Ideal) x0 x1 x2 x3 x4 x5 x6 x7 (ix3 0 r l) := by
  generalize h124 : val_main_v124 (F := Ideal) x0 x1 x2 x3 x4 x5 x6 x7 = z124
  pointwise [val_main_v149, val_main_v148, h124]

theorem don_at (h : Fin 4) (r : Fin 8192) (l : Fin 128) :
    val_main_v101 (F := Ideal) x0 x1 x2 x3 x4 x5 x6 x7 (ix4 0 h r l)
      = val_main_v34_0 (F := Ideal) x0 (ix3 0 r (hcol h l)) * val_main_v95 (F := Ideal) x0 x1 x2 x3 x4 x5 x6 x7 (ix3 0 r ⟨512 + (hcol h l).val, by have := (hcol h l).isLt; omega⟩) := by
  generalize h95 : val_main_v95 (F := Ideal) x0 x1 x2 x3 x4 x5 x6 x7 = z95
  generalize h34 : val_main_v34_0 (F := Ideal) x0 = z34
  pointwise [val_main_v101, val_main_v100, val_main_v98, val_main_v97, h95, h34]

theorem share_head (h : Fin 4) (r : Fin 8192) :
    val_main_v116 (F := Ideal) x0 x1 x2 x3 x4 x5 x6 x7 (ix2 h r)
      = Shared.normShare Shared.w128 (fun k => val_main_v101 (F := Ideal) x0 x1 x2 x3 x4 x5 x6 x7 (ix4 0 h r k)) (oRow x1 x2 h r) (fun k => x4 (ix1 k)) := by
  generalize h101 : val_main_v101 (F := Ideal) x0 x1 x2 x3 x4 x5 x6 x7 = z101
  pointwise [val_main_v116]
  rw [Shared.hostSum_ends]
  pointwise [val_main_v115, val_main_v114, val_main_v113, val_main_v110, val_main_v109, val_main_v108, val_main_v106, val_main_v105,
    val_main_v48, val_main_v45, val_main_v44, val_main_v43, val_main_v42, val_main_v41, val_main_v40, val_main_v39, val_main_v38,
    val_main_v37, val_main_v36, val_main_v35, val_main_v32, val_main_cst_0, val_main_cst_1, val_main_cst_2, val_main_cst_3,
    val_main_cst_15, val_main_cst_16, val_main_cst_17, Shared.normShare, Shared.meanSq, h101]

theorem out_do (r : Fin 8192) (h : Fin 4) (l : Fin 128) :
    val_main_v154 (F := Ideal) x0 x1 x2 x3 x4 x5 x6 x7 (ix2 r (hcol h l))
      = Shared.normR Shared.w128 (fun k => val_main_v101 (F := Ideal) x0 x1 x2 x3 x4 x5 x6 x7 (ix4 0 h r k)) (oRow x1 x2 h r) (fun k => x4 (ix1 k)) l := by
  have hs := share_head x0 x1 x2 x3 x4 x5 x6 x7
  generalize h101 : val_main_v101 (F := Ideal) x0 x1 x2 x3 x4 x5 x6 x7 = z101 at hs
  generalize h116 : val_main_v116 (F := Ideal) x0 x1 x2 x3 x4 x5 x6 x7 = z116 at hs
  pointwise [val_main_v154, val_main_v153, val_main_v152, val_main_v122, val_main_v121, val_main_v120, val_main_v119, val_main_v118,
    val_main_v117, val_main_v112, val_main_v111, val_main_v106, val_main_v105, val_main_v48, val_main_v42, val_main_v41, val_main_v40,
    val_main_v39, val_main_v38, val_main_v37, val_main_v36, val_main_v35, val_main_v32, val_main_cst_0, val_main_cst_1, val_main_cst_2,
    Shared.normR, Shared.meanSq, h101, h116]
  simp only [head_div, head_mod, hs]

theorem out_dgo (r : Fin 8192) (l : Fin 512) :
    val_main_v151 (F := Ideal) x0 x1 x2 x3 x4 x5 x6 x7 (ix2 r l)
      = val_main_v95 (F := Ideal) x0 x1 x2 x3 x4 x5 x6 x7 (ix3 0 r ⟨512 + l.val, by omega⟩) * val_main_v52 (F := Ideal) x1 x2 x4 (ix3 0 r l)
          * val_main_v34_2 (F := Ideal) x0 (ix3 0 r l)
        + x0 (ix3 0 r ⟨2560 + l.val, by omega⟩) * (val_main_v95 (F := Ideal) x0 x1 x2 x3 x4 x5 x6 x7 (ix3 0 r ⟨512 + l.val, by omega⟩)
          * val_main_v52 (F := Ideal) x1 x2 x4 (ix3 0 r l))
          * (val_main_v34_2 (F := Ideal) x0 (ix3 0 r l) * (Ideal.ofBits .f32 0x3F800000#32 - val_main_v34_2 (F := Ideal) x0 (ix3 0 r l))) := by
  generalize h95 : val_main_v95 (F := Ideal) x0 x1 x2 x3 x4 x5 x6 x7 = z95
  generalize h52 : val_main_v52 (F := Ideal) x1 x2 x4 = z52
  generalize h34 : val_main_v34_2 (F := Ideal) x0 = z34
  pointwise [val_main_v151, val_main_v150, val_main_v123, val_main_call1_v1, val_main_call1_v2, val_main_call1_v0, val_main_v34_1,
    val_main_v99, val_main_v97, val_main_v6, val_main_call0_v7, val_main_call0_v6, val_main_call0_cst_1, h95, h52, h34]

theorem dhn_at (l : Fin 128) :
    val_main_v107 (F := Ideal) x0 x1 x2 x3 x4 x5 x6 x7 (ix1 l)
      = ∑ h : Fin 4, ∑ r : Fin 8192, val_main_v47 (F := Ideal) x1 x2 (ix4 0 h r l) * val_main_v101 (F := Ideal) x0 x1 x2 x3 x4 x5 x6 x7 (ix4 0 h r l) := by
  generalize h101 : val_main_v101 (F := Ideal) x0 x1 x2 x3 x4 x5 x6 x7 = z101
  generalize h47 : val_main_v47 (F := Ideal) x1 x2 = z47
  pointwise [val_main_v107]
  rw [Shared.hostSum_last4]
  pointwise [val_main_v104, val_main_v103]
  rw [Shared.hostSum_two]
  pointwise [val_main_v102, h101, h47, val_main_cst_13, val_main_cst_14]

theorem out_dhn (l : Fin 128) : val_main_v157 (F := Ideal) x0 x1 x2 x3 x4 x5 x6 x7 (ix2 0 l) = val_main_v107 (F := Ideal) x0 x1 x2 x3 x4 x5 x6 x7 (ix1 l) := by
  generalize h107 : val_main_v107 (F := Ideal) x0 x1 x2 x3 x4 x5 x6 x7 = z107
  pointwise [val_main_v157, val_main_v156, h107]
theorem out_dhn_pad (i : Fin 8) (hi : i.val ≠ 0) (l : Fin 128) : val_main_v157 (F := Ideal) x0 x1 x2 x3 x4 x5 x6 x7 (ix2 i l) = 0 := by
  generalize h107 : val_main_v107 (F := Ideal) x0 x1 x2 x3 x4 x5 x6 x7 = z107
  pointwise [val_main_v157, val_main_v156, val_main_call3_v0, val_main_c_27, h107]
  rw [dif_neg (by omega)]
  exact sitofp_zero

theorem tap2_at (l : Fin 512) :
    val_main_v129 (F := Ideal) x0 x1 x2 x3 x4 x5 x6 x7 (ix1 l) = ∑ r : Fin 8192, val_main_v124 (F := Ideal) x0 x1 x2 x3 x4 x5 x6 x7 (ix3 0 r l) * val_main_v27 (F := Ideal) x0 (ix3 0 r l) := by
  generalize h124 : val_main_v124 (F := Ideal) x0 x1 x2 x3 x4 x5 x6 x7 = z124
  generalize h27 : val_main_v27 (F := Ideal) x0 = z27
  pointwise [val_main_v129]
  rw [Shared.hostSum_last]
  pointwise [val_main_v128, val_main_v127, val_main_v126, val_main_cst_18, val_main_cst_19, h124, h27]
theorem tap1_at (l : Fin 512) :
    val_main_v135 (F := Ideal) x0 x1 x2 x3 x4 x5 x6 x7 (ix1 l) = ∑ r : Fin 8192, val_main_v124 (F := Ideal) x0 x1 x2 x3 x4 x5 x6 x7 (ix3 0 r l) * val_main_v20 (F := Ideal) x0 (ix3 0 r l) := by
  generalize h124 : val_main_v124 (F := Ideal) x0 x1 x2 x3 x4 x5 x6 x7 = z124
  generalize h20 : val_main_v20 (F := Ideal) x0 = z20
  pointwise [val_main_v135]
  rw [Shared.hostSum_last]
  pointwise [val_main_v134, val_main_v133, val_main_v132, val_main_cst_21, val_main_cst_22, h124, h20]
theorem tap0_at (l : Fin 512) :
    val_main_v142 (F := Ideal) x0 x1 x2 x3 x4 x5 x6 x7 (ix1 l) = ∑ r : Fin 8192, val_main_v124 (F := Ideal) x0 x1 x2 x3 x4 x5 x6 x7 (ix3 0 r l) * val_main_v14 (F := Ideal) x0 (ix3 0 r l) := by
  generalize h124 : val_main_v124 (F := Ideal) x0 x1 x2 x3 x4 x5 x6 x7 = z124
  generalize h14 : val_main_v14 (F := Ideal) x0 = z14
  pointwise [val_main_v142]
  rw [Shared.hostSum_last]
  pointwise [val_main_v141, val_main_v140, val_main_v139, val_main_cst_24, val_main_cst_25, h124, h14]

theorem out_taps (i : Fin 8) (l : Fin 512) :
    val_main_v155 (F := Ideal) x0 x1 x2 x3 x4 x5 x6 x7 (ix2 i l)
      = if i.val = 0 then val_main_v142 (F := Ideal) x0 x1 x2 x3 x4 x5 x6 x7 (ix1 l) else if i.val = 1 then val_main_v135 (F := Ideal) x0 x1 x2 x3 x4 x5 x6 x7 (ix1 l)
        else if i.val = 2 then val_main_v129 (F := Ideal) x0 x1 x2 x3 x4 x5 x6 x7 (ix1 l) else 0 := by
  generalize h142 : val_main_v142 (F := Ideal) x0 x1 x2 x3 x4 x5 x6 x7 = z142
  generalize h135 : val_main_v135 (F := Ideal) x0 x1 x2 x3 x4 x5 x6 x7 = z135
  generalize h129 : val_main_v129 (F := Ideal) x0 x1 x2 x3 x4 x5 x6 x7 = z129
  pointwise [val_main_v155, val_main_v145, val_main_v144, val_main_v143, val_main_v138, val_main_v137, val_main_v136, val_main_v131,
    val_main_v130, val_main_cst_20, val_main_cst_23, val_main_cst_26, val_main_call2_v0, val_main_c, h142, h135, h129]
  match i with
  | ⟨0, _⟩ => simp
  | ⟨1, _⟩ => simp
  | ⟨2, _⟩ => simp
  | ⟨n + 3, h⟩ => rw [dif_neg (by simp only; omega), if_neg (by simp only; omega), if_neg (by simp only; omega), if_neg (by simp only; omega)]; exact sitofp_zero

end Cert.Mix1RefIdeal.At

end
-- ==== Proof.Rows.lean ====
/- Buffers written one row at a time: what a row reads. -/
module

public import Idealize.ShloMosaic.Lib.Pipeline.ValueKit
public import Idealize.ShloMosaic.Lib.WritesUnit

@[expose] public section

noncomputable section

namespace Cert.Rows

open Idealize.ShloMosaic

variable {m n : ℕ} {Val : EltTy → Type} [∀ e, Nonempty (Val e)] {sig : RefSig} {κ : Kind} {sp : Space} {e : EltTy}

theorem emb_row (o : ℕ) (h : o < m) (inb : ∀ a, (![o, 0] : Fin 2 → ℕ) a + (![1, n] : Fin 2 → ℕ) a ≤ (⟨2, ![m, n]⟩ : Shape).size a) (l : Fin n) :
    (Rect.unit (s := ⟨2, ![m, n]⟩) ![o, 0] ![1, n] inb).emb (ix2 (0 : Fin 1) l) = ix2 ⟨o, h⟩ l := by
  funext a
  match a with
  | ⟨0, _⟩ => exact Fin.ext (by show o + 1 * 0 = o; omega)
  | ⟨1, _⟩ => exact Fin.ext (by show 0 + 1 * l.val = l.val; omega)

theorem not_mem_row (o : ℕ) (inb : ∀ a, (![o, 0] : Fin 2 → ℕ) a + (![1, n] : Fin 2 → ℕ) a ≤ (⟨2, ![m, n]⟩ : Shape).size a) (i : Fin m) (l : Fin n)
    (h : i.val ≠ o) : (ix2 i l : (⟨2, ![m, n]⟩ : Shape).Idx) ∉ (Rect.unit (s := ⟨2, ![m, n]⟩) ![o, 0] ![1, n] inb).set := by
  rw [Rect.mem_set_unit]
  intro hall
  have := hall 0
  change o ≤ i.val ∧ i.val < o + 1 at this
  omega

/-- A row under the newest piece, and a row beside it, in what a list of pieces leaves. -/
theorem canon_hit (o : ℕ) (inb) (x : (⟨2, ![1, n]⟩ : Shape).Idx → Val e) (L : List (View.Piece Val (⟨2, ![m, n]⟩ : Shape) e)) (i : Fin m)
    (l : Fin n) (h : i.val = o) :
    View.canon ((⟨Rect.unit (s := ⟨2, ![m, n]⟩) ![o, 0] ![1, n] inb, x⟩ : View.Piece Val (⟨2, ![m, n]⟩ : Shape) e) :: L) (ix2 i l) = x (ix2 0 l) := by
  subst h
  exact (congrArg (View.canon _) (emb_row i.val i.isLt inb l).symm).trans (View.canon_cons_emb (Rect.unit (s := ⟨2, ![m, n]⟩) ![i.val, 0] ![1, n] inb) x L (ix2 (0 : Fin 1) l))

theorem canon_miss (o : ℕ) (inb) (x : (⟨2, ![1, n]⟩ : Shape).Idx → Val e) (L : List (View.Piece Val (⟨2, ![m, n]⟩ : Shape) e)) (i : Fin m)
    (l : Fin n) (h : i.val ≠ o) :
    View.canon ((⟨Rect.unit (s := ⟨2, ![m, n]⟩) ![o, 0] ![1, n] inb, x⟩ : View.Piece Val (⟨2, ![m, n]⟩ : Shape) e) :: L) (ix2 i l) = View.canon L (ix2 i l) :=
  View.canon_cons_of_not_mem _ L (not_mem_row o inb i l h)

/-- A row read back from the pieces. -/
theorem readCov_row (v : View sig κ sp (⟨2, ![m, n]⟩ : Shape) e) (o : ℕ) (h : o < m) (inb) (L : List (View.Piece Val (⟨2, ![m, n]⟩ : Shape) e)) (l : Fin n) :
    v.readCov L (Rect.unit (s := ⟨2, ![m, n]⟩) ![o, 0] ![1, n] inb).toLoadRect (ix2 (0 : Fin 1) l) = View.canon L (ix2 ⟨o, h⟩ l) := by
  rw [View.readCov_eq_canon']
  exact congrArg (View.canon L) (emb_row o h inb l)

theorem ld_row (x : (⟨2, ![m, n]⟩ : Shape).Idx → Val e) (o : ℕ) (h : o < m) (inb) (l : Fin n) :
    View.ld x (Rect.unit (s := ⟨2, ![m, n]⟩) ![o, 0] ![1, n] inb) (ix2 (0 : Fin 1) l) = x (ix2 ⟨o, h⟩ l) :=
  congrArg x (emb_row o h inb l)

/-- The same rows in a view written over known contents. -/
theorem read_hit (v : View sig κ sp (⟨2, ![m, n]⟩ : Shape) e) (f : v.ty.Contents Val) (o : ℕ) (inb) (x : (⟨2, ![1, n]⟩ : Shape).Idx → Val e)
    (L : List (View.Piece Val (⟨2, ![m, n]⟩ : Shape) e)) (i : Fin m) (l : Fin n) (h : i.val = o) :
    v.read Val (v.writes Val f ((⟨Rect.unit (s := ⟨2, ![m, n]⟩) ![o, 0] ![1, n] inb, x⟩ : View.Piece Val (⟨2, ![m, n]⟩ : Shape) e) :: L)) (ix2 i l)
      = x (ix2 0 l) :=
  View.read_writes_cons_rows_of_mem v f inb x L (ix2 i l) (ix2 (0 : Fin 1) l) rfl h rfl

theorem read_miss (v : View sig κ sp (⟨2, ![m, n]⟩ : Shape) e) (f : v.ty.Contents Val) (o : ℕ) (inb) (x : (⟨2, ![1, n]⟩ : Shape).Idx → Val e)
    (L : List (View.Piece Val (⟨2, ![m, n]⟩ : Shape) e)) (i : Fin m) (l : Fin n) (h : i.val ≠ o) :
    v.read Val (v.writes Val f ((⟨Rect.unit (s := ⟨2, ![m, n]⟩) ![o, 0] ![1, n] inb, x⟩ : View.Piece Val (⟨2, ![m, n]⟩ : Shape) e) :: L)) (ix2 i l)
      = v.read Val (v.writes Val f L) (ix2 i l) :=
  View.read_writes_cons_rows_of_not_mem v f inb x L (ix2 i l) (W := 1) rfl rfl (by
    show i.val < o ∨ o + 1 ≤ i.val
    omega)

/-! ## An accumulator of three rows, and of one -/

section Acc

theorem canon_whole (bw) (z : (⟨2, ![m, n]⟩ : Shape).Idx → Elt Ideal .f32) :
    View.canon [(⟨Rect.unit (s := ⟨2, ![m, n]⟩) ![0, 0] ![m, n] bw, z⟩ : View.Piece (Elt Ideal) (⟨2, ![m, n]⟩ : Shape) .f32)] = z :=
  View.canon_cons_unit_lit' (Val := Elt Ideal) (S := ⟨2, ![m, n]⟩) (e := .f32) (off := ![0, 0]) bw z [] (by
    intro a
    match a with
    | ⟨0, _⟩ => rfl
    | ⟨1, _⟩ => rfl)

variable {c : Kind} {w : Space} (v : View sig c w (⟨2, ![m, n]⟩ : Shape) .f32)

abbrev Row (n : ℕ) := (⟨2, ![1, n]⟩ : Shape).Idx → EReal

/-- What the rows add. -/
abbrev three (q0 q1 q2 : Fin n → EReal) (i : Fin m) (l : Fin n) : EReal :=
  if i.val = 0 then q0 l else if i.val = 1 then q1 l else if i.val = 2 then q2 l else 0

theorem three_reset (z : (⟨2, ![m, n]⟩ : Shape).Idx → EReal) (hz : ∀ x, z x = 0) (F0 F1 F2 : Row n → Row n) (q0 q1 q2 : Fin n → EReal)
    (h0 : ∀ a l, F0 a (ix2 0 l) = a (ix2 0 l) + q0 l) (h1 : ∀ a l, F1 a (ix2 0 l) = a (ix2 0 l) + q1 l)
    (h2 : ∀ a l, F2 a (ix2 0 l) = a (ix2 0 l) + q2 l) (b0 b1 b2 bw) (i : Fin m) (l : Fin n) :
    View.canon (Val := Elt Ideal) [(⟨Rect.unit (s := ⟨2, ![m, n]⟩) ![2, 0] ![1, n] b2, F2 (v.readCov
          [(⟨Rect.unit (s := ⟨2, ![m, n]⟩) ![1, 0] ![1, n] b1, F1 (v.readCov
            [(⟨Rect.unit (s := ⟨2, ![m, n]⟩) ![0, 0] ![1, n] b0, F0 (v.readCov [(⟨Rect.unit (s := ⟨2, ![m, n]⟩) ![0, 0] ![m, n] bw, z⟩ : View.Piece (Elt Ideal) (⟨2, ![m, n]⟩ : Shape) .f32)]
              (Rect.unit (s := ⟨2, ![m, n]⟩) ![0, 0] ![1, n] b0).toLoadRect)⟩ : View.Piece (Elt Ideal) (⟨2, ![m, n]⟩ : Shape) .f32), ⟨Rect.unit (s := ⟨2, ![m, n]⟩) ![0, 0] ![m, n] bw, z⟩]
            (Rect.unit (s := ⟨2, ![m, n]⟩) ![1, 0] ![1, n] b1).toLoadRect)⟩ : View.Piece (Elt Ideal) (⟨2, ![m, n]⟩ : Shape) .f32),
          ⟨Rect.unit (s := ⟨2, ![m, n]⟩) ![0, 0] ![1, n] b0, F0 (v.readCov [(⟨Rect.unit (s := ⟨2, ![m, n]⟩) ![0, 0] ![m, n] bw, z⟩ : View.Piece (Elt Ideal) (⟨2, ![m, n]⟩ : Shape) .f32)]
              (Rect.unit (s := ⟨2, ![m, n]⟩) ![0, 0] ![1, n] b0).toLoadRect)⟩, ⟨Rect.unit (s := ⟨2, ![m, n]⟩) ![0, 0] ![m, n] bw, z⟩]
          (Rect.unit (s := ⟨2, ![m, n]⟩) ![2, 0] ![1, n] b2).toLoadRect)⟩ : View.Piece (Elt Ideal) (⟨2, ![m, n]⟩ : Shape) .f32),
        ⟨Rect.unit (s := ⟨2, ![m, n]⟩) ![1, 0] ![1, n] b1, F1 (v.readCov
            [(⟨Rect.unit (s := ⟨2, ![m, n]⟩) ![0, 0] ![1, n] b0, F0 (v.readCov [(⟨Rect.unit (s := ⟨2, ![m, n]⟩) ![0, 0] ![m, n] bw, z⟩ : View.Piece (Elt Ideal) (⟨2, ![m, n]⟩ : Shape) .f32)]
              (Rect.unit (s := ⟨2, ![m, n]⟩) ![0, 0] ![1, n] b0).toLoadRect)⟩ : View.Piece (Elt Ideal) (⟨2, ![m, n]⟩ : Shape) .f32), ⟨Rect.unit (s := ⟨2, ![m, n]⟩) ![0, 0] ![m, n] bw, z⟩]
            (Rect.unit (s := ⟨2, ![m, n]⟩) ![1, 0] ![1, n] b1).toLoadRect)⟩,
        ⟨Rect.unit (s := ⟨2, ![m, n]⟩) ![0, 0] ![1, n] b0, F0 (v.readCov [(⟨Rect.unit (s := ⟨2, ![m, n]⟩) ![0, 0] ![m, n] bw, z⟩ : View.Piece (Elt Ideal) (⟨2, ![m, n]⟩ : Shape) .f32)]
              (Rect.unit (s := ⟨2, ![m, n]⟩) ![0, 0] ![1, n] b0).toLoadRect)⟩,
        ⟨Rect.unit (s := ⟨2, ![m, n]⟩) ![0, 0] ![m, n] bw, z⟩] (ix2 i l)
      = three q0 q1 q2 i l := by
  have hw : View.canon (Val := Elt Ideal) [(⟨Rect.unit (s := ⟨2, ![m, n]⟩) ![0, 0] ![m, n] bw, z⟩ : View.Piece (Elt Ideal) (⟨2, ![m, n]⟩ : Shape) .f32)] = z :=
    canon_whole bw z
  have hm : 2 < m := by have := b2 0; change 2 + 1 ≤ m at this; omega
  unfold three
  by_cases e2 : i.val = 2
  · rw [canon_hit 2 b2 _ _ i l e2, h2, readCov_row v 2 hm, canon_miss 1 b1 _ _ _ _ (by simp), canon_miss 0 b0 _ _ _ _ (by simp), hw,
      hz, zero_add, if_neg (by omega), if_neg (by omega), if_pos e2]
  rw [canon_miss 2 b2 _ _ i l e2]
  by_cases e1 : i.val = 1
  · rw [canon_hit 1 b1 _ _ i l e1, h1, readCov_row v 1 (by omega), canon_miss 0 b0 _ _ _ _ (by simp), hw, hz, zero_add,
      if_neg (by omega), if_pos e1]
  rw [canon_miss 1 b1 _ _ i l e1]
  by_cases e0 : i.val = 0
  · rw [canon_hit 0 b0 _ _ i l e0, h0, readCov_row v 0 (by omega), hw, hz, zero_add, if_pos e0]
  rw [canon_miss 0 b0 _ _ i l e0, hw, hz, if_neg e0, if_neg e1, if_neg e2]

theorem three_step (f : v.ty.Contents (Elt Ideal)) (p : (⟨2, ![m, n]⟩ : Shape).Idx → EReal) (hf : v.read (Elt Ideal) f = p)
    (F0 F1 F2 : Row n → Row n) (q0 q1 q2 : Fin n → EReal)
    (h0 : ∀ a l, F0 a (ix2 0 l) = a (ix2 0 l) + q0 l) (h1 : ∀ a l, F1 a (ix2 0 l) = a (ix2 0 l) + q1 l)
    (h2 : ∀ a l, F2 a (ix2 0 l) = a (ix2 0 l) + q2 l) (b0 b1 b2) (i : Fin m) (l : Fin n) :
    v.read (Elt Ideal) (v.writes (Elt Ideal) f
        [(⟨Rect.unit (s := ⟨2, ![m, n]⟩) ![2, 0] ![1, n] b2, F2 (View.ld (Val := Elt Ideal) (e' := .f32) p (Rect.unit (s := ⟨2, ![m, n]⟩) ![2, 0] ![1, n] b2))⟩ : View.Piece (Elt Ideal) (⟨2, ![m, n]⟩ : Shape) .f32),
          ⟨Rect.unit (s := ⟨2, ![m, n]⟩) ![1, 0] ![1, n] b1, F1 (View.ld (Val := Elt Ideal) (e' := .f32) p (Rect.unit (s := ⟨2, ![m, n]⟩) ![1, 0] ![1, n] b1))⟩,
          ⟨Rect.unit (s := ⟨2, ![m, n]⟩) ![0, 0] ![1, n] b0, F0 (View.ld (Val := Elt Ideal) (e' := .f32) p (Rect.unit (s := ⟨2, ![m, n]⟩) ![0, 0] ![1, n] b0))⟩]) (ix2 i l)
      = p (ix2 i l) + three q0 q1 q2 i l := by
  have hm : 2 < m := by have := b2 0; change 2 + 1 ≤ m at this; omega
  unfold three
  by_cases e2 : i.val = 2
  · rw [read_hit v f 2 b2 _ _ i l e2, h2, ld_row (Val := Elt Ideal) (e := .f32) p 2 hm, if_neg (by omega), if_neg (by omega), if_pos e2]
    simp only [← e2]
  rw [read_miss v f 2 b2 _ _ i l e2]
  by_cases e1 : i.val = 1
  · rw [read_hit v f 1 b1 _ _ i l e1, h1, ld_row (Val := Elt Ideal) (e := .f32) p 1 (by omega), if_neg (by omega), if_pos e1]
    simp only [← e1]
  rw [read_miss v f 1 b1 _ _ i l e1]
  by_cases e0 : i.val = 0
  · rw [read_hit v f 0 b0 _ _ i l e0, h0, ld_row (Val := Elt Ideal) (e := .f32) p 0 (by omega), if_pos e0]
    simp only [← e0]
  rw [read_miss v f 0 b0 _ _ i l e0, if_neg e0, if_neg e1, if_neg e2, add_zero]
  exact congrFun hf _

theorem one_reset (z : (⟨2, ![m, n]⟩ : Shape).Idx → EReal) (hz : ∀ x, z x = 0) (F0 : Row n → Row n) (q0 : Fin n → EReal)
    (h0 : ∀ a l, F0 a (ix2 0 l) = a (ix2 0 l) + q0 l) (b0 bw) (i : Fin m) (l : Fin n) :
    View.canon (Val := Elt Ideal) [(⟨Rect.unit (s := ⟨2, ![m, n]⟩) ![0, 0] ![1, n] b0, F0 (v.readCov [(⟨Rect.unit (s := ⟨2, ![m, n]⟩) ![0, 0] ![m, n] bw, z⟩ : View.Piece (Elt Ideal) (⟨2, ![m, n]⟩ : Shape) .f32)]
              (Rect.unit (s := ⟨2, ![m, n]⟩) ![0, 0] ![1, n] b0).toLoadRect)⟩ : View.Piece (Elt Ideal) (⟨2, ![m, n]⟩ : Shape) .f32),
        ⟨Rect.unit (s := ⟨2, ![m, n]⟩) ![0, 0] ![m, n] bw, z⟩] (ix2 i l)
      = if i.val = 0 then q0 l else 0 := by
  have hw : View.canon (Val := Elt Ideal) [(⟨Rect.unit (s := ⟨2, ![m, n]⟩) ![0, 0] ![m, n] bw, z⟩ : View.Piece (Elt Ideal) (⟨2, ![m, n]⟩ : Shape) .f32)] = z :=
    canon_whole bw z
  have hm : 0 < m := by have := b0 0; change 0 + 1 ≤ m at this; omega
  by_cases e0 : i.val = 0
  · rw [canon_hit 0 b0 _ _ i l e0, h0, readCov_row v 0 hm, hw, hz, zero_add, if_pos e0]
  rw [canon_miss 0 b0 _ _ i l e0, hw, hz, if_neg e0]

theorem one_step (f : v.ty.Contents (Elt Ideal)) (p : (⟨2, ![m, n]⟩ : Shape).Idx → EReal) (hf : v.read (Elt Ideal) f = p)
    (F0 : Row n → Row n) (q0 : Fin n → EReal) (h0 : ∀ a l, F0 a (ix2 0 l) = a (ix2 0 l) + q0 l) (b0) (i : Fin m) (l : Fin n) :
    v.read (Elt Ideal) (v.writes (Elt Ideal) f
        [(⟨Rect.unit (s := ⟨2, ![m, n]⟩) ![0, 0] ![1, n] b0, F0 (View.ld (Val := Elt Ideal) (e' := .f32) p (Rect.unit (s := ⟨2, ![m, n]⟩) ![0, 0] ![1, n] b0))⟩ : View.Piece (Elt Ideal) (⟨2, ![m, n]⟩ : Shape) .f32)]) (ix2 i l)
      = p (ix2 i l) + if i.val = 0 then q0 l else 0 := by
  have hm : 0 < m := by have := b0 0; change 0 + 1 ≤ m at this; omega
  by_cases e0 : i.val = 0
  · rw [read_hit v f 0 b0 _ _ i l e0, h0, ld_row (Val := Elt Ideal) (e := .f32) p 0 hm, if_pos e0]
    simp only [← e0]
  rw [read_miss v f 0 b0 _ _ i l e0, if_neg e0, add_zero]
  exact congrFun hf _

end Acc

end Cert.Rows

end
-- ==== Proof.Mix1Tile.lean ====
/- The gradient of the mixer's output side: a tile's values are the derivative's at the tile's rows. -/
module

public import proofs.«01_k».proof.Proof.Mix1Host
public import proofs.«01_k».proof.Proof.Mix1Pay
public import proofs.«01_k».proof.Proof.Mix1Ref
public import proofs.«01_k».proof.Proof.Rows

@[expose] public section

set_option maxRecDepth 16384

noncomputable section

namespace Cert.Mix1Ideal.Final

open Cert Cert.Mix1Ideal Cert.Mix1Ideal.Gen Cert.Mix1Ideal.Run Idealize.ShloMosaic Idealize.ShloMosaic.TcCoe Idealize.SL.Sem
open Idealize.ShloMosaic.Pipeline (Dat)
open Cert.Mix1RefIdeal.Read Cert.Mix1RefIdeal.At

variable (m : (ℓ : Loc nD τ sig) → Buf (Elt Ideal) ℓ)

/-- The derivative's stages at the kernel's arguments. -/
abbrev r14 (c : Dev nD) := val_main_v14 (F := Ideal) (a0 m c)
abbrev r20 (c : Dev nD) := val_main_v20 (F := Ideal) (a0 m c)
abbrev r27 (c : Dev nD) := val_main_v27 (F := Ideal) (a0 m c)
abbrev r47 (c : Dev nD) := val_main_v47 (F := Ideal) (a1 m c) (a2 m c)
abbrev r92 (c : Dev nD) := val_main_v92 (F := Ideal) (a0 m c) (a1 m c) (a2 m c) (a3 m c) (a4 m c) (a5 m c) (a6 m c) (a7 m c)
abbrev r95 (c : Dev nD) := val_main_v95 (F := Ideal) (a0 m c) (a1 m c) (a2 m c) (a3 m c) (a4 m c) (a5 m c) (a6 m c) (a7 m c)
abbrev r101 (c : Dev nD) := val_main_v101 (F := Ideal) (a0 m c) (a1 m c) (a2 m c) (a3 m c) (a4 m c) (a5 m c) (a6 m c) (a7 m c)
abbrev r124 (c : Dev nD) := val_main_v124 (F := Ideal) (a0 m c) (a1 m c) (a2 m c) (a3 m c) (a4 m c) (a5 m c) (a6 m c) (a7 m c)

/-- The grid point as the kernel's word. -/
abbrev pid (t : Fin cfg0.N) : BitVec 32 := BitVec.ofNat 32 ↑(grid0.coords t 0)
theorem pid_zero : ∀ t : Fin cfg0.N, pid t = 0#32 ↔ t.val = 0 := (by decide +kernel : ∀ t : Fin grid0.N, _)
theorem pid_last : ∀ t : Fin cfg0.N, pid t = 15#32 ↔ t.val = 15 := (by decide +kernel : ∀ t : Fin grid0.N, _)

variable (c : Dev nD) (t : Fin cfg0.N)

/-- The tile's values as the kernel names them. -/
abbrev tDy := k0_pay9 (F := Ideal) (iblk m c 0 t) (iblk m c 1 t) (iblk m c 2 t)
abbrev tL := k0_pay13 (F := Ideal) (tDy m c t) (iblk m c 4 t)
abbrev tR := k0_pay14 (F := Ideal) (tDy m c t) (iblk m c 4 t)
abbrev tPrev := k0_pay20 (F := Ideal) (k0_pay15 (pid t) (X0_9 m c t)) (k0_pay16 (pid t) (X0_11 m c t))
  (k0_pay17 (pid t) (X0_10 m c t)) (Scalar.cmpi CmpIPredicate.eq (pid t) 15#32) (X0_12 m c t) (X0_6 m c t) (X0_7 m c t)
abbrev tNext := k0_pay21 (F := Ideal) (k0_pay15 (pid t) (X0_9 m c t)) (k0_pay16 (pid t) (X0_11 m c t))
  (k0_pay17 (pid t) (X0_10 m c t)) (Scalar.cmpi CmpIPredicate.eq (pid t) 15#32) (X0_12 m c t) (X0_6 m c t) (X0_7 m c t)
abbrev tC := k0_pay18 (F := Ideal) (X0_6 m c t) (X0_7 m c t)
abbrev tDcc := k0_pay23 (F := Ideal) (tL m c t) (X0_5 m c t)
abbrev tO := k0_pay28 (F := Ideal) (iblk m c 13 t) (iblk m c 14 t)
abbrev tOh := k0_pay38 (F := Ideal) (tO m c t) (k0_pay29 (iblk m c 13 t) (iblk m c 14 t))
  (k0_pay30 (iblk m c 13 t) (iblk m c 14 t)) (FloatOps.ofBits FTy.f32 897988541#32)
abbrev tDon := k0_pay43 (F := Ideal) (tR m c t) (k0_pay39 (X0_8 m c t)) (k0_pay40 (X0_8 m c t))

theorem tDy_at (r : Fin 512) (l : Fin 1024) : tDy m c t (ix2 r l) = r92 m c (ix3 0 (rowOf t r) l) := by
  refine (pay_dy _ _ _ r l).trans ((Shared.normK_eq _ Shared.w1024_pos _ _ _ _).trans (Eq.trans ?_ (dy_at _ _ _ _ _ _ _ _ _ _).symm))
  rw [show (fun k => iblk m c 0 t (ix2 r k)) = _ from funext fun k => blk0 m c t r k,
    show (fun k => iblk m c 1 t (ix2 r k)) = _ from funext fun k => blk1 m c t r k,
    show (fun k => iblk m c 2 t (ix2 0 k)) = _ from funext fun k => blk2 m c t k]

theorem tL_at (r l : Fin 512) :
    tL m c t (ix2 r l) = r95 m c (ix3 0 (rowOf t r) ⟨l.val, by omega⟩) := by
  refine (pay_left _ _ r l).trans (Eq.trans ?_ (dcat_at _ _ _ _ _ _ _ _ _ _).symm)
  exact Finset.sum_congr rfl fun k _ => congrArg₂ (· * ·) (tDy_at m c t r k) (blk4 m c t _ k)
theorem tR_at (r l : Fin 512) :
    tR m c t (ix2 r l) = r95 m c (ix3 0 (rowOf t r) ⟨512 + l.val, by omega⟩) := by
  refine (pay_right _ _ r l).trans (Eq.trans ?_ (dcat_at _ _ _ _ _ _ _ _ _ _).symm)
  exact Finset.sum_congr rfl fun k _ => congrArg₂ (· * ·) (tDy_at m c t r k) (blk4 m c t _ k)

theorem tC_at (r l : Fin 512) : tC m c t (ix2 r l) = r20 m c (ix3 0 (rowOf t r) l) := by
  refine (pay_c _ _ r l).trans (Eq.trans ?_ (c_at _ _ _).symm)
  exact congrArg₂ (· * ·) (blk6 m c t r l) (blk7 m c t r l)

theorem tPrev_at (r l : Fin 512) : tPrev m c t (ix2 r l) = r14 m c (ix3 0 (rowOf t r) l) := by
  refine (pay_prev _ _ _ _ _ _ _ _ r l).trans ?_
  by_cases hr : r.val = 0
  · rw [dif_pos hr]
    by_cases ht : t.val = 0
    · rw [if_pos ((pid_zero t).mpr ht)]
      exact (left_zero _ _ _ (by show t.val * 512 + r.val = 0; omega)).symm
    · rw [if_neg (fun h => ht ((pid_zero t).mp h)), blk9 m c t ht, blk10 m c t ht]
      refine Eq.trans ?_ (left_at _ _ _ (by show t.val * 512 + r.val ≠ 0; omega)).symm
      simp only [hr, Nat.add_zero]
  · rw [dif_neg hr, blk6, blk7]
    refine Eq.trans ?_ (left_at _ _ _ (by show t.val * 512 + r.val ≠ 0; omega)).symm
    simp only [Nat.add_sub_assoc (show 1 ≤ r.val by omega)]

theorem tNext_at (r l : Fin 512) : tNext m c t (ix2 r l) = r27 m c (ix3 0 (rowOf t r) l) := by
  have hN := lt_of_lt_of_eq t.isLt N16
  refine (pay_next _ _ _ _ _ _ _ r l).trans ?_
  by_cases hr : r.val = 511
  · rw [dif_pos hr]
    by_cases ht : t.val = 15
    · rw [if_pos ((pid_last t).mpr ht)]
      exact (right_zero _ _ _ (by show t.val * 512 + r.val = 8191; omega)).symm
    · rw [if_neg (fun h => ht ((pid_last t).mp h)), blk11 m c t (by omega), blk12 m c t (by omega)]
      refine Eq.trans ?_ (right_at _ _ _ (by show t.val * 512 + r.val < 8191; omega)).symm
      simp only [hr, Nat.add_assoc]
  · rw [dif_neg hr, blk6, blk7]
    refine Eq.trans ?_ (right_at _ _ _ (by show t.val * 512 + r.val < 8191; omega)).symm
    simp only [Nat.add_assoc]

theorem tDcc_at (r l : Fin 512) : tDcc m c t (ix2 r l) = r124 m c (ix3 0 (rowOf t r) l) := by
  refine (pay_dcc _ _ r l).trans (Eq.trans ?_ (dconv_at _ _ _ _ _ _ _ _ _ _).symm)
  rw [tL_at, blk5]
  exact EReal.mul_comm _ _

theorem tO_at (r : Fin 512) (h : Fin 4) (l : Fin 128) :
    tO m c t (ix2 r (hcol h l)) = oRow (a1 m c) (a2 m c) h (rowOf t r) l := by
  refine (pay_o _ _ r _).trans ?_
  exact congrArg₂ (· + ·) (blk13 m c t r h l) (blk14 m c t r h l)

theorem tOh_at (r : Fin 512) (h : Fin 4) (l : Fin 128) :
    tOh m c t (ix2 r (hcol h l)) = r47 m c (ix4 0 h (rowOf t r) l) := by
  refine (pay_oh _ _ r h l).trans (Eq.trans ?_ (oh_at _ _ _ _ _).symm)
  rw [show (fun k => k0_pay28 (F := Ideal) (iblk m c 13 t) (iblk m c 14 t) (ix2 r (hcol h k))) = _ from funext fun k => tO_at m c t r h k]
  exact congrArg (· * _) (tO_at m c t r h l)

theorem tDon_at (r : Fin 512) (h : Fin 4) (l : Fin 128) :
    tDon m c t (ix2 r (hcol h l)) = r101 m c (ix4 0 h (rowOf t r) l) := by
  refine (pay_don _ _ r _).trans (Eq.trans ?_ (don_at _ _ _ _ _ _ _ _ _ _ _).symm)
  rw [tR_at, blk8, silu_at]
  exact EReal.mul_comm _ _

end Cert.Mix1Ideal.Final

end
-- ==== Proof.Mix1Value.lean ====
/- The gradient of the mixer's output side: the kernel's arrays are the derivative's. -/
module

public import proofs.«01_k».proof.Proof.Mix1Tile

@[expose] public section

set_option maxRecDepth 16384

noncomputable section

namespace Cert.Mix1Ideal.Final

open Cert Cert.Mix1Ideal Cert.Mix1Ideal.Gen Cert.Mix1Ideal.Run Idealize.ShloMosaic Idealize.ShloMosaic.TcCoe Idealize.SL.Sem
open Idealize.ShloMosaic.Pipeline (Dat)
open Cert.Mix1RefIdeal.Read Cert.Mix1RefIdeal.At

variable (m : (ℓ : Loc nD τ sig) → Buf (Elt Ideal) ℓ)

/-- A column of the heads' array, by its head. -/
theorem col_eq (y : Fin 512) : ∃ (h : Fin 4) (l : Fin 128), y = hcol h l :=
  ⟨⟨y.val / 128, by omega⟩, ⟨y.val % 128, by omega⟩, Fin.ext (by show y.val = y.val / 128 * 128 + y.val % 128; omega)⟩

/-! ## The tiled results -/

theorem emb17 (t : Fin cfg0.N) (r l : Fin 512) : ((cfg0.win 17).blk t).view.emb (ix2 r l) = (ix2 (rowOf t r) l : S8192x512.Idx) := by
  blk_ext [idx t]
theorem emb18 (t : Fin cfg0.N) (r l : Fin 512) : ((cfg0.win 18).blk t).view.emb (ix2 r l) = (ix2 (rowOf t r) l : S8192x512.Idx) := by
  blk_ext [idx t]
theorem emb19 (t : Fin cfg0.N) (r l : Fin 512) : ((cfg0.win 19).blk t).view.emb (ix2 r l) = (ix2 (rowOf t r) l : S8192x512.Idx) := by
  blk_ext [idx t]
theorem emb20 (t : Fin cfg0.N) (r l : Fin 512) : ((cfg0.win 20).blk t).view.emb (ix2 r l) = (ix2 (rowOf t r) l : S8192x512.Idx) := by
  blk_ext [idx t]

theorem pay_dgb (v49 : FVec Ideal S512x512 .f32) (v57 v64 v71 : FVec Ideal S8x512 .f32) (v72 : BitVec 1) (v73 : FVec Ideal S16x512 .bf16)
    (x6 x7 : FVec Ideal S512x512 .bf16) (w0 w1 w2 : FVec Ideal S1x512 .f32) (r l : Fin 512) :
    k0_pay22 (F := Ideal) v49 v57 v64 v71 v72 v73 x6 x7 w0 w1 w2 (ix2 r l)
      = v49 (ix2 r l) * (w0 (ix2 0 l) * k0_pay20 (F := Ideal) v57 v64 v71 v72 v73 x6 x7 (ix2 r l)
        + w1 (ix2 0 l) * k0_pay18 (F := Ideal) x6 x7 (ix2 r l)
        + w2 (ix2 0 l) * k0_pay21 (F := Ideal) v57 v64 v71 v72 v73 x6 x7 (ix2 r l)) := by
  generalize h20 : k0_pay20 (F := Ideal) v57 v64 v71 v72 v73 x6 x7 = z20
  generalize h18 : k0_pay18 (F := Ideal) x6 x7 = z18
  generalize h21 : k0_pay21 (F := Ideal) v57 v64 v71 v72 v73 x6 x7 = z21
  pointwise [k0_pay22, h20, h18, h21]

theorem tap_row (c : Dev nD) (t : Fin cfg0.N) (o : ℕ) (ho : o < 3) (inb) (l : Fin 512) :
    View.ld (iblk m c 15 t) (Rect.unit (s := S3x512) ![o, 0] ![1, 512] inb) (ix2 0 l) = a3 m c (ix2 ⟨o, ho⟩ l) :=
  (Rows.ld_row (Val := Elt Ideal) (e := .f32) (iblk m c 15 t) o ho inb l).trans (blk15 m c t _ l)

theorem final_17 (c : Dev nD) : (dats m 0 c).arrAt 17 cfg0.N
    = val_main_v147 (F := Ideal) (a0 m c) (a1 m c) (a2 m c) (a3 m c) (a4 m c) (a5 m c) (a6 m c) (a7 m c) := by
  refine (dats m 0 c).arrAt_eq_of_covers 17 _ (by decide +kernel) fun t _ y => ?_
  have key : k0_pay22 (F := Ideal) (tL m c t) (k0_pay15 (pid t) (X0_9 m c t)) (k0_pay16 (pid t) (X0_11 m c t))
      (k0_pay17 (pid t) (X0_10 m c t)) (Scalar.cmpi CmpIPredicate.eq (pid t) 15#32) (X0_12 m c t) (X0_6 m c t) (X0_7 m c t)
      (View.ld (iblk m c 15 t) (Rect.unit ![0, 0] ![1, 512] inb_S3x512_S1x512_0_0))
      (View.ld (iblk m c 15 t) (Rect.unit ![1, 0] ![1, 512] inb_S3x512_S1x512_1_0))
      (View.ld (iblk m c 15 t) (Rect.unit ![2, 0] ![1, 512] inb_S3x512_S1x512_2_0)) y
      = val_main_v147 (F := Ideal) (a0 m c) (a1 m c) (a2 m c) (a3 m c) (a4 m c) (a5 m c) (a6 m c) (a7 m c)
      (((cfg0.win 17).blk t).view.emb y) := by
    idx_vars y
    rw [emb17]
    refine (pay_dgb _ _ _ _ _ _ _ _ _ _ _ y0 y1).trans (Eq.trans ?_ (out_dgb _ _ _ _ _ _ _ _ _ _).symm)
    rw [conv_at]
    exact congrArg₂ (· * ·) (tL_at m c t y0 y1) (congrArg₂ (· + ·) (congrArg₂ (· + ·)
      (congrArg₂ (· * ·) (tap_row m c t 0 (by omega) _ y1) (tPrev_at m c t y0 y1))
      (congrArg₂ (· * ·) (tap_row m c t 1 (by omega) _ y1) (tC_at m c t y0 y1)))
      (congrArg₂ (· * ·) (tap_row m c t 2 (by omega) _ y1) (tNext_at m c t y0 y1)))
  blk_simp
  rw [after_17]
  by_cases h : t.val % 16 = 0
  · rw [outsAt_A m c t h]
    dsimp only [outsA, ptA]
    frame_out
    exact key
  · rw [outsAt_B m c t h]
    dsimp only [outsB, ptB]
    frame_out
    exact key

theorem pay_dccT (v49 : FVec Ideal S512x512 .f32) (x5 : FVec Ideal S512x512 .bf16) (r l : Fin 512) :
    k0_pay24 (F := Ideal) v49 x5 (ix2 r l) = k0_pay23 (F := Ideal) v49 x5 (ix2 r l) := by
  generalize h23 : k0_pay23 (F := Ideal) v49 x5 = z
  pointwise [k0_pay24, h23]

theorem final_18 (c : Dev nD) : (dats m 0 c).arrAt 18 cfg0.N
    = val_main_v149 (F := Ideal) (a0 m c) (a1 m c) (a2 m c) (a3 m c) (a4 m c) (a5 m c) (a6 m c) (a7 m c) := by
  refine (dats m 0 c).arrAt_eq_of_covers 18 _ (by decide +kernel) fun t _ y => ?_
  have key : k0_pay24 (F := Ideal) (tL m c t) (X0_5 m c t) y
      = val_main_v149 (F := Ideal) (a0 m c) (a1 m c) (a2 m c) (a3 m c) (a4 m c) (a5 m c) (a6 m c) (a7 m c)
      (((cfg0.win 18).blk t).view.emb y) := by
    idx_vars y
    rw [emb18]
    exact (pay_dccT _ _ y0 y1).trans ((tDcc_at m c t y0 y1).trans (out_dcc _ _ _ _ _ _ _ _ _ _).symm)
  blk_simp
  rw [after_18]
  by_cases h : t.val % 16 = 0
  · rw [outsAt_A m c t h]
    dsimp only [outsA, ptA]
    frame_out
    exact key
  · rw [outsAt_B m c t h]
    dsimp only [outsB, ptB]
    frame_out
    exact key

theorem tOh_row (c : Dev nD) (t : Fin cfg0.N) (r : Fin 512) (h : Fin 4) (l : Fin 128) : tOh m c t (ix2 r (hcol h l))
    = oRow (a1 m c) (a2 m c) h (rowOf t r) l * Ideal.rsqrt (Shared.meanSq Shared.w128 (oRow (a1 m c) (a2 m c) h (rowOf t r))) :=
  (tOh_at m c t r h l).trans (oh_at _ _ _ _ _)

theorem head_grad {d y g O P W Q : Fin 128 → EReal} (hO : ∀ k, O k = y k) (hP : ∀ k, P k = d k) (hW : ∀ k, W k = g k)
    (hQ : ∀ k, Q k = y k * Ideal.rsqrt (Shared.meanSq Shared.w128 y)) (l : Fin 128) :
    Ideal.rsqrt (Shared.meanSq Shared.w128 O) * (P l * W l - Q l * Ideal.div (∑ k, P k * W k * Q k) Shared.w128)
      = Shared.normK Shared.w128 d y g l := by
  obtain rfl : O = y := funext hO
  obtain rfl : P = d := funext hP
  obtain rfl : W = g := funext hW
  obtain rfl : Q = _ := funext hQ
  rfl

theorem final_20 (c : Dev nD) : (dats m 0 c).arrAt 20 cfg0.N
    = val_main_v154 (F := Ideal) (a0 m c) (a1 m c) (a2 m c) (a3 m c) (a4 m c) (a5 m c) (a6 m c) (a7 m c) := by
  refine (dats m 0 c).arrAt_eq_of_covers 20 _ (by decide +kernel) fun t _ y => ?_
  have key : k0_pay49 (F := Ideal) (k0_pay31 (k0_pay30 (iblk m c 13 t) (iblk m c 14 t)) (FloatOps.ofBits .f32 897988541#32))
      (k0_pay33 (tO m c t)) (k0_pay35 (tO m c t)) (k0_pay37 (tO m c t)) (tOh m c t)
      (k0_pay45 (tR m c t) (k0_pay39 (X0_8 m c t)) (k0_pay40 (X0_8 m c t)) (iblk m c 16 t))
      (k0_pay46 (tR m c t) (k0_pay39 (X0_8 m c t)) (k0_pay40 (X0_8 m c t)) (iblk m c 16 t)) (k0_pay47 (tOh m c t))
      (k0_pay48 (tR m c t) (tOh m c t) (k0_pay39 (X0_8 m c t)) (k0_pay40 (X0_8 m c t)) (iblk m c 16 t)) y
      = val_main_v154 (F := Ideal) (a0 m c) (a1 m c) (a2 m c) (a3 m c) (a4 m c) (a5 m c) (a6 m c) (a7 m c)
      (((cfg0.win 20).blk t).view.emb y) := by
    idx_vars y
    rw [emb20]
    obtain ⟨h, l, rfl⟩ := col_eq y1
    refine (pay_do _ _ _ _ _ _ _ y0 h l).trans (Eq.trans ?_ (out_do _ _ _ _ _ _ _ _ _ _ _).symm)
    refine Eq.trans ?_ (Shared.normK_eq _ Shared.w128_pos _ _ _ _)
    exact head_grad (O := fun k => k0_pay28 (F := Ideal) (iblk m c 13 t) (iblk m c 14 t) (ix2 y0 (hcol h k)))
      (P := fun k => tDon m c t (ix2 y0 (hcol h k))) (W := fun k => iblk m c 16 t (ix2 0 (hcol h k))) (Q := fun k => tOh m c t (ix2 y0 (hcol h k)))
      (fun k => tO_at m c t y0 h k) (fun k => tDon_at m c t y0 h k) (fun k => blk16 m c t h k) (fun k => tOh_row m c t y0 h k) l
  blk_simp
  rw [after_20]
  by_cases h : t.val % 16 = 0
  · rw [outsAt_A m c t h]
    dsimp only [outsA, ptA]
    frame_out
    exact key
  · rw [outsAt_B m c t h]
    dsimp only [outsB, ptB]
    frame_out
    exact key

/-! ## Finite arguments make the gate's gradient one of real numbers -/

/-- Every argument's elements are real numbers. -/
structure AllReal (c : Dev nD) : Prop where
  r0 : ∀ i, Shared.Real' (a0 m c i)
  r1 : ∀ i, Shared.Real' (a1 m c i)
  r2 : ∀ i, Shared.Real' (a2 m c i)
  r3 : ∀ i, Shared.Real' (a3 m c i)
  r4 : ∀ i, Shared.Real' (a4 m c i)
  r5 : ∀ i, Shared.Real' (a5 m c i)
  r6 : ∀ i, Shared.Real' (a6 m c i)
  r7 : ∀ i, Shared.Real' (a7 m c i)

theorem ycat_at {x0 : (⟨S1x8192x3104, .f32⟩ : BufTy).Contents (Elt Ideal)} {x1 x2 : (⟨S1x4x8192x128, .f32⟩ : BufTy).Contents (Elt Ideal)}
    {x3 : (⟨S3x512, .f32⟩ : BufTy).Contents (Elt Ideal)} {x4 : (⟨S128, .f32⟩ : BufTy).Contents (Elt Ideal)} (r : Fin 8192) (l : Fin 1024) :
    val_main_v54 (F := Ideal) x0 x1 x2 x3 x4 (ix3 0 r l)
      = if h : l.val < 512 then x0 (ix3 0 r ⟨l.val, by omega⟩) * val_main_v31 (F := Ideal) x0 x3 (ix3 0 r ⟨l.val, h⟩)
        else val_main_v34_0 (F := Ideal) x0 (ix3 0 r ⟨l.val - 512, by omega⟩) * val_main_v52 (F := Ideal) x1 x2 x4 (ix3 0 r ⟨l.val - 512, by omega⟩) := by
  generalize h31 : val_main_v31 (F := Ideal) x0 x3 = z31
  generalize h34 : val_main_v34_0 (F := Ideal) x0 = z34
  generalize h52 : val_main_v52 (F := Ideal) x1 x2 x4 = z52
  pointwise [val_main_v54, val_main_v53, val_main_v33, val_main_v0, h31, h34, h52]

theorem y_at {x0 : (⟨S1x8192x3104, .f32⟩ : BufTy).Contents (Elt Ideal)} {x1 x2 : (⟨S1x4x8192x128, .f32⟩ : BufTy).Contents (Elt Ideal)}
    {x3 : (⟨S3x512, .f32⟩ : BufTy).Contents (Elt Ideal)} {x4 : (⟨S128, .f32⟩ : BufTy).Contents (Elt Ideal)}
    {x5 : (⟨S1024x1024, .f32⟩ : BufTy).Contents (Elt Ideal)} (r : Fin 8192) (l : Fin 1024) :
    val_main_v55 (F := Ideal) x0 x1 x2 x3 x4 x5 (ix3 0 r l)
      = ∑ k : Fin 1024, val_main_v54 (F := Ideal) x0 x1 x2 x3 x4 (ix3 0 r k) * x5 (ix2 k l) := by
  generalize h54 : val_main_v54 (F := Ideal) x0 x1 x2 x3 x4 = z54
  pointwise [val_main_v55, h54]

section Finite

variable {m} {c : Dev nD} (H : AllReal m c)
include H

theorem left_real (r : Fin 8192) (l : Fin 512) : Shared.Real' (r14 m c (ix3 0 r l)) := by
  by_cases h : r.val = 0
  · rw [show r14 m c (ix3 0 r l) = 0 from left_zero _ r l h]; exact ⟨0, rfl⟩
  · rw [show r14 m c (ix3 0 r l) = _ from left_at _ r l h]; exact (H.r0 _).mul (H.r0 _)
theorem right_real (r : Fin 8192) (l : Fin 512) : Shared.Real' (r27 m c (ix3 0 r l)) := by
  by_cases h : r.val < 8191
  · rw [show r27 m c (ix3 0 r l) = _ from right_at _ r l h]; exact (H.r0 _).mul (H.r0 _)
  · rw [show r27 m c (ix3 0 r l) = 0 from right_zero _ r l (by omega)]; exact ⟨0, rfl⟩
theorem conv_real (r : Fin 8192) (l : Fin 512) : Shared.Real' (val_main_v31 (F := Ideal) (a0 m c) (a3 m c) (ix3 0 r l)) := by
  rw [conv_at, c_at]
  exact (((H.r3 _).mul (left_real H r l)).add ((H.r3 _).mul ((H.r0 _).mul (H.r0 _)))).add ((H.r3 _).mul (right_real H r l))
theorem normed_real (r : Fin 8192) (l : Fin 512) : Shared.Real' (val_main_v52 (F := Ideal) (a1 m c) (a2 m c) (a4 m c) (ix3 0 r l)) := by
  obtain ⟨h, l, rfl⟩ := col_eq l
  have ho : ∀ k, Shared.Real' (oRow (a1 m c) (a2 m c) h r k) := fun k => (H.r1 _).add (H.r2 _)
  rw [normed_at, oh_at]
  exact ((ho l).mul (Shared.rs_real _ Shared.w128_pos ho)).mul (H.r4 _)
theorem ycat_real (r : Fin 8192) (l : Fin 1024) :
    Shared.Real' (val_main_v54 (F := Ideal) (a0 m c) (a1 m c) (a2 m c) (a3 m c) (a4 m c) (ix3 0 r l)) := by
  rw [ycat_at]
  split
  · exact (H.r0 _).mul (conv_real H r _)
  · rw [silu_at]
    exact ((H.r0 _).mul (H.r0 _).logistic).mul (normed_real H r _)
theorem y_real (r : Fin 8192) (l : Fin 1024) : Shared.Real' (yRow (a0 m c) (a1 m c) (a2 m c) (a3 m c) (a4 m c) (a5 m c) r l) := by
  rw [show yRow (a0 m c) (a1 m c) (a2 m c) (a3 m c) (a4 m c) (a5 m c) r l = _ from y_at r l]
  exact Shared.Real'.sum fun k => (ycat_real H r k).mul (H.r5 _)
theorem dy_real (r : Fin 8192) (l : Fin 1024) : Shared.Real' (r92 m c (ix3 0 r l)) := by
  rw [show r92 m c (ix3 0 r l) = _ from dy_at _ _ _ _ _ _ _ _ r l, ← Shared.normK_eq _ Shared.w1024_pos]
  exact Shared.normK_real _ Shared.w1024_pos (fun k => H.r7 _) (y_real H r) (fun k => H.r6 _) l
theorem dcat_real (r : Fin 8192) (l : Fin 1024) : Shared.Real' (r95 m c (ix3 0 r l)) := by
  rw [show r95 m c (ix3 0 r l) = _ from dcat_at _ _ _ _ _ _ _ _ r l]
  exact Shared.Real'.sum fun k => (dy_real H r k).mul (H.r5 _)

end Finite

theorem gate_eq {D n g s o : EReal} (hD : Shared.Real' D) (hn : Shared.Real' n) (hg : Shared.Real' g) (hs : Shared.Real' s) (ho : o = 1) :
    D * n * (s * (o + g * (o - s))) = D * n * s + g * (D * n) * (s * (o - s)) := by
  obtain ⟨D, rfl⟩ := hD; obtain ⟨n, rfl⟩ := hn; obtain ⟨g, rfl⟩ := hg; obtain ⟨s, rfl⟩ := hs
  subst ho
  norm_cast
  ring

theorem final_19 (c : Dev nD) (H : AllReal m c) : (dats m 0 c).arrAt 19 cfg0.N
    = val_main_v151 (F := Ideal) (a0 m c) (a1 m c) (a2 m c) (a3 m c) (a4 m c) (a5 m c) (a6 m c) (a7 m c) := by
  refine (dats m 0 c).arrAt_eq_of_covers 19 _ (by decide +kernel) fun t _ y => ?_
  have key : k0_pay42 (F := Ideal) (tR m c t) (tOh m c t) (k0_pay39 (X0_8 m c t)) (k0_pay40 (X0_8 m c t)) (iblk m c 16 t) y
      = val_main_v151 (F := Ideal) (a0 m c) (a1 m c) (a2 m c) (a3 m c) (a4 m c) (a5 m c) (a6 m c) (a7 m c)
      (((cfg0.win 19).blk t).view.emb y) := by
    idx_vars y
    rw [emb19]
    have hc : ∀ l : Fin 512, tOh m c t (ix2 y0 l) * iblk m c 16 t (ix2 0 l)
        = val_main_v52 (F := Ideal) (a1 m c) (a2 m c) (a4 m c) (ix3 0 (rowOf t y0) l) := by
      intro l
      obtain ⟨h, l, rfl⟩ := col_eq l
      rw [tOh_at, blk16, normed_at]
    refine (pay_dgo _ _ _ _ y0 y1).trans (Eq.trans ?_ (out_dgo _ _ _ _ _ _ _ _ _ _).symm)
    rw [hc, tR_at, blk8, sig_at]
    exact gate_eq (dcat_real H _ _) (normed_real H _ _) (H.r0 _) (H.r0 _).logistic Shared.c_one
  blk_simp
  rw [after_19]
  by_cases h : t.val % 16 = 0
  · rw [outsAt_A m c t h]
    dsimp only [outsA, ptA]
    frame_out
    exact key
  · rw [outsAt_B m c t h]
    dsimp only [outsB, ptB]
    frame_out
    exact key

/-! ## The accumulated results -/

theorem zero1 (x) : k0_pay1 (F := Ideal) x = 0 := by
  pointwise [k0_pay1]
theorem zero2 (x) : k0_pay2 (F := Ideal) x = 0 := by
  pointwise [k0_pay2]

/-- What one tile adds to the taps. -/
abbrev taps (c : Dev nD) (t : Fin cfg0.N) (i : Fin 8) (l : Fin 512) : EReal :=
  Rows.three (fun l => ∑ r : Fin 512, tDcc m c t (ix2 r l) * tPrev m c t (ix2 r l)) (fun l => ∑ r : Fin 512, tDcc m c t (ix2 r l) * tC m c t (ix2 r l))
    (fun l => ∑ r : Fin 512, tDcc m c t (ix2 r l) * tNext m c t (ix2 r l)) i l

theorem final_21 (c : Dev nD) : (dats m 0 c).arrAt 21 cfg0.N
    = val_main_v155 (F := Ideal) (a0 m c) (a1 m c) (a2 m c) (a3 m c) (a4 m c) (a5 m c) (a6 m c) (a7 m c) := by
  refine (dats m 0 c).arrAt_eq_of_after_last 21 t0_15 (by decide +kernel) _ fun j => ?_
  blk_simp
  rw [after_21]
  rw [Pipeline.eq_sum_fin_of_reset_step_apply_last (fun n h => (outsAt m c n h).2.2.2.2.1) 16 (fun _ => 0)
      (fun t j => taps m c t (j 0) (j 1))
      (fun t h j => by
        rw [outsAt_A m c t h]; dsimp only [outsA, ptA]; frame_out
        idx_vars j
        rw [zero_add]
        exact Rows.three_reset _ _ zero1 (k0_pay25 (tPrev m c t) (tDcc m c t)) (k0_pay26 (tC m c t) (tDcc m c t)) (k0_pay27 (tNext m c t) (tDcc m c t))
          _ _ _ (pay_tap0 _ _) (pay_tap1 _ _) (pay_tap2 _ _) _ _ _ _ j0 j1)
      (fun t h j => by
        rw [outsAt_B m c t h]; dsimp only [outsB, ptB]; frame_out
        idx_vars j
        exact Rows.three_step _ _ _ (Memref.IsWhole.read_unread _ _) (k0_pay25 (tPrev m c t) (tDcc m c t)) (k0_pay26 (tC m c t) (tDcc m c t)) (k0_pay27 (tNext m c t) (tDcc m c t))
          _ _ _ (pay_tap0 _ _) (pay_tap1 _ _) (pay_tap2 _ _) _ _ _ j0 j1)
      (le_of_eq N_0) t0_15 rfl j, zero_add]
  idx_vars j
  rw [out_taps, tap0_at, tap1_at, tap2_at]
  unfold taps Rows.three
  by_cases e0 : j0.val = 0
  · simp only [show ((ix2 j0 j1 : S8x512.Idx) 0) = j0 from rfl, show ((ix2 j0 j1 : S8x512.Idx) 1) = j1 from rfl, if_pos e0]
    refine Fin.sum_mul_add_congr fun t r hl => ?_
    exact congrArg₂ (· * ·) (tDcc_at m c t r j1) (tPrev_at m c t r j1)
  by_cases e1 : j0.val = 1
  · simp only [show ((ix2 j0 j1 : S8x512.Idx) 0) = j0 from rfl, show ((ix2 j0 j1 : S8x512.Idx) 1) = j1 from rfl, if_neg e0, if_pos e1]
    refine Fin.sum_mul_add_congr fun t r hl => ?_
    exact congrArg₂ (· * ·) (tDcc_at m c t r j1) (tC_at m c t r j1)
  by_cases e2 : j0.val = 2
  · simp only [show ((ix2 j0 j1 : S8x512.Idx) 0) = j0 from rfl, show ((ix2 j0 j1 : S8x512.Idx) 1) = j1 from rfl, if_neg e0, if_neg e1, if_pos e2]
    refine Fin.sum_mul_add_congr fun t r hl => ?_
    exact congrArg₂ (· * ·) (tDcc_at m c t r j1) (tNext_at m c t r j1)
  simp only [show ((ix2 j0 j1 : S8x512.Idx) 0) = j0 from rfl, if_neg e0, if_neg e1, if_neg e2, Finset.sum_const_zero]

/-- What one tile adds to the head norm's gradient. -/
abbrev heads (c : Dev nD) (t : Fin cfg0.N) (l : Fin 128) : EReal :=
  ∑ h : Fin 4, ∑ r : Fin 512, tDon m c t (ix2 r (hcol h l)) * tOh m c t (ix2 r (hcol h l))

abbrev headsRow (c : Dev nD) (t : Fin cfg0.N) (i : Fin 8) (l : Fin 128) : EReal := if i.val = 0 then heads m c t l else 0

theorem final_22 (c : Dev nD) : (dats m 0 c).arrAt 22 cfg0.N
    = val_main_v157 (F := Ideal) (a0 m c) (a1 m c) (a2 m c) (a3 m c) (a4 m c) (a5 m c) (a6 m c) (a7 m c) := by
  refine (dats m 0 c).arrAt_eq_of_after_last 22 t0_15 (by decide +kernel) _ fun j => ?_
  blk_simp
  rw [after_22]
  rw [Pipeline.eq_sum_fin_of_reset_step_apply_last (fun n h => (outsAt m c n h).2.2.2.2.2.1) 16 (fun _ => 0)
      (fun t j => headsRow m c t (j 0) (j 1))
      (fun t h j => by
        rw [outsAt_A m c t h]; dsimp only [outsA, ptA]; frame_out
        idx_vars j
        rw [zero_add]
        exact Rows.one_reset _ _ zero2 (k0_pay44 (tR m c t) (tOh m c t) (k0_pay39 (X0_8 m c t)) (k0_pay40 (X0_8 m c t)))
          (heads m c t) (pay_dhn _ _ _ _) _ _ j0 j1)
      (fun t h j => by
        rw [outsAt_B m c t h]; dsimp only [outsB, ptB]; frame_out
        idx_vars j
        exact Rows.one_step _ _ _ (Memref.IsWhole.read_unread _ _) (k0_pay44 (tR m c t) (tOh m c t) (k0_pay39 (X0_8 m c t)) (k0_pay40 (X0_8 m c t)))
          (heads m c t) (pay_dhn _ _ _ _) _ j0 j1)
      (le_of_eq N_0) t0_15 rfl j, zero_add]
  idx_vars j
  unfold headsRow
  by_cases e0 : j0.val = 0
  · simp only [show ((ix2 j0 j1 : S8x128.Idx) 0) = j0 from rfl, show ((ix2 j0 j1 : S8x128.Idx) 1) = j1 from rfl, if_pos e0]
    obtain rfl : j0 = 0 := Fin.ext e0
    refine Eq.trans ?_ ((out_dhn _ _ _ _ _ _ _ _ j1).trans (dhn_at _ _ _ _ _ _ _ _ j1)).symm
    refine (Finset.sum_comm : (_ : EReal) = _).trans ?_
    refine Finset.sum_congr rfl fun h _ => ?_
    refine Fin.sum_mul_add_congr fun t r hl => ?_
    exact (congrArg₂ (· * ·) (tDon_at m c t r h j1) (tOh_at m c t r h j1)).trans (EReal.mul_comm _ _)
  · simp only [show ((ix2 j0 j1 : S8x128.Idx) 0) = j0 from rfl, if_neg e0, Finset.sum_const_zero]
    exact (out_dhn_pad _ _ _ _ _ _ _ _ _ e0 j1).symm

/-- What one tile adds to the scale's gradient, and to the projection's. -/
abbrev scale (v3 v5 : FVec Ideal S512x1024 .f32) (l : Fin 1024) : EReal :=
  ∑ r : Fin 512, v3 (ix2 r l) * (v5 (ix2 r l) * Ideal.rsqrt (Shared.meanSq Shared.w1024 fun k => v5 (ix2 r k)))
abbrev proj (v41 v34 : FVec Ideal S512x1024 .bf16) (i l : Fin 1024) : EReal := ∑ r : Fin 512, v41 (ix2 r i) * v34 (ix2 r l)

theorem final_23 (c : Dev nD) : (dats m 0 c).arrAt 23 cfg0.N
    = val_main_v158 (F := Ideal) (a0 m c) (a1 m c) (a2 m c) (a3 m c) (a4 m c) (a5 m c) (a7 m c) := by
  refine (dats m 0 c).arrAt_eq_of_after_last 23 t0_15 (by decide +kernel) _ fun j => ?_
  blk_simp
  rw [after_23]
  obtain ⟨l, rfl⟩ : ∃ l : Fin 1024, j = (ix2 0 l : S1x1024.Idx) :=
    ⟨j 1, (eq_ix2 (show S1x1024.Idx from j)).trans (congrArg (fun a : Fin 1 => (ix2 a (j 1) : S1x1024.Idx))
      (Subsingleton.elim (α := Fin 1) (j 0) 0))⟩
  rw [Pipeline.eq_sum_fin_of_reset_step_apply_last (fun n h => (outsAt m c n h).2.2.2.2.2.2.1) 16 (fun _ => 0)
      (fun t j => scale (iblk m c 0 t) (iblk m c 1 t) (j 1))
      (fun t h j => by
        rw [outsAt_A m c t h]; dsimp only [outsA, ptA]; frame_out
        idx_vars j
        obtain rfl : j0 = 0 := Subsingleton.elim _ _
        refine (pay_dg _ _ _ j1).trans ?_
        pointwise [k0_pay3])
      (fun t h j => by
        rw [outsAt_B m c t h]; dsimp only [outsB, ptB]; frame_out
        idx_vars j
        obtain rfl : j0 = 0 := Subsingleton.elim _ _
        exact pay_dg _ _ _ j1)
      (le_of_eq N_0) t0_15 rfl _, zero_add]
  refine Eq.trans ?_ (dg_at _ _ _ _ _ _ _ l).symm
  refine Fin.sum_mul_add_congr fun t r hl => ?_
  rw [show (ix2 0 l : S1x1024.Idx) 1 = l from rfl, blk0 m c t r l, blk1 m c t r l,
    show (fun k => iblk m c 1 t (ix2 r k)) = _ from funext fun k => blk1 m c t r k]
  exact EReal.mul_comm _ _

theorem final_24 (c : Dev nD) : (dats m 0 c).arrAt 24 cfg0.N
    = val_main_v94 (F := Ideal) (a0 m c) (a1 m c) (a2 m c) (a3 m c) (a4 m c) (a5 m c) (a6 m c) (a7 m c) := by
  refine (dats m 0 c).arrAt_eq_of_after_last 24 t0_15 (by decide +kernel) _ fun j => ?_
  blk_simp
  rw [after_24]
  rw [Pipeline.eq_sum_fin_of_reset_step_apply_last (fun n h => (outsAt m c n h).2.2.2.2.2.2.2) 16 (fun _ => 0)
      (fun t j => proj (iblk m c 3 t) (tDy m c t) (j 0) (j 1))
      (fun t h j => by
        rw [outsAt_A m c t h]; dsimp only [outsA, ptA]; frame_out
        idx_vars j
        refine (pay_dw _ _ _ j0 j1).trans ?_
        pointwise [k0_pay4])
      (fun t h j => by
        rw [outsAt_B m c t h]; dsimp only [outsB, ptB]; frame_out
        idx_vars j
        exact pay_dw _ _ _ j0 j1)
      (le_of_eq N_0) t0_15 rfl j, zero_add]
  idx_vars j
  refine Eq.trans ?_ (dw_at _ _ _ _ _ _ _ _ j0 j1).symm
  refine Fin.sum_mul_add_congr fun t r hl => ?_
  exact congrArg₂ (· * ·) (blk3 m c t r j0) (tDy_at m c t r j1)

end Cert.Mix1Ideal.Final

end
-- ==== Proof.Finite.lean ====
/- Finite arrays: what `jnp.all(jnp.abs(x) < jnp.inf)` says of the elements. -/
module

public import Idealize.ShloMosaic.Lib.ReduceAll
public import proofs.«01_k».proof.Proof.Shared

@[expose] public section

noncomputable section

namespace Cert.Finite

open Idealize.ShloMosaic

theorem inf_top : Ideal.ofBits .f32 0x7F800000#32 = ⊤ := by
  simp [Ideal.ofBits, Ideal.ieee]

theorem real_of_lt {x : EReal} (h : Ideal.cmp .olt (max x (-x)) (Ideal.ofBits .f32 0x7F800000#32) = 1#1) : Shared.Real' x := by
  rw [inf_top] at h
  have hlt : max x (-x) < ⊤ := by
    by_contra hc
    simp [Ideal.cmp, hc] at h
  induction x with
  | bot => simp at hlt
  | top => simp at hlt
  | coe r => exact ⟨r, rfl⟩

theorem real_of_all {s t : Shape} {axes : List (Fin s.rank)} [Subsingleton t.Idx] (x : FVec Ideal s .f32)
    (hb) (h : s.ReducesTo axes t) (hu) (j : t.Idx)
    (e : Host.reduce IntOp.andi (cmpf .olt (Host.absf x) (broadcastInDim s ![] hb (constant ⟨0, ![]⟩ .f32 0x7F800000#32)))
      (constantI ⟨0, ![]⟩ 1 1#1) h hu j = 1#1) (i : s.Idx) : Shared.Real' (x i) :=
  real_of_lt (Host.reduce_andi_all _ _ h hu j e i)

theorem and_one {a b : BitVec 1} (h : IntOp.andi a b = 1#1) : a = 1#1 ∧ b = 1#1 := by
  revert a b; decide

end Cert.Finite

end
-- ==== Proof.Mix1Claim.lean ====
/- The gradient of the mixer's output side: the claim. -/
module

public import proofs.«01_k».proof.Proof.Mix1Value
public import proofs.«01_k».proof.Proof.Finite
public import proofs.«01_k».proof.Proof.Gen.Pre_mix1_finite
public import proofs.«01_k».proof.Proof.Gen.Mix1RefIdeal.Run
public import proofs.«01_k».proof.Defs

@[expose] public section

set_option maxRecDepth 16384

noncomputable section

namespace Cert.Mix1Ideal.Final

open Cert Cert.Mix1Ideal Cert.Mix1Ideal.Gen Cert.Mix1Ideal.Run Idealize.ShloMosaic Idealize.ShloMosaic.TcCoe Idealize.SL.Sem

open Cert.Mix1RefIdeal.Read

theorem congr7 {A B C D E G H Z : Type} (f : A → B → C → D → E → G → H → Z) {a a' b b' c c' d d' e e' g g' h h'} (ha : a = a') (hb : b = b')
    (hc : c = c') (hd : d = d') (he : e = e') (hg : g = g') (hh : h = h') : f a b c d e g h = f a' b' c' d' e' g' h' := by
  subst ha hb hc hd he hg hh; rfl
theorem congr8 {A B C D E G H I Z : Type} (f : A → B → C → D → E → G → H → I → Z) {a a' b b' c c' d d' e e' g g' h h' i i'} (ha : a = a')
    (hb : b = b') (hc : c = c') (hd : d = d') (he : e = e') (hg : g = g') (hh : h = h') (hi : i = i') :
    f a b c d e g h i = f a' b' c' d' e' g' h' i' := by
  subst ha hb hc hd he hg hh hi; rfl

variable {m : (ℓ : Loc nD τ sig) → Buf (Elt Ideal) ℓ}

instance : Subsingleton Pre_mix1_finite.S_.Idx := ⟨fun a b => funext fun i => i.elim0⟩

/-- The precondition, element by element. -/
theorem all_real (h : Pre_Mix1Ideal_mix1_finite m) (c : Dev nD) : AllReal m c := by
  have e := congrFun (h c) (fun i => i.elim0)
  dsimp only [Pre_mix1_finite.fn, Pre_mix1_finite.fn_part1, Pre_mix1_finite.fn_part2] at e
  obtain ⟨e, e'⟩ := Finite.and_one e
  obtain ⟨e, e3⟩ := Finite.and_one e
  obtain ⟨e, e2⟩ := Finite.and_one e
  obtain ⟨e0, e1⟩ := Finite.and_one e
  obtain ⟨e', e7⟩ := Finite.and_one e'
  obtain ⟨e', e6⟩ := Finite.and_one e'
  obtain ⟨e4, e5⟩ := Finite.and_one e'
  exact ⟨Finite.real_of_all _ _ _ _ _ e0, Finite.real_of_all _ _ _ _ _ e1, Finite.real_of_all _ _ _ _ _ e2,
    Finite.real_of_all _ _ _ _ _ e3, Finite.real_of_all _ _ _ _ _ e4, Finite.real_of_all _ _ _ _ _ e5,
    Finite.real_of_all _ _ _ _ _ e6, Finite.real_of_all _ _ _ _ _ e7⟩

variable (m)

set_option maxHeartbeats 2000000 in
/-- The results as the run's tiles, and the arguments kept. -/
theorem run_blocks (ρ : Dev nD → PrngReg) : θ_run (defs (F := Ideal)) (onTc (τ := τ) (main (F := Ideal))) ⟨m, fun _ => 0, ρ⟩ (fun r => ∀ c : Dev nD,
      r.2.mem ((c.tc : Thread nD τ).loc main_v72_0) = (dats m 0 c).arrAt 17 cfg0.N
      ∧ r.2.mem ((c.tc : Thread nD τ).loc main_v72_1) = (dats m 0 c).arrAt 18 cfg0.N
      ∧ r.2.mem ((c.tc : Thread nD τ).loc main_v72_2) = (dats m 0 c).arrAt 19 cfg0.N
      ∧ r.2.mem ((c.tc : Thread nD τ).loc main_v72_3) = (dats m 0 c).arrAt 20 cfg0.N
      ∧ r.2.mem ((c.tc : Thread nD τ).loc main_v72_4) = (dats m 0 c).arrAt 21 cfg0.N
      ∧ r.2.mem ((c.tc : Thread nD τ).loc main_v72_5) = (dats m 0 c).arrAt 22 cfg0.N
      ∧ r.2.mem ((c.tc : Thread nD τ).loc main_v72_6) = (dats m 0 c).arrAt 23 cfg0.N
      ∧ r.2.mem ((c.tc : Thread nD τ).loc main_v72_7) = (dats m 0 c).arrAt 24 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => have h := h.1
    ⟨(h c).1 17,
      (h c).1 18,
      (h c).1 19,
      (h c).1 20,
      (h c).1 21,
      (h c).1 22,
      (h c).1 23,
      (h c).1 24,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 15).trans (((dats m 0 c).arrAt_in 15 rfl _).trans ((A_eq m c 15).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

set_option maxHeartbeats 2000000 in
theorem value : Cert.algebraic_Mix1Ideal_Mix1RefIdeal_pre_mix1_finite := by
  intro m g m' g' hpre hagree
  refine ⟨fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N, fun c => (dats m 0 c).arrAt 23 cfg0.N, fun c => (dats m 0 c).arrAt 24 cfg0.N,
    run_blocks m g, (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Mix1RefIdeal.Value.run m' g')⟩
  · exact (Mix1RefIdeal.Read.val_main_v147_eq (StableHlo.launchContents m' c)).trans ((congr8 (val_main_v147 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_17 m c).symm)
  · exact (Mix1RefIdeal.Read.val_main_v149_eq (StableHlo.launchContents m' c)).trans ((congr8 (val_main_v149 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_18 m c).symm)
  · exact (Mix1RefIdeal.Read.val_main_v151_eq (StableHlo.launchContents m' c)).trans ((congr8 (val_main_v151 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_19 m c (all_real hpre c)).symm)
  · exact (Mix1RefIdeal.Read.val_main_v154_eq (StableHlo.launchContents m' c)).trans ((congr8 (val_main_v154 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_20 m c).symm)
  · exact (Mix1RefIdeal.Read.val_main_v155_eq (StableHlo.launchContents m' c)).trans ((congr8 (val_main_v155 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_21 m c).symm)
  · exact (Mix1RefIdeal.Read.val_main_v157_eq (StableHlo.launchContents m' c)).trans ((congr8 (val_main_v157 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_22 m c).symm)
  · exact (Mix1RefIdeal.Read.val_main_v158_eq (StableHlo.launchContents m' c)).trans ((congr7 (val_main_v158 (F := Ideal)) (hagree c).1 (hagree c).2.1 (hagree c).2.2.1 (hagree c).2.2.2.1 (hagree c).2.2.2.2.1 (hagree c).2.2.2.2.2.1 (hagree c).2.2.2.2.2.2.2).trans (final_23 m c).symm)
  · exact (Mix1RefIdeal.Read.val_main_v94_eq (StableHlo.launchContents m' c)).trans ((congr8 (val_main_v94 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans (final_24 m c).symm)

theorem ref_frame : Cert.quiescent_Mix1RefIdeal := fun m ρ _ =>
  (θ_run _ _ _).mono (fun r h => ⟨fun c => (h c).2.2.2.2.2.2.2.2, sem_eq_zero_of_no_sems (by decide) r.2⟩)
    (Mix1RefIdeal.Value.run m ρ)

end Cert.Mix1Ideal.Final

end
-- ==== Proof.Mix2Host.lean ====
/- The gradient of the mixer's input side: the arrays the host prepares, and the kernel's blocks of them. -/
module

public import proofs.«01_k».proof.Proof.Mix2Run
public import proofs.«01_k».proof.Proof.Gen.Mix2RefIdeal.Read
public import proofs.«01_k».proof.Proof.Shared
public import Idealize.ShloMosaic.Lib.StableHlo.RunRead
public import Idealize.ShloMosaic.Lib.Routing.OpsSet
public import Idealize.ShloMosaic.Lib.Routing.OpsOne

@[expose] public section

set_option maxRecDepth 16384

noncomputable section

namespace Cert.Mix2Ideal.Final

open Cert Cert.Mix2Ideal Cert.Mix2Ideal.Gen Idealize.ShloMosaic Idealize.ShloMosaic.TcCoe Idealize.SL.Sem
open Idealize.ShloMosaic.Pipeline (Dat)
open Cert.Mix2RefIdeal.Read

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)
abbrev a11 (c : Dev nD) := m ((c.tc : Thread nD τ).loc main_arg11)
abbrev a12 (c : Dev nD) := m ((c.tc : Thread nD τ).loc main_arg12)
abbrev a13 (c : Dev nD) := m ((c.tc : Thread nD τ).loc main_arg13)
abbrev a14 (c : Dev nD) := m ((c.tc : Thread nD τ).loc main_arg14)
abbrev a15 (c : Dev nD) := m ((c.tc : Thread nD τ).loc main_arg15)
abbrev a16 (c : Dev nD) := m ((c.tc : Thread nD τ).loc main_arg16)
abbrev a17 (c : Dev nD) := m ((c.tc : Thread nD τ).loc main_arg17)
abbrev a18 (c : Dev nD) := m ((c.tc : Thread nD τ).loc main_arg18)
abbrev a19 (c : Dev nD) := m ((c.tc : Thread nD τ).loc main_arg19)

theorem sitofp_zero : FloatOps.sitofp (F := Ideal) .f32 0#32 = (0 : EReal) := by
  show (((0#32 : BitVec 32).toInt : ℝ) : EReal) = 0
  simp

theorem V_x (c : Dev nD) (r : Fin 8192) (l : Fin 1024) : V m c main_v53 (ix2 r l) = a0 m c (ix3 0 r l) := by
  unfold_abbrev_sides
  after_reads_simp
  pointwise []
theorem V_dres (c : Dev nD) (r : Fin 8192) (l : Fin 1024) : V m c main_v54 (ix2 r l) = a19 m c (ix3 0 r l) := by
  unfold_abbrev_sides
  after_reads_simp
  pointwise []
theorem V_dgb (c : Dev nD) (r : Fin 8192) (l : Fin 512) : V m c main_v48 (ix2 r l) = a8 m c (ix3 0 r l) := by
  unfold_abbrev_sides
  after_reads_simp
  pointwise []
theorem V_dcc (c : Dev nD) (r : Fin 8192) (l : Fin 512) : V m c main_v50 (ix2 r l) = a9 m c (ix3 0 r l) := by
  unfold_abbrev_sides
  after_reads_simp
  pointwise []
theorem V_dgo (c : Dev nD) (r : Fin 8192) (l : Fin 512) : V m c main_v52 (ix2 r l) = a10 m c (ix3 0 r l) := by
  unfold_abbrev_sides
  after_reads_simp
  pointwise []
theorem V_dqf (c : Dev nD) (r : Fin 8192) (l : Fin 256) : V m c main_v32 (ix2 r l) = a11 m c (ix3 0 r l) := by
  unfold_abbrev_sides
  after_reads_simp
  pointwise []
theorem V_dkf (c : Dev nD) (r : Fin 8192) (l : Fin 256) : V m c main_v34 (ix2 r l) = a12 m c (ix3 0 r l) := by
  unfold_abbrev_sides
  after_reads_simp
  pointwise []
theorem V_dvf (c : Dev nD) (r : Fin 8192) (l : Fin 512) : V m c main_v36 (ix2 r l) = a13 m c (ix3 0 r l) := by
  unfold_abbrev_sides
  after_reads_simp
  pointwise []
theorem V_daf (c : Dev nD) (r : Fin 8192) (l : Fin 256) : V m c main_v38 (ix2 r l) = a14 m c (ix3 0 r l) := by
  unfold_abbrev_sides
  after_reads_simp
  pointwise []
theorem V_dqb (c : Dev nD) (r : Fin 8192) (l : Fin 256) : V m c main_v40 (ix2 r l) = a15 m c (ix3 0 r l) := by
  unfold_abbrev_sides
  after_reads_simp
  pointwise []
theorem V_dkb (c : Dev nD) (r : Fin 8192) (l : Fin 256) : V m c main_v42 (ix2 r l) = a16 m c (ix3 0 r l) := by
  unfold_abbrev_sides
  after_reads_simp
  pointwise []
theorem V_dvb (c : Dev nD) (r : Fin 8192) (l : Fin 512) : V m c main_v44 (ix2 r l) = a17 m c (ix3 0 r l) := by
  unfold_abbrev_sides
  after_reads_simp
  pointwise []
theorem V_dab (c : Dev nD) (r : Fin 8192) (l : Fin 256) : V m c main_v46 (ix2 r l) = a18 m c (ix3 0 r l) := by
  unfold_abbrev_sides
  after_reads_simp
  pointwise []
theorem V_g1 (c : Dev nD) (l : Fin 1024) : V m c main_v55 (ix2 0 l) = a1 m c (ix1 l) := by
  unfold_abbrev_sides
  after_reads_simp
  pointwise []
/-- The weights, with the columns past the projection's zero. -/
theorem V_w (c : Dev nD) (r : Fin 1024) (l : Fin 3200) :
    V m c main_v18 (ix2 r l) = (if h : l.val < 3104 then a2 m c (ix2 r ⟨l.val, h⟩) else 0 : EReal) := by
  unfold_abbrev_sides
  after_reads_simp
  simp only [StableHlo.TRef.toBuf, StableHlo.TRef.ofBuf, cast_eq]
  pointwise []
  by_cases h : l.val < 3104
  · rw [dif_pos (by omega), dif_pos h]
  · rw [dif_neg (by omega), dif_neg h]
    exact sitofp_zero
/-- The projected rows, with the columns past the projection's zero. -/
theorem V_p (c : Dev nD) (r : Fin 8192) (l : Fin 3200) : V m c main_v16 (ix2 r l)
    = (if h : l.val < 3104 then val_main_v16 (F := Ideal) (a0 m c) (a1 m c) (a2 m c) (ix3 0 r ⟨l.val, h⟩) else 0 : EReal) := by
  unfold_abbrev_sides
  after_reads_simp
  simp only [StableHlo.TRef.toBuf, StableHlo.TRef.ofBuf, cast_eq]
  pointwise []
  by_cases h : l.val < 3104
  · rw [dif_pos (by omega), dif_pos h]
    pointwise [val_main_v16, val_main_v15, val_main_v14, val_main_v13, val_main_v12, val_main_v11, val_main_v7, val_main_v6, val_main_v5,
      val_main_v4, val_main_v3, val_main_v2, val_main_v1, val_main_v0, val_main_cst, val_main_cst_0, val_main_cst_1]
  · rw [dif_neg (by omega), dif_neg h]
    exact sitofp_zero
/-- The bias of the decay's two directions. -/
theorem V_bias (c : Dev nD) (l : Fin 512) :
    V m c main_v30 (ix2 0 l) = if h : l.val < 256 then a5 m c (ix1 ⟨l.val, h⟩) else a7 m c (ix1 ⟨l.val - 256, by omega⟩) := by
  unfold_abbrev_sides
  after_reads_simp
  pointwise []
  after_reads_simp
/-- A block written into a matrix at a pair of starts: where an update lands. -/
theorem block_lands (idx : IVec S2 32) (p : Fin 16) (q : Fin 256) (r : Fin 128) (l : Fin 512) :
    scatter_S128x512_S2_S16x256_01_n_01_0.resultIdx? (ix2 p q : S16x256.Idx) idx = some (ix2 r l : S128x512.Idx)
      ↔ (idx (ix1 (0 : Fin 2))).toInt + (p.val : Int) = r.val ∧ (idx (ix1 (1 : Fin 2))).toInt + (q.val : Int) = l.val := by
  have hw0 : scatter_S128x512_S2_S16x256_01_n_01_0.window (ix2 p q : S16x256.Idx) 0 = p.val := by
    unfold ScatterDims.window
    rw [dif_pos (by decide)]
    rfl
  have hw1 : scatter_S128x512_S2_S16x256_01_n_01_0.window (ix2 p q : S16x256.Idx) 1 = q.val := by
    unfold ScatterDims.window
    rw [dif_pos (by decide)]
    rfl
  refine (Routing.resultIdx?_ix2 (R := 128) (C := 512) scatter_S128x512_S2_S16x256_01_n_01_0 _ idx r l).trans ?_
  rw [Routing.start_pair scatter_S128x512_S2_S16x256_01_n_01_0 rfl rfl, Routing.start_pair scatter_S128x512_S2_S16x256_01_n_01_0 rfl rfl, hw0, hw1]
  exact Iff.rfl

/-- The written matrix at an index. -/
theorem block_set (x : S128x512.Idx → EReal) (idx : IVec S2 32) (u : S16x256.Idx → EReal) (i j : ℕ) (hi : (idx (ix1 (0 : Fin 2))).toInt = i)
    (hj : (idx (ix1 (1 : Fin 2))).toInt = j) (r : Fin 128) (l : Fin 512) :
    Host.scatter scatter_S128x512_S2_S16x256_01_n_01_0 (fun _ b => b) x idx u (ix2 r l)
      = if h : (i ≤ r.val ∧ r.val < i + 16) ∧ (j ≤ l.val ∧ l.val < j + 256) then u (ix2 ⟨r.val - i, by omega⟩ ⟨l.val - j, by omega⟩)
        else x (ix2 r l) := by
  by_cases h : (i ≤ r.val ∧ r.val < i + 16) ∧ (j ≤ l.val ∧ l.val < j + 256)
  · rw [dif_pos h]
    refine Routing.scatter_set_hit _ x idx u _ _ (fun k hk => ?_) (ix2 ⟨r.val - i, by omega⟩ ⟨l.val - j, by omega⟩) ?_
    · idx_vars k
      have := (block_lands idx k0 k1 r l).mp hk
      refine congrArg u (congrArg₂ ix2 (Fin.ext ?_) (Fin.ext ?_))
      · show k0.val = r.val - i; omega
      · show k1.val = l.val - j; omega
    · refine (block_lands idx _ _ r l).mpr ⟨?_, ?_⟩
      · show _ + ((r.val - i : ℕ) : Int) = _; omega
      · show _ + ((l.val - j : ℕ) : Int) = _; omega
  · rw [dif_neg h]
    refine Routing.scatter_set_miss _ x idx u _ fun k hk => h ?_
    idx_vars k
    have := (block_lands idx k0 k1 r l).mp hk
    have := k0.isLt
    have := k1.isLt
    omega

/-- Two blocks written into a matrix of zeros. -/
theorem blocks_set (i0 i1 : IVec S2 32) (h00 : i0 (ix1 (0 : Fin 2)) = 0#32) (h01 : i0 (ix1 (1 : Fin 2)) = 0#32)
    (h10 : i1 (ix1 (0 : Fin 2)) = 16#32) (h11 : i1 (ix1 (1 : Fin 2)) = 256#32) (u v : FVec Ideal S16x256 .f32) (r : Fin 128) (l : Fin 512) :
    Host.scatter scatter_S128x512_S2_S16x256_01_n_01_0 (fun _ b => b)
        (Host.scatter scatter_S128x512_S2_S16x256_01_n_01_0 (fun _ b => b)
          (broadcastInDim S128x512 ![] bcast_S_S128x512 (constant (F := Ideal) S_ FTy.f32 0#32)) i0 u) i1 v (ix2 r l)
      = (if h : r.val < 16 ∧ l.val < 256 then u (ix2 ⟨r.val, h.1⟩ ⟨l.val, h.2⟩)
      else if h : 16 ≤ r.val ∧ r.val < 32 ∧ 256 ≤ l.val then v (ix2 ⟨r.val - 16, by omega⟩ ⟨l.val - 256, by omega⟩) else 0 : EReal) := by
  refine (block_set _ i1 v 16 256 (by rw [h10]; decide) (by rw [h11]; decide) r l).trans ?_
  by_cases h1 : 16 ≤ r.val ∧ r.val < 32 ∧ 256 ≤ l.val
  · rw [dif_pos (by omega), dif_neg (by omega), dif_pos h1]
  rw [dif_neg (by omega), block_set _ i0 u 0 0 (by rw [h00]; decide) (by rw [h01]; decide) r l]
  by_cases h0 : r.val < 16 ∧ l.val < 256
  · rw [dif_pos (by omega), dif_pos h0]
    rfl
  rw [dif_neg (by omega), dif_neg h0, dif_neg h1]
  pointwise []

theorem trunc_at (z : FVec Ideal S128x512 .f32) (i : S128x512.Idx) : truncf (F := Ideal) .bf16 z bitsLt_bf16_f32 i = z i := rfl

/-- Concatenations of equal pieces. -/
theorem cat2 {S A B : Shape} {e : EltTy} {d} {a a' : A.Idx → Elt Ideal e} {b b' : B.Idx → Elt Ideal e}
    (h) (ha : a = a') (hb : b = b') : concatenate S d [⟨A, a⟩, ⟨B, b⟩] h = concatenate S d [⟨A, a'⟩, ⟨B, b'⟩] h := by
  subst ha hb; rfl

/-- A pair of starts. -/
abbrev starts (i j : BitVec 32) : IVec S2 32 := fun k => if (k 0).val < 1 then i else j
theorem V_start0 (c : Dev nD) : concatenate S2 0
    [⟨S1, StableHlo.upto [hostOps0, hostOps0_1, hostOps0_2, hostOps0_3, hostOps0_4].flatten (fun b => m (c, b)) 32 (Proc.devRef .tc (![main_v20, main_v21] 0))⟩,
      ⟨S1, StableHlo.upto [hostOps0, hostOps0_1, hostOps0_2, hostOps0_3, hostOps0_4].flatten (fun b => m (c, b)) 32 (Proc.devRef .tc (![main_v20, main_v21] 1))⟩] concatenates_S1_S1_S2_d0
    = starts 0#32 0#32 := by
  refine (cat2 (e := .i32) _ (a' := fun _ => 0#32) (b' := fun _ => 0#32) ?_ ?_).trans ?_
  · change StableHlo.upto [hostOps0, hostOps0_1, hostOps0_2, hostOps0_3, hostOps0_4].flatten (fun b => m (c, b)) 32 (Proc.devRef .tc main_v20) = _
    after_reads_simp
    funext i
    pointwise []
  · change StableHlo.upto [hostOps0, hostOps0_1, hostOps0_2, hostOps0_3, hostOps0_4].flatten (fun b => m (c, b)) 32 (Proc.devRef .tc main_v21) = _
    after_reads_simp
    funext i
    pointwise []
  · funext i
    idx_vars i
    pointwise [starts]
    rw [dite_eq_ite]
    rfl
theorem V_start1 (c : Dev nD) : concatenate S2 0
    [⟨S1, StableHlo.upto [hostOps0, hostOps0_1, hostOps0_2, hostOps0_3, hostOps0_4].flatten (fun b => m (c, b)) 38 (Proc.devRef .tc (![main_v24, main_v25] 0))⟩,
      ⟨S1, StableHlo.upto [hostOps0, hostOps0_1, hostOps0_2, hostOps0_3, hostOps0_4].flatten (fun b => m (c, b)) 38 (Proc.devRef .tc (![main_v24, main_v25] 1))⟩] concatenates_S1_S1_S2_d0
    = starts 16#32 256#32 := by
  refine (cat2 (e := .i32) _ (a' := fun _ => 16#32) (b' := fun _ => 256#32) ?_ ?_).trans ?_
  · change StableHlo.upto [hostOps0, hostOps0_1, hostOps0_2, hostOps0_3, hostOps0_4].flatten (fun b => m (c, b)) 38 (Proc.devRef .tc main_v24) = _
    after_reads_simp
    funext i
    pointwise []
  · change StableHlo.upto [hostOps0, hostOps0_1, hostOps0_2, hostOps0_3, hostOps0_4].flatten (fun b => m (c, b)) 38 (Proc.devRef .tc main_v25) = _
    after_reads_simp
    funext i
    pointwise []
  · funext i
    idx_vars i
    pointwise [starts]
    rw [dite_eq_ite]
    rfl

/-- The decay's two weights as the blocks of one matrix. -/
theorem V_gcat (c : Dev nD) (r : Fin 128) (l : Fin 512) :
    V m c main_v28 (ix2 r l) = (if h : r.val < 16 ∧ l.val < 256 then a4 m c (ix2 ⟨r.val, h.1⟩ ⟨l.val, h.2⟩)
      else if h : 16 ≤ r.val ∧ r.val < 32 ∧ 256 ≤ l.val then a6 m c (ix2 ⟨r.val - 16, by omega⟩ ⟨l.val - 256, by omega⟩) else 0 : EReal) := by
  unfold_abbrev_sides
  after_reads_simp
  refine (congrFun (congrArg₂ (fun i0 i1 : IVec S2 32 => truncf (F := Ideal) .bf16 (Host.scatter scatter_S128x512_S2_S16x256_01_n_01_0 (fun _ b => b)
        (Host.scatter scatter_S128x512_S2_S16x256_01_n_01_0 (fun _ b => b)
          (broadcastInDim S128x512 ![] bcast_S_S128x512 (constant (F := Ideal) S_ FTy.f32 0#32)) i0 (a4 m c)) i1 (a6 m c)) bitsLt_bf16_f32)
    (V_start0 m c) (V_start1 m c)) (ix2 r l)).trans ?_
  exact (trunc_at _ _).trans (blocks_set _ _ rfl rfl rfl rfl _ _ r l)

/-! ## The kernel's blocks -/

theorem idxA : ∀ t : Fin cfg0.N, win0_0.index t = ![t.val, 0] ∧ win0_1.index t = ![t.val, 0] ∧ win0_2.index t = ![t.val * 32 - 1, 0] ∧ win0_3.index t = ![min (t.val * 32 + 32) 511, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 1] :=
  (by decide +kernel : ∀ t : Fin grid0.N, _)
theorem idxB : ∀ t : Fin cfg0.N, win0_14.index t = ![t.val, 2] ∧ win0_15.index t = ![t.val, 24] ∧ win0_16.index t = ![0, 0] ∧ win0_17.index t = ![0, 0]
    ∧ win0_18.index t = ![0, 0] ∧ win0_19.index t = ![0, 0] ∧ win0_20.index t = ![t.val, 0] ∧ win0_21.index t = ![t.val, 0]
    ∧ win0_22.index t = ![0, 0] ∧ win0_23.index t = ![t.val, 0] ∧ win0_24.index t = ![t.val, 0] ∧ win0_25.index t = ![0, 0]
    ∧ win0_26.index t = ![0, 0] ∧ win0_27.index t = ![0, 0] :=
  (by decide +kernel : ∀ t : Fin grid0.N, _)

theorem N16 : cfg0.N = 16 := N_0
theorem row_lt (t : Fin cfg0.N) (r : Fin 512) : t.val * 512 + r.val < 8192 := by
  have := lt_of_lt_of_eq t.isLt N16; omega
/-- Row `r` of tile `t`. -/
abbrev rowOf (t : Fin cfg0.N) (r : Fin 512) : Fin 8192 := ⟨t.val * 512 + r.val, row_lt t r⟩

variable (c : Dev nD) (t : Fin cfg0.N)

theorem blk0 (x : Fin 512) (y : Fin 512) : iblk m c 0 t (ix2 x y) = a8 m c (ix3 0 (rowOf t x) y) := by
  rw [← V_dgb]; blk_ext! [iblk, idxA t, idxB t]
theorem blk1 (x : Fin 512) (y : Fin 512) : iblk m c 1 t (ix2 x y) = a9 m c (ix3 0 (rowOf t x) y) := by
  rw [← V_dcc]; blk_ext! [iblk, idxA t, idxB t]
theorem blk4 (x : Fin 512) (y : Fin 512) : iblk m c 4 t (ix2 x y) = a10 m c (ix3 0 (rowOf t x) y) := by
  rw [← V_dgo]; blk_ext! [iblk, idxA t, idxB t]
theorem blk5 (x : Fin 512) (y : Fin 256) : iblk m c 5 t (ix2 x y) = a11 m c (ix3 0 (rowOf t x) y) := by
  rw [← V_dqf]; blk_ext! [iblk, idxA t, idxB t]
theorem blk6 (x : Fin 512) (y : Fin 256) : iblk m c 6 t (ix2 x y) = a12 m c (ix3 0 (rowOf t x) y) := by
  rw [← V_dkf]; blk_ext! [iblk, idxA t, idxB t]
theorem blk7 (x : Fin 512) (y : Fin 512) : iblk m c 7 t (ix2 x y) = a13 m c (ix3 0 (rowOf t x) y) := by
  rw [← V_dvf]; blk_ext! [iblk, idxA t, idxB t]
theorem blk8 (x : Fin 512) (y : Fin 256) : iblk m c 8 t (ix2 x y) = a14 m c (ix3 0 (rowOf t x) y) := by
  rw [← V_daf]; blk_ext! [iblk, idxA t, idxB t]
theorem blk9 (x : Fin 512) (y : Fin 256) : iblk m c 9 t (ix2 x y) = a15 m c (ix3 0 (rowOf t x) y) := by
  rw [← V_dqb]; blk_ext! [iblk, idxA t, idxB t]
theorem blk10 (x : Fin 512) (y : Fin 256) : iblk m c 10 t (ix2 x y) = a16 m c (ix3 0 (rowOf t x) y) := by
  rw [← V_dkb]; blk_ext! [iblk, idxA t, idxB t]
theorem blk11 (x : Fin 512) (y : Fin 512) : iblk m c 11 t (ix2 x y) = a17 m c (ix3 0 (rowOf t x) y) := by
  rw [← V_dvb]; blk_ext! [iblk, idxA t, idxB t]
theorem blk12 (x : Fin 512) (y : Fin 256) : iblk m c 12 t (ix2 x y) = a18 m c (ix3 0 (rowOf t x) y) := by
  rw [← V_dab]; blk_ext! [iblk, idxA t, idxB t]
theorem blk20 (x : Fin 512) (y : Fin 1024) : iblk m c 20 t (ix2 x y) = a0 m c (ix3 0 (rowOf t x) y) := by
  rw [← V_x]; blk_ext! [iblk, idxA t, idxB t]
theorem blk21 (x : Fin 512) (y : Fin 1024) : iblk m c 21 t (ix2 x y) = a19 m c (ix3 0 (rowOf t x) y) := by
  rw [← V_dres]; blk_ext! [iblk, idxA t, idxB t]
theorem blk2 (ht : t.val ≠ 0) (y : Fin 512) :
    iblk m c 2 t (ix2 15 y) = a9 m c (ix3 0 ⟨t.val * 512 - 1, by have := row_lt t 0; omega⟩ y) := by
  rw [← V_dcc]; blk_ext! [iblk, idxA t, idxB t]
theorem blk3 (ht : t.val < 15) (y : Fin 512) :
    iblk m c 3 t (ix2 0 y) = a9 m c (ix3 0 ⟨t.val * 512 + 512, by omega⟩ y) := by
  rw [← V_dcc]; blk_ext! [iblk, idxA t, idxB t]
theorem blk16 (x : Fin 3) (y : Fin 512) : iblk m c 16 t (ix2 x y) = a3 m c (ix2 x y) := by
  rw [← show V m c main_arg3 = a3 m c from V_main_arg3 m c]; blk_ext! [iblk, idxA t, idxB t]
theorem blk17 (x : Fin 128) (y : Fin 512) : iblk m c 17 t (ix2 x y) = V m c main_v28 (ix2 x y) := by
  blk_ext! [iblk, idxA t, idxB t]
theorem blk18 (y : Fin 512) : iblk m c 18 t (ix2 0 y) = V m c main_v30 (ix2 0 y) := by
  blk_ext! [iblk, idxA t, idxB t]
theorem blk19 (x : Fin 1024) (y : Fin 3200) : iblk m c 19 t (ix2 x y) = V m c main_v18 (ix2 x y) := by
  blk_ext! [iblk, idxA t, idxB t]
theorem blk22 (y : Fin 1024) : iblk m c 22 t (ix2 0 y) = a1 m c (ix1 y) := by
  rw [← V_g1]; blk_ext! [iblk, idxA t, idxB t]

/-- The column blocks of the projected rows: the convolution's two factors, the decay's low rank. -/
theorem blk15 (x : Fin 512) (y : Fin 128) :
    iblk m c 15 t (ix2 x y) = V m c main_v16 (ix2 (rowOf t x) ⟨3072 + y.val, by omega⟩) := by
  blk_ext! [iblk, idxA t, idxB t]
theorem blk13 (x y : Fin 512) :
    X0_13 m c t (ix2 x y) = val_main_v16 (F := Ideal) (a0 m c) (a1 m c) (a2 m c) (ix3 0 (rowOf t x) ⟨512 + y.val, by omega⟩) := by
  refine Eq.trans ?_ ((V_p m c (rowOf t x) ⟨512 + y.val, by omega⟩).trans (dif_pos (by show 512 + y.val < 3104; omega)))
  unfold X0_13 Pipeline.Window.fill
  rw [dif_pos (moved0_13 t _)]
  unfold iblk
  refine congrArg (V m c main_v16) ?_
  blk_ext [idxA t, idxB t]
theorem blk14 (x y : Fin 512) :
    X0_14 m c t (ix2 x y) = val_main_v16 (F := Ideal) (a0 m c) (a1 m c) (a2 m c) (ix3 0 (rowOf t x) ⟨1024 + y.val, by omega⟩) := by
  refine Eq.trans ?_ ((V_p m c (rowOf t x) ⟨1024 + y.val, by omega⟩).trans (dif_pos (by show 1024 + y.val < 3104; omega)))
  unfold X0_14 Pipeline.Window.fill
  rw [dif_pos (moved0_14 t _)]
  unfold iblk
  refine congrArg (V m c main_v16) ?_
  blk_ext [idxA t, idxB t]

end Cert.Mix2Ideal.Final

end
-- ==== Proof.LogSig.lean ====
/- The derivative of the logarithm of the logistic function, as the differentiated `logaddexp` writes it. -/
module

public import proofs.«01_k».proof.Proof.Shared

@[expose] public section

noncomputable section

namespace Cert.Shared

open Idealize.ShloMosaic

theorem c_inf : Ideal.ofBits .f32 0x7F800000#32 = (⊤ : EReal) := by
  simp [Ideal.ofBits, Ideal.ieee]
theorem c_zero : Ideal.ofBits .f32 0x0#32 = (0 : EReal) := by
  simp [Ideal.ofBits, Ideal.ieee]
theorem c_16 : Ideal.ofBits .f32 0x41800000#32 = ((16 : ℝ) : EReal) := by
  simp [Ideal.ofBits, Ideal.ieee]; rw [← EReal.coe_mul]; norm_num
theorem c_inv16 : Ideal.ofBits .f32 0x3D800000#32 = ((1 / 16 : ℝ) : EReal) := by
  simp [Ideal.ofBits, Ideal.ieee]; rw [← EReal.coe_mul]; norm_num

/-- A sixteenth, as a factor and as a quotient. -/
theorem sixteenth (x : EReal) : x * Ideal.ofBits .f32 0x3D800000#32 = Ideal.div x (Ideal.ofBits .f32 0x41800000#32) := by
  rw [c_16, c_inv16, Ideal.div_coe (by norm_num)]

/-- `log (1 + e^y)` as the forward lines compute it. -/
def softplus (y : EReal) : EReal := max y 0 + Ideal.log1p (Ideal.exp (-(max y (-y))))

/-- Its derivative's first factor as the differentiated lines compute it, infinities replaced by zero. -/
def softplusGrad (y : EReal) : EReal :=
  Ideal.exp ((if y = ⊤ then 0 else y) - (if softplus y = ⊤ then 0 else softplus y))

theorem softplus_coe (y : ℝ) : softplus (y : EReal) = ((Real.log (1 + Real.exp y) : ℝ) : EReal) := by
  have hp : ∀ z : ℝ, Ideal.log1p ((Real.exp z : ℝ) : EReal) = ((Real.log (1 + Real.exp z) : ℝ) : EReal) := fun z => by
    unfold Ideal.log1p
    have : (0 : ℝ) < 1 + Real.exp z := by positivity
    rw [show (1 : EReal) + ((Real.exp z : ℝ) : EReal) = ((1 + Real.exp z : ℝ) : EReal) by push_cast; rfl, Ideal.log_coe, if_neg this.not_ge]
  unfold softplus
  rcases le_total 0 y with h | h
  · have h1 : max (y : EReal) 0 = y := max_eq_left (by exact_mod_cast h)
    have h2 : max (y : EReal) (-y) = y := max_eq_left (by rw [← EReal.coe_neg]; exact_mod_cast (by linarith : -y ≤ y))
    rw [h1, h2, ← EReal.coe_neg, Ideal.exp_coe, hp, ← EReal.coe_add]
    congr 1
    have e : 1 + Real.exp y = Real.exp y * (1 + Real.exp (-y)) := by
      rw [mul_add, ← Real.exp_add]; simp [add_comm]
    rw [e, Real.log_mul (Real.exp_ne_zero _) (by positivity), Real.log_exp]
  · have h1 : max (y : EReal) 0 = 0 := max_eq_right (by exact_mod_cast h)
    have h2 : max (y : EReal) (-y) = -y := max_eq_right (by rw [← EReal.coe_neg]; exact_mod_cast (by linarith : y ≤ -y))
    rw [h1, h2, neg_neg, Ideal.exp_coe, hp, zero_add]

/-- It is one less the logistic function, at the infinities too. -/
theorem softplusGrad_neg (x : EReal) : softplusGrad (-x) = Ideal.ofBits .f32 0x3F800000#32 - Ideal.logistic x := by
  rw [c_one]
  unfold softplusGrad
  have l1 : Ideal.log1p 0 = 0 := by
    have : Ideal.log1p 0 = Ideal.log ((1 : ℝ) : EReal) := by rw [Ideal.log1p, add_zero]; rfl
    rw [this, Ideal.log_coe, if_neg (by norm_num), Real.log_one]; rfl
  induction x with
  | bot =>
    have : softplus (⊤ : EReal) = ⊤ := by
      unfold softplus
      rw [EReal.neg_top, max_eq_left bot_le, EReal.neg_top, Ideal.exp_bot, l1, max_eq_left le_top, add_zero]
    rw [EReal.neg_bot, this, if_pos rfl, sub_zero, Ideal.logistic_bot, sub_zero]
    exact (Ideal.exp_coe (r := 0)).trans (by rw [Real.exp_zero])
  | top =>
    have : softplus (⊥ : EReal) = 0 := by
      unfold softplus
      rw [EReal.neg_bot, max_eq_right bot_le, max_eq_right bot_le, EReal.neg_top, Ideal.exp_bot, l1, add_zero]
    rw [EReal.neg_top, this, if_neg bot_ne_top, if_neg EReal.zero_ne_top, sub_zero, Ideal.exp_bot, Ideal.logistic_top]
    exact (congrArg (fun r : ℝ => (r : EReal)) (sub_self (1 : ℝ))).symm.trans (EReal.coe_sub 1 1)
  | coe x =>
    rw [← EReal.coe_neg, softplus_coe, if_neg (EReal.coe_ne_top _), if_neg (EReal.coe_ne_top _), ← EReal.coe_sub, Ideal.exp_coe,
      Ideal.logistic_coe, ← EReal.coe_sub]
    congr 1
    have : (0 : ℝ) < 1 + Real.exp (-x) := by positivity
    rw [Real.exp_sub, Real.exp_log this]
    field_simp
    ring

end Cert.Shared

end
-- ==== Proof.Mix2Pay.lean ====
/- The gradient of the mixer's input side: the kernel's values at an index. -/
module

public import proofs.«01_k».proof.Proof.Mix2Host
public import proofs.«01_k».proof.Proof.LogSig

@[expose] public section

set_option maxRecDepth 16384

noncomputable section

namespace Cert.Mix2Ideal.Final

open Cert Cert.Mix2Ideal Cert.Mix2Ideal.Gen Idealize.ShloMosaic Idealize.ShloMosaic.TcCoe Idealize.SL.Sem

/-- The grid point as the kernel's word. -/
abbrev word (i : grid0.Coords) : BitVec 32 := BitVec.ofNat 32 (i 0).val

/-! ## The norm's gradient -/

theorem pay_dx (v131 v133 v161 : FVec Ideal S512x1024 .f32) (v134 : FVec Ideal S1x1024 .f32) (r : Fin 512) (l : Fin 1024) :
    k0_pay3 (F := Ideal) v131 v133 v134 v161 (ix2 r l) = v161 (ix2 r l)
      + Shared.normK Shared.w1024 (fun k => v131 (ix2 r k)) (fun k => v133 (ix2 r k)) (fun k => v134 (ix2 0 k)) l := by
  pointwise [k0_pay3, k0_pay2, k0_pay1, Shared.normK, Shared.meanSq]

theorem pay_dg (v131 v133 : FVec Ideal S512x1024 .f32) (acc : FVec Ideal S1x1024 .f32) (l : Fin 1024) :
    k0_pay4 (F := Ideal) v131 v133 acc (ix2 0 l) = acc (ix2 0 l)
      + ∑ r : Fin 512, v131 (ix2 r l) * (v133 (ix2 r l) * Ideal.rsqrt (Shared.meanSq Shared.w1024 fun k => v133 (ix2 r k))) := by
  pointwise [k0_pay4, k0_pay2, k0_pay1, Shared.meanSq]

theorem pay_dh (v127 : FVec Ideal S512x3200 .bf16) (v129 : FVec Ideal S1024x3200 .bf16) (r : Fin 512) (l : Fin 1024) :
    k0_pay21 (F := Ideal) v127 v129 (ix2 r l) = ∑ k : Fin 3200, v127 (ix2 r k) * v129 (ix2 l k) := by
  pointwise [k0_pay21]

theorem pay_x (v132 : FVec Ideal S512x1024 .f32) : k0_pay22 (F := Ideal) v132 = v132 := by
  funext y
  idx_vars y
  pointwise [k0_pay22]

/-! ## The convolution's gradient: the rows before and after, with the halo -/

theorem pay_dc (i : grid0.Coords) (v4 v11 : FVec Ideal S16x512 .bf16) (v17 : FVec Ideal S512x512 .bf16) (w0 w1 w2 : FVec Ideal S1x512 .f32)
    (r l : Fin 512) :
    k0_pay8 (F := Ideal) i v4 v11 v17 w0 w1 w2 (ix2 r l)
      = w0 (ix2 0 l) * (if h : r.val = 511 then (if word i = 15#32 then 0 else v11 (ix2 0 l)) else v17 (ix2 ⟨r.val + 1, by omega⟩ l))
        + w1 (ix2 0 l) * v17 (ix2 r l)
        + w2 (ix2 0 l) * (if h : r.val = 0 then (if word i = 0#32 then 0 else v4 (ix2 15 l)) else v17 (ix2 ⟨r.val - 1, by omega⟩ l)) := by
  pointwise [k0_pay8]
  refine congrArg₂ (· + ·) (congrArg (· + _) (congrArg (_ * ·) ?_)) (congrArg (_ * ·) ?_)
  · by_cases hr : r.val = 511
    · rw [dif_neg (by omega), dif_neg (by omega), dif_pos hr, Shared.select_eq]
      simp only [show (8 + r.val + 528 - 527) % 528 - 8 - 512 = 0 by omega]
      split <;> rfl
    · rw [dif_neg (by omega), dif_pos (by omega), dif_neg hr]
      simp only [show (8 + r.val + 528 - 527) % 528 - 8 = r.val + 1 by omega]
  · by_cases hr : r.val = 0
    · rw [dif_pos (by omega), dif_pos hr, Shared.select_eq]
      simp only [show 8 + (8 + r.val + 528 - 1) % 528 = 15 by omega]
      split <;> rfl
    · rw [dif_neg (by omega), dif_pos (by omega), dif_neg hr]
      simp only [show (8 + r.val + 528 - 1) % 528 - 8 = r.val - 1 by omega]

theorem pay_dcv (v35 : FVec Ideal S512x512 .f32) (v67 : FVec Ideal S512x512 .bf16) (r l : Fin 512) :
    k0_pay12 (F := Ideal) v35 v67 (ix2 r l) = v35 (ix2 r l) * v67 (ix2 r l) := by
  pointwise [k0_pay12]
theorem pay_dcg (v35 : FVec Ideal S512x512 .f32) (v73 : FVec Ideal S512x512 .bf16) (r l : Fin 512) :
    k0_pay13 (F := Ideal) v35 v73 (ix2 r l) = v35 (ix2 r l) * v73 (ix2 r l) := by
  pointwise [k0_pay13]

/-! ## The decay's gradient -/

/-- The decay's argument. -/
abbrev pre (v36 : FVec Ideal S512x128 .bf16) (v38 : FVec Ideal S128x512 .bf16) (v41 : FVec Ideal S1x512 .f32) (r l : Fin 512) : EReal :=
  (∑ k : Fin 128, v36 (ix2 r k) * v38 (ix2 k l)) + v41 (ix2 0 l)

theorem pay_dpre (v36 : FVec Ideal S512x128 .bf16) (v38 : FVec Ideal S128x512 .bf16) (v41 : FVec Ideal S1x512 .f32)
    (v45 v47 : FVec Ideal S512x256 .bf16) (r l : Fin 512) :
    k0_pay9 (F := Ideal) v36 v38 v41 v45 v47 (ix2 r l)
      = (if h : l.val < 256 then v45 (ix2 r ⟨l.val, h⟩) else v47 (ix2 r ⟨l.val - 256, by omega⟩)) * Ideal.ofBits .f32 0x3D800000#32
        * (Ideal.ofBits .f32 0x3F800000#32 - Ideal.logistic (pre v36 v38 v41 r l)) := by
  rw [← Shared.half_tanh]
  pointwise [k0_pay9]

theorem pay_low (v63 : FVec Ideal S512x512 .bf16) (v109 : FVec Ideal S128x512 .bf16) (r : Fin 512) (l : Fin 128) :
    k0_pay18 (F := Ideal) v63 v109 (ix2 r l) = ∑ k : Fin 512, v63 (ix2 r k) * v109 (ix2 l k) := by
  pointwise [k0_pay18]

theorem pay_dgcat (v63 : FVec Ideal S512x512 .bf16) (acc : FVec Ideal S128x512 .f32) (v116 : FVec Ideal S512x128 .bf16)
    (i : Fin 128) (l : Fin 512) :
    k0_pay19 (F := Ideal) v63 acc v116 (ix2 i l) = acc (ix2 i l) + ∑ r : Fin 512, v116 (ix2 r i) * v63 (ix2 r l) := by
  pointwise [k0_pay19]

theorem pay_dbias (v62 : FVec Ideal S512x512 .f32) (acc : FVec Ideal S1x512 .f32) (l : Fin 512) :
    k0_pay20 (F := Ideal) v62 acc (ix2 0 l) = acc (ix2 0 l) + ∑ r : Fin 512, v62 (ix2 r l) := by
  pointwise [k0_pay20]

/-! ## What the projection's gradient is put together from -/

theorem pay_q (v79 v82 : FVec Ideal S512x256 .bf16) (r : Fin 512) (l : Fin 256) :
    k0_pay14 (F := Ideal) v79 v82 (ix2 r l) = v79 (ix2 r l) + v82 (ix2 r l) := by
  pointwise [k0_pay14]
theorem pay_k (v88 v91 : FVec Ideal S512x256 .bf16) (r : Fin 512) (l : Fin 256) :
    k0_pay15 (F := Ideal) v88 v91 (ix2 r l) = v88 (ix2 r l) + v91 (ix2 r l) := by
  pointwise [k0_pay15]
theorem pay_v (v97 v100 : FVec Ideal S512x512 .bf16) (r l : Fin 512) :
    k0_pay16 (F := Ideal) v97 v100 (ix2 r l) = v97 (ix2 r l) + v100 (ix2 r l) := by
  pointwise [k0_pay16]
theorem pay_gb (v64 : FVec Ideal S512x512 .bf16) (r l : Fin 512) : k0_pay11 (F := Ideal) v64 (ix2 r l) = v64 (ix2 r l) := by
  pointwise [k0_pay11]
theorem pay_go (v106 : FVec Ideal S512x512 .bf16) (r l : Fin 512) : k0_pay17 (F := Ideal) v106 (ix2 r l) = v106 (ix2 r l) := by
  pointwise [k0_pay17]

theorem zero5 (x) : k0_pay5 (F := Ideal) x = 0 := by
  pointwise [k0_pay5]
theorem zero6 (x) : k0_pay6 (F := Ideal) x = 0 := by
  pointwise [k0_pay6]
theorem zero7 (x) : k0_pay7 (F := Ideal) x = 0 := by
  pointwise [k0_pay7]

end Cert.Mix2Ideal.Final

end
-- ==== Proof.Mix2Ref.lean ====
/- The gradient of the mixer's input side: the derivative's stages at an index. -/
module

public import proofs.«01_k».proof.Proof.Gen.Mix2RefIdeal.Read
public import proofs.«01_k».proof.Proof.LogSig

@[expose] public section

set_option maxRecDepth 16384

noncomputable section

namespace Cert.Mix2RefIdeal.At

open Cert Cert.Mix2RefIdeal Idealize.ShloMosaic
open Cert.Mix2RefIdeal.Read

variable (x0 : FVec Ideal S1x8192x1024 .f32) (x1 : FVec Ideal S1024 .f32) (x2 : FVec Ideal S1024x3104 .f32) (x3 : FVec Ideal S3x512 .f32)
  (x4 : FVec Ideal S16x256 .f32) (x5 : FVec Ideal S256 .f32) (x6 : FVec Ideal S16x256 .f32) (x7 : FVec Ideal S256 .f32)
  (x8 x9 x10 : FVec Ideal S1x8192x512 .f32) (x11 x12 : FVec Ideal S1x8192x256 .f32) (x13 : FVec Ideal S1x8192x512 .f32)
  (x14 x15 x16 : FVec Ideal S1x8192x256 .f32) (x17 : FVec Ideal S1x8192x512 .f32) (x18 : FVec Ideal S1x8192x256 .f32)
  (x19 : FVec Ideal S1x8192x1024 .f32)

theorem sitofp_zero : FloatOps.sitofp (F := Ideal) .f32 0#32 = (0 : EReal) := by
  show (((0#32 : BitVec 32).toInt : ℝ) : EReal) = 0
  simp

/-! ## The norm -/

theorem dh_at (r : Fin 8192) (l : Fin 1024) : val_main_v125 (F := Ideal) x0 x1 x2 x3 x4 x5 x6 x7 x8 x9 x10 x11 x12 x13 x14 x15 x16 x17 x18 (ix3 0 r l) = ∑ k : Fin 3104, val_main_v124 (F := Ideal) x0 x1 x2 x3 x4 x5 x6 x7 x8 x9 x10 x11 x12 x13 x14 x15 x16 x17 x18 (ix3 0 r k) * x2 (ix2 l k) := by
  generalize h124 : val_main_v124 (F := Ideal) x0 x1 x2 x3 x4 x5 x6 x7 x8 x9 x10 x11 x12 x13 x14 x15 x16 x17 x18 = z124
  pointwise [val_main_v125, h124]

theorem share_at (r : Fin 8192) : val_main_v140 (F := Ideal) x0 x1 x2 x3 x4 x5 x6 x7 x8 x9 x10 x11 x12 x13 x14 x15 x16 x17 x18 (ix1 r)
    = Shared.normShare Shared.w1024 (fun k => val_main_v125 (F := Ideal) x0 x1 x2 x3 x4 x5 x6 x7 x8 x9 x10 x11 x12 x13 x14 x15 x16 x17 x18 (ix3 0 r k)) (fun k => x0 (ix3 0 r k)) (fun k => x1 (ix1 k)) := by
  generalize h125 : val_main_v125 (F := Ideal) x0 x1 x2 x3 x4 x5 x6 x7 x8 x9 x10 x11 x12 x13 x14 x15 x16 x17 x18 = z125
  pointwise [val_main_v140]
  rw [Shared.hostSum_mid]
  pointwise [val_main_v139, val_main_v138, val_main_v137, val_main_v134, val_main_v133, val_main_v132, val_main_v130, val_main_v129, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_28, val_main_cst_29, val_main_cst_30, h125, Shared.normShare, Shared.meanSq]

theorem dx_at (r : Fin 8192) (l : Fin 1024) : val_main_v156 (F := Ideal) x0 x1 x2 x3 x4 x5 x6 x7 x8 x9 x10 x11 x12 x13 x14 x15 x16 x17 x18 x19 (ix2 r l) = x19 (ix3 0 r l)
    + Shared.normR Shared.w1024 (fun k => val_main_v125 (F := Ideal) x0 x1 x2 x3 x4 x5 x6 x7 x8 x9 x10 x11 x12 x13 x14 x15 x16 x17 x18 (ix3 0 r k)) (fun k => x0 (ix3 0 r k)) (fun k => x1 (ix1 k)) l := by
  have hs := share_at x0 x1 x2 x3 x4 x5 x6 x7 x8 x9 x10 x11 x12 x13 x14 x15 x16 x17 x18 r
  generalize h140 : val_main_v140 (F := Ideal) x0 x1 x2 x3 x4 x5 x6 x7 x8 x9 x10 x11 x12 x13 x14 x15 x16 x17 x18 = z140 at hs
  generalize h125 : val_main_v125 (F := Ideal) x0 x1 x2 x3 x4 x5 x6 x7 x8 x9 x10 x11 x12 x13 x14 x15 x16 x17 x18 = z125 at hs
  pointwise [val_main_v156, val_main_v155, val_main_v146, val_main_v145, val_main_v144, val_main_v143, val_main_v142, val_main_v141, val_main_v136, val_main_v135, val_main_v130, val_main_v129, val_main_v13, val_main_v7, val_main_v6, val_main_v5, val_main_v4, val_main_v3, val_main_v2, val_main_v1, val_main_v0, val_main_cst, val_main_cst_0, val_main_cst_1, h140, h125, Shared.normR, Shared.meanSq]
  rw [hs]

theorem dg_at (l : Fin 1024) : val_main_v157 (F := Ideal) x0 x1 x2 x3 x4 x5 x6 x7 x8 x9 x10 x11 x12 x13 x14 x15 x16 x17 x18 (ix2 0 l)
    = ∑ r : Fin 8192, x0 (ix3 0 r l) * Ideal.rsqrt (Shared.meanSq Shared.w1024 fun k => x0 (ix3 0 r k)) * val_main_v125 (F := Ideal) x0 x1 x2 x3 x4 x5 x6 x7 x8 x9 x10 x11 x12 x13 x14 x15 x16 x17 x18 (ix3 0 r l) := by
  generalize h125 : val_main_v125 (F := Ideal) x0 x1 x2 x3 x4 x5 x6 x7 x8 x9 x10 x11 x12 x13 x14 x15 x16 x17 x18 = z125
  pointwise [val_main_v157, val_main_v131]
  rw [Shared.hostSum_last]
  pointwise [val_main_v128, val_main_v127, val_main_v126, val_main_v12, val_main_v11, val_main_v7, val_main_v6, val_main_v5, val_main_v4, val_main_v3, val_main_v2, val_main_v1, val_main_v0, val_main_cst, val_main_cst_0, val_main_cst_1, val_main_cst_26, val_main_cst_27, h125, Shared.meanSq]

/-! ## The convolution -/

theorem dc_at (r : Fin 8192) (l : Fin 512) : val_main_v120 (F := Ideal) x3 x9 (ix3 0 r l)
    = x3 (ix2 2 l) * (if h : r.val = 0 then 0 else x9 (ix3 0 ⟨r.val - 1, by omega⟩ l)) + x3 (ix2 1 l) * x9 (ix3 0 r l)
      + x3 (ix2 0 l) * (if h : r.val = 8191 then 0 else x9 (ix3 0 ⟨r.val + 1, by omega⟩ l)) := by
  pointwise [val_main_v120, val_main_v115, val_main_v114, val_main_v109, val_main_v108, val_main_v104, val_main_v103, val_main_v98, val_main_v97, val_main_v94, val_main_v89, val_main_v88, val_main_v87, val_main_v86, val_main_v50, val_main_v48, val_main_v47, val_main_v43, val_main_v41, val_main_v40, val_main_v37, val_main_v35, val_main_v34, val_main_cst_16, val_main_cst_20, val_main_cst_24]
  refine congrArg₂ (· + ·) (congrArg (· + _) ?_) ?_
  · by_cases h : r.val = 0
    · rw [dif_neg (by omega), dif_pos h, mul_zero]
    · rw [dif_pos (by omega), dif_neg h]
      simp only [show 1 + r.val - 2 = r.val - 1 by omega]
  · by_cases h : r.val = 8191
    · rw [dif_neg (by omega), dif_pos h, mul_zero]
    · rw [dif_pos (by omega), dif_neg h]
      simp only [Nat.add_comm 1 r.val]

theorem dcv_at (r : Fin 8192) (l : Fin 512) :
    val_main_v123 (F := Ideal) x0 x1 x2 x3 x9 (ix3 0 r l) = val_main_v120 (F := Ideal) x3 x9 (ix3 0 r l) * val_main_v16 (F := Ideal) x0 x1 x2 (ix3 0 r ⟨1024 + l.val, by omega⟩) := by
  generalize h120 : val_main_v120 (F := Ideal) x3 x9 = z120
  generalize h16 : val_main_v16 (F := Ideal) x0 x1 x2 = z16
  pointwise [val_main_v123, val_main_v22, h120, h16]
theorem dcg_at (r : Fin 8192) (l : Fin 512) :
    val_main_v122 (F := Ideal) x0 x1 x2 x3 x9 (ix3 0 r l) = val_main_v16 (F := Ideal) x0 x1 x2 (ix3 0 r ⟨512 + l.val, by omega⟩) * val_main_v120 (F := Ideal) x3 x9 (ix3 0 r l) := by
  generalize h120 : val_main_v120 (F := Ideal) x3 x9 = z120
  generalize h16 : val_main_v16 (F := Ideal) x0 x1 x2 = z16
  pointwise [val_main_v122, val_main_v21, h120, h16]

/-! ## The decay -/

theorem preF_at (r : Fin 8192) (l : Fin 256) :
    val_main_v57 (F := Ideal) x0 x1 x2 x4 x5 (ix3 0 r l) = (∑ k : Fin 16, val_main_v16 (F := Ideal) x0 x1 x2 (ix3 0 r ⟨3072 + k.val, by omega⟩) * x4 (ix2 k l)) + x5 (ix1 l) := by
  generalize h16 : val_main_v16 (F := Ideal) x0 x1 x2 = z16
  pointwise [val_main_v57, val_main_v56, val_main_v55, val_main_v54, val_main_v27, h16]
theorem preB_at (r : Fin 8192) (l : Fin 256) :
    val_main_v64 (F := Ideal) x0 x1 x2 x6 x7 (ix3 0 r l) = (∑ k : Fin 16, val_main_v16 (F := Ideal) x0 x1 x2 (ix3 0 r ⟨3088 + k.val, by omega⟩) * x6 (ix2 k l)) + x7 (ix1 l) := by
  generalize h16 : val_main_v16 (F := Ideal) x0 x1 x2 = z16
  pointwise [val_main_v64, val_main_v63, val_main_v62, val_main_v61, val_main_v28, h16]

theorem softplus_v57 (i : S1x8192x256.Idx) : val_main_call0_v1_0 (F := Ideal) x0 x1 x2 x4 x5 i = Shared.softplus (-(val_main_v57 (F := Ideal) x0 x1 x2 x4 x5 i)) := by
  generalize h57 : val_main_v57 (F := Ideal) x0 x1 x2 x4 x5 = z57
  pointwise [val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_v0, h57]
  exact if_neg fun h => h rfl
theorem grad_v57 (i : S1x8192x256.Idx) : val_main_v58_1 (F := Ideal) x0 x1 x2 x4 x5 i = Shared.softplusGrad (-(val_main_v57 (F := Ideal) x0 x1 x2 x4 x5 i)) := by
  have hs := softplus_v57 x0 x1 x2 x4 x5 i
  generalize hsp : val_main_call0_v1_0 (F := Ideal) x0 x1 x2 x4 x5 = sp at hs
  generalize h57 : val_main_v57 (F := Ideal) x0 x1 x2 x4 x5 = z57 at hs
  unfold Shared.softplusGrad
  rw [← hs, ← Shared.c_inf, ← Shared.c_zero]
  pointwise [val_main_v58_1, val_main_call0_call0_v21, val_main_call0_call0_v20, val_main_call0_call0_v19, val_main_call0_call0_v18, val_main_call0_call0_v17, val_main_call0_call0_v16,
    val_main_call0_call0_v15, val_main_call0_call0_v14, val_main_call0_call0_v13, val_main_call0_call0_cst_0, val_main_call0_call0_cst_1, val_main_call0_call0_cst_2, val_main_call0_call0_cst_3,
    val_main_call0_v0, hsp, h57]

theorem softplus_v64 (i : S1x8192x256.Idx) : val_main_call1_v1_0 (F := Ideal) x0 x1 x2 x6 x7 i = Shared.softplus (-(val_main_v64 (F := Ideal) x0 x1 x2 x6 x7 i)) := by
  generalize h64 : val_main_v64 (F := Ideal) x0 x1 x2 x6 x7 = z64
  pointwise [val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1_0, val_main_call1_v0, h64]
  exact if_neg fun h => h rfl
theorem grad_v64 (i : S1x8192x256.Idx) : val_main_v65_1 (F := Ideal) x0 x1 x2 x6 x7 i = Shared.softplusGrad (-(val_main_v64 (F := Ideal) x0 x1 x2 x6 x7 i)) := by
  have hs := softplus_v64 x0 x1 x2 x6 x7 i
  generalize hsp : val_main_call1_v1_0 (F := Ideal) x0 x1 x2 x6 x7 = sp at hs
  generalize h64 : val_main_v64 (F := Ideal) x0 x1 x2 x6 x7 = z64 at hs
  unfold Shared.softplusGrad
  rw [← hs, ← Shared.c_inf, ← Shared.c_zero]
  pointwise [val_main_v65_1, val_main_call1_call0_v21, val_main_call1_call0_v20, val_main_call1_call0_v19, val_main_call1_call0_v18, val_main_call1_call0_v17, val_main_call1_call0_v16,
    val_main_call1_call0_v15, val_main_call1_call0_v14, val_main_call1_call0_v13, val_main_call1_call0_cst_0, val_main_call1_call0_cst_1, val_main_call1_call0_cst_2, val_main_call1_call0_cst_3,
    val_main_call1_v0, hsp, h64]

theorem dpreF_at (r : Fin 8192) (l : Fin 256) : val_main_v79 (F := Ideal) x0 x1 x2 x4 x5 x14 (ix3 0 r l)
    = Ideal.div (x14 (ix3 0 r l)) (Ideal.ofBits .f32 0x41800000#32) * (Ideal.ofBits .f32 0x3F800000#32 - Ideal.logistic (val_main_v57 (F := Ideal) x0 x1 x2 x4 x5 (ix3 0 r l))) := by
  rw [← Shared.softplusGrad_neg, ← grad_v57]
  generalize h58_1 : val_main_v58_1 (F := Ideal) x0 x1 x2 x4 x5 = z58_1
  pointwise [val_main_v79, val_main_call3_v1, val_main_call3_v0, val_main_v78, val_main_v77, val_main_cst_11, h58_1]
  rw [neg_mul, neg_neg]
theorem dpreB_at (r : Fin 8192) (l : Fin 256) : val_main_v70 (F := Ideal) x0 x1 x2 x6 x7 x18 (ix3 0 r l)
    = Ideal.div (x18 (ix3 0 r l)) (Ideal.ofBits .f32 0x41800000#32) * (Ideal.ofBits .f32 0x3F800000#32 - Ideal.logistic (val_main_v64 (F := Ideal) x0 x1 x2 x6 x7 (ix3 0 r l))) := by
  rw [← Shared.softplusGrad_neg, ← grad_v64]
  generalize h65_1 : val_main_v65_1 (F := Ideal) x0 x1 x2 x6 x7 = z65_1
  pointwise [val_main_v70, val_main_call2_v1, val_main_call2_v0, val_main_v69, val_main_v68, val_main_cst_8, h65_1]
  rw [neg_mul, neg_neg]

theorem lowF_at (r : Fin 8192) (k : Fin 16) : val_main_v85 (F := Ideal) x0 x1 x2 x4 x5 x14 (ix3 0 r k) = ∑ l : Fin 256, val_main_v79 (F := Ideal) x0 x1 x2 x4 x5 x14 (ix3 0 r l) * x4 (ix2 k l) := by
  generalize h79 : val_main_v79 (F := Ideal) x0 x1 x2 x4 x5 x14 = z79
  pointwise [val_main_v85, h79]
theorem lowB_at (r : Fin 8192) (k : Fin 16) : val_main_v76 (F := Ideal) x0 x1 x2 x6 x7 x18 (ix3 0 r k) = ∑ l : Fin 256, val_main_v70 (F := Ideal) x0 x1 x2 x6 x7 x18 (ix3 0 r l) * x6 (ix2 k l) := by
  generalize h70 : val_main_v70 (F := Ideal) x0 x1 x2 x6 x7 x18 = z70
  pointwise [val_main_v76, h70]
theorem upF_at (k : Fin 16) (l : Fin 256) :
    val_main_v84 (F := Ideal) x0 x1 x2 x4 x5 x14 (ix2 k l) = ∑ r : Fin 8192, val_main_v16 (F := Ideal) x0 x1 x2 (ix3 0 r ⟨3072 + k.val, by omega⟩) * val_main_v79 (F := Ideal) x0 x1 x2 x4 x5 x14 (ix3 0 r l) := by
  generalize h79 : val_main_v79 (F := Ideal) x0 x1 x2 x4 x5 x14 = z79
  generalize h16 : val_main_v16 (F := Ideal) x0 x1 x2 = z16
  pointwise [val_main_v84, val_main_v83, val_main_v27, h79, h16]
  rw [Fin.sum_univ_one]
  exact Finset.sum_congr rfl fun r _ => EReal.mul_comm _ _
theorem upB_at (k : Fin 16) (l : Fin 256) :
    val_main_v75 (F := Ideal) x0 x1 x2 x6 x7 x18 (ix2 k l) = ∑ r : Fin 8192, val_main_v16 (F := Ideal) x0 x1 x2 (ix3 0 r ⟨3088 + k.val, by omega⟩) * val_main_v70 (F := Ideal) x0 x1 x2 x6 x7 x18 (ix3 0 r l) := by
  generalize h70 : val_main_v70 (F := Ideal) x0 x1 x2 x6 x7 x18 = z70
  generalize h16 : val_main_v16 (F := Ideal) x0 x1 x2 = z16
  pointwise [val_main_v75, val_main_v74, val_main_v28, h70, h16]
  rw [Fin.sum_univ_one]
  exact Finset.sum_congr rfl fun r _ => EReal.mul_comm _ _
theorem biasF_at (l : Fin 256) : val_main_v82 (F := Ideal) x0 x1 x2 x4 x5 x14 (ix1 l) = ∑ r : Fin 8192, val_main_v79 (F := Ideal) x0 x1 x2 x4 x5 x14 (ix3 0 r l) := by
  generalize h79 : val_main_v79 (F := Ideal) x0 x1 x2 x4 x5 x14 = z79
  pointwise [val_main_v82]
  rw [Shared.hostSum_last]
  pointwise [val_main_v81, val_main_v80, val_main_cst_12, val_main_cst_13, h79]
theorem biasB_at (l : Fin 256) : val_main_v73 (F := Ideal) x0 x1 x2 x6 x7 x18 (ix1 l) = ∑ r : Fin 8192, val_main_v70 (F := Ideal) x0 x1 x2 x6 x7 x18 (ix3 0 r l) := by
  generalize h70 : val_main_v70 (F := Ideal) x0 x1 x2 x6 x7 x18 = z70
  pointwise [val_main_v73]
  rw [Shared.hostSum_last]
  pointwise [val_main_v72, val_main_v71, val_main_cst_9, val_main_cst_10, h70]

/-! ## The results -/

theorem out_upF (i : Fin 128) (l : Fin 512) (hi : i.val < 16) (hl : l.val < 256) : val_main_v158 (F := Ideal) x0 x1 x2 x4 x5 x6 x7 x14 x18 (ix2 i l) = val_main_v84 (F := Ideal) x0 x1 x2 x4 x5 x14 (ix2 ⟨i.val, hi⟩ ⟨l.val, hl⟩) := by
  generalize h84 : val_main_v84 (F := Ideal) x0 x1 x2 x4 x5 x14 = z84
  generalize h75 : val_main_v75 (F := Ideal) x0 x1 x2 x6 x7 x18 = z75
  pointwise [val_main_v158, val_main_v149, val_main_v148, val_main_v147, h84, h75]
  rw [dif_pos (by omega), dif_pos hi]
  exact dif_pos ⟨hi, hl⟩
theorem out_upB (i : Fin 128) (l : Fin 512) (hi : 16 ≤ i.val) (hj : i.val < 32) (hl : 256 ≤ l.val) :
    val_main_v158 (F := Ideal) x0 x1 x2 x4 x5 x6 x7 x14 x18 (ix2 i l) = val_main_v75 (F := Ideal) x0 x1 x2 x6 x7 x18 (ix2 ⟨i.val - 16, by omega⟩ ⟨l.val - 256, by omega⟩) := by
  generalize h84 : val_main_v84 (F := Ideal) x0 x1 x2 x4 x5 x14 = z84
  generalize h75 : val_main_v75 (F := Ideal) x0 x1 x2 x6 x7 x18 = z75
  pointwise [val_main_v158, val_main_v149, val_main_v148, val_main_v147, h84, h75]
  rw [dif_pos (by omega), dif_neg (by omega)]
  exact dif_pos ⟨by omega, hl, by omega⟩
theorem out_up_pad (i : Fin 128) (l : Fin 512) (hi : 32 ≤ i.val) : val_main_v158 (F := Ideal) x0 x1 x2 x4 x5 x6 x7 x14 x18 (ix2 i l) = 0 := by
  generalize h149 : val_main_v149 (F := Ideal) x0 x1 x2 x4 x5 x6 x7 x14 x18 = z149
  pointwise [val_main_v158, val_main_call7_v0, val_main_c_33, h149]
  rw [dif_neg (by omega)]
  exact sitofp_zero

theorem out_bias (l : Fin 512) : val_main_v159 (F := Ideal) x0 x1 x2 x4 x5 x6 x7 x14 x18 (ix2 0 l)
    = if h : l.val < 256 then val_main_v82 (F := Ideal) x0 x1 x2 x4 x5 x14 (ix1 ⟨l.val, h⟩) else val_main_v73 (F := Ideal) x0 x1 x2 x6 x7 x18 (ix1 ⟨l.val - 256, by omega⟩) := by
  generalize h82 : val_main_v82 (F := Ideal) x0 x1 x2 x4 x5 x14 = z82
  generalize h73 : val_main_v73 (F := Ideal) x0 x1 x2 x6 x7 x18 = z73
  pointwise [val_main_v159, val_main_v151, val_main_v150, h82, h73]
theorem out_bias_pad (i : Fin 8) (hi : i.val ≠ 0) (l : Fin 512) : val_main_v159 (F := Ideal) x0 x1 x2 x4 x5 x6 x7 x14 x18 (ix2 i l) = 0 := by
  generalize h151 : val_main_v151 (F := Ideal) x0 x1 x2 x4 x5 x6 x7 x14 x18 = z151
  pointwise [val_main_v159, val_main_call8_v0, val_main_c_34, h151]
  rw [dif_neg (by omega)]
  exact sitofp_zero

theorem out_proj (r : Fin 8192) (k : Fin 3200) :
    val_main_v154 (F := Ideal) x0 x1 x2 x3 x4 x5 x6 x7 x8 x9 x10 x11 x12 x13 x14 x15 x16 x17 x18 (ix2 r k) = if h : k.val < 3104 then val_main_v124 (F := Ideal) x0 x1 x2 x3 x4 x5 x6 x7 x8 x9 x10 x11 x12 x13 x14 x15 x16 x17 x18 (ix3 0 r ⟨k.val, h⟩) else 0 := by
  generalize h124 : val_main_v124 (F := Ideal) x0 x1 x2 x3 x4 x5 x6 x7 x8 x9 x10 x11 x12 x13 x14 x15 x16 x17 x18 = z124
  pointwise [val_main_v154, val_main_v153, val_main_v152, val_main_call6_v0, val_main_c_32, h124]
  by_cases h : k.val < 3104
  · rw [dif_pos h, dif_pos h]
  · rw [dif_neg h, dif_neg h]
    exact sitofp_zero

/-- The projected rows' gradient, by its columns. -/
theorem cat_at (r : Fin 8192) (k : Fin 3104) : val_main_v124 (F := Ideal) x0 x1 x2 x3 x4 x5 x6 x7 x8 x9 x10 x11 x12 x13 x14 x15 x16 x17 x18 (ix3 0 r k)
    = if h0 : k.val < 512 then x8 (ix3 0 r ⟨k.val, h0⟩)
      else if h1 : k.val < 1024 then val_main_v123 (F := Ideal) x0 x1 x2 x3 x9 (ix3 0 r ⟨k.val - 512, by omega⟩)
      else if h2 : k.val < 1536 then val_main_v122 (F := Ideal) x0 x1 x2 x3 x9 (ix3 0 r ⟨k.val - 1024, by omega⟩)
      else if h3 : k.val < 1792 then x11 (ix3 0 r ⟨k.val - 1536, by omega⟩) + x15 (ix3 0 r ⟨k.val - 1536, by omega⟩)
      else if h4 : k.val < 2048 then x12 (ix3 0 r ⟨k.val - 1792, by omega⟩) + x16 (ix3 0 r ⟨k.val - 1792, by omega⟩)
      else if h5 : k.val < 2560 then x13 (ix3 0 r ⟨k.val - 2048, by omega⟩) + x17 (ix3 0 r ⟨k.val - 2048, by omega⟩)
      else if h6 : k.val < 3072 then x10 (ix3 0 r ⟨k.val - 2560, by omega⟩)
      else if h7 : k.val < 3088 then val_main_v85 (F := Ideal) x0 x1 x2 x4 x5 x14 (ix3 0 r ⟨k.val - 3072, by omega⟩)
      else val_main_v76 (F := Ideal) x0 x1 x2 x6 x7 x18 (ix3 0 r ⟨k.val - 3088, by omega⟩) := by
  generalize h123 : val_main_v123 (F := Ideal) x0 x1 x2 x3 x9 = z123
  generalize h122 : val_main_v122 (F := Ideal) x0 x1 x2 x3 x9 = z122
  generalize h85 : val_main_v85 (F := Ideal) x0 x1 x2 x4 x5 x14 = z85
  generalize h76 : val_main_v76 (F := Ideal) x0 x1 x2 x6 x7 x18 = z76
  pointwise [val_main_v124, val_main_v19, val_main_v18, val_main_v17, h123, h122, h85, h76]
  simp only [Nat.sub_sub, Nat.reduceAdd]
  refine dite_congr rfl (fun _ => rfl) fun _ => ?_
  refine dite_congr (propext (by omega)) (fun _ => rfl) fun _ => ?_
  refine dite_congr (propext (by omega)) (fun _ => rfl) fun _ => ?_
  refine dite_congr (propext (by omega)) (fun _ => rfl) fun _ => ?_
  refine dite_congr (propext (by omega)) (fun _ => rfl) fun _ => ?_
  refine dite_congr (propext (by omega)) (fun _ => rfl) fun _ => ?_
  refine dite_congr (propext (by omega)) (fun _ => rfl) fun _ => ?_
  refine dite_congr (propext (by omega)) (fun _ => rfl) fun _ => ?_
  rfl

end Cert.Mix2RefIdeal.At

end
-- ==== Proof.Cols.lean ====
/- Buffers written a block of columns at a time, and sums over a window of their columns. -/
module

public import proofs.«01_k».proof.Proof.Rows

@[expose] public section

noncomputable section

namespace Cert.Cols

open Idealize.ShloMosaic

variable {m n : ℕ} {Val : EltTy → Type} [∀ e, Nonempty (Val e)] {sig : RefSig} {κ : Kind} {sp : Space} {e : EltTy}

/-- Blocks of columns in what a list of pieces leaves: a column under the newest piece, and one beside it. -/
theorem canon_hit (o : ℕ) {w : ℕ} (inb) (x : (⟨2, ![m, w]⟩ : Shape).Idx → Val e) (L : List (View.Piece Val (⟨2, ![m, n]⟩ : Shape) e)) (i : Fin m)
    (l : Fin n) (h : o ≤ l.val) (h' : l.val < o + w) :
    View.canon ((⟨Rect.unit (s := ⟨2, ![m, n]⟩) ![0, o] ![m, w] inb, x⟩ : View.Piece Val (⟨2, ![m, n]⟩ : Shape) e) :: L) (ix2 i l)
      = x (ix2 i ⟨l.val - o, by omega⟩) := by
  have he : (Rect.unit (s := ⟨2, ![m, n]⟩) ![0, o] ![m, w] inb).emb (ix2 i (⟨l.val - o, by omega⟩ : Fin w)) = ix2 i l := by
    funext a
    match a with
    | ⟨0, _⟩ => exact Fin.ext (by show 0 + 1 * i.val = i.val; omega)
    | ⟨1, _⟩ => exact Fin.ext (by show o + 1 * (l.val - o) = l.val; omega)
  exact (congrArg (View.canon _) he.symm).trans (View.canon_cons_emb (Rect.unit (s := ⟨2, ![m, n]⟩) ![0, o] ![m, w] inb) x L _)

theorem canon_miss (o : ℕ) {w : ℕ} (inb) (x : (⟨2, ![m, w]⟩ : Shape).Idx → Val e) (L : List (View.Piece Val (⟨2, ![m, n]⟩ : Shape) e)) (i : Fin m)
    (l : Fin n) (h : l.val < o ∨ o + w ≤ l.val) :
    View.canon ((⟨Rect.unit (s := ⟨2, ![m, n]⟩) ![0, o] ![m, w] inb, x⟩ : View.Piece Val (⟨2, ![m, n]⟩ : Shape) e) :: L) (ix2 i l)
      = View.canon L (ix2 i l) := by
  refine View.canon_cons_of_not_mem _ L ?_
  rw [Rect.mem_set_unit]
  intro hall
  have := hall 1
  change o ≤ l.val ∧ l.val < o + w at this
  omega

/-- The whole buffer read back from the pieces. -/
theorem readCov_whole (v : View sig κ sp (⟨2, ![m, n]⟩ : Shape) e) (inb) (L : List (View.Piece Val (⟨2, ![m, n]⟩ : Shape) e)) :
    v.readCov L (Rect.unit (s := ⟨2, ![m, n]⟩) ![0, 0] ![m, n] inb).toLoadRect = View.canon L := by
  rw [View.readCov_eq_canon']
  funext y
  refine congrArg (View.canon L) (funext fun a => ?_)
  match a with
  | ⟨0, _⟩ => exact Fin.ext (by show 0 + 1 * (y 0).val = (y 0).val; omega)
  | ⟨1, _⟩ => exact Fin.ext (by show 0 + 1 * (y 1).val = (y 1).val; omega)

/-- A sum whose terms vanish outside a window is the window's. -/
theorem sum_window {n : ℕ} (o w : ℕ) (h : o + w ≤ n) (f : Fin n → EReal) (hf : ∀ k : Fin n, k.val < o ∨ o + w ≤ k.val → f k = 0) :
    ∑ k : Fin n, f k = ∑ k : Fin w, f ⟨o + k.val, by omega⟩ := by
  refine (Fintype.sum_of_injective (fun k : Fin w => (⟨o + k.val, by omega⟩ : Fin n)) (fun a b hab => ?_) _ _ (fun k hk => hf k ?_) fun _ => rfl).symm
  · have := congrArg Fin.val hab
    exact Fin.ext (by dsimp only at this; omega)
  · by_contra hc
    exact hk ⟨⟨k.val - o, by omega⟩, Fin.ext (by show o + (k.val - o) = k.val; omega)⟩

end Cert.Cols

end
-- ==== Proof.Mix2Tile.lean ====
/- The gradient of the mixer's input side: a tile's values are the derivative's at the tile's rows. -/
module

public import proofs.«01_k».proof.Proof.Mix2Pay
public import proofs.«01_k».proof.Proof.Mix2Ref
public import proofs.«01_k».proof.Proof.Cols

@[expose] public section

set_option maxRecDepth 16384

noncomputable section

namespace Cert.Mix2Ideal.Final

open Cert Cert.Mix2Ideal Cert.Mix2Ideal.Gen Cert.Mix2Ideal.Run Idealize.ShloMosaic Idealize.ShloMosaic.TcCoe Idealize.SL.Sem
open Idealize.ShloMosaic.Pipeline (Dat)
open Cert.Mix2RefIdeal.Read Cert.Mix2RefIdeal.At

variable (m : (ℓ : Loc nD τ sig) → Buf (Elt Ideal) ℓ)

/-- The derivative's stages at the kernel's arguments. -/
abbrev r16 (c : Dev nD) := val_main_v16 (F := Ideal) (a0 m c) (a1 m c) (a2 m c)
abbrev r57 (c : Dev nD) := val_main_v57 (F := Ideal) (a0 m c) (a1 m c) (a2 m c) (a4 m c) (a5 m c)
abbrev r64 (c : Dev nD) := val_main_v64 (F := Ideal) (a0 m c) (a1 m c) (a2 m c) (a6 m c) (a7 m c)
abbrev r70 (c : Dev nD) := val_main_v70 (F := Ideal) (a0 m c) (a1 m c) (a2 m c) (a6 m c) (a7 m c) (a18 m c)
abbrev r76 (c : Dev nD) := val_main_v76 (F := Ideal) (a0 m c) (a1 m c) (a2 m c) (a6 m c) (a7 m c) (a18 m c)
abbrev r79 (c : Dev nD) := val_main_v79 (F := Ideal) (a0 m c) (a1 m c) (a2 m c) (a4 m c) (a5 m c) (a14 m c)
abbrev r85 (c : Dev nD) := val_main_v85 (F := Ideal) (a0 m c) (a1 m c) (a2 m c) (a4 m c) (a5 m c) (a14 m c)
abbrev r120 (c : Dev nD) := val_main_v120 (F := Ideal) (a3 m c) (a9 m c)
abbrev r125 (c : Dev nD) := val_main_v125 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
abbrev r154 (c : Dev nD) := val_main_v154 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)

theorem word_zero : ∀ t : Fin cfg0.N, word (grid0.coords t) = 0#32 ↔ t.val = 0 := (by decide +kernel : ∀ t : Fin grid0.N, _)
theorem word_last : ∀ t : Fin cfg0.N, word (grid0.coords t) = 15#32 ↔ t.val = 15 := (by decide +kernel : ∀ t : Fin grid0.N, _)

variable (c : Dev nD) (t : Fin cfg0.N)

/-- The tile's values as the kernel names them. -/
abbrev tDc := k0_pay8 (F := Ideal) (grid0.coords t) (iblk m c 2 t) (iblk m c 3 t) (iblk m c 1 t)
  (View.ld (iblk m c 16 t) (Rect.unit ![0, 0] ![1, 512] inb_S3x512_S1x512_0_0))
  (View.ld (iblk m c 16 t) (Rect.unit ![1, 0] ![1, 512] inb_S3x512_S1x512_1_0))
  (View.ld (iblk m c 16 t) (Rect.unit ![2, 0] ![1, 512] inb_S3x512_S1x512_2_0))
abbrev tDpre := k0_pay9 (F := Ideal) (iblk m c 15 t) (iblk m c 17 t) (iblk m c 18 t) (iblk m c 8 t) (iblk m c 12 t)
abbrev tDpre' := k0_pay10 (F := Ideal) (iblk m c 15 t) (iblk m c 17 t) (iblk m c 18 t) (iblk m c 8 t) (iblk m c 12 t)

theorem tap_row (o : ℕ) (ho : o < 3) (inb) (l : Fin 512) :
    View.ld (iblk m c 16 t) (Rect.unit (s := S3x512) ![o, 0] ![1, 512] inb) (ix2 0 l) = a3 m c (ix2 ⟨o, ho⟩ l) :=
  (Rows.ld_row (Val := Elt Ideal) (e := .f32) (iblk m c 16 t) o ho inb l).trans (blk16 m c t _ l)

theorem tNext_at (r l : Fin 512) :
    (if h : r.val = 511 then (if word (grid0.coords t) = 15#32 then (0 : EReal) else iblk m c 3 t (ix2 0 l)) else iblk m c 1 t (ix2 ⟨r.val + 1, by omega⟩ l))
      = (if h : t.val * 512 + r.val = 8191 then 0 else a9 m c (ix3 0 ⟨t.val * 512 + r.val + 1, by have := row_lt t r; omega⟩ l) : EReal) := by
  have hN := row_lt t r
  by_cases hr : r.val = 511
  · rw [dif_pos hr]
    by_cases ht : t.val = 15
    · rw [if_pos ((word_last t).mpr ht), dif_pos (by omega)]
    · rw [if_neg (fun h => ht ((word_last t).mp h)), dif_neg (by omega), blk3 m c t (by omega)]
      simp only [hr, Nat.add_assoc]
  · rw [dif_neg hr, dif_neg (by omega), blk1]
    simp only [Nat.add_assoc]

theorem tPrev_at (r l : Fin 512) :
    (if h : r.val = 0 then (if word (grid0.coords t) = 0#32 then (0 : EReal) else iblk m c 2 t (ix2 15 l)) else iblk m c 1 t (ix2 ⟨r.val - 1, by omega⟩ l))
      = (if h : t.val * 512 + r.val = 0 then 0 else a9 m c (ix3 0 ⟨t.val * 512 + r.val - 1, by have := row_lt t r; omega⟩ l) : EReal) := by
  by_cases hr : r.val = 0
  · rw [dif_pos hr]
    by_cases ht : t.val = 0
    · rw [if_pos ((word_zero t).mpr ht), dif_pos (by omega)]
    · rw [if_neg (fun h => ht ((word_zero t).mp h)), dif_neg (by omega), blk2 m c t ht]
      simp only [hr, Nat.add_zero]
  · rw [dif_neg hr, dif_neg (by omega), blk1]
    simp only [Nat.add_sub_assoc (show 1 ≤ r.val by omega)]

theorem tDc_at (r l : Fin 512) : tDc m c t (ix2 r l) = r120 m c (ix3 0 (rowOf t r) l) := by
  refine (pay_dc _ _ _ _ _ _ _ r l).trans (Eq.trans ?_ (dc_at _ _ _ _).symm)
  rw [tap_row m c t 0 (by omega) _ l, tap_row m c t 1 (by omega) _ l, tap_row m c t 2 (by omega) _ l]
  refine (add_assoc _ _ _).trans ((add_comm _ _).trans (congrArg₂ (· + ·) ((add_comm _ _).trans ?_) ?_))
  · exact congrArg₂ (· + ·) (congrArg (fun z : EReal => _ * z) (tPrev_at m c t r l)) (congrArg (fun z : EReal => _ * z) (blk1 m c t r l))
  · exact congrArg (fun z : EReal => _ * z) (tNext_at m c t r l)

/-! ## The decay -/

theorem lr_at (r : Fin 512) (k : Fin 128) (hk : k.val < 32) :
    iblk m c 15 t (ix2 r k) = r16 m c (ix3 0 (rowOf t r) ⟨3072 + k.val, by omega⟩) :=
  (blk15 m c t r k).trans ((V_p m c _ _).trans (dif_pos (by show 3072 + k.val < 3104; omega)))
theorem lr_pad (r : Fin 512) (k : Fin 128) (hk : 32 ≤ k.val) : iblk m c 15 t (ix2 r k) = (0 : EReal) :=
  (blk15 m c t r k).trans ((V_p m c _ _).trans (dif_neg (by show ¬3072 + k.val < 3104; omega)))

theorem up_fwd (k : Fin 16) (l : Fin 256) (h h') : iblk m c 17 t (ix2 ⟨0 + k.val, h⟩ ⟨0 + l.val, h'⟩) = a4 m c (ix2 k l) := by
  refine (blk17 m c t _ _).trans ((V_gcat m c _ _).trans ((dif_pos ⟨by show 0 + k.val < 16; omega, by show 0 + l.val < 256; omega⟩).trans ?_))
  simp only [Nat.zero_add]
theorem up_bwd (k : Fin 16) (l : Fin 256) (h h') : iblk m c 17 t (ix2 ⟨16 + k.val, h⟩ ⟨256 + l.val, h'⟩) = a6 m c (ix2 k l) := by
  refine (blk17 m c t _ _).trans ((V_gcat m c _ _).trans ((dif_neg (fun h => by have := h.1; change 16 + k.val < 16 at this; omega)).trans
    ((dif_pos ⟨by show 16 ≤ 16 + k.val; omega, by show 16 + k.val < 32; omega, by show 256 ≤ 256 + l.val; omega⟩).trans ?_)))
  simp only [Nat.add_sub_cancel_left]
theorem up_off (k : Fin 128) (l : Fin 512) (h : ¬(k.val < 16 ∧ l.val < 256))
    (h' : ¬(16 ≤ k.val ∧ k.val < 32 ∧ 256 ≤ l.val)) : iblk m c 17 t (ix2 k l) = (0 : EReal) :=
  (blk17 m c t _ _).trans ((V_gcat m c _ _).trans ((dif_neg h).trans (dif_neg h')))

theorem pre_fwd (r : Fin 512) (l : Fin 256) (h) :
    pre (iblk m c 15 t) (iblk m c 17 t) (iblk m c 18 t) r ⟨0 + l.val, h⟩ = r57 m c (ix3 0 (rowOf t r) l) := by
  refine Eq.trans ?_ (preF_at _ _ _ _ _ _ _).symm
  refine congrArg₂ (· + ·) ?_ ?_
  · refine (Cols.sum_window 0 16 (by omega) _ fun k hk => ?_).trans (Finset.sum_congr rfl fun k _ => ?_)
    · rw [up_off m c t k _ (by omega) (fun h => by have := h.2.2; change 256 ≤ 0 + l.val at this; omega), mul_zero]
    · rw [up_fwd, lr_at m c t r _ (by show 0 + k.val < 32; omega)]
      simp only [Nat.zero_add]
  · refine (blk18 m c t _).trans ((V_bias m c _).trans ((dif_pos (by show 0 + l.val < 256; omega)).trans ?_))
    simp only [Nat.zero_add]
theorem pre_bwd (r : Fin 512) (l : Fin 256) (h) :
    pre (iblk m c 15 t) (iblk m c 17 t) (iblk m c 18 t) r ⟨256 + l.val, h⟩ = r64 m c (ix3 0 (rowOf t r) l) := by
  refine Eq.trans ?_ (preB_at _ _ _ _ _ _ _).symm
  refine congrArg₂ (· + ·) ?_ ?_
  · refine (Cols.sum_window 16 16 (by omega) _ fun k hk => ?_).trans (Finset.sum_congr rfl fun k _ => ?_)
    · rw [up_off m c t k _ (fun h => by have := h.2; change 256 + l.val < 256 at this; omega) (by omega), mul_zero]
    · rw [up_bwd, lr_at m c t r _ (by show 16 + k.val < 32; omega)]
      simp only [← Nat.add_assoc, Nat.reduceAdd]
  · refine (blk18 m c t _).trans ((V_bias m c _).trans ((dif_neg (by show ¬256 + l.val < 256; omega)).trans ?_))
    simp only [Nat.add_sub_cancel_left]

theorem dpre_fwd (r : Fin 512) (l : Fin 256) (h) :
    tDpre m c t (ix2 r ⟨0 + l.val, h⟩) = r79 m c (ix3 0 (rowOf t r) l) := by
  refine (pay_dpre _ _ _ _ _ r _).trans (Eq.trans ?_ (dpreF_at _ _ _ _ _ _ _ _).symm)
  rw [pre_fwd, dif_pos (show 0 + l.val < 256 by omega), blk8, Shared.sixteenth]
  simp only [Nat.zero_add]
theorem dpre_bwd (r : Fin 512) (l : Fin 256) (h) :
    tDpre m c t (ix2 r ⟨256 + l.val, h⟩) = r70 m c (ix3 0 (rowOf t r) l) := by
  refine (pay_dpre _ _ _ _ _ r _).trans (Eq.trans ?_ (dpreB_at _ _ _ _ _ _ _ _).symm)
  rw [pre_bwd, dif_neg (show ¬256 + l.val < 256 by omega), blk12, Shared.sixteenth]
  simp only [Nat.add_sub_cancel_left]

theorem cast_dpre : tDpre' m c t = tDpre m c t := by
  funext y
  idx_vars y
  pointwise [k0_pay10]

/-- The low-rank columns: the first direction's, the second's, and none beyond. -/
theorem low_fwd (r : Fin 512) (k : Fin 16) (h) :
    k0_pay18 (F := Ideal) (tDpre' m c t) (iblk m c 17 t) (ix2 r ⟨0 + k.val, h⟩) = r85 m c (ix3 0 (rowOf t r) k) := by
  rw [cast_dpre]
  refine (pay_low _ _ r _).trans (Eq.trans ?_ (lowF_at _ _ _ _ _ _ _ _).symm)
  refine (Cols.sum_window 0 256 (by omega) _ fun l hl => ?_).trans (Finset.sum_congr rfl fun l _ => ?_)
  · rw [up_off m c t _ l (by omega) (fun h => by have := h.1; change 16 ≤ 0 + k.val at this; omega), mul_zero]
  · exact congrArg₂ (· * ·) (dpre_fwd m c t r l _) (up_fwd m c t k l _ _)
theorem low_bwd (r : Fin 512) (k : Fin 16) (h) :
    k0_pay18 (F := Ideal) (tDpre' m c t) (iblk m c 17 t) (ix2 r ⟨16 + k.val, h⟩) = r76 m c (ix3 0 (rowOf t r) k) := by
  rw [cast_dpre]
  refine (pay_low _ _ r _).trans (Eq.trans ?_ (lowB_at _ _ _ _ _ _ _ _).symm)
  refine (Cols.sum_window 256 256 (by omega) _ fun l hl => ?_).trans (Finset.sum_congr rfl fun l _ => ?_)
  · rw [up_off m c t _ l (fun h => by have := h.1; change 16 + k.val < 16 at this; omega) (by omega), mul_zero]
  · exact congrArg₂ (· * ·) (dpre_bwd m c t r l _) (up_bwd m c t k l _ _)
theorem low_off (r : Fin 512) (k : Fin 128) (hk : 32 ≤ k.val) :
    k0_pay18 (F := Ideal) (tDpre' m c t) (iblk m c 17 t) (ix2 r k) = (0 : EReal) := by
  refine (pay_low _ _ r _).trans (Finset.sum_eq_zero fun l _ => ?_)
  rw [up_off m c t k l (by omega) (by omega), mul_zero]

/-! ## The projected rows' gradient, put together -/

/-- The tile's columns in the order they are stored, the last first. -/
abbrev pieces : List (View.Piece (Elt Ideal) S512x3200 .bf16) :=
  [⟨Rect.unit ![0, 3072] ![512, 128] inb_S512x3200_S512x128_0_3072, k0_pay18 (tDpre' m c t) (iblk m c 17 t)⟩,
    ⟨Rect.unit ![0, 2560] ![512, 512] inb_S512x3200_S512x512_0_2560, k0_pay17 (iblk m c 4 t)⟩,
    ⟨Rect.unit ![0, 2048] ![512, 512] inb_S512x3200_S512x512_0_2048, k0_pay16 (iblk m c 7 t) (iblk m c 11 t)⟩,
    ⟨Rect.unit ![0, 1792] ![512, 256] inb_S512x3200_S512x256_0_1792, k0_pay15 (iblk m c 6 t) (iblk m c 10 t)⟩,
    ⟨Rect.unit ![0, 1536] ![512, 256] inb_S512x3200_S512x256_0_1536, k0_pay14 (iblk m c 5 t) (iblk m c 9 t)⟩,
    ⟨Rect.unit ![0, 1024] ![512, 512] inb_S512x3200_S512x512_0_1024, k0_pay13 (tDc m c t) (X0_13 m c t)⟩,
    ⟨Rect.unit ![0, 512] ![512, 512] inb_S512x3200_S512x512_0_512, k0_pay12 (tDc m c t) (X0_14 m c t)⟩,
    ⟨Rect.unit ![0, 0] ![512, 512] inb_S512x3200_S512x512_0_0, k0_pay11 (iblk m c 0 t)⟩]

set_option maxHeartbeats 2000000 in
theorem dP_at (r : Fin 512) (k : Fin 3200) :
    View.canon (pieces m c t) (ix2 r k) = r154 m c (ix2 (rowOf t r) k) := by
  refine Eq.trans ?_ (out_proj _ _ _ _ _ _ _ _ _ _ _ _ _ _ _ _ _ _ _ _ _).symm
  by_cases h7 : 3072 ≤ k.val
  · refine (Cols.canon_hit 3072 _ _ _ r k h7 (by omega)).trans ?_
    by_cases h : k.val < 3104
    · rw [dif_pos h, cat_at, dif_neg (by show ¬k.val < 512; omega), dif_neg (by show ¬k.val < 1024; omega), dif_neg (by show ¬k.val < 1536; omega),
        dif_neg (by show ¬k.val < 1792; omega), dif_neg (by show ¬k.val < 2048; omega), dif_neg (by show ¬k.val < 2560; omega), dif_neg (by show ¬k.val < 3072; omega)]
      by_cases h' : k.val < 3088
      · rw [dif_pos h']
        refine Eq.trans ?_ (low_fwd m c t r ⟨k.val - 3072, by omega⟩ (by show 0 + (k.val - 3072) < 128; omega))
        simp only [Nat.zero_add]
      · rw [dif_neg h']
        refine Eq.trans ?_ (low_bwd m c t r ⟨k.val - 3088, by omega⟩ (by show 16 + (k.val - 3088) < 128; omega))
        simp only [show 16 + (k.val - 3088) = k.val - 3072 by omega]
    · rw [dif_neg h]
      exact low_off m c t r _ (by show 32 ≤ k.val - 3072; omega)
  rw [dif_pos (by omega), cat_at]
  refine (Cols.canon_miss 3072 _ _ _ r k (by omega)).trans ?_
  by_cases h6 : 2560 ≤ k.val
  · refine (Cols.canon_hit 2560 _ _ _ r k h6 (by omega)).trans ((pay_go _ r _).trans ((blk4 m c t r _).trans ?_))
    rw [dif_neg (by show ¬k.val < 512; omega), dif_neg (by show ¬k.val < 1024; omega), dif_neg (by show ¬k.val < 1536; omega),
      dif_neg (by show ¬k.val < 1792; omega), dif_neg (by show ¬k.val < 2048; omega), dif_neg (by show ¬k.val < 2560; omega), dif_pos (by show k.val < 3072; omega)]
  refine (Cols.canon_miss 2560 _ _ _ r k (by omega)).trans ?_
  by_cases h5 : 2048 ≤ k.val
  · refine (Cols.canon_hit 2048 _ _ _ r k h5 (by omega)).trans ((pay_v _ _ r _).trans ((congrArg₂ (fun a b : EReal => a + b) (blk7 m c t r _) (blk11 m c t r _)).trans ?_))
    rw [dif_neg (by show ¬k.val < 512; omega), dif_neg (by show ¬k.val < 1024; omega), dif_neg (by show ¬k.val < 1536; omega),
      dif_neg (by show ¬k.val < 1792; omega), dif_neg (by show ¬k.val < 2048; omega), dif_pos (by show k.val < 2560; omega)]
  refine (Cols.canon_miss 2048 _ _ _ r k (by omega)).trans ?_
  by_cases h4 : 1792 ≤ k.val
  · refine (Cols.canon_hit 1792 _ _ _ r k h4 (by omega)).trans ((pay_k _ _ r _).trans ((congrArg₂ (fun a b : EReal => a + b) (blk6 m c t r _) (blk10 m c t r _)).trans ?_))
    rw [dif_neg (by show ¬k.val < 512; omega), dif_neg (by show ¬k.val < 1024; omega), dif_neg (by show ¬k.val < 1536; omega),
      dif_neg (by show ¬k.val < 1792; omega), dif_pos (by show k.val < 2048; omega)]
  refine (Cols.canon_miss 1792 _ _ _ r k (by omega)).trans ?_
  by_cases h3 : 1536 ≤ k.val
  · refine (Cols.canon_hit 1536 _ _ _ r k h3 (by omega)).trans ((pay_q _ _ r _).trans ((congrArg₂ (fun a b : EReal => a + b) (blk5 m c t r _) (blk9 m c t r _)).trans ?_))
    rw [dif_neg (by show ¬k.val < 512; omega), dif_neg (by show ¬k.val < 1024; omega), dif_neg (by show ¬k.val < 1536; omega), dif_pos (by show k.val < 1792; omega)]
  refine (Cols.canon_miss 1536 _ _ _ r k (by omega)).trans ?_
  by_cases h2 : 1024 ≤ k.val
  · refine (Cols.canon_hit 1024 _ _ _ r k h2 (by omega)).trans ((pay_dcg _ _ r _).trans ((congrArg₂ (fun a b : EReal => a * b) (tDc_at m c t r _) (blk13 m c t r _)).trans ?_))
    rw [dif_neg (by show ¬k.val < 512; omega), dif_neg (by show ¬k.val < 1024; omega), dif_pos (by show k.val < 1536; omega), dcg_at]
    exact EReal.mul_comm _ _
  refine (Cols.canon_miss 1024 _ _ _ r k (by omega)).trans ?_
  by_cases h1 : 512 ≤ k.val
  · refine (Cols.canon_hit 512 _ _ _ r k h1 (by omega)).trans ((pay_dcv _ _ r _).trans ((congrArg₂ (fun a b : EReal => a * b) (tDc_at m c t r _) (blk14 m c t r _)).trans ?_))
    rw [dif_neg (by show ¬k.val < 512; omega), dif_pos (by show k.val < 1024; omega), dcv_at]
  refine (Cols.canon_miss 512 _ _ _ r k (by omega)).trans ?_
  refine (Cols.canon_hit 0 _ _ _ r k (by omega) (by omega)).trans ((pay_gb _ r _).trans ((blk0 m c t r _).trans ?_))
  rw [dif_pos (by show k.val < 512; omega)]
  rfl

/-- The norm's input gradient: the kernel's product reads the tile it has just stored. -/
theorem dH_at (z : FVec Ideal S512x3200 .bf16) (hz : z = View.canon (pieces m c t)) (r : Fin 512) (l : Fin 1024) :
    k0_pay21 (F := Ideal) z (iblk m c 19 t) (ix2 r l) = r125 m c (ix3 0 (rowOf t r) l) := by
  refine (pay_dh _ _ r l).trans (Eq.trans ?_ (dh_at _ _ _ _ _ _ _ _ _ _ _ _ _ _ _ _ _ _ _ _ _).symm)
  refine (Cols.sum_window 0 3104 (by omega) _ fun k hk => ?_).trans (Finset.sum_congr rfl fun k _ => congrArg₂ (· * ·) ?_ ?_)
  · rw [show iblk m c 19 t (ix2 l k) = (0 : EReal) from (blk19 m c t l k).trans ((V_w m c l k).trans (dif_neg (by omega))), mul_zero]
  · rw [hz]
    refine (dP_at m c t r _).trans ((out_proj _ _ _ _ _ _ _ _ _ _ _ _ _ _ _ _ _ _ _ _ _).trans ((dif_pos (by show 0 + k.val < 3104; omega)).trans ?_))
    simp only [Nat.zero_add]
  · refine (blk19 m c t l _).trans ((V_w m c l _).trans ((dif_pos (by show 0 + k.val < 3104; omega)).trans ?_))
    simp only [Nat.zero_add]

end Cert.Mix2Ideal.Final

end
-- ==== Proof.Mix2Value.lean ====
/- The gradient of the mixer's input side: the kernel's arrays are the derivative's. -/
module

public import proofs.«01_k».proof.Proof.Mix2Tile

@[expose] public section

set_option maxRecDepth 16384

noncomputable section

namespace Cert.Mix2Ideal.Final

open Cert Cert.Mix2Ideal Cert.Mix2Ideal.Gen Cert.Mix2Ideal.Run Idealize.ShloMosaic Idealize.ShloMosaic.TcCoe Idealize.SL.Sem
open Idealize.ShloMosaic.Pipeline (Dat)
open Cert.Mix2RefIdeal.Read Cert.Mix2RefIdeal.At

variable (m : (ℓ : Loc nD τ sig) → Buf (Elt Ideal) ℓ)

/-! ## The tiled results -/

theorem emb23 (t : Fin cfg0.N) (r : Fin 512) (l : Fin 3200) : ((cfg0.win 23).blk t).view.emb (ix2 r l) = (ix2 (rowOf t r) l : S8192x3200.Idx) := by
  blk_ext [idxB t]
theorem emb24 (t : Fin cfg0.N) (r : Fin 512) (l : Fin 1024) : ((cfg0.win 24).blk t).view.emb (ix2 r l) = (ix2 (rowOf t r) l : S8192x1024.Idx) := by
  blk_ext [idxB t]

theorem final_23 (c : Dev nD) : (dats m 0 c).arrAt 23 cfg0.N = val_main_v154 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  refine (dats m 0 c).arrAt_eq_of_covers 23 _ (by decide +kernel) fun t _ y => ?_
  have key : View.canon (pieces m c t) y = r154 m c (((cfg0.win 23).blk t).view.emb y) := by
    idx_vars y
    rw [emb23]
    exact dP_at m c t y0 y1
  blk_simp
  rw [after_23]
  by_cases h : t.val % 16 = 0
  · rw [outsAt_A m c t h]
    dsimp only [outsA, ptA]
    frame_out
    exact key
  · rw [outsAt_B m c t h]
    dsimp only [outsB, ptB]
    frame_out
    exact key

/-- The stored tile, read back. -/
abbrev tZ (c : Dev nD) (t : Fin cfg0.N) : FVec Ideal S512x3200 .bf16 :=
  (ms0_23 t).view.readCov (pieces m c t) (Rect.unit (s := S512x3200) ![0, 0] ![512, 3200] inb_S512x3200_S512x3200_0_0).toLoadRect
abbrev tH (c : Dev nD) (t : Fin cfg0.N) := k0_pay21 (F := Ideal) (tZ m c t) (iblk m c 19 t)

theorem tH_at (c : Dev nD) (t : Fin cfg0.N) (r : Fin 512) (l : Fin 1024) : tH m c t (ix2 r l) = r125 m c (ix3 0 (rowOf t r) l) :=
  dH_at m c t _ (Cols.readCov_whole (Val := Elt Ideal) _ _ _) r l

set_option maxHeartbeats 1000000 in
theorem final_24 (c : Dev nD) : (dats m 0 c).arrAt 24 cfg0.N = val_main_v156 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) := by
  refine (dats m 0 c).arrAt_eq_of_covers 24 _ (by decide +kernel) fun t _ y => ?_
  have key : k0_pay3 (F := Ideal) (tH m c t) (k0_pay22 (iblk m c 20 t)) (iblk m c 22 t) (iblk m c 21 t) y
      = val_main_v156 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (((cfg0.win 24).blk t).view.emb y) := by
    idx_vars y
    rw [emb24, pay_x]
    refine (pay_dx _ _ _ _ y0 y1).trans (Eq.trans ?_ (dx_at _ _ _ _ _ _ _ _ _ _ _ _ _ _ _ _ _ _ _ _ _ _).symm)
    refine congrArg₂ (fun a b : EReal => a + b) (blk21 m c t y0 y1) ((Shared.normK_eq _ Shared.w1024_pos _ _ _ _).trans ?_)
    rw [show (fun k => tH m c t (ix2 y0 k)) = _ from funext fun k => tH_at m c t y0 k,
      show (fun k => iblk m c 20 t (ix2 y0 k)) = _ from funext fun k => blk20 m c t y0 k,
      show (fun k => iblk m c 22 t (ix2 0 k)) = _ from funext fun k => blk22 m c t k]
  blk_simp
  rw [after_24]
  by_cases h : t.val % 16 = 0
  · rw [outsAt_A m c t h]
    dsimp only [outsA, ptA]
    frame_out
    exact key
  · rw [outsAt_B m c t h]
    dsimp only [outsB, ptB]
    frame_out
    exact key

/-! ## The accumulated results -/

/-- What one tile adds to the scale's gradient, to the decay's weights' and to its bias'. -/
abbrev scaleOf (v131 v133 : FVec Ideal S512x1024 .f32) (l : Fin 1024) : EReal :=
  ∑ r : Fin 512, v131 (ix2 r l) * (v133 (ix2 r l) * Ideal.rsqrt (Shared.meanSq Shared.w1024 fun k => v133 (ix2 r k)))
abbrev upOf (v116 : FVec Ideal S512x128 .bf16) (v62 : FVec Ideal S512x512 .f32) (i : Fin 128) (l : Fin 512) : EReal :=
  ∑ r : Fin 512, v116 (ix2 r i) * v62 (ix2 r l)
abbrev scale (c : Dev nD) (t : Fin cfg0.N) (l : Fin 1024) : EReal := scaleOf (tH m c t) (iblk m c 20 t) l
abbrev up (c : Dev nD) (t : Fin cfg0.N) (i : Fin 128) (l : Fin 512) : EReal := upOf (iblk m c 15 t) (tDpre m c t) i l
abbrev upAll (c : Dev nD) : FVec Ideal S128x512 .f32 := fun j => (∑ t : Fin cfg0.N, up m c t (j 0) (j 1) : EReal)
abbrev bias (c : Dev nD) (t : Fin cfg0.N) (l : Fin 512) : EReal := ∑ r : Fin 512, tDpre m c t (ix2 r l)
abbrev biasRow (c : Dev nD) (t : Fin cfg0.N) (i : Fin 8) (l : Fin 512) : EReal := if i.val = 0 then bias m c t l else 0

theorem scale_of (c : Dev nD) (t : Fin cfg0.N) (acc : FVec Ideal S1x1024 .f32) (l : Fin 1024) :
    k0_pay4 (F := Ideal) (tH m c t) (k0_pay22 (iblk m c 20 t)) acc (ix2 0 l) = acc (ix2 0 l) + scale m c t l := by
  exact (congrArg (fun z => k0_pay4 (F := Ideal) (tH m c t) z acc (ix2 0 l)) (pay_x _)).trans (pay_dg _ _ _ l)
theorem up_of (c : Dev nD) (t : Fin cfg0.N) (acc : FVec Ideal S128x512 .f32) (i : Fin 128) (l : Fin 512) :
    k0_pay19 (F := Ideal) (tDpre' m c t) acc (iblk m c 15 t) (ix2 i l) = acc (ix2 i l) + up m c t i l := by
  exact (congrArg (fun z => k0_pay19 (F := Ideal) z acc (iblk m c 15 t) (ix2 i l)) (cast_dpre m c t)).trans (pay_dgcat _ _ _ i l)

set_option maxHeartbeats 1000000 in
theorem final_25 (c : Dev nD) : (dats m 0 c).arrAt 25 cfg0.N = val_main_v157 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
  refine (dats m 0 c).arrAt_eq_of_after_last 25 t0_15 (by decide +kernel) _ fun j => ?_
  blk_simp
  rw [after_25]
  obtain ⟨l, rfl⟩ : ∃ l : Fin 1024, j = (ix2 0 l : S1x1024.Idx) :=
    ⟨j 1, (eq_ix2 (show S1x1024.Idx from j)).trans (congrArg (fun a : Fin 1 => (ix2 a (j 1) : S1x1024.Idx))
      (Subsingleton.elim (α := Fin 1) (j 0) 0))⟩
  rw [Pipeline.eq_sum_fin_of_reset_step_apply_last (fun n h => (outsAt m c n h).2.2.1) 16 (fun _ => 0)
      (fun t j => scale m c t (j 1))
      (fun t h j => by
        rw [outsAt_A m c t h]; dsimp only [outsA, ptA]; frame_out
        idx_vars j
        obtain rfl : j0 = 0 := Subsingleton.elim _ _
        refine (scale_of m c t _ j1).trans ?_
        rw [zero5])
      (fun t h j => by
        rw [outsAt_B m c t h]; dsimp only [outsB, ptB]; frame_out
        idx_vars j
        obtain rfl : j0 = 0 := Subsingleton.elim _ _
        exact scale_of m c t _ j1)
      (le_of_eq N_0) t0_15 rfl _, zero_add]
  refine Eq.trans ?_ (dg_at _ _ _ _ _ _ _ _ _ _ _ _ _ _ _ _ _ _ _ l).symm
  refine Fin.sum_mul_add_congr fun t r hl => ?_
  refine (congrArg₂ (fun a b : EReal => a * b) (tH_at m c t r l) ?_).trans (EReal.mul_comm _ _)
  rw [show (ix2 0 l : S1x1024.Idx) 1 = l from rfl, blk20 m c t r l,
    show (fun k => iblk m c 20 t (ix2 r k)) = _ from funext fun k => blk20 m c t r k]

set_option maxHeartbeats 1000000 in
/-- The weights' gradient, on the two blocks that are the weights and on the rows past them. -/
theorem final_26 (c : Dev nD) (i : Fin 128) (l : Fin 512) (hs : (i.val < 16 ∧ l.val < 256) ∨ (16 ≤ i.val ∧ i.val < 32 ∧ 256 ≤ l.val) ∨ 32 ≤ i.val) :
    (dats m 0 c).arrAt 26 cfg0.N (ix2 i l) = val_main_v158 (F := Ideal) (a0 m c) (a1 m c) (a2 m c) (a4 m c) (a5 m c) (a6 m c) (a7 m c) (a14 m c) (a18 m c) (ix2 i l) := by
  refine (congrFun ((dats m 0 c).arrAt_eq_of_after_last 26 t0_15 (by decide +kernel) (upAll m c) fun j => ?_) _).trans ?_
  · blk_simp
    rw [after_26]
    rw [Pipeline.eq_sum_fin_of_reset_step_apply_last (fun n h => (outsAt m c n h).2.2.2.1) 16 (fun _ => 0)
        (fun t j => up m c t (j 0) (j 1))
        (fun t h j => by
          rw [outsAt_A m c t h]; dsimp only [outsA, ptA]; frame_out
          idx_vars j
          refine (up_of m c t _ j0 j1).trans ?_
          rw [zero6])
        (fun t h j => by
          rw [outsAt_B m c t h]; dsimp only [outsB, ptB]; frame_out
          idx_vars j
          exact up_of m c t _ j0 j1)
        (le_of_eq N_0) t0_15 rfl j, zero_add]
  change (∑ t : Fin cfg0.N, up m c t i l : EReal) = _
  rcases hs with ⟨hi, hl⟩ | ⟨hi, hi', hl⟩ | hi
  · refine Eq.trans ?_ ((out_upF _ _ _ _ _ _ _ _ _ _ _ hi hl).trans (upF_at _ _ _ _ _ _ _ _)).symm
    refine Fin.sum_mul_add_congr fun t r _ => congrArg₂ (fun a b : EReal => a * b) (lr_at m c t r i (by omega)) ?_
    refine Eq.trans ?_ (dpre_fwd m c t r ⟨l.val, hl⟩ (by show 0 + l.val < 512; omega))
    simp only [Nat.zero_add]
  · refine Eq.trans ?_ ((out_upB _ _ _ _ _ _ _ _ _ _ _ hi hi' hl).trans (upB_at _ _ _ _ _ _ _ _)).symm
    refine Fin.sum_mul_add_congr fun t r _ => congrArg₂ (fun a b : EReal => a * b) ((lr_at m c t r i (by omega)).trans ?_) ?_
    · simp only [show 3072 + i.val = 3088 + (i.val - 16) by omega]
    · refine Eq.trans ?_ (dpre_bwd m c t r ⟨l.val - 256, by omega⟩ (by show 256 + (l.val - 256) < 512; omega))
      simp only [show 256 + (l.val - 256) = l.val by omega]
  · refine Eq.trans ?_ (out_up_pad _ _ _ _ _ _ _ _ _ i l hi).symm
    refine Finset.sum_eq_zero fun t _ => Finset.sum_eq_zero fun r _ => ?_
    rw [lr_pad m c t r i hi, zero_mul]

set_option maxHeartbeats 1000000 in
theorem final_27 (c : Dev nD) : (dats m 0 c).arrAt 27 cfg0.N = val_main_v159 (F := Ideal) (a0 m c) (a1 m c) (a2 m c) (a4 m c) (a5 m c) (a6 m c) (a7 m c) (a14 m c) (a18 m c) := by
  refine (dats m 0 c).arrAt_eq_of_after_last 27 t0_15 (by decide +kernel) _ fun j => ?_
  blk_simp
  rw [after_27]
  rw [Pipeline.eq_sum_fin_of_reset_step_apply_last (fun n h => (outsAt m c n h).2.2.2.2) 16 (fun _ => 0)
      (fun t j => biasRow m c t (j 0) (j 1))
      (fun t h j => by
        rw [outsAt_A m c t h]; dsimp only [outsA, ptA]; frame_out
        idx_vars j
        rw [zero_add]
        exact Rows.one_reset _ _ zero7 (k0_pay20 (tDpre m c t)) (bias m c t) (pay_dbias _) _ _ j0 j1)
      (fun t h j => by
        rw [outsAt_B m c t h]; dsimp only [outsB, ptB]; frame_out
        idx_vars j
        exact Rows.one_step _ _ _ (Memref.IsWhole.read_unread _ _) (k0_pay20 (tDpre m c t)) (bias m c t) (pay_dbias _) _ j0 j1)
      (le_of_eq N_0) t0_15 rfl j, zero_add]
  idx_vars j
  unfold biasRow
  by_cases e0 : j0.val = 0
  · simp only [show ((ix2 j0 j1 : S8x512.Idx) 0) = j0 from rfl, show ((ix2 j0 j1 : S8x512.Idx) 1) = j1 from rfl, if_pos e0]
    obtain rfl : j0 = 0 := Fin.ext e0
    refine Eq.trans ?_ (out_bias _ _ _ _ _ _ _ _ _ j1).symm
    by_cases h : j1.val < 256
    · rw [dif_pos h]
      refine Eq.trans ?_ (biasF_at _ _ _ _ _ _ _).symm
      refine Fin.sum_mul_add_congr fun t r _ => ?_
      refine Eq.trans ?_ (dpre_fwd m c t r ⟨j1.val, h⟩ (by show 0 + j1.val < 512; omega))
      simp only [Nat.zero_add]
    · rw [dif_neg h]
      refine Eq.trans ?_ (biasB_at _ _ _ _ _ _ _).symm
      refine Fin.sum_mul_add_congr fun t r _ => ?_
      refine Eq.trans ?_ (dpre_bwd m c t r ⟨j1.val - 256, by omega⟩ (by show 256 + (j1.val - 256) < 512; omega))
      simp only [show 256 + (j1.val - 256) = j1.val by omega]
  · simp only [show ((ix2 j0 j1 : S8x512.Idx) 0) = j0 from rfl, if_neg e0, Finset.sum_const_zero]
    exact (out_bias_pad _ _ _ _ _ _ _ _ _ _ e0 j1).symm

end Cert.Mix2Ideal.Final

end
-- ==== Proof.Mix2Claim.lean ====
/- The gradient of the mixer's input side: the claim, on the entries the step reads. -/
module

public import proofs.«01_k».proof.Proof.Mix2Value
public import proofs.«01_k».proof.Proof.Gen.On_mix2_selected
public import proofs.«01_k».proof.Proof.Gen.Mix2RefIdeal.Run
public import proofs.«01_k».proof.Defs

@[expose] public section

set_option maxRecDepth 16384

noncomputable section

namespace Cert.On_mix2_selected

open Idealize.ShloMosaic

/-- The selected entries of the decay weights' gradient: the two blocks that are the weights, and the rows past them. -/
theorem word_iff (r : Fin 128) (l : Fin 512)
    (h : IntOp.ori (IntOp.cmpi .eq (IntOp.cmpi .slt (BitVec.ofNat 32 r.val) 16#32) (IntOp.cmpi .slt (BitVec.ofNat 32 l.val) 256#32))
      (IntOp.cmpi .sge (BitVec.ofNat 32 r.val) 32#32) = 1#1) :
    (r.val < 16 ∧ l.val < 256) ∨ (16 ≤ r.val ∧ r.val < 32 ∧ 256 ≤ l.val) ∨ 32 ≤ r.val := by
  have k1 : ∀ r : Fin 128, IntOp.cmpi .slt (BitVec.ofNat 32 r.val) 16#32 = if r.val < 16 then 1#1 else 0#1 := by decide +kernel
  have k2 : ∀ l : Fin 512, IntOp.cmpi .slt (BitVec.ofNat 32 l.val) 256#32 = if l.val < 256 then 1#1 else 0#1 := by decide +kernel
  have k3 : ∀ r : Fin 128, IntOp.cmpi .sge (BitVec.ofNat 32 r.val) 32#32 = if 32 ≤ r.val then 1#1 else 0#1 := by decide +kernel
  rw [k1, k2, k3] at h
  by_cases h1 : r.val < 16 <;> by_cases h2 : l.val < 256 <;> by_cases h3 : 32 ≤ r.val <;> simp only [h1, h2, h3, if_true, if_false] at h <;>
    first | omega | exact absurd h (by decide)

end Cert.On_mix2_selected

namespace Cert.Mix2Ideal.Final

open Cert Cert.Mix2Ideal Cert.Mix2Ideal.Gen Cert.Mix2Ideal.Run Idealize.ShloMosaic Idealize.ShloMosaic.TcCoe Idealize.SL.Sem
open Cert.Mix2RefIdeal.Read

theorem congr9 {A0 A1 A2 A3 A4 A5 A6 A7 A8 Z : Type} (f : A0 → A1 → A2 → A3 → A4 → A5 → A6 → A7 → A8 → Z) {a0 b0 a1 b1 a2 b2 a3 b3 a4 b4 a5 b5 a6 b6 a7 b7 a8 b8}
    (h0 : a0 = b0) (h1 : a1 = b1) (h2 : a2 = b2) (h3 : a3 = b3) (h4 : a4 = b4) (h5 : a5 = b5) (h6 : a6 = b6) (h7 : a7 = b7) (h8 : a8 = b8) :
    f a0 a1 a2 a3 a4 a5 a6 a7 a8 = f b0 b1 b2 b3 b4 b5 b6 b7 b8 := by
  subst h0 h1 h2 h3 h4 h5 h6 h7 h8; rfl
theorem congr19 {A0 A1 A2 A3 A4 A5 A6 A7 A8 A9 A10 A11 A12 A13 A14 A15 A16 A17 A18 Z : Type} (f : A0 → A1 → A2 → A3 → A4 → A5 → A6 → A7 → A8 → A9 → A10 → A11 → A12 → A13 → A14 → A15 → A16 → A17 → A18 → Z) {a0 b0 a1 b1 a2 b2 a3 b3 a4 b4 a5 b5 a6 b6 a7 b7 a8 b8 a9 b9 a10 b10 a11 b11 a12 b12 a13 b13 a14 b14 a15 b15 a16 b16 a17 b17 a18 b18}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) :
    f a0 a1 a2 a3 a4 a5 a6 a7 a8 a9 a10 a11 a12 a13 a14 a15 a16 a17 a18 = f b0 b1 b2 b3 b4 b5 b6 b7 b8 b9 b10 b11 b12 b13 b14 b15 b16 b17 b18 := by
  subst h0 h1 h2 h3 h4 h5 h6 h7 h8 h9 h10 h11 h12 h13 h14 h15 h16 h17 h18; rfl

variable (m : (ℓ : Loc nD τ sig) → Buf (Elt Ideal) ℓ)

set_option maxHeartbeats 2000000 in
/-- The results as the run's tiles, and the arguments kept. -/
theorem run_blocks (ρ : Dev nD → PrngReg) : θ_run (defs (F := Ideal)) (onTc (τ := τ) (main (F := Ideal))) ⟨m, fun _ => 0, ρ⟩ (fun r => ∀ c : Dev nD,
      r.2.mem ((c.tc : Thread nD τ).loc main_v56_0) = (dats m 0 c).arrAt 23 cfg0.N
      ∧ r.2.mem ((c.tc : Thread nD τ).loc main_v56_1) = (dats m 0 c).arrAt 24 cfg0.N
      ∧ r.2.mem ((c.tc : Thread nD τ).loc main_v56_2) = (dats m 0 c).arrAt 25 cfg0.N
      ∧ r.2.mem ((c.tc : Thread nD τ).loc main_v56_3) = (dats m 0 c).arrAt 26 cfg0.N
      ∧ r.2.mem ((c.tc : Thread nD τ).loc main_v56_4) = (dats m 0 c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => have h := h.1
    ⟨(h c).1 23,
      (h c).1 24,
      (h c).1 25,
      (h c).1 26,
      (h c).1 27,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 16).trans (((dats m 0 c).arrAt_in 16 rfl _).trans ((A_eq m c 16).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) (run_main m ρ)

set_option maxHeartbeats 4000000 in
theorem value : Cert.algebraic_Mix2Ideal_Mix2RefIdeal_on_mix2_selected := by
  intro m g m' g' _ hagree
  refine ⟨fun c => (dats m 0 c).arrAt 23 cfg0.N, fun c => (dats m 0 c).arrAt 24 cfg0.N, fun c => (dats m 0 c).arrAt 25 cfg0.N,
    fun c => (dats m 0 c).arrAt 26 cfg0.N, fun c => (dats m 0 c).arrAt 27 cfg0.N,
    (θ_run _ _ _).mono (fun r h c => ⟨fun i _ => congrFun (h c).1 i, fun i _ => congrFun (h c).2.1 i, fun i _ => congrFun (h c).2.2.1 i,
      fun i _ => congrFun (h c).2.2.2.1 i, fun i _ => congrFun (h c).2.2.2.2.1 i, (h c).2.2.2.2.2⟩) (run_blocks m g),
    (θ_run _ _ _).mono (fun r h c => ?_) (Mix2RefIdeal.Value.run m' g')⟩
  obtain ⟨h0, h1, h2, h3, h4, h5, h6, h7, h8, h9, h10, h11, h12, h13, h14, h15, h16, h17, h18, h19⟩ := hagree c
  refine ⟨fun i _ => congrFun ((h c).1.trans ?_) i, fun i _ => congrFun ((h c).2.1.trans ?_) i, fun i _ => congrFun ((h c).2.2.1.trans ?_) i,
    fun i hi => (congrFun ((h c).2.2.2.1.trans ?_) i).trans (?_ : val_main_v158 (F := Ideal) (a0 m c) (a1 m c) (a2 m c) (a4 m c) (a5 m c) (a6 m c) (a7 m c) (a14 m c) (a18 m c) i = _),
    fun i _ => congrFun ((h c).2.2.2.2.1.trans ?_) i, (h c).2.2.2.2.2⟩
  · exact (val_main_v154_eq (StableHlo.launchContents m' c)).trans ((congr19 (val_main_v154 (F := Ideal)) h0 h1 h2 h3 h4 h5 h6 h7 h8 h9 h10 h11 h12 h13 h14 h15 h16 h17 h18).trans (final_23 m c).symm)
  · exact (val_main_v156_eq (StableHlo.launchContents m' c)).trans ((congr (congr19 (val_main_v156 (F := Ideal)) h0 h1 h2 h3 h4 h5 h6 h7 h8 h9 h10 h11 h12 h13 h14 h15 h16 h17 h18) h19).trans (final_24 m c).symm)
  · exact (val_main_v157_eq (StableHlo.launchContents m' c)).trans ((congr19 (val_main_v157 (F := Ideal)) h0 h1 h2 h3 h4 h5 h6 h7 h8 h9 h10 h11 h12 h13 h14 h15 h16 h17 h18).trans (final_25 m c).symm)
  · exact (val_main_v158_eq (StableHlo.launchContents m' c)).trans (congr9 (val_main_v158 (F := Ideal)) h0 h1 h2 h4 h5 h6 h7 h14 h18)
  · have hs := On_mix2_selected.word_iff (i 0) (i 1) hi
    obtain ⟨p, q, rfl⟩ : ∃ (p : Fin 128) (q : Fin 512), i = (ix2 p q : S128x512.Idx) := ⟨i 0, i 1, eq_ix2 (show S128x512.Idx from i)⟩
    exact (final_26 m c p q hs).symm
  · exact (val_main_v159_eq (StableHlo.launchContents m' c)).trans ((congr9 (val_main_v159 (F := Ideal)) h0 h1 h2 h4 h5 h6 h7 h14 h18).trans (final_27 m c).symm)

end Cert.Mix2Ideal.Final

end
-- ==== Proof.FfnHost.lean ====
/- The gradient of the gated network: the arrays the host prepares, and the kernel's blocks of them. -/
module

public import proofs.«01_k».proof.Proof.FfnRun
public import proofs.«01_k».proof.Proof.Gen.FfnRefIdeal.Read
public import proofs.«01_k».proof.Proof.Shared
public import Idealize.ShloMosaic.Lib.StableHlo.RunRead

@[expose] public section

set_option maxRecDepth 16384

noncomputable section

namespace Cert.FfnIdeal.Final

open Cert Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)

/-- Concatenations of equal pieces. -/
theorem cat3 {S A B C : Shape} {e : EltTy} {d} {a a' : A.Idx → Elt Ideal e} {b b' : B.Idx → Elt Ideal e} {k k' : C.Idx → Elt Ideal e}
    (h) (ha : a = a') (hb : b = b') (hk : k = k') :
    concatenate S d [⟨A, a⟩, ⟨B, b⟩, ⟨C, k⟩] h = concatenate S d [⟨A, a'⟩, ⟨B, b'⟩, ⟨C, k'⟩] h := by
  subst ha hb hk; rfl
theorem cat4 {S A : Shape} {e : EltTy} {d} {a a' b b' k k' p p' : A.Idx → Elt Ideal e}
    (h) (ha : a = a') (hb : b = b') (hk : k = k') (hp : p = p') :
    concatenate S d [⟨A, a⟩, ⟨A, b⟩, ⟨A, k⟩, ⟨A, p⟩] h = concatenate S d [⟨A, a'⟩, ⟨A, b'⟩, ⟨A, k'⟩, ⟨A, p'⟩] h := by
  subst ha hb hk hp; rfl

/-- The convolution's padded rows, as the line of host operations writes them. -/
theorem V_pad (c : Dev nD) :
    concatenate S1x8194x5632 1
      [⟨S1x1x5632, StableHlo.upto hostOps0 (fun b => m (c, b)) 19
          (Proc.devRef .tc (![main_v14, main_v13, main_v14] 0))⟩,
        ⟨S1x8192x5632, StableHlo.upto hostOps0 (fun b => m (c, b)) 19
          (Proc.devRef .tc (![main_v14, main_v13, main_v14] 1))⟩,
        ⟨S1x1x5632, StableHlo.upto hostOps0 (fun b => m (c, b)) 19
          (Proc.devRef .tc (![main_v14, main_v13, main_v14] 2))⟩]
      concatenates_S1x1x5632_S1x8192x5632_S1x1x5632_S1x8194x5632_d1
    = val_main_v18 (F := Ideal) (a0 m c) (a1 m c) (a2 m c) := by
  refine cat3 (e := .f32) _ ?_ ?_ ?_
  · change StableHlo.upto _ _ _ (Proc.devRef .tc main_v14) = _
    after_reads_simp
    rfl
  · change StableHlo.upto _ _ _ (Proc.devRef .tc main_v13) = _
    after_reads_simp
    rfl
  · change StableHlo.upto _ _ _ (Proc.devRef .tc main_v14) = _
    after_reads_simp
    rfl

/-- A column slice of the weights, as one block of the stack. -/
abbrev wcol (w : FVec Ideal S1024x5632 .f32) (j : ℕ) (h : S1024x5632.Slices ![0, j] S1024x1408) : FVec Ideal S1x1024x1408 .bf16 :=
  broadcastInDim S1x1024x1408 ![1, 2] bcast_S1024x1408_S1x1024x1408_1_2
    (truncf (F := Ideal) .bf16 (extractStridedSlice S1024x1408 ![0, j] w h) bitsLt_bf16_f32)

theorem wcol_at (w : FVec Ideal S1024x5632 .f32) (j : ℕ) (h : S1024x5632.Slices ![0, j] S1024x1408) (r : Fin 1024) (l : Fin 1408) (hj : j + 1408 ≤ 5632) :
    wcol w j h (ix3 0 r l) = w (ix2 r ⟨j + l.val, by omega⟩) := by
  pointwise [wcol]
theorem stack_at (w0 w1 w2 w3 : FVec Ideal S1x1024x1408 .bf16) (j : Fin 4) (r : Fin 1024) (l : Fin 1408) :
    concatenate S4x1024x1408 0 [⟨S1x1024x1408, w0⟩, ⟨S1x1024x1408, w1⟩, ⟨S1x1024x1408, w2⟩, ⟨S1x1024x1408, w3⟩]
      concatenates_S1x1024x1408_S1x1024x1408_S1x1024x1408_S1x1024x1408_S4x1024x1408_d0 (ix3 j r l)
    = (if j.val = 0 then w0 else if j.val = 1 then w1 else if j.val = 2 then w2 else w3) (ix3 0 r l) := by
  match j with
  | ⟨0, _⟩ => pointwise []
  | ⟨1, _⟩ => pointwise []
  | ⟨2, _⟩ => pointwise []
  | ⟨3, _⟩ => pointwise []
theorem V_stack (c : Dev nD) :
    concatenate S4x1024x1408 0
      [⟨S1x1024x1408, StableHlo.upto hostOps0 (fun b => m (c, b)) 54
          (Proc.devRef .tc (![main_v46, main_v47, main_v48, main_v49] 0))⟩,
        ⟨S1x1024x1408, StableHlo.upto hostOps0 (fun b => m (c, b)) 54
          (Proc.devRef .tc (![main_v46, main_v47, main_v48, main_v49] 1))⟩,
        ⟨S1x1024x1408, StableHlo.upto hostOps0 (fun b => m (c, b)) 54
          (Proc.devRef .tc (![main_v46, main_v47, main_v48, main_v49] 2))⟩,
        ⟨S1x1024x1408, StableHlo.upto hostOps0 (fun b => m (c, b)) 54
          (Proc.devRef .tc (![main_v46, main_v47, main_v48, main_v49] 3))⟩]
      concatenates_S1x1024x1408_S1x1024x1408_S1x1024x1408_S1x1024x1408_S4x1024x1408_d0
    = concatenate S4x1024x1408 0 [⟨_, wcol (a2 m c) 0 slices_S1024x5632_S1024x1408_0_0⟩, ⟨_, wcol (a2 m c) 1408 slices_S1024x5632_S1024x1408_0_1408⟩,
      ⟨_, wcol (a2 m c) 2816 slices_S1024x5632_S1024x1408_0_2816⟩, ⟨_, wcol (a2 m c) 4224 slices_S1024x5632_S1024x1408_0_4224⟩]
      concatenates_S1x1024x1408_S1x1024x1408_S1x1024x1408_S1x1024x1408_S4x1024x1408_d0 := by
  refine cat4 (e := .bf16) _ ?_ ?_ ?_ ?_
  · change StableHlo.upto _ _ _ (Proc.devRef .tc main_v46) = _
    after_reads_simp
  · change StableHlo.upto _ _ _ (Proc.devRef .tc main_v47) = _
    after_reads_simp
  · change StableHlo.upto _ _ _ (Proc.devRef .tc main_v48) = _
    after_reads_simp
  · change StableHlo.upto _ _ _ (Proc.devRef .tc main_v49) = _
    after_reads_simp

theorem V_dy (c : Dev nD) (r : Fin 8192) (l : Fin 1024) : V m c main_v52 (ix2 r l) = a5 m c (ix3 0 r l) := by
  unfold_abbrev_sides
  after_reads_simp
  pointwise []
theorem V_x (c : Dev nD) (r : Fin 8192) (l : Fin 1024) : V m c main_v60 (ix2 r l) = a0 m c (ix3 0 r l) := by
  unfold_abbrev_sides
  after_reads_simp
  pointwise []
theorem V_dres (c : Dev nD) (r : Fin 8192) (l : Fin 1024) : V m c main_v61 (ix2 r l) = a6 m c (ix3 0 r l) := by
  unfold_abbrev_sides
  after_reads_simp
  pointwise []
theorem V_wd (c : Dev nD) (r : Fin 2816) (l : Fin 1024) : V m c main_v59 (ix2 r l) = a4 m c (ix2 r l) := by
  unfold_abbrev_sides
  after_reads_simp
  pointwise []
theorem V_g (c : Dev nD) (l : Fin 1024) : V m c main_v62 (ix2 0 l) = a1 m c (ix1 l) := by
  unfold_abbrev_sides
  after_reads_simp
  pointwise []
/-- The saved product. -/
theorem V_u (c : Dev nD) (r : Fin 8192) (l : Fin 5632) :
    V m c main_v58 (ix2 r l) = val_main_v16 (F := Ideal) (a0 m c) (a1 m c) (a2 m c) (ix3 0 r l) := by
  unfold_abbrev_sides
  after_reads_simp
  refine (congrFun (congrArg (fun z : FVec Ideal S1x8192x5632 .f32 => truncf (F := Ideal) .bf16
    (shapeCast S8192x5632 z shapeCasts_S1x8192x5632_S8192x5632) bitsLt_bf16_f32) (show _ = val_main_v16 (F := Ideal) (a0 m c) (a1 m c) (a2 m c) from rfl)) (ix2 r l)).trans ?_
  generalize val_main_v16 (F := Ideal) (a0 m c) (a1 m c) (a2 m c) = z
  pointwise []
theorem V_ug (c : Dev nD) (r : Fin 8192) (l : Fin 2816) :
    V m c main_v54 (ix2 r l) = val_main_v41 (F := Ideal) (a0 m c) (a1 m c) (a2 m c) (a3 m c) (ix3 0 r l) := by
  unfold_abbrev_sides
  after_reads_simp
  set_option backward.isDefEq.respectTransparency false in rw [V_pad]
  generalize hz : val_main_v18 (F := Ideal) (a0 m c) (a1 m c) (a2 m c) = z
  pointwise [val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23,
    val_main_v22, val_main_v21, hz]
theorem V_uv (c : Dev nD) (r : Fin 8192) (l : Fin 2816) :
    V m c main_v56 (ix2 r l) = val_main_v42 (F := Ideal) (a0 m c) (a1 m c) (a2 m c) (a3 m c) (ix3 0 r l) := by
  unfold_abbrev_sides
  after_reads_simp
  set_option backward.isDefEq.respectTransparency false in rw [V_pad]
  generalize hz : val_main_v18 (F := Ideal) (a0 m c) (a1 m c) (a2 m c) = z
  pointwise [val_main_v42, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23,
    val_main_v22, val_main_v21, hz]
set_option maxHeartbeats 1000000 in
theorem V_w (c : Dev nD) (j : Fin 4) (r : Fin 1024) (l : Fin 1408) :
    V m c main_v50 (ix3 j r l) = a2 m c (ix2 r ⟨j.val * 1408 + l.val, by omega⟩) := by
  unfold_abbrev_sides
  after_reads_simp
  refine (congrFun (V_stack m c) (ix3 j r l)).trans ?_
  refine (stack_at _ _ _ _ j r l).trans ?_
  match j with
  | ⟨0, _⟩ => exact (wcol_at (a2 m c) 0 slices_S1024x5632_S1024x1408_0_0 r l (by norm_num)).trans (congrArg (fun z => a2 m c (ix2 r z)) (Fin.ext (by dsimp only)))
  | ⟨1, _⟩ => exact (wcol_at (a2 m c) 1408 slices_S1024x5632_S1024x1408_0_1408 r l (by norm_num)).trans (congrArg (fun z => a2 m c (ix2 r z)) (Fin.ext (by dsimp only)))
  | ⟨2, _⟩ => exact (wcol_at (a2 m c) 2816 slices_S1024x5632_S1024x1408_0_2816 r l (by norm_num)).trans (congrArg (fun z => a2 m c (ix2 r z)) (Fin.ext (by dsimp only)))
  | ⟨3, _⟩ => exact (wcol_at (a2 m c) 4224 slices_S1024x5632_S1024x1408_0_4224 r l (by norm_num)).trans (congrArg (fun z => a2 m c (ix2 r z)) (Fin.ext (by dsimp only)))

/-! ## The kernel's blocks -/

theorem idxA : ∀ t : Fin cfg0.N, win0_0.index t = ![t.val, 0] ∧ win0_1.index t = ![t.val * 16 - 1, 0] ∧ win0_2.index t = ![min (t.val * 16 + 16) 511, 0] ∧ win0_3.index t = ![t.val, 0]
    ∧ win0_4.index t = ![t.val * 16 - 1, 0] ∧ win0_5.index t = ![min (t.val * 16 + 16) 511, 0] ∧ win0_6.index t = ![t.val, 0] ∧ win0_7.index t = ![t.val * 16 - 1, 0]
    ∧ win0_8.index t = ![min (t.val * 16 + 16) 511, 0] ∧ win0_9.index t = ![t.val, 0] ∧ win0_10.index t = ![0, 0] :=
  (by decide +kernel : ∀ t : Fin grid0.N, _)
theorem idxB : ∀ t : Fin cfg0.N, win0_11.index t = ![0, 0] ∧ win0_12.index t = ![0, 0, 0] ∧ win0_13.index t = ![t.val, 0] ∧ win0_14.index t = ![t.val, 0]
    ∧ win0_15.index t = ![0, 0] ∧ win0_16.index t = ![t.val, 0] ∧ win0_17.index t = ![t.val, 0] ∧ win0_18.index t = ![t.val, 0]
    ∧ win0_19.index t = ![0, 0] ∧ win0_20.index t = ![0, 0] ∧ win0_21.index t = ![0, 0] :=
  (by decide +kernel : ∀ t : Fin grid0.N, _)

theorem N32 : cfg0.N = 32 := N_0
theorem row_lt (t : Fin cfg0.N) (r : Fin 256) : t.val * 256 + r.val < 8192 := by
  have := lt_of_lt_of_eq t.isLt N32; omega
/-- Row `r` of tile `t`. -/
abbrev rowOf (t : Fin cfg0.N) (r : Fin 256) : Fin 8192 := ⟨t.val * 256 + r.val, row_lt t r⟩

variable (c : Dev nD) (t : Fin cfg0.N)

theorem blk0 (x : Fin 256) (y : Fin 1024) : iblk m c 0 t (ix2 x y) = a5 m c (ix3 0 (rowOf t x) y) := by
  rw [← V_dy]; blk_ext! [iblk, idxA t, idxB t]
theorem blk1 (ht : t.val ≠ 0) (x : Fin 16) (y : Fin 1024) : iblk m c 1 t (ix2 x y) = a5 m c (ix3 0 ⟨t.val * 256 - 16 + x.val, by have := row_lt t 0; omega⟩ y) := by
  rw [← V_dy]; blk_ext! [iblk, idxA t, idxB t]
theorem blk2 (ht : t.val < 31) (x : Fin 16) (y : Fin 1024) : iblk m c 2 t (ix2 x y) = a5 m c (ix3 0 ⟨t.val * 256 + 256 + x.val, by omega⟩ y) := by
  rw [← V_dy]; blk_ext! [iblk, idxA t, idxB t]
theorem blk3 (x : Fin 256) (y : Fin 2816) : iblk m c 3 t (ix2 x y) = val_main_v41 (F := Ideal) (a0 m c) (a1 m c) (a2 m c) (a3 m c) (ix3 0 (rowOf t x) y) := by
  rw [← V_ug]; blk_ext! [iblk, idxA t, idxB t]
theorem blk4 (ht : t.val ≠ 0) (x : Fin 16) (y : Fin 2816) : iblk m c 4 t (ix2 x y) = val_main_v41 (F := Ideal) (a0 m c) (a1 m c) (a2 m c) (a3 m c) (ix3 0 ⟨t.val * 256 - 16 + x.val, by have := row_lt t 0; omega⟩ y) := by
  rw [← V_ug]; blk_ext! [iblk, idxA t, idxB t]
theorem blk5 (ht : t.val < 31) (x : Fin 16) (y : Fin 2816) : iblk m c 5 t (ix2 x y) = val_main_v41 (F := Ideal) (a0 m c) (a1 m c) (a2 m c) (a3 m c) (ix3 0 ⟨t.val * 256 + 256 + x.val, by omega⟩ y) := by
  rw [← V_ug]; blk_ext! [iblk, idxA t, idxB t]
theorem blk6 (x : Fin 256) (y : Fin 2816) : iblk m c 6 t (ix2 x y) = val_main_v42 (F := Ideal) (a0 m c) (a1 m c) (a2 m c) (a3 m c) (ix3 0 (rowOf t x) y) := by
  rw [← V_uv]; blk_ext! [iblk, idxA t, idxB t]
theorem blk7 (ht : t.val ≠ 0) (x : Fin 16) (y : Fin 2816) : iblk m c 7 t (ix2 x y) = val_main_v42 (F := Ideal) (a0 m c) (a1 m c) (a2 m c) (a3 m c) (ix3 0 ⟨t.val * 256 - 16 + x.val, by have := row_lt t 0; omega⟩ y) := by
  rw [← V_uv]; blk_ext! [iblk, idxA t, idxB t]
theorem blk8 (ht : t.val < 31) (x : Fin 16) (y : Fin 2816) : iblk m c 8 t (ix2 x y) = val_main_v42 (F := Ideal) (a0 m c) (a1 m c) (a2 m c) (a3 m c) (ix3 0 ⟨t.val * 256 + 256 + x.val, by omega⟩ y) := by
  rw [← V_uv]; blk_ext! [iblk, idxA t, idxB t]
theorem blk9 (x : Fin 256) (y : Fin 5632) : iblk m c 9 t (ix2 x y) = val_main_v16 (F := Ideal) (a0 m c) (a1 m c) (a2 m c) (ix3 0 (rowOf t x) y) := by
  rw [← V_u]; blk_ext! [iblk, idxA t, idxB t]
theorem blk10 (x : Fin 3) (y : Fin 5632) : iblk m c 10 t (ix2 x y) = a3 m c (ix2 x y) := by
  rw [← show V m c main_arg3 = a3 m c from V_main_arg3 m c]; blk_ext! [iblk, idxA t, idxB t]
theorem blk11 (x : Fin 2816) (y : Fin 1024) : iblk m c 11 t (ix2 x y) = a4 m c (ix2 x y) := by
  rw [← V_wd]; blk_ext! [iblk, idxA t, idxB t]
theorem blk12 (j : Fin 4) (x : Fin 1024) (y : Fin 1408) : iblk m c 12 t (ix3 j x y) = a2 m c (ix2 x ⟨j.val * 1408 + y.val, by omega⟩) := by
  rw [← V_w]; blk_ext! [iblk, idxA t, idxB t]
theorem blk13 (x : Fin 256) (y : Fin 1024) : iblk m c 13 t (ix2 x y) = a0 m c (ix3 0 (rowOf t x) y) := by
  rw [← V_x]; blk_ext! [iblk, idxA t, idxB t]
theorem blk14 (x : Fin 256) (y : Fin 1024) : iblk m c 14 t (ix2 x y) = a6 m c (ix3 0 (rowOf t x) y) := by
  rw [← V_dres]; blk_ext! [iblk, idxA t, idxB t]
theorem blk15 (y : Fin 1024) : iblk m c 15 t (ix2 0 y) = a1 m c (ix1 y) := by
  rw [← V_g]; blk_ext! [iblk, idxA t, idxB t]

end Cert.FfnIdeal.Final

end
-- ==== Proof.FfnPay.lean ====
/- The gradient of the gated network: a block of columns of a tile, at each of its two widths, and its values at an index. -/
module

public import proofs.«01_k».proof.Proof.FfnHost

@[expose] public section

set_option maxRecDepth 16384

noncomputable section

namespace Cert.FfnIdeal.Final

open Cert Cert.FfnIdeal Cert.FfnIdeal.Gen Idealize.ShloMosaic Idealize.ShloMosaic.TcCoe Idealize.SL.Sem

/-- What reaches a gate's input. -/
abbrev gateVal (dz a b : EReal) : EReal :=
  dz * b * (Ideal.logistic a + a * Ideal.logistic a * (Ideal.ofBits .f32 0x3F800000#32 - Ideal.logistic a))

/-- The product of a tile's rows, with their halo, and a block of the weights. -/
theorem dz_at (x : FVec Ideal S288x1024 .bf16) (w : FVec Ideal S1408x1024 .bf16) (s : Fin 288) (l : Fin 1408) :
    matmul (F := Ideal) dot_S288x1024_S1408x1024_S288x1408_1_1_0_0_n_n none x (shapeCast S1408x1024 w shapeCasts_S1408x1024_S1408x1024)
      (constant S288x1408 .f32 0x00000000#32) (ix2 s l) = ∑ k : Fin 1024, x (ix2 s k) * w (ix2 l k) := by
  pointwise []
theorem rows_at (p n : FVec Ideal S16x1024 .bf16) (x : FVec Ideal S256x1024 .bf16) (s : Fin 288) (l : Fin 1024) :
    k0_pay5 (F := Ideal) p x n (ix2 s l)
      = if h : s.val < 16 then p (ix2 ⟨s.val, h⟩ l) else if h' : s.val < 272 then x (ix2 ⟨s.val - 16, by omega⟩ l) else n (ix2 ⟨s.val - 272, by omega⟩ l) := by
  pointwise [k0_pay5]
  by_cases h : s.val < 16
  · rw [dif_pos h, dif_pos h]
  · by_cases h' : s.val < 272
    · rw [dif_neg h, dif_pos (by omega), dif_neg h, dif_pos h']
    · rw [dif_neg h, dif_neg (by omega), dif_neg h, dif_neg h']
      simp only [show s.val - 16 - 256 = s.val - 272 by omega]

/-! ## A block of 512 columns -/

section Width512

variable (p n : FVec Ideal S16x512 .bf16) (x : FVec Ideal S256x512 .bf16) (dz a b d : FVec Ideal S288x512 .f32) (i : BitVec 32)
  (w0 w1 w2 acc : FVec Ideal S1x512 .f32) (u : FVec Ideal S256x512 .bf16)

def ext512 : FVec Ideal S288x512 .f32 :=
  extf .f32 (concatenate S288x512 0 [⟨S16x512, shapeCast S16x512 p shapeCasts_S16x512_S16x512⟩, ⟨S256x512, shapeCast S256x512 x shapeCasts_S256x512_S256x512⟩,
    ⟨S16x512, shapeCast S16x512 n shapeCasts_S16x512_S16x512⟩] concatenates_S16x512_S256x512_S16x512_S288x512_d0) bitsLt_bf16_f32
def sg512 : FVec Ideal S288x512 .f32 :=
  addf (mulf (broadcast S288x512 (Scalar.ofBits .f32 0x3F000000#32)) (tanh (mulf (broadcast S288x512 (Scalar.ofBits .f32 0x3F000000#32)) a)))
    (broadcast S288x512 (Scalar.ofBits .f32 0x3F000000#32))
def gate512 : FVec Ideal S288x512 .f32 :=
  mulf (mulf dz b) (addf (sg512 a) (mulf (mulf a (sg512 a)) (subf (broadcast S288x512 (Scalar.ofBits .f32 0x3F800000#32)) (sg512 a))))
def value512 : FVec Ideal S288x512 .f32 := mulf dz (mulf a (sg512 a))
def mid512 : FVec Ideal S256x512 .f32 := extractStridedSlice S256x512 ![16, 0] d slices_S288x512_o16_0_S256x512
def top512 : FVec Ideal S8x512 .f32 :=
  Scalar.select (Scalar.cmpi .eq i 0#32) (broadcast S8x512 (Scalar.ofBits .f32 0x00000000#32)) (extractStridedSlice S8x512 ![8, 0] d slices_S288x512_o8_0_S8x512)
def bot512 : FVec Ideal S8x512 .f32 :=
  Scalar.select (Scalar.cmpi .eq i 31#32) (broadcast S8x512 (Scalar.ofBits .f32 0x00000000#32)) (extractStridedSlice S8x512 ![272, 0] d slices_S288x512_o272_0_S8x512)
def around512 : FVec Ideal S272x512 .f32 :=
  concatenate S272x512 0 [⟨S8x512, top512 d i⟩, ⟨S256x512, mid512 d⟩, ⟨S8x512, bot512 d i⟩] concatenates_S8x512_S256x512_S8x512_S272x512_d0
def prev512 : FVec Ideal S256x512 .f32 :=
  extractStridedSlice S256x512 ![8, 0] (dynamicRotate 0 1#32 none (around512 d i) rotates_S272x512_d0) slices_S272x512_o8_0_S256x512
def next512 : FVec Ideal S256x512 .f32 :=
  extractStridedSlice S256x512 ![8, 0] (dynamicRotate 0 271#32 none (around512 d i) rotates_S272x512_d0) slices_S272x512_o8_0_S256x512
def du512 : FVec Ideal S256x512 .bf16 :=
  truncf .bf16 (addf (addf (mulf (broadcastTo S256x512 w0 broadcasts_S1x512_S256x512) (next512 d i)) (mulf (broadcastTo S256x512 w1 broadcasts_S1x512_S256x512) (mid512 d)))
    (mulf (broadcastTo S256x512 w2 broadcasts_S1x512_S256x512) (prev512 d i))) bitsLt_bf16_f32
def tap512 (z : FVec Ideal S256x512 .f32) : FVec Ideal S1x512 .f32 :=
  addf (shapeCast S1x512 acc shapeCasts_S1x512_S1x512) (shapeCast S1x512 (multiReduction .add [0] S512
    (mulf z (extf .f32 (shapeCast S256x512 u shapeCasts_S256x512_S256x512) bitsLt_bf16_f32)) 0x00000000#32 reduces_S256x512_S512 (.inl rfl) rfl) shapeCasts_S512_S1x512)
def dot512 (q : FVec Ideal S256x1024 .f32) (w : FVec Ideal S1x1024x512 .bf16) : FVec Ideal S256x1024 .f32 :=
  addf q (matmul dot_S256x512_S1024x512_S256x1024_1_1_0_0_n_n none u (shapeCast S1024x512 w shapeCasts_S1x1024x512_S1024x512)
    (constant S256x1024 .f32 0x00000000#32))

theorem ext512_at (s : Fin 288) (l : Fin 512) : ext512 p n x (ix2 s l)
    = if h : s.val < 16 then p (ix2 ⟨s.val, h⟩ l) else if h' : s.val < 272 then x (ix2 ⟨s.val - 16, by omega⟩ l) else n (ix2 ⟨s.val - 272, by omega⟩ l) := by
  pointwise [ext512]
  by_cases h : s.val < 16
  · rw [dif_pos h, dif_pos h]
  · by_cases h' : s.val < 272
    · rw [dif_neg h, dif_pos (by omega), dif_neg h, dif_pos h']
    · rw [dif_neg h, dif_neg (by omega), dif_neg h, dif_neg h']
      simp only [show s.val - 16 - 256 = s.val - 272 by omega]
theorem sg512_at (y : S288x512.Idx) : sg512 a y = Ideal.logistic (a y) := by
  rw [← Shared.half_tanh]
  pointwise [sg512]
theorem gate512_at (s : Fin 288) (l : Fin 512) : gate512 dz a b (ix2 s l) = gateVal (dz (ix2 s l)) (a (ix2 s l)) (b (ix2 s l)) := by
  unfold gateVal
  rw [← sg512_at]
  generalize hs : sg512 a = z
  pointwise [gate512, hs]
theorem value512_at (s : Fin 288) (l : Fin 512) :
    value512 dz a (ix2 s l) = dz (ix2 s l) * (a (ix2 s l) * Ideal.logistic (a (ix2 s l))) := by
  rw [← sg512_at]
  generalize hs : sg512 a = z
  pointwise [value512, hs]
theorem mid512_at (r : Fin 256) (l : Fin 512) : mid512 d (ix2 r l) = d (ix2 ⟨r.val + 16, by omega⟩ l) := by
  pointwise [mid512]
  simp only [Nat.add_comm 16 r.val]
theorem top512_at (l : Fin 512) : top512 d i (ix2 7 l) = if i = 0#32 then 0 else d (ix2 15 l) := by
  unfold top512
  rw [Shared.select_eq]
  split <;> pointwise []
theorem bot512_at (l : Fin 512) : bot512 d i (ix2 0 l) = if i = 31#32 then 0 else d (ix2 272 l) := by
  unfold bot512
  rw [Shared.select_eq]
  split <;> pointwise []
theorem prev512_at (r : Fin 256) (l : Fin 512) :
    prev512 d i (ix2 r l) = if r.val = 0 ∧ i = 0#32 then 0 else d (ix2 ⟨r.val + 15, by omega⟩ l) := by
  have ht := top512_at d i l
  have hm := mid512_at d ⟨r.val - 1, by omega⟩ l
  unfold prev512 around512
  generalize top512 d i = zt at ht
  generalize bot512 d i = zb
  generalize mid512 d = zm at hm
  pointwise []
  by_cases hr : r.val = 0
  · rw [dif_pos (by omega)]
    simp only [show (8 + r.val + 272 - 1) % 272 = 7 by omega, hr, true_and]
    exact ht
  · rw [dif_neg (by omega), dif_pos (by omega), if_neg (show ¬(r.val = 0 ∧ i = 0#32) from fun h => hr h.1)]
    simp only [show (8 + r.val + 272 - 1) % 272 - 8 = r.val - 1 by omega]
    refine hm.trans ?_
    simp only [show r.val - 1 + 16 = r.val + 15 by omega]
theorem next512_at (r : Fin 256) (l : Fin 512) :
    next512 d i (ix2 r l) = if r.val = 255 ∧ i = 31#32 then 0 else d (ix2 ⟨r.val + 17, by omega⟩ l) := by
  have hb := bot512_at d i l
  have hm := fun h : r.val + 1 < 256 => mid512_at d ⟨r.val + 1, h⟩ l
  unfold next512 around512
  generalize top512 d i = zt
  generalize bot512 d i = zb at hb
  generalize mid512 d = zm at hm
  pointwise []
  by_cases hr : r.val = 255
  · rw [dif_neg (by omega), dif_neg (by omega)]
    simp only [show (8 + r.val + 272 - 271) % 272 - 8 - 256 = 0 by omega, hr, true_and]
    exact hb
  · rw [dif_neg (by omega), dif_pos (by omega), if_neg (show ¬(r.val = 255 ∧ i = 31#32) from fun h => hr h.1)]
    simp only [show (8 + r.val + 272 - 271) % 272 - 8 = r.val + 1 by omega]
    exact hm (by omega)
theorem du512_at (r : Fin 256) (l : Fin 512) : du512 d i w0 w1 w2 (ix2 r l)
    = w0 (ix2 0 l) * next512 d i (ix2 r l) + w1 (ix2 0 l) * mid512 d (ix2 r l) + w2 (ix2 0 l) * prev512 d i (ix2 r l) := by
  generalize hn : next512 d i = zn
  generalize hm : mid512 d = zm
  generalize hp : prev512 d i = zp
  pointwise [du512, hn, hm, hp]
theorem tap512_at (z : FVec Ideal S256x512 .f32) (l : Fin 512) :
    tap512 acc u z (ix2 0 l) = acc (ix2 0 l) + ∑ r : Fin 256, z (ix2 r l) * u (ix2 r l) := by
  pointwise [tap512]
theorem dot512_at (q : FVec Ideal S256x1024 .f32) (w : FVec Ideal S1x1024x512 .bf16) (r : Fin 256) (l : Fin 1024) :
    dot512 u q w (ix2 r l) = q (ix2 r l) + ∑ k : Fin 512, u (ix2 r k) * w (ix3 0 l k) := by
  pointwise [dot512]

end Width512

/-! ## A block of 384 columns -/

section Width384

variable (p n : FVec Ideal S16x384 .bf16) (x : FVec Ideal S256x384 .bf16) (dz a b d : FVec Ideal S288x384 .f32) (i : BitVec 32)
  (w0 w1 w2 acc : FVec Ideal S1x384 .f32) (u : FVec Ideal S256x384 .bf16)

def ext384 : FVec Ideal S288x384 .f32 :=
  extf .f32 (concatenate S288x384 0 [⟨S16x384, shapeCast S16x384 p shapeCasts_S16x384_S16x384⟩, ⟨S256x384, shapeCast S256x384 x shapeCasts_S256x384_S256x384⟩,
    ⟨S16x384, shapeCast S16x384 n shapeCasts_S16x384_S16x384⟩] concatenates_S16x384_S256x384_S16x384_S288x384_d0) bitsLt_bf16_f32
def sg384 : FVec Ideal S288x384 .f32 :=
  addf (mulf (broadcast S288x384 (Scalar.ofBits .f32 0x3F000000#32)) (tanh (mulf (broadcast S288x384 (Scalar.ofBits .f32 0x3F000000#32)) a)))
    (broadcast S288x384 (Scalar.ofBits .f32 0x3F000000#32))
def gate384 : FVec Ideal S288x384 .f32 :=
  mulf (mulf dz b) (addf (sg384 a) (mulf (mulf a (sg384 a)) (subf (broadcast S288x384 (Scalar.ofBits .f32 0x3F800000#32)) (sg384 a))))
def value384 : FVec Ideal S288x384 .f32 := mulf dz (mulf a (sg384 a))
def mid384 : FVec Ideal S256x384 .f32 := extractStridedSlice S256x384 ![16, 0] d slices_S288x384_o16_0_S256x384
def top384 : FVec Ideal S8x384 .f32 :=
  Scalar.select (Scalar.cmpi .eq i 0#32) (broadcast S8x384 (Scalar.ofBits .f32 0x00000000#32)) (extractStridedSlice S8x384 ![8, 0] d slices_S288x384_o8_0_S8x384)
def bot384 : FVec Ideal S8x384 .f32 :=
  Scalar.select (Scalar.cmpi .eq i 31#32) (broadcast S8x384 (Scalar.ofBits .f32 0x00000000#32)) (extractStridedSlice S8x384 ![272, 0] d slices_S288x384_o272_0_S8x384)
def around384 : FVec Ideal S272x384 .f32 :=
  concatenate S272x384 0 [⟨S8x384, top384 d i⟩, ⟨S256x384, mid384 d⟩, ⟨S8x384, bot384 d i⟩] concatenates_S8x384_S256x384_S8x384_S272x384_d0
def prev384 : FVec Ideal S256x384 .f32 :=
  extractStridedSlice S256x384 ![8, 0] (dynamicRotate 0 1#32 none (around384 d i) rotates_S272x384_d0) slices_S272x384_o8_0_S256x384
def next384 : FVec Ideal S256x384 .f32 :=
  extractStridedSlice S256x384 ![8, 0] (dynamicRotate 0 271#32 none (around384 d i) rotates_S272x384_d0) slices_S272x384_o8_0_S256x384
def du384 : FVec Ideal S256x384 .bf16 :=
  truncf .bf16 (addf (addf (mulf (broadcastTo S256x384 w0 broadcasts_S1x384_S256x384) (next384 d i)) (mulf (broadcastTo S256x384 w1 broadcasts_S1x384_S256x384) (mid384 d)))
    (mulf (broadcastTo S256x384 w2 broadcasts_S1x384_S256x384) (prev384 d i))) bitsLt_bf16_f32
def tap384 (z : FVec Ideal S256x384 .f32) : FVec Ideal S1x384 .f32 :=
  addf (shapeCast S1x384 acc shapeCasts_S1x384_S1x384) (shapeCast S1x384 (multiReduction .add [0] S384
    (mulf z (extf .f32 (shapeCast S256x384 u shapeCasts_S256x384_S256x384) bitsLt_bf16_f32)) 0x00000000#32 reduces_S256x384_S384 (.inl rfl) rfl) shapeCasts_S384_S1x384)
def dot384 (q : FVec Ideal S256x1024 .f32) (w : FVec Ideal S1x1024x384 .bf16) : FVec Ideal S256x1024 .f32 :=
  addf q (matmul dot_S256x384_S1024x384_S256x1024_1_1_0_0_n_n none u (shapeCast S1024x384 w shapeCasts_S1x1024x384_S1024x384)
    (constant S256x1024 .f32 0x00000000#32))

theorem ext384_at (s : Fin 288) (l : Fin 384) : ext384 p n x (ix2 s l)
    = if h : s.val < 16 then p (ix2 ⟨s.val, h⟩ l) else if h' : s.val < 272 then x (ix2 ⟨s.val - 16, by omega⟩ l) else n (ix2 ⟨s.val - 272, by omega⟩ l) := by
  pointwise [ext384]
  by_cases h : s.val < 16
  · rw [dif_pos h, dif_pos h]
  · by_cases h' : s.val < 272
    · rw [dif_neg h, dif_pos (by omega), dif_neg h, dif_pos h']
    · rw [dif_neg h, dif_neg (by omega), dif_neg h, dif_neg h']
      simp only [show s.val - 16 - 256 = s.val - 272 by omega]
theorem sg384_at (y : S288x384.Idx) : sg384 a y = Ideal.logistic (a y) := by
  rw [← Shared.half_tanh]
  pointwise [sg384]
theorem gate384_at (s : Fin 288) (l : Fin 384) : gate384 dz a b (ix2 s l) = gateVal (dz (ix2 s l)) (a (ix2 s l)) (b (ix2 s l)) := by
  unfold gateVal
  rw [← sg384_at]
  generalize hs : sg384 a = z
  pointwise [gate384, hs]
theorem value384_at (s : Fin 288) (l : Fin 384) :
    value384 dz a (ix2 s l) = dz (ix2 s l) * (a (ix2 s l) * Ideal.logistic (a (ix2 s l))) := by
  rw [← sg384_at]
  generalize hs : sg384 a = z
  pointwise [value384, hs]
theorem mid384_at (r : Fin 256) (l : Fin 384) : mid384 d (ix2 r l) = d (ix2 ⟨r.val + 16, by omega⟩ l) := by
  pointwise [mid384]
  simp only [Nat.add_comm 16 r.val]
theorem top384_at (l : Fin 384) : top384 d i (ix2 7 l) = if i = 0#32 then 0 else d (ix2 15 l) := by
  unfold top384
  rw [Shared.select_eq]
  split <;> pointwise []
theorem bot384_at (l : Fin 384) : bot384 d i (ix2 0 l) = if i = 31#32 then 0 else d (ix2 272 l) := by
  unfold bot384
  rw [Shared.select_eq]
  split <;> pointwise []
theorem prev384_at (r : Fin 256) (l : Fin 384) :
    prev384 d i (ix2 r l) = if r.val = 0 ∧ i = 0#32 then 0 else d (ix2 ⟨r.val + 15, by omega⟩ l) := by
  have ht := top384_at d i l
  have hm := mid384_at d ⟨r.val - 1, by omega⟩ l
  unfold prev384 around384
  generalize top384 d i = zt at ht
  generalize bot384 d i = zb
  generalize mid384 d = zm at hm
  pointwise []
  by_cases hr : r.val = 0
  · rw [dif_pos (by omega)]
    simp only [show (8 + r.val + 272 - 1) % 272 = 7 by omega, hr, true_and]
    exact ht
  · rw [dif_neg (by omega), dif_pos (by omega), if_neg (show ¬(r.val = 0 ∧ i = 0#32) from fun h => hr h.1)]
    simp only [show (8 + r.val + 272 - 1) % 272 - 8 = r.val - 1 by omega]
    refine hm.trans ?_
    simp only [show r.val - 1 + 16 = r.val + 15 by omega]
theorem next384_at (r : Fin 256) (l : Fin 384) :
    next384 d i (ix2 r l) = if r.val = 255 ∧ i = 31#32 then 0 else d (ix2 ⟨r.val + 17, by omega⟩ l) := by
  have hb := bot384_at d i l
  have hm := fun h : r.val + 1 < 256 => mid384_at d ⟨r.val + 1, h⟩ l
  unfold next384 around384
  generalize top384 d i = zt
  generalize bot384 d i = zb at hb
  generalize mid384 d = zm at hm
  pointwise []
  by_cases hr : r.val = 255
  · rw [dif_neg (by omega), dif_neg (by omega)]
    simp only [show (8 + r.val + 272 - 271) % 272 - 8 - 256 = 0 by omega, hr, true_and]
    exact hb
  · rw [dif_neg (by omega), dif_pos (by omega), if_neg (show ¬(r.val = 255 ∧ i = 31#32) from fun h => hr h.1)]
    simp only [show (8 + r.val + 272 - 271) % 272 - 8 = r.val + 1 by omega]
    exact hm (by omega)
theorem du384_at (r : Fin 256) (l : Fin 384) : du384 d i w0 w1 w2 (ix2 r l)
    = w0 (ix2 0 l) * next384 d i (ix2 r l) + w1 (ix2 0 l) * mid384 d (ix2 r l) + w2 (ix2 0 l) * prev384 d i (ix2 r l) := by
  generalize hn : next384 d i = zn
  generalize hm : mid384 d = zm
  generalize hp : prev384 d i = zp
  pointwise [du384, hn, hm, hp]
theorem tap384_at (z : FVec Ideal S256x384 .f32) (l : Fin 384) :
    tap384 acc u z (ix2 0 l) = acc (ix2 0 l) + ∑ r : Fin 256, z (ix2 r l) * u (ix2 r l) := by
  pointwise [tap384]
theorem dot384_at (q : FVec Ideal S256x1024 .f32) (w : FVec Ideal S1x1024x384 .bf16) (r : Fin 256) (l : Fin 1024) :
    dot384 u q w (ix2 r l) = q (ix2 r l) + ∑ k : Fin 384, u (ix2 r k) * w (ix3 0 l k) := by
  pointwise [dot384]

end Width384

/-! ## The norm -/

theorem norm_at (q : FVec Ideal S256x1024 .f32) (u : FVec Ideal S256x384 .bf16) (w : FVec Ideal S1x1024x384 .bf16) (x d : FVec Ideal S256x1024 .f32)
    (g : FVec Ideal S1x1024 .f32) (r : Fin 256) (l : Fin 1024) : k0_pay190 (F := Ideal) q u w x g d (ix2 r l)
      = d (ix2 r l) + Shared.normK Shared.w1024 (fun k => dot384 u q w (ix2 r k)) (fun k => x (ix2 r k)) (fun k => g (ix2 0 k)) l := by
  have hq : k0_pay185 (F := Ideal) q u w = dot384 u q w := rfl
  generalize dot384 u q w = z at hq
  pointwise [k0_pay190, k0_pay186, k0_pay187, k0_pay188, hq, Shared.normK, Shared.meanSq]
theorem scale_at (q : FVec Ideal S256x1024 .f32) (u : FVec Ideal S256x384 .bf16) (w : FVec Ideal S1x1024x384 .bf16) (x : FVec Ideal S256x1024 .f32)
    (acc : FVec Ideal S1x1024 .f32) (l : Fin 1024) : k0_pay1 (F := Ideal) (k0_pay189 q u w x) acc (ix2 0 l) = acc (ix2 0 l)
      + ∑ r : Fin 256, dot384 u q w (ix2 r l) * (x (ix2 r l) * Ideal.rsqrt (Shared.meanSq Shared.w1024 fun k => x (ix2 r k))) := by
  have hq : k0_pay185 (F := Ideal) q u w = dot384 u q w := rfl
  generalize dot384 u q w = z at hq
  pointwise [k0_pay1, k0_pay189, k0_pay186, k0_pay187, k0_pay188, hq, Shared.meanSq]

end Cert.FfnIdeal.Final

end
-- ==== Proof.FfnRef.lean ====
/- The gradient of the gated network: the derivative's stages at an index. -/
module

public import proofs.«01_k».proof.Proof.Gen.FfnRefIdeal.Read
public import proofs.«01_k».proof.Proof.Shared

@[expose] public section

set_option maxRecDepth 16384

noncomputable section

namespace Cert.FfnRefIdeal.At

open Cert Cert.FfnRefIdeal Idealize.ShloMosaic
open Cert.FfnRefIdeal.Read

variable (x0 : FVec Ideal S1x8192x1024 .f32) (x1 : FVec Ideal S1024 .f32) (x2 : FVec Ideal S1024x5632 .f32) (x3 : FVec Ideal S3x5632 .f32)
  (x4 : FVec Ideal S2816x1024 .f32) (x5 x6 : FVec Ideal S1x8192x1024 .f32)

theorem sitofp_zero : FloatOps.sitofp (F := Ideal) .f32 0#32 = (0 : EReal) := by
  show (((0#32 : BitVec 32).toInt : ℝ) : EReal) = 0
  simp

/-! ## The gate -/

theorem dz_at (r : Fin 8192) (l : Fin 2816) : val_main_v46 (F := Ideal) x4 x5 (ix3 0 r l) = ∑ k : Fin 1024, x5 (ix3 0 r k) * x4 (ix2 l k) := by
  pointwise [val_main_v46]

theorem sig_at (r : Fin 8192) (l : Fin 2816) : val_main_v43_2 (F := Ideal) x0 x1 x2 x3 (ix3 0 r l) = Ideal.logistic (val_main_v41 (F := Ideal) x0 x1 x2 x3 (ix3 0 r l)) := by
  generalize hv41 : val_main_v41 (F := Ideal) x0 x1 x2 x3 = zv41
  pointwise [val_main_v43_2, val_main_call0_v3, val_main_call0_v1, val_main_call0_v0, val_main_call0_v2, val_main_call0_cst, val_main_call0_v4, val_main_call0_cst_0, hv41, Ideal.logistic]

/-- What reaches the gate's columns, as the derivative writes it. -/
theorem gate_at (r : Fin 8192) (l : Fin 2816) : val_main_v50 (F := Ideal) x0 x1 x2 x3 x4 x5 (ix3 0 r ⟨l.val, by omega⟩)
    = val_main_v46 (F := Ideal) x4 x5 (ix3 0 r l) * val_main_v42 (F := Ideal) x0 x1 x2 x3 (ix3 0 r l) * Ideal.logistic (val_main_v41 (F := Ideal) x0 x1 x2 x3 (ix3 0 r l))
      + val_main_v41 (F := Ideal) x0 x1 x2 x3 (ix3 0 r l) * (val_main_v46 (F := Ideal) x4 x5 (ix3 0 r l) * val_main_v42 (F := Ideal) x0 x1 x2 x3 (ix3 0 r l))
        * (Ideal.logistic (val_main_v41 (F := Ideal) x0 x1 x2 x3 (ix3 0 r l)) * (Ideal.ofBits .f32 0x3F800000#32 - Ideal.logistic (val_main_v41 (F := Ideal) x0 x1 x2 x3 (ix3 0 r l)))) := by
  rw [← sig_at]
  generalize hv43_2 : val_main_v43_2 (F := Ideal) x0 x1 x2 x3 = zv43_2
  generalize hv41 : val_main_v41 (F := Ideal) x0 x1 x2 x3 = zv41
  generalize hv42 : val_main_v42 (F := Ideal) x0 x1 x2 x3 = zv42
  generalize hv46 : val_main_v46 (F := Ideal) x4 x5 = zv46
  pointwise [val_main_v50, val_main_v47, val_main_v43_0, val_main_v49, val_main_call1_v2, val_main_v43_1, val_main_call0_v7, val_main_call0_v6, val_main_call0_cst_1, val_main_call1_v0, val_main_v48, val_main_call1_v1, hv43_2, hv41, hv42, hv46]

theorem value_at (r : Fin 8192) (l : Fin 2816) : val_main_v50 (F := Ideal) x0 x1 x2 x3 x4 x5 (ix3 0 r ⟨2816 + l.val, by omega⟩)
    = val_main_v41 (F := Ideal) x0 x1 x2 x3 (ix3 0 r l) * Ideal.logistic (val_main_v41 (F := Ideal) x0 x1 x2 x3 (ix3 0 r l)) * val_main_v46 (F := Ideal) x4 x5 (ix3 0 r l) := by
  rw [← sig_at]
  generalize hv43_2 : val_main_v43_2 (F := Ideal) x0 x1 x2 x3 = zv43_2
  generalize hv41 : val_main_v41 (F := Ideal) x0 x1 x2 x3 = zv41
  generalize hv42 : val_main_v42 (F := Ideal) x0 x1 x2 x3 = zv42
  generalize hv46 : val_main_v46 (F := Ideal) x4 x5 = zv46
  pointwise [val_main_v50, val_main_v47, val_main_v43_0, val_main_v49, val_main_call1_v2, val_main_v43_1, val_main_call0_v7, val_main_call0_v6, val_main_call0_cst_1, val_main_call1_v0, val_main_v48, val_main_call1_v1, hv43_2, hv41, hv42, hv46]

/-! ## The convolution -/

theorem du_at (r : Fin 8192) (l : Fin 5632) : val_main_v83 (F := Ideal) x0 x1 x2 x3 x4 x5 (ix3 0 r l)
    = x3 (ix2 2 l) * (if h : r.val = 0 then 0 else val_main_v50 (F := Ideal) x0 x1 x2 x3 x4 x5 (ix3 0 ⟨r.val - 1, by omega⟩ l)) + x3 (ix2 1 l) * val_main_v50 (F := Ideal) x0 x1 x2 x3 x4 x5 (ix3 0 r l)
      + x3 (ix2 0 l) * (if h : r.val = 8191 then 0 else val_main_v50 (F := Ideal) x0 x1 x2 x3 x4 x5 (ix3 0 ⟨r.val + 1, by omega⟩ l)) := by
  generalize hv50 : val_main_v50 (F := Ideal) x0 x1 x2 x3 x4 x5 = zv50
  pointwise [val_main_v83, val_main_v78, val_main_v77, val_main_cst_16, val_main_v72, val_main_v71, val_main_v24, val_main_v22, val_main_v21, val_main_v67, val_main_v66, val_main_cst_12, val_main_v61, val_main_v60, val_main_v30, val_main_v28, val_main_v27, val_main_v57, val_main_cst_8, val_main_v52, val_main_v51, val_main_v37, val_main_v35, val_main_v34, hv50]
  refine congrArg₂ (· + ·) (congrArg (· + _) ?_) ?_
  · by_cases h : r.val = 0
    · rw [dif_neg (by omega), dif_pos h, mul_zero]
    · rw [dif_pos (by omega), dif_neg h]
      simp only [show 1 + r.val - 2 = r.val - 1 by omega]
  · by_cases h : r.val = 8191
    · rw [dif_neg (by omega), dif_pos h, mul_zero]
    · rw [dif_pos (by omega), dif_neg h]
      simp only [Nat.add_comm 1 r.val]

theorem prev_at (r : Fin 8192) (l : Fin 5632) :
    val_main_v23 (F := Ideal) x0 x1 x2 (ix3 0 r l) = if h : r.val = 0 then 0 else val_main_v16 (F := Ideal) x0 x1 x2 (ix3 0 ⟨r.val - 1, by omega⟩ l) := by
  generalize hv16 : val_main_v16 (F := Ideal) x0 x1 x2 = zv16
  pointwise [val_main_v23, val_main_v18, val_main_v17, val_main_cst_3, hv16]
  by_cases h : r.val = 0
  · rw [dif_pos (by omega), dif_pos h]
  · rw [dif_neg (by omega), dif_pos (by omega), dif_neg h]
theorem self_at (r : Fin 8192) (l : Fin 5632) : val_main_v29 (F := Ideal) x0 x1 x2 (ix3 0 r l) = val_main_v16 (F := Ideal) x0 x1 x2 (ix3 0 r l) := by
  generalize hv16 : val_main_v16 (F := Ideal) x0 x1 x2 = zv16
  pointwise [val_main_v29, val_main_v18, val_main_v17, val_main_cst_3, hv16]
theorem next_at (r : Fin 8192) (l : Fin 5632) :
    val_main_v36 (F := Ideal) x0 x1 x2 (ix3 0 r l) = if h : r.val = 8191 then 0 else val_main_v16 (F := Ideal) x0 x1 x2 (ix3 0 ⟨r.val + 1, by omega⟩ l) := by
  generalize hv16 : val_main_v16 (F := Ideal) x0 x1 x2 = zv16
  pointwise [val_main_v36, val_main_v18, val_main_v17, val_main_cst_3, hv16]
  by_cases h : r.val = 8191
  · rw [dif_neg (by omega), dif_neg (by omega), dif_pos h]
  · rw [dif_neg (by omega), dif_pos (by omega), dif_neg h]
    simp only [show 2 + r.val - 1 = r.val + 1 by omega]

theorem tap0_at (l : Fin 5632) : val_main_v76 (F := Ideal) x0 x1 x2 x3 x4 x5 (ix1 l) = ∑ r : Fin 8192, val_main_v50 (F := Ideal) x0 x1 x2 x3 x4 x5 (ix3 0 r l) * val_main_v23 (F := Ideal) x0 x1 x2 (ix3 0 r l) := by
  generalize hv50 : val_main_v50 (F := Ideal) x0 x1 x2 x3 x4 x5 = zv50
  generalize hv23 : val_main_v23 (F := Ideal) x0 x1 x2 = zv23
  pointwise [val_main_v76]
  rw [Shared.hostSum_last]
  pointwise [val_main_cst_15, val_main_v75, val_main_v74, val_main_cst_14, val_main_v73, hv50, hv23]
theorem tap1_at (l : Fin 5632) : val_main_v65 (F := Ideal) x0 x1 x2 x3 x4 x5 (ix1 l) = ∑ r : Fin 8192, val_main_v50 (F := Ideal) x0 x1 x2 x3 x4 x5 (ix3 0 r l) * val_main_v29 (F := Ideal) x0 x1 x2 (ix3 0 r l) := by
  generalize hv50 : val_main_v50 (F := Ideal) x0 x1 x2 x3 x4 x5 = zv50
  generalize hv29 : val_main_v29 (F := Ideal) x0 x1 x2 = zv29
  pointwise [val_main_v65]
  rw [Shared.hostSum_last]
  pointwise [val_main_cst_11, val_main_v64, val_main_v63, val_main_cst_10, val_main_v62, hv50, hv29]
theorem tap2_at (l : Fin 5632) : val_main_v56 (F := Ideal) x0 x1 x2 x3 x4 x5 (ix1 l) = ∑ r : Fin 8192, val_main_v50 (F := Ideal) x0 x1 x2 x3 x4 x5 (ix3 0 r l) * val_main_v36 (F := Ideal) x0 x1 x2 (ix3 0 r l) := by
  generalize hv50 : val_main_v50 (F := Ideal) x0 x1 x2 x3 x4 x5 = zv50
  generalize hv36 : val_main_v36 (F := Ideal) x0 x1 x2 = zv36
  pointwise [val_main_v56]
  rw [Shared.hostSum_last]
  pointwise [val_main_cst_7, val_main_v55, val_main_v54, val_main_cst_6, val_main_v53, hv50, hv36]

/-- The taps' gradient, with the rows past the third zero. -/
theorem taps_at (i : Fin 8) (l : Fin 5632) : val_main_v107 (F := Ideal) x0 x1 x2 x3 x4 x5 (ix2 i l)
    = if i.val = 0 then val_main_v76 (F := Ideal) x0 x1 x2 x3 x4 x5 (ix1 l) else if i.val = 1 then val_main_v65 (F := Ideal) x0 x1 x2 x3 x4 x5 (ix1 l) else if i.val = 2 then val_main_v56 (F := Ideal) x0 x1 x2 x3 x4 x5 (ix1 l) else 0 := by
  generalize hv76 : val_main_v76 (F := Ideal) x0 x1 x2 x3 x4 x5 = zv76
  generalize hv65 : val_main_v65 (F := Ideal) x0 x1 x2 x3 x4 x5 = zv65
  generalize hv56 : val_main_v56 (F := Ideal) x0 x1 x2 x3 x4 x5 = zv56
  pointwise [val_main_v107, val_main_call2_v0, val_main_c, val_main_v81, val_main_v80, val_main_cst_17, val_main_v79, val_main_v70, val_main_v69, val_main_cst_13, val_main_v68, val_main_v59, val_main_cst_9, val_main_v58, hv76, hv65, hv56]
  match i with
  | ⟨0, _⟩ => simp
  | ⟨1, _⟩ => simp
  | ⟨2, _⟩ => simp
  | ⟨n + 3, h⟩ =>
    rw [dif_neg (by simp only; omega), if_neg (by simp only; omega), if_neg (by simp only; omega), if_neg (by simp only; omega)]
    exact sitofp_zero

/-! ## The norm -/

theorem dh_at (r : Fin 8192) (l : Fin 1024) : val_main_v85 (F := Ideal) x0 x1 x2 x3 x4 x5 (ix3 0 r l) = ∑ k : Fin 5632, val_main_v83 (F := Ideal) x0 x1 x2 x3 x4 x5 (ix3 0 r k) * x2 (ix2 l k) := by
  generalize hv83 : val_main_v83 (F := Ideal) x0 x1 x2 x3 x4 x5 = zv83
  pointwise [val_main_v85, hv83]

theorem share_at (r : Fin 8192) : val_main_v100 (F := Ideal) x0 x1 x2 x3 x4 x5 (ix1 r)
    = Shared.normShare Shared.w1024 (fun k => val_main_v85 (F := Ideal) x0 x1 x2 x3 x4 x5 (ix3 0 r k)) (fun k => x0 (ix3 0 r k)) (fun k => x1 (ix1 k)) := by
  generalize hv85 : val_main_v85 (F := Ideal) x0 x1 x2 x3 x4 x5 = zv85
  pointwise [val_main_v100]
  rw [Shared.hostSum_mid]
  pointwise [val_main_cst_22, val_main_v99, val_main_v98, val_main_cst_21, val_main_v97, val_main_v10, val_main_v8, val_main_v6, val_main_v5, val_main_cst_1, val_main_v4, val_main_v3, val_main_cst_0, val_main_v2, val_main_v1, val_main_cst, val_main_v0, val_main_v7, val_main_v9, val_main_cst_2, val_main_v94, val_main_v93, val_main_cst_20, val_main_v92, val_main_v90, val_main_v89, val_main_v13, hv85, Shared.normShare, Shared.meanSq]

theorem dx_at (r : Fin 8192) (l : Fin 1024) : val_main_v115 (F := Ideal) x0 x1 x2 x3 x4 x5 x6 (ix2 r l) = x6 (ix3 0 r l)
    + Shared.normR Shared.w1024 (fun k => val_main_v85 (F := Ideal) x0 x1 x2 x3 x4 x5 (ix3 0 r k)) (fun k => x0 (ix3 0 r k)) (fun k => x1 (ix1 k)) l := by
  have hs := share_at x0 x1 x2 x3 x4 x5 r
  generalize hv100 : val_main_v100 (F := Ideal) x0 x1 x2 x3 x4 x5 = zv100 at hs
  generalize hv85 : val_main_v85 (F := Ideal) x0 x1 x2 x3 x4 x5 = zv85 at hs
  pointwise [val_main_v115, val_main_v114, val_main_v106, val_main_v105, val_main_v102, val_main_v101, val_main_v104, val_main_v103, val_main_v96, val_main_v95, val_main_v7, val_main_v6, val_main_v5, val_main_cst_1, val_main_v4, val_main_v3, val_main_cst_0, val_main_v2, val_main_v1, val_main_cst, val_main_v0, val_main_v90, val_main_v89, val_main_v13, hv85, hv100, Shared.normR, Shared.meanSq]
  rw [hs]

theorem dg_at (l : Fin 1024) : val_main_v116 (F := Ideal) x0 x1 x2 x3 x4 x5 (ix2 0 l)
    = ∑ r : Fin 8192, x0 (ix3 0 r l) * Ideal.rsqrt (Shared.meanSq Shared.w1024 fun k => x0 (ix3 0 r k)) * val_main_v85 (F := Ideal) x0 x1 x2 x3 x4 x5 (ix3 0 r l) := by
  generalize hv85 : val_main_v85 (F := Ideal) x0 x1 x2 x3 x4 x5 = zv85
  pointwise [val_main_v116, val_main_v91]
  rw [Shared.hostSum_last]
  pointwise [val_main_cst_19, val_main_v88, val_main_v87, val_main_cst_18, val_main_v86, val_main_v12, val_main_v11, val_main_v7, val_main_v6, val_main_v5, val_main_cst_1, val_main_v4, val_main_v3, val_main_cst_0, val_main_v2, val_main_v1, val_main_cst, val_main_v0, hv85, Shared.meanSq]

/-! ## The results -/

theorem out_gate (r : Fin 8192) (l : Fin 2816) : val_main_v110 (F := Ideal) x0 x1 x2 x3 x4 x5 (ix2 r l) = val_main_v83 (F := Ideal) x0 x1 x2 x3 x4 x5 (ix3 0 r ⟨l.val, by omega⟩) := by
  generalize hv83 : val_main_v83 (F := Ideal) x0 x1 x2 x3 x4 x5 = zv83
  pointwise [val_main_v110, val_main_v109, val_main_v108, hv83]
theorem out_value (r : Fin 8192) (l : Fin 2816) : val_main_v113 (F := Ideal) x0 x1 x2 x3 x4 x5 (ix2 r l) = val_main_v83 (F := Ideal) x0 x1 x2 x3 x4 x5 (ix3 0 r ⟨2816 + l.val, by omega⟩) := by
  generalize hv83 : val_main_v83 (F := Ideal) x0 x1 x2 x3 x4 x5 = zv83
  pointwise [val_main_v113, val_main_v112, val_main_v111, hv83]
theorem out_tapg (i : Fin 8) (l : Fin 2816) : val_main_v117 (F := Ideal) x0 x1 x2 x3 x4 x5 (ix2 i l) = val_main_v107 (F := Ideal) x0 x1 x2 x3 x4 x5 (ix2 i ⟨l.val, by omega⟩) := by
  generalize hv107 : val_main_v107 (F := Ideal) x0 x1 x2 x3 x4 x5 = zv107
  pointwise [val_main_v117, hv107]
theorem out_tapv (i : Fin 8) (l : Fin 2816) : val_main_v118 (F := Ideal) x0 x1 x2 x3 x4 x5 (ix2 i l) = val_main_v107 (F := Ideal) x0 x1 x2 x3 x4 x5 (ix2 i ⟨2816 + l.val, by omega⟩) := by
  generalize hv107 : val_main_v107 (F := Ideal) x0 x1 x2 x3 x4 x5 = zv107
  pointwise [val_main_v118, hv107]

/-! ## Finite arguments -/

section Real

open Cert.Shared (Real')

theorem real_dz (h4 : ∀ i, Real' (x4 i)) (h5 : ∀ i, Real' (x5 i))
    (r : Fin 8192) (l : Fin 2816) : Real' (val_main_v46 (F := Ideal) x4 x5 (ix3 0 r l)) := by
  rw [dz_at]
  exact Real'.sum fun k => (h5 _).mul (h4 _)
/-- An entry of a normalised row is real, whatever the row: where an entry of it is infinite, the factor is nought. -/
theorem norm_real {n : ℕ} {D : EReal} (hD : ∃ q : ℝ, 0 < q ∧ D = q) (y : Fin n → EReal) (k : Fin n) :
    Real' (y k * Ideal.rsqrt (Shared.meanSq D y)) := by
  by_cases h : ∀ k, Real' (y k)
  · exact (h k).mul (Shared.rs_real D hD h)
  · refine ⟨0, ?_⟩
    obtain ⟨j, hj⟩ := not_forall.mp h
    have hsq : y j * y j = ⊤ := by
      rcases eq_or_ne (y j) ⊤ with ht | ht
      · rw [ht]; exact EReal.top_mul_top
      rcases eq_or_ne (y j) ⊥ with hb | hb
      · rw [hb]; exact EReal.bot_mul_bot
      exact absurd ⟨(y j).toReal, (EReal.coe_toReal ht hb).symm⟩ hj
    have hsum : ∑ k, y k * y k = ⊤ :=
      top_le_iff.mp (hsq ▸ Finset.single_le_sum (f := fun k => y k * y k) (fun i _ => Shared.mul_self_nonneg' (y i)) (Finset.mem_univ j))
    obtain ⟨q, hq, rfl⟩ := hD
    obtain ⟨e, -, he⟩ := Shared.c_eps
    have hm : Shared.meanSq (q : EReal) y = ⊤ := by
      unfold Shared.meanSq
      rw [hsum, Ideal.div_coe hq.ne', EReal.top_mul_coe_of_pos (by positivity)]
      exact EReal.top_add_of_ne_bot (by rw [he]; exact EReal.coe_ne_bot e)
    rw [hm, show Ideal.rsqrt ⊤ = 0 from rfl, mul_zero]; rfl
theorem real_u (h1 : ∀ i, Real' (x1 i)) (h2 : ∀ i, Real' (x2 i))
    (r : Fin 8192) (l : Fin 5632) : Real' (val_main_v16 (F := Ideal) x0 x1 x2 (ix3 0 r l)) := by
  have h : val_main_v16 (F := Ideal) x0 x1 x2 (ix3 0 r l)
      = ∑ k : Fin 1024, x0 (ix3 0 r k) * Ideal.rsqrt (Shared.meanSq Shared.w1024 fun k => x0 (ix3 0 r k)) * x1 (ix1 k) * x2 (ix2 k l) := by
    pointwise [val_main_v16, val_main_v15, val_main_v14, val_main_v13, val_main_v12, val_main_v11, val_main_v7, val_main_v6, val_main_v5, val_main_cst_1, val_main_v4, val_main_v3, val_main_cst_0, val_main_v2, val_main_v1, val_main_cst, val_main_v0, Shared.meanSq]
  rw [h]
  exact Real'.sum fun k => ((norm_real Shared.w1024_pos (fun k => x0 (ix3 0 r k)) k).mul (h1 _)).mul (h2 _)
theorem conv_at (r : Fin 8192) (l : Fin 5632) : val_main_v40 (F := Ideal) x0 x1 x2 x3 (ix3 0 r l)
    = x3 (ix2 0 l) * val_main_v23 (F := Ideal) x0 x1 x2 (ix3 0 r l) + x3 (ix2 1 l) * val_main_v29 (F := Ideal) x0 x1 x2 (ix3 0 r l) + x3 (ix2 2 l) * val_main_v36 (F := Ideal) x0 x1 x2 (ix3 0 r l) := by
  generalize hv23 : val_main_v23 (F := Ideal) x0 x1 x2 = zv23
  generalize hv29 : val_main_v29 (F := Ideal) x0 x1 x2 = zv29
  generalize hv36 : val_main_v36 (F := Ideal) x0 x1 x2 = zv36
  pointwise [val_main_v40, val_main_v39, val_main_v38, val_main_v37, val_main_v35, val_main_v34, val_main_v33, val_main_v32, val_main_v31, val_main_v30, val_main_v28, val_main_v27, val_main_v26, val_main_v25, val_main_v24, val_main_v22, val_main_v21, hv23, hv29, hv36]
theorem real_conv (h1 : ∀ i, Real' (x1 i)) (h2 : ∀ i, Real' (x2 i)) (h3 : ∀ i, Real' (x3 i))
    (r : Fin 8192) (l : Fin 5632) : Real' (val_main_v40 (F := Ideal) x0 x1 x2 x3 (ix3 0 r l)) := by
  rw [conv_at, prev_at, self_at, next_at]
  have hu := real_u x0 x1 x2 h1 h2
  have hz : Real' 0 := ⟨0, rfl⟩
  refine (((h3 _).mul ?_).add ((h3 _).mul (hu _ _))).add ((h3 _).mul ?_)
  · split
    · exact hz
    · exact hu _ _
  · split
    · exact hz
    · exact hu _ _
theorem real_up (h1 : ∀ i, Real' (x1 i)) (h2 : ∀ i, Real' (x2 i)) (h3 : ∀ i, Real' (x3 i))
    (r : Fin 8192) (l : Fin 2816) : Real' (val_main_v42 (F := Ideal) x0 x1 x2 x3 (ix3 0 r l)) := by
  have h : val_main_v42 (F := Ideal) x0 x1 x2 x3 (ix3 0 r l) = val_main_v40 (F := Ideal) x0 x1 x2 x3 (ix3 0 r ⟨2816 + l.val, by omega⟩) := by
    generalize hv40 : val_main_v40 (F := Ideal) x0 x1 x2 x3 = zv40
    pointwise [val_main_v42, hv40]
  rw [h]
  exact real_conv x0 x1 x2 x3 h1 h2 h3 _ _
theorem real_gate (h1 : ∀ i, Real' (x1 i)) (h2 : ∀ i, Real' (x2 i)) (h3 : ∀ i, Real' (x3 i))
    (r : Fin 8192) (l : Fin 2816) : Real' (val_main_v41 (F := Ideal) x0 x1 x2 x3 (ix3 0 r l)) := by
  have h : val_main_v41 (F := Ideal) x0 x1 x2 x3 (ix3 0 r l) = val_main_v40 (F := Ideal) x0 x1 x2 x3 (ix3 0 r ⟨l.val, by omega⟩) := by
    generalize hv40 : val_main_v40 (F := Ideal) x0 x1 x2 x3 = zv40
    pointwise [val_main_v41, hv40]
  rw [h]
  exact real_conv x0 x1 x2 x3 h1 h2 h3 _ _

end Real

end Cert.FfnRefIdeal.At

end
-- ==== Proof.Strips.lean ====
/- Buffers of wide rows, written and read a block of columns at a time. -/
module

public import proofs.«01_k».proof.Proof.Cols

@[expose] public section

noncomputable section

namespace Cert.Strips

open Idealize.ShloMosaic

section Any

variable {m n : ℕ} {Val : EltTy → Type} [∀ e, Nonempty (Val e)] {sig : RefSig} {κ : Kind} {sp : Space} {e : EltTy}

theorem emb_block (k c : ℕ) {h w : ℕ} (inb : ∀ a, (![k, c] : Fin 2 → ℕ) a + (![h, w] : Fin 2 → ℕ) a ≤ (⟨2, ![m, n]⟩ : Shape).size a) (i : Fin h) (l : Fin w)
    (hi : k + i.val < m) (hl : c + l.val < n) :
    (Rect.unit (s := ⟨2, ![m, n]⟩) ![k, c] ![h, w] inb).emb (ix2 i l) = ix2 ⟨k + i.val, hi⟩ ⟨c + l.val, hl⟩ := by
  funext a
  match a with
  | ⟨0, _⟩ => exact Fin.ext (by show k + 1 * i.val = k + i.val; omega)
  | ⟨1, _⟩ => exact Fin.ext (by show c + 1 * l.val = c + l.val; omega)

theorem ld_block (x : (⟨2, ![m, n]⟩ : Shape).Idx → Val e) (k c : ℕ) {h w : ℕ} (inb) (i : Fin h) (l : Fin w) (hi : k + i.val < m) (hl : c + l.val < n) :
    View.ld x (Rect.unit (s := ⟨2, ![m, n]⟩) ![k, c] ![h, w] inb) (ix2 i l) = x (ix2 ⟨k + i.val, hi⟩ ⟨c + l.val, hl⟩) :=
  congrArg x (emb_block k c inb i l hi hl)

theorem not_mem (k c : ℕ) {w : ℕ} (inb : ∀ a, (![k, c] : Fin 2 → ℕ) a + (![1, w] : Fin 2 → ℕ) a ≤ (⟨2, ![m, n]⟩ : Shape).size a) (i : Fin m) (l : Fin n)
    (h : ¬(i.val = k ∧ c ≤ l.val ∧ l.val < c + w)) : (ix2 i l : (⟨2, ![m, n]⟩ : Shape).Idx) ∉ (Rect.unit (s := ⟨2, ![m, n]⟩) ![k, c] ![1, w] inb).set := by
  rw [Rect.mem_set_unit]
  intro hall
  have h0 := hall 0
  have h1 := hall 1
  change k ≤ i.val ∧ i.val < k + 1 at h0
  change c ≤ l.val ∧ l.val < c + w at h1
  omega

theorem canon_miss (k c : ℕ) {w : ℕ} (inb) (x : (⟨2, ![1, w]⟩ : Shape).Idx → Val e) (L : List (View.Piece Val (⟨2, ![m, n]⟩ : Shape) e)) (i : Fin m)
    (l : Fin n) (h : ¬(i.val = k ∧ c ≤ l.val ∧ l.val < c + w)) :
    View.canon ((⟨Rect.unit (s := ⟨2, ![m, n]⟩) ![k, c] ![1, w] inb, x⟩ : View.Piece Val (⟨2, ![m, n]⟩ : Shape) e) :: L) (ix2 i l) = View.canon L (ix2 i l) :=
  View.canon_cons_of_not_mem _ L (not_mem k c inb i l h)

theorem emb_local (k c : ℕ) {w : ℕ} (inb : ∀ a, (![k, c] : Fin 2 → ℕ) a + (![1, w] : Fin 2 → ℕ) a ≤ (⟨2, ![m, n]⟩ : Shape).size a) (i : Fin m) (l : Fin n)
    (h : i.val = k ∧ c ≤ l.val ∧ l.val < c + w) :
    (Rect.unit (s := ⟨2, ![m, n]⟩) ![k, c] ![1, w] inb).emb (ix2 (0 : Fin 1) (⟨l.val - c, by omega⟩ : Fin w)) = ix2 i l := by
  funext a
  match a with
  | ⟨0, _⟩ => exact Fin.ext (by show k + 1 * 0 = i.val; omega)
  | ⟨1, _⟩ => exact Fin.ext (by show c + 1 * (l.val - c) = l.val; omega)

theorem readCov_block (v : View sig κ sp (⟨2, ![m, n]⟩ : Shape) e) (L : List (View.Piece Val (⟨2, ![m, n]⟩ : Shape) e)) (k c : ℕ) {w : ℕ} (inb) (i : Fin m) (l : Fin n)
    (h : i.val = k ∧ c ≤ l.val ∧ l.val < c + w) :
    v.readCov L (Rect.unit (s := ⟨2, ![m, n]⟩) ![k, c] ![1, w] inb).toLoadRect (ix2 (0 : Fin 1) (⟨l.val - c, by omega⟩ : Fin w)) = View.canon L (ix2 i l) := by
  rw [View.readCov_eq_canon']
  exact congrArg (View.canon L) (emb_local k c inb i l h)

/-- Six blocks of columns that cover the buffer, each holding its columns of one function. -/
theorem six (f : Fin m → Fin n → Val e) {o0 o1 o2 o3 o4 o5 w0 w1 w2 w3 w4 w5 : ℕ} (b0 b1 b2 b3 b4 b5)
    (x0 : (⟨2, ![m, w0]⟩ : Shape).Idx → Val e) (x1 : (⟨2, ![m, w1]⟩ : Shape).Idx → Val e) (x2 : (⟨2, ![m, w2]⟩ : Shape).Idx → Val e)
    (x3 : (⟨2, ![m, w3]⟩ : Shape).Idx → Val e) (x4 : (⟨2, ![m, w4]⟩ : Shape).Idx → Val e) (x5 : (⟨2, ![m, w5]⟩ : Shape).Idx → Val e)
    (c0 : o0 = 0) (c1 : o1 = o0 + w0) (c2 : o2 = o1 + w1) (c3 : o3 = o2 + w2) (c4 : o4 = o3 + w3) (c5 : o5 = o4 + w4) (c6 : n = o5 + w5)
    (h0 : ∀ r (l : Fin w0), x0 (ix2 r l) = f r ⟨o0 + l.val, by omega⟩) (h1 : ∀ r (l : Fin w1), x1 (ix2 r l) = f r ⟨o1 + l.val, by omega⟩)
    (h2 : ∀ r (l : Fin w2), x2 (ix2 r l) = f r ⟨o2 + l.val, by omega⟩) (h3 : ∀ r (l : Fin w3), x3 (ix2 r l) = f r ⟨o3 + l.val, by omega⟩)
    (h4 : ∀ r (l : Fin w4), x4 (ix2 r l) = f r ⟨o4 + l.val, by omega⟩) (h5 : ∀ r (l : Fin w5), x5 (ix2 r l) = f r ⟨o5 + l.val, by omega⟩)
    (r : Fin m) (l : Fin n) :
    View.canon [(⟨Rect.unit (s := ⟨2, ![m, n]⟩) ![0, o5] ![m, w5] b5, x5⟩ : View.Piece Val (⟨2, ![m, n]⟩ : Shape) e),
      ⟨Rect.unit (s := ⟨2, ![m, n]⟩) ![0, o4] ![m, w4] b4, x4⟩, ⟨Rect.unit (s := ⟨2, ![m, n]⟩) ![0, o3] ![m, w3] b3, x3⟩,
      ⟨Rect.unit (s := ⟨2, ![m, n]⟩) ![0, o2] ![m, w2] b2, x2⟩, ⟨Rect.unit (s := ⟨2, ![m, n]⟩) ![0, o1] ![m, w1] b1, x1⟩,
      ⟨Rect.unit (s := ⟨2, ![m, n]⟩) ![0, o0] ![m, w0] b0, x0⟩] (ix2 r l) = f r l := by
  have step : ∀ (o w : ℕ) (b) (x : (⟨2, ![m, w]⟩ : Shape).Idx → Val e) (L : List (View.Piece Val (⟨2, ![m, n]⟩ : Shape) e)) (hw : o + w ≤ n)
      (hx : ∀ r (l : Fin w), x (ix2 r l) = f r ⟨o + l.val, by omega⟩) (hL : l.val < o → View.canon L (ix2 r l) = f r l), l.val < o + w →
      View.canon ((⟨Rect.unit (s := ⟨2, ![m, n]⟩) ![0, o] ![m, w] b, x⟩ : View.Piece Val (⟨2, ![m, n]⟩ : Shape) e) :: L) (ix2 r l) = f r l := by
    intro o w b x L hw hx hL hl
    by_cases h : o ≤ l.val
    · rw [Cols.canon_hit o b x L r l h hl, hx]
      simp only [Nat.add_sub_cancel' h]
    · rw [Cols.canon_miss o b x L r l (by omega)]
      exact hL (by omega)
  exact step o5 w5 b5 x5 _ (by omega) h5 (fun h => step o4 w4 b4 x4 _ (by omega) h4 (fun h => step o3 w3 b3 x3 _ (by omega) h3
    (fun h => step o2 w2 b2 x2 _ (by omega) h2 (fun h => step o1 w1 b1 x1 _ (by omega) h1 (fun h => step o0 w0 b0 x0 _ (by omega) h0
      (fun h => by omega) (by omega)) (by omega)) (by omega)) (by omega)) (by omega)) (by have := l.isLt; omega)

end Any

/-! ## An accumulator of three rows, a block of columns at a time -/

section Acc

variable {m n : ℕ} {sig : RefSig} {κ : Kind} {sp : Space} (v : View sig κ sp (⟨2, ![m, n]⟩ : Shape) .f32)

open Cert.Rows (Row)

abbrev Pieces (m n : ℕ) := List (View.Piece (Elt Ideal) (⟨2, ![m, n]⟩ : Shape) .f32)

/-- A block of a row, rewritten from what the pieces before it left there. -/
abbrev push (k c : ℕ) {w : ℕ} (inb : ∀ a, (![k, c] : Fin 2 → ℕ) a + (![1, w] : Fin 2 → ℕ) a ≤ (⟨2, ![m, n]⟩ : Shape).size a) (F : Row w → Row w) (L : Pieces m n) : Pieces m n :=
  ⟨Rect.unit (s := ⟨2, ![m, n]⟩) ![k, c] ![1, w] inb, F (v.readCov L (Rect.unit (s := ⟨2, ![m, n]⟩) ![k, c] ![1, w] inb).toLoadRect)⟩ :: L

/-- A block of a row, rewritten from the contents before. -/
abbrev pushOver (p : (⟨2, ![m, n]⟩ : Shape).Idx → EReal) (k c : ℕ) {w : ℕ} (inb : ∀ a, (![k, c] : Fin 2 → ℕ) a + (![1, w] : Fin 2 → ℕ) a ≤ (⟨2, ![m, n]⟩ : Shape).size a) (F : Row w → Row w) (L : Pieces m n) : Pieces m n :=
  ⟨Rect.unit (s := ⟨2, ![m, n]⟩) ![k, c] ![1, w] inb, F (View.ld (Val := Elt Ideal) (e' := .f32) p (Rect.unit (s := ⟨2, ![m, n]⟩) ![k, c] ![1, w] inb))⟩ :: L

/-- What has been added so far: the blocks before column `c`, and the rows before `k` of the block at `c`. -/
abbrev Done (k c w : ℕ) (i : Fin m) (l : Fin n) : Prop := i.val < 3 ∧ (l.val < c ∨ l.val < c + w ∧ i.val < k)

abbrev Adds (Q : Fin m → Fin n → EReal) (k c : ℕ) {w : ℕ} (F : Row w → Row w) : Prop :=
  ∀ (a : Row w) (i : Fin m) (l : Fin w) (hl : c + l.val < n), i.val = k → F a (ix2 0 l) = a (ix2 0 l) + Q i ⟨c + l.val, hl⟩

theorem push_at (p : (⟨2, ![m, n]⟩ : Shape).Idx → EReal) (Q : Fin m → Fin n → EReal) (k c : ℕ) {w : ℕ} (inb : ∀ a, (![k, c] : Fin 2 → ℕ) a + (![1, w] : Fin 2 → ℕ) a ≤ (⟨2, ![m, n]⟩ : Shape).size a) (F : Row w → Row w) (L : Pieces m n) (hk : k < 3)
    (hF : Adds Q k c F) (hL : ∀ i l, View.canon L (ix2 i l) = (p (ix2 i l) + if Done k c w i l then Q i l else 0 : EReal)) (i : Fin m) (l : Fin n) :
    View.canon (push v k c inb F L) (ix2 i l) = (p (ix2 i l) + if Done (k + 1) c w i l then Q i l else 0 : EReal) := by
  by_cases h : i.val = k ∧ c ≤ l.val ∧ l.val < c + w
  · refine (congrArg (View.canon _) (emb_local k c inb i l h).symm).trans ((View.canon_cons_emb _ _ _ _).trans ?_)
    refine (hF _ i _ (by dsimp only; omega) h.1).trans ?_
    rw [if_pos (show Done (k + 1) c w i l from ⟨by omega, by omega⟩)]
    refine congrArg₂ (fun a b : EReal => a + b) ?_ ?_
    · refine (readCov_block v L k c inb i l h).trans ((hL i l).trans ?_)
      rw [if_neg (show ¬Done k c w i l by unfold Done; omega), add_zero]
    · exact congrArg (Q i) (Fin.ext (by dsimp only; omega))
  · refine (canon_miss k c inb _ L i l h).trans ((hL i l).trans ?_)
    rw [if_congr (show Done k c w i l ↔ Done (k + 1) c w i l by unfold Done; omega) rfl rfl]

/-- Three rows of a block. -/
theorem push_three (p : (⟨2, ![m, n]⟩ : Shape).Idx → EReal) (Q : Fin m → Fin n → EReal) (c : ℕ) {w : ℕ} (b0 b1 b2) (F0 F1 F2 : Row w → Row w) (L : Pieces m n)
    (h0 : Adds Q 0 c F0) (h1 : Adds Q 1 c F1) (h2 : Adds Q 2 c F2)
    (hL : ∀ i l, View.canon L (ix2 i l) = (p (ix2 i l) + if i.val < 3 ∧ l.val < c then Q i l else 0 : EReal)) (i : Fin m) (l : Fin n) :
    View.canon (push v 2 c b2 F2 (push v 1 c b1 F1 (push v 0 c b0 F0 L))) (ix2 i l) = (p (ix2 i l) + if i.val < 3 ∧ l.val < c + w then Q i l else 0 : EReal) := by
  refine (push_at v p Q 2 c b2 F2 _ (by omega) h2 (push_at v p Q 1 c b1 F1 _ (by omega) h1 (push_at v p Q 0 c b0 F0 L (by omega) h0 fun i l => ?_)) i l).trans ?_
  · rw [hL, if_congr (show (i.val < 3 ∧ l.val < c) ↔ Done 0 c w i l by unfold Done; omega) rfl rfl]
  · rw [if_congr (show Done (2 + 1) c w i l ↔ (i.val < 3 ∧ l.val < c + w) by unfold Done; omega) rfl rfl]

theorem pushOver_at (f : v.ty.Contents (Elt Ideal)) (p : (⟨2, ![m, n]⟩ : Shape).Idx → EReal) (Q : Fin m → Fin n → EReal) (k c : ℕ) {w : ℕ} (inb : ∀ a, (![k, c] : Fin 2 → ℕ) a + (![1, w] : Fin 2 → ℕ) a ≤ (⟨2, ![m, n]⟩ : Shape).size a) (F : Row w → Row w) (L : Pieces m n)
    (hk : k < 3) (hF : Adds Q k c F) (hL : ∀ i l, v.read (Elt Ideal) (v.writes (Elt Ideal) f L) (ix2 i l) = (p (ix2 i l) + if Done k c w i l then Q i l else 0 : EReal)) (i : Fin m) (l : Fin n) :
    v.read (Elt Ideal) (v.writes (Elt Ideal) f (pushOver p k c inb F L)) (ix2 i l) = (p (ix2 i l) + if Done (k + 1) c w i l then Q i l else 0 : EReal) := by
  by_cases h : i.val = k ∧ c ≤ l.val ∧ l.val < c + w
  · refine (View.read_writes_cons_unit_of_mem v f inb _ L (ix2 i l) (ix2 (0 : Fin 1) (⟨l.val - c, by omega⟩ : Fin w)) rfl
      (Fin.forall_fin_two.mpr ⟨by show i.val = k + 0; omega, by show l.val = c + (l.val - c); omega⟩)).trans ?_
    refine (hF _ i _ (by dsimp only; omega) h.1).trans ?_
    rw [if_pos (show Done (k + 1) c w i l from ⟨by omega, by omega⟩)]
    exact congrArg₂ (fun a b : EReal => a + b) (congrArg p (emb_local k c inb i l h)) (congrArg (Q i) (Fin.ext (by dsimp only; omega)))
  · refine Eq.trans ?_ ((hL i l).trans ?_)
    · by_cases hi : i.val = k
      · exact View.read_writes_cons_unit_of_not_mem v f inb _ L (ix2 i l) rfl (1 : Fin 2) (by show l.val < c ∨ c + w ≤ l.val; omega)
      · exact View.read_writes_cons_unit_of_not_mem v f inb _ L (ix2 i l) rfl (0 : Fin 2) (by show i.val < k ∨ k + 1 ≤ i.val; omega)
    · rw [if_congr (show Done k c w i l ↔ Done (k + 1) c w i l by unfold Done; omega) rfl rfl]

theorem pushOver_three (f : v.ty.Contents (Elt Ideal)) (p : (⟨2, ![m, n]⟩ : Shape).Idx → EReal) (Q : Fin m → Fin n → EReal) (c : ℕ) {w : ℕ} (b0 b1 b2) (F0 F1 F2 : Row w → Row w) (L : Pieces m n)
    (h0 : Adds Q 0 c F0) (h1 : Adds Q 1 c F1) (h2 : Adds Q 2 c F2)
    (hL : ∀ i l, v.read (Elt Ideal) (v.writes (Elt Ideal) f L) (ix2 i l) = (p (ix2 i l) + if i.val < 3 ∧ l.val < c then Q i l else 0 : EReal)) (i : Fin m) (l : Fin n) :
    v.read (Elt Ideal) (v.writes (Elt Ideal) f (pushOver p 2 c b2 F2 (pushOver p 1 c b1 F1 (pushOver p 0 c b0 F0 L)))) (ix2 i l)
      = (p (ix2 i l) + if i.val < 3 ∧ l.val < c + w then Q i l else 0 : EReal) := by
  refine (pushOver_at v f p Q 2 c b2 F2 _ (by omega) h2 (pushOver_at v f p Q 1 c b1 F1 _ (by omega) h1 (pushOver_at v f p Q 0 c b0 F0 L (by omega) h0 fun i l => ?_)) i l).trans ?_
  · rw [hL, if_congr (show (i.val < 3 ∧ l.val < c) ↔ Done 0 c w i l by unfold Done; omega) rfl rfl]
  · rw [if_congr (show Done (2 + 1) c w i l ↔ (i.val < 3 ∧ l.val < c + w) by unfold Done; omega) rfl rfl]

end Acc

/-! ## Sums -/

/-- A sum in two parts. -/
theorem sum_two {n : ℕ} (a b : ℕ) (h : a + b = n) (f : Fin n → EReal) : ∑ k, f k = ∑ k : Fin a, f ⟨k.val, by omega⟩ + ∑ k : Fin b, f ⟨a + k.val, by omega⟩ := by
  subst h
  exact Fin.sum_univ_add f

/-- A sum against the terms before, and the same sum against the terms after. -/
theorem sum_shift {N : ℕ} (n : ℕ) (hN : N = n + 1) (f g : Fin N → EReal) :
    ∑ r : Fin N, f r * (if h : r.val = 0 then 0 else g ⟨r.val - 1, by omega⟩)
      = ∑ r : Fin N, (if h : r.val = n then 0 else f ⟨r.val + 1, by omega⟩) * g r := by
  subst hN
  rw [Fin.sum_univ_succ, Fin.sum_univ_castSucc (n := n) (f := fun r => (if h : r.val = n then 0 else f ⟨r.val + 1, by omega⟩) * g r)]
  rw [dif_pos (show (0 : Fin (n + 1)).val = 0 from rfl), mul_zero, zero_add, dif_pos (show (Fin.last n).val = n from rfl), zero_mul, add_zero]
  refine Finset.sum_congr rfl fun r _ => ?_
  rw [dif_neg (by simp), dif_neg (by have := r.isLt; simp; omega)]
  rfl
theorem sum_shift' {N : ℕ} (n : ℕ) (hN : N = n + 1) (f g : Fin N → EReal) :
    ∑ r : Fin N, (if h : r.val = 0 then 0 else f ⟨r.val - 1, by omega⟩) * g r
      = ∑ r : Fin N, f r * (if h : r.val = n then 0 else g ⟨r.val + 1, by omega⟩) :=
  (Finset.sum_congr rfl fun _ _ => mul_comm _ _).trans ((sum_shift n hN g f).trans (Finset.sum_congr rfl fun _ _ => mul_comm _ _))

end Cert.Strips

end
-- ==== Proof.FfnTile.lean ====
/- The gradient of the gated network: a tile's values are the derivative's at the tile's rows. -/
module

public import proofs.«01_k».proof.Proof.FfnPay
public import proofs.«01_k».proof.Proof.FfnRef
public import proofs.«01_k».proof.Proof.Strips

@[expose] public section

set_option maxRecDepth 16384

noncomputable section

namespace Cert.FfnIdeal.Final

open Cert Cert.FfnIdeal Cert.FfnIdeal.Gen Cert.FfnIdeal.Run Idealize.ShloMosaic Idealize.ShloMosaic.TcCoe Idealize.SL.Sem
open Idealize.ShloMosaic.Pipeline (Dat)
open Cert.FfnRefIdeal.Read
open Cert.Shared (Real')

variable (m : (ℓ : Loc nD τ sig) → Buf (Elt Ideal) ℓ)

/-- The derivative's stages at the kernel's arguments. -/
abbrev r16 (c : Dev nD) := val_main_v16 (F := Ideal) (a0 m c) (a1 m c) (a2 m c)
abbrev r41 (c : Dev nD) := val_main_v41 (F := Ideal) (a0 m c) (a1 m c) (a2 m c) (a3 m c)
abbrev r42 (c : Dev nD) := val_main_v42 (F := Ideal) (a0 m c) (a1 m c) (a2 m c) (a3 m c)
abbrev r46 (c : Dev nD) := val_main_v46 (F := Ideal) (a4 m c) (a5 m c)
abbrev r50 (c : Dev nD) := val_main_v50 (F := Ideal) (a0 m c) (a1 m c) (a2 m c) (a3 m c) (a4 m c) (a5 m c)
abbrev r83 (c : Dev nD) := val_main_v83 (F := Ideal) (a0 m c) (a1 m c) (a2 m c) (a3 m c) (a4 m c) (a5 m c)
abbrev r85 (c : Dev nD) := val_main_v85 (F := Ideal) (a0 m c) (a1 m c) (a2 m c) (a3 m c) (a4 m c) (a5 m c)

abbrev pid (t : Fin cfg0.N) : BitVec 32 := BitVec.ofNat 32 ↑(grid0.coords t 0)
theorem pid_zero : ∀ t : Fin cfg0.N, pid t = 0#32 ↔ t.val = 0 := (by decide +kernel : ∀ t : Fin grid0.N, _)
theorem pid_last : ∀ t : Fin cfg0.N, pid t = 31#32 ↔ t.val = 31 := (by decide +kernel : ∀ t : Fin grid0.N, _)

/-- A row of the tile with its halo that the array has, and that row. -/
abbrev Has (t : Fin cfg0.N) (s : Fin 288) : Prop := 16 ≤ t.val * 256 + s.val ∧ t.val * 256 + s.val < 8208
abbrev src (t : Fin cfg0.N) (s : Fin 288) (h : Has t s) : Fin 8192 := ⟨t.val * 256 + s.val - 16, by have := h.1; have := h.2; omega⟩

theorem halo (t : Fin cfg0.N) (s : Fin 288) (hs : Has t s) (p q : Fin 16 → EReal) (x : Fin 256 → EReal) (f : Fin 8192 → EReal)
    (hp : ∀ (ht : t.val ≠ 0) (i : Fin 16), p i = f ⟨t.val * 256 - 16 + i.val, by have := row_lt t 0; omega⟩) (hx : ∀ i, x i = f (rowOf t i))
    (hq : ∀ (ht : t.val < 31) (i : Fin 16), q i = f ⟨t.val * 256 + 256 + i.val, by omega⟩) :
    (if h : s.val < 16 then p ⟨s.val, h⟩ else if h' : s.val < 272 then x ⟨s.val - 16, by omega⟩ else q ⟨s.val - 272, by omega⟩) = f (src t s hs) := by
  obtain ⟨h1, h2⟩ := hs
  have hN := lt_of_lt_of_eq t.isLt N32
  by_cases h : s.val < 16
  · rw [dif_pos h, hp (by omega)]
    exact congrArg f (Fin.ext (by dsimp only; omega))
  · by_cases h' : s.val < 272
    · rw [dif_neg h, dif_pos h', hx]
      exact congrArg f (Fin.ext (by dsimp only; omega))
    · rw [dif_neg h, dif_neg h', hq (by omega)]
      exact congrArg f (Fin.ext (by dsimp only; omega))

/-! ## What reaches the gate -/

variable (c : Dev nD) (t : Fin cfg0.N)

/-- The product of the tile's rows with a half of the weights' rows. -/
abbrev tDz (w : FVec Ideal S1408x1024 .bf16) : FVec Ideal S288x1408 .f32 :=
  k0_pay97 (F := Ideal) (k0_pay5 (iblk m c 1 t) (iblk m c 0 t) (iblk m c 2 t)) w

theorem tDz_at (h : ℕ) (hh : h + 1408 ≤ 2816) (b) (s : Fin 288) (hs : Has t s) (l : Fin 1408) :
    tDz m c t (View.ld (iblk m c 11 t) (Rect.unit (s := S2816x1024) ![h, 0] ![1408, 1024] b)) (ix2 s l) = r46 m c (ix3 0 (src t s hs) ⟨h + l.val, by omega⟩) := by
  refine (dz_at _ _ s l).trans (Eq.trans ?_ (FfnRefIdeal.At.dz_at _ _ _ _).symm)
  refine Finset.sum_congr rfl fun k _ => congrArg₂ (fun a b : EReal => a * b) ?_ ?_
  · refine (rows_at _ _ _ s k).trans ?_
    exact halo t s hs (fun i => iblk m c 1 t (ix2 i k)) (fun i => iblk m c 2 t (ix2 i k)) (fun i => iblk m c 0 t (ix2 i k)) (fun R => a5 m c (ix3 0 R k))
      (fun ht i => blk1 m c t ht i k) (fun i => blk0 m c t i k) (fun ht i => blk2 m c t ht i k)
  · refine (Strips.ld_block (Val := Elt Ideal) (e := .bf16) (iblk m c 11 t) h 0 b l k (by omega) (by omega)).trans ((blk11 m c t _ _).trans ?_)
    simp only [Nat.zero_add]

/-- The arguments with which the derivative at the gate is a number. -/
structure Reals (c : Dev nD) : Prop where
  dz : ∀ r l, Real' (r46 m c (ix3 0 r l))
  gate : ∀ r l, Real' (r41 m c (ix3 0 r l))
  up : ∀ r l, Real' (r42 m c (ix3 0 r l))

theorem gateVal_eq (dz a b : EReal) (hd : Real' dz) (ha : Real' a) (hb : Real' b) : gateVal dz a b
    = dz * b * Ideal.logistic a + a * (dz * b) * (Ideal.logistic a * (Ideal.ofBits .f32 0x3F800000#32 - Ideal.logistic a)) := by
  unfold gateVal
  obtain ⟨s, hs⟩ := ha.logistic
  rw [hs, Shared.c_one]
  obtain ⟨d, rfl⟩ := hd
  obtain ⟨a, rfl⟩ := ha
  obtain ⟨b, rfl⟩ := hb
  norm_cast
  ring

theorem gate_val (c : Dev nD) (hR : Reals m c) (r : Fin 8192) (l : Fin 2816) :
    gateVal (r46 m c (ix3 0 r l)) (r41 m c (ix3 0 r l)) (r42 m c (ix3 0 r l)) = r50 m c (ix3 0 r ⟨l.val, by omega⟩) :=
  (gateVal_eq _ _ _ (hR.dz r l) (hR.gate r l) (hR.up r l)).trans (FfnRefIdeal.At.gate_at _ _ _ _ _ _ r l).symm

theorem value_val (c : Dev nD) (r : Fin 8192) (l : Fin 2816) :
    (r46 m c (ix3 0 r l) * (r41 m c (ix3 0 r l) * Ideal.logistic (r41 m c (ix3 0 r l))) : EReal) = r50 m c (ix3 0 r ⟨2816 + l.val, by omega⟩) :=
  (mul_comm _ _).trans (FfnRefIdeal.At.value_at _ _ _ _ _ _ r l).symm

/-! ## The tile's rows and the rows beside them -/

/-- The derivative at the row after, and at the row before. -/
abbrev after (c : Dev nD) (r : Fin 8192) (l : Fin 5632) : EReal := if h : r.val = 8191 then 0 else r50 m c (ix3 0 ⟨r.val + 1, by omega⟩ l)
abbrev before (c : Dev nD) (r : Fin 8192) (l : Fin 5632) : EReal := if h : r.val = 0 then 0 else r50 m c (ix3 0 ⟨r.val - 1, by omega⟩ l)

/-- What a tile adds to the taps. -/
abbrev tapOf (c : Dev nD) (i : ℕ) (r : Fin 8192) (l : Fin 5632) : EReal :=
  (if i = 0 then after m c r l else if i = 1 then r50 m c (ix3 0 r l) else before m c r l) * r16 m c (ix3 0 r l)
abbrev taps (b : ℕ) (hb : b + 2816 ≤ 5632) (i : Fin 8) (l : Fin 2816) : EReal :=
  ∑ r : Fin 256, tapOf m c i.val (rowOf t r) ⟨b + l.val, by omega⟩

theorem cols_in {m n h w o : ℕ} (hm : h ≤ m) (ho : o + w ≤ n) : ∀ a, (![0, o] : Fin 2 → ℕ) a + (![h, w] : Fin 2 → ℕ) a ≤ (⟨2, ![m, n]⟩ : Shape).size a :=
  Fin.forall_fin_two.mpr ⟨by show 0 + h ≤ m; omega, ho⟩

/-! ## A block of 512 columns -/

section Width512

theorem ext512_tile (t : Fin cfg0.N) (p q : FVec Ideal S16x2816 .bf16) (x : FVec Ideal S256x2816 .bf16) (f : FVec Ideal S1x8192x2816 .f32)
    (hp : ∀ (ht : t.val ≠ 0) (i : Fin 16) l, p (ix2 i l) = f (ix3 0 ⟨t.val * 256 - 16 + i.val, by have := row_lt t 0; omega⟩ l)) (hx : ∀ i l, x (ix2 i l) = f (ix3 0 (rowOf t i) l))
    (hq : ∀ (ht : t.val < 31) (i : Fin 16) l, q (ix2 i l) = f (ix3 0 ⟨t.val * 256 + 256 + i.val, by omega⟩ l))
    (o : ℕ) (ho : o + 512 ≤ 2816) (b b' b'') (s : Fin 288) (hs : Has t s) (l : Fin 512) :
    ext512 (View.ld (Val := Elt Ideal) (e' := .bf16) p (Rect.unit (s := S16x2816) ![0, o] ![16, 512] b)) (View.ld (Val := Elt Ideal) (e' := .bf16) q (Rect.unit (s := S16x2816) ![0, o] ![16, 512] b'))
      (View.ld (Val := Elt Ideal) (e' := .bf16) x (Rect.unit (s := S256x2816) ![0, o] ![256, 512] b'')) (ix2 s l) = f (ix3 0 (src t s hs) ⟨o + l.val, by omega⟩) := by
  refine (ext512_at _ _ _ s l).trans ?_
  refine halo t s hs (fun i => View.ld (Val := Elt Ideal) (e' := .bf16) p (Rect.unit (s := S16x2816) ![0, o] ![16, 512] b) (ix2 i l)) (fun i => View.ld (Val := Elt Ideal) (e' := .bf16) q (Rect.unit (s := S16x2816) ![0, o] ![16, 512] b') (ix2 i l))
    (fun i => View.ld (Val := Elt Ideal) (e' := .bf16) x (Rect.unit (s := S256x2816) ![0, o] ![256, 512] b'') (ix2 i l)) (fun R => f (ix3 0 R ⟨o + l.val, by omega⟩)) (fun ht i => ?_) (fun i => ?_) (fun ht i => ?_)
  · refine (Strips.ld_block (Val := Elt Ideal) (e := .bf16) p 0 o b i l (by omega) (by omega)).trans (Eq.trans ?_ (hp ht i _))
    simp only [Nat.zero_add]
  · refine (Strips.ld_block (Val := Elt Ideal) (e := .bf16) x 0 o b'' i l (by omega) (by omega)).trans (Eq.trans ?_ (hx i _))
    simp only [Nat.zero_add]
  · refine (Strips.ld_block (Val := Elt Ideal) (e := .bf16) q 0 o b' i l (by omega) (by omega)).trans (Eq.trans ?_ (hq ht i _))
    simp only [Nat.zero_add]

/-- The gate's and the value's columns of the forward pass, with their halo. -/
abbrev tA512 (o : ℕ) (ho : o + 512 ≤ 2816) : FVec Ideal S288x512 .f32 :=
  ext512 (View.ld (iblk m c 4 t) (Rect.unit (s := S16x2816) ![0, o] ![16, 512] (cols_in (by omega) ho)))
    (View.ld (iblk m c 5 t) (Rect.unit (s := S16x2816) ![0, o] ![16, 512] (cols_in (by omega) ho)))
    (View.ld (iblk m c 3 t) (Rect.unit (s := S256x2816) ![0, o] ![256, 512] (cols_in (by omega) ho)))
abbrev tB512 (o : ℕ) (ho : o + 512 ≤ 2816) : FVec Ideal S288x512 .f32 :=
  ext512 (View.ld (iblk m c 7 t) (Rect.unit (s := S16x2816) ![0, o] ![16, 512] (cols_in (by omega) ho)))
    (View.ld (iblk m c 8 t) (Rect.unit (s := S16x2816) ![0, o] ![16, 512] (cols_in (by omega) ho)))
    (View.ld (iblk m c 6 t) (Rect.unit (s := S256x2816) ![0, o] ![256, 512] (cols_in (by omega) ho)))

variable (c : Dev nD) (t : Fin cfg0.N)

theorem tA512_at (o : ℕ) (ho : o + 512 ≤ 2816) (s : Fin 288) (hs : Has t s) (l : Fin 512) : tA512 m c t o ho (ix2 s l) = r41 m c (ix3 0 (src t s hs) ⟨o + l.val, by omega⟩) :=
  ext512_tile t _ _ _ (r41 m c) (fun ht i l => blk4 m c t ht i l) (fun i l => blk3 m c t i l) (fun ht i l => blk5 m c t ht i l) o ho _ _ _ s hs l
theorem tB512_at (o : ℕ) (ho : o + 512 ≤ 2816) (s : Fin 288) (hs : Has t s) (l : Fin 512) : tB512 m c t o ho (ix2 s l) = r42 m c (ix3 0 (src t s hs) ⟨o + l.val, by omega⟩) :=
  ext512_tile t _ _ _ (r42 m c) (fun ht i l => blk7 m c t ht i l) (fun i l => blk6 m c t i l) (fun ht i l => blk8 m c t ht i l) o ho _ _ _ s hs l

/-- What reaches the gate at a block, and what reaches the convolution at its columns. -/
abbrev IsDz512 (o : ℕ) (ho : o + 512 ≤ 2816) (z : FVec Ideal S288x512 .f32) : Prop := ∀ s hs (l : Fin 512), z (ix2 s l) = r46 m c (ix3 0 (src t s hs) ⟨o + l.val, by omega⟩)
abbrev IsD512 (q : ℕ) (hq : q + 512 ≤ 5632) (d : FVec Ideal S288x512 .f32) : Prop :=
  ∀ s hs (l : Fin 512), d (ix2 s l) = r50 m c (ix3 0 (src t s hs) ⟨q + l.val, by omega⟩)

theorem gate512_tile (o : ℕ) (ho : o + 512 ≤ 2816) (hR : Reals m c) (z : FVec Ideal S288x512 .f32) (hz : IsDz512 m c t o ho z) :
    IsD512 m c t o (by omega) (gate512 z (tA512 m c t o ho) (tB512 m c t o ho)) := by
  intro s hs l
  refine (gate512_at _ _ _ s l).trans ?_
  rw [hz s hs l, tA512_at m c t o ho s hs l, tB512_at m c t o ho s hs l]
  exact gate_val m c hR _ _
theorem value512_tile (o : ℕ) (ho : o + 512 ≤ 2816) (q : ℕ) (hq : q = 2816 + o) (z : FVec Ideal S288x512 .f32) (hz : IsDz512 m c t o ho z) :
    IsD512 m c t q (by omega) (value512 z (tA512 m c t o ho)) := by
  intro s hs l
  refine (value512_at _ _ s l).trans ?_
  rw [hz s hs l, tA512_at m c t o ho s hs l]
  refine (value_val m c _ _).trans (congrArg (fun k => r50 m c (ix3 0 (src t s hs) k)) (Fin.ext ?_))
  dsimp only
  omega

variable (q : ℕ) (hq : q + 512 ≤ 5632) (d : FVec Ideal S288x512 .f32)

theorem mid512_tile (hd : IsD512 m c t q hq d) (r : Fin 256) (l : Fin 512) : mid512 d (ix2 r l) = r50 m c (ix3 0 (rowOf t r) ⟨q + l.val, by omega⟩) := by
  rw [mid512_at, hd _ ⟨by dsimp only; omega, by have := row_lt t r; dsimp only; omega⟩]
  exact congrArg (fun R => r50 m c (ix3 0 R _)) (Fin.ext (by dsimp only; omega))
theorem next512_tile (hd : IsD512 m c t q hq d) (r : Fin 256) (l : Fin 512) : next512 d (pid t) (ix2 r l) = after m c (rowOf t r) ⟨q + l.val, by omega⟩ := by
  have hN := row_lt t r
  have hT := lt_of_lt_of_eq t.isLt N32
  rw [next512_at]
  unfold after
  by_cases h : r.val = 255 ∧ t.val = 31
  · rw [if_pos ⟨h.1, (pid_last t).mpr h.2⟩, dif_pos (by dsimp only; omega)]
  · rw [if_neg (fun h' => h ⟨h'.1, (pid_last t).mp h'.2⟩), dif_neg (by dsimp only; omega), hd _ ⟨by dsimp only; omega, by dsimp only; omega⟩]
    exact congrArg (fun R => r50 m c (ix3 0 R _)) (Fin.ext (by dsimp only; omega))
theorem prev512_tile (hd : IsD512 m c t q hq d) (r : Fin 256) (l : Fin 512) : prev512 d (pid t) (ix2 r l) = before m c (rowOf t r) ⟨q + l.val, by omega⟩ := by
  have hN := row_lt t r
  rw [prev512_at]
  unfold before
  by_cases h : r.val = 0 ∧ t.val = 0
  · rw [if_pos ⟨h.1, (pid_zero t).mpr h.2⟩, dif_pos (by dsimp only; omega)]
  · rw [if_neg (fun h' => h ⟨h'.1, (pid_zero t).mp h'.2⟩), dif_neg (by dsimp only; omega), hd _ ⟨by dsimp only; omega, by dsimp only; omega⟩]
    exact congrArg (fun R => r50 m c (ix3 0 R _)) (Fin.ext (by dsimp only; omega))

theorem du512_tile (hd : IsD512 m c t q hq d) (b0 b1 b2) (r : Fin 256) (l : Fin 512) :
    du512 d (pid t) (View.ld (iblk m c 10 t) (Rect.unit (s := S3x5632) ![0, q] ![1, 512] b0)) (View.ld (iblk m c 10 t) (Rect.unit (s := S3x5632) ![1, q] ![1, 512] b1))
      (View.ld (iblk m c 10 t) (Rect.unit (s := S3x5632) ![2, q] ![1, 512] b2)) (ix2 r l) = r83 m c (ix3 0 (rowOf t r) ⟨q + l.val, by omega⟩) := by
  have row : ∀ (k : ℕ) (hk : k < 3) (b), View.ld (iblk m c 10 t) (Rect.unit (s := S3x5632) ![k, q] ![1, 512] b) (ix2 0 l) = a3 m c (ix2 ⟨k, hk⟩ ⟨q + l.val, by omega⟩) :=
    fun k hk b => (Strips.ld_block (Val := Elt Ideal) (e := .f32) (iblk m c 10 t) k q b 0 l (by show k + 0 < 3; omega) (by omega)).trans (blk10 m c t _ _)
  refine (du512_at _ _ _ _ _ r l).trans (Eq.trans ?_ (FfnRefIdeal.At.du_at _ _ _ _ _ _ _ _).symm)
  rw [next512_tile m c t q hq d hd, mid512_tile m c t q hq d hd, prev512_tile m c t q hq d hd]
  refine (add_assoc _ _ _).trans ((add_comm _ _).trans (congrArg₂ (fun a b : EReal => a + b) ((add_comm _ _).trans (congrArg₂ (fun a b : EReal => a + b) ?_ ?_)) ?_))
  · exact congrArg (fun z : EReal => z * _) (row 2 (by omega) b2)
  · exact congrArg (fun z : EReal => z * _) (row 1 (by omega) b1)
  · exact congrArg (fun z : EReal => z * _) (row 0 (by omega) b0)

theorem tap512_tile (o : ℕ) (base : ℕ) (hb : base + 2816 ≤ 5632) (hO : q = base + o) (k : ℕ) (u) (z : FVec Ideal S256x512 .f32)
    (hz : ∀ r (l : Fin 512), z (ix2 r l) = if k = 0 then after m c (rowOf t r) ⟨q + l.val, by omega⟩
      else if k = 1 then r50 m c (ix3 0 (rowOf t r) ⟨q + l.val, by omega⟩) else before m c (rowOf t r) ⟨q + l.val, by omega⟩) :
    Strips.Adds (taps m c t base hb) k o (fun a => tap512 a (View.ld (iblk m c 9 t) (Rect.unit (s := S256x5632) ![0, q] ![256, 512] u)) z) := by
  intro a i l hl hi
  refine (tap512_at _ _ z l).trans (congrArg (fun s : EReal => _ + s) (Finset.sum_congr rfl fun r _ => ?_))
  rw [hz r l]
  unfold tapOf
  rw [hi, show (⟨base + (o + l.val), by omega⟩ : Fin 5632) = ⟨q + l.val, by omega⟩ from Fin.ext (by dsimp only; omega)]
  refine congrArg (fun s : EReal => _ * s) ((Strips.ld_block (Val := Elt Ideal) (e := .bf16) (iblk m c 9 t) 0 q u r l (by omega) (by omega)).trans ((blk9 m c t _ _).trans ?_))
  simp only [Nat.zero_add]

theorem dot512_tile (j y : ℕ) (hj : j < 4) (hy : y + 512 ≤ 1408) (hO : q = j * 1408 + y) (b) (u : FVec Ideal S256x512 .bf16) (acc : FVec Ideal S256x1024 .f32)
    (hu : ∀ r (l : Fin 512), u (ix2 r l) = r83 m c (ix3 0 (rowOf t r) ⟨q + l.val, by omega⟩)) (r : Fin 256) (l : Fin 1024) :
    dot512 u acc (View.ld (iblk m c 12 t) (Rect.unit (s := S4x1024x1408) ![j, 0, y] ![1, 1024, 512] b)) (ix2 r l)
      = (acc (ix2 r l) + ∑ k : Fin 512, r83 m c (ix3 0 (rowOf t r) ⟨q + k.val, by omega⟩) * a2 m c (ix2 l ⟨q + k.val, by omega⟩) : EReal) := by
  refine (dot512_at _ _ _ r l).trans (congrArg (fun s : EReal => _ + s) (Finset.sum_congr rfl fun k _ => ?_))
  refine congrArg₂ (fun a b : EReal => a * b) (hu r k) ?_
  have he : (Rect.unit (s := S4x1024x1408) ![j, 0, y] ![1, 1024, 512] b).emb (ix3 (0 : Fin 1) l k) = ix3 (⟨j, hj⟩ : Fin 4) l (⟨y + k.val, by omega⟩ : Fin 1408) := by
    funext a
    match a with
    | ⟨0, _⟩ => exact Fin.ext (by show j + 1 * 0 = j; omega)
    | ⟨1, _⟩ => exact Fin.ext (by show 0 + 1 * l.val = l.val; omega)
    | ⟨2, _⟩ => exact Fin.ext (by show y + 1 * k.val = y + k.val; omega)
  refine (congrArg (iblk m c 12 t) he).trans ((blk12 m c t _ _ _).trans (congrArg (fun s => a2 m c (ix2 l s)) (Fin.ext ?_)))
  dsimp only
  omega

end Width512

/-! ## A block of 384 columns -/

section Width384

theorem ext384_tile (t : Fin cfg0.N) (p q : FVec Ideal S16x2816 .bf16) (x : FVec Ideal S256x2816 .bf16) (f : FVec Ideal S1x8192x2816 .f32)
    (hp : ∀ (ht : t.val ≠ 0) (i : Fin 16) l, p (ix2 i l) = f (ix3 0 ⟨t.val * 256 - 16 + i.val, by have := row_lt t 0; omega⟩ l)) (hx : ∀ i l, x (ix2 i l) = f (ix3 0 (rowOf t i) l))
    (hq : ∀ (ht : t.val < 31) (i : Fin 16) l, q (ix2 i l) = f (ix3 0 ⟨t.val * 256 + 256 + i.val, by omega⟩ l))
    (o : ℕ) (ho : o + 384 ≤ 2816) (b b' b'') (s : Fin 288) (hs : Has t s) (l : Fin 384) :
    ext384 (View.ld (Val := Elt Ideal) (e' := .bf16) p (Rect.unit (s := S16x2816) ![0, o] ![16, 384] b)) (View.ld (Val := Elt Ideal) (e' := .bf16) q (Rect.unit (s := S16x2816) ![0, o] ![16, 384] b'))
      (View.ld (Val := Elt Ideal) (e' := .bf16) x (Rect.unit (s := S256x2816) ![0, o] ![256, 384] b'')) (ix2 s l) = f (ix3 0 (src t s hs) ⟨o + l.val, by omega⟩) := by
  refine (ext384_at _ _ _ s l).trans ?_
  refine halo t s hs (fun i => View.ld (Val := Elt Ideal) (e' := .bf16) p (Rect.unit (s := S16x2816) ![0, o] ![16, 384] b) (ix2 i l)) (fun i => View.ld (Val := Elt Ideal) (e' := .bf16) q (Rect.unit (s := S16x2816) ![0, o] ![16, 384] b') (ix2 i l))
    (fun i => View.ld (Val := Elt Ideal) (e' := .bf16) x (Rect.unit (s := S256x2816) ![0, o] ![256, 384] b'') (ix2 i l)) (fun R => f (ix3 0 R ⟨o + l.val, by omega⟩)) (fun ht i => ?_) (fun i => ?_) (fun ht i => ?_)
  · refine (Strips.ld_block (Val := Elt Ideal) (e := .bf16) p 0 o b i l (by omega) (by omega)).trans (Eq.trans ?_ (hp ht i _))
    simp only [Nat.zero_add]
  · refine (Strips.ld_block (Val := Elt Ideal) (e := .bf16) x 0 o b'' i l (by omega) (by omega)).trans (Eq.trans ?_ (hx i _))
    simp only [Nat.zero_add]
  · refine (Strips.ld_block (Val := Elt Ideal) (e := .bf16) q 0 o b' i l (by omega) (by omega)).trans (Eq.trans ?_ (hq ht i _))
    simp only [Nat.zero_add]

/-- The gate's and the value's columns of the forward pass, with their halo. -/
abbrev tA384 (o : ℕ) (ho : o + 384 ≤ 2816) : FVec Ideal S288x384 .f32 :=
  ext384 (View.ld (iblk m c 4 t) (Rect.unit (s := S16x2816) ![0, o] ![16, 384] (cols_in (by omega) ho)))
    (View.ld (iblk m c 5 t) (Rect.unit (s := S16x2816) ![0, o] ![16, 384] (cols_in (by omega) ho)))
    (View.ld (iblk m c 3 t) (Rect.unit (s := S256x2816) ![0, o] ![256, 384] (cols_in (by omega) ho)))
abbrev tB384 (o : ℕ) (ho : o + 384 ≤ 2816) : FVec Ideal S288x384 .f32 :=
  ext384 (View.ld (iblk m c 7 t) (Rect.unit (s := S16x2816) ![0, o] ![16, 384] (cols_in (by omega) ho)))
    (View.ld (iblk m c 8 t) (Rect.unit (s := S16x2816) ![0, o] ![16, 384] (cols_in (by omega) ho)))
    (View.ld (iblk m c 6 t) (Rect.unit (s := S256x2816) ![0, o] ![256, 384] (cols_in (by omega) ho)))

variable (c : Dev nD) (t : Fin cfg0.N)

theorem tA384_at (o : ℕ) (ho : o + 384 ≤ 2816) (s : Fin 288) (hs : Has t s) (l : Fin 384) : tA384 m c t o ho (ix2 s l) = r41 m c (ix3 0 (src t s hs) ⟨o + l.val, by omega⟩) :=
  ext384_tile t _ _ _ (r41 m c) (fun ht i l => blk4 m c t ht i l) (fun i l => blk3 m c t i l) (fun ht i l => blk5 m c t ht i l) o ho _ _ _ s hs l
theorem tB384_at (o : ℕ) (ho : o + 384 ≤ 2816) (s : Fin 288) (hs : Has t s) (l : Fin 384) : tB384 m c t o ho (ix2 s l) = r42 m c (ix3 0 (src t s hs) ⟨o + l.val, by omega⟩) :=
  ext384_tile t _ _ _ (r42 m c) (fun ht i l => blk7 m c t ht i l) (fun i l => blk6 m c t i l) (fun ht i l => blk8 m c t ht i l) o ho _ _ _ s hs l

/-- What reaches the gate at a block, and what reaches the convolution at its columns. -/
abbrev IsDz384 (o : ℕ) (ho : o + 384 ≤ 2816) (z : FVec Ideal S288x384 .f32) : Prop := ∀ s hs (l : Fin 384), z (ix2 s l) = r46 m c (ix3 0 (src t s hs) ⟨o + l.val, by omega⟩)
abbrev IsD384 (q : ℕ) (hq : q + 384 ≤ 5632) (d : FVec Ideal S288x384 .f32) : Prop :=
  ∀ s hs (l : Fin 384), d (ix2 s l) = r50 m c (ix3 0 (src t s hs) ⟨q + l.val, by omega⟩)

theorem gate384_tile (o : ℕ) (ho : o + 384 ≤ 2816) (hR : Reals m c) (z : FVec Ideal S288x384 .f32) (hz : IsDz384 m c t o ho z) :
    IsD384 m c t o (by omega) (gate384 z (tA384 m c t o ho) (tB384 m c t o ho)) := by
  intro s hs l
  refine (gate384_at _ _ _ s l).trans ?_
  rw [hz s hs l, tA384_at m c t o ho s hs l, tB384_at m c t o ho s hs l]
  exact gate_val m c hR _ _
theorem value384_tile (o : ℕ) (ho : o + 384 ≤ 2816) (q : ℕ) (hq : q = 2816 + o) (z : FVec Ideal S288x384 .f32) (hz : IsDz384 m c t o ho z) :
    IsD384 m c t q (by omega) (value384 z (tA384 m c t o ho)) := by
  intro s hs l
  refine (value384_at _ _ s l).trans ?_
  rw [hz s hs l, tA384_at m c t o ho s hs l]
  refine (value_val m c _ _).trans (congrArg (fun k => r50 m c (ix3 0 (src t s hs) k)) (Fin.ext ?_))
  dsimp only
  omega

variable (q : ℕ) (hq : q + 384 ≤ 5632) (d : FVec Ideal S288x384 .f32)

theorem mid384_tile (hd : IsD384 m c t q hq d) (r : Fin 256) (l : Fin 384) : mid384 d (ix2 r l) = r50 m c (ix3 0 (rowOf t r) ⟨q + l.val, by omega⟩) := by
  rw [mid384_at, hd _ ⟨by dsimp only; omega, by have := row_lt t r; dsimp only; omega⟩]
  exact congrArg (fun R => r50 m c (ix3 0 R _)) (Fin.ext (by dsimp only; omega))
theorem next384_tile (hd : IsD384 m c t q hq d) (r : Fin 256) (l : Fin 384) : next384 d (pid t) (ix2 r l) = after m c (rowOf t r) ⟨q + l.val, by omega⟩ := by
  have hN := row_lt t r
  have hT := lt_of_lt_of_eq t.isLt N32
  rw [next384_at]
  unfold after
  by_cases h : r.val = 255 ∧ t.val = 31
  · rw [if_pos ⟨h.1, (pid_last t).mpr h.2⟩, dif_pos (by dsimp only; omega)]
  · rw [if_neg (fun h' => h ⟨h'.1, (pid_last t).mp h'.2⟩), dif_neg (by dsimp only; omega), hd _ ⟨by dsimp only; omega, by dsimp only; omega⟩]
    exact congrArg (fun R => r50 m c (ix3 0 R _)) (Fin.ext (by dsimp only; omega))
theorem prev384_tile (hd : IsD384 m c t q hq d) (r : Fin 256) (l : Fin 384) : prev384 d (pid t) (ix2 r l) = before m c (rowOf t r) ⟨q + l.val, by omega⟩ := by
  have hN := row_lt t r
  rw [prev384_at]
  unfold before
  by_cases h : r.val = 0 ∧ t.val = 0
  · rw [if_pos ⟨h.1, (pid_zero t).mpr h.2⟩, dif_pos (by dsimp only; omega)]
  · rw [if_neg (fun h' => h ⟨h'.1, (pid_zero t).mp h'.2⟩), dif_neg (by dsimp only; omega), hd _ ⟨by dsimp only; omega, by dsimp only; omega⟩]
    exact congrArg (fun R => r50 m c (ix3 0 R _)) (Fin.ext (by dsimp only; omega))

theorem du384_tile (hd : IsD384 m c t q hq d) (b0 b1 b2) (r : Fin 256) (l : Fin 384) :
    du384 d (pid t) (View.ld (iblk m c 10 t) (Rect.unit (s := S3x5632) ![0, q] ![1, 384] b0)) (View.ld (iblk m c 10 t) (Rect.unit (s := S3x5632) ![1, q] ![1, 384] b1))
      (View.ld (iblk m c 10 t) (Rect.unit (s := S3x5632) ![2, q] ![1, 384] b2)) (ix2 r l) = r83 m c (ix3 0 (rowOf t r) ⟨q + l.val, by omega⟩) := by
  have row : ∀ (k : ℕ) (hk : k < 3) (b), View.ld (iblk m c 10 t) (Rect.unit (s := S3x5632) ![k, q] ![1, 384] b) (ix2 0 l) = a3 m c (ix2 ⟨k, hk⟩ ⟨q + l.val, by omega⟩) :=
    fun k hk b => (Strips.ld_block (Val := Elt Ideal) (e := .f32) (iblk m c 10 t) k q b 0 l (by show k + 0 < 3; omega) (by omega)).trans (blk10 m c t _ _)
  refine (du384_at _ _ _ _ _ r l).trans (Eq.trans ?_ (FfnRefIdeal.At.du_at _ _ _ _ _ _ _ _).symm)
  rw [next384_tile m c t q hq d hd, mid384_tile m c t q hq d hd, prev384_tile m c t q hq d hd]
  refine (add_assoc _ _ _).trans ((add_comm _ _).trans (congrArg₂ (fun a b : EReal => a + b) ((add_comm _ _).trans (congrArg₂ (fun a b : EReal => a + b) ?_ ?_)) ?_))
  · exact congrArg (fun z : EReal => z * _) (row 2 (by omega) b2)
  · exact congrArg (fun z : EReal => z * _) (row 1 (by omega) b1)
  · exact congrArg (fun z : EReal => z * _) (row 0 (by omega) b0)

theorem tap384_tile (o : ℕ) (base : ℕ) (hb : base + 2816 ≤ 5632) (hO : q = base + o) (k : ℕ) (u) (z : FVec Ideal S256x384 .f32)
    (hz : ∀ r (l : Fin 384), z (ix2 r l) = if k = 0 then after m c (rowOf t r) ⟨q + l.val, by omega⟩
      else if k = 1 then r50 m c (ix3 0 (rowOf t r) ⟨q + l.val, by omega⟩) else before m c (rowOf t r) ⟨q + l.val, by omega⟩) :
    Strips.Adds (taps m c t base hb) k o (fun a => tap384 a (View.ld (iblk m c 9 t) (Rect.unit (s := S256x5632) ![0, q] ![256, 384] u)) z) := by
  intro a i l hl hi
  refine (tap384_at _ _ z l).trans (congrArg (fun s : EReal => _ + s) (Finset.sum_congr rfl fun r _ => ?_))
  rw [hz r l]
  unfold tapOf
  rw [hi, show (⟨base + (o + l.val), by omega⟩ : Fin 5632) = ⟨q + l.val, by omega⟩ from Fin.ext (by dsimp only; omega)]
  refine congrArg (fun s : EReal => _ * s) ((Strips.ld_block (Val := Elt Ideal) (e := .bf16) (iblk m c 9 t) 0 q u r l (by omega) (by omega)).trans ((blk9 m c t _ _).trans ?_))
  simp only [Nat.zero_add]

theorem dot384_tile (j y : ℕ) (hj : j < 4) (hy : y + 384 ≤ 1408) (hO : q = j * 1408 + y) (b) (u : FVec Ideal S256x384 .bf16) (acc : FVec Ideal S256x1024 .f32)
    (hu : ∀ r (l : Fin 384), u (ix2 r l) = r83 m c (ix3 0 (rowOf t r) ⟨q + l.val, by omega⟩)) (r : Fin 256) (l : Fin 1024) :
    dot384 u acc (View.ld (iblk m c 12 t) (Rect.unit (s := S4x1024x1408) ![j, 0, y] ![1, 1024, 384] b)) (ix2 r l)
      = (acc (ix2 r l) + ∑ k : Fin 384, r83 m c (ix3 0 (rowOf t r) ⟨q + k.val, by omega⟩) * a2 m c (ix2 l ⟨q + k.val, by omega⟩) : EReal) := by
  refine (dot384_at _ _ _ r l).trans (congrArg (fun s : EReal => _ + s) (Finset.sum_congr rfl fun k _ => ?_))
  refine congrArg₂ (fun a b : EReal => a * b) (hu r k) ?_
  have he : (Rect.unit (s := S4x1024x1408) ![j, 0, y] ![1, 1024, 384] b).emb (ix3 (0 : Fin 1) l k) = ix3 (⟨j, hj⟩ : Fin 4) l (⟨y + k.val, by omega⟩ : Fin 1408) := by
    funext a
    match a with
    | ⟨0, _⟩ => exact Fin.ext (by show j + 1 * 0 = j; omega)
    | ⟨1, _⟩ => exact Fin.ext (by show 0 + 1 * l.val = l.val; omega)
    | ⟨2, _⟩ => exact Fin.ext (by show y + 1 * k.val = y + k.val; omega)
  refine (congrArg (iblk m c 12 t) he).trans ((blk12 m c t _ _ _).trans (congrArg (fun s => a2 m c (ix2 l s)) (Fin.ext ?_)))
  dsimp only
  omega

end Width384

end Cert.FfnIdeal.Final

end
-- ==== Proof.FfnValue.lean ====
/- The gradient of the gated network: the kernel's arrays are the derivative's. -/
module

public import proofs.«01_k».proof.Proof.FfnTile

@[expose] public section

set_option maxRecDepth 16384

noncomputable section

namespace Cert.FfnIdeal.Final

open Cert Cert.FfnIdeal Cert.FfnIdeal.Gen Cert.FfnIdeal.Run Idealize.ShloMosaic Idealize.ShloMosaic.TcCoe Idealize.SL.Sem
open Idealize.ShloMosaic.Pipeline (Dat)
open Cert.FfnRefIdeal.Read
open Cert.Strips (Adds Pieces push pushOver pushOver_three push_three)
open Cert.Rows (Row)

variable (m : (ℓ : Loc nD τ sig) → Buf (Elt Ideal) ℓ)

/-! ## The blocks' values -/

variable (c : Dev nD) (t : Fin cfg0.N)

/-- Columns of the saved product, columns of a row of taps, and a block of the weights. -/
abbrev uCol (o w : ℕ) (b : ∀ a, (![0, o] : Fin 2 → ℕ) a + (![256, w] : Fin 2 → ℕ) a ≤ S256x5632.size a) : FVec Ideal ⟨2, ![256, w]⟩ .bf16 :=
  View.ld (Val := Elt Ideal) (e' := .bf16) (iblk m c 9 t) (Rect.unit (s := S256x5632) ![0, o] ![256, w] b)
abbrev tapRow (k o w : ℕ) (b : ∀ a, (![k, o] : Fin 2 → ℕ) a + (![1, w] : Fin 2 → ℕ) a ≤ S3x5632.size a) : FVec Ideal ⟨2, ![1, w]⟩ .f32 :=
  View.ld (Val := Elt Ideal) (e' := .f32) (iblk m c 10 t) (Rect.unit (s := S3x5632) ![k, o] ![1, w] b)
abbrev wBlock (j o w : ℕ) (b : ∀ a, (![j, 0, o] : Fin 3 → ℕ) a + (![1, 1024, w] : Fin 3 → ℕ) a ≤ S4x1024x1408.size a) : FVec Ideal ⟨3, ![1, 1024, w]⟩ .bf16 :=
  View.ld (Val := Elt Ideal) (e' := .bf16) (iblk m c 12 t) (Rect.unit (s := S4x1024x1408) ![j, 0, o] ![1, 1024, w] b)

/-- The product at the two halves of the weights' rows, and at each block. -/
abbrev zLo : FVec Ideal S288x1408 .f32 :=
  tDz m c t (View.ld (iblk m c 11 t) (Rect.unit (s := S2816x1024) ![0, 0] ![1408, 1024] inb_S2816x1024_S1408x1024_0_0))
abbrev zHi : FVec Ideal S288x1408 .f32 :=
  tDz m c t (View.ld (iblk m c 11 t) (Rect.unit (s := S2816x1024) ![1408, 0] ![1408, 1024] inb_S2816x1024_S1408x1024_1408_0))
abbrev z0 : FVec Ideal S288x512 .f32 := extractStridedSlice S288x512 ![0, 0] (zLo m c t) slices_S288x1408_o0_0_S288x512
abbrev g0 : FVec Ideal S288x512 .f32 := gate512 (z0 m c t) (tA512 m c t 0 (by omega)) (tB512 m c t 0 (by omega))
abbrev v0 : FVec Ideal S288x512 .f32 := value512 (z0 m c t) (tA512 m c t 0 (by omega))
abbrev z1 : FVec Ideal S288x512 .f32 := extractStridedSlice S288x512 ![0, 512] (zLo m c t) slices_S288x1408_o0_512_S288x512
abbrev g1 : FVec Ideal S288x512 .f32 := gate512 (z1 m c t) (tA512 m c t 512 (by omega)) (tB512 m c t 512 (by omega))
abbrev v1 : FVec Ideal S288x512 .f32 := value512 (z1 m c t) (tA512 m c t 512 (by omega))
abbrev z2 : FVec Ideal S288x384 .f32 := extractStridedSlice S288x384 ![0, 1024] (zLo m c t) slices_S288x1408_o0_1024_S288x384
abbrev g2 : FVec Ideal S288x384 .f32 := gate384 (z2 m c t) (tA384 m c t 1024 (by omega)) (tB384 m c t 1024 (by omega))
abbrev v2 : FVec Ideal S288x384 .f32 := value384 (z2 m c t) (tA384 m c t 1024 (by omega))
abbrev z3 : FVec Ideal S288x512 .f32 := extractStridedSlice S288x512 ![0, 0] (zHi m c t) slices_S288x1408_o0_0_S288x512
abbrev g3 : FVec Ideal S288x512 .f32 := gate512 (z3 m c t) (tA512 m c t 1408 (by omega)) (tB512 m c t 1408 (by omega))
abbrev v3 : FVec Ideal S288x512 .f32 := value512 (z3 m c t) (tA512 m c t 1408 (by omega))
abbrev z4 : FVec Ideal S288x512 .f32 := extractStridedSlice S288x512 ![0, 512] (zHi m c t) slices_S288x1408_o0_512_S288x512
abbrev g4 : FVec Ideal S288x512 .f32 := gate512 (z4 m c t) (tA512 m c t 1920 (by omega)) (tB512 m c t 1920 (by omega))
abbrev v4 : FVec Ideal S288x512 .f32 := value512 (z4 m c t) (tA512 m c t 1920 (by omega))
abbrev z5 : FVec Ideal S288x384 .f32 := extractStridedSlice S288x384 ![0, 1024] (zHi m c t) slices_S288x1408_o0_1024_S288x384
abbrev g5 : FVec Ideal S288x384 .f32 := gate384 (z5 m c t) (tA384 m c t 2432 (by omega)) (tB384 m c t 2432 (by omega))
abbrev v5 : FVec Ideal S288x384 .f32 := value384 (z5 m c t) (tA384 m c t 2432 (by omega))

/-- A block of the product's columns. -/
theorem slice_at {w : ℕ} (z : FVec Ideal S288x1408 .f32) (y : ℕ) (hs : S288x1408.Slices ![0, y] (⟨2, ![288, w]⟩ : Shape)) (s : Fin 288) (l : Fin w) (hy : y + l.val < 1408) :
    extractStridedSlice (⟨2, ![288, w]⟩ : Shape) ![0, y] z hs (ix2 s l) = z (ix2 s ⟨y + l.val, hy⟩) := by
  pointwise []
theorem z0_at : IsDz512 m c t 0 (by omega) (z0 m c t) := fun s hs l =>
  (slice_at _ 0 _ s l (by omega)).trans ((tDz_at m c t 0 (by omega) _ s hs _).trans (congrArg (fun k => r46 m c (ix3 0 (src t s hs) k)) (Fin.ext (by dsimp only; omega))))
theorem g0_at (hR : Reals m c) : IsD512 m c t 0 (by omega) (g0 m c t) := gate512_tile m c t 0 (by omega) hR _ (z0_at m c t)
theorem v0_at : IsD512 m c t 2816 (by omega) (v0 m c t) := value512_tile m c t 0 (by omega) 2816 rfl _ (z0_at m c t)
theorem z1_at : IsDz512 m c t 512 (by omega) (z1 m c t) := fun s hs l =>
  (slice_at _ 512 _ s l (by omega)).trans ((tDz_at m c t 0 (by omega) _ s hs _).trans (congrArg (fun k => r46 m c (ix3 0 (src t s hs) k)) (Fin.ext (by dsimp only; omega))))
theorem g1_at (hR : Reals m c) : IsD512 m c t 512 (by omega) (g1 m c t) := gate512_tile m c t 512 (by omega) hR _ (z1_at m c t)
theorem v1_at : IsD512 m c t 3328 (by omega) (v1 m c t) := value512_tile m c t 512 (by omega) 3328 rfl _ (z1_at m c t)
theorem z2_at : IsDz384 m c t 1024 (by omega) (z2 m c t) := fun s hs l =>
  (slice_at _ 1024 _ s l (by omega)).trans ((tDz_at m c t 0 (by omega) _ s hs _).trans (congrArg (fun k => r46 m c (ix3 0 (src t s hs) k)) (Fin.ext (by dsimp only; omega))))
theorem g2_at (hR : Reals m c) : IsD384 m c t 1024 (by omega) (g2 m c t) := gate384_tile m c t 1024 (by omega) hR _ (z2_at m c t)
theorem v2_at : IsD384 m c t 3840 (by omega) (v2 m c t) := value384_tile m c t 1024 (by omega) 3840 rfl _ (z2_at m c t)
theorem z3_at : IsDz512 m c t 1408 (by omega) (z3 m c t) := fun s hs l =>
  (slice_at _ 0 _ s l (by omega)).trans ((tDz_at m c t 1408 (by omega) _ s hs _).trans (congrArg (fun k => r46 m c (ix3 0 (src t s hs) k)) (Fin.ext (by dsimp only; omega))))
theorem g3_at (hR : Reals m c) : IsD512 m c t 1408 (by omega) (g3 m c t) := gate512_tile m c t 1408 (by omega) hR _ (z3_at m c t)
theorem v3_at : IsD512 m c t 4224 (by omega) (v3 m c t) := value512_tile m c t 1408 (by omega) 4224 rfl _ (z3_at m c t)
theorem z4_at : IsDz512 m c t 1920 (by omega) (z4 m c t) := fun s hs l =>
  (slice_at _ 512 _ s l (by omega)).trans ((tDz_at m c t 1408 (by omega) _ s hs _).trans (congrArg (fun k => r46 m c (ix3 0 (src t s hs) k)) (Fin.ext (by dsimp only; omega))))
theorem g4_at (hR : Reals m c) : IsD512 m c t 1920 (by omega) (g4 m c t) := gate512_tile m c t 1920 (by omega) hR _ (z4_at m c t)
theorem v4_at : IsD512 m c t 4736 (by omega) (v4 m c t) := value512_tile m c t 1920 (by omega) 4736 rfl _ (z4_at m c t)
theorem z5_at : IsDz384 m c t 2432 (by omega) (z5 m c t) := fun s hs l =>
  (slice_at _ 1024 _ s l (by omega)).trans ((tDz_at m c t 1408 (by omega) _ s hs _).trans (congrArg (fun k => r46 m c (ix3 0 (src t s hs) k)) (Fin.ext (by dsimp only; omega))))
theorem g5_at (hR : Reals m c) : IsD384 m c t 2432 (by omega) (g5 m c t) := gate384_tile m c t 2432 (by omega) hR _ (z5_at m c t)
theorem v5_at : IsD384 m c t 5248 (by omega) (v5 m c t) := value384_tile m c t 2432 (by omega) 5248 rfl _ (z5_at m c t)

/-! ## The tiled results -/

theorem emb16 (t : Fin cfg0.N) (r : Fin 256) (l : Fin 2816) : ((cfg0.win 16).blk t).view.emb (ix2 r l) = (ix2 (rowOf t r) l : S8192x2816.Idx) := by
  blk_ext [idxB t]
theorem emb17 (t : Fin cfg0.N) (r : Fin 256) (l : Fin 2816) : ((cfg0.win 17).blk t).view.emb (ix2 r l) = (ix2 (rowOf t r) l : S8192x2816.Idx) := by
  blk_ext [idxB t]
theorem emb18 (t : Fin cfg0.N) (r : Fin 256) (l : Fin 1024) : ((cfg0.win 18).blk t).view.emb (ix2 r l) = (ix2 (rowOf t r) l : S8192x1024.Idx) := by
  blk_ext [idxB t]
abbrev ug0 : FVec Ideal S256x512 .bf16 := du512 (g0 m c t) (pid t)
  (tapRow m c t 0 0 512 inb_S3x5632_S1x512_0_0) (tapRow m c t 1 0 512 inb_S3x5632_S1x512_1_0) (tapRow m c t 2 0 512 inb_S3x5632_S1x512_2_0)
abbrev ug1 : FVec Ideal S256x512 .bf16 := du512 (g1 m c t) (pid t)
  (tapRow m c t 0 512 512 inb_S3x5632_S1x512_0_512) (tapRow m c t 1 512 512 inb_S3x5632_S1x512_1_512) (tapRow m c t 2 512 512 inb_S3x5632_S1x512_2_512)
abbrev ug2 : FVec Ideal S256x384 .bf16 := du384 (g2 m c t) (pid t)
  (tapRow m c t 0 1024 384 inb_S3x5632_S1x384_0_1024) (tapRow m c t 1 1024 384 inb_S3x5632_S1x384_1_1024) (tapRow m c t 2 1024 384 inb_S3x5632_S1x384_2_1024)
abbrev ug3 : FVec Ideal S256x512 .bf16 := du512 (g3 m c t) (pid t)
  (tapRow m c t 0 1408 512 inb_S3x5632_S1x512_0_1408) (tapRow m c t 1 1408 512 inb_S3x5632_S1x512_1_1408) (tapRow m c t 2 1408 512 inb_S3x5632_S1x512_2_1408)
abbrev ug4 : FVec Ideal S256x512 .bf16 := du512 (g4 m c t) (pid t)
  (tapRow m c t 0 1920 512 inb_S3x5632_S1x512_0_1920) (tapRow m c t 1 1920 512 inb_S3x5632_S1x512_1_1920) (tapRow m c t 2 1920 512 inb_S3x5632_S1x512_2_1920)
abbrev ug5 : FVec Ideal S256x384 .bf16 := du384 (g5 m c t) (pid t)
  (tapRow m c t 0 2432 384 inb_S3x5632_S1x384_0_2432) (tapRow m c t 1 2432 384 inb_S3x5632_S1x384_1_2432) (tapRow m c t 2 2432 384 inb_S3x5632_S1x384_2_2432)
theorem ug0_at (hR : Reals m c) (r : Fin 256) (l : Fin 512) : ug0 m c t (ix2 r l) = r83 m c (ix3 0 (rowOf t r) ⟨0 + l.val, by omega⟩) :=
  du512_tile m c t 0 (by omega) _ (g0_at m c t hR) _ _ _ r l
theorem ug1_at (hR : Reals m c) (r : Fin 256) (l : Fin 512) : ug1 m c t (ix2 r l) = r83 m c (ix3 0 (rowOf t r) ⟨512 + l.val, by omega⟩) :=
  du512_tile m c t 512 (by omega) _ (g1_at m c t hR) _ _ _ r l
theorem ug2_at (hR : Reals m c) (r : Fin 256) (l : Fin 384) : ug2 m c t (ix2 r l) = r83 m c (ix3 0 (rowOf t r) ⟨1024 + l.val, by omega⟩) :=
  du384_tile m c t 1024 (by omega) _ (g2_at m c t hR) _ _ _ r l
theorem ug3_at (hR : Reals m c) (r : Fin 256) (l : Fin 512) : ug3 m c t (ix2 r l) = r83 m c (ix3 0 (rowOf t r) ⟨1408 + l.val, by omega⟩) :=
  du512_tile m c t 1408 (by omega) _ (g3_at m c t hR) _ _ _ r l
theorem ug4_at (hR : Reals m c) (r : Fin 256) (l : Fin 512) : ug4 m c t (ix2 r l) = r83 m c (ix3 0 (rowOf t r) ⟨1920 + l.val, by omega⟩) :=
  du512_tile m c t 1920 (by omega) _ (g4_at m c t hR) _ _ _ r l
theorem ug5_at (hR : Reals m c) (r : Fin 256) (l : Fin 384) : ug5 m c t (ix2 r l) = r83 m c (ix3 0 (rowOf t r) ⟨2432 + l.val, by omega⟩) :=
  du384_tile m c t 2432 (by omega) _ (g5_at m c t hR) _ _ _ r l
/-- The tile's six stores. -/
abbrev gatePieces : List (View.Piece (Elt Ideal) S256x2816 .bf16) := [⟨Rect.unit (s := S256x2816) ![0, 2432] ![256, 384] inb_S256x2816_S256x384_0_2432, ug5 m c t⟩, ⟨Rect.unit (s := S256x2816) ![0, 1920] ![256, 512] inb_S256x2816_S256x512_0_1920, ug4 m c t⟩, ⟨Rect.unit (s := S256x2816) ![0, 1408] ![256, 512] inb_S256x2816_S256x512_0_1408, ug3 m c t⟩, ⟨Rect.unit (s := S256x2816) ![0, 1024] ![256, 384] inb_S256x2816_S256x384_0_1024, ug2 m c t⟩, ⟨Rect.unit (s := S256x2816) ![0, 512] ![256, 512] inb_S256x2816_S256x512_0_512, ug1 m c t⟩, ⟨Rect.unit (s := S256x2816) ![0, 0] ![256, 512] inb_S256x2816_S256x512_0_0, ug0 m c t⟩]
theorem gatePieces_at (hR : Reals m c) (r : Fin 256) (l : Fin 2816) : View.canon (gatePieces m c t) (ix2 r l) = r83 m c (ix3 0 (rowOf t r) ⟨l.val, by omega⟩) := by
  refine Strips.six (Val := Elt Ideal) (e := .bf16) (fun r l => r83 m c (ix3 0 (rowOf t r) ⟨l.val, by omega⟩)) _ _ _ _ _ _ _ _ _ _ _ _
    rfl rfl rfl rfl rfl rfl rfl (fun r l => (ug0_at m c t hR r l).trans ?_) (fun r l => (ug1_at m c t hR r l).trans ?_) (fun r l => (ug2_at m c t hR r l).trans ?_) (fun r l => (ug3_at m c t hR r l).trans ?_) (fun r l => (ug4_at m c t hR r l).trans ?_) (fun r l => (ug5_at m c t hR r l).trans ?_) r l
  all_goals exact congrArg (fun k => r83 m c (ix3 0 (rowOf t r) k)) (Fin.ext (by dsimp only <;> omega))

set_option maxHeartbeats 4000000 in
theorem final_16 (c : Dev nD) (hR : Reals m c) : (dats m 0 c).arrAt 16 cfg0.N = val_main_v110 (F := Ideal) (a0 m c) (a1 m c) (a2 m c) (a3 m c) (a4 m c) (a5 m c) := by
  refine (dats m 0 c).arrAt_eq_of_covers 16 _ (by decide +kernel) fun t _ y => ?_
  have key : View.canon (gatePieces m c t) y = val_main_v110 (F := Ideal) (a0 m c) (a1 m c) (a2 m c) (a3 m c) (a4 m c) (a5 m c) (((cfg0.win 16).blk t).view.emb y) := by
    idx_vars y
    rw [emb16]
    exact (gatePieces_at m c t hR y0 y1).trans (FfnRefIdeal.At.out_gate _ _ _ _ _ _ _ _).symm
  blk_simp
  rw [after_16]
  by_cases h : t.val % 32 = 0
  · rw [outsAt_A m c t h]
    dsimp only [outsA, ptA]
    frame_out
    exact key
  · rw [outsAt_B m c t h]
    dsimp only [outsB, ptB]
    frame_out
    exact key
abbrev uv0 : FVec Ideal S256x512 .bf16 := du512 (v0 m c t) (pid t)
  (tapRow m c t 0 2816 512 inb_S3x5632_S1x512_0_2816) (tapRow m c t 1 2816 512 inb_S3x5632_S1x512_1_2816) (tapRow m c t 2 2816 512 inb_S3x5632_S1x512_2_2816)
abbrev uv1 : FVec Ideal S256x512 .bf16 := du512 (v1 m c t) (pid t)
  (tapRow m c t 0 3328 512 inb_S3x5632_S1x512_0_3328) (tapRow m c t 1 3328 512 inb_S3x5632_S1x512_1_3328) (tapRow m c t 2 3328 512 inb_S3x5632_S1x512_2_3328)
abbrev uv2 : FVec Ideal S256x384 .bf16 := du384 (v2 m c t) (pid t)
  (tapRow m c t 0 3840 384 inb_S3x5632_S1x384_0_3840) (tapRow m c t 1 3840 384 inb_S3x5632_S1x384_1_3840) (tapRow m c t 2 3840 384 inb_S3x5632_S1x384_2_3840)
abbrev uv3 : FVec Ideal S256x512 .bf16 := du512 (v3 m c t) (pid t)
  (tapRow m c t 0 4224 512 inb_S3x5632_S1x512_0_4224) (tapRow m c t 1 4224 512 inb_S3x5632_S1x512_1_4224) (tapRow m c t 2 4224 512 inb_S3x5632_S1x512_2_4224)
abbrev uv4 : FVec Ideal S256x512 .bf16 := du512 (v4 m c t) (pid t)
  (tapRow m c t 0 4736 512 inb_S3x5632_S1x512_0_4736) (tapRow m c t 1 4736 512 inb_S3x5632_S1x512_1_4736) (tapRow m c t 2 4736 512 inb_S3x5632_S1x512_2_4736)
abbrev uv5 : FVec Ideal S256x384 .bf16 := du384 (v5 m c t) (pid t)
  (tapRow m c t 0 5248 384 inb_S3x5632_S1x384_0_5248) (tapRow m c t 1 5248 384 inb_S3x5632_S1x384_1_5248) (tapRow m c t 2 5248 384 inb_S3x5632_S1x384_2_5248)
theorem uv0_at (r : Fin 256) (l : Fin 512) : uv0 m c t (ix2 r l) = r83 m c (ix3 0 (rowOf t r) ⟨2816 + l.val, by omega⟩) :=
  du512_tile m c t 2816 (by omega) _ (v0_at m c t) _ _ _ r l
theorem uv1_at (r : Fin 256) (l : Fin 512) : uv1 m c t (ix2 r l) = r83 m c (ix3 0 (rowOf t r) ⟨3328 + l.val, by omega⟩) :=
  du512_tile m c t 3328 (by omega) _ (v1_at m c t) _ _ _ r l
theorem uv2_at (r : Fin 256) (l : Fin 384) : uv2 m c t (ix2 r l) = r83 m c (ix3 0 (rowOf t r) ⟨3840 + l.val, by omega⟩) :=
  du384_tile m c t 3840 (by omega) _ (v2_at m c t) _ _ _ r l
theorem uv3_at (r : Fin 256) (l : Fin 512) : uv3 m c t (ix2 r l) = r83 m c (ix3 0 (rowOf t r) ⟨4224 + l.val, by omega⟩) :=
  du512_tile m c t 4224 (by omega) _ (v3_at m c t) _ _ _ r l
theorem uv4_at (r : Fin 256) (l : Fin 512) : uv4 m c t (ix2 r l) = r83 m c (ix3 0 (rowOf t r) ⟨4736 + l.val, by omega⟩) :=
  du512_tile m c t 4736 (by omega) _ (v4_at m c t) _ _ _ r l
theorem uv5_at (r : Fin 256) (l : Fin 384) : uv5 m c t (ix2 r l) = r83 m c (ix3 0 (rowOf t r) ⟨5248 + l.val, by omega⟩) :=
  du384_tile m c t 5248 (by omega) _ (v5_at m c t) _ _ _ r l
/-- The tile's six stores. -/
abbrev valuePieces : List (View.Piece (Elt Ideal) S256x2816 .bf16) := [⟨Rect.unit (s := S256x2816) ![0, 2432] ![256, 384] inb_S256x2816_S256x384_0_2432, uv5 m c t⟩, ⟨Rect.unit (s := S256x2816) ![0, 1920] ![256, 512] inb_S256x2816_S256x512_0_1920, uv4 m c t⟩, ⟨Rect.unit (s := S256x2816) ![0, 1408] ![256, 512] inb_S256x2816_S256x512_0_1408, uv3 m c t⟩, ⟨Rect.unit (s := S256x2816) ![0, 1024] ![256, 384] inb_S256x2816_S256x384_0_1024, uv2 m c t⟩, ⟨Rect.unit (s := S256x2816) ![0, 512] ![256, 512] inb_S256x2816_S256x512_0_512, uv1 m c t⟩, ⟨Rect.unit (s := S256x2816) ![0, 0] ![256, 512] inb_S256x2816_S256x512_0_0, uv0 m c t⟩]
theorem valuePieces_at (r : Fin 256) (l : Fin 2816) : View.canon (valuePieces m c t) (ix2 r l) = r83 m c (ix3 0 (rowOf t r) ⟨2816 + l.val, by omega⟩) := by
  refine Strips.six (Val := Elt Ideal) (e := .bf16) (fun r l => r83 m c (ix3 0 (rowOf t r) ⟨2816 + l.val, by omega⟩)) _ _ _ _ _ _ _ _ _ _ _ _
    rfl rfl rfl rfl rfl rfl rfl (fun r l => (uv0_at m c t r l).trans ?_) (fun r l => (uv1_at m c t r l).trans ?_) (fun r l => (uv2_at m c t r l).trans ?_) (fun r l => (uv3_at m c t r l).trans ?_) (fun r l => (uv4_at m c t r l).trans ?_) (fun r l => (uv5_at m c t r l).trans ?_) r l
  all_goals exact congrArg (fun k => r83 m c (ix3 0 (rowOf t r) k)) (Fin.ext (by dsimp only <;> omega))

set_option maxHeartbeats 4000000 in
theorem final_17 (c : Dev nD) : (dats m 0 c).arrAt 17 cfg0.N = val_main_v113 (F := Ideal) (a0 m c) (a1 m c) (a2 m c) (a3 m c) (a4 m c) (a5 m c) := by
  refine (dats m 0 c).arrAt_eq_of_covers 17 _ (by decide +kernel) fun t _ y => ?_
  have key : View.canon (valuePieces m c t) y = val_main_v113 (F := Ideal) (a0 m c) (a1 m c) (a2 m c) (a3 m c) (a4 m c) (a5 m c) (((cfg0.win 17).blk t).view.emb y) := by
    idx_vars y
    rw [emb17]
    exact (valuePieces_at m c t y0 y1).trans (FfnRefIdeal.At.out_value _ _ _ _ _ _ _ _).symm
  blk_simp
  rw [after_17]
  by_cases h : t.val % 32 = 0
  · rw [outsAt_A m c t h]
    dsimp only [outsA, ptA]
    frame_out
    exact key
  · rw [outsAt_B m c t h]
    dsimp only [outsB, ptB]
    frame_out
    exact key

/-! ## The norm's side -/

/-- The product's terms at a row and a column of the weights' rows. -/
abbrev term (c : Dev nD) (r : Fin 8192) (l : Fin 1024) (k : Fin 5632) : EReal := r83 m c (ix3 0 r k) * a2 m c (ix2 l k)

theorem zero6 (x) : k0_pay6 (F := Ideal) x = 0 := by
  idx_vars x
  pointwise [k0_pay6]
abbrev q0 : FVec Ideal S256x1024 .f32 :=
  dot512 (ug0 m c t) (k0_pay6 (F := Ideal)) (wBlock m c t 0 0 512 inb_S4x1024x1408_S1x1024x512_0_0_0)
abbrev q1 : FVec Ideal S256x1024 .f32 :=
  dot512 (uv0 m c t) (q0 m c t) (wBlock m c t 2 0 512 inb_S4x1024x1408_S1x1024x512_2_0_0)
abbrev q2 : FVec Ideal S256x1024 .f32 :=
  dot512 (ug1 m c t) (q1 m c t) (wBlock m c t 0 512 512 inb_S4x1024x1408_S1x1024x512_0_0_512)
abbrev q3 : FVec Ideal S256x1024 .f32 :=
  dot512 (uv1 m c t) (q2 m c t) (wBlock m c t 2 512 512 inb_S4x1024x1408_S1x1024x512_2_0_512)
abbrev q4 : FVec Ideal S256x1024 .f32 :=
  dot384 (ug2 m c t) (q3 m c t) (wBlock m c t 0 1024 384 inb_S4x1024x1408_S1x1024x384_0_0_1024)
abbrev q5 : FVec Ideal S256x1024 .f32 :=
  dot384 (uv2 m c t) (q4 m c t) (wBlock m c t 2 1024 384 inb_S4x1024x1408_S1x1024x384_2_0_1024)
abbrev q6 : FVec Ideal S256x1024 .f32 :=
  dot512 (ug3 m c t) (q5 m c t) (wBlock m c t 1 0 512 inb_S4x1024x1408_S1x1024x512_1_0_0)
abbrev q7 : FVec Ideal S256x1024 .f32 :=
  dot512 (uv3 m c t) (q6 m c t) (wBlock m c t 3 0 512 inb_S4x1024x1408_S1x1024x512_3_0_0)
abbrev q8 : FVec Ideal S256x1024 .f32 :=
  dot512 (ug4 m c t) (q7 m c t) (wBlock m c t 1 512 512 inb_S4x1024x1408_S1x1024x512_1_0_512)
abbrev q9 : FVec Ideal S256x1024 .f32 :=
  dot512 (uv4 m c t) (q8 m c t) (wBlock m c t 3 512 512 inb_S4x1024x1408_S1x1024x512_3_0_512)
abbrev q10 : FVec Ideal S256x1024 .f32 :=
  dot384 (ug5 m c t) (q9 m c t) (wBlock m c t 1 1024 384 inb_S4x1024x1408_S1x1024x384_1_0_1024)
abbrev tW : FVec Ideal S1x1024x384 .bf16 :=
  View.ld (iblk m c 12 t) (Rect.unit (s := S4x1024x1408) ![3, 0, 1024] ![1, 1024, 384] inb_S4x1024x1408_S1x1024x384_3_0_1024)
abbrev q11 : FVec Ideal S256x1024 .f32 := dot384 (uv5 m c t) (q10 m c t) (tW m c t)

theorem q0_at (hR : Reals m c) (r : Fin 256) (l : Fin 1024) : q0 m c t (ix2 r l)
    = ∑ k : Fin 512, term m c (rowOf t r) l ⟨0 + k.val, by omega⟩ :=
  (dot512_tile m c t 0 (by omega) 0 0 (by omega) (by omega) rfl _ (ug0 m c t) _ (ug0_at m c t hR) r l).trans (by rw [zero6, zero_add])
theorem q1_at (r : Fin 256) (l : Fin 1024) : q1 m c t (ix2 r l)
    = (q0 m c t (ix2 r l) + ∑ k : Fin 512, term m c (rowOf t r) l ⟨2816 + k.val, by omega⟩ : EReal) :=
  dot512_tile m c t 2816 (by omega) 2 0 (by omega) (by omega) rfl _ (uv0 m c t) _ (uv0_at m c t) r l
theorem q2_at (hR : Reals m c) (r : Fin 256) (l : Fin 1024) : q2 m c t (ix2 r l)
    = (q1 m c t (ix2 r l) + ∑ k : Fin 512, term m c (rowOf t r) l ⟨512 + k.val, by omega⟩ : EReal) :=
  dot512_tile m c t 512 (by omega) 0 512 (by omega) (by omega) rfl _ (ug1 m c t) _ (ug1_at m c t hR) r l
theorem q3_at (r : Fin 256) (l : Fin 1024) : q3 m c t (ix2 r l)
    = (q2 m c t (ix2 r l) + ∑ k : Fin 512, term m c (rowOf t r) l ⟨3328 + k.val, by omega⟩ : EReal) :=
  dot512_tile m c t 3328 (by omega) 2 512 (by omega) (by omega) rfl _ (uv1 m c t) _ (uv1_at m c t) r l
theorem q4_at (hR : Reals m c) (r : Fin 256) (l : Fin 1024) : q4 m c t (ix2 r l)
    = (q3 m c t (ix2 r l) + ∑ k : Fin 384, term m c (rowOf t r) l ⟨1024 + k.val, by omega⟩ : EReal) :=
  dot384_tile m c t 1024 (by omega) 0 1024 (by omega) (by omega) rfl _ (ug2 m c t) _ (ug2_at m c t hR) r l
theorem q5_at (r : Fin 256) (l : Fin 1024) : q5 m c t (ix2 r l)
    = (q4 m c t (ix2 r l) + ∑ k : Fin 384, term m c (rowOf t r) l ⟨3840 + k.val, by omega⟩ : EReal) :=
  dot384_tile m c t 3840 (by omega) 2 1024 (by omega) (by omega) rfl _ (uv2 m c t) _ (uv2_at m c t) r l
theorem q6_at (hR : Reals m c) (r : Fin 256) (l : Fin 1024) : q6 m c t (ix2 r l)
    = (q5 m c t (ix2 r l) + ∑ k : Fin 512, term m c (rowOf t r) l ⟨1408 + k.val, by omega⟩ : EReal) :=
  dot512_tile m c t 1408 (by omega) 1 0 (by omega) (by omega) rfl _ (ug3 m c t) _ (ug3_at m c t hR) r l
theorem q7_at (r : Fin 256) (l : Fin 1024) : q7 m c t (ix2 r l)
    = (q6 m c t (ix2 r l) + ∑ k : Fin 512, term m c (rowOf t r) l ⟨4224 + k.val, by omega⟩ : EReal) :=
  dot512_tile m c t 4224 (by omega) 3 0 (by omega) (by omega) rfl _ (uv3 m c t) _ (uv3_at m c t) r l
theorem q8_at (hR : Reals m c) (r : Fin 256) (l : Fin 1024) : q8 m c t (ix2 r l)
    = (q7 m c t (ix2 r l) + ∑ k : Fin 512, term m c (rowOf t r) l ⟨1920 + k.val, by omega⟩ : EReal) :=
  dot512_tile m c t 1920 (by omega) 1 512 (by omega) (by omega) rfl _ (ug4 m c t) _ (ug4_at m c t hR) r l
theorem q9_at (r : Fin 256) (l : Fin 1024) : q9 m c t (ix2 r l)
    = (q8 m c t (ix2 r l) + ∑ k : Fin 512, term m c (rowOf t r) l ⟨4736 + k.val, by omega⟩ : EReal) :=
  dot512_tile m c t 4736 (by omega) 3 512 (by omega) (by omega) rfl _ (uv4 m c t) _ (uv4_at m c t) r l
theorem q10_at (hR : Reals m c) (r : Fin 256) (l : Fin 1024) : q10 m c t (ix2 r l)
    = (q9 m c t (ix2 r l) + ∑ k : Fin 384, term m c (rowOf t r) l ⟨2432 + k.val, by omega⟩ : EReal) :=
  dot384_tile m c t 2432 (by omega) 1 1024 (by omega) (by omega) rfl _ (ug5 m c t) _ (ug5_at m c t hR) r l
theorem q11_at (r : Fin 256) (l : Fin 1024) : q11 m c t (ix2 r l)
    = (q10 m c t (ix2 r l) + ∑ k : Fin 384, term m c (rowOf t r) l ⟨5248 + k.val, by omega⟩ : EReal) :=
  dot384_tile m c t 5248 (by omega) 3 1024 (by omega) (by omega) rfl _ (uv5 m c t) _ (uv5_at m c t) r l

/-- The six blocks of a half's columns, and the twelve of all. -/
theorem sum_six (f : Fin 2816 → EReal) : ∑ k, f k = ∑ k : Fin 512, f ⟨0 + k.val, by omega⟩ + (∑ k : Fin 512, f ⟨512 + k.val, by omega⟩ + (∑ k : Fin 384, f ⟨1024 + k.val, by omega⟩ + (∑ k : Fin 512, f ⟨1408 + k.val, by omega⟩ + (∑ k : Fin 512, f ⟨1920 + k.val, by omega⟩ + (∑ k : Fin 384, f ⟨2432 + k.val, by omega⟩))))) := by
  rw [Strips.sum_two 512 2304 rfl f, Strips.sum_two 512 1792 rfl (fun k : Fin 2304 => f ⟨512 + k.val, by omega⟩), Strips.sum_two 384 1408 rfl,
    Strips.sum_two 512 896 rfl (fun k : Fin 1408 => _), Strips.sum_two 512 384 rfl (fun k : Fin 896 => _)]
  simp only [← Nat.add_assoc, Nat.reduceAdd, Nat.zero_add]
theorem sum_twelve (f : Fin 5632 → EReal) : ∑ k, f k = ∑ k : Fin 512, f ⟨0 + k.val, by omega⟩ + ∑ k : Fin 512, f ⟨2816 + k.val, by omega⟩ + ∑ k : Fin 512, f ⟨512 + k.val, by omega⟩ + ∑ k : Fin 512, f ⟨3328 + k.val, by omega⟩ + ∑ k : Fin 384, f ⟨1024 + k.val, by omega⟩ + ∑ k : Fin 384, f ⟨3840 + k.val, by omega⟩ + ∑ k : Fin 512, f ⟨1408 + k.val, by omega⟩ + ∑ k : Fin 512, f ⟨4224 + k.val, by omega⟩ + ∑ k : Fin 512, f ⟨1920 + k.val, by omega⟩ + ∑ k : Fin 512, f ⟨4736 + k.val, by omega⟩ + ∑ k : Fin 384, f ⟨2432 + k.val, by omega⟩ + ∑ k : Fin 384, f ⟨5248 + k.val, by omega⟩ := by
  rw [Strips.sum_two 2816 2816 rfl f, sum_six, sum_six]
  simp only [← Nat.add_assoc, Nat.reduceAdd]
  abel

theorem q11_eq (hR : Reals m c) (r : Fin 256) (l : Fin 1024) : q11 m c t (ix2 r l) = r85 m c (ix3 0 (rowOf t r) l) := by
  refine Eq.trans ?_ ((FfnRefIdeal.At.dh_at _ _ _ _ _ _ _ _).trans (sum_twelve (term m c (rowOf t r) l))).symm
  rw [q11_at, q10_at m c t hR, q9_at, q8_at m c t hR, q7_at, q6_at m c t hR, q5_at, q4_at m c t hR, q3_at, q2_at m c t hR, q1_at, q0_at m c t hR]

set_option maxHeartbeats 4000000 in
theorem final_18 (c : Dev nD) (hR : Reals m c) : (dats m 0 c).arrAt 18 cfg0.N = val_main_v115 (F := Ideal) (a0 m c) (a1 m c) (a2 m c) (a3 m c) (a4 m c) (a5 m c) (a6 m c) := by
  refine (dats m 0 c).arrAt_eq_of_covers 18 _ (by decide +kernel) fun t _ y => ?_
  have key : k0_pay190 (F := Ideal) (q10 m c t) (uv5 m c t) (tW m c t) (iblk m c 13 t) (iblk m c 15 t) (iblk m c 14 t) y
      = val_main_v115 (F := Ideal) (a0 m c) (a1 m c) (a2 m c) (a3 m c) (a4 m c) (a5 m c) (a6 m c) (((cfg0.win 18).blk t).view.emb y) := by
    idx_vars y
    rw [emb18]
    refine (norm_at _ _ _ _ _ _ y0 y1).trans (Eq.trans ?_ (FfnRefIdeal.At.dx_at _ _ _ _ _ _ _ _ _).symm)
    refine congrArg₂ (fun a b : EReal => a + b) (blk14 m c t y0 y1) ((Shared.normK_eq _ Shared.w1024_pos _ _ _ _).trans ?_)
    rw [show (fun k => dot384 (uv5 m c t) (q10 m c t) (tW m c t) (ix2 y0 k)) = _ from funext fun k => q11_eq m c t hR y0 k,
      show (fun k => iblk m c 13 t (ix2 y0 k)) = _ from funext fun k => blk13 m c t y0 k,
      show (fun k => iblk m c 15 t (ix2 0 k)) = _ from funext fun k => blk15 m c t k]
  blk_simp
  rw [after_18]
  by_cases h : t.val % 32 = 0
  · rw [outsAt_A m c t h]
    dsimp only [outsA, ptA]
    frame_out
    exact key
  · rw [outsAt_B m c t h]
    dsimp only [outsB, ptB]
    frame_out
    exact key

/-! ## The accumulated results -/

def t31 : Fin cfg0.N := ⟨31, by rw [N32]; decide⟩

abbrev scaleOf (v : FVec Ideal S256x1024 .f32) (x : FVec Ideal S256x1024 .f32) (l : Fin 1024) : EReal :=
  ∑ r : Fin 256, v (ix2 r l) * (x (ix2 r l) * Ideal.rsqrt (Shared.meanSq Shared.w1024 fun k => x (ix2 r k)))
abbrev scale (l : Fin 1024) : EReal := scaleOf (q11 m c t) (iblk m c 13 t) l

theorem zero2 (x) : k0_pay2 (F := Ideal) x = 0 := by
  idx_vars x
  pointwise [k0_pay2]
theorem zero3 (x) : k0_pay3 (F := Ideal) x = 0 := by
  idx_vars x
  pointwise [k0_pay3]
theorem zero4 (x) : k0_pay4 (F := Ideal) x = 0 := by
  idx_vars x
  pointwise [k0_pay4]

theorem scale_of (acc : FVec Ideal S1x1024 .f32) (l : Fin 1024) :
    k0_pay1 (F := Ideal) (k0_pay189 (q10 m c t) (uv5 m c t) (tW m c t) (iblk m c 13 t)) acc (ix2 0 l) = acc (ix2 0 l) + scale m c t l :=
  scale_at _ _ _ _ acc l

set_option maxHeartbeats 4000000 in
theorem final_19 (c : Dev nD) (hR : Reals m c) : (dats m 0 c).arrAt 19 cfg0.N = val_main_v116 (F := Ideal) (a0 m c) (a1 m c) (a2 m c) (a3 m c) (a4 m c) (a5 m c) := by
  refine (dats m 0 c).arrAt_eq_of_after_last 19 t31 (by decide +kernel) _ fun j => ?_
  blk_simp
  rw [after_19]
  obtain ⟨l, rfl⟩ : ∃ l : Fin 1024, j = (ix2 0 l : S1x1024.Idx) :=
    ⟨j 1, (eq_ix2 (show S1x1024.Idx from j)).trans (congrArg (fun a : Fin 1 => (ix2 a (j 1) : S1x1024.Idx))
      (Subsingleton.elim (α := Fin 1) (j 0) 0))⟩
  rw [Pipeline.eq_sum_fin_of_reset_step_apply_last (fun n h => (outsAt m c n h).2.2.2.1) 32 (fun _ => 0)
      (fun t j => scale m c t (j 1))
      (fun t h j => by
        rw [outsAt_A m c t h]; dsimp only [outsA, ptA]; frame_out
        idx_vars j
        obtain rfl : j0 = 0 := Subsingleton.elim _ _
        refine (scale_of m c t _ j1).trans ?_
        rw [zero2])
      (fun t h j => by
        rw [outsAt_B m c t h]; dsimp only [outsB, ptB]; frame_out
        idx_vars j
        obtain rfl : j0 = 0 := Subsingleton.elim _ _
        exact scale_of m c t _ j1)
      (le_of_eq N_0) t31 rfl _, zero_add]
  refine Eq.trans ?_ (FfnRefIdeal.At.dg_at _ _ _ _ _ _ l).symm
  refine Fin.sum_mul_add_congr fun t r hl => ?_
  refine (congrArg₂ (fun a b : EReal => a * b) (q11_eq m c t hR r l) ?_).trans (EReal.mul_comm _ _)
  rw [show (ix2 0 l : S1x1024.Idx) 1 = l from rfl, blk13 m c t r l,
    show (fun k => iblk m c 13 t (ix2 r k)) = _ from funext fun k => blk13 m c t r k]

/-! ### The taps of the gate's columns -/

abbrev gTaps := taps m c t 0 (by omega)
abbrev vTaps := taps m c t 2816 (by omega)

/-- The three taps of a block of columns, as one. -/
abbrev Adds3 (Q : Fin 8 → Fin 2816 → EReal) (o : ℕ) {w : ℕ} (F0 F1 F2 : Row w → Row w) : Prop :=
  Adds Q 0 o F0 ∧ Adds Q 1 o F1 ∧ Adds Q 2 o F2

theorem adds512 (q : ℕ) (hq : q + 512 ≤ 5632) (o base : ℕ) (hb : base + 2816 ≤ 5632) (hO : q = base + o) (u) (d : FVec Ideal S288x512 .f32) (hd : IsD512 m c t q hq d) :
    Adds3 (taps m c t base hb) o (fun a => tap512 a (uCol m c t q 512 u) (next512 d (pid t))) (fun a => tap512 a (uCol m c t q 512 u) (mid512 d))
      (fun a => tap512 a (uCol m c t q 512 u) (prev512 d (pid t))) :=
  ⟨tap512_tile m c t q hq o base hb hO 0 _ _ (next512_tile m c t q hq _ hd), tap512_tile m c t q hq o base hb hO 1 _ _ (mid512_tile m c t q hq _ hd),
    tap512_tile m c t q hq o base hb hO 2 _ _ (prev512_tile m c t q hq _ hd)⟩

theorem adds384 (q : ℕ) (hq : q + 384 ≤ 5632) (o base : ℕ) (hb : base + 2816 ≤ 5632) (hO : q = base + o) (u) (d : FVec Ideal S288x384 .f32) (hd : IsD384 m c t q hq d) :
    Adds3 (taps m c t base hb) o (fun a => tap384 a (uCol m c t q 384 u) (next384 d (pid t))) (fun a => tap384 a (uCol m c t q 384 u) (mid384 d))
      (fun a => tap384 a (uCol m c t q 384 u) (prev384 d (pid t))) :=
  ⟨tap384_tile m c t q hq o base hb hO 0 _ _ (next384_tile m c t q hq _ hd), tap384_tile m c t q hq o base hb hO 1 _ _ (mid384_tile m c t q hq _ hd),
    tap384_tile m c t q hq o base hb hO 2 _ _ (prev384_tile m c t q hq _ hd)⟩

abbrev fg0_0 (a : Row 512) : Row 512 := tap512 a (uCol m c t 0 512 inb_S256x5632_S256x512_0_0) (next512 (g0 m c t) (pid t))
abbrev fg0_1 (a : Row 512) : Row 512 := tap512 a (uCol m c t 0 512 inb_S256x5632_S256x512_0_0) (mid512 (g0 m c t))
abbrev fg0_2 (a : Row 512) : Row 512 := tap512 a (uCol m c t 0 512 inb_S256x5632_S256x512_0_0) (prev512 (g0 m c t) (pid t))
theorem fg0_adds (hR : Reals m c) : Adds3 (gTaps m c t) 0 (fg0_0 m c t) (fg0_1 m c t) (fg0_2 m c t) := adds512 m c t 0 (by omega) 0 0 (by omega) rfl _ _ (g0_at m c t hR)
abbrev fg1_0 (a : Row 512) : Row 512 := tap512 a (uCol m c t 512 512 inb_S256x5632_S256x512_0_512) (next512 (g1 m c t) (pid t))
abbrev fg1_1 (a : Row 512) : Row 512 := tap512 a (uCol m c t 512 512 inb_S256x5632_S256x512_0_512) (mid512 (g1 m c t))
abbrev fg1_2 (a : Row 512) : Row 512 := tap512 a (uCol m c t 512 512 inb_S256x5632_S256x512_0_512) (prev512 (g1 m c t) (pid t))
theorem fg1_adds (hR : Reals m c) : Adds3 (gTaps m c t) 512 (fg1_0 m c t) (fg1_1 m c t) (fg1_2 m c t) := adds512 m c t 512 (by omega) 512 0 (by omega) rfl _ _ (g1_at m c t hR)
abbrev fg2_0 (a : Row 384) : Row 384 := tap384 a (uCol m c t 1024 384 inb_S256x5632_S256x384_0_1024) (next384 (g2 m c t) (pid t))
abbrev fg2_1 (a : Row 384) : Row 384 := tap384 a (uCol m c t 1024 384 inb_S256x5632_S256x384_0_1024) (mid384 (g2 m c t))
abbrev fg2_2 (a : Row 384) : Row 384 := tap384 a (uCol m c t 1024 384 inb_S256x5632_S256x384_0_1024) (prev384 (g2 m c t) (pid t))
theorem fg2_adds (hR : Reals m c) : Adds3 (gTaps m c t) 1024 (fg2_0 m c t) (fg2_1 m c t) (fg2_2 m c t) := adds384 m c t 1024 (by omega) 1024 0 (by omega) rfl _ _ (g2_at m c t hR)
abbrev fg3_0 (a : Row 512) : Row 512 := tap512 a (uCol m c t 1408 512 inb_S256x5632_S256x512_0_1408) (next512 (g3 m c t) (pid t))
abbrev fg3_1 (a : Row 512) : Row 512 := tap512 a (uCol m c t 1408 512 inb_S256x5632_S256x512_0_1408) (mid512 (g3 m c t))
abbrev fg3_2 (a : Row 512) : Row 512 := tap512 a (uCol m c t 1408 512 inb_S256x5632_S256x512_0_1408) (prev512 (g3 m c t) (pid t))
theorem fg3_adds (hR : Reals m c) : Adds3 (gTaps m c t) 1408 (fg3_0 m c t) (fg3_1 m c t) (fg3_2 m c t) := adds512 m c t 1408 (by omega) 1408 0 (by omega) rfl _ _ (g3_at m c t hR)
abbrev fg4_0 (a : Row 512) : Row 512 := tap512 a (uCol m c t 1920 512 inb_S256x5632_S256x512_0_1920) (next512 (g4 m c t) (pid t))
abbrev fg4_1 (a : Row 512) : Row 512 := tap512 a (uCol m c t 1920 512 inb_S256x5632_S256x512_0_1920) (mid512 (g4 m c t))
abbrev fg4_2 (a : Row 512) : Row 512 := tap512 a (uCol m c t 1920 512 inb_S256x5632_S256x512_0_1920) (prev512 (g4 m c t) (pid t))
theorem fg4_adds (hR : Reals m c) : Adds3 (gTaps m c t) 1920 (fg4_0 m c t) (fg4_1 m c t) (fg4_2 m c t) := adds512 m c t 1920 (by omega) 1920 0 (by omega) rfl _ _ (g4_at m c t hR)
abbrev fg5_0 (a : Row 384) : Row 384 := tap384 a (uCol m c t 2432 384 inb_S256x5632_S256x384_0_2432) (next384 (g5 m c t) (pid t))
abbrev fg5_1 (a : Row 384) : Row 384 := tap384 a (uCol m c t 2432 384 inb_S256x5632_S256x384_0_2432) (mid384 (g5 m c t))
abbrev fg5_2 (a : Row 384) : Row 384 := tap384 a (uCol m c t 2432 384 inb_S256x5632_S256x384_0_2432) (prev384 (g5 m c t) (pid t))
theorem fg5_adds (hR : Reals m c) : Adds3 (gTaps m c t) 2432 (fg5_0 m c t) (fg5_1 m c t) (fg5_2 m c t) := adds384 m c t 2432 (by omega) 2432 0 (by omega) rfl _ _ (g5_at m c t hR)

abbrev gateNew0 : Pieces 8 2816 := [⟨Rect.unit (s := S8x2816) ![0, 0] ![8, 2816] inb_S8x2816_S8x2816_0_0, k0_pay3 (F := Ideal)⟩]
abbrev gateNew1 : Pieces 8 2816 :=
  (push (ms0_20 t).view 2 0 (w := 512) inb_S8x2816_S1x512_2_0 (fg0_2 m c t) (push (ms0_20 t).view 1 0 (w := 512) inb_S8x2816_S1x512_1_0 (fg0_1 m c t) (push (ms0_20 t).view 0 0 (w := 512) inb_S8x2816_S1x512_0_0 (fg0_0 m c t) gateNew0)))
abbrev gateOver1 (p : FVec Ideal S8x2816 .f32) (c : Dev nD) (t : Fin cfg0.N) : Pieces 8 2816 :=
  (pushOver p 2 0 (w := 512) inb_S8x2816_S1x512_2_0 (fg0_2 m c t) (pushOver p 1 0 (w := 512) inb_S8x2816_S1x512_1_0 (fg0_1 m c t) (pushOver p 0 0 (w := 512) inb_S8x2816_S1x512_0_0 (fg0_0 m c t) [])))
abbrev gateNew2 : Pieces 8 2816 :=
  (push (ms0_20 t).view 2 512 (w := 512) inb_S8x2816_S1x512_2_512 (fg1_2 m c t) (push (ms0_20 t).view 1 512 (w := 512) inb_S8x2816_S1x512_1_512 (fg1_1 m c t) (push (ms0_20 t).view 0 512 (w := 512) inb_S8x2816_S1x512_0_512 (fg1_0 m c t) (gateNew1 m c t))))
abbrev gateOver2 (p : FVec Ideal S8x2816 .f32) (c : Dev nD) (t : Fin cfg0.N) : Pieces 8 2816 :=
  (pushOver p 2 512 (w := 512) inb_S8x2816_S1x512_2_512 (fg1_2 m c t) (pushOver p 1 512 (w := 512) inb_S8x2816_S1x512_1_512 (fg1_1 m c t) (pushOver p 0 512 (w := 512) inb_S8x2816_S1x512_0_512 (fg1_0 m c t) (gateOver1 m p c t))))
abbrev gateNew3 : Pieces 8 2816 :=
  (push (ms0_20 t).view 2 1024 (w := 384) inb_S8x2816_S1x384_2_1024 (fg2_2 m c t) (push (ms0_20 t).view 1 1024 (w := 384) inb_S8x2816_S1x384_1_1024 (fg2_1 m c t) (push (ms0_20 t).view 0 1024 (w := 384) inb_S8x2816_S1x384_0_1024 (fg2_0 m c t) (gateNew2 m c t))))
abbrev gateOver3 (p : FVec Ideal S8x2816 .f32) (c : Dev nD) (t : Fin cfg0.N) : Pieces 8 2816 :=
  (pushOver p 2 1024 (w := 384) inb_S8x2816_S1x384_2_1024 (fg2_2 m c t) (pushOver p 1 1024 (w := 384) inb_S8x2816_S1x384_1_1024 (fg2_1 m c t) (pushOver p 0 1024 (w := 384) inb_S8x2816_S1x384_0_1024 (fg2_0 m c t) (gateOver2 m p c t))))
abbrev gateNew4 : Pieces 8 2816 :=
  (push (ms0_20 t).view 2 1408 (w := 512) inb_S8x2816_S1x512_2_1408 (fg3_2 m c t) (push (ms0_20 t).view 1 1408 (w := 512) inb_S8x2816_S1x512_1_1408 (fg3_1 m c t) (push (ms0_20 t).view 0 1408 (w := 512) inb_S8x2816_S1x512_0_1408 (fg3_0 m c t) (gateNew3 m c t))))
abbrev gateOver4 (p : FVec Ideal S8x2816 .f32) (c : Dev nD) (t : Fin cfg0.N) : Pieces 8 2816 :=
  (pushOver p 2 1408 (w := 512) inb_S8x2816_S1x512_2_1408 (fg3_2 m c t) (pushOver p 1 1408 (w := 512) inb_S8x2816_S1x512_1_1408 (fg3_1 m c t) (pushOver p 0 1408 (w := 512) inb_S8x2816_S1x512_0_1408 (fg3_0 m c t) (gateOver3 m p c t))))
abbrev gateNew5 : Pieces 8 2816 :=
  (push (ms0_20 t).view 2 1920 (w := 512) inb_S8x2816_S1x512_2_1920 (fg4_2 m c t) (push (ms0_20 t).view 1 1920 (w := 512) inb_S8x2816_S1x512_1_1920 (fg4_1 m c t) (push (ms0_20 t).view 0 1920 (w := 512) inb_S8x2816_S1x512_0_1920 (fg4_0 m c t) (gateNew4 m c t))))
abbrev gateOver5 (p : FVec Ideal S8x2816 .f32) (c : Dev nD) (t : Fin cfg0.N) : Pieces 8 2816 :=
  (pushOver p 2 1920 (w := 512) inb_S8x2816_S1x512_2_1920 (fg4_2 m c t) (pushOver p 1 1920 (w := 512) inb_S8x2816_S1x512_1_1920 (fg4_1 m c t) (pushOver p 0 1920 (w := 512) inb_S8x2816_S1x512_0_1920 (fg4_0 m c t) (gateOver4 m p c t))))
abbrev gateNew6 : Pieces 8 2816 :=
  (push (ms0_20 t).view 2 2432 (w := 384) inb_S8x2816_S1x384_2_2432 (fg5_2 m c t) (push (ms0_20 t).view 1 2432 (w := 384) inb_S8x2816_S1x384_1_2432 (fg5_1 m c t) (push (ms0_20 t).view 0 2432 (w := 384) inb_S8x2816_S1x384_0_2432 (fg5_0 m c t) (gateNew5 m c t))))
abbrev gateOver6 (p : FVec Ideal S8x2816 .f32) (c : Dev nD) (t : Fin cfg0.N) : Pieces 8 2816 :=
  (pushOver p 2 2432 (w := 384) inb_S8x2816_S1x384_2_2432 (fg5_2 m c t) (pushOver p 1 2432 (w := 384) inb_S8x2816_S1x384_1_2432 (fg5_1 m c t) (pushOver p 0 2432 (w := 384) inb_S8x2816_S1x384_0_2432 (fg5_0 m c t) (gateOver5 m p c t))))

theorem gateNew_at (hR : Reals m c) (i : Fin 8) (l : Fin 2816) :
    View.canon (gateNew6 m c t) (ix2 i l) = (0 + if i.val < 3 then gTaps m c t i l else 0 : EReal) := by
  have z0 : ∀ (i : Fin 8) (l : Fin 2816), View.canon gateNew0 (ix2 i l) = (0 + if i.val < 3 ∧ l.val < 0 then gTaps m c t i l else 0 : EReal) := fun i l => by
    rw [if_neg (by omega), add_zero]
    exact (congrFun (Rows.canon_whole _ _) _).trans (zero3 _)
  have z1 := push_three (ms0_20 t).view (fun _ => 0) (gTaps m c t) 0 inb_S8x2816_S1x512_0_0 inb_S8x2816_S1x512_1_0 inb_S8x2816_S1x512_2_0 _ _ _ _ (fg0_adds m c t hR).1 (fg0_adds m c t hR).2.1 (fg0_adds m c t hR).2.2 z0
  have z2 := push_three (ms0_20 t).view (fun _ => 0) (gTaps m c t) 512 inb_S8x2816_S1x512_0_512 inb_S8x2816_S1x512_1_512 inb_S8x2816_S1x512_2_512 _ _ _ _ (fg1_adds m c t hR).1 (fg1_adds m c t hR).2.1 (fg1_adds m c t hR).2.2 z1
  have z3 := push_three (ms0_20 t).view (fun _ => 0) (gTaps m c t) 1024 inb_S8x2816_S1x384_0_1024 inb_S8x2816_S1x384_1_1024 inb_S8x2816_S1x384_2_1024 _ _ _ _ (fg2_adds m c t hR).1 (fg2_adds m c t hR).2.1 (fg2_adds m c t hR).2.2 z2
  have z4 := push_three (ms0_20 t).view (fun _ => 0) (gTaps m c t) 1408 inb_S8x2816_S1x512_0_1408 inb_S8x2816_S1x512_1_1408 inb_S8x2816_S1x512_2_1408 _ _ _ _ (fg3_adds m c t hR).1 (fg3_adds m c t hR).2.1 (fg3_adds m c t hR).2.2 z3
  have z5 := push_three (ms0_20 t).view (fun _ => 0) (gTaps m c t) 1920 inb_S8x2816_S1x512_0_1920 inb_S8x2816_S1x512_1_1920 inb_S8x2816_S1x512_2_1920 _ _ _ _ (fg4_adds m c t hR).1 (fg4_adds m c t hR).2.1 (fg4_adds m c t hR).2.2 z4
  have z6 := push_three (ms0_20 t).view (fun _ => 0) (gTaps m c t) 2432 inb_S8x2816_S1x384_0_2432 inb_S8x2816_S1x384_1_2432 inb_S8x2816_S1x384_2_2432 _ _ _ _ (fg5_adds m c t hR).1 (fg5_adds m c t hR).2.1 (fg5_adds m c t hR).2.2 z5
  refine (z6 i l).trans ?_
  rw [if_congr (show i.val < 3 ∧ l.val < 2432 + 384 ↔ i.val < 3 from ⟨fun h => h.1, fun h => ⟨h, l.isLt⟩⟩) rfl rfl]

theorem gateOver_at (hR : Reals m c) (f : (ms0_20 t).view.ty.Contents (Elt Ideal)) (p : FVec Ideal S8x2816 .f32)
    (hf : (ms0_20 t).view.read (Elt Ideal) f = p) (i : Fin 8) (l : Fin 2816) :
    (ms0_20 t).view.read (Elt Ideal) ((ms0_20 t).view.writes (Elt Ideal) f (gateOver6 m p c t)) (ix2 i l)
      = (p (ix2 i l) + if i.val < 3 then gTaps m c t i l else 0 : EReal) := by
  have z0 : ∀ (i : Fin 8) (l : Fin 2816), (ms0_20 t).view.read (Elt Ideal) ((ms0_20 t).view.writes (Elt Ideal) f []) (ix2 i l)
      = (p (ix2 i l) + if i.val < 3 ∧ l.val < 0 then gTaps m c t i l else 0 : EReal) := fun i l => by
    rw [if_neg (by omega), add_zero]
    exact congrFun hf _
  have z1 := pushOver_three (ms0_20 t).view f p (gTaps m c t) 0 inb_S8x2816_S1x512_0_0 inb_S8x2816_S1x512_1_0 inb_S8x2816_S1x512_2_0 _ _ _ _ (fg0_adds m c t hR).1 (fg0_adds m c t hR).2.1 (fg0_adds m c t hR).2.2 z0
  have z2 := pushOver_three (ms0_20 t).view f p (gTaps m c t) 512 inb_S8x2816_S1x512_0_512 inb_S8x2816_S1x512_1_512 inb_S8x2816_S1x512_2_512 _ _ _ _ (fg1_adds m c t hR).1 (fg1_adds m c t hR).2.1 (fg1_adds m c t hR).2.2 z1
  have z3 := pushOver_three (ms0_20 t).view f p (gTaps m c t) 1024 inb_S8x2816_S1x384_0_1024 inb_S8x2816_S1x384_1_1024 inb_S8x2816_S1x384_2_1024 _ _ _ _ (fg2_adds m c t hR).1 (fg2_adds m c t hR).2.1 (fg2_adds m c t hR).2.2 z2
  have z4 := pushOver_three (ms0_20 t).view f p (gTaps m c t) 1408 inb_S8x2816_S1x512_0_1408 inb_S8x2816_S1x512_1_1408 inb_S8x2816_S1x512_2_1408 _ _ _ _ (fg3_adds m c t hR).1 (fg3_adds m c t hR).2.1 (fg3_adds m c t hR).2.2 z3
  have z5 := pushOver_three (ms0_20 t).view f p (gTaps m c t) 1920 inb_S8x2816_S1x512_0_1920 inb_S8x2816_S1x512_1_1920 inb_S8x2816_S1x512_2_1920 _ _ _ _ (fg4_adds m c t hR).1 (fg4_adds m c t hR).2.1 (fg4_adds m c t hR).2.2 z4
  have z6 := pushOver_three (ms0_20 t).view f p (gTaps m c t) 2432 inb_S8x2816_S1x384_0_2432 inb_S8x2816_S1x384_1_2432 inb_S8x2816_S1x384_2_2432 _ _ _ _ (fg5_adds m c t hR).1 (fg5_adds m c t hR).2.1 (fg5_adds m c t hR).2.2 z5
  refine (z6 i l).trans ?_
  rw [if_congr (show i.val < 3 ∧ l.val < 2432 + 384 ↔ i.val < 3 from ⟨fun h => h.1, fun h => ⟨h, l.isLt⟩⟩) rfl rfl]

/-! ### The taps of the value's columns -/

abbrev fv0_0 (a : Row 512) : Row 512 := tap512 a (uCol m c t 2816 512 inb_S256x5632_S256x512_0_2816) (next512 (v0 m c t) (pid t))
abbrev fv0_1 (a : Row 512) : Row 512 := tap512 a (uCol m c t 2816 512 inb_S256x5632_S256x512_0_2816) (mid512 (v0 m c t))
abbrev fv0_2 (a : Row 512) : Row 512 := tap512 a (uCol m c t 2816 512 inb_S256x5632_S256x512_0_2816) (prev512 (v0 m c t) (pid t))
theorem fv0_adds : Adds3 (vTaps m c t) 0 (fv0_0 m c t) (fv0_1 m c t) (fv0_2 m c t) := adds512 m c t 2816 (by omega) 0 2816 (by omega) rfl _ _ (v0_at m c t)
abbrev fv1_0 (a : Row 512) : Row 512 := tap512 a (uCol m c t 3328 512 inb_S256x5632_S256x512_0_3328) (next512 (v1 m c t) (pid t))
abbrev fv1_1 (a : Row 512) : Row 512 := tap512 a (uCol m c t 3328 512 inb_S256x5632_S256x512_0_3328) (mid512 (v1 m c t))
abbrev fv1_2 (a : Row 512) : Row 512 := tap512 a (uCol m c t 3328 512 inb_S256x5632_S256x512_0_3328) (prev512 (v1 m c t) (pid t))
theorem fv1_adds : Adds3 (vTaps m c t) 512 (fv1_0 m c t) (fv1_1 m c t) (fv1_2 m c t) := adds512 m c t 3328 (by omega) 512 2816 (by omega) rfl _ _ (v1_at m c t)
abbrev fv2_0 (a : Row 384) : Row 384 := tap384 a (uCol m c t 3840 384 inb_S256x5632_S256x384_0_3840) (next384 (v2 m c t) (pid t))
abbrev fv2_1 (a : Row 384) : Row 384 := tap384 a (uCol m c t 3840 384 inb_S256x5632_S256x384_0_3840) (mid384 (v2 m c t))
abbrev fv2_2 (a : Row 384) : Row 384 := tap384 a (uCol m c t 3840 384 inb_S256x5632_S256x384_0_3840) (prev384 (v2 m c t) (pid t))
theorem fv2_adds : Adds3 (vTaps m c t) 1024 (fv2_0 m c t) (fv2_1 m c t) (fv2_2 m c t) := adds384 m c t 3840 (by omega) 1024 2816 (by omega) rfl _ _ (v2_at m c t)
abbrev fv3_0 (a : Row 512) : Row 512 := tap512 a (uCol m c t 4224 512 inb_S256x5632_S256x512_0_4224) (next512 (v3 m c t) (pid t))
abbrev fv3_1 (a : Row 512) : Row 512 := tap512 a (uCol m c t 4224 512 inb_S256x5632_S256x512_0_4224) (mid512 (v3 m c t))
abbrev fv3_2 (a : Row 512) : Row 512 := tap512 a (uCol m c t 4224 512 inb_S256x5632_S256x512_0_4224) (prev512 (v3 m c t) (pid t))
theorem fv3_adds : Adds3 (vTaps m c t) 1408 (fv3_0 m c t) (fv3_1 m c t) (fv3_2 m c t) := adds512 m c t 4224 (by omega) 1408 2816 (by omega) rfl _ _ (v3_at m c t)
abbrev fv4_0 (a : Row 512) : Row 512 := tap512 a (uCol m c t 4736 512 inb_S256x5632_S256x512_0_4736) (next512 (v4 m c t) (pid t))
abbrev fv4_1 (a : Row 512) : Row 512 := tap512 a (uCol m c t 4736 512 inb_S256x5632_S256x512_0_4736) (mid512 (v4 m c t))
abbrev fv4_2 (a : Row 512) : Row 512 := tap512 a (uCol m c t 4736 512 inb_S256x5632_S256x512_0_4736) (prev512 (v4 m c t) (pid t))
theorem fv4_adds : Adds3 (vTaps m c t) 1920 (fv4_0 m c t) (fv4_1 m c t) (fv4_2 m c t) := adds512 m c t 4736 (by omega) 1920 2816 (by omega) rfl _ _ (v4_at m c t)
abbrev fv5_0 (a : Row 384) : Row 384 := tap384 a (uCol m c t 5248 384 inb_S256x5632_S256x384_0_5248) (next384 (v5 m c t) (pid t))
abbrev fv5_1 (a : Row 384) : Row 384 := tap384 a (uCol m c t 5248 384 inb_S256x5632_S256x384_0_5248) (mid384 (v5 m c t))
abbrev fv5_2 (a : Row 384) : Row 384 := tap384 a (uCol m c t 5248 384 inb_S256x5632_S256x384_0_5248) (prev384 (v5 m c t) (pid t))
theorem fv5_adds : Adds3 (vTaps m c t) 2432 (fv5_0 m c t) (fv5_1 m c t) (fv5_2 m c t) := adds384 m c t 5248 (by omega) 2432 2816 (by omega) rfl _ _ (v5_at m c t)

abbrev valueNew0 : Pieces 8 2816 := [⟨Rect.unit (s := S8x2816) ![0, 0] ![8, 2816] inb_S8x2816_S8x2816_0_0, k0_pay4 (F := Ideal)⟩]
abbrev valueNew1 : Pieces 8 2816 :=
  (push (ms0_21 t).view 2 0 (w := 512) inb_S8x2816_S1x512_2_0 (fv0_2 m c t) (push (ms0_21 t).view 1 0 (w := 512) inb_S8x2816_S1x512_1_0 (fv0_1 m c t) (push (ms0_21 t).view 0 0 (w := 512) inb_S8x2816_S1x512_0_0 (fv0_0 m c t) valueNew0)))
abbrev valueOver1 (p : FVec Ideal S8x2816 .f32) (c : Dev nD) (t : Fin cfg0.N) : Pieces 8 2816 :=
  (pushOver p 2 0 (w := 512) inb_S8x2816_S1x512_2_0 (fv0_2 m c t) (pushOver p 1 0 (w := 512) inb_S8x2816_S1x512_1_0 (fv0_1 m c t) (pushOver p 0 0 (w := 512) inb_S8x2816_S1x512_0_0 (fv0_0 m c t) [])))
abbrev valueNew2 : Pieces 8 2816 :=
  (push (ms0_21 t).view 2 512 (w := 512) inb_S8x2816_S1x512_2_512 (fv1_2 m c t) (push (ms0_21 t).view 1 512 (w := 512) inb_S8x2816_S1x512_1_512 (fv1_1 m c t) (push (ms0_21 t).view 0 512 (w := 512) inb_S8x2816_S1x512_0_512 (fv1_0 m c t) (valueNew1 m c t))))
abbrev valueOver2 (p : FVec Ideal S8x2816 .f32) (c : Dev nD) (t : Fin cfg0.N) : Pieces 8 2816 :=
  (pushOver p 2 512 (w := 512) inb_S8x2816_S1x512_2_512 (fv1_2 m c t) (pushOver p 1 512 (w := 512) inb_S8x2816_S1x512_1_512 (fv1_1 m c t) (pushOver p 0 512 (w := 512) inb_S8x2816_S1x512_0_512 (fv1_0 m c t) (valueOver1 m p c t))))
abbrev valueNew3 : Pieces 8 2816 :=
  (push (ms0_21 t).view 2 1024 (w := 384) inb_S8x2816_S1x384_2_1024 (fv2_2 m c t) (push (ms0_21 t).view 1 1024 (w := 384) inb_S8x2816_S1x384_1_1024 (fv2_1 m c t) (push (ms0_21 t).view 0 1024 (w := 384) inb_S8x2816_S1x384_0_1024 (fv2_0 m c t) (valueNew2 m c t))))
abbrev valueOver3 (p : FVec Ideal S8x2816 .f32) (c : Dev nD) (t : Fin cfg0.N) : Pieces 8 2816 :=
  (pushOver p 2 1024 (w := 384) inb_S8x2816_S1x384_2_1024 (fv2_2 m c t) (pushOver p 1 1024 (w := 384) inb_S8x2816_S1x384_1_1024 (fv2_1 m c t) (pushOver p 0 1024 (w := 384) inb_S8x2816_S1x384_0_1024 (fv2_0 m c t) (valueOver2 m p c t))))
abbrev valueNew4 : Pieces 8 2816 :=
  (push (ms0_21 t).view 2 1408 (w := 512) inb_S8x2816_S1x512_2_1408 (fv3_2 m c t) (push (ms0_21 t).view 1 1408 (w := 512) inb_S8x2816_S1x512_1_1408 (fv3_1 m c t) (push (ms0_21 t).view 0 1408 (w := 512) inb_S8x2816_S1x512_0_1408 (fv3_0 m c t) (valueNew3 m c t))))
abbrev valueOver4 (p : FVec Ideal S8x2816 .f32) (c : Dev nD) (t : Fin cfg0.N) : Pieces 8 2816 :=
  (pushOver p 2 1408 (w := 512) inb_S8x2816_S1x512_2_1408 (fv3_2 m c t) (pushOver p 1 1408 (w := 512) inb_S8x2816_S1x512_1_1408 (fv3_1 m c t) (pushOver p 0 1408 (w := 512) inb_S8x2816_S1x512_0_1408 (fv3_0 m c t) (valueOver3 m p c t))))
abbrev valueNew5 : Pieces 8 2816 :=
  (push (ms0_21 t).view 2 1920 (w := 512) inb_S8x2816_S1x512_2_1920 (fv4_2 m c t) (push (ms0_21 t).view 1 1920 (w := 512) inb_S8x2816_S1x512_1_1920 (fv4_1 m c t) (push (ms0_21 t).view 0 1920 (w := 512) inb_S8x2816_S1x512_0_1920 (fv4_0 m c t) (valueNew4 m c t))))
abbrev valueOver5 (p : FVec Ideal S8x2816 .f32) (c : Dev nD) (t : Fin cfg0.N) : Pieces 8 2816 :=
  (pushOver p 2 1920 (w := 512) inb_S8x2816_S1x512_2_1920 (fv4_2 m c t) (pushOver p 1 1920 (w := 512) inb_S8x2816_S1x512_1_1920 (fv4_1 m c t) (pushOver p 0 1920 (w := 512) inb_S8x2816_S1x512_0_1920 (fv4_0 m c t) (valueOver4 m p c t))))
abbrev valueNew6 : Pieces 8 2816 :=
  (push (ms0_21 t).view 2 2432 (w := 384) inb_S8x2816_S1x384_2_2432 (fv5_2 m c t) (push (ms0_21 t).view 1 2432 (w := 384) inb_S8x2816_S1x384_1_2432 (fv5_1 m c t) (push (ms0_21 t).view 0 2432 (w := 384) inb_S8x2816_S1x384_0_2432 (fv5_0 m c t) (valueNew5 m c t))))
abbrev valueOver6 (p : FVec Ideal S8x2816 .f32) (c : Dev nD) (t : Fin cfg0.N) : Pieces 8 2816 :=
  (pushOver p 2 2432 (w := 384) inb_S8x2816_S1x384_2_2432 (fv5_2 m c t) (pushOver p 1 2432 (w := 384) inb_S8x2816_S1x384_1_2432 (fv5_1 m c t) (pushOver p 0 2432 (w := 384) inb_S8x2816_S1x384_0_2432 (fv5_0 m c t) (valueOver5 m p c t))))

theorem valueNew_at (i : Fin 8) (l : Fin 2816) :
    View.canon (valueNew6 m c t) (ix2 i l) = (0 + if i.val < 3 then vTaps m c t i l else 0 : EReal) := by
  have z0 : ∀ (i : Fin 8) (l : Fin 2816), View.canon valueNew0 (ix2 i l) = (0 + if i.val < 3 ∧ l.val < 0 then vTaps m c t i l else 0 : EReal) := fun i l => by
    rw [if_neg (by omega), add_zero]
    exact (congrFun (Rows.canon_whole _ _) _).trans (zero4 _)
  have z1 := push_three (ms0_21 t).view (fun _ => 0) (vTaps m c t) 0 inb_S8x2816_S1x512_0_0 inb_S8x2816_S1x512_1_0 inb_S8x2816_S1x512_2_0 _ _ _ _ (fv0_adds m c t).1 (fv0_adds m c t).2.1 (fv0_adds m c t).2.2 z0
  have z2 := push_three (ms0_21 t).view (fun _ => 0) (vTaps m c t) 512 inb_S8x2816_S1x512_0_512 inb_S8x2816_S1x512_1_512 inb_S8x2816_S1x512_2_512 _ _ _ _ (fv1_adds m c t).1 (fv1_adds m c t).2.1 (fv1_adds m c t).2.2 z1
  have z3 := push_three (ms0_21 t).view (fun _ => 0) (vTaps m c t) 1024 inb_S8x2816_S1x384_0_1024 inb_S8x2816_S1x384_1_1024 inb_S8x2816_S1x384_2_1024 _ _ _ _ (fv2_adds m c t).1 (fv2_adds m c t).2.1 (fv2_adds m c t).2.2 z2
  have z4 := push_three (ms0_21 t).view (fun _ => 0) (vTaps m c t) 1408 inb_S8x2816_S1x512_0_1408 inb_S8x2816_S1x512_1_1408 inb_S8x2816_S1x512_2_1408 _ _ _ _ (fv3_adds m c t).1 (fv3_adds m c t).2.1 (fv3_adds m c t).2.2 z3
  have z5 := push_three (ms0_21 t).view (fun _ => 0) (vTaps m c t) 1920 inb_S8x2816_S1x512_0_1920 inb_S8x2816_S1x512_1_1920 inb_S8x2816_S1x512_2_1920 _ _ _ _ (fv4_adds m c t).1 (fv4_adds m c t).2.1 (fv4_adds m c t).2.2 z4
  have z6 := push_three (ms0_21 t).view (fun _ => 0) (vTaps m c t) 2432 inb_S8x2816_S1x384_0_2432 inb_S8x2816_S1x384_1_2432 inb_S8x2816_S1x384_2_2432 _ _ _ _ (fv5_adds m c t).1 (fv5_adds m c t).2.1 (fv5_adds m c t).2.2 z5
  refine (z6 i l).trans ?_
  rw [if_congr (show i.val < 3 ∧ l.val < 2432 + 384 ↔ i.val < 3 from ⟨fun h => h.1, fun h => ⟨h, l.isLt⟩⟩) rfl rfl]

theorem valueOver_at (f : (ms0_21 t).view.ty.Contents (Elt Ideal)) (p : FVec Ideal S8x2816 .f32)
    (hf : (ms0_21 t).view.read (Elt Ideal) f = p) (i : Fin 8) (l : Fin 2816) :
    (ms0_21 t).view.read (Elt Ideal) ((ms0_21 t).view.writes (Elt Ideal) f (valueOver6 m p c t)) (ix2 i l)
      = (p (ix2 i l) + if i.val < 3 then vTaps m c t i l else 0 : EReal) := by
  have z0 : ∀ (i : Fin 8) (l : Fin 2816), (ms0_21 t).view.read (Elt Ideal) ((ms0_21 t).view.writes (Elt Ideal) f []) (ix2 i l)
      = (p (ix2 i l) + if i.val < 3 ∧ l.val < 0 then vTaps m c t i l else 0 : EReal) := fun i l => by
    rw [if_neg (by omega), add_zero]
    exact congrFun hf _
  have z1 := pushOver_three (ms0_21 t).view f p (vTaps m c t) 0 inb_S8x2816_S1x512_0_0 inb_S8x2816_S1x512_1_0 inb_S8x2816_S1x512_2_0 _ _ _ _ (fv0_adds m c t).1 (fv0_adds m c t).2.1 (fv0_adds m c t).2.2 z0
  have z2 := pushOver_three (ms0_21 t).view f p (vTaps m c t) 512 inb_S8x2816_S1x512_0_512 inb_S8x2816_S1x512_1_512 inb_S8x2816_S1x512_2_512 _ _ _ _ (fv1_adds m c t).1 (fv1_adds m c t).2.1 (fv1_adds m c t).2.2 z1
  have z3 := pushOver_three (ms0_21 t).view f p (vTaps m c t) 1024 inb_S8x2816_S1x384_0_1024 inb_S8x2816_S1x384_1_1024 inb_S8x2816_S1x384_2_1024 _ _ _ _ (fv2_adds m c t).1 (fv2_adds m c t).2.1 (fv2_adds m c t).2.2 z2
  have z4 := pushOver_three (ms0_21 t).view f p (vTaps m c t) 1408 inb_S8x2816_S1x512_0_1408 inb_S8x2816_S1x512_1_1408 inb_S8x2816_S1x512_2_1408 _ _ _ _ (fv3_adds m c t).1 (fv3_adds m c t).2.1 (fv3_adds m c t).2.2 z3
  have z5 := pushOver_three (ms0_21 t).view f p (vTaps m c t) 1920 inb_S8x2816_S1x512_0_1920 inb_S8x2816_S1x512_1_1920 inb_S8x2816_S1x512_2_1920 _ _ _ _ (fv4_adds m c t).1 (fv4_adds m c t).2.1 (fv4_adds m c t).2.2 z4
  have z6 := pushOver_three (ms0_21 t).view f p (vTaps m c t) 2432 inb_S8x2816_S1x384_0_2432 inb_S8x2816_S1x384_1_2432 inb_S8x2816_S1x384_2_2432 _ _ _ _ (fv5_adds m c t).1 (fv5_adds m c t).2.1 (fv5_adds m c t).2.2 z5
  refine (z6 i l).trans ?_
  rw [if_congr (show i.val < 3 ∧ l.val < 2432 + 384 ↔ i.val < 3 from ⟨fun h => h.1, fun h => ⟨h, l.isLt⟩⟩) rfl rfl]

/-! ### The whole sums -/

theorem taps_sum (c : Dev nD) (b : ℕ) (hb : b + 2816 ≤ 5632) (i : Fin 8) (l : Fin 2816) :
    ∑ t : Fin cfg0.N, (if i.val < 3 then taps m c t b hb i l else 0 : EReal)
      = val_main_v107 (F := Ideal) (a0 m c) (a1 m c) (a2 m c) (a3 m c) (a4 m c) (a5 m c) (ix2 i ⟨b + l.val, by omega⟩) := by
  refine Eq.trans ?_ (FfnRefIdeal.At.taps_at _ _ _ _ _ _ i _).symm
  by_cases h : i.val < 3
  · refine (Finset.sum_congr rfl fun t _ => if_pos h).trans ((Fin.sum_mul_add_congr (f := fun R => tapOf m c i.val R ⟨b + l.val, by omega⟩) fun t r hl => rfl).trans ?_)
    by_cases h0 : i.val = 0
    · have e : ∀ R L, tapOf m c i.val R L = after m c R L * r16 m c (ix3 0 R L) := fun R L => by rw [tapOf, if_pos h0]
      rw [if_pos h0, FfnRefIdeal.At.tap0_at]
      exact (Finset.sum_congr rfl fun R _ => e R _).trans ((Strips.sum_shift (N := 8192) 8191 (by omega) (fun R => r50 m c (ix3 0 R ⟨b + l.val, by omega⟩)) (fun R => r16 m c (ix3 0 R ⟨b + l.val, by omega⟩))).symm.trans
        (Finset.sum_congr rfl fun R _ => congrArg (fun z : EReal => r50 m c (ix3 0 R ⟨b + l.val, by omega⟩) * z) (FfnRefIdeal.At.prev_at _ _ _ R _).symm))
    · by_cases h1 : i.val = 1
      · have e : ∀ R L, tapOf m c i.val R L = r50 m c (ix3 0 R L) * r16 m c (ix3 0 R L) := fun R L => by rw [tapOf, if_neg h0, if_pos h1]
        rw [if_neg h0, if_pos h1, FfnRefIdeal.At.tap1_at]
        exact Finset.sum_congr rfl fun R _ => (e R _).trans (congrArg (fun z : EReal => r50 m c (ix3 0 R ⟨b + l.val, by omega⟩) * z) (FfnRefIdeal.At.self_at _ _ _ R _).symm)
      · have e : ∀ R L, tapOf m c i.val R L = before m c R L * r16 m c (ix3 0 R L) := fun R L => by rw [tapOf, if_neg h0, if_neg h1]
        rw [if_neg h0, if_neg h1, if_pos (by omega), FfnRefIdeal.At.tap2_at]
        exact (Finset.sum_congr rfl fun R _ => e R _).trans ((Strips.sum_shift' (N := 8192) 8191 (by omega) (fun R => r50 m c (ix3 0 R ⟨b + l.val, by omega⟩)) (fun R => r16 m c (ix3 0 R ⟨b + l.val, by omega⟩))).trans
          (Finset.sum_congr rfl fun R _ => by rw [FfnRefIdeal.At.next_at]))
  · rw [if_neg (by omega), if_neg (by omega), if_neg (by omega)]
    exact Finset.sum_eq_zero fun t _ => if_neg h

set_option maxHeartbeats 8000000 in
theorem final_20 (c : Dev nD) (hR : Reals m c) : (dats m 0 c).arrAt 20 cfg0.N = val_main_v117 (F := Ideal) (a0 m c) (a1 m c) (a2 m c) (a3 m c) (a4 m c) (a5 m c) := by
  refine (dats m 0 c).arrAt_eq_of_after_last 20 t31 (by decide +kernel) _ fun j => ?_
  blk_simp
  rw [after_20]
  rw [Pipeline.eq_sum_fin_of_reset_step_apply_last (fun n h => (outsAt m c n h).2.2.2.2.1) 32 (fun _ => 0)
      (fun t j => if (j 0).val < 3 then gTaps m c t (j 0) (j 1) else 0)
      (fun t h j => by
        rw [outsAt_A m c t h]; dsimp only [outsA, ptA]; frame_out
        idx_vars j
        exact gateNew_at m c t hR j0 j1)
      (fun t h j => by
        rw [outsAt_B m c t h]; dsimp only [outsB, ptB]; frame_out
        idx_vars j
        exact gateOver_at m c t hR _ _ (Memref.IsWhole.read_unread _ _) j0 j1)
      (le_of_eq N_0) t31 rfl j, zero_add]
  idx_vars j
  refine (taps_sum m c 0 (by omega) j0 j1).trans ((congrArg (fun k => val_main_v107 (F := Ideal) (a0 m c) (a1 m c) (a2 m c) (a3 m c) (a4 m c) (a5 m c) (ix2 j0 k)) (Fin.ext ?_)).trans (FfnRefIdeal.At.out_tapg _ _ _ _ _ _ j0 j1).symm)
  dsimp only <;> omega

set_option maxHeartbeats 8000000 in
theorem final_21 (c : Dev nD) : (dats m 0 c).arrAt 21 cfg0.N = val_main_v118 (F := Ideal) (a0 m c) (a1 m c) (a2 m c) (a3 m c) (a4 m c) (a5 m c) := by
  refine (dats m 0 c).arrAt_eq_of_after_last 21 t31 (by decide +kernel) _ fun j => ?_
  blk_simp
  rw [after_21]
  rw [Pipeline.eq_sum_fin_of_reset_step_apply_last (fun n h => (outsAt m c n h).2.2.2.2.2) 32 (fun _ => 0)
      (fun t j => if (j 0).val < 3 then vTaps m c t (j 0) (j 1) else 0)
      (fun t h j => by
        rw [outsAt_A m c t h]; dsimp only [outsA, ptA]; frame_out
        idx_vars j
        exact valueNew_at m c t j0 j1)
      (fun t h j => by
        rw [outsAt_B m c t h]; dsimp only [outsB, ptB]; frame_out
        idx_vars j
        exact valueOver_at m c t _ _ (Memref.IsWhole.read_unread _ _) j0 j1)
      (le_of_eq N_0) t31 rfl j, zero_add]
  idx_vars j
  refine (taps_sum m c 2816 (by omega) j0 j1).trans ((congrArg (fun k => val_main_v107 (F := Ideal) (a0 m c) (a1 m c) (a2 m c) (a3 m c) (a4 m c) (a5 m c) (ix2 j0 k)) (Fin.ext ?_)).trans (FfnRefIdeal.At.out_tapv _ _ _ _ _ _ j0 j1).symm)
  dsimp only <;> omega

end Cert.FfnIdeal.Final

end
-- ==== Proof.FfnClaim.lean ====
/- The gradient of the gated network: the claim. -/
module

public import proofs.«01_k».proof.Proof.FfnValue
public import proofs.«01_k».proof.Proof.Finite
public import proofs.«01_k».proof.Proof.Gen.Pre_ffn_finite
public import proofs.«01_k».proof.Proof.Gen.FfnRefIdeal.Run
public import proofs.«01_k».proof.Defs

@[expose] public section

set_option maxRecDepth 16384

noncomputable section

namespace Cert.FfnIdeal.Final

open Cert Cert.FfnIdeal Cert.FfnIdeal.Gen Cert.FfnIdeal.Run Idealize.ShloMosaic Idealize.ShloMosaic.TcCoe Idealize.SL.Sem
open Cert.FfnRefIdeal.Read

theorem congr6 {A0 A1 A2 A3 A4 A5 Z : Type} (f : A0 → A1 → A2 → A3 → A4 → A5 → Z) {a0 b0 a1 b1 a2 b2 a3 b3 a4 b4 a5 b5}
    (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5; rfl
theorem congr7 {A0 A1 A2 A3 A4 A5 A6 Z : Type} (f : A0 → A1 → A2 → A3 → A4 → A5 → A6 → Z) {a0 b0 a1 b1 a2 b2 a3 b3 a4 b4 a5 b5 a6 b6}
    (h0 : a0 = b0) (h1 : a1 = b1) (h2 : a2 = b2) (h3 : a3 = b3) (h4 : a4 = b4) (h5 : a5 = b5) (h6 : a6 = b6) :
    f a0 a1 a2 a3 a4 a5 a6 = f b0 b1 b2 b3 b4 b5 b6 := by
  subst h0 h1 h2 h3 h4 h5 h6; rfl

variable {m : (ℓ : Loc nD τ sig) → Buf (Elt Ideal) ℓ}

instance : Subsingleton Pre_ffn_finite.S_.Idx := ⟨fun a b => funext fun i => i.elim0⟩

/-- The precondition, element by element, and what it makes of the reference's values. -/
theorem all_real (h : Pre_FfnIdeal_ffn_finite m) (c : Dev nD) : Reals m c := by
  have e := congrFun (h c) (fun i => i.elim0)
  dsimp only [Pre_ffn_finite.fn, Pre_ffn_finite.fn_part1] at e
  obtain ⟨e, e'⟩ := Finite.and_one e
  obtain ⟨e1, e2⟩ := Finite.and_one e
  obtain ⟨e', e5⟩ := Finite.and_one e'
  obtain ⟨e3, e4⟩ := Finite.and_one e'
  have r1 := Finite.real_of_all (a1 m c) _ _ _ _ e1
  have r2 := Finite.real_of_all (a2 m c) _ _ _ _ e2
  have r3 := Finite.real_of_all (a3 m c) _ _ _ _ e3
  exact ⟨FfnRefIdeal.At.real_dz _ _ (Finite.real_of_all (a4 m c) _ _ _ _ e4) (Finite.real_of_all (a5 m c) _ _ _ _ e5),
    FfnRefIdeal.At.real_gate _ _ _ _ r1 r2 r3, FfnRefIdeal.At.real_up _ _ _ _ r1 r2 r3⟩

variable (m)

set_option maxHeartbeats 2000000 in
/-- The results as the run's tiles, and the arguments kept. -/
theorem run_blocks (ρ : Dev nD → PrngReg) : θ_run (defs (F := Ideal)) (onTc (τ := τ) (main (F := Ideal))) ⟨m, fun _ => 0, ρ⟩ (fun r => ∀ c : Dev nD,
      r.2.mem ((c.tc : Thread nD τ).loc main_v63_0) = (dats m 0 c).arrAt 16 cfg0.N
      ∧ r.2.mem ((c.tc : Thread nD τ).loc main_v63_1) = (dats m 0 c).arrAt 17 cfg0.N
      ∧ r.2.mem ((c.tc : Thread nD τ).loc main_v63_2) = (dats m 0 c).arrAt 18 cfg0.N
      ∧ r.2.mem ((c.tc : Thread nD τ).loc main_v63_3) = (dats m 0 c).arrAt 19 cfg0.N
      ∧ r.2.mem ((c.tc : Thread nD τ).loc main_v63_4) = (dats m 0 c).arrAt 20 cfg0.N
      ∧ r.2.mem ((c.tc : Thread nD τ).loc main_v63_5) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => have h := h.1
    ⟨(h c).1 16,
      (h c).1 17,
      (h c).1 18,
      (h c).1 19,
      (h c).1 20,
      (h c).1 21,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 10).trans (((dats m 0 c).arrAt_in 10 rfl _).trans ((A_eq m c 10).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

set_option maxHeartbeats 4000000 in
theorem value : Cert.algebraic_FfnIdeal_FfnRefIdeal_pre_ffn_finite := by
  intro m g m' g' hpre hagree
  refine ⟨fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N,
    run_blocks m g, (θ_run _ _ _).mono (fun r h c => ?_) (FfnRefIdeal.Value.run m' g')⟩
  obtain ⟨h0, h1, h2, h3, h4, h5, h6⟩ := hagree c
  have hR := all_real hpre c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · exact (val_main_v110_eq (StableHlo.launchContents m' c)).trans ((congr6 (val_main_v110 (F := Ideal)) h0 h1 h2 h3 h4 h5).trans (final_16 m c hR).symm)
  · exact (val_main_v113_eq (StableHlo.launchContents m' c)).trans ((congr6 (val_main_v113 (F := Ideal)) h0 h1 h2 h3 h4 h5).trans (final_17 m c).symm)
  · exact (val_main_v115_eq (StableHlo.launchContents m' c)).trans ((congr7 (val_main_v115 (F := Ideal)) h0 h1 h2 h3 h4 h5 h6).trans (final_18 m c hR).symm)
  · exact (val_main_v116_eq (StableHlo.launchContents m' c)).trans ((congr6 (val_main_v116 (F := Ideal)) h0 h1 h2 h3 h4 h5).trans (final_19 m c hR).symm)
  · exact (val_main_v117_eq (StableHlo.launchContents m' c)).trans ((congr6 (val_main_v117 (F := Ideal)) h0 h1 h2 h3 h4 h5).trans (final_20 m c hR).symm)
  · exact (val_main_v118_eq (StableHlo.launchContents m' c)).trans ((congr6 (val_main_v118 (F := Ideal)) h0 h1 h2 h3 h4 h5).trans (final_21 m c).symm)

theorem ref_frame : Cert.quiescent_FfnRefIdeal := fun m ρ _ =>
  (θ_run _ _ _).mono (fun r h => ⟨fun c => (h c).2.2.2.2.2.2, sem_eq_zero_of_no_sems (by decide) r.2⟩)
    (FfnRefIdeal.Value.run m ρ)

end Cert.FfnIdeal.Final

end
-- ==== Proof.ProjValue.lean ====
/- The mixer's projection: the kernel's projected rows and normed rows are those of the forward lines. -/
module

public import proofs.«01_k».proof.Proof.Gen.ProjIdeal.Value
public import proofs.«01_k».proof.Proof.Gen.ProjRefIdeal.Read
public import proofs.«01_k».proof.Proof.Shared
public import Idealize.ShloMosaic.Lib.StableHlo.RunRead
public import Idealize.ShloMosaic.Lib.Routing.OpsSet
public import Idealize.ShloMosaic.Lib.Routing.OpsOne

@[expose] public section

set_option maxRecDepth 16384

noncomputable section

namespace Cert.ProjIdeal.Final

open Cert Cert.ProjIdeal Cert.ProjIdeal.Gen Idealize.ShloMosaic Idealize.ShloMosaic.TcCoe Idealize.SL.Sem
open Idealize.ShloMosaic.Pipeline (Dat)
open Cert.ProjRefIdeal.Read

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)

/-- Tile `t` of the rows, at every grid point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

theorem sitofp_zero : FloatOps.sitofp (F := Ideal) .f32 0#32 = (0 : EReal) := by
  show (((0#32 : BitVec 32).toInt : ℝ) : EReal) = 0
  simp

/-- The arrays the host prepares: the rows, the scale, and the weights padded by zero columns. -/
theorem V_x (c : Dev nD) (r : Fin 8192) (l : Fin 1024) : V m c main_v0 (ix2 r l) = a0 m c (ix3 0 r l) := by
  unfold_abbrev_sides
  after_reads_simp
  pointwise []
theorem V_g (c : Dev nD) (l : Fin 1024) : V m c main_v1 (ix2 0 l) = a1 m c (ix1 l) := by
  unfold_abbrev_sides
  after_reads_simp
  pointwise []
theorem V_w (c : Dev nD) (k : Fin 1024) (l : Fin 3200) :
    V m c main_v3 (ix2 k l) = (if h : l.val < 3104 then a2 m c (ix2 k ⟨l.val, h⟩) else 0 : EReal) := by
  unfold_abbrev_sides
  after_reads_simp
  simp only [StableHlo.TRef.toBuf, StableHlo.TRef.ofBuf, cast_eq]
  pointwise []
  by_cases h : l.val < 3104
  · rw [dif_pos (by omega), dif_pos h]
  · rw [dif_neg (by omega), dif_neg h]
    exact sitofp_zero

theorem row0 (c : Dev nD) (t : Fin cfg0.N) (x y : Fin 1024) (hl : t.val * 1024 + x.val < 8192) :
    iblk m c 0 t (ix2 x y) = a0 m c (ix3 0 ⟨t.val * 1024 + x.val, hl⟩ y) := by
  refine Eq.trans ?_ (V_x m c _ y)
  blk_ext! [iblk, idx t]
theorem row1 (c : Dev nD) (t : Fin cfg0.N) (y : Fin 1024) : iblk m c 1 t (ix2 0 y) = a1 m c (ix1 y) := by
  refine Eq.trans ?_ (V_g m c y)
  blk_ext! [iblk, idx t]
theorem row2 (c : Dev nD) (t : Fin cfg0.N) (k : Fin 1024) (l : Fin 3200) : iblk m c 2 t (ix2 k l) = V m c main_v3 (ix2 k l) := by
  blk_ext! [iblk, idx t]

theorem row_lt (t : Fin cfg0.N) (r : Fin 1024) : t.val * 1024 + r.val < 8192 := by
  have := lt_of_lt_of_eq t.isLt (show cfg0.N = 8 from N_0); omega

/-- A normed and scaled row. -/
def nrm (x g : Fin 1024 → EReal) (l : Fin 1024) : EReal := x l * Ideal.rsqrt (Shared.meanSq Shared.w1024 x) * g l

theorem pay_h (x : FVec Ideal S1024x1024 .f32) (g : FVec Ideal S1x1024 .f32) (r l : Fin 1024) :
    k0_pay1 (F := Ideal) x g (ix2 r l) = nrm (fun k => x (ix2 r k)) (fun k => g (ix2 0 k)) l := by
  pointwise [k0_pay1, nrm, Shared.meanSq]
theorem pay_p (h : FVec Ideal S1024x1024 .bf16) (w : FVec Ideal S1024x3200 .bf16) (r : Fin 1024) (l : Fin 3200) :
    k0_pay2 (F := Ideal) h w (ix2 r l) = ∑ k : Fin 1024, h (ix2 r k) * w (ix2 k l) := by
  pointwise [k0_pay2]

theorem ref_norm (x0 : FVec Ideal S1x8192x1024 .f32) (x1 : FVec Ideal S1024 .f32) (r : Fin 8192) (l : Fin 1024) :
    val_main_v12 (F := Ideal) x0 x1 (ix3 0 r l) = nrm (fun k => x0 (ix3 0 r k)) (fun k => x1 (ix1 k)) l := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, nrm, Shared.meanSq]
theorem ref_h (x0 : FVec Ideal S1x8192x1024 .f32) (x1 : FVec Ideal S1024 .f32) (r : Fin 8192) (l : Fin 1024) :
    val_main_v18 (F := Ideal) x0 x1 (ix2 r l) = nrm (fun k => x0 (ix3 0 r k)) (fun k => x1 (ix1 k)) l := by
  rw [← ref_norm]
  generalize h12 : val_main_v12 (F := Ideal) x0 x1 = z12
  pointwise [val_main_v18, val_main_v17, h12]
theorem ref_p (x0 : FVec Ideal S1x8192x1024 .f32) (x1 : FVec Ideal S1024 .f32) (x2 : FVec Ideal S1024x3104 .f32) (r : Fin 8192) (l : Fin 3200) :
    val_main_v16 (F := Ideal) x0 x1 x2 (ix2 r l)
      = ∑ k : Fin 1024, nrm (fun k => x0 (ix3 0 r k)) (fun k => x1 (ix1 k)) k * (if h : l.val < 3104 then x2 (ix2 k ⟨l.val, h⟩) else 0 : EReal) := by
  simp only [← ref_norm]
  by_cases h : l.val < 3104
  · simp only [dif_pos h]
    generalize h12 : val_main_v12 (F := Ideal) x0 x1 = z12
    generalize h13 : val_main_v13 (F := Ideal) x0 x1 x2 = z13
    pointwise [val_main_v16, val_main_v15, val_main_v14, h13]
    rw [dif_pos (by omega), ← h13]
    pointwise [val_main_v13, h12]
  · simp only [dif_neg h, mul_zero, Finset.sum_const_zero]
    generalize h13 : val_main_v13 (F := Ideal) x0 x1 x2 = z13
    pointwise [val_main_v16, val_main_v15, val_main_v14, val_main_call0_v0, val_main_c, h13]
    rw [dif_neg (by omega)]
    exact sitofp_zero

theorem blk_h (c : Dev nD) (t : Fin cfg0.N) (r l : Fin 1024) :
    k0_pay1 (F := Ideal) (iblk m c 0 t) (iblk m c 1 t) (ix2 r l)
      = nrm (fun k => a0 m c (ix3 0 ⟨t.val * 1024 + r.val, row_lt t r⟩ k)) (fun k => a1 m c (ix1 k)) l := by
  refine (pay_h _ _ r l).trans ?_
  rw [show (fun k => iblk m c 0 t (ix2 r k)) = _ from funext fun k => row0 m c t r k (row_lt t r),
    show (fun k => iblk m c 1 t (ix2 0 k)) = _ from funext fun k => row1 m c t k]

/-- The normed rows. -/
theorem final_h (c : Dev nD) : (dats m 0 c).arrAt 4 cfg0.N = val_main_v18 (F := Ideal) (a0 m c) (a1 m c) := by
  refine (dats m 0 c).arrAt_eq_of_covers 4 _ (by decide +kernel) fun t _ y => ?_
  blk_simp
  rw [after0_4]
  simp only [outsAt0]
  frame_out
  idx_vars y
  have he : ((cfg0.win 4).blk t).view.emb (ix2 y0 y1) = (ix2 ⟨t.val * 1024 + y0.val, row_lt t y0⟩ y1 : S8192x1024.Idx) := by
    blk_ext [idx t]
  rw [he]
  exact (blk_h m c t y0 y1).trans (ref_h _ _ _ _).symm

/-- The projected rows. -/
theorem final_p (c : Dev nD) : (dats m 0 c).arrAt 3 cfg0.N = val_main_v16 (F := Ideal) (a0 m c) (a1 m c) (a2 m c) := by
  refine (dats m 0 c).arrAt_eq_of_covers 3 _ (by decide +kernel) fun t _ y => ?_
  blk_simp
  rw [after0_3]
  simp only [outsAt0]
  frame_out
  idx_vars y
  have he : ((cfg0.win 3).blk t).view.emb (ix2 y0 y1) = (ix2 ⟨t.val * 1024 + y0.val, row_lt t y0⟩ y1 : S8192x3200.Idx) := by
    blk_ext [idx t]
  rw [he]
  refine (pay_p _ _ y0 y1).trans (Eq.trans (Finset.sum_congr rfl fun k _ => ?_) (ref_p _ _ _ _ _).symm)
  exact congrArg₂ (fun a b : EReal => a * b) (blk_h m c t y0 k) ((row2 m c t k y1).trans (V_w m c k y1))

end Cert.ProjIdeal.Final

end
-- ==== Proof.MixOutValue.lean ====
/- The mixer's output side: the kernel's gated convolution, gated heads, projected rows and normed residual are those of
   the forward lines. -/
module

public import proofs.«01_k».proof.Proof.Gen.MixOutIdeal.Value
public import proofs.«01_k».proof.Proof.Gen.MixOutRefIdeal.Read
public import proofs.«01_k».proof.Proof.Shared
public import proofs.«01_k».proof.Proof.Rows
public import Idealize.ShloMosaic.Lib.StableHlo.RunRead
public import Idealize.ShloMosaic.Lib.Routing.OpsSet
public import Idealize.ShloMosaic.Lib.Routing.OpsOne

@[expose] public section

set_option maxRecDepth 16384

noncomputable section

namespace Cert.MixOutIdeal.Final

open Cert Cert.MixOutIdeal Cert.MixOutIdeal.Gen Idealize.ShloMosaic Idealize.ShloMosaic.TcCoe Idealize.SL.Sem
open Idealize.ShloMosaic.Pipeline (Dat)
open Cert.MixOutRefIdeal.Read

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)

/-! ## The arrays the host prepares -/

theorem head_div (h : Fin 4) (l : Fin 128) (p) : (⟨(h.val * 128 + l.val) / 128, p⟩ : Fin 4) = h := Fin.ext (by simp only; omega)
theorem head_mod (h : Fin 4) (l : Fin 128) (p) : (⟨(h.val * 128 + l.val) % 128, p⟩ : Fin 128) = l := Fin.ext (by simp only; omega)
/-- Column `l` of head `h`. -/
abbrev hcol (h : Fin 4) (l : Fin 128) : Fin 512 := ⟨h.val * 128 + l.val, by omega⟩
theorem col_head (l : Fin 512) : ∃ (h : Fin 4) (k : Fin 128), l = hcol h k :=
  ⟨⟨l.val / 128, by omega⟩, ⟨l.val % 128, by omega⟩, Fin.ext (by show l.val = l.val / 128 * 128 + l.val % 128; omega)⟩

theorem V_p (c : Dev nD) (r : Fin 8192) (l : Fin 3104) : V m c main_v2 (ix2 r ⟨l.val, by have := l.isLt; omega⟩) = a0 m c (ix3 0 r l) := by
  unfold_abbrev_sides
  after_reads_simp
  simp only [StableHlo.TRef.toBuf, StableHlo.TRef.ofBuf, cast_eq]
  pointwise []
theorem V_of (c : Dev nD) (r : Fin 8192) (h : Fin 4) (l : Fin 128) : V m c main_v5 (ix2 r (hcol h l)) = a1 m c (ix4 0 h r l) := by
  unfold_abbrev_sides
  after_reads_simp
  pointwise []
  simp only [head_div, head_mod]
theorem V_ob (c : Dev nD) (r : Fin 8192) (h : Fin 4) (l : Fin 128) : V m c main_v8 (ix2 r (hcol h l)) = a2 m c (ix4 0 h r l) := by
  unfold_abbrev_sides
  after_reads_simp
  pointwise []
  simp only [head_div, head_mod]
theorem V_hn (c : Dev nD) (h : Fin 4) (l : Fin 128) : V m c main_v12 (ix2 0 (hcol h l)) = a4 m c (ix1 l) := by
  unfold_abbrev_sides
  after_reads_simp
  pointwise []
  simp only [head_div, head_mod]
theorem V_w (c : Dev nD) (r l : Fin 1024) : V m c main_v13 (ix2 r l) = a5 m c (ix2 r l) := by
  unfold_abbrev_sides
  after_reads_simp
  pointwise []
theorem V_g (c : Dev nD) (l : Fin 1024) : V m c main_v14 (ix2 0 l) = a6 m c (ix1 l) := by
  unfold_abbrev_sides
  after_reads_simp
  pointwise []
theorem V_x (c : Dev nD) (r : Fin 8192) (l : Fin 1024) : V m c main_v15 (ix2 r l) = a7 m c (ix3 0 r l) := by
  unfold_abbrev_sides
  after_reads_simp
  pointwise []

/-! ## The kernel's blocks -/

theorem idx : ∀ t : Fin cfg0.N, win0_0.index t = ![t.val, 0] ∧ win0_1.index t = ![t.val, 1]
    ∧ win0_2.index t = ![t.val, 2] ∧ win0_3.index t = ![t.val, 5] ∧ win0_4.index t = ![t.val * 32 - 1, 1]
    ∧ win0_5.index t = ![t.val * 32 - 1, 2] ∧ win0_6.index t = ![min (t.val * 32 + 32) 511, 1]
    ∧ win0_7.index t = ![min (t.val * 32 + 32) 511, 2] ∧ win0_8.index t = ![t.val, 0] ∧ win0_9.index t = ![t.val, 0]
    ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] ∧ win0_17.index t = ![t.val, 0] :=
  (by decide +kernel : ∀ t : Fin grid0.N, _)

theorem N16 : cfg0.N = 16 := N_0
theorem row_lt (t : Fin cfg0.N) (r : Fin 512) : t.val * 512 + r.val < 8192 := by
  have := lt_of_lt_of_eq t.isLt N16; omega
/-- Row `r` of tile `t`. -/
abbrev rowOf (t : Fin cfg0.N) (r : Fin 512) : Fin 8192 := ⟨t.val * 512 + r.val, row_lt t r⟩

variable (c : Dev nD) (t : Fin cfg0.N)

theorem blk8 (x : Fin 512) (h : Fin 4) (l : Fin 128) :
    iblk m c 8 t (ix2 x (hcol h l)) = a1 m c (ix4 0 h (rowOf t x) l) := by
  rw [← V_of]; blk_ext! [iblk, idx t]
theorem blk9 (x : Fin 512) (h : Fin 4) (l : Fin 128) :
    iblk m c 9 t (ix2 x (hcol h l)) = a2 m c (ix4 0 h (rowOf t x) l) := by
  rw [← V_ob]; blk_ext! [iblk, idx t]
theorem blk10 (x : Fin 3) (y : Fin 512) : iblk m c 10 t (ix2 x y) = a3 m c (ix2 x y) := by
  rw [← show V m c main_arg3 = a3 m c from V_main_arg3 m c]; blk_ext! [iblk, idx t]
theorem blk11 (h : Fin 4) (l : Fin 128) : iblk m c 11 t (ix2 0 (hcol h l)) = a4 m c (ix1 l) := by
  rw [← V_hn m c h l]; blk_ext! [iblk, idx t]
theorem blk12 (x y : Fin 1024) : iblk m c 12 t (ix2 x y) = a5 m c (ix2 x y) := by
  rw [← V_w]; blk_ext! [iblk, idx t]
theorem blk13 (y : Fin 1024) : iblk m c 13 t (ix2 0 y) = a6 m c (ix1 y) := by
  rw [← V_g]; blk_ext! [iblk, idx t]
theorem blk14 (x : Fin 512) (y : Fin 1024) : iblk m c 14 t (ix2 x y) = a7 m c (ix3 0 (rowOf t x) y) := by
  rw [← V_x]; blk_ext! [iblk, idx t]

/-- The column blocks of the projected rows: the gate, the convolution's two factors, the head norm's gate. -/
theorem blk0 (x y : Fin 512) : X0_0 m c t (ix2 x y) = a0 m c (ix3 0 (rowOf t x) ⟨y.val, by omega⟩) := by
  unfold X0_0 Pipeline.Window.fill
  rw [dif_pos (moved0_0 t _), ← V_p]
  unfold iblk
  refine congrArg (V m c main_v2) ?_
  blk_ext [idx t]
theorem blk1 (x y : Fin 512) : X0_1 m c t (ix2 x y) = a0 m c (ix3 0 (rowOf t x) ⟨512 + y.val, by omega⟩) := by
  unfold X0_1 Pipeline.Window.fill
  rw [dif_pos (moved0_1 t _), ← V_p]
  unfold iblk
  refine congrArg (V m c main_v2) ?_
  blk_ext [idx t]
theorem blk2 (x y : Fin 512) : X0_2 m c t (ix2 x y) = a0 m c (ix3 0 (rowOf t x) ⟨1024 + y.val, by omega⟩) := by
  unfold X0_2 Pipeline.Window.fill
  rw [dif_pos (moved0_2 t _), ← V_p]
  unfold iblk
  refine congrArg (V m c main_v2) ?_
  blk_ext [idx t]
theorem blk3 (x y : Fin 512) : X0_3 m c t (ix2 x y) = a0 m c (ix3 0 (rowOf t x) ⟨2560 + y.val, by omega⟩) := by
  unfold X0_3 Pipeline.Window.fill
  rw [dif_pos (moved0_3 t _), ← V_p]
  unfold iblk
  refine congrArg (V m c main_v2) ?_
  blk_ext [idx t]
/-- The row before a tile, and the row after it. -/
theorem blk4 (ht : t.val ≠ 0) (y : Fin 512) : X0_4 m c t (ix2 15 y) = a0 m c (ix3 0 ⟨t.val * 512 - 1, by have := row_lt t 0; omega⟩ ⟨512 + y.val, by omega⟩) := by
  unfold X0_4 Pipeline.Window.fill
  rw [dif_pos (moved0_4 t _), ← V_p]
  unfold iblk
  refine congrArg (V m c main_v2) ?_
  blk_ext [idx t]
theorem blk5 (ht : t.val ≠ 0) (y : Fin 512) : X0_5 m c t (ix2 15 y) = a0 m c (ix3 0 ⟨t.val * 512 - 1, by have := row_lt t 0; omega⟩ ⟨1024 + y.val, by omega⟩) := by
  unfold X0_5 Pipeline.Window.fill
  rw [dif_pos (moved0_5 t _), ← V_p]
  unfold iblk
  refine congrArg (V m c main_v2) ?_
  blk_ext [idx t]
theorem blk6 (ht : t.val < 15) (y : Fin 512) : X0_6 m c t (ix2 0 y) = a0 m c (ix3 0 ⟨t.val * 512 + 512, by omega⟩ ⟨512 + y.val, by omega⟩) := by
  unfold X0_6 Pipeline.Window.fill
  rw [dif_pos (moved0_6 t _), ← V_p]
  unfold iblk
  refine congrArg (V m c main_v2) ?_
  blk_ext [idx t]
theorem blk7 (ht : t.val < 15) (y : Fin 512) : X0_7 m c t (ix2 0 y) = a0 m c (ix3 0 ⟨t.val * 512 + 512, by omega⟩ ⟨1024 + y.val, by omega⟩) := by
  unfold X0_7 Pipeline.Window.fill
  rw [dif_pos (moved0_7 t _), ← V_p]
  unfold iblk
  refine congrArg (V m c main_v2) ?_
  blk_ext [idx t]

/-! ## The forward lines -/

section lines
variable (x0 : FVec Ideal S1x8192x3104 .f32) (x1 x2 : FVec Ideal S1x4x8192x128 .f32) (x3 : FVec Ideal S3x512 .f32)
  (x4 : FVec Ideal S128 .f32) (x5 : FVec Ideal S1024x1024 .f32) (x6 : FVec Ideal S1024 .f32) (x7 : FVec Ideal S1x8192x1024 .f32)

theorem c_at (r : Fin 8192) (l : Fin 512) :
    val_main_v20 (F := Ideal) x0 (ix3 0 r l) = x0 (ix3 0 r ⟨512 + l.val, by omega⟩) * x0 (ix3 0 r ⟨1024 + l.val, by omega⟩) := by
  pointwise [val_main_v20, val_main_v11, val_main_v9, val_main_v2, val_main_v1]

theorem left_at (r : Fin 8192) (l : Fin 512) (h : r.val ≠ 0) :
    val_main_v14 (F := Ideal) x0 (ix3 0 r l) = x0 (ix3 0 ⟨r.val - 1, by omega⟩ ⟨512 + l.val, by omega⟩) * x0 (ix3 0 ⟨r.val - 1, by omega⟩ ⟨1024 + l.val, by omega⟩) := by
  pointwise [val_main_v14, val_main_v11, val_main_v9, val_main_v2, val_main_v1]
  rw [dif_neg (by omega), dif_pos (by omega)]
theorem left_zero (r : Fin 8192) (l : Fin 512) (h : r.val = 0) :
    val_main_v14 (F := Ideal) x0 (ix3 0 r l) = 0 := by
  pointwise [val_main_v14, val_main_v11, val_main_v10, val_main_cst]
  rw [dif_pos (by omega)]
theorem right_at (r : Fin 8192) (l : Fin 512) (h : r.val < 8191) :
    val_main_v27 (F := Ideal) x0 (ix3 0 r l) = x0 (ix3 0 ⟨r.val + 1, by omega⟩ ⟨512 + l.val, by omega⟩) * x0 (ix3 0 ⟨r.val + 1, by omega⟩ ⟨1024 + l.val, by omega⟩) := by
  pointwise [val_main_v27, val_main_v11, val_main_v9, val_main_v2, val_main_v1]
  rw [dif_neg (by omega), dif_pos (by omega)]
  simp only [show 2 + r.val - 1 = r.val + 1 by omega]
theorem right_zero (r : Fin 8192) (l : Fin 512) (h : r.val = 8191) :
    val_main_v27 (F := Ideal) x0 (ix3 0 r l) = 0 := by
  pointwise [val_main_v27, val_main_v11, val_main_v10, val_main_cst]
  rw [dif_neg (by omega), dif_neg (by omega)]

theorem conv_at (r : Fin 8192) (l : Fin 512) :
    val_main_v31 (F := Ideal) x0 x3 (ix3 0 r l)
      = x3 (ix2 0 l) * val_main_v14 (F := Ideal) x0 (ix3 0 r l) + x3 (ix2 1 l) * val_main_v20 (F := Ideal) x0 (ix3 0 r l)
        + x3 (ix2 2 l) * val_main_v27 (F := Ideal) x0 (ix3 0 r l) := by
  generalize h14 : val_main_v14 (F := Ideal) x0 = z14
  generalize h20 : val_main_v20 (F := Ideal) x0 = z20
  generalize h27 : val_main_v27 (F := Ideal) x0 = z27
  pointwise [val_main_v31, val_main_v30, val_main_v29, val_main_v28, val_main_v26, val_main_v25, val_main_v24, val_main_v23,
    val_main_v22, val_main_v21, val_main_v19, val_main_v18, val_main_v17, val_main_v16, val_main_v15, val_main_v13, val_main_v12, h14, h20, h27]

theorem silu_at (r : Fin 8192) (l : Fin 512) :
    val_main_v34 (F := Ideal) x0 (ix3 0 r l)
      = x0 (ix3 0 r ⟨2560 + l.val, by omega⟩) * Ideal.logistic (x0 (ix3 0 r ⟨2560 + l.val, by omega⟩)) := by
  pointwise [val_main_v34, val_main_call0_v5, val_main_call0_v4, val_main_call0_v3, val_main_call0_v2, val_main_call0_v1, val_main_call0_v0,
    val_main_call0_cst, val_main_call0_cst_0, val_main_v6, Ideal.logistic]

/-- The sum of the two directions along a head's row. -/
abbrev oRow (h : Fin 4) (r : Fin 8192) (k : Fin 128) : EReal := x1 (ix4 0 h r k) + x2 (ix4 0 h r k)

theorem normed_at (h : Fin 4) (r : Fin 8192) (l : Fin 128) :
    val_main_v49 (F := Ideal) x1 x2 x4 (ix3 0 r (hcol h l))
      = oRow x1 x2 h r l * Ideal.rsqrt (Shared.meanSq Shared.w128 (oRow x1 x2 h r)) * x4 (ix1 l) := by
  pointwise [val_main_v49, val_main_v48, val_main_v47, val_main_v46, val_main_v45, val_main_v44, val_main_v43, val_main_v42, val_main_v41,
    val_main_v40, val_main_v39, val_main_v38, val_main_v37, val_main_v36, val_main_v35, val_main_v32, val_main_cst_0, val_main_cst_1,
    val_main_cst_2, Shared.meanSq]
  simp only [head_div, head_mod]

theorem cat_left (r : Fin 8192) (l : Fin 512) :
    val_main_v51 (F := Ideal) x0 x1 x2 x3 x4 (ix3 0 r ⟨l.val, by omega⟩)
      = x0 (ix3 0 r ⟨l.val, by omega⟩) * val_main_v31 (F := Ideal) x0 x3 (ix3 0 r l) := by
  generalize h31 : val_main_v31 (F := Ideal) x0 x3 = z31
  generalize h50 : val_main_v50 (F := Ideal) x0 x1 x2 x4 = z50
  pointwise [val_main_v51, val_main_v33, val_main_v0, h31, h50]
theorem cat_right (r : Fin 8192) (l : Fin 512) :
    val_main_v51 (F := Ideal) x0 x1 x2 x3 x4 (ix3 0 r ⟨512 + l.val, by omega⟩)
      = val_main_v34 (F := Ideal) x0 (ix3 0 r l) * val_main_v49 (F := Ideal) x1 x2 x4 (ix3 0 r l) := by
  generalize h33 : val_main_v33 (F := Ideal) x0 x3 = z33
  generalize h34 : val_main_v34 (F := Ideal) x0 = z34
  generalize h49 : val_main_v49 (F := Ideal) x1 x2 x4 = z49
  pointwise [val_main_v51, val_main_v50, h33, h34, h49]

theorem y_at (r : Fin 8192) (l : Fin 1024) :
    val_main_v52 (F := Ideal) x0 x1 x2 x3 x4 x5 (ix3 0 r l)
      = ∑ k : Fin 1024, val_main_v51 (F := Ideal) x0 x1 x2 x3 x4 (ix3 0 r k) * x5 (ix2 k l) := by
  generalize h51 : val_main_v51 (F := Ideal) x0 x1 x2 x3 x4 = z51
  pointwise [val_main_v52, h51]

theorem out_cat (r : Fin 8192) (l : Fin 1024) :
    val_main_v54 (F := Ideal) x0 x1 x2 x3 x4 (ix2 r l) = val_main_v51 (F := Ideal) x0 x1 x2 x3 x4 (ix3 0 r l) := by
  generalize h51 : val_main_v51 (F := Ideal) x0 x1 x2 x3 x4 = z51
  pointwise [val_main_v54, val_main_v53, h51]
theorem out_y (r : Fin 8192) (l : Fin 1024) :
    val_main_v55 (F := Ideal) x0 x1 x2 x3 x4 x5 (ix2 r l) = val_main_v52 (F := Ideal) x0 x1 x2 x3 x4 x5 (ix3 0 r l) := by
  generalize h52 : val_main_v52 (F := Ideal) x0 x1 x2 x3 x4 x5 = z52
  pointwise [val_main_v55, h52]

/-- A normed and scaled row. -/
def nrm (x g : Fin 1024 → EReal) (l : Fin 1024) : EReal := x l * Ideal.rsqrt (Shared.meanSq Shared.w1024 x) * g l

theorem out_x (r : Fin 8192) (l : Fin 1024) :
    val_main_v70 (F := Ideal) x0 x1 x2 x3 x4 x5 x6 x7 (ix2 r l)
      = x7 (ix3 0 r l) + nrm (fun k => val_main_v52 (F := Ideal) x0 x1 x2 x3 x4 x5 (ix3 0 r k)) (fun k => x6 (ix1 k)) l := by
  generalize h52 : val_main_v52 (F := Ideal) x0 x1 x2 x3 x4 x5 = z52
  pointwise [val_main_v70, val_main_v69, val_main_v68, val_main_v67, val_main_v66, val_main_v65, val_main_v64, val_main_v63, val_main_v62,
    val_main_v61, val_main_v60, val_main_v59, val_main_v58, val_main_v57, val_main_v56, val_main_cst_3, val_main_cst_4, val_main_cst_5,
    nrm, Shared.meanSq, h52]

end lines

/-! ## The kernel's values -/

theorem pay_conv (i : grid0.Coords) (p4 p6 p5 p7 : FVec Ideal S16x512 .bf16) (gc gv gb : FVec Ideal S512x512 .bf16) (w0 w1 w2 : FVec Ideal S1x512 .f32)
    (r l : Fin 512) :
    k0_pay6 (F := Ideal) (k0_pay4 gc gv) (k0_pay5 i p4 p6 p5 p7 gc gv) 1#32 w0 w1 w2 gb (ix2 r l)
      = gb (ix2 r l) * (w0 (ix2 0 l) * (if h : r.val = 0 then (if BitVec.ofNat 32 (i 0).val = 0#32 then 0 else p4 (ix2 15 l) * p5 (ix2 15 l))
            else gc (ix2 ⟨r.val - 1, by omega⟩ l) * gv (ix2 ⟨r.val - 1, by omega⟩ l) : EReal)
          + w1 (ix2 0 l) * (gc (ix2 r l) * gv (ix2 r l))
          + w2 (ix2 0 l) * (if h : r.val = 511 then (if BitVec.ofNat 32 (i 0).val = 15#32 then 0 else p6 (ix2 0 l) * p7 (ix2 0 l))
            else gc (ix2 ⟨r.val + 1, by omega⟩ l) * gv (ix2 ⟨r.val + 1, by omega⟩ l) : EReal)) := by
  pointwise [k0_pay6, k0_pay5, k0_pay4]
  refine congrArg₂ (fun a b : EReal => gb (ix2 r l) * (w0 (ix2 0 l) * a + w1 (ix2 0 l) * (gc (ix2 r l) * gv (ix2 r l)) + w2 (ix2 0 l) * b)) ?_ ?_
  · by_cases hr : r.val = 0
    · rw [dif_pos (by omega), dif_pos hr, Shared.select_eq, Shared.select_eq]
      simp only [show 8 + (8 + r.val + 528 - 1) % 528 = 15 by omega]
      split <;> simp
    · rw [dif_neg (by omega), dif_pos (by omega), dif_neg hr]
      simp only [show (8 + r.val + 528 - 1) % 528 - 8 = r.val - 1 by omega]
  · by_cases hr : r.val = 511
    · rw [dif_neg (by omega), dif_neg (by omega), dif_pos hr, Shared.select_eq, Shared.select_eq]
      simp only [show (8 + r.val + 528 - 527) % 528 - 8 - 512 = 0 by omega]
      split <;> simp
    · rw [dif_neg (by omega), dif_pos (by omega), dif_neg hr]
      simp only [show (8 + r.val + 528 - 527) % 528 - 8 = r.val + 1 by omega]

theorem hcol_zero (l : Fin 128) : hcol 0 l = ⟨l.val, by omega⟩ := Fin.ext (by simp [hcol])
theorem hcol_one (l : Fin 128) : hcol 1 l = ⟨128 + l.val, by omega⟩ := Fin.ext (by simp [hcol])
theorem hcol_two (l : Fin 128) : hcol 2 l = ⟨256 + l.val, by omega⟩ := Fin.ext (by simp [hcol])
theorem hcol_three (l : Fin 128) : hcol 3 l = ⟨384 + l.val, by omega⟩ := Fin.ext (by simp [hcol])
theorem head_cases (h : Fin 4) : h = 0 ∨ h = 1 ∨ h = 2 ∨ h = 3 := by
  revert h; decide
theorem off1 (l : Fin 128) : 128 + l.val - 128 = l.val := by omega
theorem off2 (l : Fin 128) : 256 + l.val - 128 = 128 + l.val := by omega
theorem off3 (l : Fin 128) : 384 + l.val - 128 = 256 + l.val := by omega

theorem pay_o (x8 x9 : FVec Ideal S512x512 .bf16) (r l : Fin 512) : k0_pay7 (F := Ideal) x8 x9 (ix2 r l) = x8 (ix2 r l) + x9 (ix2 r l) := by
  pointwise [k0_pay7]

/-- The two halves as the kernel joins them. -/
abbrev catK (v56 : FVec Ideal S512x512 .f32) (x8 x9 go : FVec Ideal S512x512 .bf16) (gh : FVec Ideal S1x512 .f32) : FVec Ideal S512x1024 .f32 :=
  k0_pay12 v56 (k0_pay7 x8 x9) (k0_pay8 x8 x9) (k0_pay9 x8 x9) (k0_pay10 x8 x9) k0_pay11 go gh

theorem pay_left (v56 : FVec Ideal S512x512 .f32) (x8 x9 go : FVec Ideal S512x512 .bf16) (gh : FVec Ideal S1x512 .f32) (r l : Fin 512) :
    catK v56 x8 x9 go gh (ix2 r ⟨l.val, by omega⟩) = v56 (ix2 r l) := by
  pointwise [catK, k0_pay12]
theorem pay_right (v56 : FVec Ideal S512x512 .f32) (x8 x9 go : FVec Ideal S512x512 .bf16) (gh : FVec Ideal S1x512 .f32) (r : Fin 512) (h : Fin 4) (l : Fin 128) :
    catK v56 x8 x9 go gh (ix2 r ⟨512 + (hcol h l).val, by omega⟩)
      = go (ix2 r (hcol h l)) * Ideal.logistic (go (ix2 r (hcol h l)))
        * (k0_pay7 (F := Ideal) x8 x9 (ix2 r (hcol h l))
          * Ideal.rsqrt (Shared.meanSq Shared.w128 fun k => k0_pay7 (F := Ideal) x8 x9 (ix2 r (hcol h k))) * gh (ix2 0 (hcol h l))) := by
  rw [← Shared.half_tanh]
  unfold catK
  generalize ho : k0_pay7 (F := Ideal) x8 x9 = o
  rcases head_cases h with rfl | rfl | rfl | rfl
  · pointwise [k0_pay12, k0_pay11, k0_pay10, k0_pay9, k0_pay8, Shared.meanSq, ho]
    simp only [hcol_zero]
  · pointwise [k0_pay12, k0_pay11, k0_pay10, k0_pay9, k0_pay8, Shared.meanSq, ho]
    simp only [hcol_one]
  · pointwise [k0_pay12, k0_pay11, k0_pay10, k0_pay9, k0_pay8, Shared.meanSq, ho]
    rw [dif_neg (by omega), dif_neg (by omega), dif_pos (by omega)]
    simp only [off1, off2]
    simp only [hcol_two]
  · pointwise [k0_pay12, k0_pay11, k0_pay10, k0_pay9, k0_pay8, Shared.meanSq, ho]
    rw [dif_neg (by omega), dif_neg (by omega), dif_neg (by omega)]
    simp only [off1, off2, off3]
    simp only [hcol_three]

theorem pay_cat (v : FVec Ideal S512x1024 .f32) (r : Fin 512) (l : Fin 1024) : k0_pay1 (F := Ideal) v (ix2 r l) = v (ix2 r l) := by
  pointwise [k0_pay1]
theorem pay_y (v : FVec Ideal S512x1024 .f32) (w : FVec Ideal S1024x1024 .bf16) (r : Fin 512) (l : Fin 1024) :
    k0_pay2 (F := Ideal) v w (ix2 r l) = ∑ k : Fin 1024, v (ix2 r k) * w (ix2 k l) := by
  pointwise [k0_pay2, k0_pay1]
theorem pay_x (v : FVec Ideal S512x1024 .f32) (w : FVec Ideal S1024x1024 .bf16) (x : FVec Ideal S512x1024 .f32) (g : FVec Ideal S1x1024 .f32)
    (r : Fin 512) (l : Fin 1024) :
    k0_pay3 (F := Ideal) v w x g (ix2 r l) = x (ix2 r l) + nrm (fun k => k0_pay2 (F := Ideal) v w (ix2 r k)) (fun k => g (ix2 0 k)) l := by
  generalize hy : k0_pay2 (F := Ideal) v w = y
  pointwise [k0_pay3, nrm, Shared.meanSq, hy]

/-! ## A tile -/

abbrev pid (t : Fin cfg0.N) : BitVec 32 := BitVec.ofNat 32 ↑(grid0.coords t 0)
theorem pid_zero : ∀ t : Fin cfg0.N, pid t = 0#32 ↔ t.val = 0 := (by decide +kernel : ∀ t : Fin grid0.N, _)
theorem pid_last : ∀ t : Fin cfg0.N, pid t = 15#32 ↔ t.val = 15 := (by decide +kernel : ∀ t : Fin grid0.N, _)

theorem tap_row (o : ℕ) (ho : o < 3) (inb) (l : Fin 512) :
    View.ld (iblk m c 10 t) (Rect.unit (s := S3x512) ![o, 0] ![1, 512] inb) (ix2 0 l) = a3 m c (ix2 ⟨o, ho⟩ l) :=
  (Rows.ld_row (Val := Elt Ideal) (e := .f32) (iblk m c 10 t) o ho inb l).trans (blk10 m c t _ l)

/-- The gated convolution of a tile. -/
abbrev tConv : FVec Ideal S512x512 .f32 :=
  k0_pay6 (k0_pay4 (X0_1 m c t) (X0_2 m c t))
    (k0_pay5 (grid0.coords t) (X0_4 m c t) (X0_6 m c t) (X0_5 m c t) (X0_7 m c t) (X0_1 m c t) (X0_2 m c t)) 1#32
    (View.ld (iblk m c 10 t) (Rect.unit ![0, 0] ![1, 512] inb_S3x512_S1x512_0_0))
    (View.ld (iblk m c 10 t) (Rect.unit ![1, 0] ![1, 512] inb_S3x512_S1x512_1_0))
    (View.ld (iblk m c 10 t) (Rect.unit ![2, 0] ![1, 512] inb_S3x512_S1x512_2_0)) (X0_0 m c t)

/-- The two halves of a tile. -/
abbrev tCat : FVec Ideal S512x1024 .f32 :=
  catK (tConv m c t) (iblk m c 8 t) (iblk m c 9 t) (X0_3 m c t) (iblk m c 11 t)

theorem tConv_at (r l : Fin 512) :
    tConv m c t (ix2 r l) = val_main_v51 (F := Ideal) (a0 m c) (a1 m c) (a2 m c) (a3 m c) (a4 m c) (ix3 0 (rowOf t r) ⟨l.val, by omega⟩) := by
  have hN := lt_of_lt_of_eq t.isLt N16
  refine (pay_conv _ _ _ _ _ _ _ _ _ _ _ r l).trans (Eq.trans ?_ (cat_left _ _ _ _ _ _ _).symm)
  rw [conv_at]
  refine congrArg₂ (fun a b : EReal => a * b) (blk0 m c t r l) (congrArg₂ (fun a b : EReal => a + b) (congrArg₂ (fun a b : EReal => a + b)
    (congrArg₂ (fun a b : EReal => a * b) (tap_row m c t 0 (by omega) _ l) ?_)
    (congrArg₂ (fun a b : EReal => a * b) (tap_row m c t 1 (by omega) _ l) ?_))
    (congrArg₂ (fun a b : EReal => a * b) (tap_row m c t 2 (by omega) _ l) ?_))
  · by_cases hr : r.val = 0
    · rw [dif_pos hr]
      by_cases ht : t.val = 0
      · rw [if_pos ((pid_zero t).mpr ht)]
        exact (left_zero _ _ _ (by show t.val * 512 + r.val = 0; omega)).symm
      · rw [if_neg (fun h => ht ((pid_zero t).mp h)), blk4 m c t ht, blk5 m c t ht]
        refine Eq.trans ?_ (left_at _ _ _ (by show t.val * 512 + r.val ≠ 0; omega)).symm
        simp only [hr, Nat.add_zero]
    · rw [dif_neg hr, blk1, blk2]
      refine Eq.trans ?_ (left_at _ _ _ (by show t.val * 512 + r.val ≠ 0; omega)).symm
      simp only [Nat.add_sub_assoc (show 1 ≤ r.val by omega)]
  · rw [blk1, blk2]
    exact (c_at _ _ _).symm
  · by_cases hr : r.val = 511
    · rw [dif_pos hr]
      by_cases ht : t.val = 15
      · rw [if_pos ((pid_last t).mpr ht)]
        exact (right_zero _ _ _ (by show t.val * 512 + r.val = 8191; omega)).symm
      · rw [if_neg (fun h => ht ((pid_last t).mp h)), blk6 m c t (by omega), blk7 m c t (by omega)]
        refine Eq.trans ?_ (right_at _ _ _ (by show t.val * 512 + r.val < 8191; omega)).symm
        simp only [hr, Nat.add_assoc]
    · rw [dif_neg hr, blk1, blk2]
      refine Eq.trans ?_ (right_at _ _ _ (by show t.val * 512 + r.val < 8191; omega)).symm
      simp only [Nat.add_assoc]

theorem tCat_at (r : Fin 512) (l : Fin 1024) :
    tCat m c t (ix2 r l) = val_main_v51 (F := Ideal) (a0 m c) (a1 m c) (a2 m c) (a3 m c) (a4 m c) (ix3 0 (rowOf t r) l) := by
  by_cases hl : l.val < 512
  · exact (pay_left _ _ _ _ _ r ⟨l.val, hl⟩).trans (tConv_at m c t r ⟨l.val, hl⟩)
  obtain ⟨h, k, hk⟩ := col_head ⟨l.val - 512, by omega⟩
  have e : l = ⟨512 + (hcol h k).val, by omega⟩ := Fin.ext (by have := congrArg Fin.val hk; dsimp only at this; dsimp only; omega)
  rw [e]
  refine (pay_right _ _ _ _ _ r h k).trans (Eq.trans ?_ (cat_right _ _ _ _ _ _ (hcol h k)).symm)
  have o : ∀ k, k0_pay7 (F := Ideal) (iblk m c 8 t) (iblk m c 9 t) (ix2 r (hcol h k)) = oRow (a1 m c) (a2 m c) h (rowOf t r) k := fun k =>
    (pay_o _ _ _ _).trans (congrArg₂ (fun a b : EReal => a + b) (blk8 m c t r h k) (blk9 m c t r h k))
  rw [silu_at, normed_at, blk3, o k, funext o]
  exact congrArg (fun a : EReal => _ * (_ * a)) (blk11 m c t h k)

theorem tY_at (r : Fin 512) (l : Fin 1024) :
    k0_pay2 (F := Ideal) (tCat m c t) (iblk m c 12 t) (ix2 r l) = val_main_v52 (F := Ideal) (a0 m c) (a1 m c) (a2 m c) (a3 m c) (a4 m c) (a5 m c) (ix3 0 (rowOf t r) l) := by
  refine (pay_y _ _ _ _).trans (Eq.trans ?_ (y_at _ _ _ _ _ _ _ _).symm)
  exact Finset.sum_congr rfl fun k _ => congrArg₂ (fun a b : EReal => a * b) (tCat_at m c t r k) (blk12 m c t k l)

/-! ## The results -/

theorem final_cat (c : Dev nD) : (dats m 0 c).arrAt 15 cfg0.N = val_main_v54 (F := Ideal) (a0 m c) (a1 m c) (a2 m c) (a3 m c) (a4 m c) := by
  refine (dats m 0 c).arrAt_eq_of_covers 15 _ (by decide +kernel) fun t _ y => ?_
  blk_simp
  rw [after0_15]
  simp only [outsAt0]
  frame_out
  idx_vars y
  have he : ((cfg0.win 15).blk t).view.emb (ix2 y0 y1) = (ix2 (rowOf t y0) y1 : S8192x1024.Idx) := by blk_ext [idx t]
  rw [he]
  exact (pay_cat _ y0 y1).trans ((tCat_at m c t y0 y1).trans (out_cat _ _ _ _ _ _ _).symm)

theorem final_y (c : Dev nD) : (dats m 0 c).arrAt 16 cfg0.N = val_main_v55 (F := Ideal) (a0 m c) (a1 m c) (a2 m c) (a3 m c) (a4 m c) (a5 m c) := by
  refine (dats m 0 c).arrAt_eq_of_covers 16 _ (by decide +kernel) fun t _ y => ?_
  blk_simp
  rw [after0_16]
  simp only [outsAt0]
  frame_out
  idx_vars y
  have he : ((cfg0.win 16).blk t).view.emb (ix2 y0 y1) = (ix2 (rowOf t y0) y1 : S8192x1024.Idx) := by blk_ext [idx t]
  rw [he]
  exact (tY_at m c t y0 y1).trans (out_y _ _ _ _ _ _ _ _).symm

theorem final_x (c : Dev nD) : (dats m 0 c).arrAt 17 cfg0.N = val_main_v70 (F := Ideal) (a0 m c) (a1 m c) (a2 m c) (a3 m c) (a4 m c) (a5 m c) (a6 m c) (a7 m c) := by
  refine (dats m 0 c).arrAt_eq_of_covers 17 _ (by decide +kernel) fun t _ y => ?_
  blk_simp
  rw [after0_17]
  simp only [outsAt0]
  frame_out
  idx_vars y
  have he : ((cfg0.win 17).blk t).view.emb (ix2 y0 y1) = (ix2 (rowOf t y0) y1 : S8192x1024.Idx) := by blk_ext [idx t]
  rw [he]
  refine (pay_x (tCat m c t) (iblk m c 12 t) (iblk m c 14 t) (iblk m c 13 t) y0 y1).trans (Eq.trans ?_ (out_x _ _ _ _ _ _ _ _ _ _).symm)
  have hy := funext fun k => tY_at m c t y0 k
  have hg := funext fun k => blk13 m c t k
  exact congrArg₂ (fun a b : EReal => a + b) (blk14 m c t y0 y1) (congrArg₂ (fun a b => nrm a b y1) hy hg)

end Cert.MixOutIdeal.Final

end
-- ==== Proof.FfnFwdValue.lean ====
/- The convolutional feed-forward: the kernel's up product, normed rows, gate and value rows, gated rows, down product and
   normed residual are those of the forward lines. -/
module

public import proofs.«01_k».proof.Proof.Gen.FfnFwdIdeal.Value
public import proofs.«01_k».proof.Proof.Gen.FfnFwdRefIdeal.Read
public import proofs.«01_k».proof.Proof.FfnHost
public import proofs.«01_k».proof.Proof.Cols
public import proofs.«01_k».proof.Proof.Strips

@[expose] public section

set_option maxRecDepth 16384

noncomputable section

namespace Cert.FfnFwdIdeal.Final

open Cert Cert.FfnFwdIdeal Cert.FfnFwdIdeal.Gen Idealize.ShloMosaic Idealize.ShloMosaic.TcCoe Idealize.SL.Sem
open Idealize.ShloMosaic.Pipeline (Dat)
open Cert.FfnFwdRefIdeal.Read

/-- A normed and scaled row. -/
def nrm (x g : Fin 1024 → EReal) (l : Fin 1024) : EReal := x l * Ideal.rsqrt (Shared.meanSq Shared.w1024 x) * g l

/-! ## The forward lines at an index -/

section Reference

variable (x0 : FVec Ideal S1x8192x1024 .f32) (x1 : FVec Ideal S1024 .f32) (x2 : FVec Ideal S1024x5632 .f32) (x3 : FVec Ideal S3x5632 .f32)
  (x4 : FVec Ideal S2816x1024 .f32) (x5 : FVec Ideal S1024 .f32)

theorem h_at (r : Fin 8192) (l : Fin 1024) :
    val_main_v12 (F := Ideal) x0 x1 (ix3 0 r l) = nrm (fun k => x0 (ix3 0 r k)) (fun k => x1 (ix1 k)) l := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, nrm, Shared.meanSq]
theorem u_at (r : Fin 8192) (l : Fin 5632) :
    val_main_v13 (F := Ideal) x0 x1 x2 (ix3 0 r l) = ∑ k : Fin 1024, val_main_v12 (F := Ideal) x0 x1 (ix3 0 r k) * x2 (ix2 k l) := by
  generalize h12 : val_main_v12 (F := Ideal) x0 x1 = z12
  pointwise [val_main_v13, h12]
theorem prev_at (r : Fin 8192) (l : Fin 5632) : val_main_v18 (F := Ideal) x0 x1 x2 (ix3 0 r l)
    = (if h : r.val = 0 then 0 else val_main_v13 (F := Ideal) x0 x1 x2 (ix3 0 ⟨r.val - 1, by omega⟩ l) : EReal) := by
  generalize h13 : val_main_v13 (F := Ideal) x0 x1 x2 = z13
  pointwise [val_main_v18, val_main_v15, val_main_v14, val_main_cst_2, h13]
  by_cases h : r.val = 0
  · rw [dif_pos (by omega), dif_pos h]
  · rw [dif_neg (by omega), dif_pos (by omega), dif_neg h]
theorem self_at (r : Fin 8192) (l : Fin 5632) : val_main_v24 (F := Ideal) x0 x1 x2 (ix3 0 r l) = val_main_v13 (F := Ideal) x0 x1 x2 (ix3 0 r l) := by
  generalize h13 : val_main_v13 (F := Ideal) x0 x1 x2 = z13
  pointwise [val_main_v24, val_main_v15, val_main_v14, val_main_cst_2, h13]
theorem next_at (r : Fin 8192) (l : Fin 5632) : val_main_v31 (F := Ideal) x0 x1 x2 (ix3 0 r l)
    = (if h : r.val = 8191 then 0 else val_main_v13 (F := Ideal) x0 x1 x2 (ix3 0 ⟨r.val + 1, by omega⟩ l) : EReal) := by
  generalize h13 : val_main_v13 (F := Ideal) x0 x1 x2 = z13
  pointwise [val_main_v31, val_main_v15, val_main_v14, val_main_cst_2, h13]
  by_cases h : r.val = 8191
  · rw [dif_neg (by omega), dif_neg (by omega), dif_pos h]
  · rw [dif_neg (by omega), dif_pos (by omega), dif_neg h]
    simp only [show 2 + r.val - 1 = r.val + 1 by omega]
theorem conv_at (r : Fin 8192) (l : Fin 5632) : val_main_v35 (F := Ideal) x0 x1 x2 x3 (ix3 0 r l)
    = x3 (ix2 0 l) * val_main_v18 (F := Ideal) x0 x1 x2 (ix3 0 r l) + x3 (ix2 1 l) * val_main_v24 (F := Ideal) x0 x1 x2 (ix3 0 r l)
      + x3 (ix2 2 l) * val_main_v31 (F := Ideal) x0 x1 x2 (ix3 0 r l) := by
  generalize h18 : val_main_v18 (F := Ideal) x0 x1 x2 = z18
  generalize h24 : val_main_v24 (F := Ideal) x0 x1 x2 = z24
  generalize h31 : val_main_v31 (F := Ideal) x0 x1 x2 = z31
  pointwise [val_main_v35, val_main_v34, val_main_v33, val_main_v32, val_main_v30, val_main_v29, val_main_v28, val_main_v27, val_main_v26,
    val_main_v25, val_main_v23, val_main_v22, val_main_v21, val_main_v20, val_main_v19, val_main_v17, val_main_v16, h18, h24, h31]
theorem gate_at (r : Fin 8192) (l : Fin 2816) :
    val_main_v36 (F := Ideal) x0 x1 x2 x3 (ix3 0 r l) = val_main_v35 (F := Ideal) x0 x1 x2 x3 (ix3 0 r ⟨l.val, by omega⟩) := by
  generalize h35 : val_main_v35 (F := Ideal) x0 x1 x2 x3 = z35
  pointwise [val_main_v36, h35]
theorem value_at (r : Fin 8192) (l : Fin 2816) :
    val_main_v37 (F := Ideal) x0 x1 x2 x3 (ix3 0 r l) = val_main_v35 (F := Ideal) x0 x1 x2 x3 (ix3 0 r ⟨2816 + l.val, by omega⟩) := by
  generalize h35 : val_main_v35 (F := Ideal) x0 x1 x2 x3 = z35
  pointwise [val_main_v37, h35]
theorem z_at (r : Fin 8192) (l : Fin 2816) : val_main_v39 (F := Ideal) x0 x1 x2 x3 (ix3 0 r l)
    = val_main_v36 (F := Ideal) x0 x1 x2 x3 (ix3 0 r l) * Ideal.logistic (val_main_v36 (F := Ideal) x0 x1 x2 x3 (ix3 0 r l))
      * val_main_v37 (F := Ideal) x0 x1 x2 x3 (ix3 0 r l) := by
  generalize h36 : val_main_v36 (F := Ideal) x0 x1 x2 x3 = z36
  generalize h37 : val_main_v37 (F := Ideal) x0 x1 x2 x3 = z37
  pointwise [val_main_v39, val_main_v38, val_main_call0_v5, val_main_call0_v4, val_main_call0_v3, val_main_call0_v2, val_main_call0_v1,
    val_main_call0_v0, val_main_call0_cst, val_main_call0_cst_0, Ideal.logistic, h36, h37]
theorem y_at (r : Fin 8192) (l : Fin 1024) : val_main_v40 (F := Ideal) x0 x1 x2 x3 x4 (ix3 0 r l)
    = ∑ k : Fin 2816, val_main_v39 (F := Ideal) x0 x1 x2 x3 (ix3 0 r k) * x4 (ix2 k l) := by
  generalize h39 : val_main_v39 (F := Ideal) x0 x1 x2 x3 = z39
  pointwise [val_main_v40, h39]

theorem out_u (r : Fin 8192) (l : Fin 5632) : val_main_v42 (F := Ideal) x0 x1 x2 (ix2 r l) = val_main_v13 (F := Ideal) x0 x1 x2 (ix3 0 r l) := by
  generalize h13 : val_main_v13 (F := Ideal) x0 x1 x2 = z13
  pointwise [val_main_v42, val_main_v41, h13]
theorem out_h (r : Fin 8192) (l : Fin 1024) : val_main_v44 (F := Ideal) x0 x1 (ix2 r l) = val_main_v12 (F := Ideal) x0 x1 (ix3 0 r l) := by
  generalize h12 : val_main_v12 (F := Ideal) x0 x1 = z12
  pointwise [val_main_v44, val_main_v43, h12]
theorem out_ug (r : Fin 8192) (l : Fin 2816) : val_main_v46 (F := Ideal) x0 x1 x2 x3 (ix2 r l) = val_main_v36 (F := Ideal) x0 x1 x2 x3 (ix3 0 r l) := by
  generalize h36 : val_main_v36 (F := Ideal) x0 x1 x2 x3 = z36
  pointwise [val_main_v46, val_main_v45, h36]
theorem out_uv (r : Fin 8192) (l : Fin 2816) : val_main_v48 (F := Ideal) x0 x1 x2 x3 (ix2 r l) = val_main_v37 (F := Ideal) x0 x1 x2 x3 (ix3 0 r l) := by
  generalize h37 : val_main_v37 (F := Ideal) x0 x1 x2 x3 = z37
  pointwise [val_main_v48, val_main_v47, h37]
theorem out_z (r : Fin 8192) (l : Fin 2816) : val_main_v50 (F := Ideal) x0 x1 x2 x3 (ix2 r l) = val_main_v39 (F := Ideal) x0 x1 x2 x3 (ix3 0 r l) := by
  generalize h39 : val_main_v39 (F := Ideal) x0 x1 x2 x3 = z39
  pointwise [val_main_v50, val_main_v49, h39]
theorem out_y (r : Fin 8192) (l : Fin 1024) : val_main_v51 (F := Ideal) x0 x1 x2 x3 x4 (ix2 r l) = val_main_v40 (F := Ideal) x0 x1 x2 x3 x4 (ix3 0 r l) := by
  generalize h40 : val_main_v40 (F := Ideal) x0 x1 x2 x3 x4 = z40
  pointwise [val_main_v51, h40]
theorem out_x (r : Fin 8192) (l : Fin 1024) : val_main_v66 (F := Ideal) x0 x1 x2 x3 x4 x5 (ix2 r l)
    = x0 (ix3 0 r l) + nrm (fun k => val_main_v40 (F := Ideal) x0 x1 x2 x3 x4 (ix3 0 r k)) (fun k => x5 (ix1 k)) l := by
  generalize h40 : val_main_v40 (F := Ideal) x0 x1 x2 x3 x4 = z40
  pointwise [val_main_v66, val_main_v65, val_main_v64, val_main_v63, val_main_v62, val_main_v61, val_main_v60, val_main_v59, val_main_v58,
    val_main_v57, val_main_v56, val_main_v55, val_main_v54, val_main_v53, val_main_v52, val_main_cst_3, val_main_cst_4, val_main_cst_5,
    nrm, Shared.meanSq, h40]

end Reference

/-! ## The kernel's terms at an index -/

section Terms

variable (i : BitVec 32) (h : FVec Ideal S272x1024 .bf16) (w : FVec Ideal S1x1024x1408 .bf16)

/-- The rows of a tile with eight rows on either side. -/
abbrev rows (xp : FVec Ideal S8x1024 .f32) (x : FVec Ideal S256x1024 .f32) (xn : FVec Ideal S8x1024 .f32) : FVec Ideal S272x1024 .f32 :=
  concatenate S272x1024 0 [⟨S8x1024, xp⟩, ⟨S256x1024, x⟩, ⟨S8x1024, xn⟩] concatenates_S8x1024_S256x1024_S8x1024_S272x1024_d0

theorem rows_at (xp : FVec Ideal S8x1024 .f32) (x : FVec Ideal S256x1024 .f32) (xn : FVec Ideal S8x1024 .f32) (s : Fin 272) (k : Fin 1024) :
    rows xp x xn (ix2 s k) = (if h : s.val < 8 then xp (ix2 ⟨s.val, h⟩ k) else if h' : s.val < 264 then x (ix2 ⟨s.val - 8, by omega⟩ k)
      else xn (ix2 ⟨s.val - 264, by omega⟩ k) : EReal) := by
  pointwise [rows]
  by_cases h : s.val < 8
  · rw [dif_pos h, dif_pos h]
  · by_cases h' : s.val < 264
    · rw [dif_neg h, dif_pos (by omega), dif_neg h, dif_pos h']
    · rw [dif_neg h, dif_neg (by omega), dif_neg h, dif_neg h']
      simp only [show s.val - 8 - 256 = s.val - 264 by omega]

theorem pay_norm (xp : FVec Ideal S8x1024 .f32) (x : FVec Ideal S256x1024 .f32) (xn : FVec Ideal S8x1024 .f32) (g : FVec Ideal S1x1024 .f32)
    (s : Fin 272) (l : Fin 1024) :
    k0_pay2 (F := Ideal) xp x xn g (ix2 s l) = nrm (fun k => rows xp x xn (ix2 s k)) (fun k => g (ix2 0 k)) l := by
  have e : ∀ (S : Shape) (z : FVec Ideal S .f32) (h), shapeCast S z h = z := fun S z h => by funext j; simp [shapeCast]
  unfold k0_pay2
  simp only [e]
  pointwise [nrm, Shared.meanSq, rows]

theorem prod_at (s : Fin 272) (l : Fin 1408) : k0_pay13 (F := Ideal) h w (ix2 s l) = ∑ k : Fin 1024, h (ix2 s k) * w (ix3 0 k l) := by
  pointwise [k0_pay13]
theorem top_at (l : Fin 1408) : k0_pay14 (F := Ideal) i h w (ix2 7 l) = (if i = 0#32 then 0 else k0_pay13 (F := Ideal) h w (ix2 7 l) : EReal) := by
  generalize h13 : k0_pay13 (F := Ideal) h w = z
  pointwise [k0_pay14, h13]
  rw [Shared.select_eq]
theorem bot_at (l : Fin 1408) : k0_pay15 (F := Ideal) i h w (ix2 0 l) = (if i = 31#32 then 0 else k0_pay13 (F := Ideal) h w (ix2 264 l) : EReal) := by
  generalize h13 : k0_pay13 (F := Ideal) h w = z
  pointwise [k0_pay15, h13]
  rw [Shared.select_eq]
theorem mid_at (r : Fin 256) (l : Fin 1408) : k0_pay16 (F := Ideal) h w (ix2 r l) = k0_pay13 (F := Ideal) h w (ix2 ⟨8 + r.val, by omega⟩ l) := by
  generalize h13 : k0_pay13 (F := Ideal) h w = z
  pointwise [k0_pay16, h13]

variable (w0 w1 w2 : FVec Ideal S1x1408 .f32)

/-- A column block of the convolution. -/
abbrev convK : FVec Ideal S256x1408 .f32 := k0_pay18 (k0_pay14 i h w) (k0_pay15 i h w) (k0_pay16 h w) w0 w1 w2

theorem pay_conv (r : Fin 256) (l : Fin 1408) : convK i h w w0 w1 w2 (ix2 r l)
    = w0 (ix2 0 l) * (if r.val = 0 ∧ i = 0#32 then 0 else k0_pay13 (F := Ideal) h w (ix2 ⟨7 + r.val, by omega⟩ l) : EReal)
      + w1 (ix2 0 l) * k0_pay13 (F := Ideal) h w (ix2 ⟨8 + r.val, by omega⟩ l)
      + w2 (ix2 0 l) * (if r.val = 255 ∧ i = 31#32 then 0 else k0_pay13 (F := Ideal) h w (ix2 ⟨9 + r.val, by omega⟩ l) : EReal) := by
  have ht := top_at i h w l
  have hb := bot_at i h w l
  have hm := fun r => mid_at h w r l
  unfold convK
  generalize k0_pay14 (F := Ideal) i h w = zt at ht
  generalize k0_pay15 (F := Ideal) i h w = zb at hb
  generalize k0_pay16 (F := Ideal) h w = zm at hm
  pointwise [k0_pay18]
  refine congrArg₂ (fun a b : EReal => a + b) (congrArg₂ (fun a b : EReal => a + b) (congrArg (fun a : EReal => w0 (ix2 0 l) * a) ?_)
    (congrArg (fun a : EReal => w1 (ix2 0 l) * a) (hm r))) (congrArg (fun a : EReal => w2 (ix2 0 l) * a) ?_)
  · by_cases hr : r.val = 0
    · rw [dif_pos (by omega)]
      simp only [show (8 + r.val + 272 - 1) % 272 = 7 by omega, hr, true_and]
      exact ht
    · rw [dif_neg (by omega), dif_pos (by omega)]
      refine Eq.trans (congrArg (fun q : Fin 256 => zm (ix2 q l)) (Fin.ext ?_ : _ = (⟨r.val - 1, by omega⟩ : Fin 256))) ((hm _).trans ?_)
      · show (8 + r.val + 272 - 1) % 272 - 8 = r.val - 1
        omega
      · refine Eq.trans ?_ (if_neg (fun q => hr q.1)).symm
        simp only [show 8 + (r.val - 1) = 7 + r.val by omega]
  · by_cases hr : r.val = 255
    · rw [dif_neg (by omega), dif_neg (by omega)]
      simp only [show (8 + r.val + 272 - 271) % 272 - 8 - 256 = 0 by omega, hr, true_and]
      exact hb
    · rw [dif_neg (by omega), dif_pos (by omega)]
      refine Eq.trans (congrArg (fun q : Fin 256 => zm (ix2 q l)) (Fin.ext ?_ : _ = (⟨r.val + 1, by omega⟩ : Fin 256))) ((hm _).trans ?_)
      · show (8 + r.val + 272 - 271) % 272 - 8 = r.val + 1
        omega
      · refine Eq.trans ?_ (if_neg (fun q => hr q.1)).symm
        simp only [show 8 + (r.val + 1) = 9 + r.val by omega]

theorem pay_z (g : FVec Ideal S256x1408 .f32) (a b : FVec Ideal S8x1408 .f32) (e : FVec Ideal S256x1408 .f32) (r : Fin 256) (l : Fin 1408) :
    k0_pay19 (F := Ideal) g a b e w0 w1 w2 (ix2 r l)
      = g (ix2 r l) * Ideal.logistic (g (ix2 r l)) * k0_pay18 (F := Ideal) a b e w0 w1 w2 (ix2 r l) := by
  rw [← Shared.half_tanh]
  generalize h18 : k0_pay18 (F := Ideal) a b e w0 w1 w2 = z
  pointwise [k0_pay19, h18]
theorem pay_add (a : FVec Ideal S256x1024 .f32) (z : FVec Ideal S256x1408 .bf16) (u : FVec Ideal S1408x1024 .bf16) (r : Fin 256) (l : Fin 1024) :
    k0_pay22 (F := Ideal) a z u (ix2 r l) = a (ix2 r l) + ∑ k : Fin 1408, z (ix2 r k) * u (ix2 k l) := by
  pointwise [k0_pay22]
theorem pay_zero (r : Fin 256) (l : Fin 1024) : k0_pay5 (F := Ideal) (ix2 r l) = (0 : EReal) := by
  pointwise [k0_pay5]

end Terms

/-! ## The arrays the host prepares, and the kernel's blocks -/

variable (m : (ℓ : Loc nD τ sig) → Buf (Elt Ideal) ℓ)

/-- The arguments. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

theorem V_w (c : Dev nD) (j : Fin 4) (r : Fin 1024) (l : Fin 1408) :
    V m c main_v12 (ix3 j r l) = a2 m c (ix2 r ⟨j.val * 1408 + l.val, by omega⟩) := by
  unfold_abbrev_sides
  after_reads_simp
  refine (congrFun (FfnIdeal.Final.cat4 (e := .bf16) _ (a' := FfnIdeal.Final.wcol (a2 m c) 0 slices_S1024x5632_S1024x1408_0_0)
    (b' := FfnIdeal.Final.wcol (a2 m c) 1408 slices_S1024x5632_S1024x1408_0_1408) (k' := FfnIdeal.Final.wcol (a2 m c) 2816 slices_S1024x5632_S1024x1408_0_2816)
    (p' := FfnIdeal.Final.wcol (a2 m c) 4224 slices_S1024x5632_S1024x1408_0_4224) ?_ ?_ ?_ ?_) (ix3 j r l)).trans ((FfnIdeal.Final.stack_at _ _ _ _ j r l).trans ?_)
  · change (StableHlo.unary main_v1 main_v8 _ _ _).result _ (Proc.devRef .tc main_v8) = _; after_reads_simp
  · change (StableHlo.unary main_v3 main_v9 _ _ _).result _ (Proc.devRef .tc main_v9) = _; after_reads_simp
  · change (StableHlo.unary main_v5 main_v10 _ _ _).result _ (Proc.devRef .tc main_v10) = _; after_reads_simp
  · change (StableHlo.unary main_v7 main_v11 _ _ _).result _ (Proc.devRef .tc main_v11) = _; after_reads_simp
  have hw := fun (o : ℕ) (h : S1024x5632.Slices ![0, o] S1024x1408) (ho : o + 1408 ≤ 5632) (n : Fin 5632) (hn : n.val = o + l.val) =>
    (FfnIdeal.Final.wcol_at (a2 m c) o h r l ho).trans (congrArg (fun z => a2 m c (ix2 r z)) (Fin.ext hn.symm : _ = n))
  match j with
  | ⟨0, _⟩ => exact hw 0 _ (by omega) _ (by dsimp only)
  | ⟨1, _⟩ => exact hw 1408 _ (by omega) _ (by dsimp only)
  | ⟨2, _⟩ => exact hw 2816 _ (by omega) _ (by dsimp only)
  | ⟨3, _⟩ => exact hw 4224 _ (by omega) _ (by dsimp only)
theorem V_x (c : Dev nD) (r : Fin 8192) (l : Fin 1024) : V m c main_v13 (ix2 r l) = a0 m c (ix3 0 r l) := by
  unfold_abbrev_sides
  after_reads_simp
  pointwise []
theorem V_g (c : Dev nD) (l : Fin 1024) : V m c main_v14 (ix2 0 l) = a1 m c (ix1 l) := by
  unfold_abbrev_sides
  after_reads_simp
  pointwise []
theorem V_d (c : Dev nD) (r : Fin 2816) (l : Fin 1024) : V m c main_v15 (ix2 r l) = a4 m c (ix2 r l) := by
  unfold_abbrev_sides
  after_reads_simp
  pointwise []
theorem V_q (c : Dev nD) (l : Fin 1024) : V m c main_v16 (ix2 0 l) = a5 m c (ix1 l) := by
  unfold_abbrev_sides
  after_reads_simp
  pointwise []

theorem idx : ∀ t : Fin cfg0.N, win0_0.index t = ![t.val, 0] ∧ win0_1.index t = ![t.val * 32 - 1, 0] ∧ win0_2.index t = ![min (t.val * 32 + 32) 1023, 0]
    ∧ win0_3.index t = ![0, 0] ∧ win0_4.index t = ![0, 0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)
theorem N32 : cfg0.N = 32 := N_0
theorem row_lt (t : Fin cfg0.N) (r : Fin 256) : t.val * 256 + r.val < 8192 := by
  have := lt_of_lt_of_eq t.isLt N32; omega
/-- Row `r` of tile `t`. -/
abbrev rowOf (t : Fin cfg0.N) (r : Fin 256) : Fin 8192 := ⟨t.val * 256 + r.val, row_lt t r⟩

variable (c : Dev nD) (t : Fin cfg0.N)

theorem blk0 (x : Fin 256) (y : Fin 1024) : iblk m c 0 t (ix2 x y) = a0 m c (ix3 0 (rowOf t x) y) := by
  rw [← V_x]; blk_ext! [iblk, idx t]
theorem blk1 (ht : t.val ≠ 0) (y : Fin 1024) :
    iblk m c 1 t (ix2 7 y) = a0 m c (ix3 0 ⟨t.val * 256 - 1, by have := row_lt t 0; omega⟩ y) := by
  rw [← V_x]; blk_ext! [iblk, idx t]
theorem blk2 (ht : t.val < 31) (y : Fin 1024) : iblk m c 2 t (ix2 0 y) = a0 m c (ix3 0 ⟨t.val * 256 + 256, by omega⟩ y) := by
  rw [← V_x]; blk_ext! [iblk, idx t]
theorem blk3 (y : Fin 1024) : iblk m c 3 t (ix2 0 y) = a1 m c (ix1 y) := by
  rw [← V_g]; blk_ext! [iblk, idx t]
theorem blk4 (j : Fin 4) (x : Fin 1024) (y : Fin 1408) :
    iblk m c 4 t (ix3 j x y) = a2 m c (ix2 x ⟨j.val * 1408 + y.val, by omega⟩) := by
  rw [← V_w]; blk_ext! [iblk, idx t]
theorem blk5 (x : Fin 3) (y : Fin 5632) : iblk m c 5 t (ix2 x y) = a3 m c (ix2 x y) := by
  rw [← show V m c main_arg3 = a3 m c from V_main_arg3 m c]; blk_ext! [iblk, idx t]
theorem blk6 (x : Fin 2816) (y : Fin 1024) : iblk m c 6 t (ix2 x y) = a4 m c (ix2 x y) := by
  rw [← V_d]; blk_ext! [iblk, idx t]
theorem blk7 (y : Fin 1024) : iblk m c 7 t (ix2 0 y) = a5 m c (ix1 y) := by
  rw [← V_q]; blk_ext! [iblk, idx t]

/-! ## A tile -/

abbrev pid (t : Fin cfg0.N) : BitVec 32 := BitVec.ofNat 32 ↑(grid0.coords t 0)
theorem pid_zero : ∀ t : Fin cfg0.N, pid t = 0#32 ↔ t.val = 0 := (by decide +kernel : ∀ t : Fin grid0.N, _)
theorem pid_last : ∀ t : Fin cfg0.N, pid t = 31#32 ↔ t.val = 31 := (by decide +kernel : ∀ t : Fin grid0.N, _)

/-- The normed rows of a tile with the rows beside them, and the up product and the convolution of a column block. -/
abbrev tH : FVec Ideal S272x1024 .bf16 := k0_pay3 (F := Ideal) (iblk m c 1 t) (iblk m c 0 t) (iblk m c 2 t) (iblk m c 3 t)
abbrev tW (j : ℕ) (b : ∀ a, (![j, 0, 0] : Fin 3 → ℕ) a + (![1, 1024, 1408] : Fin 3 → ℕ) a ≤ S4x1024x1408.size a) :
    FVec Ideal S1x1024x1408 .bf16 :=
  View.ld (Val := Elt Ideal) (e' := .bf16) (iblk m c 4 t) (Rect.unit (s := S4x1024x1408) ![j, 0, 0] ![1, 1024, 1408] b)
/-- A row of the convolution's taps, at the columns from `o`. -/
abbrev IsTap (o : ℕ) (k : Fin 3) (w : FVec Ideal S1x1408 .f32) : Prop :=
  ∀ (l : Fin 1408) (C : Fin 5632), C.val = o + l.val → w (ix2 0 l) = a3 m c (ix2 k C)

theorem tH_at (s : Fin 272) (l : Fin 1024) (R : Fin 8192) (h7 : 7 ≤ s.val) (h8 : s.val ≤ 264) (hR : R.val + 8 = t.val * 256 + s.val) :
    tH m c t (ix2 s l) = val_main_v12 (F := Ideal) (a0 m c) (a1 m c) (ix3 0 R l) := by
  have hN := lt_of_lt_of_eq t.isLt N32
  refine (pay_norm (iblk m c 1 t) (iblk m c 0 t) (iblk m c 2 t) (iblk m c 3 t) s l).trans (Eq.trans ?_ (h_at _ _ _ _).symm)
  refine congrArg₂ (fun a b => nrm a b l) (funext fun k => (rows_at _ _ _ s k).trans ?_) (funext fun k => blk3 m c t k)
  by_cases h : s.val < 8
  · rw [dif_pos h, show (⟨s.val, h⟩ : Fin 8) = 7 from Fin.ext (by show s.val = 7; omega)]
    exact (blk1 m c t (by omega) k).trans (congrArg (fun z => a0 m c (ix3 0 z k)) (Fin.ext (by dsimp only; omega)))
  · by_cases h' : s.val < 264
    · rw [dif_neg h, dif_pos h']
      exact (blk0 m c t _ k).trans (congrArg (fun z => a0 m c (ix3 0 z k)) (Fin.ext (by dsimp only; omega)))
    · rw [dif_neg h, dif_neg h', show (⟨s.val - 264, by omega⟩ : Fin 8) = 0 from Fin.ext (by show s.val - 264 = 0; omega)]
      exact (blk2 m c t (by omega) k).trans (congrArg (fun z => a0 m c (ix3 0 z k)) (Fin.ext (by dsimp only; omega)))

theorem tW_at (j : ℕ) (b) (k : Fin 1024) (l : Fin 1408) (C : Fin 5632) (hC : C.val = j * 1408 + l.val) :
    tW m c t j b (ix3 0 k l) = a2 m c (ix2 k C) := by
  have hj : j < 4 := by have := b 0; change j + 1 ≤ 4 at this; omega
  refine Eq.trans (congrArg (iblk m c 4 t) ?_) ((blk4 m c t ⟨j, hj⟩ k l).trans (congrArg (fun z => a2 m c (ix2 k z)) (Fin.ext hC.symm)))
  funext a
  match a with
  | ⟨0, _⟩ => exact Fin.ext (by show j + 1 * 0 = j; omega)
  | ⟨1, _⟩ => exact Fin.ext (by show 0 + 1 * k.val = k.val; omega)
  | ⟨2, _⟩ => exact Fin.ext (by show 0 + 1 * l.val = l.val; omega)

theorem isTap (hw : (ms0_5 t).IsWhole) (o k : ℕ) (hk : k < 3) (b) (b') (b'') : IsTap m c o ⟨k, hk⟩
    (View.readAt (Elt Ideal) (ms0_5 t).view ((Rect.unit (s := S3x5632) ![0, o] ![3, 1408] b).withinL (Rect.unit (s := S3x1408) ![k, 0] ![1, 1408] b').toLoadRect b'')
      (hw.unread (iblk m c 5 t))) := fun l C hC => by
  show (ms0_5 t).view.read (Elt Ideal) _ (((Rect.unit (s := S3x5632) ![0, o] ![3, 1408] b).withinL (Rect.unit (s := S3x1408) ![k, 0] ![1, 1408] b').toLoadRect b'').idx (ix2 0 l)) = _
  rw [Memref.IsWhole.read_unread]
  refine Eq.trans (congrArg (iblk m c 5 t) ?_) (blk5 m c t ⟨k, hk⟩ C)
  funext a
  match a with
  | ⟨0, _⟩ => exact Fin.ext (by show 0 + k + 1 * 0 = k; omega)
  | ⟨1, _⟩ => exact Fin.ext (by show o + 0 + 1 * l.val = C.val; omega)

/-- The three rows of taps. -/
abbrev Taps (o : ℕ) (w0 w1 w2 : FVec Ideal S1x1408 .f32) : Prop := IsTap m c o 0 w0 ∧ IsTap m c o 1 w1 ∧ IsTap m c o 2 w2
theorem taps {hw : (ms0_5 t).IsWhole} (o : ℕ) {b b0 b1 b2 e0 e1 e2} : Taps m c o
    (View.readAt (Elt Ideal) (ms0_5 t).view ((Rect.unit (s := S3x5632) ![0, o] ![3, 1408] b).withinL (Rect.unit (s := S3x1408) ![0, 0] ![1, 1408] b0).toLoadRect e0) (hw.unread (iblk m c 5 t)))
    (View.readAt (Elt Ideal) (ms0_5 t).view ((Rect.unit (s := S3x5632) ![0, o] ![3, 1408] b).withinL (Rect.unit (s := S3x1408) ![1, 0] ![1, 1408] b1).toLoadRect e1) (hw.unread (iblk m c 5 t)))
    (View.readAt (Elt Ideal) (ms0_5 t).view ((Rect.unit (s := S3x5632) ![0, o] ![3, 1408] b).withinL (Rect.unit (s := S3x1408) ![2, 0] ![1, 1408] b2).toLoadRect e2) (hw.unread (iblk m c 5 t))) :=
  ⟨isTap m c t hw o 0 (by omega) b b0 e0, isTap m c t hw o 1 (by omega) b b1 e1, isTap m c t hw o 2 (by omega) b b2 e2⟩

theorem tU_at (j : ℕ) (b) (s : Fin 272) (l : Fin 1408) (R : Fin 8192) (C : Fin 5632) (h7 : 7 ≤ s.val) (h8 : s.val ≤ 264)
    (hR : R.val + 8 = t.val * 256 + s.val) (hC : C.val = j * 1408 + l.val) :
    k0_pay13 (F := Ideal) (tH m c t) (tW m c t j b) (ix2 s l) = val_main_v13 (F := Ideal) (a0 m c) (a1 m c) (a2 m c) (ix3 0 R C) := by
  refine (prod_at _ _ s l).trans (Eq.trans ?_ (u_at _ _ _ _ _).symm)
  exact Finset.sum_congr rfl fun k _ => congrArg₂ (fun a b : EReal => a * b) (tH_at m c t s k R h7 h8 hR) (tW_at m c t j b k l C hC)

theorem tC_at (j o : ℕ) (b) (w0 w1 w2 : FVec Ideal S1x1408 .f32) (hT : Taps m c o w0 w1 w2) (r : Fin 256) (l : Fin 1408) (C : Fin 5632) (ho : o = j * 1408) (hC : C.val = o + l.val) :
    convK (pid t) (tH m c t) (tW m c t j b) w0 w1 w2 (ix2 r l)
      = val_main_v35 (F := Ideal) (a0 m c) (a1 m c) (a2 m c) (a3 m c) (ix3 0 (rowOf t r) C) := by
  have hN := lt_of_lt_of_eq t.isLt N32
  have hu := fun s R h7 h8 hR => tU_at m c t j b s l R C h7 h8 hR (hC.trans (congrArg (· + l.val) ho))
  refine (pay_conv _ _ _ _ _ _ r l).trans (Eq.trans ?_ (conv_at _ _ _ _ _ _).symm)
  rw [prev_at, self_at, next_at]
  refine congrArg₂ (fun a b : EReal => a + b) (congrArg₂ (fun a b : EReal => a + b)
    (congrArg₂ (fun a b : EReal => a * b) (hT.1 l C hC) ?_)
    (congrArg₂ (fun a b : EReal => a * b) (hT.2.1 l C hC) ?_))
    (congrArg₂ (fun a b : EReal => a * b) (hT.2.2 l C hC) ?_)
  · by_cases h : r.val = 0 ∧ t.val = 0
    · rw [if_pos ⟨h.1, (pid_zero t).mpr h.2⟩, dif_pos (by show t.val * 256 + r.val = 0; omega)]
    · rw [if_neg (fun q => h ⟨q.1, (pid_zero t).mp q.2⟩), dif_neg (by show ¬t.val * 256 + r.val = 0; omega)]
      exact hu _ _ (by dsimp only; omega) (by dsimp only; omega) (by dsimp only; omega)
  · exact hu _ _ (by dsimp only; omega) (by dsimp only; omega) (by dsimp only; omega)
  · by_cases h : r.val = 255 ∧ t.val = 31
    · rw [if_pos ⟨h.1, (pid_last t).mpr h.2⟩, dif_pos (by show t.val * 256 + r.val = 8191; omega)]
    · rw [if_neg (fun q => h ⟨q.1, (pid_last t).mp q.2⟩), dif_neg (by show ¬t.val * 256 + r.val = 8191; omega)]
      exact hu _ _ (by dsimp only; omega) (by dsimp only; omega) (by dsimp only; omega)

/-- A block of 1408 columns of a half, at the tile's rows. -/
abbrev IsBlock (f : FVec Ideal FfnFwdRefIdeal.S1x8192x2816 .f32) (t : Fin cfg0.N) (o : ℕ) {e : FTy} (x : FVec Ideal S256x1408 e) : Prop :=
  ∀ (r : Fin 256) (l : Fin 1408) (C : Fin 2816), C.val = o + l.val → (x (ix2 r l) : EReal) = f (ix3 0 (rowOf t r) C)

abbrev rG (c : Dev nD) := val_main_v36 (F := Ideal) (a0 m c) (a1 m c) (a2 m c) (a3 m c)
abbrev rV (c : Dev nD) := val_main_v37 (F := Ideal) (a0 m c) (a1 m c) (a2 m c) (a3 m c)
abbrev rZ (c : Dev nD) := val_main_v39 (F := Ideal) (a0 m c) (a1 m c) (a2 m c) (a3 m c)

section Blocks

variable (j o : ℕ) {b : ∀ a, (![j, 0, 0] : Fin 3 → ℕ) a + (![1, 1024, 1408] : Fin 3 → ℕ) a ≤ S4x1024x1408.size a} {w0 w1 w2 : FVec Ideal S1x1408 .f32}

theorem isGate (h : Taps m c o w0 w1 w2) (ho : o = j * 1408) :
    IsBlock (rG m c) t o (convK (pid t) (tH m c t) (tW m c t j b) w0 w1 w2) := fun r l C hC =>
  (tC_at m c t j o b w0 w1 w2 h r l _ ho hC).trans (gate_at _ _ _ _ _ _).symm
theorem isValue (h : Taps m c (2816 + o) w0 w1 w2) (ho : 2816 + o = j * 1408) :
    IsBlock (rV m c) t o (convK (pid t) (tH m c t) (tW m c t j b) w0 w1 w2) := fun r l C hC =>
  (tC_at m c t j (2816 + o) b w0 w1 w2 h r l _ ho (show 2816 + C.val = 2816 + o + l.val by omega)).trans (value_at _ _ _ _ _ _).symm
theorem isZ {g : FVec Ideal S256x1408 .f32} (hg : IsBlock (rG m c) t o g) (hv : IsBlock (rV m c) t o (convK (pid t) (tH m c t) (tW m c t j b) w0 w1 w2)) :
    IsBlock (rZ m c) t o (k0_pay19 (F := Ideal) g (k0_pay14 (pid t) (tH m c t) (tW m c t j b)) (k0_pay15 (pid t) (tH m c t) (tW m c t j b))
      (k0_pay16 (tH m c t) (tW m c t j b)) w0 w1 w2) := fun r l C hC => by
  refine (pay_z _ _ _ _ _ _ _ r l).trans (Eq.trans ?_ (z_at _ _ _ _ _ _).symm)
  exact congrArg₂ (fun a b : EReal => a * Ideal.logistic a * b) (hg r l C hC) (hv r l C hC)

theorem tY_at (z0 z1 : FVec Ideal S256x1408 .bf16) (h0 : IsBlock (rZ m c) t 0 z0) (h1 : IsBlock (rZ m c) t 1408 z1) (b0) (b1) (r : Fin 256) (l : Fin 1024) :
    k0_pay22 (F := Ideal) (k0_pay22 (F := Ideal) (k0_pay5 (F := Ideal)) z0 (View.ld (Val := Elt Ideal) (e' := .bf16) (iblk m c 6 t) (Rect.unit (s := S2816x1024) ![0, 0] ![1408, 1024] b0))) z1
      (View.ld (Val := Elt Ideal) (e' := .bf16) (iblk m c 6 t) (Rect.unit (s := S2816x1024) ![1408, 0] ![1408, 1024] b1)) (ix2 r l)
      = val_main_v40 (F := Ideal) (a0 m c) (a1 m c) (a2 m c) (a3 m c) (a4 m c) (ix3 0 (rowOf t r) l) := by
  refine (pay_add _ _ _ r l).trans (Eq.trans ?_ ((y_at _ _ _ _ _ _ _).trans (Strips.sum_two 1408 1408 (by norm_num) _)).symm)
  refine congrArg₂ (fun a b : EReal => a + b) ((pay_add _ _ _ r l).trans ?_) ?_
  · rw [pay_zero, zero_add]
    refine Finset.sum_congr rfl fun k _ => congrArg₂ (fun a b : EReal => a * b) (h0 r k ⟨k.val, by omega⟩ (by dsimp only; omega)) ?_
    exact (Strips.ld_block (Val := Elt Ideal) (e := .bf16) (iblk m c 6 t) 0 0 b0 k l (by omega) (by omega)).trans
      ((blk6 m c t _ _).trans (by simp only [Nat.zero_add]))
  · refine Finset.sum_congr rfl fun k _ => congrArg₂ (fun a b : EReal => a * b) (h1 r k ⟨1408 + k.val, by omega⟩ rfl) ?_
    exact (Strips.ld_block (Val := Elt Ideal) (e := .bf16) (iblk m c 6 t) 1408 0 b1 k l (by omega) (by omega)).trans
      ((blk6 m c t _ _).trans (by simp only [Nat.zero_add]))

end Blocks

/-- A block of columns in front of others: on its columns and off them. -/
theorem strip {n : ℕ} {Val : EltTy → Type} [∀ e, Nonempty (Val e)] {e : EltTy} (f : Fin 256 → Fin n → Val e) (o : ℕ) (inb) (x : (⟨2, ![256, 1408]⟩ : Shape).Idx → Val e)
    (L : List (View.Piece Val (⟨2, ![256, n]⟩ : Shape) e)) (r : Fin 256) (l : Fin n)
    (hx : ∀ (r : Fin 256) (k : Fin 1408) (C : Fin n), C.val = o + k.val → x (ix2 r k) = f r C)
    (hL : l.val < o ∨ o + 1408 ≤ l.val → View.canon L (ix2 r l) = f r l) :
    View.canon ((⟨Rect.unit (s := ⟨2, ![256, n]⟩) ![0, o] ![256, 1408] inb, x⟩ : View.Piece Val (⟨2, ![256, n]⟩ : Shape) e) :: L) (ix2 r l) = f r l := by
  by_cases h : o ≤ l.val ∧ l.val < o + 1408
  · exact (Cols.canon_hit o inb x L r l h.1 h.2).trans (hx r _ l (by dsimp only; omega))
  · exact (Cols.canon_miss o inb x L r l (by omega)).trans (hL (by omega))

theorem two (f : FVec Ideal FfnFwdRefIdeal.S1x8192x2816 .f32) (t : Fin cfg0.N) (x0 x1 : FVec Ideal S256x1408 .bf16) (h0 : IsBlock f t 0 x0) (h1 : IsBlock f t 1408 x1)
    (b0) (b1) (r : Fin 256) (l : Fin 2816) :
    (View.canon [(⟨Rect.unit (s := S256x2816) ![0, 1408] ![256, 1408] b1, x1⟩ : View.Piece (Elt Ideal) S256x2816 .bf16),
      (⟨Rect.unit (s := S256x2816) ![0, 0] ![256, 1408] b0, x0⟩ : View.Piece (Elt Ideal) S256x2816 .bf16)] (ix2 r l) : EReal) = f (ix3 0 (rowOf t r) l) :=
  strip (Val := Elt Ideal) (e := .bf16) (fun r C => f (ix3 0 (rowOf t r) C)) 1408 _ _ _ r l h1 fun g1 =>
    strip (Val := Elt Ideal) (e := .bf16) (fun r C => f (ix3 0 (rowOf t r) C)) 0 _ _ _ r l h0 fun g0 => by omega

theorem pay_x (p : FVec Ideal S256x1024 .f32) (g a b : FVec Ideal S256x1408 .f32) (w : FVec Ideal S1x1408 .f32) (u : FVec Ideal S1408x1024 .bf16)
    (x : FVec Ideal S256x1024 .f32) (q : FVec Ideal S1x1024 .f32) (r : Fin 256) (l : Fin 1024) :
    k0_pay1 (F := Ideal) (k0_pay41 p g a b w u) (k0_pay42 x) (k0_pay43 q) (k0_pay44 p g a b w u) k0_pay45 (ix2 r l)
      = x (ix2 r l) + nrm (fun k => k0_pay41 (F := Ideal) p g a b w u (ix2 r k)) (fun k => q (ix2 0 k)) l := by
  generalize h41 : k0_pay41 (F := Ideal) p g a b w u = z
  pointwise [k0_pay1, k0_pay42, k0_pay43, k0_pay44, k0_pay45, nrm, Shared.meanSq, h41]

/-! ## The results -/

theorem final_u (c : Dev nD) : (dats m 0 c).arrAt 8 cfg0.N = val_main_v42 (F := Ideal) (a0 m c) (a1 m c) (a2 m c) := by
  refine (dats m 0 c).arrAt_eq_of_covers 8 _ (by decide +kernel) fun t _ y => ?_
  blk_simp
  rw [after0_8]
  simp only [outsAt0]
  frame_out
  idx_vars y
  have he : ((cfg0.win 8).blk t).view.emb (ix2 y0 y1) = (ix2 (rowOf t y0) y1 : S8192x5632.Idx) := by blk_ext [idx t]
  rw [he]
  have hu := fun (j : ℕ) b (r : Fin 256) (k : Fin 1408) (C : Fin 5632) (hC : C.val = j * 1408 + k.val) =>
    ((mid_at (tH m c t) (tW m c t j b) r k).trans (tU_at m c t j b _ k (rowOf t r) C (by dsimp only; omega) (by dsimp only; omega) (by dsimp only; omega) hC)).trans
      (out_u _ _ _ (rowOf t r) C).symm
  have hs := fun o inb x L hx hL => strip (Val := Elt Ideal) (e := .bf16) (fun r C => val_main_v42 (F := Ideal) (a0 m c) (a1 m c) (a2 m c) (ix2 (rowOf t r) C)) o inb x L y0 y1 hx hL
  exact hs 4224 _ _ _ (hu 3 _) fun h3 => hs 1408 _ _ _ (fun r k C hC => hu 1 _ r k C (by omega)) fun h1 => hs 2816 _ _ _ (hu 2 _) fun h2 =>
    hs 0 _ _ _ (fun r k C hC => hu 0 _ r k C (by omega)) fun h0 => by omega

theorem final_h (c : Dev nD) : (dats m 0 c).arrAt 9 cfg0.N = val_main_v44 (F := Ideal) (a0 m c) (a1 m c) := by
  refine (dats m 0 c).arrAt_eq_of_covers 9 _ (by decide +kernel) fun t _ y => ?_
  blk_simp
  rw [after0_9]
  simp only [outsAt0]
  frame_out
  idx_vars y
  have he : ((cfg0.win 9).blk t).view.emb (ix2 y0 y1) = (ix2 (rowOf t y0) y1 : S8192x1024.Idx) := by blk_ext [idx t]
  rw [he]
  refine Eq.trans ?_ ((tH_at m c t ⟨8 + y0.val, by omega⟩ y1 (rowOf t y0) (by dsimp only; omega) (by dsimp only; omega) (by dsimp only; omega)).trans (out_h _ _ _ _).symm)
  unfold tH
  generalize hz : k0_pay2 (F := Ideal) (iblk m c 1 t) (iblk m c 0 t) (iblk m c 2 t) (iblk m c 3 t) = z
  pointwise [k0_pay4, k0_pay3, hz]

theorem final_ug (c : Dev nD) : (dats m 0 c).arrAt 10 cfg0.N = val_main_v46 (F := Ideal) (a0 m c) (a1 m c) (a2 m c) (a3 m c) := by
  refine (dats m 0 c).arrAt_eq_of_covers 10 _ (by decide +kernel) fun t _ y => ?_
  blk_simp
  rw [after0_10]
  simp only [outsAt0]
  frame_out
  idx_vars y
  have he : ((cfg0.win 10).blk t).view.emb (ix2 y0 y1) = (ix2 (rowOf t y0) y1 : S8192x2816.Idx) := by blk_ext [idx t]
  rw [he]
  refine Eq.trans ?_ (out_ug _ _ _ _ (rowOf t y0) y1).symm
  exact two _ t _ _ (isGate m c t 0 0 (taps m c t 0) rfl) (isGate m c t 1 1408 (taps m c t 1408) rfl) _ _ y0 y1

theorem final_uv (c : Dev nD) : (dats m 0 c).arrAt 11 cfg0.N = val_main_v48 (F := Ideal) (a0 m c) (a1 m c) (a2 m c) (a3 m c) := by
  refine (dats m 0 c).arrAt_eq_of_covers 11 _ (by decide +kernel) fun t _ y => ?_
  blk_simp
  rw [after0_11]
  simp only [outsAt0]
  frame_out
  idx_vars y
  have he : ((cfg0.win 11).blk t).view.emb (ix2 y0 y1) = (ix2 (rowOf t y0) y1 : S8192x2816.Idx) := by blk_ext [idx t]
  rw [he]
  refine Eq.trans ?_ (out_uv _ _ _ _ (rowOf t y0) y1).symm
  exact two _ t _ _ (isValue m c t 2 0 (taps m c t 2816) rfl) (isValue m c t 3 1408 (taps m c t 4224) rfl) _ _ y0 y1

theorem final_z (c : Dev nD) : (dats m 0 c).arrAt 12 cfg0.N = val_main_v50 (F := Ideal) (a0 m c) (a1 m c) (a2 m c) (a3 m c) := by
  refine (dats m 0 c).arrAt_eq_of_covers 12 _ (by decide +kernel) fun t _ y => ?_
  blk_simp
  rw [after0_12]
  simp only [outsAt0]
  frame_out
  idx_vars y
  have he : ((cfg0.win 12).blk t).view.emb (ix2 y0 y1) = (ix2 (rowOf t y0) y1 : S8192x2816.Idx) := by blk_ext [idx t]
  rw [he]
  refine Eq.trans ?_ (out_z _ _ _ _ (rowOf t y0) y1).symm
  exact two _ t _ _ (isZ m c t 2 0 (isGate m c t 0 0 (taps m c t 0) rfl) (isValue m c t 2 0 (taps m c t 2816) rfl))
    (isZ m c t 3 1408 (isGate m c t 1 1408 (taps m c t 1408) rfl) (isValue m c t 3 1408 (taps m c t 4224) rfl)) _ _ y0 y1

theorem final_y (c : Dev nD) : (dats m 0 c).arrAt 13 cfg0.N = val_main_v51 (F := Ideal) (a0 m c) (a1 m c) (a2 m c) (a3 m c) (a4 m c) := by
  refine (dats m 0 c).arrAt_eq_of_covers 13 _ (by decide +kernel) fun t _ y => ?_
  blk_simp
  rw [after0_13]
  simp only [outsAt0]
  frame_out
  idx_vars y
  have he : ((cfg0.win 13).blk t).view.emb (ix2 y0 y1) = (ix2 (rowOf t y0) y1 : S8192x1024.Idx) := by blk_ext [idx t]
  rw [he]
  refine Eq.trans ?_ (out_y _ _ _ _ _ (rowOf t y0) y1).symm
  exact tY_at m c t _ _ (isZ m c t 2 0 (isGate m c t 0 0 (taps m c t 0) rfl) (isValue m c t 2 0 (taps m c t 2816) rfl))
    (isZ m c t 3 1408 (isGate m c t 1 1408 (taps m c t 1408) rfl) (isValue m c t 3 1408 (taps m c t 4224) rfl)) _ _ y0 y1

theorem final_x (c : Dev nD) : (dats m 0 c).arrAt 14 cfg0.N = val_main_v66 (F := Ideal) (a0 m c) (a1 m c) (a2 m c) (a3 m c) (a4 m c) (a5 m c) := by
  refine (dats m 0 c).arrAt_eq_of_covers 14 _ (by decide +kernel) fun t _ y => ?_
  blk_simp
  rw [after0_14]
  simp only [outsAt0]
  frame_out
  idx_vars y
  have he : ((cfg0.win 14).blk t).view.emb (ix2 y0 y1) = (ix2 (rowOf t y0) y1 : S8192x1024.Idx) := by blk_ext [idx t]
  rw [he]
  refine Eq.trans ?_ (out_x _ _ _ _ _ _ (rowOf t y0) y1).symm
  refine (pay_x _ _ _ _ _ _ (iblk m c 0 t) (iblk m c 7 t) y0 y1).trans ?_
  refine congrArg₂ (fun a b : EReal => a + b) (blk0 m c t y0 y1) (congrArg₂ (fun a b => nrm a b y1) (funext fun k => ?_) (funext fun k => blk7 m c t k))
  exact tY_at m c t _ _ (isZ m c t 2 0 (isGate m c t 0 0 (taps m c t 0) rfl) (isValue m c t 2 0 (taps m c t 2816) rfl))
    (isZ m c t 3 1408 (isGate m c t 1 1408 (taps m c t 1408) rfl) (isValue m c t 3 1408 (taps m c t 4224) rfl)) _ _ y0 k

end Cert.FfnFwdIdeal.Final

end
-- ==== Proof.FwdClaim.lean ====
/- The forward calls: the claims of their values. -/
module

public import proofs.«01_k».proof.Defs
public import proofs.«01_k».proof.Proof.ProjValue
public import proofs.«01_k».proof.Proof.Gen.ProjRefIdeal.Run
public import proofs.«01_k».proof.Proof.MixOutValue
public import proofs.«01_k».proof.Proof.Gen.MixOutRefIdeal.Run
public import proofs.«01_k».proof.Proof.FfnFwdValue
public import proofs.«01_k».proof.Proof.Gen.FfnFwdRefIdeal.Run

@[expose] public section

set_option maxRecDepth 16384

noncomputable section

namespace Cert.Forward

open Idealize.ShloMosaic Idealize.SL.Sem

/-- A function of equal arguments. -/
theorem congr2 {A0 A1 Z : Type} (f : A0 → A1 → Z) {a0 b0 a1 b1}
    (h0 : a0 = b0) (h1 : a1 = b1) :
    f a0 a1 = f b0 b1 := by
  subst h0 h1; rfl
theorem congr3 {A0 A1 A2 Z : Type} (f : A0 → A1 → A2 → Z) {a0 b0 a1 b1 a2 b2}
    (h0 : a0 = b0) (h1 : a1 = b1) (h2 : a2 = b2) :
    f a0 a1 a2 = f b0 b1 b2 := by
  subst h0 h1 h2; rfl
theorem congr4 {A0 A1 A2 A3 Z : Type} (f : A0 → A1 → A2 → A3 → Z) {a0 b0 a1 b1 a2 b2 a3 b3}
    (h0 : a0 = b0) (h1 : a1 = b1) (h2 : a2 = b2) (h3 : a3 = b3) :
    f a0 a1 a2 a3 = f b0 b1 b2 b3 := by
  subst h0 h1 h2 h3; rfl
theorem congr5 {A0 A1 A2 A3 A4 Z : Type} (f : A0 → A1 → A2 → A3 → A4 → Z) {a0 b0 a1 b1 a2 b2 a3 b3 a4 b4}
    (h0 : a0 = b0) (h1 : a1 = b1) (h2 : a2 = b2) (h3 : a3 = b3) (h4 : a4 = b4) :
    f a0 a1 a2 a3 a4 = f b0 b1 b2 b3 b4 := by
  subst h0 h1 h2 h3 h4; rfl
theorem congr6 {A0 A1 A2 A3 A4 A5 Z : Type} (f : A0 → A1 → A2 → A3 → A4 → A5 → Z) {a0 b0 a1 b1 a2 b2 a3 b3 a4 b4 a5 b5}
    (h0 : a0 = b0) (h1 : a1 = b1) (h2 : a2 = b2) (h3 : a3 = b3) (h4 : a4 = b4) (h5 : a5 = b5) :
    f a0 a1 a2 a3 a4 a5 = f b0 b1 b2 b3 b4 b5 := by
  subst h0 h1 h2 h3 h4 h5; rfl
theorem congr8 {A0 A1 A2 A3 A4 A5 A6 A7 Z : Type} (f : A0 → A1 → A2 → A3 → A4 → A5 → A6 → A7 → Z) {a0 b0 a1 b1 a2 b2 a3 b3 a4 b4 a5 b5 a6 b6 a7 b7}
    (h0 : a0 = b0) (h1 : a1 = b1) (h2 : a2 = b2) (h3 : a3 = b3) (h4 : a4 = b4) (h5 : a5 = b5) (h6 : a6 = b6) (h7 : a7 = b7) :
    f a0 a1 a2 a3 a4 a5 a6 a7 = f b0 b1 b2 b3 b4 b5 b6 b7 := by
  subst h0 h1 h2 h3 h4 h5 h6 h7; rfl

/-! ## The input side -/

set_option maxHeartbeats 4000000 in
theorem proj_value : algebraic_ProjIdeal_ProjRefIdeal := by
  intro m g m' g' _ hagree
  refine ⟨fun c => (ProjIdeal.Gen.dats m 0 c).arrAt 3 ProjIdeal.cfg0.N,
    fun c => (ProjIdeal.Gen.dats m 0 c).arrAt 4 ProjIdeal.cfg0.N,
    ProjIdeal.Value.run_blocks m g,
    (θ_run _ _ _).mono (fun r h c => ⟨(h c).1.trans ?_, (h c).2.1.trans ?_, (h c).2.2⟩)
      (ProjRefIdeal.Value.run m' g')⟩
  · exact (ProjRefIdeal.Read.val_main_v16_eq _ _ _).trans ((congr3 (ProjRefIdeal.Read.val_main_v16 (F := Ideal)) (hagree c).1 (hagree c).2.1 (hagree c).2.2).trans
      (ProjIdeal.Final.final_p m c).symm)
  · exact (ProjRefIdeal.Read.val_main_v18_eq _ _).trans ((congr2 (ProjRefIdeal.Read.val_main_v18 (F := Ideal)) (hagree c).1 (hagree c).2.1).trans
      (ProjIdeal.Final.final_h m c).symm)

theorem proj_ref_frame : quiescent_ProjRefIdeal := fun m ρ _ =>
  (θ_run _ _ _).mono (fun r h => ⟨fun c => (h c).2.2, sem_eq_zero_of_no_sems (by decide) r.2⟩) (ProjRefIdeal.Value.run m ρ)

/-! ## The mixer's output side -/

set_option maxHeartbeats 4000000 in
theorem mixOut_value : algebraic_MixOutIdeal_MixOutRefIdeal := by
  intro m g m' g' _ hagree
  refine ⟨fun c => (MixOutIdeal.Gen.dats m 0 c).arrAt 15 MixOutIdeal.cfg0.N,
    fun c => (MixOutIdeal.Gen.dats m 0 c).arrAt 16 MixOutIdeal.cfg0.N,
    fun c => (MixOutIdeal.Gen.dats m 0 c).arrAt 17 MixOutIdeal.cfg0.N,
    MixOutIdeal.Value.run_blocks m g,
    (θ_run _ _ _).mono (fun r h c => ⟨(h c).1.trans ?_, (h c).2.1.trans ?_, (h c).2.2.1.trans ?_, (h c).2.2.2⟩)
      (MixOutRefIdeal.Value.run m' g')⟩
  · exact (MixOutRefIdeal.Read.val_main_v54_eq m' c).trans ((congr5 (MixOutRefIdeal.Read.val_main_v54 (F := Ideal)) (hagree c).1 (hagree c).2.1 (hagree c).2.2.1 (hagree c).2.2.2.1 (hagree c).2.2.2.2.1).trans
      (MixOutIdeal.Final.final_cat m c).symm)
  · exact (MixOutRefIdeal.Read.val_main_v55_eq m' c).trans ((congr6 (MixOutRefIdeal.Read.val_main_v55 (F := Ideal)) (hagree c).1 (hagree c).2.1 (hagree c).2.2.1 (hagree c).2.2.2.1 (hagree c).2.2.2.2.1 (hagree c).2.2.2.2.2.1).trans
      (MixOutIdeal.Final.final_y m c).symm)
  · exact (MixOutRefIdeal.Read.val_main_v70_eq m' c).trans ((congr8 (MixOutRefIdeal.Read.val_main_v70 (F := Ideal)) (hagree c).1 (hagree c).2.1 (hagree c).2.2.1 (hagree c).2.2.2.1 (hagree c).2.2.2.2.1 (hagree c).2.2.2.2.2.1 (hagree c).2.2.2.2.2.2.1 (hagree c).2.2.2.2.2.2.2).trans
      (MixOutIdeal.Final.final_x m c).symm)

theorem mixOut_ref_frame : quiescent_MixOutRefIdeal := fun m ρ _ =>
  (θ_run _ _ _).mono (fun r h => ⟨fun c => (h c).2.2.2, sem_eq_zero_of_no_sems (by decide) r.2⟩) (MixOutRefIdeal.Value.run m ρ)

/-! ## The gated network -/

set_option maxHeartbeats 4000000 in
theorem ffnFwd_value : algebraic_FfnFwdIdeal_FfnFwdRefIdeal := by
  intro m g m' g' _ hagree
  refine ⟨fun c => (FfnFwdIdeal.Gen.dats m 0 c).arrAt 8 FfnFwdIdeal.cfg0.N,
    fun c => (FfnFwdIdeal.Gen.dats m 0 c).arrAt 9 FfnFwdIdeal.cfg0.N,
    fun c => (FfnFwdIdeal.Gen.dats m 0 c).arrAt 10 FfnFwdIdeal.cfg0.N,
    fun c => (FfnFwdIdeal.Gen.dats m 0 c).arrAt 11 FfnFwdIdeal.cfg0.N,
    fun c => (FfnFwdIdeal.Gen.dats m 0 c).arrAt 12 FfnFwdIdeal.cfg0.N,
    fun c => (FfnFwdIdeal.Gen.dats m 0 c).arrAt 13 FfnFwdIdeal.cfg0.N,
    fun c => (FfnFwdIdeal.Gen.dats m 0 c).arrAt 14 FfnFwdIdeal.cfg0.N,
    FfnFwdIdeal.Value.run_blocks m g,
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (FfnFwdRefIdeal.Value.run m' g')⟩
  · exact (FfnFwdRefIdeal.Read.val_main_v42_eq _ _ _).trans ((congr3 (FfnFwdRefIdeal.Read.val_main_v42 (F := Ideal)) (hagree c).1 (hagree c).2.1 (hagree c).2.2.1).trans
      (FfnFwdIdeal.Final.final_u m c).symm)
  · exact (FfnFwdRefIdeal.Read.val_main_v44_eq _ _).trans ((congr2 (FfnFwdRefIdeal.Read.val_main_v44 (F := Ideal)) (hagree c).1 (hagree c).2.1).trans
      (FfnFwdIdeal.Final.final_h m c).symm)
  · exact (FfnFwdRefIdeal.Read.val_main_v46_eq m' c).trans ((congr4 (FfnFwdRefIdeal.Read.val_main_v46 (F := Ideal)) (hagree c).1 (hagree c).2.1 (hagree c).2.2.1 (hagree c).2.2.2.1).trans
      (FfnFwdIdeal.Final.final_ug m c).symm)
  · exact (FfnFwdRefIdeal.Read.val_main_v48_eq m' c).trans ((congr4 (FfnFwdRefIdeal.Read.val_main_v48 (F := Ideal)) (hagree c).1 (hagree c).2.1 (hagree c).2.2.1 (hagree c).2.2.2.1).trans
      (FfnFwdIdeal.Final.final_uv m c).symm)
  · exact (FfnFwdRefIdeal.Read.val_main_v50_eq m' c).trans ((congr4 (FfnFwdRefIdeal.Read.val_main_v50 (F := Ideal)) (hagree c).1 (hagree c).2.1 (hagree c).2.2.1 (hagree c).2.2.2.1).trans
      (FfnFwdIdeal.Final.final_z m c).symm)
  · exact (FfnFwdRefIdeal.Read.val_main_v51_eq m' c).trans ((congr5 (FfnFwdRefIdeal.Read.val_main_v51 (F := Ideal)) (hagree c).1 (hagree c).2.1 (hagree c).2.2.1 (hagree c).2.2.2.1 (hagree c).2.2.2.2.1).trans
      (FfnFwdIdeal.Final.final_y m c).symm)
  · exact (FfnFwdRefIdeal.Read.val_main_v66_eq m' c).trans ((congr6 (FfnFwdRefIdeal.Read.val_main_v66 (F := Ideal)) (hagree c).1 (hagree c).2.1 (hagree c).2.2.1 (hagree c).2.2.2.1 (hagree c).2.2.2.2.1 (hagree c).2.2.2.2.2).trans
      (FfnFwdIdeal.Final.final_x m c).symm)

theorem ffnFwd_ref_frame : quiescent_FfnFwdRefIdeal := fun m ρ _ =>
  (θ_run _ _ _).mono (fun r h => ⟨fun c => (h c).2.2.2.2.2.2.2, sem_eq_zero_of_no_sems (by decide) r.2⟩) (FfnFwdRefIdeal.Value.run m ρ)

end Cert.Forward

end
-- ==== Proof.OptValue.lean ====
/- The optimiser's step and the sum of the small gradients: each element of the results is the reference's. -/
module

public import proofs.«01_k».proof.Defs
public import proofs.«01_k».proof.Proof.Gen.AdamIdeal.Value
public import proofs.«01_k».proof.Proof.Gen.AdamRefIdeal.Read
public import proofs.«01_k».proof.Proof.Gen.AdamRefIdeal.Run
public import proofs.«01_k».proof.Proof.Gen.SumIdeal.Value
public import proofs.«01_k».proof.Proof.Gen.SumRefIdeal.Read
public import proofs.«01_k».proof.Proof.Gen.SumRefIdeal.Run
public import proofs.«01_k».proof.Proof.FwdClaim
public import Idealize.ShloMosaic.Lib.StableHlo.RunRead
public import Idealize.ShloMosaic.Lib.Routing.OpsSet
public import Idealize.ShloMosaic.Lib.Routing.OpsOne

@[expose] public section

set_option maxRecDepth 16384

noncomputable section

namespace Cert.AdamIdeal.Final

open Cert Cert.AdamIdeal Cert.AdamIdeal.Gen Idealize.ShloMosaic Idealize.ShloMosaic.TcCoe Idealize.SL.Sem
open Idealize.ShloMosaic.Pipeline (Dat)
open Cert.AdamRefIdeal.Read

variable (m : (ℓ : Loc nD τ sig) → Buf (Elt Ideal) ℓ) (c : Dev nD)

variable (t : Fin cfg0.N) (y : S256x1408.Idx)

/-- The arguments, and the entry of an argument's rows that tile `t` reads at `y`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev entry (a : FVec Ideal S4x1024x1408 .f32) : EReal :=
  shapeCast S4096x1408 a shapeCasts_S4x1024x1408_S4096x1408 (((cfg0.win 4).blk t).view.emb y)

theorem row0 : iblk m c 0 t y = entry t y (a0 m c) := by
  refine congrFun (show V m c main_v0 = shapeCast _ (a0 m c) shapeCasts_S4x1024x1408_S4096x1408 from ?_) _
  unfold_abbrev_sides; after_reads_simp; rfl
theorem row1 : iblk m c 1 t y = entry t y (a1 m c) := by
  refine congrFun (show V m c main_v1 = shapeCast _ (a1 m c) shapeCasts_S4x1024x1408_S4096x1408 from ?_) _
  unfold_abbrev_sides; after_reads_simp; rfl
theorem row2 : iblk m c 2 t y = entry t y (a2 m c) := by
  refine congrFun (show V m c main_v2 = shapeCast _ (a2 m c) shapeCasts_S4x1024x1408_S4096x1408 from ?_) _
  unfold_abbrev_sides; after_reads_simp; rfl
theorem row3 : iblk m c 3 t y = entry t y (a3 m c) := by
  refine congrFun (show V m c main_v3 = shapeCast _ (a3 m c) shapeCasts_S4x1024x1408_S4096x1408 from ?_) _
  unfold_abbrev_sides; after_reads_simp; rfl

/-- The new first moment. -/
theorem final_m : (dats m 0 c).arrAt 5 cfg0.N = val_main_v25 (F := Ideal) (a1 m c) (a2 m c) := by
  refine (dats m 0 c).arrAt_eq_of_covers 5 _ (by decide +kernel) fun t _ y => ?_
  blk_simp
  rw [after0_5]
  unfold out0_5
  frame_out
  pointwise [k0_pay2, k0_pay1]
  rw [row1 m c t y, row2 m c t y]
  rfl

/-- The new second moment. -/
theorem final_v : (dats m 0 c).arrAt 6 cfg0.N = val_main_v26 (F := Ideal) (a1 m c) (a3 m c) := by
  refine (dats m 0 c).arrAt_eq_of_covers 6 _ (by decide +kernel) fun t _ y => ?_
  blk_simp
  rw [after0_6]
  unfold out0_6
  frame_out
  pointwise [k0_pay3, k0_pay1]
  rw [row1 m c t y, row3 m c t y]
  rfl

/-- The step. -/
theorem final_d : (dats m 0 c).arrAt 4 cfg0.N = val_main_v24 (F := Ideal) (a0 m c) (a1 m c) (a2 m c) (a3 m c) := by
  refine (dats m 0 c).arrAt_eq_of_covers 4 _ (by decide +kernel) fun t _ y => ?_
  blk_simp
  rw [after0_4]
  unfold out0_4
  frame_out
  pointwise [k0_pay4, k0_pay3, k0_pay2, k0_pay1]
  rw [row0 m c t y, row1 m c t y, row2 m c t y, row3 m c t y]
  rfl

end Cert.AdamIdeal.Final

namespace Cert.Forward

open Idealize.ShloMosaic Idealize.ShloMosaic.TcCoe Idealize.SL.Sem

theorem sum_eq (a : FVec Ideal SumIdeal.S7872x128 .f32) :
    SumIdeal.Value.G1 (F := Ideal) a = SumRefIdeal.Read.val_main_v1 (F := Ideal) a := by
  funext j
  idx_vars j
  pointwise [SumIdeal.Value.G1, SumIdeal.Gen.k0_pay1, SumRefIdeal.Read.val_main_v1, SumRefIdeal.Read.val_main_v0,
    SumRefIdeal.Read.val_main_cst]
  rw [Fin.sum_univ_eight]
  simp only [Fin.val_zero, zero_mul, zero_add]
  rfl

/-! ## The claims -/

/-! ## The optimiser -/

set_option maxHeartbeats 4000000 in
theorem adam_value : algebraic_AdamIdeal_AdamRefIdeal := by
  intro m g m' g' _ hagree
  refine ⟨fun c => (AdamIdeal.Gen.dats m 0 c).arrAt 4 AdamIdeal.cfg0.N,
    fun c => (AdamIdeal.Gen.dats m 0 c).arrAt 5 AdamIdeal.cfg0.N,
    fun c => (AdamIdeal.Gen.dats m 0 c).arrAt 6 AdamIdeal.cfg0.N,
    AdamIdeal.Value.run_blocks m g,
    (θ_run _ _ _).mono (fun r h c => ⟨(h c).1.trans ?_, (h c).2.1.trans ?_, (h c).2.2.1.trans ?_, (h c).2.2.2⟩)
      (AdamRefIdeal.Value.run m' g')⟩
  · exact (AdamRefIdeal.Read.val_main_v24_eq _ _ _ _).trans ((congr4 (AdamRefIdeal.Read.val_main_v24 (F := Ideal)) (hagree c).1 (hagree c).2.1 (hagree c).2.2.1 (hagree c).2.2.2).trans
      (AdamIdeal.Final.final_d m c).symm)
  · exact (AdamRefIdeal.Read.val_main_v25_eq _ _).trans ((congr2 (AdamRefIdeal.Read.val_main_v25 (F := Ideal)) (hagree c).2.1 (hagree c).2.2.1).trans
      (AdamIdeal.Final.final_m m c).symm)
  · exact (AdamRefIdeal.Read.val_main_v26_eq _ _).trans ((congr2 (AdamRefIdeal.Read.val_main_v26 (F := Ideal)) (hagree c).2.1 (hagree c).2.2.2).trans
      (AdamIdeal.Final.final_v m c).symm)

theorem adam_ref_frame : quiescent_AdamRefIdeal := fun m ρ _ =>
  (θ_run _ _ _).mono (fun r h => ⟨fun c => (h c).2.2.2, sem_eq_zero_of_no_sems (by decide) r.2⟩) (AdamRefIdeal.Value.run m ρ)

/-! ## The sum -/

theorem sum_value : algebraic_SumIdeal_SumRefIdeal := by
  intro m g m' g' _ hagree
  refine ⟨fun c => SumIdeal.Value.G1 (m ((c : Thread SumIdeal.nD SumIdeal.τ).loc SumIdeal.main_arg0)),
    SumIdeal.Value.run m g, (θ_run _ _ _).mono (fun r h c => ⟨(h c).1.trans ?_, (h c).2⟩) (SumRefIdeal.Value.run m' g')⟩
  exact (SumRefIdeal.Read.val_main_v1_eq _).trans ((congrArg (SumRefIdeal.Read.val_main_v1 (F := Ideal)) (hagree c)).trans (sum_eq _).symm)

theorem sum_ref_frame : quiescent_SumRefIdeal := fun m ρ _ =>
  (θ_run _ _ _).mono (fun r h => ⟨fun c => (h c).2, sem_eq_zero_of_no_sems (by decide) r.2⟩) (SumRefIdeal.Value.run m ρ)

end Cert.Forward

end
-- ==== Proof.lean ====
module

public import proofs.«01_k».proof.Defs
public import proofs.«01_k».proof.Proof.Gen.PostNorm.Frame
public import proofs.«01_k».proof.Proof.Gen.PostNormIdeal.Frame
public import proofs.«01_k».proof.Proof.Gen.Loss.Frame
public import proofs.«01_k».proof.Proof.Gen.LossIdeal.Frame
public import proofs.«01_k».proof.Proof.Gen.LossIdeal.Value
public import proofs.«01_k».proof.Proof.Gen.PostNormRefIdeal.Run
public import proofs.«01_k».proof.Proof.Gen.LossRefIdeal.Run
public import proofs.«01_k».proof.Proof.PostNormValue
public import proofs.«01_k».proof.Proof.LossValue
public import proofs.«01_k».proof.Proof.Gen.Mix1
public import proofs.«01_k».proof.Proof.Gen.Mix2
public import proofs.«01_k».proof.Proof.Gen.Ffn
public import proofs.«01_k».proof.Proof.Mix1Frame
public import proofs.«01_k».proof.Proof.Mix2Frame
public import proofs.«01_k».proof.Proof.FfnFrame
public import proofs.«01_k».proof.Proof.Mix1Claim
public import proofs.«01_k».proof.Proof.Mix2Claim
public import proofs.«01_k».proof.Proof.FfnClaim
public import proofs.«01_k».proof.Proof.Gen.On_mix2_selected
public import proofs.«01_k».proof.Proof.Gen.Pre_ffn_finite
public import proofs.«01_k».proof.Proof.Gen.Proj.Frame
public import proofs.«01_k».proof.Proof.Gen.ProjIdeal.Frame
public import proofs.«01_k».proof.Proof.Gen.MixOut.Frame
public import proofs.«01_k».proof.Proof.Gen.MixOutIdeal.Frame
public import proofs.«01_k».proof.Proof.Gen.FfnFwd.Frame
public import proofs.«01_k».proof.Proof.Gen.FfnFwdIdeal.Frame
public import proofs.«01_k».proof.Proof.Gen.Adam.Frame
public import proofs.«01_k».proof.Proof.Gen.AdamIdeal.Frame
public import proofs.«01_k».proof.Proof.Gen.Sum.Frame
public import proofs.«01_k».proof.Proof.Gen.SumIdeal.Frame
public import proofs.«01_k».proof.Proof.FwdClaim
public import proofs.«01_k».proof.Proof.OptValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-! ## The gradient of the norm after the feed-forward -/

theorem postNorm_value : Cert.algebraic_PostNormIdeal_PostNormRefIdeal := by
  intro m g m' g' _ hagree
  refine ⟨fun c => (PostNormIdeal.Gen.dats m 0 c).arrAt 3 PostNormIdeal.cfg0.N,
    fun c => (PostNormIdeal.Gen.dats m 0 c).arrAt 4 PostNormIdeal.cfg0.N,
    PostNormIdeal.Value.run_blocks m g,
    (θ_run _ _ _).mono (fun r h c => ⟨(h c).1.trans ?_, (h c).2.1.trans ?_, (h c).2.2⟩)
      (PostNormRefIdeal.Value.run m' g')⟩
  · rw [PostNormRefIdeal.Read.val_main_v38_eq, (hagree c).1, (hagree c).2.1, (hagree c).2.2]
    exact (PostNormIdeal.Final.final_dy m c).symm
  · rw [PostNormRefIdeal.Read.val_main_v39_eq, (hagree c).1, (hagree c).2.1]
    exact (PostNormIdeal.Final.final_dg m c).symm

theorem postNorm_ref_frame : Cert.quiescent_PostNormRefIdeal := fun m ρ _ =>
  (θ_run _ _ _).mono (fun r h => ⟨fun c => (h c).2.2, sem_eq_zero_of_no_sems (by decide) r.2⟩)
    (PostNormRefIdeal.Value.run m ρ)

/-! ## The loss -/

theorem loss_value : Cert.algebraic_LossIdeal_LossRefIdeal := by
  intro m g m' g' _ hagree
  refine ⟨fun c => (LossIdeal.Gen.dats m 0 c).arrAt 2 LossIdeal.cfg0.N,
    fun c => (LossIdeal.Gen.dats m 0 c).arrAt 3 LossIdeal.cfg0.N,
    LossIdeal.Value.run_blocks m g,
    (θ_run _ _ _).mono (fun r h c => ⟨(h c).1.trans ?_, (h c).2.1.trans ?_, (h c).2.2⟩)
      (LossRefIdeal.Value.run m' g')⟩
  · rw [LossRefIdeal.Read.val_main_v15_eq, (hagree c).1, (hagree c).2]
    exact (LossIdeal.Final.final_dy m c).symm
  · rw [LossRefIdeal.Read.val_main_v16_eq, (hagree c).1, (hagree c).2]
    exact (LossIdeal.Final.final_loss m c).symm

theorem loss_ref_frame : Cert.quiescent_LossRefIdeal := fun m ρ _ =>
  (θ_run _ _ _).mono (fun r h => ⟨fun c => (h c).2.2, sem_eq_zero_of_no_sems (by decide) r.2⟩)
    (LossRefIdeal.Value.run m ρ)

/-! ## The other references -/

theorem mix2_ref_frame : Cert.quiescent_Mix2RefIdeal := fun m ρ _ =>
  (θ_run _ _ _).mono (fun r h => ⟨fun c => (h c).2.2.2.2.2, sem_eq_zero_of_no_sems (by decide) r.2⟩)
    (Mix2RefIdeal.Value.run m ρ)

theorem claim : Cert.Claim :=
  ⟨PostNorm.Gen.facts, PostNormIdeal.Gen.facts, PostNormRefIdeal.Gen.facts, Loss.Gen.facts,
    LossIdeal.Gen.facts, LossRefIdeal.Gen.facts, Mix1.Gen.facts, Mix1Ideal.Gen.facts, Mix1RefIdeal.Gen.facts,
    Mix2.Gen.facts, Mix2Ideal.Gen.facts, Mix2RefIdeal.Gen.facts, Ffn.Gen.facts, FfnIdeal.Gen.facts,
    FfnRefIdeal.Gen.facts,
    Proj.Gen.facts, ProjIdeal.Gen.facts, ProjRefIdeal.Gen.facts,
    MixOut.Gen.facts, MixOutIdeal.Gen.facts, MixOutRefIdeal.Gen.facts,
    FfnFwd.Gen.facts, FfnFwdIdeal.Gen.facts, FfnFwdRefIdeal.Gen.facts,
    Adam.Gen.facts, AdamIdeal.Gen.facts, AdamRefIdeal.Gen.facts, Sum.Gen.facts, SumIdeal.Gen.facts, SumRefIdeal.Gen.facts,
    Pre_mix1_finite.Gen.facts, Pre_ffn_finite.Gen.facts, On_mix2_selected.Gen.facts,
    fun m ρ _ => PostNorm.Gen.frame m ρ, fun m ρ _ => PostNormIdeal.Gen.frame m ρ, postNorm_ref_frame,
    fun m ρ _ => Loss.Gen.frame m ρ, fun m ρ _ => LossIdeal.Gen.frame m ρ, loss_ref_frame,
    Mix1.frame_bits, fun m ρ _ => Mix1Ideal.Run.frame m ρ trivial, fun m ρ _ => Mix1Ideal.Run.frame m ρ trivial,
    Mix1Ideal.Final.ref_frame, fun m ρ _ => Mix1Ideal.Final.ref_frame m ρ trivial,
    Mix2.frame_bits, fun m ρ _ => Mix2Ideal.Run.frame m ρ trivial, mix2_ref_frame,
    Ffn.frame_bits, fun m ρ _ => FfnIdeal.Run.frame m ρ trivial, fun m ρ _ => FfnIdeal.Run.frame m ρ trivial,
    FfnIdeal.Final.ref_frame, fun m ρ _ => FfnIdeal.Final.ref_frame m ρ trivial,
    fun m ρ _ => Proj.Gen.frame m ρ, fun m ρ _ => ProjIdeal.Gen.frame m ρ, Forward.proj_ref_frame,
    fun m ρ _ => MixOut.Gen.frame m ρ, fun m ρ _ => MixOutIdeal.Gen.frame m ρ, Forward.mixOut_ref_frame,
    fun m ρ _ => FfnFwd.Gen.frame m ρ, fun m ρ _ => FfnFwdIdeal.Gen.frame m ρ, Forward.ffnFwd_ref_frame,
    fun m ρ _ => Adam.Gen.frame m ρ, fun m ρ _ => AdamIdeal.Gen.frame m ρ, Forward.adam_ref_frame,
    fun m ρ _ => Sum.Gen.frame m ρ, fun m ρ _ => SumIdeal.Gen.frame m ρ, Forward.sum_ref_frame,
    trivial, postNorm_value, trivial, loss_value, trivial, Mix1Ideal.Final.value, trivial, Mix2Ideal.Final.value, trivial,
    FfnIdeal.Final.value, trivial, Forward.proj_value, trivial, Forward.mixOut_value, trivial, Forward.ffnFwd_value,
    trivial, Forward.adam_value, trivial, Forward.sum_value⟩

end Cert.Proof

end
